-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v128) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v91) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v65) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v183) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v78) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) →
    ∃ (v0 : (c : Dev Cert.Kernel7Ideal.nD) → Buf (Elt Ideal) ((c.tc : Thread Cert.Kernel7Ideal.nD Cert.Kernel7Ideal.τ).loc Cert.Kernel7Ideal.main_v47_0)) (v1 : (c : Dev Cert.Kernel7Ideal.nD) → Buf (Elt Ideal) ((c.tc : Thread Cert.Kernel7Ideal.nD Cert.Kernel7Ideal.τ).loc Cert.Kernel7Ideal.main_v47_1)) (v2 : (c : Dev Cert.Kernel7Ideal.nD) → Buf (Elt Ideal) ((c.tc : Thread Cert.Kernel7Ideal.nD Cert.Kernel7Ideal.τ).loc Cert.Kernel7Ideal.main_v47_2)) (v3 : (c : Dev Cert.Kernel7Ideal.nD) → Buf (Elt Ideal) ((c.tc : Thread Cert.Kernel7Ideal.nD Cert.Kernel7Ideal.τ).loc Cert.Kernel7Ideal.main_v47_3)) (v4 : (c : Dev Cert.Kernel7Ideal.nD) → Buf (Elt Ideal) ((c.tc : Thread Cert.Kernel7Ideal.nD Cert.Kernel7Ideal.τ).loc Cert.Kernel7Ideal.main_v47_4)) (v5 : (c : Dev Cert.Kernel7Ideal.nD) → Buf (Elt Ideal) ((c.tc : Thread Cert.Kernel7Ideal.nD Cert.Kernel7Ideal.τ).loc Cert.Kernel7Ideal.main_v47_5)) (v6 : (c : Dev Cert.Kernel7Ideal.nD) → Buf (Elt Ideal) ((c.tc : Thread Cert.Kernel7Ideal.nD Cert.Kernel7Ideal.τ).loc Cert.Kernel7Ideal.main_v47_6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v47_0) = v0 c
          ∧ r.2.mem ((c.tc : Thread Cert.Kernel7Ideal.nD Cert.Kernel7Ideal.τ).loc Cert.Kernel7Ideal.main_v47_1) = v1 c
          ∧ r.2.mem ((c.tc : Thread Cert.Kernel7Ideal.nD Cert.Kernel7Ideal.τ).loc Cert.Kernel7Ideal.main_v47_2) = v2 c
          ∧ r.2.mem ((c.tc : Thread Cert.Kernel7Ideal.nD Cert.Kernel7Ideal.τ).loc Cert.Kernel7Ideal.main_v47_3) = v3 c
          ∧ r.2.mem ((c.tc : Thread Cert.Kernel7Ideal.nD Cert.Kernel7Ideal.τ).loc Cert.Kernel7Ideal.main_v47_4) = v4 c
          ∧ r.2.mem ((c.tc : Thread Cert.Kernel7Ideal.nD Cert.Kernel7Ideal.τ).loc Cert.Kernel7Ideal.main_v47_5) = v5 c
          ∧ r.2.mem ((c.tc : Thread Cert.Kernel7Ideal.nD Cert.Kernel7Ideal.τ).loc Cert.Kernel7Ideal.main_v47_6) = v6 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v254) = v0 c
          ∧ r.2.mem ((c.tc : Thread Cert.Reference7Ideal.nD Cert.Reference7Ideal.τ).loc Cert.Reference7Ideal.main_v255) = v1 c
          ∧ r.2.mem ((c.tc : Thread Cert.Reference7Ideal.nD Cert.Reference7Ideal.τ).loc Cert.Reference7Ideal.main_v256) = v2 c
          ∧ r.2.mem ((c.tc : Thread Cert.Reference7Ideal.nD Cert.Reference7Ideal.τ).loc Cert.Reference7Ideal.main_v247) = v3 c
          ∧ r.2.mem ((c.tc : Thread Cert.Reference7Ideal.nD Cert.Reference7Ideal.τ).loc Cert.Reference7Ideal.main_v250) = v4 c
          ∧ r.2.mem ((c.tc : Thread Cert.Reference7Ideal.nD Cert.Reference7Ideal.τ).loc Cert.Reference7Ideal.main_v257) = v5 c
          ∧ r.2.mem ((c.tc : Thread Cert.Reference7Ideal.nD Cert.Reference7Ideal.τ).loc Cert.Reference7Ideal.main_v258) = v6 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S16896x2048 : Shape := ⟨2, ![16896, 2048]⟩
abbrev S16896x128 : Shape := ⟨2, ![16896, 128]⟩
abbrev S16x16896 : Shape := ⟨2, ![16, 16896]⟩
abbrev S128x2048 : Shape := ⟨2, ![128, 2048]⟩
abbrev S128x128 : Shape := ⟨2, ![128, 128]⟩
abbrev S16x128 : Shape := ⟨2, ![16, 128]⟩
abbrev S2x4x512x512 : Shape := ⟨4, ![2, 4, 512, 512]⟩
abbrev S2x4x8x512 : Shape := ⟨4, ![2, 4, 8, 512]⟩
abbrev S2x4x8x128 : Shape := ⟨4, ![2, 4, 8, 128]⟩
abbrev S128x512 : Shape := ⟨2, ![128, 512]⟩
abbrev S128x1 : Shape := ⟨2, ![128, 1]⟩
abbrev S1x128 : Shape := ⟨2, ![1, 128]⟩
abbrev S1x1x1x1 : Shape := ⟨4, ![1, 1, 1, 1]⟩
abbrev S1x1 : Shape := ⟨2, ![1, 1]⟩
abbrev S128 : Shape := ⟨1, ![128]⟩
abbrev S1x1x512x512 : Shape := ⟨4, ![1, 1, 512, 512]⟩
abbrev S512x512 : Shape := ⟨2, ![512, 512]⟩
abbrev S1x1x1x512 : Shape := ⟨4, ![1, 1, 1, 512]⟩
abbrev S1x512 : Shape := ⟨2, ![1, 512]⟩
abbrev S1 : Shape := ⟨1, ![1]⟩
abbrev S512 : Shape := ⟨1, ![512]⟩
abbrev S8x128 : Shape := ⟨2, ![8, 128]⟩
abbrev S1x1x8x128 : Shape := ⟨4, ![1, 1, 8, 128]⟩

abbrev nBuf : Space → Nat
  | .hbm => 7
  | .vmem => 27
  | .smem => 0
  | _ => 0

abbrev bufTy : (tb : Table) → Fin (tcTables nBuf tb) → BufTy
  | .hbm, ⟨0, _⟩ => ⟨S16896x2048, .bf16⟩
  | .hbm, ⟨1, _⟩ => ⟨S16896x2048, .bf16⟩
  | .hbm, ⟨2, _⟩ => ⟨S16896x2048, .bf16⟩
  | .hbm, ⟨3, _⟩ => ⟨S16896x128, .f32⟩
  | .hbm, ⟨4, _⟩ => ⟨S16x16896, .f32⟩
  | .hbm, ⟨5, _⟩ => ⟨S16896x2048, .f32⟩
  | .hbm, ⟨6, _⟩ => ⟨S16896x2048, .f32⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S128x2048, .bf16⟩
  | .local _ .vmem, ⟨5, _⟩ => ⟨S128x2048, .bf16⟩
  | .local _ .vmem, ⟨6, _⟩ => ⟨S128x128, .f32⟩
  | .local _ .vmem, ⟨7, _⟩ => ⟨S128x128, .f32⟩
  | .local _ .vmem, ⟨8, _⟩ => ⟨S16x128, .f32⟩
  | .local _ .vmem, ⟨9, _⟩ => ⟨S16x128, .f32⟩
  | .local _ .vmem, ⟨10, _⟩ => ⟨S128x2048, .bf16⟩
  | .local _ .vmem, ⟨11, _⟩ => ⟨S128x2048, .bf16⟩
  | .local _ .vmem, ⟨12, _⟩ => ⟨S128x2048, .bf16⟩
  | .local _ .vmem, ⟨13, _⟩ => ⟨S128x2048, .bf16⟩
  | .local _ .vmem, ⟨14, _⟩ => ⟨S128x2048, .bf16⟩
  | .local _ .vmem, ⟨15, _⟩ => ⟨S128x2048, .bf16⟩
  | .local _ .vmem, ⟨16, _⟩ => ⟨S128x128, .f32⟩
  | .local _ .vmem, ⟨17, _⟩ => ⟨S128x128, .f32⟩
  | .local _ .vmem, ⟨18, _⟩ => ⟨S16x128, .f32⟩
  | .local _ .vmem, ⟨19, _⟩ => ⟨S16x128, .f32⟩
  | .local _ .vmem, ⟨20, _⟩ => ⟨S128x2048, .f32⟩
  | .local _ .vmem, ⟨21, _⟩ => ⟨S128x2048, .f32⟩
  | .local _ .vmem, ⟨22, _⟩ => ⟨S128x2048, .f32⟩
  | .local _ .vmem, ⟨23, _⟩ => ⟨S128x2048, .f32⟩
  | .local _ .vmem, ⟨24, _⟩ => ⟨S2x4x512x512, .f32⟩
  | .local _ .vmem, ⟨25, _⟩ => ⟨S2x4x8x512, .f32⟩
  | .local _ .vmem, ⟨26, _⟩ => ⟨S2x4x8x128, .f32⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 66], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c2_i32_0 : BitVec 32 := 2#32
  let v1 : BitVec 32 := Scalar.muli arg0 c2_i32_0
  let v2 : BitVec 32 := Scalar.addi v1 arg1
  let c64_i32 : BitVec 32 := 64#32
  let v3 : BitVec 32 := Scalar.muli arg0 c64_i32
  let c4_i32 : BitVec 32 := 4#32
  let v4 : BitVec 32 := Scalar.addi c4_i32 v3
  let c2_i32_1 : BitVec 32 := 2#32
  let v5 : BitVec 32 := Scalar.subi arg1 c2_i32_1
  let v6 : BitVec 32 := Scalar.addi v4 v5
  let v7 : BitVec 32 := Scalar.select v0 v2 v6
  let c0_i32 : BitVec 32 := 0#32
  let c0_i32_2 : BitVec 32 := 0#32
  ![v7.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c2_i32_0 : BitVec 32 := 2#32
  let v1 : BitVec 32 := Scalar.muli arg0 c2_i32_0
  let v2 : BitVec 32 := Scalar.addi v1 arg1
  let c64_i32 : BitVec 32 := 64#32
  let v3 : BitVec 32 := Scalar.muli arg0 c64_i32
  let c4_i32 : BitVec 32 := 4#32
  let v4 : BitVec 32 := Scalar.addi c4_i32 v3
  let c2_i32_1 : BitVec 32 := 2#32
  let v5 : BitVec 32 := Scalar.subi arg1 c2_i32_1
  let v6 : BitVec 32 := Scalar.addi v4 v5
  let v7 : BitVec 32 := Scalar.select v0 v2 v6
  let c0_i32 : BitVec 32 := 0#32
  let c0_i32_2 : BitVec 32 := 0#32
  ![v7.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c2_i32_0 : BitVec 32 := 2#32
  let v1 : BitVec 32 := Scalar.muli arg0 c2_i32_0
  let v2 : BitVec 32 := Scalar.addi v1 arg1
  let c64_i32 : BitVec 32 := 64#32
  let v3 : BitVec 32 := Scalar.muli arg0 c64_i32
  let c4_i32 : BitVec 32 := 4#32
  let v4 : BitVec 32 := Scalar.addi c4_i32 v3
  let c2_i32_1 : BitVec 32 := 2#32
  let v5 : BitVec 32 := Scalar.subi arg1 c2_i32_1
  let v6 : BitVec 32 := Scalar.addi v4 v5
  let v7 : BitVec 32 := Scalar.select v0 v2 v6
  let c0_i32 : BitVec 32 := 0#32
  let c0_i32_2 : BitVec 32 := 0#32
  ![v7.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c2_i32_0 : BitVec 32 := 2#32
  let v1 : BitVec 32 := Scalar.muli arg0 c2_i32_0
  let v2 : BitVec 32 := Scalar.addi v1 arg1
  let c64_i32 : BitVec 32 := 64#32
  let v3 : BitVec 32 := Scalar.muli arg0 c64_i32
  let c4_i32 : BitVec 32 := 4#32
  let v4 : BitVec 32 := Scalar.addi c4_i32 v3
  let c2_i32_1 : BitVec 32 := 2#32
  let v5 : BitVec 32 := Scalar.subi arg1 c2_i32_1
  let v6 : BitVec 32 := Scalar.addi v4 v5
  let v7 : BitVec 32 := Scalar.select v0 v2 v6
  let c0_i32 : BitVec 32 := 0#32
  let c0_i32_2 : BitVec 32 := 0#32
  ![v7.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c2_i32_0 : BitVec 32 := 2#32
  let v1 : BitVec 32 := Scalar.muli arg0 c2_i32_0
  let v2 : BitVec 32 := Scalar.addi v1 arg1
  let c64_i32 : BitVec 32 := 64#32
  let v3 : BitVec 32 := Scalar.muli arg0 c64_i32
  let c4_i32 : BitVec 32 := 4#32
  let v4 : BitVec 32 := Scalar.addi c4_i32 v3
  let c2_i32_1 : BitVec 32 := 2#32
  let v5 : BitVec 32 := Scalar.subi arg1 c2_i32_1
  let v6 : BitVec 32 := Scalar.addi v4 v5
  let v7 : BitVec 32 := Scalar.select v0 v2 v6
  let c0_i32 : BitVec 32 := 0#32
  let c0_i32_2 : BitVec 32 := 0#32
  ![c0_i32.toNat, v7.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c2_i32_0 : BitVec 32 := 2#32
  let v1 : BitVec 32 := Scalar.muli arg0 c2_i32_0
  let c1_i32 : BitVec 32 := 1#32
  let v2 : BitVec 32 := Scalar.subi c1_i32 arg1
  let v3 : BitVec 32 := Scalar.addi v1 v2
  let c64_i32 : BitVec 32 := 64#32
  let v4 : BitVec 32 := Scalar.muli arg0 c64_i32
  let c4_i32 : BitVec 32 := 4#32
  let v5 : BitVec 32 := Scalar.addi c4_i32 v4
  let c2_i32_1 : BitVec 32 := 2#32
  let v6 : BitVec 32 := Scalar.subi arg1 c2_i32_1
  let c63_i32 : BitVec 32 := 63#32
  let v7 : BitVec 32 := Scalar.subi c63_i32 v6
  let v8 : BitVec 32 := Scalar.addi v5 v7
  let v9 : BitVec 32 := Scalar.select v0 v3 v8
  let c0_i32 : BitVec 32 := 0#32
  let c0_i32_2 : BitVec 32 := 0#32
  ![v9.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c2_i32_0 : BitVec 32 := 2#32
  let v1 : BitVec 32 := Scalar.muli arg0 c2_i32_0
  let c1_i32 : BitVec 32 := 1#32
  let v2 : BitVec 32 := Scalar.subi c1_i32 arg1
  let v3 : BitVec 32 := Scalar.addi v1 v2
  let c64_i32 : BitVec 32 := 64#32
  let v4 : BitVec 32 := Scalar.muli arg0 c64_i32
  let c4_i32 : BitVec 32 := 4#32
  let v5 : BitVec 32 := Scalar.addi c4_i32 v4
  let c2_i32_1 : BitVec 32 := 2#32
  let v6 : BitVec 32 := Scalar.subi arg1 c2_i32_1
  let c63_i32 : BitVec 32 := 63#32
  let v7 : BitVec 32 := Scalar.subi c63_i32 v6
  let v8 : BitVec 32 := Scalar.addi v5 v7
  let v9 : BitVec 32 := Scalar.select v0 v3 v8
  let c0_i32 : BitVec 32 := 0#32
  let c0_i32_2 : BitVec 32 := 0#32
  ![v9.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c2_i32_0 : BitVec 32 := 2#32
  let v1 : BitVec 32 := Scalar.muli arg0 c2_i32_0
  let c1_i32 : BitVec 32 := 1#32
  let v2 : BitVec 32 := Scalar.subi c1_i32 arg1
  let v3 : BitVec 32 := Scalar.addi v1 v2
  let c64_i32 : BitVec 32 := 64#32
  let v4 : BitVec 32 := Scalar.muli arg0 c64_i32
  let c4_i32 : BitVec 32 := 4#32
  let v5 : BitVec 32 := Scalar.addi c4_i32 v4
  let c2_i32_1 : BitVec 32 := 2#32
  let v6 : BitVec 32 := Scalar.subi arg1 c2_i32_1
  let c63_i32 : BitVec 32 := 63#32
  let v7 : BitVec 32 := Scalar.subi c63_i32 v6
  let v8 : BitVec 32 := Scalar.addi v5 v7
  let v9 : BitVec 32 := Scalar.select v0 v3 v8
  let c0_i32 : BitVec 32 := 0#32
  let c0_i32_2 : BitVec 32 := 0#32
  ![v9.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c2_i32_0 : BitVec 32 := 2#32
  let v1 : BitVec 32 := Scalar.muli arg0 c2_i32_0
  let c1_i32 : BitVec 32 := 1#32
  let v2 : BitVec 32 := Scalar.subi c1_i32 arg1
  let v3 : BitVec 32 := Scalar.addi v1 v2
  let c64_i32 : BitVec 32 := 64#32
  let v4 : BitVec 32 := Scalar.muli arg0 c64_i32
  let c4_i32 : BitVec 32 := 4#32
  let v5 : BitVec 32 := Scalar.addi c4_i32 v4
  let c2_i32_1 : BitVec 32 := 2#32
  let v6 : BitVec 32 := Scalar.subi arg1 c2_i32_1
  let c63_i32 : BitVec 32 := 63#32
  let v7 : BitVec 32 := Scalar.subi c63_i32 v6
  let v8 : BitVec 32 := Scalar.addi v5 v7
  let v9 : BitVec 32 := Scalar.select v0 v3 v8
  let c0_i32 : BitVec 32 := 0#32
  let c0_i32_2 : BitVec 32 := 0#32
  ![v9.toNat, c0_i32.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c2_i32_0 : BitVec 32 := 2#32
  let v1 : BitVec 32 := Scalar.muli arg0 c2_i32_0
  let c1_i32 : BitVec 32 := 1#32
  let v2 : BitVec 32 := Scalar.subi c1_i32 arg1
  let v3 : BitVec 32 := Scalar.addi v1 v2
  let c64_i32 : BitVec 32 := 64#32
  let v4 : BitVec 32 := Scalar.muli arg0 c64_i32
  let c4_i32 : BitVec 32 := 4#32
  let v5 : BitVec 32 := Scalar.addi c4_i32 v4
  let c2_i32_1 : BitVec 32 := 2#32
  let v6 : BitVec 32 := Scalar.subi arg1 c2_i32_1
  let c63_i32 : BitVec 32 := 63#32
  let v7 : BitVec 32 := Scalar.subi c63_i32 v6
  let v8 : BitVec 32 := Scalar.addi v5 v7
  let v9 : BitVec 32 := Scalar.select v0 v3 v8
  let c0_i32 : BitVec 32 := 0#32
  let c0_i32_2 : BitVec 32 := 0#32
  ![c0_i32.toNat, v9.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c2_i32_0 : BitVec 32 := 2#32
  let v1 : BitVec 32 := Scalar.muli arg0 c2_i32_0
  let v2 : BitVec 32 := Scalar.addi v1 arg1
  let c64_i32 : BitVec 32 := 64#32
  let v3 : BitVec 32 := Scalar.muli arg0 c64_i32
  let c4_i32 : BitVec 32 := 4#32
  let v4 : BitVec 32 := Scalar.addi c4_i32 v3
  let c2_i32_1 : BitVec 32 := 2#32
  let v5 : BitVec 32 := Scalar.subi arg1 c2_i32_1
  let v6 : BitVec 32 := Scalar.addi v4 v5
  let v7 : BitVec 32 := Scalar.select v0 v2 v6
  let c0_i32 : BitVec 32 := 0#32
  let c0_i32_2 : BitVec 32 := 0#32
  ![v7.toNat, c0_i32.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c2_i32_0 : BitVec 32 := 2#32
  let v1 : BitVec 32 := Scalar.muli arg0 c2_i32_0
  let c1_i32 : BitVec 32 := 1#32
  let v2 : BitVec 32 := Scalar.subi c1_i32 arg1
  let v3 : BitVec 32 := Scalar.addi v1 v2
  let c64_i32 : BitVec 32 := 64#32
  let v4 : BitVec 32 := Scalar.muli arg0 c64_i32
  let c4_i32 : BitVec 32 := 4#32
  let v5 : BitVec 32 := Scalar.addi c4_i32 v4
  let c2_i32_1 : BitVec 32 := 2#32
  let v6 : BitVec 32 := Scalar.subi arg1 c2_i32_1
  let c63_i32 : BitVec 32 := 63#32
  let v7 : BitVec 32 := Scalar.subi c63_i32 v6
  let v8 : BitVec 32 := Scalar.addi v5 v7
  let v9 : BitVec 32 := Scalar.select v0 v3 v8
  let c0_i32 : BitVec 32 := 0#32
  let c0_i32_2 : BitVec 32 := 0#32
  ![v9.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S16896x2048 : Shape := ⟨2, ![16896, 2048]⟩
abbrev S16896x128 : Shape := ⟨2, ![16896, 128]⟩
abbrev S16x16896 : Shape := ⟨2, ![16, 16896]⟩
abbrev S16896x16 : Shape := ⟨2, ![16896, 16]⟩
abbrev S512x16 : Shape := ⟨2, ![512, 16]⟩
abbrev S2x256x16 : Shape := ⟨3, ![2, 256, 16]⟩
abbrev S16384x16 : Shape := ⟨2, ![16384, 16]⟩
abbrev S2x8192x16 : Shape := ⟨3, ![2, 8192, 16]⟩
abbrev S2x8448x16 : Shape := ⟨3, ![2, 8448, 16]⟩
abbrev S2x8448x4x4 : Shape := ⟨4, ![2, 8448, 4, 4]⟩
abbrev S4x2x4x8448 : Shape := ⟨4, ![4, 2, 4, 8448]⟩
abbrev S1x2x4x8448 : Shape := ⟨4, ![1, 2, 4, 8448]⟩
abbrev S2x4x8448 : Shape := ⟨3, ![2, 4, 8448]⟩
abbrev S4x4x8448 : Shape := ⟨3, ![4, 4, 8448]⟩
abbrev S_ : Shape := ⟨0, ![]⟩
abbrev S4x4x512x512 : Shape := ⟨4, ![4, 4, 512, 512]⟩
abbrev S4x4x512 : Shape := ⟨3, ![4, 4, 512]⟩
abbrev S4x4 : Shape := ⟨2, ![4, 4]⟩
abbrev S512x2048 : Shape := ⟨2, ![512, 2048]⟩
abbrev S2x256x2048 : Shape := ⟨3, ![2, 256, 2048]⟩
abbrev S16384x2048 : Shape := ⟨2, ![16384, 2048]⟩
abbrev S2x8192x2048 : Shape := ⟨3, ![2, 8192, 2048]⟩
abbrev S2x8448x2048 : Shape := ⟨3, ![2, 8448, 2048]⟩
abbrev S2x8448x4x512 : Shape := ⟨4, ![2, 8448, 4, 512]⟩
abbrev S2x4x8448x512 : Shape := ⟨4, ![2, 4, 8448, 512]⟩
abbrev S4x4x8448x512 : Shape := ⟨4, ![4, 4, 8448, 512]⟩
abbrev S128x128 : Shape := ⟨2, ![128, 128]⟩
abbrev S4x4x66x128x512 : Shape := ⟨5, ![4, 4, 66, 128, 512]⟩
abbrev S66x4x4x128x512 : Shape := ⟨5, ![66, 4, 4, 128, 512]⟩
abbrev S4x4x66x128 : Shape := ⟨4, ![4, 4, 66, 128]⟩
abbrev S66x4x4x128 : Shape := ⟨4, ![66, 4, 4, 128]⟩
abbrev S1x4x4x128x512 : Shape := ⟨5, ![1, 4, 4, 128, 512]⟩
abbrev S4x4x128x512 : Shape := ⟨4, ![4, 4, 128, 512]⟩
abbrev S1x4x4x128 : Shape := ⟨4, ![1, 4, 4, 128]⟩
abbrev S4x4x128 : Shape := ⟨3, ![4, 4, 128]⟩
abbrev S4x4x128x1 : Shape := ⟨4, ![4, 4, 128, 1]⟩
abbrev S4x4x1x128 : Shape := ⟨4, ![4, 4, 1, 128]⟩
abbrev S4x4x128x128 : Shape := ⟨4, ![4, 4, 128, 128]⟩
abbrev S4x4x1 : Shape := ⟨3, ![4, 4, 1]⟩
abbrev S4x4x1x1 : Shape := ⟨4, ![4, 4, 1, 1]⟩

abbrev nBuf : Space → Nat
  | .hbm => 283
  | .vmem => 0
  | .smem => 0
  | _ => 0

abbrev hbmTy0_0 (i : Nat) : BufTy := match i % 128 with
  | 0 => ⟨S16896x2048, .bf16⟩
  | 1 => ⟨S16896x2048, .bf16⟩
  | 2 => ⟨S16896x2048, .bf16⟩
  | 3 => ⟨S16896x128, .f32⟩
  | 4 => ⟨S16x16896, .f32⟩
  | 5 => ⟨S16896x16, .f32⟩
  | 6 => ⟨S512x16, .f32⟩
  | 7 => ⟨S2x256x16, .f32⟩
  | 8 => ⟨S16384x16, .f32⟩
  | 9 => ⟨S2x8192x16, .f32⟩
  | 10 => ⟨S2x8448x16, .f32⟩
  | 11 => ⟨S2x256x16, .f32⟩
  | 12 => ⟨S2x8192x16, .f32⟩
  | 13 => ⟨S2x8448x16, .f32⟩
  | 14 => ⟨S2x8448x4x4, .f32⟩
  | 15 => ⟨S4x2x4x8448, .f32⟩
  | 16 => ⟨S2x8448x4x4, .f32⟩
  | 17 => ⟨S4x2x4x8448, .f32⟩
  | 18 => ⟨S1x2x4x8448, .f32⟩
  | 19 => ⟨S2x4x8448, .f32⟩
  | 20 => ⟨S1x2x4x8448, .f32⟩
  | 21 => ⟨S2x4x8448, .f32⟩
  | 22 => ⟨S4x4x8448, .f32⟩
  | 23 => ⟨S1x2x4x8448, .f32⟩
  | 24 => ⟨S2x4x8448, .f32⟩
  | 25 => ⟨S1x2x4x8448, .f32⟩
  | 26 => ⟨S2x4x8448, .f32⟩
  | 27 => ⟨S4x4x8448, .f32⟩
  | 28 => ⟨S16896x16, .f32⟩
  | 29 => ⟨S512x16, .f32⟩
  | 30 => ⟨S2x256x16, .f32⟩
  | 31 => ⟨S16384x16, .f32⟩
  | 32 => ⟨S2x8192x16, .f32⟩
  | 33 => ⟨S2x8448x16, .f32⟩
  | 34 => ⟨S2x256x16, .f32⟩
  | 35 => ⟨S2x8192x16, .f32⟩
  | 36 => ⟨S2x8448x16, .f32⟩
  | 37 => ⟨S2x8448x4x4, .f32⟩
  | 38 => ⟨S4x2x4x8448, .f32⟩
  | 39 => ⟨S2x8448x4x4, .f32⟩
  | 40 => ⟨S4x2x4x8448, .f32⟩
  | 41 => ⟨S1x2x4x8448, .f32⟩
  | 42 => ⟨S2x4x8448, .f32⟩
  | 43 => ⟨S1x2x4x8448, .f32⟩
  | 44 => ⟨S2x4x8448, .f32⟩
  | 45 => ⟨S4x4x8448, .f32⟩
  | 46 => ⟨S1x2x4x8448, .f32⟩
  | 47 => ⟨S2x4x8448, .f32⟩
  | 48 => ⟨S1x2x4x8448, .f32⟩
  | 49 => ⟨S2x4x8448, .f32⟩
  | 50 => ⟨S4x4x8448, .f32⟩
  | 51 => ⟨S_, .f32⟩
  | 52 => ⟨S4x4x512x512, .f32⟩
  | 53 => ⟨S_, .f32⟩
  | 54 => ⟨S4x4x512, .f32⟩
  | 55 => ⟨S_, .f32⟩
  | 56 => ⟨S4x4, .f32⟩
  | 57 => ⟨S16896x2048, .f32⟩
  | 58 => ⟨S512x2048, .f32⟩
  | 59 => ⟨S2x256x2048, .f32⟩
  | 60 => ⟨S16384x2048, .f32⟩
  | 61 => ⟨S2x8192x2048, .f32⟩
  | 62 => ⟨S2x8448x2048, .f32⟩
  | 63 => ⟨S2x256x2048, .f32⟩
  | 64 => ⟨S2x8192x2048, .f32⟩
  | 65 => ⟨S2x8448x2048, .f32⟩
  | 66 => ⟨S2x8448x4x512, .f32⟩
  | 67 => ⟨S2x4x8448x512, .f32⟩
  | 68 => ⟨S2x8448x4x512, .f32⟩
  | 69 => ⟨S2x4x8448x512, .f32⟩
  | 70 => ⟨S4x4x8448x512, .f32⟩
  | 71 => ⟨S16896x2048, .f32⟩
  | 72 => ⟨S512x2048, .f32⟩
  | 73 => ⟨S2x256x2048, .f32⟩
  | 74 => ⟨S16384x2048, .f32⟩
  | 75 => ⟨S2x8192x2048, .f32⟩
  | 76 => ⟨S2x8448x2048, .f32⟩
  | 77 => ⟨S2x256x2048, .f32⟩
  | 78 => ⟨S2x8192x2048, .f32⟩
  | 79 => ⟨S2x8448x2048, .f32⟩
  | 80 => ⟨S2x8448x4x512, .f32⟩
  | 81 => ⟨S2x4x8448x512, .f32⟩
  | 82 => ⟨S2x8448x4x512, .f32⟩
  | 83 => ⟨S2x4x8448x512, .f32⟩
  | 84 => ⟨S4x4x8448x512, .f32⟩
  | 85 => ⟨S16896x2048, .f32⟩
  | 86 => ⟨S512x2048, .f32⟩
  | 87 => ⟨S2x256x2048, .f32⟩
  | 88 => ⟨S16384x2048, .f32⟩
  | 89 => ⟨S2x8192x2048, .f32⟩
  | 90 => ⟨S2x8448x2048, .f32⟩
  | 91 => ⟨S2x256x2048, .f32⟩
  | 92 => ⟨S2x8192x2048, .f32⟩
  | 93 => ⟨S2x8448x2048, .f32⟩
  | 94 => ⟨S2x8448x4x512, .f32⟩
  | 95 => ⟨S2x4x8448x512, .f32⟩
  | 96 => ⟨S2x8448x4x512, .f32⟩
  | 97 => ⟨S2x4x8448x512, .f32⟩
  | 98 => ⟨S4x4x8448x512, .f32⟩
  | 99 => ⟨S_, .i1⟩
  | 100 => ⟨S128x128, .i1⟩
  | 101 => ⟨S128x128, .i32⟩
  | 102 => ⟨S_, .i32⟩
  | 103 => ⟨S128x128, .i32⟩
  | 104 => ⟨S128x128, .i32⟩
  | 105 => ⟨S128x128, .i32⟩
  | 106 => ⟨S128x128, .i1⟩
  | 107 => ⟨S_, .i1⟩
  | 108 => ⟨S128x128, .i1⟩
  | 109 => ⟨S128x128, .i1⟩
  | 110 => ⟨S4x4x66x128x512, .f32⟩
  | 111 => ⟨S66x4x4x128x512, .f32⟩
  | 112 => ⟨S4x4x66x128x512, .f32⟩
  | 113 => ⟨S66x4x4x128x512, .f32⟩
  | 114 => ⟨S4x4x66x128x512, .f32⟩
  | 115 => ⟨S66x4x4x128x512, .f32⟩
  | 116 => ⟨S4x4x66x128, .f32⟩
  | 117 => ⟨S66x4x4x128, .f32⟩
  | 118 => ⟨S4x4x66x128, .f32⟩
  | 119 => ⟨S66x4x4x128, .f32⟩
  | 120 => ⟨S4x4x66x128, .f32⟩
  | 121 => ⟨S66x4x4x128, .f32⟩
  | 122 => ⟨S4x4x66x128, .f32⟩
  | 123 => ⟨S66x4x4x128, .f32⟩
  | 124 => ⟨S_, .f32⟩
  | 125 => ⟨S66x4x4x128x512, .f32⟩
  | 126 => ⟨S_, .i32⟩
  | 127 => ⟨S66x4x4x128x512, .f32⟩
  | _ => ⟨S16896x2048, .bf16⟩

abbrev hbmTy0_1 (i : Nat) : BufTy := match i % 128 with
  | 0 => ⟨S66x4x4x128x512, .f32⟩
  | 1 => ⟨S66x4x4x128x512, .f32⟩
  | 2 => ⟨S66x4x4x128, .f32⟩
  | 3 => ⟨S66x4x4x128, .f32⟩
  | 4 => ⟨S66x4x4x128, .f32⟩
  | 5 => ⟨S66x4x4x128, .f32⟩
  | 6 => ⟨S128x128, .i1⟩
  | 7 => ⟨S_, .i32⟩
  | 8 => ⟨S4x4x512x512, .f32⟩
  | 9 => ⟨S4x4x512, .f32⟩
  | 10 => ⟨S4x4, .f32⟩
  | 11 => ⟨S66x4x4x128x512, .f32⟩
  | 12 => ⟨S_, .i32⟩
  | 13 => ⟨S_, .i1⟩
  | 14 => ⟨S_, .i32⟩
  | 15 => ⟨S_, .i32⟩
  | 16 => ⟨S_, .i32⟩
  | 17 => ⟨S_, .i32⟩
  | 18 => ⟨S1x4x4x128x512, .f32⟩
  | 19 => ⟨S4x4x128x512, .f32⟩
  | 20 => ⟨S_, .i32⟩
  | 21 => ⟨S_, .i32⟩
  | 22 => ⟨S_, .i32⟩
  | 23 => ⟨S_, .i32⟩
  | 24 => ⟨S1x4x4x128x512, .f32⟩
  | 25 => ⟨S4x4x128x512, .f32⟩
  | 26 => ⟨S_, .i32⟩
  | 27 => ⟨S_, .i32⟩
  | 28 => ⟨S_, .i32⟩
  | 29 => ⟨S_, .i32⟩
  | 30 => ⟨S1x4x4x128x512, .f32⟩
  | 31 => ⟨S4x4x128x512, .f32⟩
  | 32 => ⟨S_, .i32⟩
  | 33 => ⟨S_, .i32⟩
  | 34 => ⟨S_, .i32⟩
  | 35 => ⟨S1x4x4x128, .f32⟩
  | 36 => ⟨S4x4x128, .f32⟩
  | 37 => ⟨S_, .i32⟩
  | 38 => ⟨S_, .i32⟩
  | 39 => ⟨S_, .i32⟩
  | 40 => ⟨S1x4x4x128, .f32⟩
  | 41 => ⟨S4x4x128, .f32⟩
  | 42 => ⟨S_, .i32⟩
  | 43 => ⟨S_, .i32⟩
  | 44 => ⟨S_, .i32⟩
  | 45 => ⟨S1x4x4x128, .f32⟩
  | 46 => ⟨S4x4x128, .f32⟩
  | 47 => ⟨S_, .i32⟩
  | 48 => ⟨S_, .i32⟩
  | 49 => ⟨S_, .i32⟩
  | 50 => ⟨S1x4x4x128, .f32⟩
  | 51 => ⟨S4x4x128, .f32⟩
  | 52 => ⟨S4x4x128x1, .f32⟩
  | 53 => ⟨S4x4x1x128, .f32⟩
  | 54 => ⟨S4x4x128x128, .f32⟩
  | 55 => ⟨S4x4x128x128, .f32⟩
  | 56 => ⟨S4x4x128x128, .f32⟩
  | 57 => ⟨S4x4x1x128, .f32⟩
  | 58 => ⟨S4x4x128x128, .f32⟩
  | 59 => ⟨S4x4x128x128, .f32⟩
  | 60 => ⟨S_, .f32⟩
  | 61 => ⟨S_, .f32⟩
  | 62 => ⟨S4x4x128x128, .i1⟩
  | 63 => ⟨S4x4x128x128, .f32⟩
  | 64 => ⟨S4x4x128x128, .f32⟩
  | 65 => ⟨S4x4x1, .f32⟩
  | 66 => ⟨S4x4x128, .f32⟩
  | 67 => ⟨S4x4x128, .f32⟩
  | 68 => ⟨S_, .f32⟩
  | 69 => ⟨S4x4x128, .f32⟩
  | 70 => ⟨S4x4x128, .f32⟩
  | 71 => ⟨S4x4x128x1, .f32⟩
  | 72 => ⟨S4x4x128x128, .f32⟩
  | 73 => ⟨S4x4x128x128, .f32⟩
  | 74 => ⟨S4x4x128x128, .f32⟩
  | 75 => ⟨S4x4x128, .f32⟩
  | 76 => ⟨S4x4x128, .f32⟩
  | 77 => ⟨S4x4x128x128, .f32⟩
  | 78 => ⟨S4x4x128x128, .f32⟩
  | 79 => ⟨S4x4x128x512, .f32⟩
  | 80 => ⟨S4x4x128x1, .f32⟩
  | 81 => ⟨S4x4x128x512, .f32⟩
  | 82 => ⟨S4x4x128x512, .f32⟩
  | 83 => ⟨S4x4x128x512, .f32⟩
  | 84 => ⟨S4x4x128x512, .f32⟩
  | 85 => ⟨S_, .f32⟩
  | 86 => ⟨S4x4x128, .f32⟩
  | 87 => ⟨S4x4x128, .f32⟩
  | 88 => ⟨S4x4x128, .f32⟩
  | 89 => ⟨S4x4x128, .f32⟩
  | 90 => ⟨S4x4x128, .f32⟩
  | 91 => ⟨S4x4x128, .f32⟩
  | 92 => ⟨S4x4x128, .f32⟩
  | 93 => ⟨S4x4x128, .f32⟩
  | 94 => ⟨S4x4x128x1, .f32⟩
  | 95 => ⟨S4x4x128x512, .f32⟩
  | 96 => ⟨S4x4x128x512, .f32⟩
  | 97 => ⟨S4x4x1, .f32⟩
  | 98 => ⟨S4x4, .f32⟩
  | 99 => ⟨S4x4x1, .f32⟩
  | 100 => ⟨S4x4x128, .f32⟩
  | 101 => ⟨S4x4x128, .f32⟩
  | 102 => ⟨S4x4x128, .f32⟩
  | 103 => ⟨S4x4, .f32⟩
  | 104 => ⟨S_, .f32⟩
  | 105 => ⟨S4x4, .f32⟩
  | 106 => ⟨S4x4, .f32⟩
  | 107 => ⟨S4x4x1, .f32⟩
  | 108 => ⟨S4x4x128, .f32⟩
  | 109 => ⟨S4x4x128, .f32⟩
  | 110 => ⟨S4x4x128, .f32⟩
  | 111 => ⟨S4x4, .f32⟩
  | 112 => ⟨S4x4, .f32⟩
  | 113 => ⟨S4x4, .f32⟩
  | 114 => ⟨S4x4x1x1, .f32⟩
  | 115 => ⟨S4x4x512x512, .f32⟩
  | 116 => ⟨S4x4x512x512, .f32⟩
  | 117 => ⟨S4x4x128x1, .f32⟩
  | 118 => ⟨S4x4x128x512, .f32⟩
  | 119 => ⟨S4x4x128x512, .f32⟩
  | 120 => ⟨S4x4x512x512, .f32⟩
  | 121 => ⟨S4x4x512x512, .f32⟩
  | 122 => ⟨S4x4x1, .f32⟩
  | 123 => ⟨S4x4x512, .f32⟩
  | 124 => ⟨S4x4x512, .f32⟩
  | 125 => ⟨S4x4x512, .f32⟩
  | 126 => ⟨S4x4x512, .f32⟩
  | 127 => ⟨S1x4x4x128x512, .f32⟩
  | _ => ⟨S16896x2048, .bf16⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S66x4x4x128x512, .f32⟩
  | 5 => ⟨S_, .i32⟩
  | 6 => ⟨S_, .i32⟩
  | 7 => ⟨S4x4x66x128x512, .f32⟩
  | 8 => ⟨S4x4x8448x512, .f32⟩
  | 9 => ⟨S2x4x8448x512, .f32⟩
  | 10 => ⟨S2x8448x4x512, .f32⟩
  | 11 => ⟨S2x8448x2048, .f32⟩
  | 12 => ⟨S2x256x2048, .f32⟩
  | 13 => ⟨S2x8192x2048, .f32⟩
  | 14 => ⟨S2x4x8448x512, .f32⟩
  | 15 => ⟨S2x8448x4x512, .f32⟩
  | 16 => ⟨S2x8448x2048, .f32⟩
  | 17 => ⟨S2x256x2048, .f32⟩
  | 18 => ⟨S2x8192x2048, .f32⟩
  | 19 => ⟨S512x2048, .f32⟩
  | 20 => ⟨S16384x2048, .f32⟩
  | 21 => ⟨S16896x2048, .f32⟩
  | 22 => ⟨S2x256x2048, .f32⟩
  | 23 => ⟨S2x8192x2048, .f32⟩
  | 24 => ⟨S512x2048, .f32⟩
  | 25 => ⟨S16384x2048, .f32⟩
  | 26 => ⟨S16896x2048, .f32⟩
  | _ => ⟨S16896x2048, .bf16⟩

abbrev hbmTy (i : Nat) : BufTy := match i / 128 with
  | 0 => hbmTy0_0 i
  | 1 => hbmTy0_1 i
  | 2 => hbmTy0_2 i
  | _ => ⟨S16896x2048, .bf16⟩

abbrev bufTy : (tb : Table) → Fin (tcTables nBuf tb) → BufTy
  | .hbm, ⟨i, _⟩ => hbmTy i
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_cst : Ref sig .tc := ⟨.hbm, 51, rfl⟩
abbrev main_v46 : Ref sig .tc := ⟨.hbm, 52, rfl⟩
abbrev main_cst_0 : Ref sig .tc := ⟨.hbm, 53, rfl⟩
abbrev main_v47 : Ref sig .tc := ⟨.hbm, 54, rfl⟩
abbrev main_cst_1 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_c : Ref sig .tc := ⟨.hbm, 99, rfl⟩
abbrev main_v91 : Ref sig .tc := ⟨.hbm, 100, rfl⟩
abbrev main_call10_v0 : Ref sig .tc := ⟨.hbm, 101, rfl⟩
abbrev main_call10_c : Ref sig .tc := ⟨.hbm, 102, rfl⟩
abbrev main_call10_v1 : Ref sig .tc := ⟨.hbm, 103, rfl⟩
abbrev main_call10_v2 : Ref sig .tc := ⟨.hbm, 104, rfl⟩
abbrev main_call10_v3 : Ref sig .tc := ⟨.hbm, 105, rfl⟩
abbrev main_call10_v4 : Ref sig .tc := ⟨.hbm, 106, rfl⟩
abbrev main_call10_c_0 : Ref sig .tc := ⟨.hbm, 107, rfl⟩
abbrev main_call10_v5 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_cst_2 : Ref sig .tc := ⟨.hbm, 124, rfl⟩
abbrev main_v107 : Ref sig .tc := ⟨.hbm, 125, rfl⟩
abbrev main_c_3 : Ref sig .tc := ⟨.hbm, 126, rfl⟩
abbrev main_v108_0 : Ref sig .tc := ⟨.hbm, 127, rfl⟩
abbrev main_v108_1 : Ref sig .tc := ⟨.hbm, 128, rfl⟩
abbrev main_v108_2 : Ref sig .tc := ⟨.hbm, 129, rfl⟩
abbrev main_v108_3 : Ref sig .tc := ⟨.hbm, 130, rfl⟩
abbrev main_v108_4 : Ref sig .tc := ⟨.hbm, 131, rfl⟩
abbrev main_v108_5 : Ref sig .tc := ⟨.hbm, 132, rfl⟩
abbrev main_v108_6 : Ref sig .tc := ⟨.hbm, 133, rfl⟩
abbrev main_v108_7 : Ref sig .tc := ⟨.hbm, 134, rfl⟩
abbrev main_v108_8 : Ref sig .tc := ⟨.hbm, 135, rfl⟩
abbrev main_v108_9 : Ref sig .tc := ⟨.hbm, 136, rfl⟩
abbrev main_v108_10 : Ref sig .tc := ⟨.hbm, 137, rfl⟩
abbrev main_v108_11 : Ref sig .tc := ⟨.hbm, 138, rfl⟩
abbrev main_v108_12 : Ref sig .tc := ⟨.hbm, 139, rfl⟩
abbrev main_while0c_c_16 : Ref sig .tc := ⟨.hbm, 140, rfl⟩
abbrev main_while0c_v129 : Ref sig .tc := ⟨.hbm, 141, rfl⟩
abbrev main_while0b_call11_c : Ref sig .tc := ⟨.hbm, 142, rfl⟩
abbrev main_while0b_call11_c_0 : Ref sig .tc := ⟨.hbm, 143, rfl⟩
abbrev main_while0b_call11_c_1 : Ref sig .tc := ⟨.hbm, 144, rfl⟩
abbrev main_while0b_call11_c_2 : Ref sig .tc := ⟨.hbm, 145, rfl⟩
abbrev main_while0b_call11_v0 : Ref sig .tc := ⟨.hbm, 146, rfl⟩
abbrev main_while0b_v129 : Ref sig .tc := ⟨.hbm, 147, rfl⟩
abbrev main_while0b_call12_c : Ref sig .tc := ⟨.hbm, 148, rfl⟩
abbrev main_while0b_call12_c_0 : Ref sig .tc := ⟨.hbm, 149, rfl⟩
abbrev main_while0b_call12_c_1 : Ref sig .tc := ⟨.hbm, 150, rfl⟩
abbrev main_while0b_call12_c_2 : Ref sig .tc := ⟨.hbm, 151, rfl⟩
abbrev main_while0b_call12_v0 : Ref sig .tc := ⟨.hbm, 152, rfl⟩
abbrev main_while0b_v130 : Ref sig .tc := ⟨.hbm, 153, rfl⟩
abbrev main_while0b_call13_c : Ref sig .tc := ⟨.hbm, 154, rfl⟩
abbrev main_while0b_call13_c_0 : Ref sig .tc := ⟨.hbm, 155, rfl⟩
abbrev main_while0b_call13_c_1 : Ref sig .tc := ⟨.hbm, 156, rfl⟩
abbrev main_while0b_call13_c_2 : Ref sig .tc := ⟨.hbm, 157, rfl⟩
abbrev main_while0b_call13_v0 : Ref sig .tc := ⟨.hbm, 158, rfl⟩
abbrev main_while0b_v131 : Ref sig .tc := ⟨.hbm, 159, rfl⟩
abbrev main_while0b_call14_c : Ref sig .tc := ⟨.hbm, 160, rfl⟩
abbrev main_while0b_call14_c_0 : Ref sig .tc := ⟨.hbm, 161, rfl⟩
abbrev main_while0b_call14_c_1 : Ref sig .tc := ⟨.hbm, 162, rfl⟩
abbrev main_while0b_call14_v0 : Ref sig .tc := ⟨.hbm, 163, rfl⟩
abbrev main_while0b_v132 : Ref sig .tc := ⟨.hbm, 164, rfl⟩
abbrev main_while0b_call15_c : Ref sig .tc := ⟨.hbm, 165, rfl⟩
abbrev main_while0b_call15_c_0 : Ref sig .tc := ⟨.hbm, 166, rfl⟩
abbrev main_while0b_call15_c_1 : Ref sig .tc := ⟨.hbm, 167, rfl⟩
abbrev main_while0b_call15_v0 : Ref sig .tc := ⟨.hbm, 168, rfl⟩
abbrev main_while0b_v133 : Ref sig .tc := ⟨.hbm, 169, rfl⟩
abbrev main_while0b_call16_c : Ref sig .tc := ⟨.hbm, 170, rfl⟩
abbrev main_while0b_call16_c_0 : Ref sig .tc := ⟨.hbm, 171, rfl⟩
abbrev main_while0b_call16_c_1 : Ref sig .tc := ⟨.hbm, 172, rfl⟩
abbrev main_while0b_call16_v0 : Ref sig .tc := ⟨.hbm, 173, rfl⟩
abbrev main_while0b_v134 : Ref sig .tc := ⟨.hbm, 174, rfl⟩
abbrev main_while0b_call17_c : Ref sig .tc := ⟨.hbm, 175, rfl⟩
abbrev main_while0b_call17_c_0 : Ref sig .tc := ⟨.hbm, 176, rfl⟩
abbrev main_while0b_call17_c_1 : Ref sig .tc := ⟨.hbm, 177, rfl⟩
abbrev main_while0b_call17_v0 : Ref sig .tc := ⟨.hbm, 178, rfl⟩
abbrev main_while0b_v135 : Ref sig .tc := ⟨.hbm, 179, rfl⟩
abbrev main_while0b_v136 : Ref sig .tc := ⟨.hbm, 180, rfl⟩
abbrev main_while0b_v137 : Ref sig .tc := ⟨.hbm, 181, rfl⟩
abbrev main_while0b_v138 : Ref sig .tc := ⟨.hbm, 182, rfl⟩
abbrev main_while0b_v139 : Ref sig .tc := ⟨.hbm, 183, rfl⟩
abbrev main_while0b_v140 : Ref sig .tc := ⟨.hbm, 184, rfl⟩
abbrev main_while0b_v141 : Ref sig .tc := ⟨.hbm, 185, rfl⟩
abbrev main_while0b_v142 : Ref sig .tc := ⟨.hbm, 186, rfl⟩
abbrev main_while0b_v143 : Ref sig .tc := ⟨.hbm, 187, rfl⟩
abbrev main_while0b_cst_16 : Ref sig .tc := ⟨.hbm, 188, rfl⟩
abbrev main_while0b_call18_v0 : Ref sig .tc := ⟨.hbm, 189, rfl⟩
abbrev main_while0b_call18_v1 : Ref sig .tc := ⟨.hbm, 190, rfl⟩
abbrev main_while0b_call18_v2 : Ref sig .tc := ⟨.hbm, 191, rfl⟩
abbrev main_while0b_v144 : Ref sig .tc := ⟨.hbm, 192, rfl⟩
abbrev main_while0b_v145 : Ref sig .tc := ⟨.hbm, 193, rfl⟩
abbrev main_while0b_v146 : Ref sig .tc := ⟨.hbm, 194, rfl⟩
abbrev main_while0b_v147 : Ref sig .tc := ⟨.hbm, 195, rfl⟩
abbrev main_while0b_cst_17 : Ref sig .tc := ⟨.hbm, 196, rfl⟩
abbrev main_while0b_v148 : Ref sig .tc := ⟨.hbm, 197, rfl⟩
abbrev main_while0b_v149 : Ref sig .tc := ⟨.hbm, 198, rfl⟩
abbrev main_while0b_v150 : Ref sig .tc := ⟨.hbm, 199, rfl⟩
abbrev main_while0b_v151 : Ref sig .tc := ⟨.hbm, 200, rfl⟩
abbrev main_while0b_v152 : Ref sig .tc := ⟨.hbm, 201, rfl⟩
abbrev main_while0b_v153 : Ref sig .tc := ⟨.hbm, 202, rfl⟩
abbrev main_while0b_v154 : Ref sig .tc := ⟨.hbm, 203, rfl⟩
abbrev main_while0b_v155 : Ref sig .tc := ⟨.hbm, 204, rfl⟩
abbrev main_while0b_v156 : Ref sig .tc := ⟨.hbm, 205, rfl⟩
abbrev main_while0b_v157 : Ref sig .tc := ⟨.hbm, 206, rfl⟩
abbrev main_while0b_v158 : Ref sig .tc := ⟨.hbm, 207, rfl⟩
abbrev main_while0b_v159 : Ref sig .tc := ⟨.hbm, 208, rfl⟩
abbrev main_while0b_v160 : Ref sig .tc := ⟨.hbm, 209, rfl⟩
abbrev main_while0b_v161 : Ref sig .tc := ⟨.hbm, 210, rfl⟩
abbrev main_while0b_v162 : Ref sig .tc := ⟨.hbm, 211, rfl⟩
abbrev main_while0b_v163 : Ref sig .tc := ⟨.hbm, 212, rfl⟩
abbrev main_while0b_cst_18 : Ref sig .tc := ⟨.hbm, 213, rfl⟩
abbrev main_while0b_v164 : Ref sig .tc := ⟨.hbm, 214, rfl⟩
abbrev main_while0b_v165 : Ref sig .tc := ⟨.hbm, 215, rfl⟩
abbrev main_while0b_v166 : Ref sig .tc := ⟨.hbm, 216, rfl⟩
abbrev main_while0b_v167 : Ref sig .tc := ⟨.hbm, 217, rfl⟩
abbrev main_while0b_v168 : Ref sig .tc := ⟨.hbm, 218, rfl⟩
abbrev main_while0b_v169 : Ref sig .tc := ⟨.hbm, 219, rfl⟩
abbrev main_while0b_v170 : Ref sig .tc := ⟨.hbm, 220, rfl⟩
abbrev main_while0b_v171 : Ref sig .tc := ⟨.hbm, 221, rfl⟩
abbrev main_while0b_v172 : Ref sig .tc := ⟨.hbm, 222, rfl⟩
abbrev main_while0b_v173 : Ref sig .tc := ⟨.hbm, 223, rfl⟩
abbrev main_while0b_v174 : Ref sig .tc := ⟨.hbm, 224, rfl⟩
abbrev main_while0b_v175 : Ref sig .tc := ⟨.hbm, 225, rfl⟩
abbrev main_while0b_v176 : Ref sig .tc := ⟨.hbm, 226, rfl⟩
abbrev main_while0b_v177 : Ref sig .tc := ⟨.hbm, 227, rfl⟩
abbrev main_while0b_v178 : Ref sig .tc := ⟨.hbm, 228, rfl⟩
abbrev main_while0b_v179 : Ref sig .tc := ⟨.hbm, 229, rfl⟩
abbrev main_while0b_v180 : Ref sig .tc := ⟨.hbm, 230, rfl⟩
abbrev main_while0b_v181 : Ref sig .tc := ⟨.hbm, 231, rfl⟩
abbrev main_while0b_cst_19 : Ref sig .tc := ⟨.hbm, 232, rfl⟩
abbrev main_while0b_v182 : Ref sig .tc := ⟨.hbm, 233, rfl⟩
abbrev main_while0b_v183 : Ref sig .tc := ⟨.hbm, 234, rfl⟩
abbrev main_while0b_v184 : Ref sig .tc := ⟨.hbm, 235, rfl⟩
abbrev main_while0b_v185 : Ref sig .tc := ⟨.hbm, 236, rfl⟩
abbrev main_while0b_v186 : Ref sig .tc := ⟨.hbm, 237, rfl⟩
abbrev main_while0b_v187 : Ref sig .tc := ⟨.hbm, 238, rfl⟩
abbrev main_while0b_v188 : Ref sig .tc := ⟨.hbm, 239, rfl⟩
abbrev main_while0b_v189 : Ref sig .tc := ⟨.hbm, 240, rfl⟩
abbrev main_while0b_v190 : Ref sig .tc := ⟨.hbm, 241, rfl⟩
abbrev main_while0b_v191 : Ref sig .tc := ⟨.hbm, 242, rfl⟩
abbrev main_while0b_v192 : Ref sig .tc := ⟨.hbm, 243, rfl⟩
abbrev main_while0b_v193 : Ref sig .tc := ⟨.hbm, 244, rfl⟩
abbrev main_while0b_v194 : Ref sig .tc := ⟨.hbm, 245, rfl⟩
abbrev main_while0b_v195 : Ref sig .tc := ⟨.hbm, 246, rfl⟩
abbrev main_while0b_v196 : Ref sig .tc := ⟨.hbm, 247, rfl⟩
abbrev main_while0b_v197 : Ref sig .tc := ⟨.hbm, 248, rfl⟩
abbrev main_while0b_v198 : Ref sig .tc := ⟨.hbm, 249, rfl⟩
abbrev main_while0b_v199 : Ref sig .tc := ⟨.hbm, 250, rfl⟩
abbrev main_while0b_v200 : Ref sig .tc := ⟨.hbm, 251, rfl⟩
abbrev main_while0b_v201 : Ref sig .tc := ⟨.hbm, 252, rfl⟩
abbrev main_while0b_v202 : Ref sig .tc := ⟨.hbm, 253, rfl⟩
abbrev main_while0b_v203 : Ref sig .tc := ⟨.hbm, 254, rfl⟩
abbrev main_while0b_call19_v0 : Ref sig .tc := ⟨.hbm, 255, rfl⟩
abbrev main_while0b_call19_c : Ref sig .tc := ⟨.hbm, 256, rfl⟩
abbrev main_while0b_call19_c_0 : Ref sig .tc := ⟨.hbm, 257, rfl⟩
abbrev main_while0b_call19_c_1 : Ref sig .tc := ⟨.hbm, 258, rfl⟩
abbrev main_while0b_call19_c_2 : Ref sig .tc := ⟨.hbm, 259, rfl⟩
abbrev main_while0b_v204 : Ref sig .tc := ⟨.hbm, 260, rfl⟩
abbrev main_while0b_c_20 : Ref sig .tc := ⟨.hbm, 261, rfl⟩
abbrev main_while0b_v205 : Ref sig .tc := ⟨.hbm, 262, rfl⟩
abbrev main_v109 : Ref sig .tc := ⟨.hbm, 263, rfl⟩
abbrev main_v110 : Ref sig .tc := ⟨.hbm, 264, rfl⟩
abbrev main_v111 : Ref sig .tc := ⟨.hbm, 265, rfl⟩
abbrev main_v112 : Ref sig .tc := ⟨.hbm, 266, rfl⟩
abbrev main_v113 : Ref sig .tc := ⟨.hbm, 267, rfl⟩
abbrev main_v114 : Ref sig .tc := ⟨.hbm, 268, rfl⟩
abbrev main_v115 : Ref sig .tc := ⟨.hbm, 269, rfl⟩
abbrev main_v116 : Ref sig .tc := ⟨.hbm, 270, rfl⟩
abbrev main_v117 : Ref sig .tc := ⟨.hbm, 271, rfl⟩
abbrev main_v118 : Ref sig .tc := ⟨.hbm, 272, rfl⟩
abbrev main_v119 : Ref sig .tc := ⟨.hbm, 273, rfl⟩
abbrev main_v120 : Ref sig .tc := ⟨.hbm, 274, rfl⟩
abbrev main_v121 : Ref sig .tc := ⟨.hbm, 275, rfl⟩
abbrev main_v122 : Ref sig .tc := ⟨.hbm, 276, rfl⟩
abbrev main_v123 : Ref sig .tc := ⟨.hbm, 277, rfl⟩
abbrev main_v124 : Ref sig .tc := ⟨.hbm, 278, rfl⟩
abbrev main_v125 : Ref sig .tc := ⟨.hbm, 279, rfl⟩
abbrev main_v126 : Ref sig .tc := ⟨.hbm, 280, rfl⟩
abbrev main_v127 : Ref sig .tc := ⟨.hbm, 281, rfl⟩
abbrev main_v128 : Ref sig .tc := ⟨.hbm, 282, rfl⟩

abbrev nD : Nat := 1
abbrev τ : Topo := Topo.v7x

variable {F : FTy → Type} [FloatOps F]

abbrev main_while0_count : Scf.Loop 32 := ⟨0#32, 66#32, 1#32⟩
-- ==== Kernel2.lean ====
abbrev S16384x1024 : Shape := ⟨2, ![16384, 1024]⟩
abbrev S8x6x1024 : Shape := ⟨3, ![8, 6, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S1x6x1024 : Shape := ⟨3, ![1, 6, 1024]⟩
abbrev S6x1024 : Shape := ⟨2, ![6, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 11
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S8x6x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S1x1024, .f32⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x4096, .bf16⟩
  | .local _ .vmem, ⟨6, _⟩ => ⟨S4096x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 1 := Scalar.cmpi .slt v0 c0_i32_0
  let c0_i32_1 : BitVec 32 := 0#32
  let v2 : BitVec 32 := Scalar.subi v0 c0_i32_1
  let c16_i32 : BitVec 32 := 16#32
  let v3 : BitVec 32 := Scalar.divsi v2 c16_i32
  let c0_i32_2 : BitVec 32 := 0#32
  let v4 : BitVec 1 := Scalar.cmpi .sgt v2 c0_i32_2
  let v5 : BitVec 32 := Scalar.extui v4
  let c0_i32_3 : BitVec 32 := 0#32
  let v6 : BitVec 1 := Scalar.cmpi .slt v2 c0_i32_3
  let v7 : BitVec 32 := Scalar.extui v6
  let v8 : BitVec 32 := Scalar.subi v5 v7
  let c0_i32_4 : BitVec 32 := 0#32
  let v9 : BitVec 1 := Scalar.cmpi .sgt c16_i32 c0_i32_4
  let v10 : BitVec 32 := Scalar.extui v9
  let c0_i32_5 : BitVec 32 := 0#32
  let v11 : BitVec 1 := Scalar.cmpi .slt c16_i32 c0_i32_5
  let v12 : BitVec 32 := Scalar.extui v11
  let v13 : BitVec 32 := Scalar.subi v10 v12
  let v14 : BitVec 1 := Scalar.cmpi .ne v8 v13
  let v15 : BitVec 32 := Scalar.remsi v2 c16_i32
  let c0_i32_6 : BitVec 32 := 0#32
  let v16 : BitVec 1 := Scalar.cmpi .ne v15 c0_i32_6
  let v17 : BitVec 1 := Scalar.andi v14 v16
  let c1_i32 : BitVec 32 := 1#32
  let v18 : BitVec 32 := Scalar.subi v3 c1_i32
  let v19 : BitVec 32 := Scalar.select v17 v18 v3
  let c2_i32 : BitVec 32 := 2#32
  let v20 : BitVec 32 := Scalar.select v1 c2_i32 v19
  let c0_i32_7 : BitVec 32 := 0#32
  let c0_i32_8 : BitVec 32 := 0#32
  let c0_i32_9 : BitVec 32 := 0#32
  ![v20.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S16384x1024 : Shape := ⟨2, ![16384, 1024]⟩
abbrev S8x6x1024 : Shape := ⟨3, ![8, 6, 1024]⟩
abbrev S1024 : Shape := ⟨1, ![1024]⟩
abbrev S1024x4096 : Shape := ⟨2, ![1024, 4096]⟩
abbrev S4096x1024 : Shape := ⟨2, ![4096, 1024]⟩
abbrev S2x8192x1024 : Shape := ⟨3, ![2, 8192, 1024]⟩
abbrev S2x1x1024 : Shape := ⟨3, ![2, 1, 1024]⟩
abbrev S2x1024 : Shape := ⟨2, ![2, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4096 : Shape := ⟨3, ![2, 8192, 4096]⟩

abbrev nBuf : Space → Nat
  | .hbm => 74
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x6x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S2x8192x1024, .f32⟩
  | .hbm, ⟨7, _⟩ => ⟨S2x1x1024, .f32⟩
  | .hbm, ⟨8, _⟩ => ⟨S2x1024, .f32⟩
  | .hbm, ⟨9, _⟩ => ⟨S2x1x1024, .f32⟩
  | .hbm, ⟨10, _⟩ => ⟨S2x1x1024, .f32⟩
  | .hbm, ⟨11, _⟩ => ⟨S2x1024, .f32⟩
  | .hbm, ⟨12, _⟩ => ⟨S2x1x1024, .f32⟩
  | .hbm, ⟨13, _⟩ => ⟨S2x1x1024, .f32⟩
  | .hbm, ⟨14, _⟩ => ⟨S2x1024, .f32⟩
  | .hbm, ⟨15, _⟩ => ⟨S2x1x1024, .f32⟩
  | .hbm, ⟨16, _⟩ => ⟨S2x1x1024, .f32⟩
  | .hbm, ⟨17, _⟩ => ⟨S2x1024, .f32⟩
  | .hbm, ⟨18, _⟩ => ⟨S2x1x1024, .f32⟩
  | .hbm, ⟨19, _⟩ => ⟨S2x1x1024, .f32⟩
  | .hbm, ⟨20, _⟩ => ⟨S2x1024, .f32⟩
  | .hbm, ⟨21, _⟩ => ⟨S2x1x1024, .f32⟩
  | .hbm, ⟨22, _⟩ => ⟨S2x1x1024, .f32⟩
  | .hbm, ⟨23, _⟩ => ⟨S2x1024, .f32⟩
  | .hbm, ⟨24, _⟩ => ⟨S2x1x1024, .f32⟩
  | .hbm, ⟨25, _⟩ => ⟨S2x8192x1024, .f32⟩
  | .hbm, ⟨26, _⟩ => ⟨S_, .f32⟩
  | .hbm, ⟨27, _⟩ => ⟨S2x8192, .f32⟩
  | .hbm, ⟨28, _⟩ => ⟨S2x8192x1, .f32⟩
  | .hbm, ⟨29, _⟩ => ⟨S_, .f32⟩
  | .hbm, ⟨30, _⟩ => ⟨S2x8192x1, .f32⟩
  | .hbm, ⟨31, _⟩ => ⟨S2x8192x1, .f32⟩
  | .hbm, ⟨32, _⟩ => ⟨S_, .f32⟩
  | .hbm, ⟨33, _⟩ => ⟨S2x8192x1, .f32⟩
  | .hbm, ⟨34, _⟩ => ⟨S2x8192x1, .f32⟩
  | .hbm, ⟨35, _⟩ => ⟨S2x8192x1, .f32⟩
  | .hbm, ⟨36, _⟩ => ⟨S2x8192x1024, .f32⟩
  | .hbm, ⟨37, _⟩ => ⟨S2x8192x1024, .f32⟩
  | .hbm, ⟨38, _⟩ => ⟨S1x1x1024, .f32⟩
  | .hbm, ⟨39, _⟩ => ⟨S2x8192x1024, .f32⟩
  | .hbm, ⟨40, _⟩ => ⟨S2x8192x1024, .f32⟩
  | .hbm, ⟨41, _⟩ => ⟨S_, .f32⟩
  | .hbm, ⟨42, _⟩ => ⟨S2x1x1024, .f32⟩
  | .hbm, ⟨43, _⟩ => ⟨S2x1x1024, .f32⟩
  | .hbm, ⟨44, _⟩ => ⟨S2x8192x1024, .f32⟩
  | .hbm, ⟨45, _⟩ => ⟨S2x8192x1024, .f32⟩
  | .hbm, ⟨46, _⟩ => ⟨S2x8192x1024, .f32⟩
  | .hbm, ⟨47, _⟩ => ⟨S2x8192x1024, .f32⟩
  | .hbm, ⟨48, _⟩ => ⟨S2x8192x4096, .f32⟩
  | .hbm, ⟨49, _⟩ => ⟨S_, .f32⟩
  | .hbm, ⟨50, _⟩ => ⟨S2x8192x4096, .f32⟩
  | .hbm, ⟨51, _⟩ => ⟨S2x8192x4096, .f32⟩
  | .hbm, ⟨52, _⟩ => ⟨S2x8192x4096, .f32⟩
  | .hbm, ⟨53, _⟩ => ⟨S2x8192x1024, .f32⟩
  | .hbm, ⟨54, _⟩ => ⟨S2x8192x1024, .f32⟩
  | .hbm, ⟨55, _⟩ => ⟨S2x8192x1024, .f32⟩
  | .hbm, ⟨56, _⟩ => ⟨S2x8192x1024, .f32⟩
  | .hbm, ⟨57, _⟩ => ⟨S2x8192x1024, .f32⟩
  | .hbm, ⟨58, _⟩ => ⟨S_, .f32⟩
  | .hbm, ⟨59, _⟩ => ⟨S2x8192, .f32⟩
  | .hbm, ⟨60, _⟩ => ⟨S2x8192x1, .f32⟩
  | .hbm, ⟨61, _⟩ => ⟨S_, .f32⟩
  | .hbm, ⟨62, _⟩ => ⟨S2x8192x1, .f32⟩
  | .hbm, ⟨63, _⟩ => ⟨S2x8192x1, .f32⟩
  | .hbm, ⟨64, _⟩ => ⟨S_, .f32⟩
  | .hbm, ⟨65, _⟩ => ⟨S2x8192x1, .f32⟩
  | .hbm, ⟨66, _⟩ => ⟨S2x8192x1, .f32⟩
  | .hbm, ⟨67, _⟩ => ⟨S2x8192x1, .f32⟩
  | .hbm, ⟨68, _⟩ => ⟨S2x8192x1024, .f32⟩
  | .hbm, ⟨69, _⟩ => ⟨S2x8192x1024, .f32⟩
  | .hbm, ⟨70, _⟩ => ⟨S1x1x1024, .f32⟩
  | .hbm, ⟨71, _⟩ => ⟨S2x8192x1024, .f32⟩
  | .hbm, ⟨72, _⟩ => ⟨S2x8192x1024, .f32⟩
  | .hbm, ⟨73, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_call0_cst : Ref sig .tc := ⟨.hbm, 49, rfl⟩
abbrev main_call0_v0 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_3 : Ref sig .tc := ⟨.hbm, 58, rfl⟩
abbrev main_v46 : Ref sig .tc := ⟨.hbm, 59, rfl⟩
abbrev main_v47 : Ref sig .tc := ⟨.hbm, 60, rfl⟩
abbrev main_cst_4 : Ref sig .tc := ⟨.hbm, 61, rfl⟩
abbrev main_v48 : Ref sig .tc := ⟨.hbm, 62, rfl⟩
abbrev main_v49 : Ref sig .tc := ⟨.hbm, 63, rfl⟩
abbrev main_cst_5 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩

abbrev nD : Nat := 1
abbrev τ : Topo := Topo.v7x

variable {F : FTy → Type} [FloatOps F]
-- ==== Kernel3.lean ====
abbrev S16896x1024 : Shape := ⟨2, ![16896, 1024]⟩
abbrev S8x6x1024 : Shape := ⟨3, ![8, 6, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S1x6x1024 : Shape := ⟨3, ![1, 6, 1024]⟩
abbrev S6x1024 : Shape := ⟨2, ![6, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 11
  | .vmem => 10
  | .smem => 0
  | _ => 0

abbrev bufTy : (tb : Table) → Fin (tcTables nBuf tb) → BufTy
  | .hbm, ⟨0, _⟩ => ⟨S16896x1024, .f32⟩
  | .hbm, ⟨1, _⟩ => ⟨S8x6x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S1x1024, .f32⟩
  | .hbm, ⟨10, _⟩ => ⟨S16896x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x4096, .bf16⟩
  | .local _ .vmem, ⟨6, _⟩ => ⟨S4096x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 1 := Scalar.cmpi .slt v0 c1_i32
  let c1_i32_0 : BitVec 32 := 1#32
  let v2 : BitVec 32 := Scalar.subi v0 c1_i32_0
  let c16_i32 : BitVec 32 := 16#32
  let v3 : BitVec 32 := Scalar.divsi v2 c16_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c16_i32 c0_i32_3
  let v10 : BitVec 32 := Scalar.extui v9
  let c0_i32_4 : BitVec 32 := 0#32
  let v11 : BitVec 1 := Scalar.cmpi .slt c16_i32 c0_i32_4
  let v12 : BitVec 32 := Scalar.extui v11
  let v13 : BitVec 32 := Scalar.subi v10 v12
  let v14 : BitVec 1 := Scalar.cmpi .ne v8 v13
  let v15 : BitVec 32 := Scalar.remsi v2 c16_i32
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c2_i32 : BitVec 32 := 2#32
  let v20 : BitVec 32 := Scalar.select v1 c2_i32 v19
  let c0_i32_7 : BitVec 32 := 0#32
  let c0_i32_8 : BitVec 32 := 0#32
  let c0_i32_9 : BitVec 32 := 0#32
  ![v20.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S16896x1024 : Shape := ⟨2, ![16896, 1024]⟩
abbrev S8x6x1024 : Shape := ⟨3, ![8, 6, 1024]⟩
abbrev S1024 : Shape := ⟨1, ![1024]⟩
abbrev S1024x4096 : Shape := ⟨2, ![1024, 4096]⟩
abbrev S4096x1024 : Shape := ⟨2, ![4096, 1024]⟩
abbrev S512x1024 : Shape := ⟨2, ![512, 1024]⟩
abbrev S2x256x1024 : Shape := ⟨3, ![2, 256, 1024]⟩
abbrev S16384x1024 : Shape := ⟨2, ![16384, 1024]⟩
abbrev S2x8192x1024 : Shape := ⟨3, ![2, 8192, 1024]⟩
abbrev S2x1x1024 : Shape := ⟨3, ![2, 1, 1024]⟩
abbrev S2x1024 : Shape := ⟨2, ![2, 1024]⟩
abbrev S1x1x1024 : Shape := ⟨3, ![1, 1, 1024]⟩
abbrev S_ : Shape := ⟨0, ![]⟩
abbrev S2x8192 : Shape := ⟨2, ![2, 8192]⟩
abbrev S2x8192x1 : Shape := ⟨3, ![2, 8192, 1]⟩
abbrev S2x8192x4096 : Shape := ⟨3, ![2, 8192, 4096]⟩
abbrev S2x256 : Shape := ⟨2, ![2, 256]⟩
abbrev S2x256x1 : Shape := ⟨3, ![2, 256, 1]⟩
abbrev S2x256x4096 : Shape := ⟨3, ![2, 256, 4096]⟩

abbrev nBuf : Space → Nat
  | .hbm => 110
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S8x6x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S512x1024, .f32⟩
  | .hbm, ⟨7, _⟩ => ⟨S2x256x1024, .f32⟩
  | .hbm, ⟨8, _⟩ => ⟨S16384x1024, .f32⟩
  | .hbm, ⟨9, _⟩ => ⟨S2x8192x1024, .f32⟩
  | .hbm, ⟨10, _⟩ => ⟨S2x1x1024, .f32⟩
  | .hbm, ⟨11, _⟩ => ⟨S2x1024, .f32⟩
  | .hbm, ⟨12, _⟩ => ⟨S2x1x1024, .f32⟩
  | .hbm, ⟨13, _⟩ => ⟨S2x1x1024, .f32⟩
  | .hbm, ⟨14, _⟩ => ⟨S2x1024, .f32⟩
  | .hbm, ⟨15, _⟩ => ⟨S2x1x1024, .f32⟩
  | .hbm, ⟨16, _⟩ => ⟨S2x1x1024, .f32⟩
  | .hbm, ⟨17, _⟩ => ⟨S2x1024, .f32⟩
  | .hbm, ⟨18, _⟩ => ⟨S2x1x1024, .f32⟩
  | .hbm, ⟨19, _⟩ => ⟨S2x1x1024, .f32⟩
  | .hbm, ⟨20, _⟩ => ⟨S2x1024, .f32⟩
  | .hbm, ⟨21, _⟩ => ⟨S2x1x1024, .f32⟩
  | .hbm, ⟨22, _⟩ => ⟨S2x1x1024, .f32⟩
  | .hbm, ⟨23, _⟩ => ⟨S2x1024, .f32⟩
  | .hbm, ⟨24, _⟩ => ⟨S2x1x1024, .f32⟩
  | .hbm, ⟨25, _⟩ => ⟨S2x1x1024, .f32⟩
  | .hbm, ⟨26, _⟩ => ⟨S2x1024, .f32⟩
  | .hbm, ⟨27, _⟩ => ⟨S2x1x1024, .f32⟩
  | .hbm, ⟨28, _⟩ => ⟨S1x1x1024, .f32⟩
  | .hbm, ⟨29, _⟩ => ⟨S1024, .f32⟩
  | .hbm, ⟨30, _⟩ => ⟨S1x1x1024, .f32⟩
  | .hbm, ⟨31, _⟩ => ⟨S1024, .f32⟩
  | .hbm, ⟨32, _⟩ => ⟨S1x1x1024, .f32⟩
  | .hbm, ⟨33, _⟩ => ⟨S1024, .f32⟩
  | .hbm, ⟨34, _⟩ => ⟨S1x1x1024, .f32⟩
  | .hbm, ⟨35, _⟩ => ⟨S1024, .f32⟩
  | .hbm, ⟨36, _⟩ => ⟨S1x1x1024, .f32⟩
  | .hbm, ⟨37, _⟩ => ⟨S1024, .f32⟩
  | .hbm, ⟨38, _⟩ => ⟨S1x1x1024, .f32⟩
  | .hbm, ⟨39, _⟩ => ⟨S1024, .f32⟩
  | .hbm, ⟨40, _⟩ => ⟨S2x8192x1024, .f32⟩
  | .hbm, ⟨41, _⟩ => ⟨S_, .f32⟩
  | .hbm, ⟨42, _⟩ => ⟨S2x8192, .f32⟩
  | .hbm, ⟨43, _⟩ => ⟨S2x8192x1, .f32⟩
  | .hbm, ⟨44, _⟩ => ⟨S_, .f32⟩
  | .hbm, ⟨45, _⟩ => ⟨S2x8192x1, .f32⟩
  | .hbm, ⟨46, _⟩ => ⟨S2x8192x1, .f32⟩
  | .hbm, ⟨47, _⟩ => ⟨S_, .f32⟩
  | .hbm, ⟨48, _⟩ => ⟨S2x8192x1, .f32⟩
  | .hbm, ⟨49, _⟩ => ⟨S2x8192x1, .f32⟩
  | .hbm, ⟨50, _⟩ => ⟨S2x8192x1, .f32⟩
  | .hbm, ⟨51, _⟩ => ⟨S2x8192x1024, .f32⟩
  | .hbm, ⟨52, _⟩ => ⟨S2x8192x1024, .f32⟩
  | .hbm, ⟨53, _⟩ => ⟨S1x1x1024, .f32⟩
  | .hbm, ⟨54, _⟩ => ⟨S2x8192x1024, .f32⟩
  | .hbm, ⟨55, _⟩ => ⟨S2x8192x1024, .f32⟩
  | .hbm, ⟨56, _⟩ => ⟨S_, .f32⟩
  | .hbm, ⟨57, _⟩ => ⟨S2x1x1024, .f32⟩
  | .hbm, ⟨58, _⟩ => ⟨S2x1x1024, .f32⟩
  | .hbm, ⟨59, _⟩ => ⟨S2x8192x1024, .f32⟩
  | .hbm, ⟨60, _⟩ => ⟨S2x8192x1024, .f32⟩
  | .hbm, ⟨61, _⟩ => ⟨S2x8192x1024, .f32⟩
  | .hbm, ⟨62, _⟩ => ⟨S2x8192x1024, .f32⟩
  | .hbm, ⟨63, _⟩ => ⟨S2x8192x4096, .f32⟩
  | .hbm, ⟨64, _⟩ => ⟨S_, .f32⟩
  | .hbm, ⟨65, _⟩ => ⟨S2x8192x4096, .f32⟩
  | .hbm, ⟨66, _⟩ => ⟨S2x8192x4096, .f32⟩
  | .hbm, ⟨67, _⟩ => ⟨S2x8192x4096, .f32⟩
  | .hbm, ⟨68, _⟩ => ⟨S2x8192x1024, .f32⟩
  | .hbm, ⟨69, _⟩ => ⟨S2x8192x1024, .f32⟩
  | .hbm, ⟨70, _⟩ => ⟨S2x8192x1024, .f32⟩
  | .hbm, ⟨71, _⟩ => ⟨S2x8192x1024, .f32⟩
  | .hbm, ⟨72, _⟩ => ⟨S2x256x1024, .f32⟩
  | .hbm, ⟨73, _⟩ => ⟨S_, .f32⟩
  | .hbm, ⟨74, _⟩ => ⟨S2x256, .f32⟩
  | .hbm, ⟨75, _⟩ => ⟨S2x256x1, .f32⟩
  | .hbm, ⟨76, _⟩ => ⟨S_, .f32⟩
  | .hbm, ⟨77, _⟩ => ⟨S2x256x1, .f32⟩
  | .hbm, ⟨78, _⟩ => ⟨S2x256x1, .f32⟩
  | .hbm, ⟨79, _⟩ => ⟨S_, .f32⟩
  | .hbm, ⟨80, _⟩ => ⟨S2x256x1, .f32⟩
  | .hbm, ⟨81, _⟩ => ⟨S2x256x1, .f32⟩
  | .hbm, ⟨82, _⟩ => ⟨S2x256x1, .f32⟩
  | .hbm, ⟨83, _⟩ => ⟨S2x256x1024, .f32⟩
  | .hbm, ⟨84, _⟩ => ⟨S2x256x1024, .f32⟩
  | .hbm, ⟨85, _⟩ => ⟨S1x1x1024, .f32⟩
  | .hbm, ⟨86, _⟩ => ⟨S2x256x1024, .f32⟩
  | .hbm, ⟨87, _⟩ => ⟨S2x256x1024, .f32⟩
  | .hbm, ⟨88, _⟩ => ⟨S_, .f32⟩
  | .hbm, ⟨89, _⟩ => ⟨S1024, .f32⟩
  | .hbm, ⟨90, _⟩ => ⟨S1024, .f32⟩
  | .hbm, ⟨91, _⟩ => ⟨S1x1x1024, .f32⟩
  | .hbm, ⟨92, _⟩ => ⟨S2x256x1024, .f32⟩
  | .hbm, ⟨93, _⟩ => ⟨S2x256x1024, .f32⟩
  | .hbm, ⟨94, _⟩ => ⟨S1x1x1024, .f32⟩
  | .hbm, ⟨95, _⟩ => ⟨S2x256x1024, .f32⟩
  | .hbm, ⟨96, _⟩ => ⟨S2x256x1024, .f32⟩
  | .hbm, ⟨97, _⟩ => ⟨S2x256x4096, .f32⟩
  | .hbm, ⟨98, _⟩ => ⟨S_, .f32⟩
  | .hbm, ⟨99, _⟩ => ⟨S2x256x4096, .f32⟩
  | .hbm, ⟨100, _⟩ => ⟨S2x256x4096, .f32⟩
  | .hbm, ⟨101, _⟩ => ⟨S2x256x4096, .f32⟩
  | .hbm, ⟨102, _⟩ => ⟨S2x256x1024, .f32⟩
  | .hbm, ⟨103, _⟩ => ⟨S1x1x1024, .f32⟩
  | .hbm, ⟨104, _⟩ => ⟨S2x256x1024, .f32⟩
  | .hbm, ⟨105, _⟩ => ⟨S2x256x1024, .f32⟩
  | .hbm, ⟨106, _⟩ => ⟨S2x256x1024, .f32⟩
  | .hbm, ⟨107, _⟩ => ⟨S512x1024, .f32⟩
  | .hbm, ⟨108, _⟩ => ⟨S16384x1024, .f32⟩
  | .hbm, ⟨109, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst : Ref sig .tc := ⟨.hbm, 41, rfl⟩
abbrev main_v35 : Ref sig .tc := ⟨.hbm, 42, rfl⟩
abbrev main_v36 : Ref sig .tc := ⟨.hbm, 43, rfl⟩
abbrev main_cst_0 : Ref sig .tc := ⟨.hbm, 44, rfl⟩
abbrev main_v37 : Ref sig .tc := ⟨.hbm, 45, rfl⟩
abbrev main_v38 : Ref sig .tc := ⟨.hbm, 46, rfl⟩
abbrev main_cst_1 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_2 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_call0_cst : Ref sig .tc := ⟨.hbm, 64, rfl⟩
abbrev main_call0_v0 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_3 : Ref sig .tc := ⟨.hbm, 73, rfl⟩
abbrev main_v61 : Ref sig .tc := ⟨.hbm, 74, rfl⟩
abbrev main_v62 : Ref sig .tc := ⟨.hbm, 75, rfl⟩
abbrev main_cst_4 : Ref sig .tc := ⟨.hbm, 76, rfl⟩
abbrev main_v63 : Ref sig .tc := ⟨.hbm, 77, rfl⟩
abbrev main_v64 : Ref sig .tc := ⟨.hbm, 78, rfl⟩
abbrev main_cst_5 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_6 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_call1_cst : Ref sig .tc := ⟨.hbm, 98, rfl⟩
abbrev main_call1_v0 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩

abbrev nD : Nat := 1
abbrev τ : Topo := Topo.v7x

variable {F : FTy → Type} [FloatOps F]
-- ==== Kernel4.lean ====
abbrev S16896x1024 : Shape := ⟨2, ![16896, 1024]⟩
abbrev S8x6x1024 : Shape := ⟨3, ![8, 6, 1024]⟩
abbrev S16896x2048 : Shape := ⟨2, ![16896, 2048]⟩
abbrev S2048 : Shape := ⟨1, ![2048]⟩
abbrev S2048x1024 : Shape := ⟨2, ![2048, 1024]⟩
abbrev S1x2048 : Shape := ⟨2, ![1, 2048]⟩
abbrev S16384x1024 : Shape := ⟨2, ![16384, 1024]⟩
abbrev S256x1024 : Shape := ⟨2, ![256, 1024]⟩
abbrev S1x6x1024 : Shape := ⟨3, ![1, 6, 1024]⟩
abbrev S256x2048 : Shape := ⟨2, ![256, 2048]⟩
abbrev S6x1024 : Shape := ⟨2, ![6, 1024]⟩
abbrev S256x512 : Shape := ⟨2, ![256, 512]⟩
abbrev S256 : Shape := ⟨1, ![256]⟩
abbrev S256x1 : Shape := ⟨2, ![256, 1]⟩
abbrev S1x1024 : Shape := ⟨2, ![1, 1024]⟩

abbrev nBuf : Space → Nat
  | .hbm => 13
  | .vmem => 17
  | .smem => 0
  | _ => 0

abbrev bufTy : (tb : Table) → Fin (tcTables nBuf tb) → BufTy
  | .hbm, ⟨0, _⟩ => ⟨S16896x1024, .f32⟩
  | .hbm, ⟨1, _⟩ => ⟨S8x6x1024, .f32⟩
  | .hbm, ⟨2, _⟩ => ⟨S16896x2048, .f32⟩
  | .hbm, ⟨3, _⟩ => ⟨S16896x2048, .f32⟩
  | .hbm, ⟨4, _⟩ => ⟨S16896x2048, .f32⟩
  | .hbm, ⟨5, _⟩ => ⟨S16896x2048, .f32⟩
  | .hbm, ⟨6, _⟩ => ⟨S2048, .f32⟩
  | .hbm, ⟨7, _⟩ => ⟨S2048, .f32⟩
  | .hbm, ⟨8, _⟩ => ⟨S2048x1024, .f32⟩
  | .hbm, ⟨9, _⟩ => ⟨S2048x1024, .bf16⟩
  | .hbm, ⟨10, _⟩ => ⟨S1x2048, .f32⟩
  | .hbm, ⟨11, _⟩ => ⟨S1x2048, .f32⟩
  | .hbm, ⟨12, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S1x2048, .f32⟩
  | .local _ .vmem, ⟨13, _⟩ => ⟨S1x2048, .f32⟩
  | .local _ .vmem, ⟨14, _⟩ => ⟨S2048x1024, .bf16⟩
  | .local _ .vmem, ⟨15, _⟩ => ⟨S256x1024, .f32⟩
  | .local _ .vmem, ⟨16, _⟩ => ⟨S256x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.addi arg0 c2_i32
  let c2_i32_0 : BitVec 32 := 2#32
  let v1 : BitVec 1 := Scalar.cmpi .slt v0 c2_i32_0
  let c2_i32_1 : BitVec 32 := 2#32
  let v2 : BitVec 32 := Scalar.subi v0 c2_i32_1
  let c32_i32 : BitVec 32 := 32#32
  let v3 : BitVec 32 := Scalar.divsi v2 c32_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c32_i32 c0_i32_3
  let v10 : BitVec 32 := Scalar.extui v9
  let c0_i32_4 : BitVec 32 := 0#32
  let v11 : BitVec 1 := Scalar.cmpi .slt c32_i32 c0_i32_4
  let v12 : BitVec 32 := Scalar.extui v11
  let v13 : BitVec 32 := Scalar.subi v10 v12
  let v14 : BitVec 1 := Scalar.cmpi .ne v8 v13
  let v15 : BitVec 32 := Scalar.remsi v2 c32_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c2_i32_6 : BitVec 32 := 2#32
  let v20 : BitVec 32 := Scalar.select v1 c2_i32_6 v19
  let c0_i32_7 : BitVec 32 := 0#32
  let c0_i32_8 : BitVec 32 := 0#32
  let c0_i32_9 : BitVec 32 := 0#32
  ![v20.toNat, c0_i32_7.toNat, c0_i32_8.toNat]

def cc0_transform_2 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S16896x1024 : Shape := ⟨2, ![16896, 1024]⟩
abbrev S8x6x1024 : Shape := ⟨3, ![8, 6, 1024]⟩
abbrev S16896x2048 : Shape := ⟨2, ![16896, 2048]⟩
abbrev S2048 : Shape := ⟨1, ![2048]⟩
abbrev S2048x1024 : Shape := ⟨2, ![2048, 1024]⟩
abbrev S16384x1024 : Shape := ⟨2, ![16384, 1024]⟩
abbrev S2x8192x1024 : Shape := ⟨3, ![2, 8192, 1024]⟩
abbrev S2x1x1024 : Shape := ⟨3, ![2, 1, 1024]⟩
abbrev S2x1024 : Shape := ⟨2, ![2, 1024]⟩
abbrev S16384x2048 : Shape := ⟨2, ![16384, 2048]⟩
abbrev S2x8192x2048 : Shape := ⟨3, ![2, 8192, 2048]⟩
abbrev S2x8192x4x512 : Shape := ⟨4, ![2, 8192, 4, 512]⟩
abbrev S_ : Shape := ⟨0, ![]⟩
abbrev S2x8192x4 : Shape := ⟨3, ![2, 8192, 4]⟩
abbrev S2x8192x4x1 : Shape := ⟨4, ![2, 8192, 4, 1]⟩
abbrev S1x1x2048 : Shape := ⟨3, ![1, 1, 2048]⟩

abbrev nBuf : Space → Nat
  | .hbm => 82
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S8x6x1024, .f32⟩
  | .hbm, ⟨2, _⟩ => ⟨S16896x2048, .f32⟩
  | .hbm, ⟨3, _⟩ => ⟨S16896x2048, .f32⟩
  | .hbm, ⟨4, _⟩ => ⟨S16896x2048, .f32⟩
  | .hbm, ⟨5, _⟩ => ⟨S16896x2048, .f32⟩
  | .hbm, ⟨6, _⟩ => ⟨S2048, .f32⟩
  | .hbm, ⟨7, _⟩ => ⟨S2048, .f32⟩
  | .hbm, ⟨8, _⟩ => ⟨S2048x1024, .f32⟩
  | .hbm, ⟨9, _⟩ => ⟨S16384x1024, .f32⟩
  | .hbm, ⟨10, _⟩ => ⟨S2x8192x1024, .f32⟩
  | .hbm, ⟨11, _⟩ => ⟨S2x1x1024, .f32⟩
  | .hbm, ⟨12, _⟩ => ⟨S2x1024, .f32⟩
  | .hbm, ⟨13, _⟩ => ⟨S2x1x1024, .f32⟩
  | .hbm, ⟨14, _⟩ => ⟨S2x1x1024, .f32⟩
  | .hbm, ⟨15, _⟩ => ⟨S2x1024, .f32⟩
  | .hbm, ⟨16, _⟩ => ⟨S2x1x1024, .f32⟩
  | .hbm, ⟨17, _⟩ => ⟨S2x1x1024, .f32⟩
  | .hbm, ⟨18, _⟩ => ⟨S2x1024, .f32⟩
  | .hbm, ⟨19, _⟩ => ⟨S2x1x1024, .f32⟩
  | .hbm, ⟨20, _⟩ => ⟨S2x1x1024, .f32⟩
  | .hbm, ⟨21, _⟩ => ⟨S2x1024, .f32⟩
  | .hbm, ⟨22, _⟩ => ⟨S2x1x1024, .f32⟩
  | .hbm, ⟨23, _⟩ => ⟨S2x1x1024, .f32⟩
  | .hbm, ⟨24, _⟩ => ⟨S2x1024, .f32⟩
  | .hbm, ⟨25, _⟩ => ⟨S2x1x1024, .f32⟩
  | .hbm, ⟨26, _⟩ => ⟨S2x1x1024, .f32⟩
  | .hbm, ⟨27, _⟩ => ⟨S2x1024, .f32⟩
  | .hbm, ⟨28, _⟩ => ⟨S2x1x1024, .f32⟩
  | .hbm, ⟨29, _⟩ => ⟨S16384x2048, .f32⟩
  | .hbm, ⟨30, _⟩ => ⟨S2x8192x2048, .f32⟩
  | .hbm, ⟨31, _⟩ => ⟨S16384x2048, .f32⟩
  | .hbm, ⟨32, _⟩ => ⟨S2x8192x2048, .f32⟩
  | .hbm, ⟨33, _⟩ => ⟨S2x8192x2048, .f32⟩
  | .hbm, ⟨34, _⟩ => ⟨S2x8192x4x512, .f32⟩
  | .hbm, ⟨35, _⟩ => ⟨S_, .f32⟩
  | .hbm, ⟨36, _⟩ => ⟨S2x8192x4, .f32⟩
  | .hbm, ⟨37, _⟩ => ⟨S2x8192x4x1, .f32⟩
  | .hbm, ⟨38, _⟩ => ⟨S_, .f32⟩
  | .hbm, ⟨39, _⟩ => ⟨S2x8192x4x1, .f32⟩
  | .hbm, ⟨40, _⟩ => ⟨S2x8192x4x1, .f32⟩
  | .hbm, ⟨41, _⟩ => ⟨S2x8192x4x512, .f32⟩
  | .hbm, ⟨42, _⟩ => ⟨S2x8192x4x512, .f32⟩
  | .hbm, ⟨43, _⟩ => ⟨S2x8192x4x512, .f32⟩
  | .hbm, ⟨44, _⟩ => ⟨S_, .f32⟩
  | .hbm, ⟨45, _⟩ => ⟨S2x8192x4, .f32⟩
  | .hbm, ⟨46, _⟩ => ⟨S2x8192x4x1, .f32⟩
  | .hbm, ⟨47, _⟩ => ⟨S_, .f32⟩
  | .hbm, ⟨48, _⟩ => ⟨S2x8192x4x1, .f32⟩
  | .hbm, ⟨49, _⟩ => ⟨S2x8192x4x1, .f32⟩
  | .hbm, ⟨50, _⟩ => ⟨S_, .f32⟩
  | .hbm, ⟨51, _⟩ => ⟨S2x8192x4x1, .f32⟩
  | .hbm, ⟨52, _⟩ => ⟨S2x8192x4x1, .f32⟩
  | .hbm, ⟨53, _⟩ => ⟨S2x8192x4x1, .f32⟩
  | .hbm, ⟨54, _⟩ => ⟨S2x8192x4x512, .f32⟩
  | .hbm, ⟨55, _⟩ => ⟨S2x8192x4x512, .f32⟩
  | .hbm, ⟨56, _⟩ => ⟨S2x8192x2048, .f32⟩
  | .hbm, ⟨57, _⟩ => ⟨S1x1x2048, .f32⟩
  | .hbm, ⟨58, _⟩ => ⟨S2x8192x2048, .f32⟩
  | .hbm, ⟨59, _⟩ => ⟨S2x8192x2048, .f32⟩
  | .hbm, ⟨60, _⟩ => ⟨S16384x2048, .f32⟩
  | .hbm, ⟨61, _⟩ => ⟨S2x8192x2048, .f32⟩
  | .hbm, ⟨62, _⟩ => ⟨S1x1x2048, .f32⟩
  | .hbm, ⟨63, _⟩ => ⟨S2x8192x2048, .f32⟩
  | .hbm, ⟨64, _⟩ => ⟨S2x8192x2048, .f32⟩
  | .hbm, ⟨65, _⟩ => ⟨S2x8192x2048, .f32⟩
  | .hbm, ⟨66, _⟩ => ⟨S16384x2048, .f32⟩
  | .hbm, ⟨67, _⟩ => ⟨S2x8192x2048, .f32⟩
  | .hbm, ⟨68, _⟩ => ⟨S2x8192x2048, .f32⟩
  | .hbm, ⟨69, _⟩ => ⟨S2x8192x2048, .f32⟩
  | .hbm, ⟨70, _⟩ => ⟨S_, .f32⟩
  | .hbm, ⟨71, _⟩ => ⟨S2x8192x2048, .f32⟩
  | .hbm, ⟨72, _⟩ => ⟨S2x8192x2048, .f32⟩
  | .hbm, ⟨73, _⟩ => ⟨S_, .f32⟩
  | .hbm, ⟨74, _⟩ => ⟨S2x8192x2048, .f32⟩
  | .hbm, ⟨75, _⟩ => ⟨S2x8192x2048, .f32⟩
  | .hbm, ⟨76, _⟩ => ⟨S2x8192x2048, .f32⟩
  | .hbm, ⟨77, _⟩ => ⟨S2x8192x1024, .f32⟩
  | .hbm, ⟨78, _⟩ => ⟨S2x8192x1024, .f32⟩
  | .hbm, ⟨79, _⟩ => ⟨S2x8192x1024, .f32⟩
  | .hbm, ⟨80, _⟩ => ⟨S2x8192x1024, .f32⟩
  | .hbm, ⟨81, _⟩ => ⟨S16384x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_cst_0 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_1 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_4 : Ref sig .tc := ⟨.hbm, 70, rfl⟩
abbrev main_v56 : Ref sig .tc := ⟨.hbm, 71, rfl⟩
abbrev main_v57 : Ref sig .tc := ⟨.hbm, 72, rfl⟩
abbrev main_cst_5 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩

abbrev nD : Nat := 1
abbrev τ : Topo := Topo.v7x

variable {F : FTy → Type} [FloatOps F]
-- ==== Kernel5.lean ====
abbrev S16896x1024 : Shape := ⟨2, ![16896, 1024]⟩
abbrev S8x6x1024 : Shape := ⟨3, ![8, 6, 1024]⟩
abbrev S16896x2560 : Shape := ⟨2, ![16896, 2560]⟩
abbrev S16896x512 : Shape := ⟨2, ![16896, 512]⟩
abbrev S512 : Shape := ⟨1, ![512]⟩
abbrev S512x1024 : Shape := ⟨2, ![512, 1024]⟩
abbrev S1024 : Shape := ⟨1, ![1024]⟩
abbrev S1024x1024 : Shape := ⟨2, ![1024, 1024]⟩
abbrev S1x512 : Shape := ⟨2, ![1, 512]⟩
abbrev S1x1024 : Shape := ⟨2, ![1, 1024]⟩
abbrev S1x6x1024 : Shape := ⟨3, ![1, 6, 1024]⟩
abbrev S512x512 : Shape := ⟨2, ![512, 512]⟩
abbrev S6x1024 : Shape := ⟨2, ![6, 1024]⟩
abbrev S512x128 : Shape := ⟨2, ![512, 128]⟩
abbrev S512x1 : Shape := ⟨2, ![512, 1]⟩

abbrev nBuf : Space → Nat
  | .hbm => 18
  | .vmem => 23
  | .smem => 0
  | _ => 0

abbrev bufTy : (tb : Table) → Fin (tcTables nBuf tb) → BufTy
  | .hbm, ⟨0, _⟩ => ⟨S16896x1024, .f32⟩
  | .hbm, ⟨1, _⟩ => ⟨S8x6x1024, .f32⟩
  | .hbm, ⟨2, _⟩ => ⟨S16896x2560, .f32⟩
  | .hbm, ⟨3, _⟩ => ⟨S16896x512, .f32⟩
  | .hbm, ⟨4, _⟩ => ⟨S16896x512, .f32⟩
  | .hbm, ⟨5, _⟩ => ⟨S16896x512, .f32⟩
  | .hbm, ⟨6, _⟩ => ⟨S16896x512, .f32⟩
  | .hbm, ⟨7, _⟩ => ⟨S512, .f32⟩
  | .hbm, ⟨8, _⟩ => ⟨S512x1024, .f32⟩
  | .hbm, ⟨9, _⟩ => ⟨S1024, .f32⟩
  | .hbm, ⟨10, _⟩ => ⟨S512, .f32⟩
  | .hbm, ⟨11, _⟩ => ⟨S1024x1024, .f32⟩
  | .hbm, ⟨12, _⟩ => ⟨S512x1024, .bf16⟩
  | .hbm, ⟨13, _⟩ => ⟨S1024x1024, .bf16⟩
  | .hbm, ⟨14, _⟩ => ⟨S1x512, .f32⟩
  | .hbm, ⟨15, _⟩ => ⟨S1x1024, .f32⟩
  | .hbm, ⟨16, _⟩ => ⟨S1x512, .f32⟩
  | .hbm, ⟨17, _⟩ => ⟨S16896x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S1x512, .f32⟩
  | .local _ .vmem, ⟨17, _⟩ => ⟨S512x1024, .bf16⟩
  | .local _ .vmem, ⟨18, _⟩ => ⟨S1x1024, .f32⟩
  | .local _ .vmem, ⟨19, _⟩ => ⟨S1x512, .f32⟩
  | .local _ .vmem, ⟨20, _⟩ => ⟨S1024x1024, .bf16⟩
  | .local _ .vmem, ⟨21, _⟩ => ⟨S512x1024, .f32⟩
  | .local _ .vmem, ⟨22, _⟩ => ⟨S512x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 1 := Scalar.cmpi .slt arg0 c1_i32
  let c1_i32_0 : BitVec 32 := 1#32
  let v1 : BitVec 32 := Scalar.subi arg0 c1_i32_0
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32 : BitVec 32 := 2#32
  let v19 : BitVec 32 := Scalar.select v0 c2_i32 v18
  let c0_i32_6 : BitVec 32 := 0#32
  let c0_i32_7 : BitVec 32 := 0#32
  let c0_i32_8 : BitVec 32 := 0#32
  ![v19.toNat, c0_i32_6.toNat, c0_i32_7.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S16896x1024 : Shape := ⟨2, ![16896, 1024]⟩
abbrev S8x6x1024 : Shape := ⟨3, ![8, 6, 1024]⟩
abbrev S16896x2560 : Shape := ⟨2, ![16896, 2560]⟩
abbrev S16896x512 : Shape := ⟨2, ![16896, 512]⟩
abbrev S512 : Shape := ⟨1, ![512]⟩
abbrev S512x1024 : Shape := ⟨2, ![512, 1024]⟩
abbrev S1024 : Shape := ⟨1, ![1024]⟩
abbrev S1024x1024 : Shape := ⟨2, ![1024, 1024]⟩
abbrev S2x1x1024 : Shape := ⟨3, ![2, 1, 1024]⟩
abbrev S2x1024 : Shape := ⟨2, ![2, 1024]⟩
abbrev S1x1x1024 : Shape := ⟨3, ![1, 1, 1024]⟩
abbrev S2x256x1024 : Shape := ⟨3, ![2, 256, 1024]⟩
abbrev S512x512 : Shape := ⟨2, ![512, 512]⟩
abbrev S2x256x512 : Shape := ⟨3, ![2, 256, 512]⟩
abbrev S1x1x512 : Shape := ⟨3, ![1, 1, 512]⟩
abbrev S_ : Shape := ⟨0, ![]⟩
abbrev S2x256x4x128 : Shape := ⟨4, ![2, 256, 4, 128]⟩
abbrev S2x256x4 : Shape := ⟨3, ![2, 256, 4]⟩
abbrev S2x256x4x1 : Shape := ⟨4, ![2, 256, 4, 1]⟩
abbrev S16384x1024 : Shape := ⟨2, ![16384, 1024]⟩
abbrev S2x8192x1024 : Shape := ⟨3, ![2, 8192, 1024]⟩
abbrev S16384x512 : Shape := ⟨2, ![16384, 512]⟩
abbrev S2x8192x512 : Shape := ⟨3, ![2, 8192, 512]⟩
abbrev S2x8192x4x128 : Shape := ⟨4, ![2, 8192, 4, 128]⟩
abbrev S2x8192x4 : Shape := ⟨3, ![2, 8192, 4]⟩
abbrev S2x8192x4x1 : Shape := ⟨4, ![2, 8192, 4, 1]⟩

abbrev nBuf : Space → Nat
  | .hbm => 234
  | .vmem => 0
  | .smem => 0
  | _ => 0

abbrev hbmTy0_0 (i : Nat) : BufTy := match i % 128 with
  | 0 => ⟨S16896x1024, .f32⟩
  | 1 => ⟨S8x6x1024, .f32⟩
  | 2 => ⟨S16896x2560, .f32⟩
  | 3 => ⟨S16896x512, .f32⟩
  | 4 => ⟨S16896x512, .f32⟩
  | 5 => ⟨S16896x512, .f32⟩
  | 6 => ⟨S16896x512, .f32⟩
  | 7 => ⟨S512, .f32⟩
  | 8 => ⟨S512x1024, .f32⟩
  | 9 => ⟨S1024, .f32⟩
  | 10 => ⟨S512, .f32⟩
  | 11 => ⟨S1024x1024, .f32⟩
  | 12 => ⟨S2x1x1024, .f32⟩
  | 13 => ⟨S2x1024, .f32⟩
  | 14 => ⟨S2x1x1024, .f32⟩
  | 15 => ⟨S2x1x1024, .f32⟩
  | 16 => ⟨S2x1024, .f32⟩
  | 17 => ⟨S2x1x1024, .f32⟩
  | 18 => ⟨S2x1x1024, .f32⟩
  | 19 => ⟨S2x1024, .f32⟩
  | 20 => ⟨S2x1x1024, .f32⟩
  | 21 => ⟨S2x1x1024, .f32⟩
  | 22 => ⟨S2x1024, .f32⟩
  | 23 => ⟨S2x1x1024, .f32⟩
  | 24 => ⟨S2x1x1024, .f32⟩
  | 25 => ⟨S2x1024, .f32⟩
  | 26 => ⟨S2x1x1024, .f32⟩
  | 27 => ⟨S2x1x1024, .f32⟩
  | 28 => ⟨S2x1024, .f32⟩
  | 29 => ⟨S2x1x1024, .f32⟩
  | 30 => ⟨S1x1x1024, .f32⟩
  | 31 => ⟨S1024, .f32⟩
  | 32 => ⟨S1x1x1024, .f32⟩
  | 33 => ⟨S1024, .f32⟩
  | 34 => ⟨S1x1x1024, .f32⟩
  | 35 => ⟨S1024, .f32⟩
  | 36 => ⟨S1x1x1024, .f32⟩
  | 37 => ⟨S1024, .f32⟩
  | 38 => ⟨S1x1x1024, .f32⟩
  | 39 => ⟨S1024, .f32⟩
  | 40 => ⟨S1x1x1024, .f32⟩
  | 41 => ⟨S1024, .f32⟩
  | 42 => ⟨S16896x512, .f32⟩
  | 43 => ⟨S16896x512, .f32⟩
  | 44 => ⟨S512x1024, .f32⟩
  | 45 => ⟨S2x256x1024, .f32⟩
  | 46 => ⟨S512x512, .f32⟩
  | 47 => ⟨S2x256x512, .f32⟩
  | 48 => ⟨S1x1x512, .f32⟩
  | 49 => ⟨S2x256x512, .f32⟩
  | 50 => ⟨S2x256x512, .f32⟩
  | 51 => ⟨S512x512, .f32⟩
  | 52 => ⟨S2x256x512, .f32⟩
  | 53 => ⟨S2x256x512, .f32⟩
  | 54 => ⟨S512x512, .f32⟩
  | 55 => ⟨S2x256x512, .f32⟩
  | 56 => ⟨S2x256x512, .f32⟩
  | 57 => ⟨S512x512, .f32⟩
  | 58 => ⟨S2x256x512, .f32⟩
  | 59 => ⟨S512x512, .f32⟩
  | 60 => ⟨S2x256x512, .f32⟩
  | 61 => ⟨S2x256x512, .f32⟩
  | 62 => ⟨S512x512, .f32⟩
  | 63 => ⟨S2x256x512, .f32⟩
  | 64 => ⟨S2x256x512, .f32⟩
  | 65 => ⟨S2x256x512, .f32⟩
  | 66 => ⟨S_, .f32⟩
  | 67 => ⟨S2x256x512, .f32⟩
  | 68 => ⟨S2x256x512, .f32⟩
  | 69 => ⟨S2x256x512, .f32⟩
  | 70 => ⟨S_, .f32⟩
  | 71 => ⟨S2x256x512, .f32⟩
  | 72 => ⟨S2x256x512, .f32⟩
  | 73 => ⟨S2x256x512, .f32⟩
  | 74 => ⟨S_, .f32⟩
  | 75 => ⟨S2x256x512, .f32⟩
  | 76 => ⟨S2x256x512, .f32⟩
  | 77 => ⟨S_, .f32⟩
  | 78 => ⟨S2x256x512, .f32⟩
  | 79 => ⟨S2x256x512, .f32⟩
  | 80 => ⟨S2x256x512, .f32⟩
  | 81 => ⟨S2x256x1024, .f32⟩
  | 82 => ⟨S1x1x1024, .f32⟩
  | 83 => ⟨S2x256x1024, .f32⟩
  | 84 => ⟨S2x256x1024, .f32⟩
  | 85 => ⟨S2x256x512, .f32⟩
  | 86 => ⟨S2x256x512, .f32⟩
  | 87 => ⟨S2x256x512, .f32⟩
  | 88 => ⟨S2x256x512, .f32⟩
  | 89 => ⟨S_, .f32⟩
  | 90 => ⟨S2x256x512, .f32⟩
  | 91 => ⟨S2x256x512, .f32⟩
  | 92 => ⟨S_, .f32⟩
  | 93 => ⟨S2x256x512, .f32⟩
  | 94 => ⟨S2x256x512, .f32⟩
  | 95 => ⟨S2x256x512, .f32⟩
  | 96 => ⟨S2x256x4x128, .f32⟩
  | 97 => ⟨S_, .f32⟩
  | 98 => ⟨S2x256x4, .f32⟩
  | 99 => ⟨S2x256x4x1, .f32⟩
  | 100 => ⟨S_, .f32⟩
  | 101 => ⟨S2x256x4x1, .f32⟩
  | 102 => ⟨S2x256x4x1, .f32⟩
  | 103 => ⟨S2x256x4x128, .f32⟩
  | 104 => ⟨S2x256x4x128, .f32⟩
  | 105 => ⟨S2x256x4x128, .f32⟩
  | 106 => ⟨S_, .f32⟩
  | 107 => ⟨S2x256x4, .f32⟩
  | 108 => ⟨S2x256x4x1, .f32⟩
  | 109 => ⟨S_, .f32⟩
  | 110 => ⟨S2x256x4x1, .f32⟩
  | 111 => ⟨S2x256x4x1, .f32⟩
  | 112 => ⟨S_, .f32⟩
  | 113 => ⟨S2x256x4x1, .f32⟩
  | 114 => ⟨S2x256x4x1, .f32⟩
  | 115 => ⟨S2x256x4x1, .f32⟩
  | 116 => ⟨S2x256x4x128, .f32⟩
  | 117 => ⟨S2x256x4x128, .f32⟩
  | 118 => ⟨S2x256x512, .f32⟩
  | 119 => ⟨S1x1x512, .f32⟩
  | 120 => ⟨S2x256x512, .f32⟩
  | 121 => ⟨S2x256x512, .f32⟩
  | 122 => ⟨S2x256x512, .f32⟩
  | 123 => ⟨S2x256x512, .f32⟩
  | 124 => ⟨S_, .f32⟩
  | 125 => ⟨S2x256x512, .f32⟩
  | 126 => ⟨S2x256x512, .f32⟩
  | 127 => ⟨S_, .f32⟩
  | _ => ⟨S16896x1024, .f32⟩

abbrev hbmTy0_1 (i : Nat) : BufTy := match i % 128 with
  | 0 => ⟨S2x256x512, .f32⟩
  | 1 => ⟨S2x256x512, .f32⟩
  | 2 => ⟨S2x256x512, .f32⟩
  | 3 => ⟨S2x256x512, .f32⟩
  | 4 => ⟨S2x256x1024, .f32⟩
  | 5 => ⟨S2x256x1024, .f32⟩
  | 6 => ⟨S1x1x1024, .f32⟩
  | 7 => ⟨S2x256x1024, .f32⟩
  | 8 => ⟨S2x256x1024, .f32⟩
  | 9 => ⟨S2x256x1024, .f32⟩
  | 10 => ⟨S16384x1024, .f32⟩
  | 11 => ⟨S2x8192x1024, .f32⟩
  | 12 => ⟨S16384x512, .f32⟩
  | 13 => ⟨S2x8192x512, .f32⟩
  | 14 => ⟨S1x1x512, .f32⟩
  | 15 => ⟨S2x8192x512, .f32⟩
  | 16 => ⟨S2x8192x512, .f32⟩
  | 17 => ⟨S16384x512, .f32⟩
  | 18 => ⟨S2x8192x512, .f32⟩
  | 19 => ⟨S2x8192x512, .f32⟩
  | 20 => ⟨S16384x512, .f32⟩
  | 21 => ⟨S2x8192x512, .f32⟩
  | 22 => ⟨S2x8192x512, .f32⟩
  | 23 => ⟨S16384x512, .f32⟩
  | 24 => ⟨S2x8192x512, .f32⟩
  | 25 => ⟨S16384x512, .f32⟩
  | 26 => ⟨S2x8192x512, .f32⟩
  | 27 => ⟨S2x8192x512, .f32⟩
  | 28 => ⟨S16384x512, .f32⟩
  | 29 => ⟨S2x8192x512, .f32⟩
  | 30 => ⟨S2x8192x512, .f32⟩
  | 31 => ⟨S2x8192x512, .f32⟩
  | 32 => ⟨S_, .f32⟩
  | 33 => ⟨S2x8192x512, .f32⟩
  | 34 => ⟨S2x8192x512, .f32⟩
  | 35 => ⟨S2x8192x512, .f32⟩
  | 36 => ⟨S_, .f32⟩
  | 37 => ⟨S2x8192x512, .f32⟩
  | 38 => ⟨S2x8192x512, .f32⟩
  | 39 => ⟨S2x8192x512, .f32⟩
  | 40 => ⟨S_, .f32⟩
  | 41 => ⟨S2x8192x512, .f32⟩
  | 42 => ⟨S2x8192x512, .f32⟩
  | 43 => ⟨S_, .f32⟩
  | 44 => ⟨S2x8192x512, .f32⟩
  | 45 => ⟨S2x8192x512, .f32⟩
  | 46 => ⟨S2x8192x512, .f32⟩
  | 47 => ⟨S2x8192x1024, .f32⟩
  | 48 => ⟨S1x1x1024, .f32⟩
  | 49 => ⟨S2x8192x1024, .f32⟩
  | 50 => ⟨S2x8192x1024, .f32⟩
  | 51 => ⟨S2x8192x512, .f32⟩
  | 52 => ⟨S2x8192x512, .f32⟩
  | 53 => ⟨S2x8192x512, .f32⟩
  | 54 => ⟨S2x8192x512, .f32⟩
  | 55 => ⟨S_, .f32⟩
  | 56 => ⟨S2x8192x512, .f32⟩
  | 57 => ⟨S2x8192x512, .f32⟩
  | 58 => ⟨S_, .f32⟩
  | 59 => ⟨S2x8192x512, .f32⟩
  | 60 => ⟨S2x8192x512, .f32⟩
  | 61 => ⟨S2x8192x512, .f32⟩
  | 62 => ⟨S2x8192x4x128, .f32⟩
  | 63 => ⟨S_, .f32⟩
  | 64 => ⟨S2x8192x4, .f32⟩
  | 65 => ⟨S2x8192x4x1, .f32⟩
  | 66 => ⟨S_, .f32⟩
  | 67 => ⟨S2x8192x4x1, .f32⟩
  | 68 => ⟨S2x8192x4x1, .f32⟩
  | 69 => ⟨S2x8192x4x128, .f32⟩
  | 70 => ⟨S2x8192x4x128, .f32⟩
  | 71 => ⟨S2x8192x4x128, .f32⟩
  | 72 => ⟨S_, .f32⟩
  | 73 => ⟨S2x8192x4, .f32⟩
  | 74 => ⟨S2x8192x4x1, .f32⟩
  | 75 => ⟨S_, .f32⟩
  | 76 => ⟨S2x8192x4x1, .f32⟩
  | 77 => ⟨S2x8192x4x1, .f32⟩
  | 78 => ⟨S_, .f32⟩
  | 79 => ⟨S2x8192x4x1, .f32⟩
  | 80 => ⟨S2x8192x4x1, .f32⟩
  | 81 => ⟨S2x8192x4x1, .f32⟩
  | 82 => ⟨S2x8192x4x128, .f32⟩
  | 83 => ⟨S2x8192x4x128, .f32⟩
  | 84 => ⟨S2x8192x512, .f32⟩
  | 85 => ⟨S1x1x512, .f32⟩
  | 86 => ⟨S2x8192x512, .f32⟩
  | 87 => ⟨S2x8192x512, .f32⟩
  | 88 => ⟨S2x8192x512, .f32⟩
  | 89 => ⟨S2x8192x512, .f32⟩
  | 90 => ⟨S_, .f32⟩
  | 91 => ⟨S2x8192x512, .f32⟩
  | 92 => ⟨S2x8192x512, .f32⟩
  | 93 => ⟨S_, .f32⟩
  | 94 => ⟨S2x8192x512, .f32⟩
  | 95 => ⟨S2x8192x512, .f32⟩
  | 96 => ⟨S2x8192x512, .f32⟩
  | 97 => ⟨S2x8192x512, .f32⟩
  | 98 => ⟨S2x8192x1024, .f32⟩
  | 99 => ⟨S2x8192x1024, .f32⟩
  | 100 => ⟨S2x8192x1024, .f32⟩
  | 101 => ⟨S2x8192x1024, .f32⟩
  | 102 => ⟨S2x8192x1024, .f32⟩
  | 103 => ⟨S512x1024, .f32⟩
  | 104 => ⟨S16384x1024, .f32⟩
  | 105 => ⟨S16896x1024, .f32⟩
  | _ => ⟨S16896x1024, .f32⟩

abbrev hbmTy (i : Nat) : BufTy := match i / 128 with
  | 0 => hbmTy0_0 i
  | 1 => hbmTy0_1 i
  | _ => ⟨S16896x1024, .f32⟩

abbrev bufTy : (tb : Table) → Fin (tcTables nBuf tb) → BufTy
  | .hbm, ⟨i, _⟩ => hbmTy i
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_0 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_1 : Ref sig .tc := ⟨.hbm, 74, rfl⟩
abbrev main_v60 : Ref sig .tc := ⟨.hbm, 75, rfl⟩
abbrev main_v61 : Ref sig .tc := ⟨.hbm, 76, rfl⟩
abbrev main_cst_2 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_3 : Ref sig .tc := ⟨.hbm, 89, rfl⟩
abbrev main_v73 : Ref sig .tc := ⟨.hbm, 90, rfl⟩
abbrev main_v74 : Ref sig .tc := ⟨.hbm, 91, rfl⟩
abbrev main_cst_4 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_5 : Ref sig .tc := ⟨.hbm, 97, rfl⟩
abbrev main_v79 : Ref sig .tc := ⟨.hbm, 98, rfl⟩
abbrev main_v80 : Ref sig .tc := ⟨.hbm, 99, rfl⟩
abbrev main_cst_6 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_cst_7 : Ref sig .tc := ⟨.hbm, 106, rfl⟩
abbrev main_v86 : Ref sig .tc := ⟨.hbm, 107, rfl⟩
abbrev main_v87 : Ref sig .tc := ⟨.hbm, 108, rfl⟩
abbrev main_cst_8 : Ref sig .tc := ⟨.hbm, 109, rfl⟩
abbrev main_v88 : Ref sig .tc := ⟨.hbm, 110, rfl⟩
abbrev main_v89 : Ref sig .tc := ⟨.hbm, 111, rfl⟩
abbrev main_cst_9 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_call0_v0 : Ref sig .tc := ⟨.hbm, 122, rfl⟩
abbrev main_call0_v1 : Ref sig .tc := ⟨.hbm, 123, rfl⟩
abbrev main_call0_cst : Ref sig .tc := ⟨.hbm, 124, rfl⟩
abbrev main_call0_v2 : Ref sig .tc := ⟨.hbm, 125, rfl⟩
abbrev main_call0_v3 : Ref sig .tc := ⟨.hbm, 126, rfl⟩
abbrev main_call0_cst_0 : Ref sig .tc := ⟨.hbm, 127, rfl⟩
abbrev main_call0_v4 : Ref sig .tc := ⟨.hbm, 128, rfl⟩
abbrev main_call0_v5 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_cst_10 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_cst_11 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_cst_12 : Ref sig .tc := ⟨.hbm, 168, rfl⟩
abbrev main_v135 : Ref sig .tc := ⟨.hbm, 169, rfl⟩
abbrev main_v136 : Ref sig .tc := ⟨.hbm, 170, rfl⟩
abbrev main_cst_13 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_cst_14 : Ref sig .tc := ⟨.hbm, 183, rfl⟩
abbrev main_v148 : Ref sig .tc := ⟨.hbm, 184, rfl⟩
abbrev main_v149 : Ref sig .tc := ⟨.hbm, 185, rfl⟩
abbrev main_cst_15 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_cst_16 : Ref sig .tc := ⟨.hbm, 191, rfl⟩
abbrev main_v154 : Ref sig .tc := ⟨.hbm, 192, rfl⟩
abbrev main_v155 : Ref sig .tc := ⟨.hbm, 193, rfl⟩
abbrev main_cst_17 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_cst_18 : Ref sig .tc := ⟨.hbm, 200, rfl⟩
abbrev main_v161 : Ref sig .tc := ⟨.hbm, 201, rfl⟩
abbrev main_v162 : Ref sig .tc := ⟨.hbm, 202, rfl⟩
abbrev main_cst_19 : Ref sig .tc := ⟨.hbm, 203, rfl⟩
abbrev main_v163 : Ref sig .tc := ⟨.hbm, 204, rfl⟩
abbrev main_v164 : Ref sig .tc := ⟨.hbm, 205, rfl⟩
abbrev main_cst_20 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_call1_v0 : Ref sig .tc := ⟨.hbm, 216, rfl⟩
abbrev main_call1_v1 : Ref sig .tc := ⟨.hbm, 217, rfl⟩
abbrev main_call1_cst : Ref sig .tc := ⟨.hbm, 218, rfl⟩
abbrev main_call1_v2 : Ref sig .tc := ⟨.hbm, 219, rfl⟩
abbrev main_call1_v3 : Ref sig .tc := ⟨.hbm, 220, rfl⟩
abbrev main_call1_cst_0 : Ref sig .tc := ⟨.hbm, 221, rfl⟩
abbrev main_call1_v4 : Ref sig .tc := ⟨.hbm, 222, rfl⟩
abbrev main_call1_v5 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩

abbrev nD : Nat := 1
abbrev τ : Topo := Topo.v7x

variable {F : FTy → Type} [FloatOps F]
-- ==== Kernel6.lean ====
abbrev S16896x1024 : Shape := ⟨2, ![16896, 1024]⟩
abbrev S8x6x1024 : Shape := ⟨3, ![8, 6, 1024]⟩
abbrev S1024 : Shape := ⟨1, ![1024]⟩
abbrev S1024x2560 : Shape := ⟨2, ![1024, 2560]⟩
abbrev S1x1024 : Shape := ⟨2, ![1, 1024]⟩
abbrev S16896x2560 : Shape := ⟨2, ![16896, 2560]⟩
abbrev S512x1024 : Shape := ⟨2, ![512, 1024]⟩
abbrev S1x6x1024 : Shape := ⟨3, ![1, 6, 1024]⟩
abbrev S512x2560 : Shape := ⟨2, ![512, 2560]⟩
abbrev S6x1024 : Shape := ⟨2, ![6, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 7
  | .vmem => 8
  | .smem => 0
  | _ => 0

abbrev bufTy : (tb : Table) → Fin (tcTables nBuf tb) → BufTy
  | .hbm, ⟨0, _⟩ => ⟨S16896x1024, .f32⟩
  | .hbm, ⟨1, _⟩ => ⟨S8x6x1024, .f32⟩
  | .hbm, ⟨2, _⟩ => ⟨S1024, .f32⟩
  | .hbm, ⟨3, _⟩ => ⟨S1024x2560, .f32⟩
  | .hbm, ⟨4, _⟩ => ⟨S1024x2560, .bf16⟩
  | .hbm, ⟨5, _⟩ => ⟨S1x1024, .f32⟩
  | .hbm, ⟨6, _⟩ => ⟨S16896x2560, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2560, .bf16⟩
  | .local _ .vmem, ⟨6, _⟩ => ⟨S512x2560, .f32⟩
  | .local _ .vmem, ⟨7, _⟩ => ⟨S512x2560, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 1 := Scalar.cmpi .slt arg0 c1_i32
  let c1_i32_0 : BitVec 32 := 1#32
  let v1 : BitVec 32 := Scalar.subi arg0 c1_i32_0
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32 : BitVec 32 := 2#32
  let v19 : BitVec 32 := Scalar.select v0 c2_i32 v18
  let c0_i32_6 : BitVec 32 := 0#32
  let c0_i32_7 : BitVec 32 := 0#32
  let c0_i32_8 : BitVec 32 := 0#32
  ![v19.toNat, c0_i32_6.toNat, c0_i32_7.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S16896x1024 : Shape := ⟨2, ![16896, 1024]⟩
abbrev S8x6x1024 : Shape := ⟨3, ![8, 6, 1024]⟩
abbrev S1024 : Shape := ⟨1, ![1024]⟩
abbrev S1024x2560 : Shape := ⟨2, ![1024, 2560]⟩
abbrev S2x1x1024 : Shape := ⟨3, ![2, 1, 1024]⟩
abbrev S2x1024 : Shape := ⟨2, ![2, 1024]⟩
abbrev S1x1x1024 : Shape := ⟨3, ![1, 1, 1024]⟩
abbrev S16384x1024 : Shape := ⟨2, ![16384, 1024]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S512x1024 : Shape := ⟨2, ![512, 1024]⟩
abbrev S2x256x1024 : Shape := ⟨3, ![2, 256, 1024]⟩
abbrev S2x256 : Shape := ⟨2, ![2, 256]⟩
abbrev S2x256x1 : Shape := ⟨3, ![2, 256, 1]⟩
abbrev S2x256x2560 : Shape := ⟨3, ![2, 256, 2560]⟩
abbrev S2x8192x2560 : Shape := ⟨3, ![2, 8192, 2560]⟩
abbrev S512x2560 : Shape := ⟨2, ![512, 2560]⟩
abbrev S16384x2560 : Shape := ⟨2, ![16384, 2560]⟩
abbrev S16896x2560 : Shape := ⟨2, ![16896, 2560]⟩

abbrev nBuf : Space → Nat
  | .hbm => 91
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S8x6x1024, .f32⟩
  | .hbm, ⟨2, _⟩ => ⟨S1024, .f32⟩
  | .hbm, ⟨3, _⟩ => ⟨S1024x2560, .f32⟩
  | .hbm, ⟨4, _⟩ => ⟨S2x1x1024, .f32⟩
  | .hbm, ⟨5, _⟩ => ⟨S2x1024, .f32⟩
  | .hbm, ⟨6, _⟩ => ⟨S2x1x1024, .f32⟩
  | .hbm, ⟨7, _⟩ => ⟨S2x1x1024, .f32⟩
  | .hbm, ⟨8, _⟩ => ⟨S2x1024, .f32⟩
  | .hbm, ⟨9, _⟩ => ⟨S2x1x1024, .f32⟩
  | .hbm, ⟨10, _⟩ => ⟨S2x1x1024, .f32⟩
  | .hbm, ⟨11, _⟩ => ⟨S2x1024, .f32⟩
  | .hbm, ⟨12, _⟩ => ⟨S2x1x1024, .f32⟩
  | .hbm, ⟨13, _⟩ => ⟨S2x1x1024, .f32⟩
  | .hbm, ⟨14, _⟩ => ⟨S2x1024, .f32⟩
  | .hbm, ⟨15, _⟩ => ⟨S2x1x1024, .f32⟩
  | .hbm, ⟨16, _⟩ => ⟨S2x1x1024, .f32⟩
  | .hbm, ⟨17, _⟩ => ⟨S2x1024, .f32⟩
  | .hbm, ⟨18, _⟩ => ⟨S2x1x1024, .f32⟩
  | .hbm, ⟨19, _⟩ => ⟨S2x1x1024, .f32⟩
  | .hbm, ⟨20, _⟩ => ⟨S2x1024, .f32⟩
  | .hbm, ⟨21, _⟩ => ⟨S2x1x1024, .f32⟩
  | .hbm, ⟨22, _⟩ => ⟨S1x1x1024, .f32⟩
  | .hbm, ⟨23, _⟩ => ⟨S1024, .f32⟩
  | .hbm, ⟨24, _⟩ => ⟨S1x1x1024, .f32⟩
  | .hbm, ⟨25, _⟩ => ⟨S1024, .f32⟩
  | .hbm, ⟨26, _⟩ => ⟨S1x1x1024, .f32⟩
  | .hbm, ⟨27, _⟩ => ⟨S1024, .f32⟩
  | .hbm, ⟨28, _⟩ => ⟨S1x1x1024, .f32⟩
  | .hbm, ⟨29, _⟩ => ⟨S1024, .f32⟩
  | .hbm, ⟨30, _⟩ => ⟨S1x1x1024, .f32⟩
  | .hbm, ⟨31, _⟩ => ⟨S1024, .f32⟩
  | .hbm, ⟨32, _⟩ => ⟨S1x1x1024, .f32⟩
  | .hbm, ⟨33, _⟩ => ⟨S1024, .f32⟩
  | .hbm, ⟨34, _⟩ => ⟨S16384x1024, .f32⟩
  | .hbm, ⟨35, _⟩ => ⟨S2x8192x1024, .f32⟩
  | .hbm, ⟨36, _⟩ => ⟨S2x8192x1024, .f32⟩
  | .hbm, ⟨37, _⟩ => ⟨S_, .f32⟩
  | .hbm, ⟨38, _⟩ => ⟨S2x8192, .f32⟩
  | .hbm, ⟨39, _⟩ => ⟨S2x8192x1, .f32⟩
  | .hbm, ⟨40, _⟩ => ⟨S_, .f32⟩
  | .hbm, ⟨41, _⟩ => ⟨S2x8192x1, .f32⟩
  | .hbm, ⟨42, _⟩ => ⟨S2x8192x1, .f32⟩
  | .hbm, ⟨43, _⟩ => ⟨S_, .f32⟩
  | .hbm, ⟨44, _⟩ => ⟨S2x8192x1, .f32⟩
  | .hbm, ⟨45, _⟩ => ⟨S2x8192x1, .f32⟩
  | .hbm, ⟨46, _⟩ => ⟨S2x8192x1, .f32⟩
  | .hbm, ⟨47, _⟩ => ⟨S2x8192x1024, .f32⟩
  | .hbm, ⟨48, _⟩ => ⟨S2x8192x1024, .f32⟩
  | .hbm, ⟨49, _⟩ => ⟨S1x1x1024, .f32⟩
  | .hbm, ⟨50, _⟩ => ⟨S2x8192x1024, .f32⟩
  | .hbm, ⟨51, _⟩ => ⟨S2x8192x1024, .f32⟩
  | .hbm, ⟨52, _⟩ => ⟨S_, .f32⟩
  | .hbm, ⟨53, _⟩ => ⟨S2x1x1024, .f32⟩
  | .hbm, ⟨54, _⟩ => ⟨S2x1x1024, .f32⟩
  | .hbm, ⟨55, _⟩ => ⟨S2x8192x1024, .f32⟩
  | .hbm, ⟨56, _⟩ => ⟨S2x8192x1024, .f32⟩
  | .hbm, ⟨57, _⟩ => ⟨S2x8192x1024, .f32⟩
  | .hbm, ⟨58, _⟩ => ⟨S2x8192x1024, .f32⟩
  | .hbm, ⟨59, _⟩ => ⟨S512x1024, .f32⟩
  | .hbm, ⟨60, _⟩ => ⟨S2x256x1024, .f32⟩
  | .hbm, ⟨61, _⟩ => ⟨S2x256x1024, .f32⟩
  | .hbm, ⟨62, _⟩ => ⟨S_, .f32⟩
  | .hbm, ⟨63, _⟩ => ⟨S2x256, .f32⟩
  | .hbm, ⟨64, _⟩ => ⟨S2x256x1, .f32⟩
  | .hbm, ⟨65, _⟩ => ⟨S_, .f32⟩
  | .hbm, ⟨66, _⟩ => ⟨S2x256x1, .f32⟩
  | .hbm, ⟨67, _⟩ => ⟨S2x256x1, .f32⟩
  | .hbm, ⟨68, _⟩ => ⟨S_, .f32⟩
  | .hbm, ⟨69, _⟩ => ⟨S2x256x1, .f32⟩
  | .hbm, ⟨70, _⟩ => ⟨S2x256x1, .f32⟩
  | .hbm, ⟨71, _⟩ => ⟨S2x256x1, .f32⟩
  | .hbm, ⟨72, _⟩ => ⟨S2x256x1024, .f32⟩
  | .hbm, ⟨73, _⟩ => ⟨S2x256x1024, .f32⟩
  | .hbm, ⟨74, _⟩ => ⟨S1x1x1024, .f32⟩
  | .hbm, ⟨75, _⟩ => ⟨S2x256x1024, .f32⟩
  | .hbm, ⟨76, _⟩ => ⟨S2x256x1024, .f32⟩
  | .hbm, ⟨77, _⟩ => ⟨S_, .f32⟩
  | .hbm, ⟨78, _⟩ => ⟨S1024, .f32⟩
  | .hbm, ⟨79, _⟩ => ⟨S1024, .f32⟩
  | .hbm, ⟨80, _⟩ => ⟨S1x1x1024, .f32⟩
  | .hbm, ⟨81, _⟩ => ⟨S2x256x1024, .f32⟩
  | .hbm, ⟨82, _⟩ => ⟨S2x256x1024, .f32⟩
  | .hbm, ⟨83, _⟩ => ⟨S1x1x1024, .f32⟩
  | .hbm, ⟨84, _⟩ => ⟨S2x256x1024, .f32⟩
  | .hbm, ⟨85, _⟩ => ⟨S2x256x1024, .f32⟩
  | .hbm, ⟨86, _⟩ => ⟨S2x256x2560, .f32⟩
  | .hbm, ⟨87, _⟩ => ⟨S2x8192x2560, .f32⟩
  | .hbm, ⟨88, _⟩ => ⟨S512x2560, .f32⟩
  | .hbm, ⟨89, _⟩ => ⟨S16384x2560, .f32⟩
  | .hbm, ⟨90, _⟩ => ⟨S16896x2560, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst : Ref sig .tc := ⟨.hbm, 37, rfl⟩
abbrev main_v33 : Ref sig .tc := ⟨.hbm, 38, rfl⟩
abbrev main_v34 : Ref sig .tc := ⟨.hbm, 39, rfl⟩
abbrev main_cst_0 : Ref sig .tc := ⟨.hbm, 40, rfl⟩
abbrev main_v35 : Ref sig .tc := ⟨.hbm, 41, rfl⟩
abbrev main_v36 : Ref sig .tc := ⟨.hbm, 42, rfl⟩
abbrev main_cst_1 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_cst_2 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_cst_3 : Ref sig .tc := ⟨.hbm, 62, rfl⟩
abbrev main_v54 : Ref sig .tc := ⟨.hbm, 63, rfl⟩
abbrev main_v55 : Ref sig .tc := ⟨.hbm, 64, rfl⟩
abbrev main_cst_4 : Ref sig .tc := ⟨.hbm, 65, rfl⟩
abbrev main_v56 : Ref sig .tc := ⟨.hbm, 66, rfl⟩
abbrev main_v57 : Ref sig .tc := ⟨.hbm, 67, rfl⟩
abbrev main_cst_5 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_cst_6 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩

abbrev nD : Nat := 1
abbrev τ : Topo := Topo.v7x

variable {F : FTy → Type} [FloatOps F]
-- ==== Kernel7.lean ====
abbrev S16896x1024 : Shape := ⟨2, ![16896, 1024]⟩
abbrev S8x6x1024 : Shape := ⟨3, ![8, 6, 1024]⟩
abbrev S1024 : Shape := ⟨1, ![1024]⟩
abbrev S1024x4112 : Shape := ⟨2, ![1024, 4112]⟩
abbrev S16 : Shape := ⟨1, ![16]⟩
abbrev S5x2048 : Shape := ⟨2, ![5, 2048]⟩
abbrev S2048 : Shape := ⟨1, ![2048]⟩
abbrev S512x4x4 : Shape := ⟨3, ![512, 4, 4]⟩
abbrev S1024x2048 : Shape := ⟨2, ![1024, 2048]⟩
abbrev S1024x16 : Shape := ⟨2, ![1024, 16]⟩
abbrev S_ : Shape := ⟨0, ![]⟩
abbrev S1024x128 : Shape := ⟨2, ![1024, 128]⟩
abbrev S16x1024 : Shape := ⟨2, ![16, 1024]⟩
abbrev S128 : Shape := ⟨1, ![128]⟩
abbrev S1x128 : Shape := ⟨2, ![1, 128]⟩
abbrev S16x1 : Shape := ⟨2, ![16, 1]⟩
abbrev S8x64x4x4 : Shape := ⟨4, ![8, 64, 4, 4]⟩
abbrev S64x64 : Shape := ⟨2, ![64, 64]⟩
abbrev S1x64x1x64x1 : Shape := ⟨5, ![1, 64, 1, 64, 1]⟩
abbrev S8x64x4x1x4 : Shape := ⟨5, ![8, 64, 4, 1, 4]⟩
abbrev S8x64x4x64x4 : Shape := ⟨5, ![8, 64, 4, 64, 4]⟩
abbrev S8x256x256 : Shape := ⟨3, ![8, 256, 256]⟩
abbrev S1x1024 : Shape := ⟨2, ![1, 1024]⟩
abbrev S1x2048 : Shape := ⟨2, ![1, 2048]⟩
abbrev S16896x2048 : Shape := ⟨2, ![16896, 2048]⟩
abbrev S16896x128 : Shape := ⟨2, ![16896, 128]⟩
abbrev S16x16896 : Shape := ⟨2, ![16, 16896]⟩
abbrev S256x1024 : Shape := ⟨2, ![256, 1024]⟩
abbrev S8x1024 : Shape := ⟨2, ![8, 1024]⟩
abbrev S1x6x1024 : Shape := ⟨3, ![1, 6, 1024]⟩
abbrev S256x2048 : Shape := ⟨2, ![256, 2048]⟩
abbrev S256x128 : Shape := ⟨2, ![256, 128]⟩
abbrev S16x256 : Shape := ⟨2, ![16, 256]⟩
abbrev S272x512 : Shape := ⟨2, ![272, 512]⟩
abbrev S6x1024 : Shape := ⟨2, ![6, 1024]⟩
abbrev S256 : Shape := ⟨1, ![256]⟩
abbrev S256x1 : Shape := ⟨2, ![256, 1]⟩
abbrev S8 : Shape := ⟨1, ![8]⟩
abbrev S8x1 : Shape := ⟨2, ![8, 1]⟩
abbrev S256x256 : Shape := ⟨2, ![256, 256]⟩
abbrev S1024x512 : Shape := ⟨2, ![1024, 512]⟩
abbrev S256x512 : Shape := ⟨2, ![256, 512]⟩
abbrev S8x512 : Shape := ⟨2, ![8, 512]⟩
abbrev S1x512 : Shape := ⟨2, ![1, 512]⟩
abbrev S1x256x256 : Shape := ⟨3, ![1, 256, 256]⟩

abbrev nBuf : Space → Nat
  | .hbm => 86
  | .vmem => 35
  | .smem => 0
  | _ => 0

abbrev bufTy : (tb : Table) → Fin (tcTables nBuf tb) → BufTy
  | .hbm, ⟨0, _⟩ => ⟨S16896x1024, .f32⟩
  | .hbm, ⟨1, _⟩ => ⟨S8x6x1024, .f32⟩
  | .hbm, ⟨2, _⟩ => ⟨S1024, .f32⟩
  | .hbm, ⟨3, _⟩ => ⟨S1024x4112, .f32⟩
  | .hbm, ⟨4, _⟩ => ⟨S16, .f32⟩
  | .hbm, ⟨5, _⟩ => ⟨S5x2048, .f32⟩
  | .hbm, ⟨6, _⟩ => ⟨S2048, .f32⟩
  | .hbm, ⟨7, _⟩ => ⟨S512x4x4, .f32⟩
  | .hbm, ⟨8, _⟩ => ⟨S512x4x4, .f32⟩
  | .hbm, ⟨9, _⟩ => ⟨S512x4x4, .f32⟩
  | .hbm, ⟨10, _⟩ => ⟨S1024x2048, .f32⟩
  | .hbm, ⟨11, _⟩ => ⟨S1024x2048, .bf16⟩
  | .hbm, ⟨12, _⟩ => ⟨S1024x2048, .f32⟩
  | .hbm, ⟨13, _⟩ => ⟨S1024x2048, .bf16⟩
  | .hbm, ⟨14, _⟩ => ⟨S1024x16, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x128, .bf16⟩
  | .hbm, ⟨19, _⟩ => ⟨S16x1024, .f32⟩
  | .hbm, ⟨20, _⟩ => ⟨S16x1024, .bf16⟩
  | .hbm, ⟨21, _⟩ => ⟨S_, .i32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S16x1, .f32⟩
  | .hbm, ⟨26, _⟩ => ⟨S8x64x4x4, .f32⟩
  | .hbm, ⟨27, _⟩ => ⟨S64x64, .i32⟩
  | .hbm, ⟨28, _⟩ => ⟨S64x64, .i32⟩
  | .hbm, ⟨29, _⟩ => ⟨S_, .i32⟩
  | .hbm, ⟨30, _⟩ => ⟨S64x64, .i32⟩
  | .hbm, ⟨31, _⟩ => ⟨S64x64, .i32⟩
  | .hbm, ⟨32, _⟩ => ⟨S64x64, .i1⟩
  | .hbm, ⟨33, _⟩ => ⟨S1x64x1x64x1, .i1⟩
  | .hbm, ⟨34, _⟩ => ⟨S8x64x4x1x4, .f32⟩
  | .hbm, ⟨35, _⟩ => ⟨S_, .f32⟩
  | .hbm, ⟨36, _⟩ => ⟨S_, .f32⟩
  | .hbm, ⟨37, _⟩ => ⟨S8x64x4x64x4, .i1⟩
  | .hbm, ⟨38, _⟩ => ⟨S8x64x4x64x4, .f32⟩
  | .hbm, ⟨39, _⟩ => ⟨S8x64x4x64x4, .f32⟩
  | .hbm, ⟨40, _⟩ => ⟨S8x64x4x64x4, .f32⟩
  | .hbm, ⟨41, _⟩ => ⟨S8x256x256, .f32⟩
  | .hbm, ⟨42, _⟩ => ⟨S8x256x256, .bf16⟩
  | .hbm, ⟨43, _⟩ => ⟨S8x64x4x4, .f32⟩
  | .hbm, ⟨44, _⟩ => ⟨S64x64, .i32⟩
  | .hbm, ⟨45, _⟩ => ⟨S64x64, .i32⟩
  | .hbm, ⟨46, _⟩ => ⟨S_, .i32⟩
  | .hbm, ⟨47, _⟩ => ⟨S64x64, .i32⟩
  | .hbm, ⟨48, _⟩ => ⟨S64x64, .i32⟩
  | .hbm, ⟨49, _⟩ => ⟨S64x64, .i1⟩
  | .hbm, ⟨50, _⟩ => ⟨S1x64x1x64x1, .i1⟩
  | .hbm, ⟨51, _⟩ => ⟨S8x64x4x1x4, .f32⟩
  | .hbm, ⟨52, _⟩ => ⟨S_, .f32⟩
  | .hbm, ⟨53, _⟩ => ⟨S_, .f32⟩
  | .hbm, ⟨54, _⟩ => ⟨S8x64x4x64x4, .i1⟩
  | .hbm, ⟨55, _⟩ => ⟨S8x64x4x64x4, .f32⟩
  | .hbm, ⟨56, _⟩ => ⟨S8x64x4x64x4, .f32⟩
  | .hbm, ⟨57, _⟩ => ⟨S8x64x4x64x4, .f32⟩
  | .hbm, ⟨58, _⟩ => ⟨S8x256x256, .f32⟩
  | .hbm, ⟨59, _⟩ => ⟨S8x256x256, .bf16⟩
  | .hbm, ⟨60, _⟩ => ⟨S8x64x4x4, .f32⟩
  | .hbm, ⟨61, _⟩ => ⟨S64x64, .i32⟩
  | .hbm, ⟨62, _⟩ => ⟨S64x64, .i32⟩
  | .hbm, ⟨63, _⟩ => ⟨S_, .i32⟩
  | .hbm, ⟨64, _⟩ => ⟨S64x64, .i32⟩
  | .hbm, ⟨65, _⟩ => ⟨S64x64, .i32⟩
  | .hbm, ⟨66, _⟩ => ⟨S64x64, .i1⟩
  | .hbm, ⟨67, _⟩ => ⟨S1x64x1x64x1, .i1⟩
  | .hbm, ⟨68, _⟩ => ⟨S8x64x4x1x4, .f32⟩
  | .hbm, ⟨69, _⟩ => ⟨S_, .f32⟩
  | .hbm, ⟨70, _⟩ => ⟨S_, .f32⟩
  | .hbm, ⟨71, _⟩ => ⟨S8x64x4x64x4, .i1⟩
  | .hbm, ⟨72, _⟩ => ⟨S8x64x4x64x4, .f32⟩
  | .hbm, ⟨73, _⟩ => ⟨S8x64x4x64x4, .f32⟩
  | .hbm, ⟨74, _⟩ => ⟨S8x64x4x64x4, .f32⟩
  | .hbm, ⟨75, _⟩ => ⟨S8x256x256, .f32⟩
  | .hbm, ⟨76, _⟩ => ⟨S8x256x256, .bf16⟩
  | .hbm, ⟨77, _⟩ => ⟨S1x1024, .f32⟩
  | .hbm, ⟨78, _⟩ => ⟨S1x2048, .f32⟩
  | .hbm, ⟨79, _⟩ => ⟨S16896x2048, .bf16⟩
  | .hbm, ⟨80, _⟩ => ⟨S16896x2048, .bf16⟩
  | .hbm, ⟨81, _⟩ => ⟨S16896x2048, .bf16⟩
  | .hbm, ⟨82, _⟩ => ⟨S16896x2048, .f32⟩
  | .hbm, ⟨83, _⟩ => ⟨S16896x2048, .f32⟩
  | .hbm, ⟨84, _⟩ => ⟨S16896x128, .f32⟩
  | .hbm, ⟨85, _⟩ => ⟨S16x16896, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1024x2048, .bf16⟩
  | .local _ .vmem, ⟨10, _⟩ => ⟨S1024x2048, .bf16⟩
  | .local _ .vmem, ⟨11, _⟩ => ⟨S1024x128, .bf16⟩
  | .local _ .vmem, ⟨12, _⟩ => ⟨S16x1024, .bf16⟩
  | .local _ .vmem, ⟨13, _⟩ => ⟨S1x128, .f32⟩
  | .local _ .vmem, ⟨14, _⟩ => ⟨S16x1, .f32⟩
  | .local _ .vmem, ⟨15, _⟩ => ⟨S5x2048, .f32⟩
  | .local _ .vmem, ⟨16, _⟩ => ⟨S1x2048, .f32⟩
  | .local _ .vmem, ⟨17, _⟩ => ⟨S8x256x256, .bf16⟩
  | .local _ .vmem, ⟨18, _⟩ => ⟨S8x256x256, .bf16⟩
  | .local _ .vmem, ⟨19, _⟩ => ⟨S8x256x256, .bf16⟩
  | .local _ .vmem, ⟨20, _⟩ => ⟨S256x2048, .bf16⟩
  | .local _ .vmem, ⟨21, _⟩ => ⟨S256x2048, .bf16⟩
  | .local _ .vmem, ⟨22, _⟩ => ⟨S256x2048, .bf16⟩
  | .local _ .vmem, ⟨23, _⟩ => ⟨S256x2048, .bf16⟩
  | .local _ .vmem, ⟨24, _⟩ => ⟨S256x2048, .bf16⟩
  | .local _ .vmem, ⟨25, _⟩ => ⟨S256x2048, .bf16⟩
  | .local _ .vmem, ⟨26, _⟩ => ⟨S256x2048, .f32⟩
  | .local _ .vmem, ⟨27, _⟩ => ⟨S256x2048, .f32⟩
  | .local _ .vmem, ⟨28, _⟩ => ⟨S256x2048, .f32⟩
  | .local _ .vmem, ⟨29, _⟩ => ⟨S256x2048, .f32⟩
  | .local _ .vmem, ⟨30, _⟩ => ⟨S256x128, .f32⟩
  | .local _ .vmem, ⟨31, _⟩ => ⟨S256x128, .f32⟩
  | .local _ .vmem, ⟨32, _⟩ => ⟨S16x256, .f32⟩
  | .local _ .vmem, ⟨33, _⟩ => ⟨S16x256, .f32⟩
  | .local _ .vmem, ⟨34, _⟩ => ⟨S272x512, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_3 : Ref sig .tc := ⟨.hbm, 52, rfl⟩
abbrev main_call3_v0 : Ref sig .tc := ⟨.hbm, 53, rfl⟩
abbrev main_call3_v1 : Ref sig .tc := ⟨.hbm, 54, rfl⟩
abbrev main_call3_v2 : Ref sig .tc := ⟨.hbm, 55, rfl⟩
abbrev main_call3_v3 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_4 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_5 : Ref sig .tc := ⟨.hbm, 69, rfl⟩
abbrev main_call4_v0 : Ref sig .tc := ⟨.hbm, 70, rfl⟩
abbrev main_call4_v1 : Ref sig .tc := ⟨.hbm, 71, rfl⟩
abbrev main_call4_v2 : Ref sig .tc := ⟨.hbm, 72, rfl⟩
abbrev main_call4_v3 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47_0 : Ref sig .tc := ⟨.hbm, 79, rfl⟩
abbrev main_v47_1 : Ref sig .tc := ⟨.hbm, 80, rfl⟩
abbrev main_v47_2 : Ref sig .tc := ⟨.hbm, 81, rfl⟩
abbrev main_v47_3 : Ref sig .tc := ⟨.hbm, 82, rfl⟩
abbrev main_v47_4 : Ref sig .tc := ⟨.hbm, 83, rfl⟩
abbrev main_v47_5 : Ref sig .tc := ⟨.hbm, 84, rfl⟩
abbrev main_v47_6 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2111_i32 : BitVec 32 := 2111#32
  let v2 : BitVec 32 := Scalar.minsi v1 c2111_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c2_i32 : BitVec 32 := 2#32
  let v0 : BitVec 1 := Scalar.cmpi .slt arg0 c2_i32
  let c2_i32_0 : BitVec 32 := 2#32
  let v1 : BitVec 32 := Scalar.subi arg0 c2_i32_0
  let c32_i32 : BitVec 32 := 32#32
  let v2 : BitVec 32 := Scalar.divsi v1 c32_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let v19 : BitVec 32 := Scalar.select v0 c2_i32_5 v18
  let c0_i32_6 : BitVec 32 := 0#32
  let c0_i32_7 : BitVec 32 := 0#32
  let c0_i32_8 : BitVec 32 := 0#32
  ![v19.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S5x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x2048 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x2048 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S16x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Reference7Ideal.lean ====
abbrev S16896x1024 : Shape := ⟨2, ![16896, 1024]⟩
abbrev S8x6x1024 : Shape := ⟨3, ![8, 6, 1024]⟩
abbrev S1024 : Shape := ⟨1, ![1024]⟩
abbrev S1024x4112 : Shape := ⟨2, ![1024, 4112]⟩
abbrev S16 : Shape := ⟨1, ![16]⟩
abbrev S5x2048 : Shape := ⟨2, ![5, 2048]⟩
abbrev S2048 : Shape := ⟨1, ![2048]⟩
abbrev S512x4x4 : Shape := ⟨3, ![512, 4, 4]⟩
abbrev S2x1x1024 : Shape := ⟨3, ![2, 1, 1024]⟩
abbrev S2x1024 : Shape := ⟨2, ![2, 1024]⟩
abbrev S1x1x1024 : Shape := ⟨3, ![1, 1, 1024]⟩
abbrev S_ : Shape := ⟨0, ![]⟩
abbrev S128x128 : Shape := ⟨2, ![128, 128]⟩
abbrev S512x1024 : Shape := ⟨2, ![512, 1024]⟩
abbrev S2x256x1024 : Shape := ⟨3, ![2, 256, 1024]⟩
abbrev S2x256 : Shape := ⟨2, ![2, 256]⟩
abbrev S2x256x1 : Shape := ⟨3, ![2, 256, 1]⟩
abbrev S2x256x4112 : Shape := ⟨3, ![2, 256, 4112]⟩
abbrev S2x256x2048 : Shape := ⟨3, ![2, 256, 2048]⟩
abbrev S2x256x16 : Shape := ⟨3, ![2, 256, 16]⟩
abbrev S2x260x2048 : Shape := ⟨3, ![2, 260, 2048]⟩
abbrev S1x2048 : Shape := ⟨2, ![1, 2048]⟩
abbrev S1x1x2048 : Shape := ⟨3, ![1, 1, 2048]⟩
abbrev S2x256x512x4 : Shape := ⟨4, ![2, 256, 512, 4]⟩
abbrev S512x4x2x256 : Shape := ⟨4, ![512, 4, 2, 256]⟩
abbrev S1x1x16 : Shape := ⟨3, ![1, 1, 16]⟩
abbrev S2x256x4 : Shape := ⟨3, ![2, 256, 4]⟩
abbrev S2x2x1x128x4 : Shape := ⟨5, ![2, 2, 1, 128, 4]⟩
abbrev S128x128x1 : Shape := ⟨3, ![128, 128, 1]⟩
abbrev S2x2x128x128x4 : Shape := ⟨5, ![2, 2, 128, 128, 4]⟩
abbrev S2x2x128x4 : Shape := ⟨4, ![2, 2, 128, 4]⟩
abbrev S16384x1024 : Shape := ⟨2, ![16384, 1024]⟩
abbrev S2x8192x1024 : Shape := ⟨3, ![2, 8192, 1024]⟩
abbrev S2x8192 : Shape := ⟨2, ![2, 8192]⟩
abbrev S2x8192x1 : Shape := ⟨3, ![2, 8192, 1]⟩
abbrev S2x8192x4112 : Shape := ⟨3, ![2, 8192, 4112]⟩
abbrev S2x8192x2048 : Shape := ⟨3, ![2, 8192, 2048]⟩
abbrev S2x8192x16 : Shape := ⟨3, ![2, 8192, 16]⟩
abbrev S2x8196x2048 : Shape := ⟨3, ![2, 8196, 2048]⟩
abbrev S2x8192x512x4 : Shape := ⟨4, ![2, 8192, 512, 4]⟩
abbrev S512x4x2x8192 : Shape := ⟨4, ![512, 4, 2, 8192]⟩
abbrev S2x8192x4 : Shape := ⟨3, ![2, 8192, 4]⟩
abbrev S2x64x1x128x4 : Shape := ⟨5, ![2, 64, 1, 128, 4]⟩
abbrev S2x64x128x128x4 : Shape := ⟨5, ![2, 64, 128, 128, 4]⟩
abbrev S2x64x128x4 : Shape := ⟨4, ![2, 64, 128, 4]⟩
abbrev S512x2048 : Shape := ⟨2, ![512, 2048]⟩
abbrev S16384x2048 : Shape := ⟨2, ![16384, 2048]⟩
abbrev S16896x2048 : Shape := ⟨2, ![16896, 2048]⟩
abbrev S512x16 : Shape := ⟨2, ![512, 16]⟩
abbrev S16384x16 : Shape := ⟨2, ![16384, 16]⟩
abbrev S16896x16 : Shape := ⟨2, ![16896, 16]⟩
abbrev S16896x128 : Shape := ⟨2, ![16896, 128]⟩
abbrev S16x16896 : Shape := ⟨2, ![16, 16896]⟩

abbrev nBuf : Space → Nat
  | .hbm => 396
  | .vmem => 0
  | .smem => 0
  | _ => 0

abbrev hbmTy0_0 (i : Nat) : BufTy := match i % 128 with
  | 0 => ⟨S16896x1024, .f32⟩
  | 1 => ⟨S8x6x1024, .f32⟩
  | 2 => ⟨S1024, .f32⟩
  | 3 => ⟨S1024x4112, .f32⟩
  | 4 => ⟨S16, .f32⟩
  | 5 => ⟨S5x2048, .f32⟩
  | 6 => ⟨S2048, .f32⟩
  | 7 => ⟨S512x4x4, .f32⟩
  | 8 => ⟨S512x4x4, .f32⟩
  | 9 => ⟨S512x4x4, .f32⟩
  | 10 => ⟨S2x1x1024, .f32⟩
  | 11 => ⟨S2x1024, .f32⟩
  | 12 => ⟨S2x1x1024, .f32⟩
  | 13 => ⟨S2x1x1024, .f32⟩
  | 14 => ⟨S2x1024, .f32⟩
  | 15 => ⟨S2x1x1024, .f32⟩
  | 16 => ⟨S2x1x1024, .f32⟩
  | 17 => ⟨S2x1024, .f32⟩
  | 18 => ⟨S2x1x1024, .f32⟩
  | 19 => ⟨S2x1x1024, .f32⟩
  | 20 => ⟨S2x1024, .f32⟩
  | 21 => ⟨S2x1x1024, .f32⟩
  | 22 => ⟨S2x1x1024, .f32⟩
  | 23 => ⟨S2x1024, .f32⟩
  | 24 => ⟨S2x1x1024, .f32⟩
  | 25 => ⟨S2x1x1024, .f32⟩
  | 26 => ⟨S2x1024, .f32⟩
  | 27 => ⟨S2x1x1024, .f32⟩
  | 28 => ⟨S1x1x1024, .f32⟩
  | 29 => ⟨S1024, .f32⟩
  | 30 => ⟨S1x1x1024, .f32⟩
  | 31 => ⟨S1024, .f32⟩
  | 32 => ⟨S1x1x1024, .f32⟩
  | 33 => ⟨S1024, .f32⟩
  | 34 => ⟨S1x1x1024, .f32⟩
  | 35 => ⟨S1024, .f32⟩
  | 36 => ⟨S1x1x1024, .f32⟩
  | 37 => ⟨S1024, .f32⟩
  | 38 => ⟨S1x1x1024, .f32⟩
  | 39 => ⟨S1024, .f32⟩
  | 40 => ⟨S_, .i1⟩
  | 41 => ⟨S128x128, .i1⟩
  | 42 => ⟨S128x128, .i32⟩
  | 43 => ⟨S_, .i32⟩
  | 44 => ⟨S128x128, .i32⟩
  | 45 => ⟨S128x128, .i32⟩
  | 46 => ⟨S128x128, .i32⟩
  | 47 => ⟨S128x128, .i1⟩
  | 48 => ⟨S_, .i1⟩
  | 49 => ⟨S128x128, .i1⟩
  | 50 => ⟨S128x128, .i1⟩
  | 51 => ⟨S512x1024, .f32⟩
  | 52 => ⟨S2x256x1024, .f32⟩
  | 53 => ⟨S2x256x1024, .f32⟩
  | 54 => ⟨S_, .f32⟩
  | 55 => ⟨S2x256, .f32⟩
  | 56 => ⟨S2x256x1, .f32⟩
  | 57 => ⟨S_, .f32⟩
  | 58 => ⟨S2x256x1, .f32⟩
  | 59 => ⟨S2x256x1, .f32⟩
  | 60 => ⟨S_, .f32⟩
  | 61 => ⟨S2x256x1, .f32⟩
  | 62 => ⟨S2x256x1, .f32⟩
  | 63 => ⟨S2x256x1, .f32⟩
  | 64 => ⟨S2x256x1024, .f32⟩
  | 65 => ⟨S2x256x1024, .f32⟩
  | 66 => ⟨S1x1x1024, .f32⟩
  | 67 => ⟨S2x256x1024, .f32⟩
  | 68 => ⟨S2x256x1024, .f32⟩
  | 69 => ⟨S_, .f32⟩
  | 70 => ⟨S1024, .f32⟩
  | 71 => ⟨S1024, .f32⟩
  | 72 => ⟨S1x1x1024, .f32⟩
  | 73 => ⟨S2x256x1024, .f32⟩
  | 74 => ⟨S2x256x1024, .f32⟩
  | 75 => ⟨S1x1x1024, .f32⟩
  | 76 => ⟨S2x256x1024, .f32⟩
  | 77 => ⟨S2x256x1024, .f32⟩
  | 78 => ⟨S2x256x4112, .f32⟩
  | 79 => ⟨S2x256x2048, .f32⟩
  | 80 => ⟨S2x256x2048, .f32⟩
  | 81 => ⟨S2x256x16, .f32⟩
  | 82 => ⟨S_, .i32⟩
  | 83 => ⟨S_, .f32⟩
  | 84 => ⟨S2x260x2048, .f32⟩
  | 85 => ⟨S2x256x2048, .f32⟩
  | 86 => ⟨S1x2048, .f32⟩
  | 87 => ⟨S2048, .f32⟩
  | 88 => ⟨S1x1x2048, .f32⟩
  | 89 => ⟨S2x256x2048, .f32⟩
  | 90 => ⟨S2x256x2048, .f32⟩
  | 91 => ⟨S_, .f32⟩
  | 92 => ⟨S2x256x2048, .f32⟩
  | 93 => ⟨S2x256x2048, .f32⟩
  | 94 => ⟨S2x256x2048, .f32⟩
  | 95 => ⟨S1x2048, .f32⟩
  | 96 => ⟨S2048, .f32⟩
  | 97 => ⟨S1x1x2048, .f32⟩
  | 98 => ⟨S2x256x2048, .f32⟩
  | 99 => ⟨S2x256x2048, .f32⟩
  | 100 => ⟨S2x256x2048, .f32⟩
  | 101 => ⟨S2x256x2048, .f32⟩
  | 102 => ⟨S1x2048, .f32⟩
  | 103 => ⟨S2048, .f32⟩
  | 104 => ⟨S1x1x2048, .f32⟩
  | 105 => ⟨S2x256x2048, .f32⟩
  | 106 => ⟨S2x256x2048, .f32⟩
  | 107 => ⟨S2x256x2048, .f32⟩
  | 108 => ⟨S2x256x2048, .f32⟩
  | 109 => ⟨S1x2048, .f32⟩
  | 110 => ⟨S2048, .f32⟩
  | 111 => ⟨S1x1x2048, .f32⟩
  | 112 => ⟨S2x256x2048, .f32⟩
  | 113 => ⟨S2x256x2048, .f32⟩
  | 114 => ⟨S2x256x2048, .f32⟩
  | 115 => ⟨S2x256x2048, .f32⟩
  | 116 => ⟨S1x2048, .f32⟩
  | 117 => ⟨S2048, .f32⟩
  | 118 => ⟨S1x1x2048, .f32⟩
  | 119 => ⟨S2x256x2048, .f32⟩
  | 120 => ⟨S2x256x2048, .f32⟩
  | 121 => ⟨S2x256x2048, .f32⟩
  | 122 => ⟨S1x1x2048, .f32⟩
  | 123 => ⟨S2x256x2048, .f32⟩
  | 124 => ⟨S2x256x2048, .f32⟩
  | 125 => ⟨S2x256x2048, .f32⟩
  | 126 => ⟨S2x256x2048, .f32⟩
  | 127 => ⟨S_, .f32⟩
  | _ => ⟨S16896x1024, .f32⟩

abbrev hbmTy0_1 (i : Nat) : BufTy := match i % 128 with
  | 0 => ⟨S2x256x2048, .f32⟩
  | 1 => ⟨S2x256x2048, .f32⟩
  | 2 => ⟨S_, .f32⟩
  | 3 => ⟨S2x256x2048, .f32⟩
  | 4 => ⟨S2x256x2048, .f32⟩
  | 5 => ⟨S2x256x2048, .f32⟩
  | 6 => ⟨S2x256x512x4, .f32⟩
  | 7 => ⟨S512x4x2x256, .f32⟩
  | 8 => ⟨S2x256x512x4, .f32⟩
  | 9 => ⟨S2x256x2048, .f32⟩
  | 10 => ⟨S2x256x512x4, .f32⟩
  | 11 => ⟨S512x4x2x256, .f32⟩
  | 12 => ⟨S2x256x512x4, .f32⟩
  | 13 => ⟨S2x256x2048, .f32⟩
  | 14 => ⟨S_, .f32⟩
  | 15 => ⟨S2x256x2048, .f32⟩
  | 16 => ⟨S2x256x2048, .f32⟩
  | 17 => ⟨S2x256x512x4, .f32⟩
  | 18 => ⟨S512x4x2x256, .f32⟩
  | 19 => ⟨S2x256x512x4, .f32⟩
  | 20 => ⟨S2x256x2048, .f32⟩
  | 21 => ⟨S1x1x16, .f32⟩
  | 22 => ⟨S2x256x16, .f32⟩
  | 23 => ⟨S2x256x16, .f32⟩
  | 24 => ⟨S2x256x4, .f32⟩
  | 25 => ⟨S2x256x4, .f32⟩
  | 26 => ⟨S2x256x4, .f32⟩
  | 27 => ⟨S2x256x4, .f32⟩
  | 28 => ⟨S2x256x4, .f32⟩
  | 29 => ⟨S_, .f32⟩
  | 30 => ⟨S2x256x4, .f32⟩
  | 31 => ⟨S2x256x4, .f32⟩
  | 32 => ⟨S2x256x4, .f32⟩
  | 33 => ⟨S2x256x4, .f32⟩
  | 34 => ⟨S2x256x4, .i1⟩
  | 35 => ⟨S2x256x4, .f32⟩
  | 36 => ⟨S2x256x4, .f32⟩
  | 37 => ⟨S2x256x4, .f32⟩
  | 38 => ⟨S2x256x4, .f32⟩
  | 39 => ⟨S2x256x4, .f32⟩
  | 40 => ⟨S2x256x4, .f32⟩
  | 41 => ⟨S2x256x4, .f32⟩
  | 42 => ⟨S2x256x4, .f32⟩
  | 43 => ⟨S2x256x4, .f32⟩
  | 44 => ⟨S2x2x1x128x4, .f32⟩
  | 45 => ⟨S128x128x1, .i1⟩
  | 46 => ⟨S_, .f32⟩
  | 47 => ⟨S_, .f32⟩
  | 48 => ⟨S2x2x128x128x4, .i1⟩
  | 49 => ⟨S2x2x128x128x4, .f32⟩
  | 50 => ⟨S2x2x128x128x4, .f32⟩
  | 51 => ⟨S2x2x128x128x4, .f32⟩
  | 52 => ⟨S_, .f32⟩
  | 53 => ⟨S2x2x128x4, .f32⟩
  | 54 => ⟨S2x256x4, .f32⟩
  | 55 => ⟨S2x256x4, .f32⟩
  | 56 => ⟨S_, .f32⟩
  | 57 => ⟨S2x256x4, .f32⟩
  | 58 => ⟨S2x256x4, .f32⟩
  | 59 => ⟨S2x256x4, .f32⟩
  | 60 => ⟨S2x256x4, .f32⟩
  | 61 => ⟨S2x256x4, .i1⟩
  | 62 => ⟨S2x256x4, .f32⟩
  | 63 => ⟨S2x256x4, .f32⟩
  | 64 => ⟨S2x256x4, .f32⟩
  | 65 => ⟨S2x256x4, .f32⟩
  | 66 => ⟨S2x256x4, .f32⟩
  | 67 => ⟨S2x256x4, .f32⟩
  | 68 => ⟨S2x256x4, .f32⟩
  | 69 => ⟨S2x256x4, .f32⟩
  | 70 => ⟨S2x256x4, .f32⟩
  | 71 => ⟨S128x128, .i1⟩
  | 72 => ⟨S2x2x1x128x4, .f32⟩
  | 73 => ⟨S128x128x1, .i1⟩
  | 74 => ⟨S_, .f32⟩
  | 75 => ⟨S_, .f32⟩
  | 76 => ⟨S2x2x128x128x4, .i1⟩
  | 77 => ⟨S2x2x128x128x4, .f32⟩
  | 78 => ⟨S2x2x128x128x4, .f32⟩
  | 79 => ⟨S2x2x128x128x4, .f32⟩
  | 80 => ⟨S_, .f32⟩
  | 81 => ⟨S2x2x128x4, .f32⟩
  | 82 => ⟨S2x256x4, .f32⟩
  | 83 => ⟨S2x256x16, .f32⟩
  | 84 => ⟨S16384x1024, .f32⟩
  | 85 => ⟨S2x8192x1024, .f32⟩
  | 86 => ⟨S2x8192x1024, .f32⟩
  | 87 => ⟨S_, .f32⟩
  | 88 => ⟨S2x8192, .f32⟩
  | 89 => ⟨S2x8192x1, .f32⟩
  | 90 => ⟨S_, .f32⟩
  | 91 => ⟨S2x8192x1, .f32⟩
  | 92 => ⟨S2x8192x1, .f32⟩
  | 93 => ⟨S_, .f32⟩
  | 94 => ⟨S2x8192x1, .f32⟩
  | 95 => ⟨S2x8192x1, .f32⟩
  | 96 => ⟨S2x8192x1, .f32⟩
  | 97 => ⟨S2x8192x1024, .f32⟩
  | 98 => ⟨S2x8192x1024, .f32⟩
  | 99 => ⟨S1x1x1024, .f32⟩
  | 100 => ⟨S2x8192x1024, .f32⟩
  | 101 => ⟨S2x8192x1024, .f32⟩
  | 102 => ⟨S_, .f32⟩
  | 103 => ⟨S2x1x1024, .f32⟩
  | 104 => ⟨S2x1x1024, .f32⟩
  | 105 => ⟨S2x8192x1024, .f32⟩
  | 106 => ⟨S2x8192x1024, .f32⟩
  | 107 => ⟨S2x8192x1024, .f32⟩
  | 108 => ⟨S2x8192x1024, .f32⟩
  | 109 => ⟨S2x8192x4112, .f32⟩
  | 110 => ⟨S2x8192x2048, .f32⟩
  | 111 => ⟨S2x8192x2048, .f32⟩
  | 112 => ⟨S2x8192x16, .f32⟩
  | 113 => ⟨S_, .i32⟩
  | 114 => ⟨S_, .f32⟩
  | 115 => ⟨S2x8196x2048, .f32⟩
  | 116 => ⟨S2x8192x2048, .f32⟩
  | 117 => ⟨S1x2048, .f32⟩
  | 118 => ⟨S2048, .f32⟩
  | 119 => ⟨S1x1x2048, .f32⟩
  | 120 => ⟨S2x8192x2048, .f32⟩
  | 121 => ⟨S2x8192x2048, .f32⟩
  | 122 => ⟨S_, .f32⟩
  | 123 => ⟨S2x8192x2048, .f32⟩
  | 124 => ⟨S2x8192x2048, .f32⟩
  | 125 => ⟨S2x8192x2048, .f32⟩
  | 126 => ⟨S1x2048, .f32⟩
  | 127 => ⟨S2048, .f32⟩
  | _ => ⟨S16896x1024, .f32⟩

abbrev hbmTy0_2 (i : Nat) : BufTy := match i % 128 with
  | 0 => ⟨S1x1x2048, .f32⟩
  | 1 => ⟨S2x8192x2048, .f32⟩
  | 2 => ⟨S2x8192x2048, .f32⟩
  | 3 => ⟨S2x8192x2048, .f32⟩
  | 4 => ⟨S2x8192x2048, .f32⟩
  | 5 => ⟨S1x2048, .f32⟩
  | 6 => ⟨S2048, .f32⟩
  | 7 => ⟨S1x1x2048, .f32⟩
  | 8 => ⟨S2x8192x2048, .f32⟩
  | 9 => ⟨S2x8192x2048, .f32⟩
  | 10 => ⟨S2x8192x2048, .f32⟩
  | 11 => ⟨S2x8192x2048, .f32⟩
  | 12 => ⟨S1x2048, .f32⟩
  | 13 => ⟨S2048, .f32⟩
  | 14 => ⟨S1x1x2048, .f32⟩
  | 15 => ⟨S2x8192x2048, .f32⟩
  | 16 => ⟨S2x8192x2048, .f32⟩
  | 17 => ⟨S2x8192x2048, .f32⟩
  | 18 => ⟨S2x8192x2048, .f32⟩
  | 19 => ⟨S1x2048, .f32⟩
  | 20 => ⟨S2048, .f32⟩
  | 21 => ⟨S1x1x2048, .f32⟩
  | 22 => ⟨S2x8192x2048, .f32⟩
  | 23 => ⟨S2x8192x2048, .f32⟩
  | 24 => ⟨S2x8192x2048, .f32⟩
  | 25 => ⟨S1x1x2048, .f32⟩
  | 26 => ⟨S2x8192x2048, .f32⟩
  | 27 => ⟨S2x8192x2048, .f32⟩
  | 28 => ⟨S2x8192x2048, .f32⟩
  | 29 => ⟨S2x8192x2048, .f32⟩
  | 30 => ⟨S_, .f32⟩
  | 31 => ⟨S2x8192x2048, .f32⟩
  | 32 => ⟨S2x8192x2048, .f32⟩
  | 33 => ⟨S_, .f32⟩
  | 34 => ⟨S2x8192x2048, .f32⟩
  | 35 => ⟨S2x8192x2048, .f32⟩
  | 36 => ⟨S2x8192x2048, .f32⟩
  | 37 => ⟨S2x8192x512x4, .f32⟩
  | 38 => ⟨S512x4x2x8192, .f32⟩
  | 39 => ⟨S2x8192x512x4, .f32⟩
  | 40 => ⟨S2x8192x2048, .f32⟩
  | 41 => ⟨S2x8192x512x4, .f32⟩
  | 42 => ⟨S512x4x2x8192, .f32⟩
  | 43 => ⟨S2x8192x512x4, .f32⟩
  | 44 => ⟨S2x8192x2048, .f32⟩
  | 45 => ⟨S_, .f32⟩
  | 46 => ⟨S2x8192x2048, .f32⟩
  | 47 => ⟨S2x8192x2048, .f32⟩
  | 48 => ⟨S2x8192x512x4, .f32⟩
  | 49 => ⟨S512x4x2x8192, .f32⟩
  | 50 => ⟨S2x8192x512x4, .f32⟩
  | 51 => ⟨S2x8192x2048, .f32⟩
  | 52 => ⟨S1x1x16, .f32⟩
  | 53 => ⟨S2x8192x16, .f32⟩
  | 54 => ⟨S2x8192x16, .f32⟩
  | 55 => ⟨S2x8192x4, .f32⟩
  | 56 => ⟨S2x8192x4, .f32⟩
  | 57 => ⟨S2x8192x4, .f32⟩
  | 58 => ⟨S2x8192x4, .f32⟩
  | 59 => ⟨S2x8192x4, .f32⟩
  | 60 => ⟨S_, .f32⟩
  | 61 => ⟨S2x8192x4, .f32⟩
  | 62 => ⟨S2x8192x4, .f32⟩
  | 63 => ⟨S2x8192x4, .f32⟩
  | 64 => ⟨S2x8192x4, .f32⟩
  | 65 => ⟨S2x8192x4, .i1⟩
  | 66 => ⟨S2x8192x4, .f32⟩
  | 67 => ⟨S2x8192x4, .f32⟩
  | 68 => ⟨S2x8192x4, .f32⟩
  | 69 => ⟨S2x8192x4, .f32⟩
  | 70 => ⟨S2x8192x4, .f32⟩
  | 71 => ⟨S2x8192x4, .f32⟩
  | 72 => ⟨S2x8192x4, .f32⟩
  | 73 => ⟨S2x8192x4, .f32⟩
  | 74 => ⟨S2x8192x4, .f32⟩
  | 75 => ⟨S2x64x1x128x4, .f32⟩
  | 76 => ⟨S128x128x1, .i1⟩
  | 77 => ⟨S_, .f32⟩
  | 78 => ⟨S_, .f32⟩
  | 79 => ⟨S2x64x128x128x4, .i1⟩
  | 80 => ⟨S2x64x128x128x4, .f32⟩
  | 81 => ⟨S2x64x128x128x4, .f32⟩
  | 82 => ⟨S2x64x128x128x4, .f32⟩
  | 83 => ⟨S_, .f32⟩
  | 84 => ⟨S2x64x128x4, .f32⟩
  | 85 => ⟨S2x8192x4, .f32⟩
  | 86 => ⟨S2x8192x4, .f32⟩
  | 87 => ⟨S_, .f32⟩
  | 88 => ⟨S2x8192x4, .f32⟩
  | 89 => ⟨S2x8192x4, .f32⟩
  | 90 => ⟨S2x8192x4, .f32⟩
  | 91 => ⟨S2x8192x4, .f32⟩
  | 92 => ⟨S2x8192x4, .i1⟩
  | 93 => ⟨S2x8192x4, .f32⟩
  | 94 => ⟨S2x8192x4, .f32⟩
  | 95 => ⟨S2x8192x4, .f32⟩
  | 96 => ⟨S2x8192x4, .f32⟩
  | 97 => ⟨S2x8192x4, .f32⟩
  | 98 => ⟨S2x8192x4, .f32⟩
  | 99 => ⟨S2x8192x4, .f32⟩
  | 100 => ⟨S2x8192x4, .f32⟩
  | 101 => ⟨S2x8192x4, .f32⟩
  | 102 => ⟨S128x128, .i1⟩
  | 103 => ⟨S2x64x1x128x4, .f32⟩
  | 104 => ⟨S128x128x1, .i1⟩
  | 105 => ⟨S_, .f32⟩
  | 106 => ⟨S_, .f32⟩
  | 107 => ⟨S2x64x128x128x4, .i1⟩
  | 108 => ⟨S2x64x128x128x4, .f32⟩
  | 109 => ⟨S2x64x128x128x4, .f32⟩
  | 110 => ⟨S2x64x128x128x4, .f32⟩
  | 111 => ⟨S_, .f32⟩
  | 112 => ⟨S2x64x128x4, .f32⟩
  | 113 => ⟨S2x8192x4, .f32⟩
  | 114 => ⟨S2x8192x16, .f32⟩
  | 115 => ⟨S512x2048, .f32⟩
  | 116 => ⟨S16384x2048, .f32⟩
  | 117 => ⟨S16896x2048, .f32⟩
  | 118 => ⟨S512x2048, .f32⟩
  | 119 => ⟨S16384x2048, .f32⟩
  | 120 => ⟨S16896x2048, .f32⟩
  | 121 => ⟨S512x2048, .f32⟩
  | 122 => ⟨S16384x2048, .f32⟩
  | 123 => ⟨S16896x2048, .f32⟩
  | 124 => ⟨S512x2048, .f32⟩
  | 125 => ⟨S16384x2048, .f32⟩
  | 126 => ⟨S16896x2048, .f32⟩
  | 127 => ⟨S512x2048, .f32⟩
  | _ => ⟨S16896x1024, .f32⟩

abbrev hbmTy0_3 (i : Nat) : BufTy := match i % 128 with
  | 0 => ⟨S16384x2048, .f32⟩
  | 1 => ⟨S16896x2048, .f32⟩
  | 2 => ⟨S512x16, .f32⟩
  | 3 => ⟨S16384x16, .f32⟩
  | 4 => ⟨S16896x16, .f32⟩
  | 5 => ⟨S16896x2048, .bf16⟩
  | 6 => ⟨S16896x2048, .bf16⟩
  | 7 => ⟨S16896x2048, .bf16⟩
  | 8 => ⟨S_, .i32⟩
  | 9 => ⟨S_, .f32⟩
  | 10 => ⟨S16896x128, .f32⟩
  | 11 => ⟨S16x16896, .f32⟩
  | _ => ⟨S16896x1024, .f32⟩

abbrev hbmTy (i : Nat) : BufTy := match i / 128 with
  | 0 => hbmTy0_0 i
  | 1 => hbmTy0_1 i
  | 2 => hbmTy0_2 i
  | 3 => hbmTy0_3 i
  | _ => ⟨S16896x1024, .f32⟩

abbrev bufTy : (tb : Table) → Fin (tcTables nBuf tb) → BufTy
  | .hbm, ⟨i, _⟩ => hbmTy i
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c : Ref sig .tc := ⟨.hbm, 40, rfl⟩
abbrev main_v30 : Ref sig .tc := ⟨.hbm, 41, rfl⟩
abbrev main_call0_v0 : Ref sig .tc := ⟨.hbm, 42, rfl⟩
abbrev main_call0_c : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_c_0 : Ref sig .tc := ⟨.hbm, 48, rfl⟩
abbrev main_call0_v5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst : Ref sig .tc := ⟨.hbm, 54, rfl⟩
abbrev main_v35 : Ref sig .tc := ⟨.hbm, 55, rfl⟩
abbrev main_v36 : Ref sig .tc := ⟨.hbm, 56, rfl⟩
abbrev main_cst_0 : Ref sig .tc := ⟨.hbm, 57, rfl⟩
abbrev main_v37 : Ref sig .tc := ⟨.hbm, 58, rfl⟩
abbrev main_v38 : Ref sig .tc := ⟨.hbm, 59, rfl⟩
abbrev main_cst_1 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_2 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_3 : Ref sig .tc := ⟨.hbm, 82, rfl⟩
abbrev main_call1_v0 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_4 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_call2_v0 : Ref sig .tc := ⟨.hbm, 125, rfl⟩
abbrev main_call2_v1 : Ref sig .tc := ⟨.hbm, 126, rfl⟩
abbrev main_call2_cst : Ref sig .tc := ⟨.hbm, 127, rfl⟩
abbrev main_call2_v2 : Ref sig .tc := ⟨.hbm, 128, rfl⟩
abbrev main_call2_v3 : Ref sig .tc := ⟨.hbm, 129, rfl⟩
abbrev main_call2_cst_0 : Ref sig .tc := ⟨.hbm, 130, rfl⟩
abbrev main_call2_v4 : Ref sig .tc := ⟨.hbm, 131, rfl⟩
abbrev main_call2_v5 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_cst_5 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_call3_v0 : Ref sig .tc := ⟨.hbm, 156, rfl⟩
abbrev main_call3_call0_cst : Ref sig .tc := ⟨.hbm, 157, rfl⟩
abbrev main_call3_call0_v0 : Ref sig .tc := ⟨.hbm, 158, rfl⟩
abbrev main_call3_call0_v1 : Ref sig .tc := ⟨.hbm, 159, rfl⟩
abbrev main_call3_call0_v2 : Ref sig .tc := ⟨.hbm, 160, rfl⟩
abbrev main_call3_call0_v3 : Ref sig .tc := ⟨.hbm, 161, rfl⟩
abbrev main_call3_call0_v4 : Ref sig .tc := ⟨.hbm, 162, rfl⟩
abbrev main_call3_call0_v5 : Ref sig .tc := ⟨.hbm, 163, rfl⟩
abbrev main_call3_call0_v6 : Ref sig .tc := ⟨.hbm, 164, rfl⟩
abbrev main_call3_call0_v7 : Ref sig .tc := ⟨.hbm, 165, rfl⟩
abbrev main_call3_call0_v8 : Ref sig .tc := ⟨.hbm, 166, rfl⟩
abbrev main_call3_call0_v9 : Ref sig .tc := ⟨.hbm, 167, rfl⟩
abbrev main_call3_call0_v10 : Ref sig .tc := ⟨.hbm, 168, rfl⟩
abbrev main_call3_call0_v11 : Ref sig .tc := ⟨.hbm, 169, rfl⟩
abbrev main_call3_v1 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_cst_6 : Ref sig .tc := ⟨.hbm, 174, rfl⟩
abbrev main_call4_v0 : Ref sig .tc := ⟨.hbm, 175, rfl⟩
abbrev main_call4_v1 : Ref sig .tc := ⟨.hbm, 176, rfl⟩
abbrev main_call4_v2 : Ref sig .tc := ⟨.hbm, 177, rfl⟩
abbrev main_call4_v3 : Ref sig .tc := ⟨.hbm, 178, rfl⟩
abbrev main_v124 : Ref sig .tc := ⟨.hbm, 179, rfl⟩
abbrev main_cst_7 : Ref sig .tc := ⟨.hbm, 180, rfl⟩
abbrev main_v125 : Ref sig .tc := ⟨.hbm, 181, rfl⟩
abbrev main_v126 : Ref sig .tc := ⟨.hbm, 182, rfl⟩
abbrev main_call5_v0 : Ref sig .tc := ⟨.hbm, 183, rfl⟩
abbrev main_call5_call0_cst : Ref sig .tc := ⟨.hbm, 184, rfl⟩
abbrev main_call5_call0_v0 : Ref sig .tc := ⟨.hbm, 185, rfl⟩
abbrev main_call5_call0_v1 : Ref sig .tc := ⟨.hbm, 186, rfl⟩
abbrev main_call5_call0_v2 : Ref sig .tc := ⟨.hbm, 187, rfl⟩
abbrev main_call5_call0_v3 : Ref sig .tc := ⟨.hbm, 188, rfl⟩
abbrev main_call5_call0_v4 : Ref sig .tc := ⟨.hbm, 189, rfl⟩
abbrev main_call5_call0_v5 : Ref sig .tc := ⟨.hbm, 190, rfl⟩
abbrev main_call5_call0_v6 : Ref sig .tc := ⟨.hbm, 191, rfl⟩
abbrev main_call5_call0_v7 : Ref sig .tc := ⟨.hbm, 192, rfl⟩
abbrev main_call5_call0_v8 : Ref sig .tc := ⟨.hbm, 193, rfl⟩
abbrev main_call5_call0_v9 : Ref sig .tc := ⟨.hbm, 194, rfl⟩
abbrev main_call5_call0_v10 : Ref sig .tc := ⟨.hbm, 195, rfl⟩
abbrev main_call5_call0_v11 : Ref sig .tc := ⟨.hbm, 196, rfl⟩
abbrev main_call5_v1 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_cst_8 : Ref sig .tc := ⟨.hbm, 202, rfl⟩
abbrev main_call6_v0 : Ref sig .tc := ⟨.hbm, 203, rfl⟩
abbrev main_call6_v1 : Ref sig .tc := ⟨.hbm, 204, rfl⟩
abbrev main_call6_v2 : Ref sig .tc := ⟨.hbm, 205, rfl⟩
abbrev main_call6_v3 : Ref sig .tc := ⟨.hbm, 206, rfl⟩
abbrev main_v131 : Ref sig .tc := ⟨.hbm, 207, rfl⟩
abbrev main_cst_9 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_v137 : Ref sig .tc := ⟨.hbm, 214, rfl⟩
abbrev main_cst_10 : Ref sig .tc := ⟨.hbm, 215, rfl⟩
abbrev main_v138 : Ref sig .tc := ⟨.hbm, 216, rfl⟩
abbrev main_v139 : Ref sig .tc := ⟨.hbm, 217, rfl⟩
abbrev main_cst_11 : Ref sig .tc := ⟨.hbm, 218, rfl⟩
abbrev main_v140 : Ref sig .tc := ⟨.hbm, 219, rfl⟩
abbrev main_v141 : Ref sig .tc := ⟨.hbm, 220, rfl⟩
abbrev main_cst_12 : Ref sig .tc := ⟨.hbm, 221, rfl⟩
abbrev main_v142 : Ref sig .tc := ⟨.hbm, 222, rfl⟩
abbrev main_v143 : Ref sig .tc := ⟨.hbm, 223, rfl⟩
abbrev main_v144 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_cst_13 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_v155 : Ref sig .tc := ⟨.hbm, 236, rfl⟩
abbrev main_v156 : Ref sig .tc := ⟨.hbm, 237, rfl⟩
abbrev main_v157 : Ref sig .tc := ⟨.hbm, 238, rfl⟩
abbrev main_v158 : Ref sig .tc := ⟨.hbm, 239, rfl⟩
abbrev main_v159 : Ref sig .tc := ⟨.hbm, 240, rfl⟩
abbrev main_c_14 : Ref sig .tc := ⟨.hbm, 241, rfl⟩
abbrev main_call7_v0 : Ref sig .tc := ⟨.hbm, 242, rfl⟩
abbrev main_v160 : Ref sig .tc := ⟨.hbm, 243, rfl⟩
abbrev main_v161 : Ref sig .tc := ⟨.hbm, 244, rfl⟩
abbrev main_v162 : Ref sig .tc := ⟨.hbm, 245, rfl⟩
abbrev main_v163 : Ref sig .tc := ⟨.hbm, 246, rfl⟩
abbrev main_v164 : Ref sig .tc := ⟨.hbm, 247, rfl⟩
abbrev main_v165 : Ref sig .tc := ⟨.hbm, 248, rfl⟩
abbrev main_v166 : Ref sig .tc := ⟨.hbm, 249, rfl⟩
abbrev main_cst_15 : Ref sig .tc := ⟨.hbm, 250, rfl⟩
abbrev main_v167 : Ref sig .tc := ⟨.hbm, 251, rfl⟩
abbrev main_v168 : Ref sig .tc := ⟨.hbm, 252, rfl⟩
abbrev main_v169 : Ref sig .tc := ⟨.hbm, 253, rfl⟩
abbrev main_v170 : Ref sig .tc := ⟨.hbm, 254, rfl⟩
abbrev main_v171 : Ref sig .tc := ⟨.hbm, 255, rfl⟩
abbrev main_v172 : Ref sig .tc := ⟨.hbm, 256, rfl⟩
abbrev main_v173 : Ref sig .tc := ⟨.hbm, 257, rfl⟩
abbrev main_v174 : Ref sig .tc := ⟨.hbm, 258, rfl⟩
abbrev main_v175 : Ref sig .tc := ⟨.hbm, 259, rfl⟩
abbrev main_v176 : Ref sig .tc := ⟨.hbm, 260, rfl⟩
abbrev main_v177 : Ref sig .tc := ⟨.hbm, 261, rfl⟩
abbrev main_v178 : Ref sig .tc := ⟨.hbm, 262, rfl⟩
abbrev main_v179 : Ref sig .tc := ⟨.hbm, 263, rfl⟩
abbrev main_v180 : Ref sig .tc := ⟨.hbm, 264, rfl⟩
abbrev main_v181 : Ref sig .tc := ⟨.hbm, 265, rfl⟩
abbrev main_v182 : Ref sig .tc := ⟨.hbm, 266, rfl⟩
abbrev main_v183 : Ref sig .tc := ⟨.hbm, 267, rfl⟩
abbrev main_v184 : Ref sig .tc := ⟨.hbm, 268, rfl⟩
abbrev main_v185 : Ref sig .tc := ⟨.hbm, 269, rfl⟩
abbrev main_v186 : Ref sig .tc := ⟨.hbm, 270, rfl⟩
abbrev main_v187 : Ref sig .tc := ⟨.hbm, 271, rfl⟩
abbrev main_v188 : Ref sig .tc := ⟨.hbm, 272, rfl⟩
abbrev main_v189 : Ref sig .tc := ⟨.hbm, 273, rfl⟩
abbrev main_v190 : Ref sig .tc := ⟨.hbm, 274, rfl⟩
abbrev main_v191 : Ref sig .tc := ⟨.hbm, 275, rfl⟩
abbrev main_v192 : Ref sig .tc := ⟨.hbm, 276, rfl⟩
abbrev main_v193 : Ref sig .tc := ⟨.hbm, 277, rfl⟩
abbrev main_v194 : Ref sig .tc := ⟨.hbm, 278, rfl⟩
abbrev main_v195 : Ref sig .tc := ⟨.hbm, 279, rfl⟩
abbrev main_v196 : Ref sig .tc := ⟨.hbm, 280, rfl⟩
abbrev main_v197 : Ref sig .tc := ⟨.hbm, 281, rfl⟩
abbrev main_v198 : Ref sig .tc := ⟨.hbm, 282, rfl⟩
abbrev main_v199 : Ref sig .tc := ⟨.hbm, 283, rfl⟩
abbrev main_call8_v0 : Ref sig .tc := ⟨.hbm, 284, rfl⟩
abbrev main_call8_v1 : Ref sig .tc := ⟨.hbm, 285, rfl⟩
abbrev main_call8_cst : Ref sig .tc := ⟨.hbm, 286, rfl⟩
abbrev main_call8_v2 : Ref sig .tc := ⟨.hbm, 287, rfl⟩
abbrev main_call8_v3 : Ref sig .tc := ⟨.hbm, 288, rfl⟩
abbrev main_call8_cst_0 : Ref sig .tc := ⟨.hbm, 289, rfl⟩
abbrev main_call8_v4 : Ref sig .tc := ⟨.hbm, 290, rfl⟩
abbrev main_call8_v5 : Ref sig .tc := ⟨.hbm, 291, rfl⟩
abbrev main_v200 : Ref sig .tc := ⟨.hbm, 292, rfl⟩
abbrev main_v201 : Ref sig .tc := ⟨.hbm, 293, rfl⟩
abbrev main_v202 : Ref sig .tc := ⟨.hbm, 294, rfl⟩
abbrev main_v203 : Ref sig .tc := ⟨.hbm, 295, rfl⟩
abbrev main_v204 : Ref sig .tc := ⟨.hbm, 296, rfl⟩
abbrev main_v205 : Ref sig .tc := ⟨.hbm, 297, rfl⟩
abbrev main_v206 : Ref sig .tc := ⟨.hbm, 298, rfl⟩
abbrev main_v207 : Ref sig .tc := ⟨.hbm, 299, rfl⟩
abbrev main_v208 : Ref sig .tc := ⟨.hbm, 300, rfl⟩
abbrev main_cst_16 : Ref sig .tc := ⟨.hbm, 301, rfl⟩
abbrev main_v209 : Ref sig .tc := ⟨.hbm, 302, rfl⟩
abbrev main_v210 : Ref sig .tc := ⟨.hbm, 303, rfl⟩
abbrev main_v211 : Ref sig .tc := ⟨.hbm, 304, rfl⟩
abbrev main_v212 : Ref sig .tc := ⟨.hbm, 305, rfl⟩
abbrev main_v213 : Ref sig .tc := ⟨.hbm, 306, rfl⟩
abbrev main_v214 : Ref sig .tc := ⟨.hbm, 307, rfl⟩
abbrev main_v215 : Ref sig .tc := ⟨.hbm, 308, rfl⟩
abbrev main_v216 : Ref sig .tc := ⟨.hbm, 309, rfl⟩
abbrev main_v217 : Ref sig .tc := ⟨.hbm, 310, rfl⟩
abbrev main_v218 : Ref sig .tc := ⟨.hbm, 311, rfl⟩
abbrev main_v219 : Ref sig .tc := ⟨.hbm, 312, rfl⟩
abbrev main_v220 : Ref sig .tc := ⟨.hbm, 313, rfl⟩
abbrev main_v221 : Ref sig .tc := ⟨.hbm, 314, rfl⟩
abbrev main_call9_v0 : Ref sig .tc := ⟨.hbm, 315, rfl⟩
abbrev main_call9_call0_cst : Ref sig .tc := ⟨.hbm, 316, rfl⟩
abbrev main_call9_call0_v0 : Ref sig .tc := ⟨.hbm, 317, rfl⟩
abbrev main_call9_call0_v1 : Ref sig .tc := ⟨.hbm, 318, rfl⟩
abbrev main_call9_call0_v2 : Ref sig .tc := ⟨.hbm, 319, rfl⟩
abbrev main_call9_call0_v3 : Ref sig .tc := ⟨.hbm, 320, rfl⟩
abbrev main_call9_call0_v4 : Ref sig .tc := ⟨.hbm, 321, rfl⟩
abbrev main_call9_call0_v5 : Ref sig .tc := ⟨.hbm, 322, rfl⟩
abbrev main_call9_call0_v6 : Ref sig .tc := ⟨.hbm, 323, rfl⟩
abbrev main_call9_call0_v7 : Ref sig .tc := ⟨.hbm, 324, rfl⟩
abbrev main_call9_call0_v8 : Ref sig .tc := ⟨.hbm, 325, rfl⟩
abbrev main_call9_call0_v9 : Ref sig .tc := ⟨.hbm, 326, rfl⟩
abbrev main_call9_call0_v10 : Ref sig .tc := ⟨.hbm, 327, rfl⟩
abbrev main_call9_call0_v11 : Ref sig .tc := ⟨.hbm, 328, rfl⟩
abbrev main_call9_v1 : Ref sig .tc := ⟨.hbm, 329, rfl⟩
abbrev main_v222 : Ref sig .tc := ⟨.hbm, 330, rfl⟩
abbrev main_v223 : Ref sig .tc := ⟨.hbm, 331, rfl⟩
abbrev main_v224 : Ref sig .tc := ⟨.hbm, 332, rfl⟩
abbrev main_cst_17 : Ref sig .tc := ⟨.hbm, 333, rfl⟩
abbrev main_call10_v0 : Ref sig .tc := ⟨.hbm, 334, rfl⟩
abbrev main_call10_v1 : Ref sig .tc := ⟨.hbm, 335, rfl⟩
abbrev main_call10_v2 : Ref sig .tc := ⟨.hbm, 336, rfl⟩
abbrev main_call10_v3 : Ref sig .tc := ⟨.hbm, 337, rfl⟩
abbrev main_v225 : Ref sig .tc := ⟨.hbm, 338, rfl⟩
abbrev main_cst_18 : Ref sig .tc := ⟨.hbm, 339, rfl⟩
abbrev main_v226 : Ref sig .tc := ⟨.hbm, 340, rfl⟩
abbrev main_v227 : Ref sig .tc := ⟨.hbm, 341, rfl⟩
abbrev main_call11_v0 : Ref sig .tc := ⟨.hbm, 342, rfl⟩
abbrev main_call11_call0_cst : Ref sig .tc := ⟨.hbm, 343, rfl⟩
abbrev main_call11_call0_v0 : Ref sig .tc := ⟨.hbm, 344, rfl⟩
abbrev main_call11_call0_v1 : Ref sig .tc := ⟨.hbm, 345, rfl⟩
abbrev main_call11_call0_v2 : Ref sig .tc := ⟨.hbm, 346, rfl⟩
abbrev main_call11_call0_v3 : Ref sig .tc := ⟨.hbm, 347, rfl⟩
abbrev main_call11_call0_v4 : Ref sig .tc := ⟨.hbm, 348, rfl⟩
abbrev main_call11_call0_v5 : Ref sig .tc := ⟨.hbm, 349, rfl⟩
abbrev main_call11_call0_v6 : Ref sig .tc := ⟨.hbm, 350, rfl⟩
abbrev main_call11_call0_v7 : Ref sig .tc := ⟨.hbm, 351, rfl⟩
abbrev main_call11_call0_v8 : Ref sig .tc := ⟨.hbm, 352, rfl⟩
abbrev main_call11_call0_v9 : Ref sig .tc := ⟨.hbm, 353, rfl⟩
abbrev main_call11_call0_v10 : Ref sig .tc := ⟨.hbm, 354, rfl⟩
abbrev main_call11_call0_v11 : Ref sig .tc := ⟨.hbm, 355, rfl⟩
abbrev main_call11_v1 : Ref sig .tc := ⟨.hbm, 356, rfl⟩
abbrev main_v228 : Ref sig .tc := ⟨.hbm, 357, rfl⟩
abbrev main_v229 : Ref sig .tc := ⟨.hbm, 358, rfl⟩
abbrev main_v230 : Ref sig .tc := ⟨.hbm, 359, rfl⟩
abbrev main_v231 : Ref sig .tc := ⟨.hbm, 360, rfl⟩
abbrev main_cst_19 : Ref sig .tc := ⟨.hbm, 361, rfl⟩
abbrev main_call12_v0 : Ref sig .tc := ⟨.hbm, 362, rfl⟩
abbrev main_call12_v1 : Ref sig .tc := ⟨.hbm, 363, rfl⟩
abbrev main_call12_v2 : Ref sig .tc := ⟨.hbm, 364, rfl⟩
abbrev main_call12_v3 : Ref sig .tc := ⟨.hbm, 365, rfl⟩
abbrev main_v232 : Ref sig .tc := ⟨.hbm, 366, rfl⟩
abbrev main_cst_20 : Ref sig .tc := ⟨.hbm, 367, rfl⟩
abbrev main_v233 : Ref sig .tc := ⟨.hbm, 368, rfl⟩
abbrev main_v234 : Ref sig .tc := ⟨.hbm, 369, rfl⟩
abbrev main_v235 : Ref sig .tc := ⟨.hbm, 370, rfl⟩
abbrev main_v236 : Ref sig .tc := ⟨.hbm, 371, rfl⟩
abbrev main_v237 : Ref sig .tc := ⟨.hbm, 372, rfl⟩
abbrev main_v238 : Ref sig .tc := ⟨.hbm, 373, rfl⟩
abbrev main_v239 : Ref sig .tc := ⟨.hbm, 374, rfl⟩
abbrev main_v240 : Ref sig .tc := ⟨.hbm, 375, rfl⟩
abbrev main_v241 : Ref sig .tc := ⟨.hbm, 376, rfl⟩
abbrev main_v242 : Ref sig .tc := ⟨.hbm, 377, rfl⟩
abbrev main_v243 : Ref sig .tc := ⟨.hbm, 378, rfl⟩
abbrev main_v244 : Ref sig .tc := ⟨.hbm, 379, rfl⟩
abbrev main_v245 : Ref sig .tc := ⟨.hbm, 380, rfl⟩
abbrev main_v246 : Ref sig .tc := ⟨.hbm, 381, rfl⟩
abbrev main_v247 : Ref sig .tc := ⟨.hbm, 382, rfl⟩
abbrev main_v248 : Ref sig .tc := ⟨.hbm, 383, rfl⟩
abbrev main_v249 : Ref sig .tc := ⟨.hbm, 384, rfl⟩
abbrev main_v250 : Ref sig .tc := ⟨.hbm, 385, rfl⟩
abbrev main_v251 : Ref sig .tc := ⟨.hbm, 386, rfl⟩
abbrev main_v252 : Ref sig .tc := ⟨.hbm, 387, rfl⟩
abbrev main_v253 : Ref sig .tc := ⟨.hbm, 388, rfl⟩
abbrev main_v254 : Ref sig .tc := ⟨.hbm, 389, rfl⟩
abbrev main_v255 : Ref sig .tc := ⟨.hbm, 390, rfl⟩
abbrev main_v256 : Ref sig .tc := ⟨.hbm, 391, rfl⟩
abbrev main_c_21 : Ref sig .tc := ⟨.hbm, 392, rfl⟩
abbrev main_call13_v0 : Ref sig .tc := ⟨.hbm, 393, rfl⟩
abbrev main_v257 : Ref sig .tc := ⟨.hbm, 394, rfl⟩
abbrev main_v258 : Ref sig .tc := ⟨.hbm, 395, rfl⟩

abbrev nD : Nat := 1
abbrev τ : Topo := Topo.v7x

variable {F : FTy → Type} [FloatOps F]
-- ==== Proof.MlRun.lean ====
/-
The run of the body of the projection into the matrix-memory layer, on whole staging buffers.
-/
module

public import proofs.«01_k».proof.Proof.Gen.Kernel7Ideal.Frame.Runs

@[expose] public section

set_option maxRecDepth 16384

noncomputable section

namespace Cert.Kernel7Ideal.Run

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2600000 in
/-- What the stores of the body leave in each output buffer, as pieces (the last first), with the proof that from
whole buffers the body runs to its end: the inputs' buffers keep their contents, the outputs' and the scratch
buffer end with their pieces written. -/
noncomputable def body (c : Dev nD) (i : grid0.Coords) (arg1 : Memref sig .tc .vmem S256x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x6x1024 .f32) (harg4 : arg4.IsWhole) (arg5 : Memref sig .tc .vmem S1x1024 .f32) (harg5 : arg5.IsWhole) (arg6 : Memref sig .tc .vmem S1024x2048 .bf16) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S16x1024 .bf16) (harg9 : arg9.IsWhole) (arg10 : Memref sig .tc .vmem S1x128 .f32) (harg10 : arg10.IsWhole) (arg11 : Memref sig .tc .vmem S16x1 .f32) (harg11 : arg11.IsWhole) (arg12 : Memref sig .tc .vmem S5x2048 .f32) (harg12 : arg12.IsWhole) (arg13 : Memref sig .tc .vmem S1x2048 .f32) (harg13 : arg13.IsWhole) (arg14 : Memref sig .tc .vmem S8x256x256 .bf16) (harg14 : arg14.IsWhole) (arg15 : Memref sig .tc .vmem S8x256x256 .bf16) (harg15 : arg15.IsWhole) (arg16 : Memref sig .tc .vmem S8x256x256 .bf16) (harg16 : arg16.IsWhole) (arg17 : Memref sig .tc .vmem S256x2048 .bf16) (harg17 : arg17.IsWhole) (arg18 : Memref sig .tc .vmem S256x2048 .bf16) (harg18 : arg18.IsWhole) (arg19 : Memref sig .tc .vmem S256x2048 .bf16) (harg19 : arg19.IsWhole) (arg20 : Memref sig .tc .vmem S256x2048 .f32) (harg20 : arg20.IsWhole) (arg21 : Memref sig .tc .vmem S256x2048 .f32) (harg21 : arg21.IsWhole) (arg22 : Memref sig .tc .vmem S256x128 .f32) (harg22 : arg22.IsWhole) (arg23 : Memref sig .tc .vmem S16x256 .f32) (harg23 : arg23.IsWhole) (arg24 : Memref sig .tc .vmem S272x512 .f32) (harg24 : arg24.IsWhole)
    (x0 : Vec F S256x1024 .f32) (x1 : Vec F S8x1024 .f32) (x2 : Vec F S8x1024 .f32) (x3 : Vec F S1x6x1024 .f32) (x4 : Vec F S1x1024 .f32) (x5 : Vec F S1024x2048 .bf16) (x6 : Vec F S1024x2048 .bf16) (x7 : Vec F S1024x128 .bf16) (x8 : Vec F S16x1024 .bf16) (x9 : Vec F S1x128 .f32) (x10 : Vec F S16x1 .f32) (x11 : Vec F S5x2048 .f32) (x12 : Vec F S1x2048 .f32) (x13 : Vec F S8x256x256 .bf16) (x14 : Vec F S8x256x256 .bf16) (x15 : Vec F S8x256x256 .bf16) :
    Σ' (L16 : List (View.Piece (Elt F) S256x2048 .bf16)), Σ' (L17 : List (View.Piece (Elt F) S256x2048 .bf16)), Σ' (L18 : List (View.Piece (Elt F) S256x2048 .bf16)), Σ' (L19 : List (View.Piece (Elt F) S256x2048 .f32)), Σ' (L20 : List (View.Piece (Elt F) S256x2048 .f32)), Σ' (L21 : List (View.Piece (Elt F) S256x128 .f32)), Σ' (L22 : List (View.Piece (Elt F) S16x256 .f32)), { LT0 : List (View.Piece (Elt F) S272x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f LT0)) -∗ K ⟨⟩))
          ⊢ wp frame (wpE (defs₀ (F := F)) Variants.none c none) E (cc0_mlstm_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, ?_, ?_, ?_, fun E K => ?run⟩
  case run =>
    simp only [cc0_mlstm_in_proj_eq_skeleton]; unfold cc0_mlstm_in_proj_skel
    simp only [k0_part18_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    iexists _; iexact HS0

end Cert.Kernel7Ideal.Run

end
-- ==== Proof.MlFrame.lean ====
/-
The frame of the projection into the matrix-memory layer: what the buffers hold point by point, the launch, and that
the arguments end unchanged.
-/
module

public import proofs.«01_k».proof.Proof.MlRun
public import Idealize.ShloMosaic.Lib.Claim

@[expose] public section

set_option maxRecDepth 16384

noncomputable section

namespace Cert.Kernel7Ideal.Run

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run of the body at grid point `t`, on its staging buffers and input blocks. -/
abbrev at_ (c : Dev nD) (t : Fin cfg0.N) :=
  body (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)

/-- The stores to output 16 cover its block. -/
theorem cover16 (c : Dev nD) (t : Fin cfg0.N) (y : S256x2048.Idx) : ∃ pc ∈ (at_ m c t).1, y ∈ pc.1.set :=
  View.cover_of_tiledL (at_ m c t).1 S256x256.size (by sl_kernel_rfl) y

/-- What grid point `t` leaves in output 16's buffer. -/
def out16 (c : Dev nD) (t : Fin cfg0.N) : Vec F S256x2048 .bf16 :=
  VO0_16.read (Elt F) (VO0_16.writes (Elt F) VO0_16.junk (at_ m c t).1)

/-- The stores to output 17 cover its block. -/
theorem cover17 (c : Dev nD) (t : Fin cfg0.N) (y : S256x2048.Idx) : ∃ pc ∈ (at_ m c t).2.1, y ∈ pc.1.set :=
  View.cover_of_tiledL (at_ m c t).2.1 S256x256.size (by sl_kernel_rfl) y

/-- What grid point `t` leaves in output 17's buffer. -/
def out17 (c : Dev nD) (t : Fin cfg0.N) : Vec F S256x2048 .bf16 :=
  VO0_17.read (Elt F) (VO0_17.writes (Elt F) VO0_17.junk (at_ m c t).2.1)

/-- The stores to output 18 cover its block. -/
theorem cover18 (c : Dev nD) (t : Fin cfg0.N) (y : S256x2048.Idx) : ∃ pc ∈ (at_ m c t).2.2.1, y ∈ pc.1.set :=
  View.cover_of_tiledL (at_ m c t).2.2.1 S256x256.size (by sl_kernel_rfl) y

/-- What grid point `t` leaves in output 18's buffer. -/
def out18 (c : Dev nD) (t : Fin cfg0.N) : Vec F S256x2048 .bf16 :=
  VO0_18.read (Elt F) (VO0_18.writes (Elt F) VO0_18.junk (at_ m c t).2.2.1)

/-- The stores to output 19 cover its block. -/
theorem cover19 (c : Dev nD) (t : Fin cfg0.N) (y : S256x2048.Idx) : ∃ pc ∈ (at_ m c t).2.2.2.1, y ∈ pc.1.set :=
  View.cover_of_tiledL (at_ m c t).2.2.2.1 S256x2048.size (by sl_kernel_rfl) y

/-- What grid point `t` leaves in output 19's buffer. -/
def out19 (c : Dev nD) (t : Fin cfg0.N) : Vec F S256x2048 .f32 :=
  VO0_19.read (Elt F) (VO0_19.writes (Elt F) VO0_19.junk (at_ m c t).2.2.2.1)

/-- The stores to output 20 cover its block. -/
theorem cover20 (c : Dev nD) (t : Fin cfg0.N) (y : S256x2048.Idx) : ∃ pc ∈ (at_ m c t).2.2.2.2.1, y ∈ pc.1.set :=
  View.cover_of_tiledL (at_ m c t).2.2.2.2.1 S256x512.size (by sl_kernel_rfl) y

/-- What grid point `t` leaves in output 20's buffer. -/
def out20 (c : Dev nD) (t : Fin cfg0.N) : Vec F S256x2048 .f32 :=
  VO0_20.read (Elt F) (VO0_20.writes (Elt F) VO0_20.junk (at_ m c t).2.2.2.2.1)

/-- The stores to output 21 cover its block. -/
theorem cover21 (c : Dev nD) (t : Fin cfg0.N) (y : S256x128.Idx) : ∃ pc ∈ (at_ m c t).2.2.2.2.2.1, y ∈ pc.1.set :=
  View.cover_of_tiledL (at_ m c t).2.2.2.2.2.1 S256x128.size (by sl_kernel_rfl) y

/-- What grid point `t` leaves in output 21's buffer. -/
def out21 (c : Dev nD) (t : Fin cfg0.N) : Vec F S256x128 .f32 :=
  VO0_21.read (Elt F) (VO0_21.writes (Elt F) VO0_21.junk (at_ m c t).2.2.2.2.2.1)

/-- The stores to output 22 cover its block. -/
theorem cover22 (c : Dev nD) (t : Fin cfg0.N) (y : S16x256.Idx) : ∃ pc ∈ (at_ m c t).2.2.2.2.2.2.1, y ∈ pc.1.set :=
  View.cover_of_tiledL (at_ m c t).2.2.2.2.2.2.1 S16x256.size (by sl_kernel_rfl) y

/-- What grid point `t` leaves in output 22's buffer. -/
def out22 (c : Dev nD) (t : Fin cfg0.N) : Vec F S16x256 .f32 :=
  VO0_22.read (Elt F) (VO0_22.writes (Elt F) VO0_22.junk (at_ m c t).2.2.2.2.2.2.1)

/-- What the pipeline's windows hold: the arrays as the region finds them, after each point the inputs' buffers at
their blocks and the outputs' at what the body leaves there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out16 m c t
    | ⟨17, _⟩ => out17 m c t
    | ⟨18, _⟩ => out18 m c t
    | ⟨19, _⟩ => out19 m c t
    | ⟨20, _⟩ => out20 m c t
    | ⟨21, _⟩ => out21 m c t
    | ⟨22, _⟩ => out22 m c t
    | ⟨_ + 23, h⟩ => absurd h (Nat.not_lt.2 (Nat.le_add_left _ _))
  Φ _ := Pipeline.ΦA spec0 c
  q w := Pipeline.shareOf spec0 w
  owed _ := 0

/-- The arrays are those the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = out16 m c t := by dsimp only [dats]
theorem after0_17 (c : Dev nD) (t : Fin cfg0.N) : (dats m 0 c).after 17 t = out17 m c t := by dsimp only [dats]
theorem after0_18 (c : Dev nD) (t : Fin cfg0.N) : (dats m 0 c).after 18 t = out18 m c t := by dsimp only [dats]
theorem after0_19 (c : Dev nD) (t : Fin cfg0.N) : (dats m 0 c).after 19 t = out19 m c t := by dsimp only [dats]
theorem after0_20 (c : Dev nD) (t : Fin cfg0.N) : (dats m 0 c).after 20 t = out20 m c t := by dsimp only [dats]
theorem after0_21 (c : Dev nD) (t : Fin cfg0.N) : (dats m 0 c).after 21 t = out21 m c t := by dsimp only [dats]
theorem after0_22 (c : Dev nD) (t : Fin cfg0.N) : (dats m 0 c).after 22 t = out22 m c t := by dsimp only [dats]

/-- Each input's buffer holds its block when the body starts. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-- What the body is entered with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- What the body hands back at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 2400000 in
/-- The body at any point: the run applies, and the scratch buffer is taken and given back at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  rw [show (dats m 0 c).Φ t.castSucc = Pipeline.ΦA spec0 c from rfl, PhiA0_eq]
  unfold out16 out17 out18 out19 out20 out21 out22
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((at_ m c t).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [HS0]; · iexact HS0
  iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; exact View.read_writes_of_cover _ _ _ _ _ (cover16 m c t)
  isplitl [H17]
  · unfold owns; iexists _; isplitr
    swap; · iexact H17
    ipureintro; exact View.read_writes_of_cover _ _ _ _ _ (cover17 m c t)
  isplitl [H18]
  · unfold owns; iexists _; isplitr
    swap; · iexact H18
    ipureintro; exact View.read_writes_of_cover _ _ _ _ _ (cover18 m c t)
  isplitl [H19]
  · unfold owns; iexists _; isplitr
    swap; · iexact H19
    ipureintro; exact View.read_writes_of_cover _ _ _ _ _ (cover19 m c t)
  isplitl [H20]
  · unfold owns; iexists _; isplitr
    swap; · iexact H20
    ipureintro; exact View.read_writes_of_cover _ _ _ _ _ (cover20 m c t)
  isplitl [H21]
  · unfold owns; iexists _; isplitr
    swap; · iexact H21
    ipureintro; exact View.read_writes_of_cover _ _ _ _ _ (cover21 m c t)
  unfold owns; iexists _; isplitr
  swap; · iexact H22
  ipureintro; exact View.read_writes_of_cover _ _ _ _ _ (cover22 m c t)

/-- The body the pipeline calls at point `t`. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The obligation of the body at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => by unfold bodyPost; exact .rfl

set_option backward.isDefEq.respectTransparency.types false in
/-- The launch, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every execution ends with the arrays of the pipeline at what the windows leave in them. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The run ends, the arguments are unchanged, and the machine is quiet. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel7Ideal.Run

end
-- ==== Proof.MlpSpec.lean ====
module

public import Idealize.ShloMosaic.Lib.Pointwise
public import Idealize.ShloMosaic.Lib.Pipeline.ValueKit.Geometry

/-!
# The MLP of one row, over the reals

A row is normed and modulated, goes through the two weights with the square of the positive part between them, and is
added back under its gate.
-/

@[expose] public section

noncomputable section

namespace Cert.Hand.Mlp

open Idealize.ShloMosaic

/-- A row over the root of its mean square (with the programs' small constant), times `g`. -/
def rms (x g : Fin 1024 → EReal) (k : Fin 1024) : EReal :=
  x k * Ideal.rsqrt (Ideal.div (∑ j, x j * x j) (Ideal.ofBits .f32 0x44800000#32) + Ideal.ofBits .f32 0x358637BD#32) * g k

/-- What the MLP reads of the program's arguments, for a stream of `R` rows. -/
structure Args (R : ℕ) where
  /-- the stream -/
  x : FVec Ideal ⟨2, ![R, 1024]⟩ .f32
  /-- the modulations -/
  mods : FVec Ideal ⟨3, ![8, 6, 1024]⟩ .f32
  /-- the norm's weight -/
  g : FVec Ideal ⟨1, ![1024]⟩ .f32
  /-- the first weight -/
  w₁ : FVec Ideal ⟨2, ![1024, 4096]⟩ .f32
  /-- the second weight -/
  w₂ : FVec Ideal ⟨2, ![4096, 1024]⟩ .f32

variable {R : ℕ} (A : Args R) (r : Fin R) (q : Fin 8)

/-- Row `r`, normed and modulated by the modulations `q`. -/
def Args.enters (k : Fin 1024) : EReal :=
  rms (fun j => A.x (ix2 r j)) (fun j => A.g (ix1 j)) k * (1 + A.mods (ix3 q 4 k)) + A.mods (ix3 q 3 k)

/-- The positive part of hidden unit `n`. -/
def Args.unit (n : Fin 4096) : EReal := max (∑ k, A.enters r q k * A.w₁ (ix2 k n)) 0

/-- Row `r` after the MLP. -/
def Args.out (j : Fin 1024) : EReal :=
  A.x (ix2 r j) + A.mods (ix3 q 5 j) * ∑ n, A.unit r q n * A.unit r q n * A.w₂ (ix2 n j)

/-- Hidden unit `y` of the `c`-th block of 512. -/
def unitNo (c : Fin 8) (y : Fin 512) : Fin 4096 := ⟨512 * c.val + y.val, by omega⟩

/-- A sum over the hidden units, block by block. -/
theorem sum_units (f : Fin 4096 → EReal) : ∑ n, f n = ∑ c, ∑ y, f (unitNo c y) := by
  rw [← Equiv.sum_comp (finProdFinEquiv (m := 8) (n := 512)) f, Fintype.sum_prod_type]
  refine Finset.sum_congr rfl fun c _ => Finset.sum_congr rfl fun y _ => congrArg f (Fin.ext ?_)
  show y.val + 512 * c.val = 512 * c.val + y.val
  omega

/-- A block of an array of rank 2, placed in the array. -/
theorem emb2 {R C r w o₀ o₁ : ℕ} (off) (inb) (h₀ : off 0 = o₀) (h₁ : off 1 = o₁) (i : Fin r) (k : Fin w) (i' : Fin R) (k' : Fin C)
    (hi : o₀ + i.val = i'.val) (hk : o₁ + k.val = k'.val) :
    (Rect.unit (s := ⟨2, ![R, C]⟩) off (Shape.size ⟨2, ![r, w]⟩) inb).emb (ix2 i k) = ix2 i' k' := by
  funext a
  apply Fin.ext
  rw [ValueKit.rect_emb_unit_val]
  match a with
  | 0 => exact (congrArg (· + i.val) h₀).trans hi
  | 1 => exact (congrArg (· + k.val) h₁).trans hk

/-- The same of rank 3. -/
theorem emb3 {R S C r s w o₀ o₁ o₂ : ℕ} (off) (inb) (h₀ : off 0 = o₀) (h₁ : off 1 = o₁) (h₂ : off 2 = o₂) (i : Fin r) (j : Fin s) (k : Fin w)
    (i' : Fin R) (j' : Fin S) (k' : Fin C) (hi : o₀ + i.val = i'.val) (hj : o₁ + j.val = j'.val) (hk : o₂ + k.val = k'.val) :
    (Rect.unit (s := ⟨3, ![R, S, C]⟩) off (Shape.size ⟨3, ![r, s, w]⟩) inb).emb (ix3 i j k) = ix3 i' j' k' := by
  funext a
  apply Fin.ext
  rw [ValueKit.rect_emb_unit_val]
  match a with
  | 0 => exact (congrArg (· + i.val) h₀).trans hi
  | 1 => exact (congrArg (· + j.val) h₁).trans hj
  | 2 => exact (congrArg (· + k.val) h₂).trans hk

end Cert.Hand.Mlp

end
-- ==== Proof.RefRows.lean ====
module

public import proofs.«01_k».proof.Proof.Gen.Reference2Ideal.Run
public import proofs.«01_k».proof.Proof.Gen.Reference3Ideal.Run
public import proofs.«01_k».proof.Proof.MlpSpec

/-!
# The references' lines over rows

The norm, the modulations and the MLP of the references, as terms over the latent rows of the two batch entries and over
their context rows, and read at an element.
-/

@[expose] public section

set_option maxRecDepth 16384

noncomputable section

namespace Cert.Hand.Mlp

open Cert.Reference3Ideal Cert.Reference3Ideal.Gen Idealize.ShloMosaic Idealize.ShloMosaic.TcCoe Idealize.SL.Sem
open Idealize.ShloMosaic.Tactic

variable {F : FTy → Type} [FloatOps F]

/-- The norm of the latent rows. -/
def latNorm (x : FVec F S2x8192x1024 .f32) (g : FVec F S1024 .f32) : FVec F S2x8192x1024 .f32 :=
  mulf (mulf x (broadcastInDim S2x8192x1024 ![0, 1, 2] bcast_S2x8192x1_S2x8192x1024_0_1_2 (Host.rsqrt (addf (Host.divf
      (broadcastInDim S2x8192x1 ![0, 1] bcast_S2x8192_S2x8192x1_0_1
        (Host.reduceAdd (mulf x x) (constant S_ .f32 0x00000000#32) reducesTo_S2x8192x1024_S2x8192_d2 h_S_))
      (broadcastInDim S2x8192x1 ![] bcast_S_S2x8192x1 (constant S_ .f32 0x44800000#32)))
      (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g))

/-- The norm of the context rows. -/
def ctxNorm (x : FVec F S2x256x1024 .f32) (g : FVec F S1024 .f32) : FVec F S2x256x1024 .f32 :=
  mulf (mulf x (broadcastInDim S2x256x1024 ![0, 1, 2] bcast_S2x256x1_S2x256x1024_0_1_2 (Host.rsqrt (addf (Host.divf
      (broadcastInDim S2x256x1 ![0, 1] bcast_S2x256_S2x256x1_0_1
        (Host.reduceAdd (mulf x x) (constant S_ .f32 0x00000000#32) reducesTo_S2x256x1024_S2x256_d2 h_S_))
      (broadcastInDim S2x256x1 ![] bcast_S_S2x256x1 (constant S_ .f32 0x44800000#32)))
      (broadcastInDim S2x256x1 ![] bcast_S_S2x256x1 (constant S_ .f32 0x358637BD#32))))))
    (broadcastInDim S2x256x1024 ![0, 1, 2] bcast_S1x1x1024_S2x256x1024_0_1_2 (broadcastInDim S1x1x1024 ![2] bcast_S1024_S1x1x1024_2 g))

/-- Modulation `a` of the batch entries. -/
def latMod (mods : FVec F S8x6x1024 .f32) (a : ℕ) (h : S8x6x1024.Slices ![0, a, 0] S2x1x1024) : FVec F S2x1x1024 .f32 :=
  broadcastInDim S2x1x1024 ![0, 2] bcast_S2x1024_S2x1x1024_0_2
    (shapeCast S2x1024 (extractStridedSlice S2x1x1024 ![0, a, 0] mods h) shapeCasts_S2x1x1024_S2x1024)

/-- Modulation `a` of the context. -/
def ctxMod (mods : FVec F S8x6x1024 .f32) (a : ℕ) (h : S8x6x1024.Slices ![2, a, 0] S1x1x1024) : FVec F S1024 .f32 :=
  shapeCast S1024 (extractStridedSlice S1x1x1024 ![2, a, 0] mods h) shapeCasts_S1x1x1024_S1024

/-- The modulated latent rows. -/
def latEnters (y : FVec F S2x8192x1024 .f32) (sh sc : FVec F S2x1x1024 .f32) : FVec F S2x8192x1024 .f32 :=
  addf (mulf y (broadcastInDim S2x8192x1024 ![0, 1, 2] bcast_S2x1x1024_S2x8192x1024_0_1_2
      (addf (broadcastInDim S2x1x1024 ![] bcast_S_S2x1x1024 (constant S_ .f32 0x3F800000#32)) sc)))
    (broadcastInDim S2x8192x1024 ![0, 1, 2] bcast_S2x1x1024_S2x8192x1024_0_1_2 sh)

/-- A modulation of the context, over its rows. -/
def ctxOver (v : FVec F S1024 .f32) : FVec F S2x256x1024 .f32 :=
  broadcastInDim S2x256x1024 ![0, 1, 2] bcast_S1x1x1024_S2x256x1024_0_1_2 (broadcastInDim S1x1x1024 ![2] bcast_S1024_S1x1x1024_2 v)

/-- The modulated context rows. -/
def ctxEnters (y : FVec F S2x256x1024 .f32) (sh sc : FVec F S1024 .f32) : FVec F S2x256x1024 .f32 :=
  addf (mulf y (ctxOver (addf (broadcastInDim S1024 ![] bcast_S_S1024 (constant S_ .f32 0x3F800000#32)) sc))) (ctxOver sh)

/-- The latent rows' hidden units. -/
def latUnits (h : FVec F S2x8192x1024 .f32) (w₁ : FVec F S1024x4096 .f32) : FVec F S2x8192x4096 .f32 :=
  maximumf (Host.dotGeneral dot_S2x8192x1024_S1024x4096_S2x8192x4096_2_0_01_1_n_n none h w₁)
    (broadcastInDim S2x8192x4096 ![] bcast_S_S2x8192x4096 (constant S_ .f32 0x00000000#32))

/-- The context rows' hidden units. -/
def ctxUnits (h : FVec F S2x256x1024 .f32) (w₁ : FVec F S1024x4096 .f32) : FVec F S2x256x4096 .f32 :=
  maximumf (Host.dotGeneral dot_S2x256x1024_S1024x4096_S2x256x4096_2_0_01_1_n_n none h w₁)
    (broadcastInDim S2x256x4096 ![] bcast_S_S2x256x4096 (constant S_ .f32 0x00000000#32))

/-- The latent rows after the MLP, from the hidden units. -/
def latOut (x : FVec F S2x8192x1024 .f32) (a : FVec F S2x8192x4096 .f32) (gt : FVec F S2x1x1024 .f32) (w₂ : FVec F S4096x1024 .f32) :
    FVec F S2x8192x1024 .f32 :=
  addf x (mulf (broadcastInDim S2x8192x1024 ![0, 1, 2] bcast_S2x1x1024_S2x8192x1024_0_1_2 gt)
    (Host.dotGeneral dot_S2x8192x4096_S4096x1024_S2x8192x1024_2_0_01_1_n_n none (mulf a a) w₂))

/-- The context rows after the MLP, from the hidden units. -/
def ctxOut (x : FVec F S2x256x1024 .f32) (a : FVec F S2x256x4096 .f32) (gt : FVec F S1024 .f32) (w₂ : FVec F S4096x1024 .f32) :
    FVec F S2x256x1024 .f32 :=
  addf x (mulf (ctxOver gt) (Host.dotGeneral dot_S2x256x4096_S4096x1024_S2x256x1024_2_0_01_1_n_n none (mulf a a) w₂))

/-- The latent rows of the reference after the MLP, from those before it. -/
def latMlp (x : FVec F S2x8192x1024 .f32) (mods : FVec F S8x6x1024 .f32)
    (g : FVec F S1024 .f32) (w₁ : FVec F S1024x4096 .f32) (w₂ : FVec F S4096x1024 .f32) :
    FVec F S2x8192x1024 .f32 :=
  latOut x (latUnits (latEnters (latNorm x g) (latMod mods 3 slices_S8x6x1024_S2x1x1024_0_3_0)
    (latMod mods 4 slices_S8x6x1024_S2x1x1024_0_4_0)) w₁) (latMod mods 5 slices_S8x6x1024_S2x1x1024_0_5_0) w₂

/-- The context rows of the reference after the MLP, from those before it. -/
def ctxMlp (x : FVec F S2x256x1024 .f32) (mods : FVec F S8x6x1024 .f32)
    (g : FVec F S1024 .f32) (w₁ : FVec F S1024x4096 .f32) (w₂ : FVec F S4096x1024 .f32) :
    FVec F S2x256x1024 .f32 :=
  ctxOut x (ctxUnits (ctxEnters (ctxNorm x g) (ctxMod mods 3 slices_S8x6x1024_S1x1x1024_2_3_0)
    (ctxMod mods 4 slices_S8x6x1024_S1x1x1024_2_4_0)) w₁) (ctxMod mods 5 slices_S8x6x1024_S1x1x1024_2_5_0) w₂

variable (b : Fin 2) (t : Fin 8192) (u : Fin 256) (k : Fin 1024)

theorem latNorm_at (x : FVec Ideal S2x8192x1024 .f32) (g : FVec Ideal S1024 .f32) :
    latNorm x g (ix3 b t k) = rms (fun j => x (ix3 b t j)) (fun j => g (ix1 j)) k := by
  pointwise [latNorm]
  rfl

theorem ctxNorm_at (x : FVec Ideal S2x256x1024 .f32) (g : FVec Ideal S1024 .f32) :
    ctxNorm x g (ix3 b u k) = rms (fun j => x (ix3 b u j)) (fun j => g (ix1 j)) k := by
  pointwise [ctxNorm]
  rfl

theorem latMod_at (mods : FVec Ideal S8x6x1024 .f32) (a : Fin 6) (h) : latMod mods a.val h (ix3 b 0 k) = mods (ix3 ⟨b.val, by omega⟩ a k) := by
  pointwise [latMod]

theorem ctxMod_at (mods : FVec Ideal S8x6x1024 .f32) (a : Fin 6) (h) : ctxMod mods a.val h (ix1 k) = mods (ix3 2 a k) := by
  pointwise [ctxMod]

theorem latEnters_at (y : FVec Ideal S2x8192x1024 .f32) (sh sc : FVec Ideal S2x1x1024 .f32) :
    latEnters y sh sc (ix3 b t k) = y (ix3 b t k) * (1 + sc (ix3 b 0 k)) + sh (ix3 b 0 k) := by
  pointwise [latEnters]

theorem ctxEnters_at (y : FVec Ideal S2x256x1024 .f32) (sh sc : FVec Ideal S1024 .f32) :
    ctxEnters y sh sc (ix3 b u k) = y (ix3 b u k) * (1 + sc (ix1 k)) + sh (ix1 k) := by
  pointwise [ctxEnters, ctxOver]

theorem latUnits_at (h : FVec Ideal S2x8192x1024 .f32) (w₁ : FVec Ideal S1024x4096 .f32) (n : Fin 4096) :
    latUnits h w₁ (ix3 b t n) = max (∑ z, h (ix3 b t z) * w₁ (ix2 z n)) 0 := by
  pointwise [latUnits]

theorem ctxUnits_at (h : FVec Ideal S2x256x1024 .f32) (w₁ : FVec Ideal S1024x4096 .f32) (n : Fin 4096) :
    ctxUnits h w₁ (ix3 b u n) = max (∑ z, h (ix3 b u z) * w₁ (ix2 z n)) 0 := by
  pointwise [ctxUnits]

theorem latOut_at (x : FVec Ideal S2x8192x1024 .f32) (a : FVec Ideal S2x8192x4096 .f32) (gt : FVec Ideal S2x1x1024 .f32)
    (w₂ : FVec Ideal S4096x1024 .f32) :
    latOut x a gt w₂ (ix3 b t k) = x (ix3 b t k) + gt (ix3 b 0 k) * ∑ n, a (ix3 b t n) * a (ix3 b t n) * w₂ (ix2 n k) := by
  pointwise [latOut]

theorem ctxOut_at (x : FVec Ideal S2x256x1024 .f32) (a : FVec Ideal S2x256x4096 .f32) (gt : FVec Ideal S1024 .f32)
    (w₂ : FVec Ideal S4096x1024 .f32) :
    ctxOut x a gt w₂ (ix3 b u k) = x (ix3 b u k) + gt (ix1 k) * ∑ n, a (ix3 b u n) * a (ix3 b u n) * w₂ (ix2 n k) := by
  pointwise [ctxOut, ctxOver]

theorem latMlp_at {R : ℕ} (A : Args R) (r : Fin R)
    (x : FVec Ideal S2x8192x1024 .f32) (hx : ∀ j, x (ix3 b t j) = A.x (ix2 r j)) :
    latMlp x A.mods A.g A.w₁ A.w₂ (ix3 b t k) = A.out r ⟨b.val, by omega⟩ k := by
  have m3 : ∀ j, latMod A.mods 3 slices_S8x6x1024_S2x1x1024_0_3_0 (ix3 b 0 j) = A.mods (ix3 ⟨b.val, by omega⟩ 3 j) := fun j => latMod_at b j A.mods 3 _
  have m4 : ∀ j, latMod A.mods 4 slices_S8x6x1024_S2x1x1024_0_4_0 (ix3 b 0 j) = A.mods (ix3 ⟨b.val, by omega⟩ 4 j) := fun j => latMod_at b j A.mods 4 _
  have m5 : ∀ j, latMod A.mods 5 slices_S8x6x1024_S2x1x1024_0_5_0 (ix3 b 0 j) = A.mods (ix3 ⟨b.val, by omega⟩ 5 j) := fun j => latMod_at b j A.mods 5 _
  rw [latMlp, latOut_at]
  simp only [latUnits_at, latEnters_at, latNorm_at, hx, m3, m4, m5, Args.out, Args.unit, Args.enters]

theorem ctxMlp_at {R : ℕ} (A : Args R) (r : Fin R)
    (x : FVec Ideal S2x256x1024 .f32) (hx : ∀ j, x (ix3 b u j) = A.x (ix2 r j)) :
    ctxMlp x A.mods A.g A.w₁ A.w₂ (ix3 b u k) = A.out r 2 k := by
  have m3 : ∀ j, ctxMod A.mods 3 slices_S8x6x1024_S1x1x1024_2_3_0 (ix1 j) = A.mods (ix3 2 3 j) := fun j => ctxMod_at j A.mods 3 _
  have m4 : ∀ j, ctxMod A.mods 4 slices_S8x6x1024_S1x1x1024_2_4_0 (ix1 j) = A.mods (ix3 2 4 j) := fun j => ctxMod_at j A.mods 4 _
  have m5 : ∀ j, ctxMod A.mods 5 slices_S8x6x1024_S1x1x1024_2_5_0 (ix1 j) = A.mods (ix3 2 5 j) := fun j => ctxMod_at j A.mods 5 _
  rw [ctxMlp, ctxOut_at]
  simp only [ctxUnits_at, ctxEnters_at, ctxNorm_at, hx, m3, m4, m5, Args.out, Args.unit, Args.enters]

end Cert.Hand.Mlp

end
-- ==== Proof.MlpBlock.lean ====
module

public import proofs.«01_k».proof.Proof.MlpSpec
public import proofs.«01_k».proof.Proof.Gen.Kernel2Ideal.Value
public import Idealize.ShloMosaic.Lib.Pointwise
public import Idealize.ShloMosaic.Lib.Pipeline.ReadBack
public import Idealize.ShloMosaic.Lib.Pipeline.ValueKit.Geometry
public import Idealize.ShloMosaic.Lib.Pipeline.ValueKit.Tiles

/-!
# What a grid point of the MLPs computes

The vector terms of one block of 512 rows: the normed and modulated rows, one part of 512 hidden units, the sum of the
eight parts, the residual, and the final norm.
-/

@[expose] public section

set_option maxRecDepth 16384

noncomputable section

namespace Cert.Hand.Mlp

open Cert.Kernel2Ideal Cert.Kernel2Ideal.Gen Idealize.ShloMosaic Idealize.SL.Sem
open Idealize.ShloMosaic.Tactic

variable {F : FTy → Type} [FloatOps F]

/-- The part of the MLP's result that one block of 512 hidden units gives. -/
def part (h : FVec F S512x1024 .bf16) (u : Vec F S1024x512 .bf16) (v : Vec F S512x1024 .bf16) : FVec F S512x1024 .f32 :=
  have a : FVec F S512x512 .f32 := maximumf
    (matmul dot_S512x1024_S1024x512_S512x512_1_0_0_1_n_n none h
      (shapeCast S1024x512 u shapeCasts_S1024x512_S1024x512 : FVec F S1024x512 .bf16) (constant S512x512 .f32 0x00000000#32 : FVec F S512x512 .f32))
    (broadcast S512x512 (Scalar.ofBits .f32 0x00000000#32 : F .f32))
  matmul dot_S512x512_S512x1024_S512x1024_1_0_0_1_n_n none (truncf .bf16 (mulf a a) bitsLt_bf16_f32)
    (shapeCast S512x1024 v shapeCasts_S512x1024_S512x1024 : FVec F S512x1024 .bf16) (constant S512x1024 .f32 0x00000000#32)

/-- The sum of the eight parts, in the order in which they are added. -/
def total (p : Fin 8 → FVec F S512x1024 .f32) : FVec F S512x1024 .f32 :=
  addf (addf (addf (addf (addf (addf (addf (addf (broadcast S512x1024 (Scalar.ofBits .f32 0x00000000#32 : F .f32))
    (p 0)) (p 1)) (p 2)) (p 3)) (p 4)) (p 5)) (p 6)) (p 7)

/-- Rows over the root of their mean square, times `g`. -/
def normed (x : FVec F S512x1024 .f32) (g : Vec F S1x1024 .f32) : FVec F S512x1024 .f32 :=
  mulf (mulf x (broadcastTo S512x1024 (rsqrt (addf (divf
      (shapeCast S512x1 (multiReduction .add [1] S512 (mulf x x) 0x00000000#32 reduces_S512x1024_S512 (.inl rfl) rfl) shapeCasts_S512_S512x1)
      (broadcast S512x1 (Scalar.ofBits .f32 0x44800000#32 : F .f32))) (broadcast S512x1 (Scalar.ofBits .f32 0x358637BD#32 : F .f32))))
      broadcasts_S512x1_S512x1024))
    (broadcastTo S512x1024 (shapeCast S1x1024 g shapeCasts_S1x1024_S1x1024 : FVec F S1x1024 .f32) broadcasts_S1x1024_S512x1024)

/-- The rows the MLP is applied to. -/
def enters (x : FVec F S512x1024 .f32) (m : Vec F S1x6x1024 .f32) (g : Vec F S1x1024 .f32) : FVec F S512x1024 .bf16 :=
  truncf .bf16 (addf (mulf (normed x g) (broadcastTo S512x1024 (addf (broadcast S1x1024 (Scalar.ofBits .f32 0x3F800000#32 : F .f32))
      (extractStridedSlice S1x1024 ![4, 0] (k0_pay2 m) slices_S6x1024_o4_0_S1x1024)) broadcasts_S1x1024_S512x1024))
    (broadcastTo S512x1024 (extractStridedSlice S1x1024 ![3, 0] (k0_pay2 m) slices_S6x1024_o3_0_S1x1024) broadcasts_S1x1024_S512x1024))
    bitsLt_bf16_f32

/-- The rows after the MLP, `t` its result. -/
def leaves (x : FVec F S512x1024 .f32) (m : Vec F S1x6x1024 .f32) (t : FVec F S512x1024 .f32) : FVec F S512x1024 .f32 :=
  addf x (mulf (broadcastTo S512x1024 (extractStridedSlice S1x1024 ![5, 0] (k0_pay2 m) slices_S6x1024_o5_0_S1x1024) broadcasts_S1x1024_S512x1024) t)

theorem inb_u (n : Fin 8) : ∀ a, (![0, 512 * n.val] : Fin 2 → ℕ) a + S1024x512.size a ≤ S1024x4096.size a := by
  intro a; fin_cases a
  · show 0 + 1024 ≤ 1024; omega
  · show 512 * n.val + 512 ≤ 4096; omega

theorem inb_v (n : Fin 8) : ∀ a, (![512 * n.val, 0] : Fin 2 → ℕ) a + S512x1024.size a ≤ S4096x1024.size a := by
  intro a; fin_cases a
  · show 512 * n.val + 512 ≤ 4096; omega
  · show 0 + 1024 ≤ 1024; omega

/-- The columns of the first weight, and the rows of the second, of block `n` of hidden units. -/
def colsOf (w : Vec F S1024x4096 .bf16) (n : Fin 8) : Vec F S1024x512 .bf16 :=
  View.ld w (Rect.unit (s := S1024x4096) ![0, 512 * n.val] S1024x512.size (inb_u n))

@[inherit_doc colsOf] def rowsOf (w : Vec F S4096x1024 .bf16) (n : Fin 8) : Vec F S512x1024 .bf16 :=
  View.ld w (Rect.unit (s := S4096x1024) ![512 * n.val, 0] S512x1024.size (inb_v n))

/-- A block of rows after the MLP. -/
def block (x : Vec F S512x1024 .f32) (m : Vec F S1x6x1024 .f32) (g : Vec F S1x1024 .f32) (w₁ : Vec F S1024x4096 .bf16)
    (w₂ : Vec F S4096x1024 .bf16) : FVec F S512x1024 .f32 :=
  leaves x m (total fun n => part (enters x m g) (colsOf w₁ n) (rowsOf w₂ n))

theorem zero2 : (![0, 0] : Fin 2 → ℕ) = fun _ => 0 := by funext a; fin_cases a <;> rfl
theorem zero3 : (![0, 0, 0] : Fin 3 → ℕ) = fun _ => 0 := by funext a; fin_cases a <;> rfl

/-- What a grid point of the last layer's MLP writes. -/
theorem out_final (x : Vec F S512x1024 .f32) (m : Vec F S1x6x1024 .f32) (g : Vec F S1x1024 .f32) (w₁ : Vec F S1024x4096 .bf16)
    (w₂ : Vec F S4096x1024 .bf16) (fg : Vec F S1x1024 .f32) : out0_6 x m g w₁ w₂ fg = normed (block x m g w₁ w₂) fg := by
  have h : out0_6 x m g w₁ w₂ fg = View.canon [⟨r0_0, normed (leaves (View.ld x r0_0) (View.ld m r0_1)
      (total fun n => part (enters (View.ld x r0_0) (View.ld m r0_1) (View.ld g r0_2)) (colsOf w₁ n) (rowsOf w₂ n))) (View.ld fg r0_2)⟩] := rfl
  rw [h, View.canon_unit_zero zero2, View.ld_unit_zero (S := S512x1024) zero2, View.ld_unit_zero (S := S1x6x1024) zero3,
    View.ld_unit_zero (S := S1x1024) zero2, View.ld_unit_zero (S := S1x1024) zero2]
  rfl

/-- The rows of the block hold row `r` of the stream at `i`, and the other inputs hold the arguments. -/
structure Holds {R : ℕ} (A : Args R) (r : Fin R) (q : Fin 8) (i : Fin 512) (x : Vec Ideal S512x1024 .f32) (m : Vec Ideal S1x6x1024 .f32)
    (g : Vec Ideal S1x1024 .f32) (w₁ : Vec Ideal S1024x4096 .bf16) (w₂ : Vec Ideal S4096x1024 .bf16) : Prop where
  /-- the row -/
  x : ∀ k, x (ix2 i k) = A.x (ix2 r k)
  /-- the modulations -/
  m : ∀ a k, m (ix3 0 a k) = A.mods (ix3 q a k)
  /-- the norm's weight -/
  g : ∀ k, g (ix2 0 k) = A.g (ix1 k)
  /-- the first weight -/
  w₁ : ∀ k n, w₁ (ix2 k n) = A.w₁ (ix2 k n)
  /-- the second weight -/
  w₂ : ∀ n k, w₂ (ix2 n k) = A.w₂ (ix2 n k)

theorem normed_at (x : FVec Ideal S512x1024 .f32) (g : Vec Ideal S1x1024 .f32) (i : Fin 512) (k : Fin 1024) :
    normed x g (ix2 i k) = rms (fun j => x (ix2 i j)) (fun j => g (ix2 0 j)) k := by
  pointwise [normed]
  rfl

theorem part_at (h : FVec Ideal S512x1024 .bf16) (u : Vec Ideal S1024x512 .bf16) (v : Vec Ideal S512x1024 .bf16) (i : Fin 512) (k : Fin 1024) :
    part h u v (ix2 i k)
      = ∑ y, max (∑ z, h (ix2 i z) * u (ix2 z y)) 0 * max (∑ z, h (ix2 i z) * u (ix2 z y)) 0 * v (ix2 y k) := by
  pointwise [part]

theorem enters_at (x : FVec Ideal S512x1024 .f32) (m : Vec Ideal S1x6x1024 .f32) (g : Vec Ideal S1x1024 .f32) (i : Fin 512) (k : Fin 1024) :
    enters x m g (ix2 i k) = normed x g (ix2 i k) * (1 + m (ix3 0 4 k)) + m (ix3 0 3 k) := by
  pointwise [enters, k0_pay2]

theorem total_at (p : Fin 8 → FVec Ideal S512x1024 .f32) (i : Fin 512) (k : Fin 1024) : total p (ix2 i k) = ∑ n, p n (ix2 i k) := by
  pointwise [total]
  rw [Fin.sum_univ_eight]

theorem leaves_at (x : FVec Ideal S512x1024 .f32) (m : Vec Ideal S1x6x1024 .f32) (t : FVec Ideal S512x1024 .f32) (i : Fin 512) (k : Fin 1024) :
    leaves x m t (ix2 i k) = x (ix2 i k) + m (ix3 0 5 k) * t (ix2 i k) := by
  pointwise [leaves, k0_pay2]

theorem colsOf_at (w : Vec Ideal S1024x4096 .bf16) (n : Fin 8) (k : Fin 1024) (y : Fin 512) :
    colsOf w n (ix2 k y) = w (ix2 k (unitNo n y)) :=
  View.ld_unit_apply_of w _ _ _ _ _ fun a => by
    match a with
    | 0 => exact (Nat.zero_add _).symm
    | 1 => rfl

theorem rowsOf_at (w : Vec Ideal S4096x1024 .bf16) (n : Fin 8) (y : Fin 512) (k : Fin 1024) :
    rowsOf w n (ix2 y k) = w (ix2 (unitNo n y) k) :=
  View.ld_unit_apply_of w _ _ _ _ _ fun a => by
    match a with
    | 0 => rfl
    | 1 => exact (Nat.zero_add _).symm

/-- The block holds the row after the MLP. -/
theorem block_at {R : ℕ} {A : Args R} {r : Fin R} {q : Fin 8} {i : Fin 512} {x : Vec Ideal S512x1024 .f32} {m : Vec Ideal S1x6x1024 .f32}
    {g : Vec Ideal S1x1024 .f32} {w₁ : Vec Ideal S1024x4096 .bf16} {w₂ : Vec Ideal S4096x1024 .bf16}
    (H : Holds A r q i x m g w₁ w₂) (k : Fin 1024) : block x m g w₁ w₂ (ix2 i k) = A.out r q k := by
  have he : ∀ z, enters x m g (ix2 i z) = A.enters r q z := fun z => by
    rw [enters_at, normed_at, H.m, H.m]
    simp only [H.x, H.g, Args.enters]
  rw [block, leaves_at, total_at, Args.out, sum_units]
  simp only [part_at, he, colsOf_at, rowsOf_at, H.x, H.m, H.w₁, H.w₂, Args.unit]

end Cert.Hand.Mlp

end
-- ==== Proof.MlpFinal.lean ====
module

public import proofs.«01_k».proof.Proof.MlpBlock

/-!
# The last layer's MLP

The kernel's result at an element, in its arguments.
-/

@[expose] public section

set_option maxRecDepth 16384

noncomputable section

namespace Cert.Hand.Mlp.Final

open Cert.Kernel2Ideal Cert.Kernel2Ideal.Gen Idealize.ShloMosaic Idealize.ShloMosaic.TcCoe Idealize.SL.Sem
open Idealize.ShloMosaic.Tactic

variable (m : (ℓ : Loc nD τ sig) → Buf (Elt Ideal) ℓ) (c : Dev nD)

/-- The kernel's arguments. -/
def args : Args 16384 where
  x := m ((c : Thread nD τ).loc main_arg0)
  mods := m ((c : Thread nD τ).loc main_arg1)
  g := m ((c : Thread nD τ).loc main_arg2)
  w₁ := m ((c : Thread nD τ).loc main_arg3)
  w₂ := m ((c : Thread nD τ).loc main_arg4)

/-- The final norm's weight. -/
def weight : FVec Ideal S1024 .f32 := m ((c : Thread nD τ).loc main_arg5)

theorem index_all : ∀ t : Fin cfg0.N,
    (win0_0.index t 0 = t.val ∧ win0_0.index t 1 = 0) ∧ (win0_1.index t 0 = t.val / 16 ∧ win0_1.index t 1 = 0 ∧ win0_1.index t 2 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = t.val ∧ win0_6.index t 1 = 0) :=
  (by decide +kernel : ∀ t : Fin grid0.N,
    (win0_0.index t 0 = t.val ∧ win0_0.index t 1 = 0) ∧ (win0_1.index t 0 = t.val / 16 ∧ win0_1.index t 1 = 0 ∧ win0_1.index t 2 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = t.val ∧ win0_6.index t 1 = 0))

theorem N_lt (t : Fin cfg0.N) : t.val < 32 := t.isLt.trans_eq N_0

/-- Row `i` of block `t`. -/
def rowAt (t : Fin cfg0.N) (i : Fin 512) : Fin 16384 := ⟨t.val * 512 + i.val, by have := N_lt t; omega⟩

/-- The modulations of block `t`. -/
def modAt (t : Fin cfg0.N) : Fin 8 := ⟨t.val / 16, by have := N_lt t; omega⟩

theorem read_0 (A : FVec Ideal S16384x1024 .f32) (t : Fin cfg0.N) (i : Fin 512) (k : Fin 1024) :
    ((cfg0.win 0).blk t).view.read (Elt Ideal) A (ix2 i k) = A (ix2 (rowAt t i) k) :=
  congrArg A (emb2 _ _ (congrArg (· * 512) (index_all t).1.1) (congrArg (· * 1024) (index_all t).1.2) i k _ _ rfl (by omega))

theorem read_1 (A : FVec Ideal S8x6x1024 .f32) (t : Fin cfg0.N) (a : Fin 6) (k : Fin 1024) :
    ((cfg0.win 1).blk t).view.read (Elt Ideal) A (ix3 0 a k) = A (ix3 (modAt t) a k) :=
  congrArg A (emb3 _ _ (congrArg (· * 1) (index_all t).2.1.1) (congrArg (· * 6) (index_all t).2.1.2.1) (congrArg (· * 1024) (index_all t).2.1.2.2)
    0 a k _ _ _ (by simp [modAt]) (by omega) (by omega))

theorem read_2 (A : FVec Ideal S1x1024 .f32) (t : Fin cfg0.N) (k : Fin 1024) :
    ((cfg0.win 2).blk t).view.read (Elt Ideal) A (ix2 0 k) = A (ix2 0 k) :=
  congrArg A (emb2 _ _ (congrArg (· * 1) (index_all t).2.2.1.1) (congrArg (· * 1024) (index_all t).2.2.1.2) 0 k _ _ rfl (by omega))

theorem read_3 (A : FVec Ideal S1024x4096 .bf16) (t : Fin cfg0.N) (i : Fin 1024) (k : Fin 4096) :
    ((cfg0.win 3).blk t).view.read (Elt Ideal) A (ix2 i k) = A (ix2 i k) :=
  congrArg A (emb2 _ _ (congrArg (· * 1024) (index_all t).2.2.2.1.1) (congrArg (· * 4096) (index_all t).2.2.2.1.2) i k _ _ (by omega) (by omega))

theorem read_4 (A : FVec Ideal S4096x1024 .bf16) (t : Fin cfg0.N) (i : Fin 4096) (k : Fin 1024) :
    ((cfg0.win 4).blk t).view.read (Elt Ideal) A (ix2 i k) = A (ix2 i k) :=
  congrArg A (emb2 _ _ (congrArg (· * 4096) (index_all t).2.2.2.2.1.1) (congrArg (· * 1024) (index_all t).2.2.2.2.1.2) i k _ _ (by omega) (by omega))

theorem read_5 (A : FVec Ideal S1x1024 .f32) (t : Fin cfg0.N) (k : Fin 1024) :
    ((cfg0.win 5).blk t).view.read (Elt Ideal) A (ix2 0 k) = A (ix2 0 k) :=
  congrArg A (emb2 _ _ (congrArg (· * 1) (index_all t).2.2.2.2.2.1.1) (congrArg (· * 1024) (index_all t).2.2.2.2.2.1.2) 0 k _ _ rfl (by omega))

theorem read_6 (A : FVec Ideal S16384x1024 .f32) (t : Fin cfg0.N) (i : Fin 512) (k : Fin 1024) :
    ((cfg0.win 6).blk t).view.read (Elt Ideal) A (ix2 i k) = A (ix2 (rowAt t i) k) :=
  congrArg A (emb2 _ _ (congrArg (· * 512) (index_all t).2.2.2.2.2.2.1) (congrArg (· * 1024) (index_all t).2.2.2.2.2.2.2) i k _ _ rfl (by omega))

theorem V_v0 : V m c main_v0 = (args m c).w₁ := by
  simp only [V, hostOps0]; after_results_simp; rfl

theorem V_v1 : V m c main_v1 = (args m c).w₂ := by
  simp only [V, hostOps0]; after_results_simp; rfl

theorem V_v2 : V m c main_v2 = shapeCast S1x1024 (args m c).g shapeCasts_S1024_S1x1024 := by
  simp only [V, hostOps0]; after_results_simp; rfl

theorem V_v3 : V m c main_v3 = shapeCast S1x1024 (weight m c) shapeCasts_S1024_S1x1024 := by
  simp only [V, hostOps0]; after_results_simp; rfl

theorem row_cast (g : FVec Ideal S1024 .f32) (k : Fin 1024) :
    (shapeCast S1x1024 g shapeCasts_S1024_S1x1024 : FVec Ideal S1x1024 .f32) (ix2 0 k) = g (ix1 k) := by
  pointwise

/-- The blocks of a grid point hold the arguments. -/
theorem holds (t : Fin cfg0.N) (i : Fin 512) :
    Holds (args m c) (rowAt t i) (modAt t) i (iblk m c 0 t) (iblk m c 1 t) (iblk m c 2 t) (iblk m c 3 t) (iblk m c 4 t) where
  x k := (read_0 _ t i k).trans (congrFun (V_main_arg0 m c) _)
  m a k := (read_1 _ t a k).trans (congrFun (V_main_arg1 m c) _)
  g k := (read_2 _ t k).trans ((congrFun (V_v2 m c) _).trans (row_cast _ k))
  w₁ k n := (read_3 _ t k n).trans (congrFun (V_v0 m c) _)
  w₂ n k := (read_4 _ t n k).trans (congrFun (V_v1 m c) _)

/-- The kernel's result at an element. -/
theorem value (t : Fin cfg0.N) (i : Fin 512) (k : Fin 1024) :
    ((dats m 0 c).arrAt 6 cfg0.N : FVec Ideal S16384x1024 .f32) (ix2 (rowAt t i) k)
      = rms ((args m c).out (rowAt t i) (modAt t)) (fun j => weight m c (ix1 j)) k := by
  rw [← read_6 ((dats m 0 c).arrAt 6 cfg0.N) t i k, Cert.Kernel2Ideal.Value.blocks6 m c _ (flush0_6 _), Cert.Kernel2Ideal.Value.flushed6]
  have h5 : ∀ j, (iblk m c 5 t : Vec Ideal S1x1024 .f32) (ix2 0 j) = weight m c (ix1 j) := fun j =>
    (read_5 _ t j).trans ((congrFun (V_v3 m c) _).trans (row_cast _ j))
  refine (congrFun (out_final (iblk m c 0 t) (iblk m c 1 t) (iblk m c 2 t) (iblk m c 3 t) (iblk m c 4 t) (iblk m c 5 t)) (ix2 i k)).trans ?_
  refine (normed_at _ _ i k).trans ?_
  simp only [h5]
  exact congrArg (fun f => rms f _ k) (funext fun j => block_at (holds m c t i) j)

/-- The modulations of row `r`. -/
def modOf (r : Fin 16384) : Fin 8 := ⟨r.val / 8192, by omega⟩

/-- The same, by the row. -/
theorem value_row (r : Fin 16384) (k : Fin 1024) :
    ((dats m 0 c).arrAt 6 cfg0.N : FVec Ideal S16384x1024 .f32) (ix2 r k)
      = rms ((args m c).out r (modOf r)) (fun j => weight m c (ix1 j)) k := by
  have h := value m c ⟨r.val / 512, by rw [show cfg0.N = 32 from N_0]; omega⟩ ⟨r.val % 512, by omega⟩ k
  rw [show rowAt ⟨r.val / 512, by rw [show cfg0.N = 32 from N_0]; omega⟩ ⟨r.val % 512, by omega⟩ = r from
      Fin.ext (by simp only [rowAt]; omega),
    show modAt ⟨r.val / 512, by rw [show cfg0.N = 32 from N_0]; omega⟩ = modOf r from Fin.ext (by simp only [modAt, modOf]; omega)] at h
  exact h

end Cert.Hand.Mlp.Final

end
-- ==== Proof.MlpFirst.lean ====
module

public import proofs.«01_k».proof.Proof.MlpBlock
public import proofs.«01_k».proof.Proof.Gen.Kernel3Ideal.Value

/-!
# The first layer's MLP

The kernel's result at an element, in its arguments.
-/

@[expose] public section

set_option maxRecDepth 16896

noncomputable section

namespace Cert.Hand.Mlp.First

open Cert.Kernel3Ideal Cert.Kernel3Ideal.Gen Idealize.ShloMosaic Idealize.ShloMosaic.TcCoe Idealize.SL.Sem
open Idealize.ShloMosaic.Tactic

variable (m : (ℓ : Loc nD τ sig) → Buf (Elt Ideal) ℓ) (c : Dev nD)

/-- The kernel's arguments. -/
def args : Args 16896 where
  x := m ((c : Thread nD τ).loc main_arg0)
  mods := m ((c : Thread nD τ).loc main_arg1)
  g := m ((c : Thread nD τ).loc main_arg2)
  w₁ := m ((c : Thread nD τ).loc main_arg3)
  w₂ := m ((c : Thread nD τ).loc main_arg4)

theorem index_all : ∀ t : Fin cfg0.N,
    (win0_0.index t 0 = t.val ∧ win0_0.index t 1 = 0) ∧ (win0_1.index t 0 = (if t.val = 0 then 2 else (t.val - 1) / 16) ∧ win0_1.index t 1 = 0 ∧ win0_1.index t 2 = 0)
    ∧ (win0_2.index t 0 = 0 ∧ win0_2.index t 1 = 0) ∧ (win0_3.index t 0 = 0 ∧ win0_3.index t 1 = 0)
    ∧ (win0_4.index t 0 = 0 ∧ win0_4.index t 1 = 0)
    ∧ (win0_6.index t 0 = t.val ∧ win0_6.index t 1 = 0) :=
  (by decide +kernel : ∀ t : Fin grid0.N,
    (win0_0.index t 0 = t.val ∧ win0_0.index t 1 = 0) ∧ (win0_1.index t 0 = (if t.val = 0 then 2 else (t.val - 1) / 16) ∧ win0_1.index t 1 = 0 ∧ win0_1.index t 2 = 0)
    ∧ (win0_2.index t 0 = 0 ∧ win0_2.index t 1 = 0) ∧ (win0_3.index t 0 = 0 ∧ win0_3.index t 1 = 0)
    ∧ (win0_4.index t 0 = 0 ∧ win0_4.index t 1 = 0)
    ∧ (win0_6.index t 0 = t.val ∧ win0_6.index t 1 = 0))

theorem N_lt (t : Fin cfg0.N) : t.val < 33 := t.isLt.trans_eq N_0

/-- Row `i` of block `t`. -/
def rowAt (t : Fin cfg0.N) (i : Fin 512) : Fin 16896 := ⟨t.val * 512 + i.val, by have := N_lt t; omega⟩

/-- The modulations of block `t`. -/
def modAt (t : Fin cfg0.N) : Fin 8 := ⟨if t.val = 0 then 2 else (t.val - 1) / 16, by have := N_lt t; split <;> omega⟩

theorem read_0 (A : FVec Ideal S16896x1024 .f32) (t : Fin cfg0.N) (i : Fin 512) (k : Fin 1024) :
    ((cfg0.win 0).blk t).view.read (Elt Ideal) A (ix2 i k) = A (ix2 (rowAt t i) k) :=
  congrArg A (emb2 _ _ (congrArg (· * 512) (index_all t).1.1) (congrArg (· * 1024) (index_all t).1.2) i k _ _ rfl (by omega))

theorem read_1 (A : FVec Ideal S8x6x1024 .f32) (t : Fin cfg0.N) (a : Fin 6) (k : Fin 1024) :
    ((cfg0.win 1).blk t).view.read (Elt Ideal) A (ix3 0 a k) = A (ix3 (modAt t) a k) :=
  congrArg A (emb3 _ _ (congrArg (· * 1) (index_all t).2.1.1) (congrArg (· * 6) (index_all t).2.1.2.1) (congrArg (· * 1024) (index_all t).2.1.2.2)
    0 a k _ _ _ (by simp [modAt]) (by omega) (by omega))

theorem read_2 (A : FVec Ideal S1x1024 .f32) (t : Fin cfg0.N) (k : Fin 1024) :
    ((cfg0.win 2).blk t).view.read (Elt Ideal) A (ix2 0 k) = A (ix2 0 k) :=
  congrArg A (emb2 _ _ (congrArg (· * 1) (index_all t).2.2.1.1) (congrArg (· * 1024) (index_all t).2.2.1.2) 0 k _ _ rfl (by omega))

theorem read_3 (A : FVec Ideal S1024x4096 .bf16) (t : Fin cfg0.N) (i : Fin 1024) (k : Fin 4096) :
    ((cfg0.win 3).blk t).view.read (Elt Ideal) A (ix2 i k) = A (ix2 i k) :=
  congrArg A (emb2 _ _ (congrArg (· * 1024) (index_all t).2.2.2.1.1) (congrArg (· * 4096) (index_all t).2.2.2.1.2) i k _ _ (by omega) (by omega))

theorem read_4 (A : FVec Ideal S4096x1024 .bf16) (t : Fin cfg0.N) (i : Fin 4096) (k : Fin 1024) :
    ((cfg0.win 4).blk t).view.read (Elt Ideal) A (ix2 i k) = A (ix2 i k) :=
  congrArg A (emb2 _ _ (congrArg (· * 4096) (index_all t).2.2.2.2.1.1) (congrArg (· * 1024) (index_all t).2.2.2.2.1.2) i k _ _ (by omega) (by omega))

theorem read_6 (A : FVec Ideal S16896x1024 .f32) (t : Fin cfg0.N) (i : Fin 512) (k : Fin 1024) :
    ((cfg0.win 6).blk t).view.read (Elt Ideal) A (ix2 i k) = A (ix2 (rowAt t i) k) :=
  congrArg A (emb2 _ _ (congrArg (· * 512) (index_all t).2.2.2.2.2.1) (congrArg (· * 1024) (index_all t).2.2.2.2.2.2) i k _ _ rfl (by omega))

theorem V_v0 : V m c main_v0 = (args m c).w₁ := by
  simp only [V, hostOps0]; after_results_simp; rfl

theorem V_v1 : V m c main_v1 = (args m c).w₂ := by
  simp only [V, hostOps0]; after_results_simp; rfl

theorem V_v2 : V m c main_v2 = shapeCast S1x1024 (args m c).g shapeCasts_S1024_S1x1024 := by
  simp only [V, hostOps0]; after_results_simp; rfl

theorem row_cast (g : FVec Ideal S1024 .f32) (k : Fin 1024) :
    (shapeCast S1x1024 g shapeCasts_S1024_S1x1024 : FVec Ideal S1x1024 .f32) (ix2 0 k) = g (ix1 k) := by
  pointwise

/-- The blocks of a grid point hold the arguments. -/
theorem holds (t : Fin cfg0.N) (i : Fin 512) :
    Holds (args m c) (rowAt t i) (modAt t) i (iblk m c 0 t) (iblk m c 1 t) (iblk m c 2 t) (iblk m c 3 t) (iblk m c 4 t) where
  x k := (read_0 _ t i k).trans (congrFun (V_main_arg0 m c) _)
  m a k := (read_1 _ t a k).trans (congrFun (V_main_arg1 m c) _)
  g k := (read_2 _ t k).trans ((congrFun (V_v2 m c) _).trans (row_cast _ k))
  w₁ k n := (read_3 _ t k n).trans (congrFun (V_v0 m c) _)
  w₂ n k := (read_4 _ t n k).trans (congrFun (V_v1 m c) _)

/-- What a grid point writes. -/
theorem out_first (x : Vec Ideal S512x1024 .f32) (m : Vec Ideal S1x6x1024 .f32) (g : Vec Ideal S1x1024 .f32) (w₁ : Vec Ideal S1024x4096 .bf16)
    (w₂ : Vec Ideal S4096x1024 .bf16) (fg : Vec Ideal S1x1024 .f32) : out0_6 x m g w₁ w₂ fg = block x m g w₁ w₂ := by
  have h : out0_6 x m g w₁ w₂ fg = View.canon [⟨r0_0, leaves (View.ld x r0_0) (View.ld m r0_1)
      (total fun n => part (enters (View.ld x r0_0) (View.ld m r0_1) (View.ld g r0_2)) (colsOf w₁ n) (rowsOf w₂ n))⟩] := rfl
  rw [h, View.canon_unit_zero zero2, View.ld_unit_zero (S := S512x1024) zero2, View.ld_unit_zero (S := S1x6x1024) zero3,
    View.ld_unit_zero (S := S1x1024) zero2]
  rfl

/-- The kernel's result at an element. -/
theorem value (t : Fin cfg0.N) (i : Fin 512) (k : Fin 1024) :
    ((dats m 0 c).arrAt 6 cfg0.N : FVec Ideal S16896x1024 .f32) (ix2 (rowAt t i) k) = (args m c).out (rowAt t i) (modAt t) k := by
  rw [← read_6 ((dats m 0 c).arrAt 6 cfg0.N) t i k, Cert.Kernel3Ideal.Value.blocks6 m c _ (flush0_6 _), Cert.Kernel3Ideal.Value.flushed6]
  exact (congrFun (out_first (iblk m c 0 t) (iblk m c 1 t) (iblk m c 2 t) (iblk m c 3 t) (iblk m c 4 t) (iblk m c 5 t)) (ix2 i k)).trans
    (block_at (holds m c t i) k)

/-- The modulations of row `r`: the context's rows come first. -/
def modOf (r : Fin 16896) : Fin 8 := ⟨if r.val < 512 then 2 else (r.val - 512) / 8192, by split <;> omega⟩

/-- The same, by the row. -/
theorem value_row (r : Fin 16896) (k : Fin 1024) :
    ((dats m 0 c).arrAt 6 cfg0.N : FVec Ideal S16896x1024 .f32) (ix2 r k) = (args m c).out r (modOf r) k := by
  have h := value m c ⟨r.val / 512, by rw [show cfg0.N = 33 from N_0]; omega⟩ ⟨r.val % 512, by omega⟩ k
  rw [show rowAt ⟨r.val / 512, by rw [show cfg0.N = 33 from N_0]; omega⟩ ⟨r.val % 512, by omega⟩ = r from
      Fin.ext (by simp only [rowAt]; omega),
    show modAt ⟨r.val / 512, by rw [show cfg0.N = 33 from N_0]; omega⟩ = modOf r from
      Fin.ext (by simp only [modAt, modOf]; split <;> split <;> omega)] at h
  exact h

end Cert.Hand.Mlp.First

end
-- ==== Proof.MlpRef.lean ====
module

public import proofs.«01_k».proof.Defs
public import proofs.«01_k».proof.Proof.RefRows
public import proofs.«01_k».proof.Proof.MlpFinal
public import proofs.«01_k».proof.Proof.MlpFirst

/-!
# The MLPs' value claims

The references' results at an element, and their equality with the kernels'.
-/

@[expose] public section

set_option maxRecDepth 16384

noncomputable section

namespace Cert.Hand.Mlp

open Idealize.ShloMosaic Idealize.ShloMosaic.TcCoe Idealize.SL.Sem
open Idealize.ShloMosaic.Tactic

namespace Final

open Cert.Reference2Ideal Cert.Reference2Ideal.Gen Cert.Reference2Ideal.Value

variable (m : (ℓ : Loc nD τ sig) → Buf (Elt Ideal) ℓ) (c : Dev nD)

/-- The reference's arguments. -/
def refArgs : Args 16384 where
  x := m ((c.tc : Thread nD τ).loc main_arg0)
  mods := m ((c.tc : Thread nD τ).loc main_arg1)
  g := m ((c.tc : Thread nD τ).loc main_arg2)
  w₁ := m ((c.tc : Thread nD τ).loc main_arg3)
  w₂ := m ((c.tc : Thread nD τ).loc main_arg4)

@[inherit_doc weight] def refWeight : FVec Ideal S1024 .f32 := m ((c.tc : Thread nD τ).loc main_arg5)

/-- The reference's result, as the terms over rows. -/
theorem ref_term : res_out0 m c = (shapeCast S16384x1024 (latNorm (latMlp
      (shapeCast S2x8192x1024 (refArgs m c).x shapeCasts_S16384x1024_S2x8192x1024)
      (refArgs m c).mods (refArgs m c).g (refArgs m c).w₁ (refArgs m c).w₂) (refWeight m c)) shapeCasts_S2x8192x1024_S16384x1024 : FVec Ideal S16384x1024 .f32) := rfl

theorem lat_row (x : FVec Ideal S16384x1024 .f32) (b : Fin 2) (t : Fin 8192) (k : Fin 1024) :
    (shapeCast S2x8192x1024 x shapeCasts_S16384x1024_S2x8192x1024 : FVec Ideal S2x8192x1024 .f32) (ix3 b t k)
      = x (ix2 ⟨b.val * 8192 + t.val, by omega⟩ k) := by
  pointwise

theorem row_lat (x : FVec Ideal S2x8192x1024 .f32) (r : Fin 16384) (k : Fin 1024) :
    (shapeCast S16384x1024 x shapeCasts_S2x8192x1024_S16384x1024 : FVec Ideal S16384x1024 .f32) (ix2 r k)
      = x (ix3 ⟨r.val / 8192, by omega⟩ ⟨r.val % 8192, by omega⟩ k) := by
  pointwise

/-- The reference's result at an element. -/
theorem ref_value (r : Fin 16384) (k : Fin 1024) :
    (res_out0 m c : FVec Ideal S16384x1024 .f32) (ix2 r k)
      = rms ((refArgs m c).out r (modOf r)) (fun j => refWeight m c (ix1 j)) k := by
  rw [ref_term, row_lat, latNorm_at]
  refine congrArg (fun f => rms f _ k) (funext fun j => ?_)
  refine latMlp_at _ _ j (refArgs m c) r _ fun i => (lat_row _ _ _ i).trans ?_
  exact congrArg (fun z => (refArgs m c).x (ix2 z i)) (Fin.ext (by show r.val / 8192 * 8192 + r.val % 8192 = r.val; omega))

end Final

namespace First

open Cert.Reference3Ideal Cert.Reference3Ideal.Gen Cert.Reference3Ideal.Value

variable (m : (ℓ : Loc nD τ sig) → Buf (Elt Ideal) ℓ) (c : Dev nD)

/-- The reference's arguments. -/
def refArgs : Args 16896 where
  x := m ((c.tc : Thread nD τ).loc main_arg0)
  mods := m ((c.tc : Thread nD τ).loc main_arg1)
  g := m ((c.tc : Thread nD τ).loc main_arg2)
  w₁ := m ((c.tc : Thread nD τ).loc main_arg3)
  w₂ := m ((c.tc : Thread nD τ).loc main_arg4)

/-- The latent rows of a stream. -/
def latPart (x : FVec Ideal S16896x1024 .f32) : FVec Ideal S2x8192x1024 .f32 :=
  shapeCast S2x8192x1024 (extractStridedSlice S16384x1024 ![512, 0] x slices_S16896x1024_S16384x1024_512_0) shapeCasts_S16384x1024_S2x8192x1024

/-- The context rows of a stream. -/
def ctxPart (x : FVec Ideal S16896x1024 .f32) : FVec Ideal S2x256x1024 .f32 :=
  shapeCast S2x256x1024 (extractStridedSlice S512x1024 ![0, 0] x slices_S16896x1024_S512x1024_0_0) shapeCasts_S512x1024_S2x256x1024

/-- Context rows followed by latent rows. -/
def both (y : FVec Ideal S2x256x1024 .f32) (z : FVec Ideal S2x8192x1024 .f32) : FVec Ideal S16896x1024 .f32 :=
  concatenate S16896x1024 0 [⟨S512x1024, shapeCast S512x1024 y shapeCasts_S2x256x1024_S512x1024⟩,
    ⟨S16384x1024, shapeCast S16384x1024 z shapeCasts_S2x8192x1024_S16384x1024⟩] concatenates_S512x1024_S16384x1024_S16896x1024_d0

/-- The reference's result, as the terms over rows. -/
theorem ref_term : res_out0 m c = both
    (ctxMlp (ctxPart (refArgs m c).x) (refArgs m c).mods (refArgs m c).g (refArgs m c).w₁ (refArgs m c).w₂)
    (latMlp (latPart (refArgs m c).x) (refArgs m c).mods (refArgs m c).g (refArgs m c).w₁ (refArgs m c).w₂) := rfl

theorem latPart_at (x : FVec Ideal S16896x1024 .f32) (b : Fin 2) (t : Fin 8192) (k : Fin 1024) :
    latPart x (ix3 b t k) = x (ix2 ⟨512 + (b.val * 8192 + t.val), by omega⟩ k) := by
  pointwise [latPart]

theorem ctxPart_at (x : FVec Ideal S16896x1024 .f32) (b : Fin 2) (t : Fin 256) (k : Fin 1024) :
    ctxPart x (ix3 b t k) = x (ix2 ⟨b.val * 256 + t.val, by omega⟩ k) := by
  pointwise [ctxPart]

theorem both_at (y : FVec Ideal S2x256x1024 .f32) (z : FVec Ideal S2x8192x1024 .f32) (r : Fin 16896) (k : Fin 1024) :
    both y z (ix2 r k) = if h : r.val < 512 then y (ix3 ⟨r.val / 256, by omega⟩ ⟨r.val % 256, by omega⟩ k)
      else z (ix3 ⟨(r.val - 512) / 8192, by omega⟩ ⟨(r.val - 512) % 8192, by omega⟩ k) := by
  pointwise [both]

/-- The reference's result at an element. -/
theorem ref_value (r : Fin 16896) (k : Fin 1024) :
    (res_out0 m c : FVec Ideal S16896x1024 .f32) (ix2 r k) = (refArgs m c).out r (modOf r) k := by
  rw [ref_term, both_at]
  by_cases h : r.val < 512
  · rw [dif_pos h, show modOf r = 2 from Fin.ext (by simp [modOf, h])]
    refine ctxMlp_at _ _ k (refArgs m c) r _ fun i => (ctxPart_at _ _ _ i).trans ?_
    exact congrArg (fun z => (refArgs m c).x (ix2 z i)) (Fin.ext (by show r.val / 256 * 256 + r.val % 256 = r.val; omega))
  · rw [dif_neg h, show modOf r = ⟨(r.val - 512) / 8192, by omega⟩ from Fin.ext (by simp [modOf, h])]
    refine latMlp_at _ _ k (refArgs m c) r _ fun i => (latPart_at _ _ _ i).trans ?_
    exact congrArg (fun z => (refArgs m c).x (ix2 z i))
      (Fin.ext (by show 512 + ((r.val - 512) / 8192 * 8192 + (r.val - 512) % 8192) = r.val; omega))

end First

/-- Functions on the elements of an array of rank 2 are equal if they are at its coordinates. -/
theorem ext2 {R C : ℕ} {α : Type} {f g : (⟨2, ![R, C]⟩ : Shape).Idx → α} (h : ∀ r k, f (ix2 r k) = g (ix2 r k)) : f = g := by
  funext x
  rw [eq_ix2 x]
  exact h _ _

theorem algebraic_final : @Cert.algebraic_Kernel2Ideal_Reference2Ideal Cert.Kernel2Ideal.Gen.facts Cert.Reference2Ideal.Gen.facts := by
  intro m g m' g' _ hm
  refine ⟨fun c => (Cert.Kernel2Ideal.Gen.dats m 0 c).arrAt 6 Cert.Kernel2Ideal.cfg0.N, Cert.Kernel2Ideal.Value.run_blocks m g, ?_⟩
  refine (θ_run _ _ _).mono (fun r h c => ?_) (Cert.Reference2Ideal.Value.run m' g')
  obtain ⟨h0, hk⟩ := h c
  obtain ⟨a0, a1, a2, a3, a4, a5⟩ := hm c
  have e : Final.refArgs m' c = Final.args m c := by unfold Final.refArgs Final.args; congr 1
  have e' : Final.refWeight m' c = Final.weight m c := a5
  refine ⟨h0.trans (ext2 fun r k => ?_), hk⟩
  refine (Final.ref_value m' c r k).trans ?_
  rw [e, e']
  exact (Final.value_row m c r k).symm

theorem algebraic_first : @Cert.algebraic_Kernel3Ideal_Reference3Ideal Cert.Kernel3Ideal.Gen.facts Cert.Reference3Ideal.Gen.facts := by
  intro m g m' g' _ hm
  refine ⟨fun c => (Cert.Kernel3Ideal.Gen.dats m 0 c).arrAt 6 Cert.Kernel3Ideal.cfg0.N, Cert.Kernel3Ideal.Value.run_blocks m g, ?_⟩
  refine (θ_run _ _ _).mono (fun r h c => ?_) (Cert.Reference3Ideal.Value.run m' g')
  obtain ⟨h0, hk⟩ := h c
  obtain ⟨a0, a1, a2, a3, a4, -⟩ := hm c
  have e : First.refArgs m' c = First.args m c := by unfold First.refArgs First.args; congr 1
  refine ⟨h0.trans (ext2 fun r k => ?_), hk⟩
  refine (First.ref_value m' c r k).trans ?_
  rw [e]
  exact (First.value_row m c r k).symm

end Cert.Hand.Mlp

end
-- ==== Proof.MlPieces.lean ====
module

public import proofs.«01_k».proof.Proof.MlFrame

/-!
# What a tile of the projection stores

The stores of a grid point, as one family over the four chunks of 512 columns: in each the rows of the tile and its halo
are projected into the scratch buffer, convolved from there, and multiplied by two tiles of each block-diagonal weight.
-/

@[expose] public section

set_option maxRecDepth 16384

noncomputable section

namespace Cert.Hand.MlIn

open Cert.Kernel7Ideal Cert.Kernel7Ideal.Gen Cert.Kernel7Ideal.Run
open Idealize.ShloMosaic Idealize.ShloMosaic.TcCoe Idealize.SL.Sem

variable {F : FTy → Type} [FloatOps F]

/-- A way to load from a buffer of shape `s`. -/
abbrev Load (F : FTy → Type) (s : Shape) (e : EltTy) := (B : Rect s) → B.shape.Idx → Elt F e

theorem inb_w (n : Fin 4) : ∀ a, (![0, 512 * n.val] : Fin 2 → ℕ) a + S1024x512.size a ≤ S1024x2048.size a := by
  intro a; fin_cases a
  · show 0 + 1024 ≤ 1024; omega
  · show 512 * n.val + 512 ≤ 2048; omega

theorem inb_cw (d : Fin 5) (n : Fin 4) : ∀ a, (![d.val, 512 * n.val] : Fin 2 → ℕ) a + S1x512.size a ≤ S5x2048.size a := by
  intro a; fin_cases a
  · show d.val + 1 ≤ 5; omega
  · show 512 * n.val + 512 ≤ 2048; omega

theorem inb_cb (n : Fin 4) : ∀ a, (![0, 512 * n.val] : Fin 2 → ℕ) a + S1x512.size a ≤ S1x2048.size a := by
  intro a; fin_cases a
  · show 0 + 1 ≤ 1; omega
  · show 512 * n.val + 512 ≤ 2048; omega

theorem inb_tap (d : Fin 5) : ∀ a, (![6 + d.val, 0] : Fin 2 → ℕ) a + S256x512.size a ≤ S272x512.size a := by
  intro a; fin_cases a
  · show 6 + d.val + 256 ≤ 272; omega
  · show 0 + 512 ≤ 512; omega

theorem inb_bd (n : Fin 4) (j : Fin 2) : ∀ a, (![2 * n.val + j.val, 0, 0] : Fin 3 → ℕ) a + S1x256x256.size a ≤ S8x256x256.size a := by
  intro a; fin_cases a
  · show 2 * n.val + j.val + 1 ≤ 8; omega
  · show 0 + 256 ≤ 256; omega
  · show 0 + 256 ≤ 256; omega

theorem inb_o (n : Fin 4) (j : Fin 2) : ∀ a, (![0, 512 * n.val + 256 * j.val] : Fin 2 → ℕ) a + S256x256.size a ≤ S256x2048.size a := by
  intro a; fin_cases a
  · show 0 + 256 ≤ 256; omega
  · show 512 * n.val + 256 * j.val + 256 ≤ 2048; omega

theorem inb_xc (n : Fin 4) : ∀ a, (![0, 512 * n.val] : Fin 2 → ℕ) a + S256x512.size a ≤ S256x2048.size a := by
  intro a; fin_cases a
  · show 0 + 256 ≤ 256; omega
  · show 512 * n.val + 512 ≤ 2048; omega

theorem half (j : Fin 2) : S256x512.Slices ![0, 256 * j.val] S256x256 := by
  fin_cases j
  · exact slices_S256x512_o0_0_S256x256
  · exact slices_S256x512_o0_256_S256x256

section Chunk

variable (lw : Load F S1024x2048 .bf16) (lcw : Load F S5x2048 .f32) (lcb : Load F S1x2048 .f32) (lq : Load F S8x256x256 .bf16)
  (hb : FVec F S256x1024 .bf16) (hp hn : FVec F S8x1024 .bf16)

/-- The weight of chunk `n`. -/
def wcols (n : Fin 4) : Vec F S1024x512 .bf16 := lw (Rect.unit (s := S1024x2048) ![0, 512 * n.val] S1024x512.size (inb_w n))

/-- What chunk `n` stores in the scratch buffer: the projected halo rows after, the rows, the halo rows before. -/
def stored (n : Fin 4) : List (View.Piece (Elt F) S272x512 .f32) :=
  [⟨Rect.unit (s := S272x512) ![264, 0] S8x512.size inb_S272x512_S8x512_264_0, k0_pay31 hn (wcols lw n)⟩,
   ⟨Rect.unit (s := S272x512) ![8, 0] S256x512.size inb_S272x512_S256x512_8_0, k0_pay30 hb (wcols lw n)⟩,
   ⟨Rect.unit (s := S272x512) ![0, 0] S8x512.size inb_S272x512_S8x512_0_0, k0_pay29 hp (wcols lw n)⟩]

/-- The stores to the scratch buffer up to chunk `n`. -/
def storedTo : (n : Fin 4) → List (View.Piece (Elt F) S272x512 .f32)
  | 0 => stored lw hb hp hn 0
  | 1 => stored lw hb hp hn 1 ++ stored lw hb hp hn 0
  | 2 => stored lw hb hp hn 2 ++ (stored lw hb hp hn 1 ++ stored lw hb hp hn 0)
  | 3 => stored lw hb hp hn 3 ++ (stored lw hb hp hn 2 ++ (stored lw hb hp hn 1 ++ stored lw hb hp hn 0))

/-- The rows of the scratch buffer under tap `d`. -/
def tap (n : Fin 4) (d : Fin 5) : Vec F S256x512 .f32 :=
  scM0_0.view.readCov (storedTo lw hb hp hn n) (Rect.unit (s := S272x512) ![6 + d.val, 0] S256x512.size (inb_tap d)).toLoadRect

/-- The weights of tap `d`. -/
def tapW (n : Fin 4) (d : Fin 5) : Vec F S1x512 .f32 := lcw (Rect.unit (s := S5x2048) ![d.val, 512 * n.val] S1x512.size (inb_cw d n))

/-- The convolved chunk. -/
def conv (n : Fin 4) : FVec F S256x512 .f32 :=
  k0_pay33 (k0_pay32 (lcb (Rect.unit (s := S1x2048) ![0, 512 * n.val] S1x512.size (inb_cb n))))
    (tap lw hb hp hn n 0) (tapW lcw n 0) (tap lw hb hp hn n 1) (tapW lcw n 1) (tap lw hb hp hn n 2) (tapW lcw n 2)
    (tap lw hb hp hn n 3) (tapW lcw n 3) (tap lw hb hp hn n 4) (tapW lcw n 4)

/-- Half `j` of a chunk times a tile of a block-diagonal weight. -/
def prod (x : FVec F S256x512 .bf16) (n : Fin 4) (j : Fin 2) : FVec F S256x256 .f32 :=
  matmul dot_S256x256_S256x256_S256x256_1_0_0_1_n_n none (extractStridedSlice S256x256 ![0, 256 * j.val] x (half j))
    (shapeCast S256x256 (lq (Rect.unit (s := S8x256x256) ![2 * n.val + j.val, 0, 0] S1x256x256.size (inb_bd n j)) : Vec F S1x256x256 .bf16)
      shapeCasts_S1x256x256_S256x256 : FVec F S256x256 .bf16) (constant S256x256 .f32 0x00000000#32)

/-- The query's store. -/
def pieceQ (n : Fin 4) (j : Fin 2) : View.Piece (Elt F) S256x2048 .bf16 :=
  ⟨Rect.unit (s := S256x2048) ![0, 512 * n.val + 256 * j.val] S256x256.size (inb_o n j),
    truncf .bf16 (prod lq (truncf .bf16 (conv lw lcw lcb hb hp hn n) bitsLt_bf16_f32) n j) bitsLt_bf16_f32⟩

/-- The key's store. -/
def pieceK (n : Fin 4) (j : Fin 2) : View.Piece (Elt F) S256x2048 .bf16 :=
  ⟨Rect.unit (s := S256x2048) ![0, 512 * n.val + 256 * j.val] S256x256.size (inb_o n j),
    truncf .bf16 (mulf (prod lq (truncf .bf16 (conv lw lcw lcb hb hp hn n) bitsLt_bf16_f32) n j)
      (broadcast S256x256 (Scalar.ofBits .f32 0x3D3504F3#32))) bitsLt_bf16_f32⟩

/-- The value's store. -/
def pieceV (n : Fin 4) (j : Fin 2) : View.Piece (Elt F) S256x2048 .bf16 :=
  ⟨Rect.unit (s := S256x2048) ![0, 512 * n.val + 256 * j.val] S256x256.size (inb_o n j),
    truncf .bf16 (prod lq (truncf .bf16 (k0_pay28 hb (wcols lw n)) bitsLt_bf16_f32) n j) bitsLt_bf16_f32⟩

/-- The convolved rows' store. -/
def pieceXc (n : Fin 4) : View.Piece (Elt F) S256x2048 .f32 :=
  ⟨Rect.unit (s := S256x2048) ![0, 512 * n.val] S256x512.size (inb_xc n), conv lw lcw lcb hb hp hn n⟩

end Chunk

variable (m : (ℓ : Loc nD τ sig) → Buf (Elt F) ℓ) (c : Dev nD) (t : Fin cfg0.N)

/-- The loads of input window `w` at a grid point. -/
def l0 : Load F S256x1024 .f32 := fun B => View.readAt (Elt F) (ms0_0 t).view B.toLoadRect ((hs0_0 t).unread (iblk m c 0 t))
@[inherit_doc l0] def l1 : Load F S8x1024 .f32 := fun B => View.readAt (Elt F) (ms0_1 t).view B.toLoadRect ((hs0_1 t).unread (iblk m c 1 t))
@[inherit_doc l0] def l2 : Load F S8x1024 .f32 := fun B => View.readAt (Elt F) (ms0_2 t).view B.toLoadRect ((hs0_2 t).unread (iblk m c 2 t))
@[inherit_doc l0] def l3 : Load F S1x6x1024 .f32 := fun B => View.readAt (Elt F) (ms0_3 t).view B.toLoadRect ((hs0_3 t).unread (iblk m c 3 t))
@[inherit_doc l0] def l4 : Load F S1x1024 .f32 := fun B => View.readAt (Elt F) (ms0_4 t).view B.toLoadRect ((hs0_4 t).unread (iblk m c 4 t))
@[inherit_doc l0] def l5 : Load F S1024x2048 .bf16 := fun B => View.readAt (Elt F) (ms0_5 t).view B.toLoadRect ((hs0_5 t).unread (iblk m c 5 t))
@[inherit_doc l0] def l6 : Load F S1024x2048 .bf16 := fun B => View.readAt (Elt F) (ms0_6 t).view B.toLoadRect ((hs0_6 t).unread (iblk m c 6 t))
@[inherit_doc l0] def l7 : Load F S1024x128 .bf16 := fun B => View.readAt (Elt F) (ms0_7 t).view B.toLoadRect ((hs0_7 t).unread (iblk m c 7 t))
@[inherit_doc l0] def l8 : Load F S16x1024 .bf16 := fun B => View.readAt (Elt F) (ms0_8 t).view B.toLoadRect ((hs0_8 t).unread (iblk m c 8 t))
@[inherit_doc l0] def l9 : Load F S1x128 .f32 := fun B => View.readAt (Elt F) (ms0_9 t).view B.toLoadRect ((hs0_9 t).unread (iblk m c 9 t))
@[inherit_doc l0] def l10 : Load F S16x1 .f32 := fun B => View.readAt (Elt F) (ms0_10 t).view B.toLoadRect ((hs0_10 t).unread (iblk m c 10 t))
@[inherit_doc l0] def l11 : Load F S5x2048 .f32 := fun B => View.readAt (Elt F) (ms0_11 t).view B.toLoadRect ((hs0_11 t).unread (iblk m c 11 t))
@[inherit_doc l0] def l12 : Load F S1x2048 .f32 := fun B => View.readAt (Elt F) (ms0_12 t).view B.toLoadRect ((hs0_12 t).unread (iblk m c 12 t))
@[inherit_doc l0] def l13 : Load F S8x256x256 .bf16 := fun B => View.readAt (Elt F) (ms0_13 t).view B.toLoadRect ((hs0_13 t).unread (iblk m c 13 t))
@[inherit_doc l0] def l14 : Load F S8x256x256 .bf16 := fun B => View.readAt (Elt F) (ms0_14 t).view B.toLoadRect ((hs0_14 t).unread (iblk m c 14 t))
@[inherit_doc l0] def l15 : Load F S8x256x256 .bf16 := fun B => View.readAt (Elt F) (ms0_15 t).view B.toLoadRect ((hs0_15 t).unread (iblk m c 15 t))

/-- The modulated rows of the tile. -/
def rows : FVec F S256x1024 .bf16 :=
  k0_pay4 (k0_pay2 (l3 m c t (Rect.unit (s := S1x6x1024) ![0, 0, 0] S1x6x1024.size inb_S1x6x1024_S1x6x1024_0_0_0)))
    (k0_pay3 (l4 m c t (Rect.unit (s := S1x1024) ![0, 0] S1x1024.size inb_S1x1024_S1x1024_0_0)))
    (l0 m c t (Rect.unit (s := S256x1024) ![0, 0] S256x1024.size inb_S256x1024_S256x1024_0_0))

/-- The modulated rows before the tile, zero where it opens a sequence. -/
def before : FVec F S8x1024 .bf16 :=
  k0_pay5 (k0_pay2 (l3 m c t (Rect.unit (s := S1x6x1024) ![0, 0, 0] S1x6x1024.size inb_S1x6x1024_S1x6x1024_0_0_0))) (body.sl.v27 (grid0.coords t))
    (k0_pay3 (l4 m c t (Rect.unit (s := S1x1024) ![0, 0] S1x1024.size inb_S1x1024_S1x1024_0_0)))
    (l1 m c t (Rect.unit (s := S8x1024) ![0, 0] S8x1024.size inb_S8x1024_S8x1024_0_0))

/-- The modulated rows after the tile, zero where it closes a sequence. -/
def behind : FVec F S8x1024 .bf16 :=
  k0_pay6 (k0_pay2 (l3 m c t (Rect.unit (s := S1x6x1024) ![0, 0, 0] S1x6x1024.size inb_S1x6x1024_S1x6x1024_0_0_0))) (body.sl.v29 (grid0.coords t))
    (k0_pay3 (l4 m c t (Rect.unit (s := S1x1024) ![0, 0] S1x1024.size inb_S1x1024_S1x1024_0_0)))
    (l2 m c t (Rect.unit (s := S8x1024) ![0, 0] S8x1024.size inb_S8x1024_S8x1024_0_0))

/-- The eight tiles of a product, the last first. -/
def tiles {α : Type} (p : Fin 4 → Fin 2 → α) : List α := [p 3 1, p 3 0, p 2 1, p 2 0, p 1 1, p 1 0, p 0 1, p 0 0]

set_option maxHeartbeats 4000000 in
theorem pieces_v : (at_ m c t).2.2.1 = tiles (pieceV (l5 m c t) (l15 m c t) (rows m c t)) := rfl

set_option maxHeartbeats 4000000 in
theorem pieces_xc : (at_ m c t).2.2.2.2.1
    = [pieceXc (l5 m c t) (l11 m c t) (l12 m c t) (rows m c t) (before m c t) (behind m c t) 3,
       pieceXc (l5 m c t) (l11 m c t) (l12 m c t) (rows m c t) (before m c t) (behind m c t) 2,
       pieceXc (l5 m c t) (l11 m c t) (l12 m c t) (rows m c t) (before m c t) (behind m c t) 1,
       pieceXc (l5 m c t) (l11 m c t) (l12 m c t) (rows m c t) (before m c t) (behind m c t) 0] := rfl

set_option maxHeartbeats 4000000 in
theorem pieces_q : (at_ m c t).1
    = tiles (pieceQ (l5 m c t) (l11 m c t) (l12 m c t) (l13 m c t) (rows m c t) (before m c t) (behind m c t)) := rfl

set_option maxHeartbeats 4000000 in
theorem pieces_k : (at_ m c t).2.1
    = tiles (pieceK (l5 m c t) (l11 m c t) (l12 m c t) (l14 m c t) (rows m c t) (before m c t) (behind m c t)) := rfl

/-- The gates of the tile, a row for each token. -/
def gatesRow : FVec F S256x128 .f32 :=
  k0_pay8 (rows m c t) (l7 m c t (Rect.unit (s := S1024x128) ![0, 0] S1024x128.size inb_S1024x128_S1024x128_0_0))
    (l9 m c t (Rect.unit (s := S1x128) ![0, 0] S1x128.size inb_S1x128_S1x128_0_0))

/-- The gates of the tile, a column for each token. -/
def gatesCol : FVec F S16x256 .f32 :=
  k0_pay10 (k0_pay9 (rows m c t) (l8 m c t (Rect.unit (s := S16x1024) ![0, 0] S16x1024.size inb_S16x1024_S16x1024_0_0)))
    (l10 m c t (Rect.unit (s := S16x1) ![0, 0] S16x1.size inb_S16x1_S16x1_0_0))

/-- The mask of the places of a chunk up to the query. -/
def lower : FVec F S256x256 .f32 :=
  k0_pay16 (iota .tc S256x256 32 [0] iota_S256x256_d0_w32) (iota .tc S256x256 32 [1] iota_S256x256_d1_w32) k0_pay11 k0_pay12 k0_pay13 k0_pay14

/-- The mask of the places of a chunk from the query on. -/
def upper : FVec F S256x256 .f32 :=
  k0_pay17 (iota .tc S256x256 32 [0] iota_S256x256_d0_w32) (iota .tc S256x256 32 [1] iota_S256x256_d1_w32) k0_pay11 k0_pay12 k0_pay13 k0_pay14

set_option maxHeartbeats 4000000 in
theorem pieces_o : (at_ m c t).2.2.2.1
    = [⟨Rect.unit (s := S256x2048) ![0, 0] S256x2048.size inb_S256x2048_S256x2048_0_0, k0_pay7 (rows m c t)
        (l6 m c t (Rect.unit (s := S1024x2048) ![0, 0] S1024x2048.size inb_S1024x2048_S1024x2048_0_0))⟩] := rfl

set_option maxHeartbeats 4000000 in
theorem pieces_gc : (at_ m c t).2.2.2.2.2.1
    = [⟨Rect.unit (s := S256x128) ![0, 0] S256x128.size inb_S256x128_S256x128_0_0, k0_pay21 (gatesRow m c t) lower upper k0_pay18
        (k0_pay19 (gatesRow m c t)) (k0_pay20 (gatesRow m c t))⟩] := rfl

set_option maxHeartbeats 4000000 in
theorem pieces_gr : (at_ m c t).2.2.2.2.2.2.1
    = [⟨Rect.unit (s := S16x256) ![0, 0] S16x256.size inb_S16x256_S16x256_0_0, k0_pay26 (gatesCol m c t) lower upper k0_pay22
        (k0_pay23 (gatesCol m c t)) (k0_pay24 (gatesCol m c t)) k0_pay25⟩] := rfl

end Cert.Hand.MlIn

end
-- ==== Proof.MapSpec.lean ====
module

public import proofs.«01_k».proof.Proof.MlpSpec

/-!
# The maps into and out of the mixers, over the reals

A row normed and modulated, a row normed head by head, and which modulations a row of the stream takes.
-/

@[expose] public section

noncomputable section

namespace Cert.Hand.Map

open Idealize.ShloMosaic Cert.Hand.Mlp

/-- A row over the root of its mean square, times `g`, under a shift and a scale. -/
def modulated (x g sh sc : Fin 1024 → EReal) (k : Fin 1024) : EReal := rms x g k * (1 + sc k) + sh k

/-- A sum over the number of its terms, `n`. -/
def meanOf {w : ℕ} (n : EReal) (f : Fin w → EReal) : EReal := Ideal.div (∑ j, f j) n

/-- One head, centred and over the root of its variance. -/
def headNorm {w : ℕ} (n : EReal) (f : Fin w → EReal) (k : Fin w) : EReal :=
  (f k - meanOf n f) * Ideal.rsqrt (meanOf n (fun j => (f j - meanOf n f) * (f j - meanOf n f)) + Ideal.ofBits .f32 0x358637BD#32)

/-- Head `h` of a row of four heads. -/
def headRow {W : ℕ} (w : ℕ) (hW : W = 4 * w) (f : Fin W → EReal) (h : Fin 4) (a : Fin w) : EReal :=
  f ⟨w * h.val + a.val, by
    have h1 : w * h.val ≤ w * 3 := Nat.mul_le_mul_left w (by omega)
    omega⟩

/-- A row of four heads, each normed. -/
def heads {W : ℕ} (w : ℕ) (hW : W = 4 * w) (hw : 0 < w) (n : EReal) (f : Fin W → EReal) (k : Fin W) : EReal :=
  headNorm n (headRow w hW f ⟨k.val / w, by rw [Nat.div_lt_iff_lt_mul hw]; omega⟩) ⟨k.val % w, Nat.mod_lt _ hw⟩

/-- The smooth gate of the S5 half, by its approximation with the hyperbolic tangent. -/
def gelu (x : EReal) : EReal :=
  x * (Ideal.ofBits .f32 0x3F000000#32 * (1 + Ideal.tanh (Ideal.ofBits .f32 0x3F4C422A#32 * (x + Ideal.ofBits .f32 0x3D372713#32 * (x * x * x)))))

/-- The modulations of row `r` of the stream: the context's rows come first. -/
def modOf (r : Fin 16896) : Fin 8 := ⟨if r.val < 512 then 2 else (r.val - 512) / 8192, by split <;> omega⟩

/-- A sum over 1024 terms, as two sums over 512. -/
theorem sum_halves (f : Fin 1024 → EReal) : ∑ z, f z = (∑ z : Fin 512, f ⟨z.val, by omega⟩) + ∑ z : Fin 512, f ⟨512 + z.val, by omega⟩ :=
  Fin.sum_univ_add (a := 512) (b := 512) f

end Cert.Hand.Map

end
-- ==== Proof.MlSpec.lean ====
module

public import proofs.«01_k».proof.Proof.MapSpec

/-!
# The projection into the last layer's mixer, over the reals

Each row of the stream normed, modulated and projected; its first part convolved along its sequence and multiplied by
block-diagonal weights; its gates, two kinds of the four summed along the chunks of 128 rows.
-/

@[expose] public section

noncomputable section

namespace Cert.Hand.MlIn

open Idealize.ShloMosaic Cert.Hand.Mlp Cert.Hand.Map

/-- The logarithm of the logistic function. -/
def logSig (x : EReal) : EReal := min x 0 - Ideal.log1p (Ideal.exp (0 - max x (-x)))

/-- What the projection reads of the program's arguments. -/
structure Args where
  /-- the stream -/
  x : FVec Ideal ⟨2, ![16896, 1024]⟩ .f32
  /-- the modulations -/
  mods : FVec Ideal ⟨3, ![8, 6, 1024]⟩ .f32
  /-- the norm's weight -/
  g : FVec Ideal ⟨1, ![1024]⟩ .f32
  /-- the projection's weight -/
  w : FVec Ideal ⟨2, ![1024, 4112]⟩ .f32
  /-- the gates' bias -/
  gb : FVec Ideal ⟨1, ![16]⟩ .f32
  /-- the convolution's weight -/
  cw : FVec Ideal ⟨2, ![5, 2048]⟩ .f32
  /-- the convolution's bias -/
  cb : FVec Ideal ⟨1, ![2048]⟩ .f32
  /-- the query's block-diagonal weight -/
  wq : FVec Ideal ⟨3, ![512, 4, 4]⟩ .f32
  /-- the key's -/
  wk : FVec Ideal ⟨3, ![512, 4, 4]⟩ .f32
  /-- the value's -/
  wv : FVec Ideal ⟨3, ![512, 4, 4]⟩ .f32

/-- The sequence row `r` is of: the two contexts, then the two sequences of latents. -/
def seqOf (r : Fin 16896) : ℕ := if r.val < 512 then r.val / 256 else 2 + (r.val - 512) / 8192

/-- A row times a block-diagonal weight, given by its blocks of four. -/
def blockDiag (f : Fin 2048 → EReal) (w : FVec Ideal ⟨3, ![512, 4, 4]⟩ .f32) (n : Fin 2048) : EReal :=
  ∑ a : Fin 4, f ⟨4 * (n.val / 4) + a.val, by omega⟩ * w (ix3 (⟨n.val / 4, by omega⟩ : Fin 512) a (⟨n.val % 4, by omega⟩ : Fin 4))

/-- `x` times its logistic function. -/
def silu (x : EReal) : EReal := x * Ideal.logistic x

variable (A : Args)

/-- Row `r`, normed and modulated. -/
def Args.h (r : Fin 16896) (k : Fin 1024) : EReal :=
  modulated (fun j => A.x (ix2 r j)) (fun j => A.g (ix1 j)) (fun j => A.mods (ix3 (modOf r) 0 j)) (fun j => A.mods (ix3 (modOf r) 1 j)) k

/-- Row `r`, projected. -/
def Args.up (r : Fin 16896) (n : Fin 4112) : EReal := ∑ k, A.h r k * A.w (ix2 k n)

/-- The part of row `r` that is convolved. -/
def Args.xm (r : Fin 16896) (n : Fin 2048) : EReal := A.up r ⟨n.val, by omega⟩

/-- The row the convolution's weight `d` meets at row `r`: two rows before it to two after it, zero outside its sequence. -/
def Args.tap (r : Fin 16896) (d : Fin 5) (n : Fin 2048) : EReal :=
  if h : (2 ≤ r.val + d.val ∧ r.val + d.val - 2 < 16896) then
    if seqOf ⟨r.val + d.val - 2, h.2⟩ = seqOf r then A.xm ⟨r.val + d.val - 2, h.2⟩ n else 0
  else 0

/-- Row `r` convolved along its sequence. -/
def Args.xc (r : Fin 16896) (n : Fin 2048) : EReal := silu ((∑ d, A.tap r d n * A.cw (ix2 d n)) + A.cb (ix1 n))

/-- The query of row `r`. -/
def Args.q (r : Fin 16896) (n : Fin 2048) : EReal := blockDiag (A.xc r) A.wq n

/-- The key of row `r`. -/
def Args.k (r : Fin 16896) (n : Fin 2048) : EReal := blockDiag (A.xc r) A.wk n * Ideal.ofBits .f32 0x3D3504F3#32

/-- The value of row `r`. -/
def Args.v (r : Fin 16896) (n : Fin 2048) : EReal := blockDiag (A.xm r) A.wv n

/-- The part of row `r` that gates the mixer's result. -/
def Args.o (r : Fin 16896) (n : Fin 2048) : EReal := A.up r ⟨2048 + n.val, by omega⟩

/-- Gate `j` of row `r`, as projected. -/
def Args.gate (r : Fin 16896) (j : Fin 16) : EReal := A.up r ⟨4096 + j.val, by omega⟩ + A.gb (ix1 j)

/-- A gate of kind `n` among the four, given its values `g` over a chunk of 128 rows: as it stands, or the logarithms of its
logistic function summed over the places of the chunk up to it, or from it on. -/
def chunkGate (n : ℕ) (g : Fin 128 → EReal) (i : Fin 128) : EReal :=
  if n = 1 then ∑ s, if s ≤ i then logSig (g s) else 0 else if n = 3 then ∑ s, if i ≤ s then logSig (g s) else 0 else g i

/-- Gate `j` of row `r`. -/
def Args.gates (r : Fin 16896) (j : Fin 16) : EReal :=
  chunkGate (j.val / 4) (fun s => A.gate ⟨128 * (r.val / 128) + s.val, by omega⟩ j) ⟨r.val % 128, by omega⟩

end Cert.Hand.MlIn

end
-- ==== Proof.MlPay.lean ====
module

public import proofs.«01_k».proof.Proof.MlSpec
public import proofs.«01_k».proof.Proof.Gen.Kernel7Ideal.Frame.Runs
public import Idealize.ShloMosaic.Lib.Pointwise

/-!
# The projection's arithmetic at an element

Each vector the kernel computes, at an element, over the reals.
-/

@[expose] public section

set_option maxRecDepth 16896

noncomputable section

namespace Cert.Hand.MlIn

open Cert.Kernel7Ideal Cert.Kernel7Ideal.Gen Cert.Hand.Mlp Cert.Hand.Map
open Idealize.ShloMosaic Idealize.ShloMosaic.TcCoe Idealize.SL.Sem
open Idealize.ShloMosaic.Tactic

theorem rows_at (x : Vec Ideal S256x1024 .f32) (m : Vec Ideal S1x6x1024 .f32) (g : Vec Ideal S1x1024 .f32) (i : Fin 256) (k : Fin 1024) :
    k0_pay4 (k0_pay2 m) (k0_pay3 g) x (ix2 i k)
      = modulated (fun j => x (ix2 i j)) (fun j => g (ix2 0 j)) (fun j => m (ix3 0 0 j)) (fun j => m (ix3 0 1 j)) k := by
  pointwise [k0_pay4, k0_pay2, k0_pay3]
  rfl

theorem before_at (x : Vec Ideal S8x1024 .f32) (m : Vec Ideal S1x6x1024 .f32) (g : Vec Ideal S1x1024 .f32) (b : BitVec 1) (i : Fin 8) (k : Fin 1024) :
    k0_pay5 (k0_pay2 m) b (k0_pay3 g) x (ix2 i k)
      = modulated (fun j => x (ix2 i j)) (fun j => g (ix2 0 j)) (fun j => m (ix3 0 0 j)) (fun j => m (ix3 0 1 j)) k
        * (Scalar.select b (0 : EReal) 1) := by
  pointwise [k0_pay5, k0_pay2, k0_pay3]
  rfl

theorem behind_at (x : Vec Ideal S8x1024 .f32) (m : Vec Ideal S1x6x1024 .f32) (g : Vec Ideal S1x1024 .f32) (b : BitVec 1) (i : Fin 8) (k : Fin 1024) :
    k0_pay6 (k0_pay2 m) b (k0_pay3 g) x (ix2 i k)
      = modulated (fun j => x (ix2 i j)) (fun j => g (ix2 0 j)) (fun j => m (ix3 0 0 j)) (fun j => m (ix3 0 1 j)) k
        * (Scalar.select b (0 : EReal) 1) := by
  pointwise [k0_pay6, k0_pay2, k0_pay3]
  rfl

theorem open_at (h : FVec Ideal S256x1024 .bf16) (w : Vec Ideal S1024x2048 .bf16) (i : Fin 256) (k : Fin 2048) :
    k0_pay7 h w (ix2 i k) = ∑ z, h (ix2 i z) * w (ix2 z k) := by
  pointwise [k0_pay7]

theorem gateRow_at (h : FVec Ideal S256x1024 .bf16) (w : Vec Ideal S1024x128 .bf16) (b : Vec Ideal S1x128 .f32) (i : Fin 256) (k : Fin 128) :
    k0_pay8 h w b (ix2 i k) = (∑ z, h (ix2 i z) * w (ix2 z k)) + b (ix2 0 k) := by
  pointwise [k0_pay8]

theorem gateCol_at (h : FVec Ideal S256x1024 .bf16) (w : Vec Ideal S16x1024 .bf16) (b : Vec Ideal S16x1 .f32) (k : Fin 16) (i : Fin 256) :
    k0_pay10 (k0_pay9 h w) b (ix2 k i) = (∑ z, w (ix2 k z) * h (ix2 i z)) + b (ix2 k 0) := by
  pointwise [k0_pay10, k0_pay9]

theorem up_at (h : FVec Ideal S256x1024 .bf16) (w : Vec Ideal S1024x512 .bf16) (i : Fin 256) (k : Fin 512) :
    k0_pay28 h w (ix2 i k) = ∑ z, h (ix2 i z) * w (ix2 z k) := by
  pointwise [k0_pay28, k0_pay27]

theorem upTile_at (h : FVec Ideal S256x1024 .bf16) (w : Vec Ideal S1024x512 .bf16) (i : Fin 256) (k : Fin 512) :
    k0_pay30 h w (ix2 i k) = ∑ z, h (ix2 i z) * w (ix2 z k) := by
  pointwise [k0_pay30, k0_pay28, k0_pay27]

theorem upBefore_at (h : FVec Ideal S8x1024 .bf16) (w : Vec Ideal S1024x512 .bf16) (i : Fin 8) (k : Fin 512) :
    k0_pay29 h w (ix2 i k) = ∑ z, h (ix2 i z) * w (ix2 z k) := by
  pointwise [k0_pay29, k0_pay27]

theorem upBehind_at (h : FVec Ideal S8x1024 .bf16) (w : Vec Ideal S1024x512 .bf16) (i : Fin 8) (k : Fin 512) :
    k0_pay31 h w (ix2 i k) = ∑ z, h (ix2 i z) * w (ix2 z k) := by
  pointwise [k0_pay31, k0_pay27]

theorem conv_at (b : Vec Ideal S1x512 .f32) (t : Fin 5 → Vec Ideal S256x512 .f32) (w : Fin 5 → Vec Ideal S1x512 .f32) (i : Fin 256) (k : Fin 512) :
    k0_pay33 (k0_pay32 b) (t 0) (w 0) (t 1) (w 1) (t 2) (w 2) (t 3) (w 3) (t 4) (w 4) (ix2 i k)
      = ((∑ d, t d (ix2 i k) * w d (ix2 0 k)) + b (ix2 0 k)) * Ideal.logistic ((∑ d, t d (ix2 i k) * w d (ix2 0 k)) + b (ix2 0 k)) := by
  have h : (∑ d, t d (ix2 i k) * w d (ix2 0 k)) + b (ix2 0 k)
      = (0 + b (ix2 0 k)) + t 0 (ix2 i k) * w 0 (ix2 0 k) + t 1 (ix2 i k) * w 1 (ix2 0 k) + t 2 (ix2 i k) * w 2 (ix2 0 k)
        + t 3 (ix2 i k) * w 3 (ix2 0 k) + t 4 (ix2 i k) * w 4 (ix2 0 k) := by
    rw [Fin.sum_univ_five, zero_add]; abel
  rw [h]
  pointwise [k0_pay33, k0_pay32]

end Cert.Hand.MlIn

end
-- ==== Proof.MlMask.lean ====
module

public import proofs.«01_k».proof.Proof.MlPieces
public import proofs.«01_k».proof.Proof.MlPay

/-!
# The projection's gates and block-diagonal products at an element

The two masks over the places of a tile's chunks, the gates summed under them, and a half chunk times a tile of a
block-diagonal weight.
-/

@[expose] public section

set_option maxRecDepth 16896

noncomputable section

namespace Cert.Hand.MlIn

open Cert.Kernel7Ideal Cert.Kernel7Ideal.Gen Cert.Hand.Mlp Cert.Hand.Map
open Idealize.ShloMosaic Idealize.ShloMosaic.TcCoe Idealize.SL.Sem
open Idealize.ShloMosaic.Tactic

theorem chunk_row (i j : Fin 256) : k0_pay11 (ix2 i j) = BitVec.ofNat 32 (i.val / 128) := by
  have key : ∀ i : Fin 256, Scalar.select
      (IntOp.andi
        (IntOp.cmpi CmpIPredicate.ne
          (IntOp.subi (BitVec.setWidth 32 (IntOp.cmpi CmpIPredicate.sgt (BitVec.ofNat 32 i.val) 0#32))
            (BitVec.setWidth 32 (IntOp.cmpi CmpIPredicate.slt (BitVec.ofNat 32 i.val) 0#32)))
          (Scalar.subi (Scalar.extui (Scalar.cmpi CmpIPredicate.sgt 128#32 0#32))
            (Scalar.extui (Scalar.cmpi CmpIPredicate.slt 128#32 0#32))))
        (IntOp.cmpi CmpIPredicate.ne (IntOp.remsi ArithUnit.vector (BitVec.ofNat 32 i.val) 128#32) 0#32))
      (IntOp.subi (IntOp.divsi ArithUnit.vector (BitVec.ofNat 32 i.val) 128#32) 1#32)
      (IntOp.divsi ArithUnit.vector (BitVec.ofNat 32 i.val) 128#32) = BitVec.ofNat 32 (i.val / 128) := by decide +kernel
  rw [← key]
  pointwise [k0_pay11]

theorem same_chunk (i j : Fin 256) :
    k0_pay15 (iota .tc S256x256 32 [1] iota_S256x256_d1_w32) k0_pay11 k0_pay12 k0_pay13 k0_pay14 (ix2 i j)
      = IntOp.cmpi .eq (BitVec.ofNat 32 (i.val / 128)) (BitVec.ofNat 32 (j.val / 128)) := by
  have key : ∀ j : Fin 256, Scalar.select
      (IntOp.andi
        (IntOp.cmpi CmpIPredicate.ne
          (IntOp.subi (BitVec.setWidth 32 (IntOp.cmpi CmpIPredicate.sgt (BitVec.ofNat 32 j.val) 0#32))
            (BitVec.setWidth 32 (IntOp.cmpi CmpIPredicate.slt (BitVec.ofNat 32 j.val) 0#32)))
          (Scalar.subi (Scalar.extui (Scalar.cmpi CmpIPredicate.sgt 128#32 0#32))
            (Scalar.extui (Scalar.cmpi CmpIPredicate.slt 128#32 0#32))))
        (IntOp.cmpi CmpIPredicate.ne (IntOp.remsi ArithUnit.vector (BitVec.ofNat 32 j.val) 128#32) 0#32))
      (IntOp.subi (IntOp.divsi ArithUnit.vector (BitVec.ofNat 32 j.val) 128#32) 1#32)
      (IntOp.divsi ArithUnit.vector (BitVec.ofNat 32 j.val) 128#32) = BitVec.ofNat 32 (j.val / 128) := by decide +kernel
  rw [← key j, ← chunk_row i j]
  pointwise [k0_pay15, k0_pay12, k0_pay13, k0_pay14]

theorem select_if (p : Prop) [Decidable p] : Scalar.select (if p then (1 : BitVec 1) else 0) (1 : EReal) 0 = if p then 1 else 0 := by
  split <;> rfl

theorem both_masks (p q : Prop) [Decidable p] [Decidable q] :
    IntOp.andi (if p then (1 : BitVec 1) else 0) (if q then 1 else 0) = if p ∧ q then 1 else 0 := by
  by_cases hp : p <;> by_cases hq : q <;> simp only [hp, hq, if_true, if_false, and_self, and_false, false_and] <;> rfl

theorem same_of (i j : Fin 256) :
    IntOp.cmpi .eq (BitVec.ofNat 32 (i.val / 128)) (BitVec.ofNat 32 (j.val / 128)) = if i.val / 128 = j.val / 128 then 1 else 0 := by
  have key : ∀ a b : Fin 2, IntOp.cmpi .eq (BitVec.ofNat 32 a.val) (BitVec.ofNat 32 b.val) = if a.val = b.val then 1 else 0 := by decide +kernel
  exact key ⟨i.val / 128, by omega⟩ ⟨j.val / 128, by omega⟩

theorem toInt_small : ∀ i : Fin 256, (BitVec.ofNat 32 i.val).toInt = (i.val : ℤ) := by decide +kernel

theorem sle_of (i j : Fin 256) : IntOp.cmpi .sle (BitVec.ofNat 32 j.val) (BitVec.ofNat 32 i.val) = if j ≤ i then 1 else 0 := by
  show BitVec.ofBool ((BitVec.ofNat 32 j.val).sle (BitVec.ofNat 32 i.val)) = _
  rw [BitVec.sle_eq_decide, toInt_small, toInt_small]
  by_cases h : j ≤ i
  · rw [if_pos h, decide_eq_true (by exact_mod_cast h)]; rfl
  · rw [if_neg h, decide_eq_false (by exact_mod_cast h)]; rfl

theorem sge_of (i j : Fin 256) : IntOp.cmpi .sge (BitVec.ofNat 32 j.val) (BitVec.ofNat 32 i.val) = if i ≤ j then 1 else 0 :=
  sle_of j i

theorem lower_at (i j : Fin 256) :
    (lower : FVec Ideal S256x256 .f32) (ix2 i j) = if i.val / 128 = j.val / 128 ∧ j ≤ i then 1 else 0 := by
  have key := both_masks (i.val / 128 = j.val / 128) (j ≤ i)
  rw [← same_of i j, ← sle_of i j] at key
  rw [← select_if, ← key, ← same_chunk]
  pointwise [lower, k0_pay16]

theorem upper_at (i j : Fin 256) :
    (upper : FVec Ideal S256x256 .f32) (ix2 i j) = if i.val / 128 = j.val / 128 ∧ i ≤ j then 1 else 0 := by
  have key := both_masks (i.val / 128 = j.val / 128) (i ≤ j)
  rw [← same_of i j, ← sge_of i j] at key
  rw [← select_if, ← key, ← same_chunk]
  pointwise [upper, k0_pay17]

theorem kind_lane (i : Fin 256) (j : Fin 128) : k0_pay18 (ix2 i j) = BitVec.ofNat 32 (j.val / 4) := by
  have key : ∀ j : Fin 128, Scalar.select
      (IntOp.andi
        (IntOp.cmpi CmpIPredicate.ne
          (IntOp.subi (BitVec.setWidth 32 (IntOp.cmpi CmpIPredicate.sgt (BitVec.ofNat 32 j.val) 0#32))
            (BitVec.setWidth 32 (IntOp.cmpi CmpIPredicate.slt (BitVec.ofNat 32 j.val) 0#32)))
          (Scalar.subi (Scalar.extui (Scalar.cmpi CmpIPredicate.sgt 4#32 0#32))
            (Scalar.extui (Scalar.cmpi CmpIPredicate.slt 4#32 0#32))))
        (IntOp.cmpi CmpIPredicate.ne (IntOp.remsi ArithUnit.vector (BitVec.ofNat 32 j.val) 4#32) 0#32))
      (IntOp.subi (IntOp.divsi ArithUnit.vector (BitVec.ofNat 32 j.val) 4#32) 1#32)
      (IntOp.divsi ArithUnit.vector (BitVec.ofNat 32 j.val) 4#32) = BitVec.ofNat 32 (j.val / 4) := by decide +kernel
  rw [← key]
  pointwise [k0_pay18]

theorem kind_row (j : Fin 16) (i : Fin 256) : k0_pay22 (ix2 j i) = BitVec.ofNat 32 (j.val / 4) := by
  have key : ∀ j : Fin 16, Scalar.select
      (IntOp.andi
        (IntOp.cmpi CmpIPredicate.ne
          (IntOp.subi (BitVec.setWidth 32 (IntOp.cmpi CmpIPredicate.sgt (BitVec.ofNat 32 j.val) 0#32))
            (BitVec.setWidth 32 (IntOp.cmpi CmpIPredicate.slt (BitVec.ofNat 32 j.val) 0#32)))
          (Scalar.subi (Scalar.extui (Scalar.cmpi CmpIPredicate.sgt 4#32 0#32))
            (Scalar.extui (Scalar.cmpi CmpIPredicate.slt 4#32 0#32))))
        (IntOp.cmpi CmpIPredicate.ne (IntOp.remsi ArithUnit.vector (BitVec.ofNat 32 j.val) 4#32) 0#32))
      (IntOp.subi (IntOp.divsi ArithUnit.vector (BitVec.ofNat 32 j.val) 4#32) 1#32)
      (IntOp.divsi ArithUnit.vector (BitVec.ofNat 32 j.val) 4#32) = BitVec.ofNat 32 (j.val / 4) := by decide +kernel
  rw [← key]
  pointwise [k0_pay22]

/-- A gate of kind `n` among the four, given its values over a tile of 256 rows: as it stands, or the logarithms of its
logistic function summed over the places of its chunk up to it, or from it on. -/
def gateTile (n : ℕ) (g : Fin 256 → EReal) (i : Fin 256) : EReal :=
  if n = 1 then ∑ s : Fin 256, (if i.val / 128 = s.val / 128 ∧ s ≤ i then 1 else 0) * logSig (g s)
  else if n = 3 then ∑ s : Fin 256, (if i.val / 128 = s.val / 128 ∧ i ≤ s then 1 else 0) * logSig (g s) else g i

theorem select_kind (n : Fin 32) (a b c : EReal) :
    Scalar.select (IntOp.cmpi .eq (BitVec.ofNat 32 n.val) 1#32) a (Scalar.select (IntOp.cmpi .eq (BitVec.ofNat 32 n.val) 3#32) b c)
      = if n.val = 1 then a else if n.val = 3 then b else c := by
  have h1 : ∀ n : Fin 32, IntOp.cmpi .eq (BitVec.ofNat 32 n.val) 1#32 = if n.val = 1 then 1 else 0 := by decide +kernel
  have h3 : ∀ n : Fin 32, IntOp.cmpi .eq (BitVec.ofNat 32 n.val) 3#32 = if n.val = 3 then 1 else 0 := by decide +kernel
  rw [h1, h3]
  split
  · rfl
  · split <;> rfl

theorem gatesRow_at (g : FVec Ideal S256x128 .f32) (i : Fin 256) (j : Fin 128) :
    k0_pay21 g lower upper k0_pay18 (k0_pay19 g) (k0_pay20 g) (ix2 i j) = gateTile (j.val / 4) (fun s => g (ix2 s j)) i := by
  have h := select_kind ⟨j.val / 4, by omega⟩ (∑ s : Fin 256, (if i.val / 128 = s.val / 128 ∧ s ≤ i then 1 else 0) * logSig (g (ix2 s j)))
    (∑ s : Fin 256, (if i.val / 128 = s.val / 128 ∧ i ≤ s then 1 else 0) * logSig (g (ix2 s j))) (g (ix2 i j))
  refine Eq.trans ?_ h
  simp only [← lower_at, ← upper_at, ← kind_lane i j]
  pointwise [k0_pay21, k0_pay19, k0_pay20]
  rfl

theorem gatesCol_at (g : FVec Ideal S16x256 .f32) (j : Fin 16) (i : Fin 256) :
    k0_pay26 g lower upper k0_pay22 (k0_pay23 g) (k0_pay24 g) k0_pay25 (ix2 j i) = gateTile (j.val / 4) (fun s => g (ix2 j s)) i := by
  have h := select_kind ⟨j.val / 4, by omega⟩ (∑ s : Fin 256, logSig (g (ix2 j s)) * (if s.val / 128 = i.val / 128 ∧ s ≤ i then 1 else 0))
    (∑ s : Fin 256, logSig (g (ix2 j s)) * (if s.val / 128 = i.val / 128 ∧ i ≤ s then 1 else 0)) (g (ix2 j i))
  refine Eq.trans ?_ (h.trans ?_)
  · simp only [← lower_at, ← upper_at, ← kind_row j i]
    pointwise [k0_pay26, k0_pay23, k0_pay24, k0_pay25]
    rfl
  · simp only [gateTile, mul_comm (logSig _), eq_comm (b := i.val / 128)]

theorem dot_at (a b : FVec Ideal S256x256 .bf16) (i k : Fin 256) :
    matmul dot_S256x256_S256x256_S256x256_1_0_0_1_n_n none a b (constant S256x256 .f32 0x00000000#32) (ix2 i k)
      = ∑ z, a (ix2 i z) * b (ix2 z k) := by
  pointwise

theorem cast_at (b : Vec Ideal S1x256x256 .bf16) (i k : Fin 256) :
    (shapeCast S256x256 b shapeCasts_S1x256x256_S256x256 : FVec Ideal S256x256 .bf16) (ix2 i k) = b (ix3 0 i k) := by
  pointwise

theorem half_at (x : FVec Ideal S256x512 .bf16) (j : Fin 2) (i z : Fin 256) :
    extractStridedSlice S256x256 ![0, 256 * j.val] x (half j) (ix2 i z) = x (ix2 i ⟨256 * j.val + z.val, by omega⟩) :=
  congrArg x (funext fun a => Fin.ext (by
    match a with
    | 0 => exact Nat.zero_add _
    | 1 => rfl))

theorem prod_at (lq : Load Ideal S8x256x256 .bf16) (x : FVec Ideal S256x512 .bf16) (n : Fin 4) (j : Fin 2) (i k : Fin 256) :
    prod lq x n j (ix2 i k) = ∑ z : Fin 256, x (ix2 i ⟨256 * j.val + z.val, by omega⟩)
      * (lq (Rect.unit (s := S8x256x256) ![2 * n.val + j.val, 0, 0] S1x256x256.size (inb_bd n j)) : Vec Ideal S1x256x256 .bf16) (ix3 0 z k) :=
  (dot_at _ _ i k).trans (Finset.sum_congr rfl fun z _ => congrArg₂ (· * ·) (half_at x j i z) (cast_at _ z k))

end Cert.Hand.MlIn

end
-- ==== Proof.MlTap.lean ====
module

public import proofs.«01_k».proof.Proof.MlMask
public import Idealize.ShloMosaic.Lib.Pipeline.ReadBack
public import Idealize.ShloMosaic.Lib.Pipeline.ValueKit.Geometry
public import Idealize.ShloMosaic.Lib.Pipeline.ValueKit.Tiles

/-!
# The projection's convolution at an element

The rows of the scratch buffer, the five rows the convolution reads there, and the convolved chunk.
-/

@[expose] public section

set_option maxRecDepth 16896

noncomputable section

namespace Cert.Hand.MlIn

open Cert.Kernel7Ideal Cert.Kernel7Ideal.Gen Cert.Hand.Mlp Cert.Hand.Map
open Idealize.ShloMosaic Idealize.ShloMosaic.TcCoe Idealize.SL.Sem
open Idealize.ShloMosaic.Tactic

/-- The loads of a buffer that holds `X`. -/
abbrev loads {s : Shape} {e : EltTy} (X : Vec Ideal s e) : Load Ideal s e := fun B => View.ld X B

variable (W : Vec Ideal S1024x2048 .bf16) (CW : Vec Ideal S5x2048 .f32) (CB : Vec Ideal S1x2048 .f32) (Q : Vec Ideal S8x256x256 .bf16)
  (hb : FVec Ideal S256x1024 .bf16) (hp hn : FVec Ideal S8x1024 .bf16)

theorem wcols_at (n : Fin 4) (z : Fin 1024) (y : Fin 512) : wcols (loads W) n (ix2 z y) = W (ix2 z ⟨512 * n.val + y.val, by omega⟩) :=
  View.ld_unit_apply_of W _ _ _ _ _ fun a => by
    match a with
    | 0 => exact (Nat.zero_add _).symm
    | 1 => rfl

theorem tapW_at (n : Fin 4) (d : Fin 5) (y : Fin 512) : tapW (loads CW) n d (ix2 0 y) = CW (ix2 d ⟨512 * n.val + y.val, by omega⟩) :=
  View.ld_unit_apply_of CW _ _ _ _ _ fun a => by
    match a with
    | 0 => rfl
    | 1 => rfl

theorem bias_at (n : Fin 4) (y : Fin 512) :
    View.ld CB (Rect.unit (s := S1x2048) ![0, 512 * n.val] S1x512.size (inb_cb n)) (ix2 0 y) = CB (ix2 0 ⟨512 * n.val + y.val, by omega⟩) :=
  View.ld_unit_apply_of CB _ _ _ _ _ fun a => by
    match a with
    | 0 => rfl
    | 1 => rfl

theorem block_at (n : Fin 4) (j : Fin 2) (z k : Fin 256) :
    View.ld Q (Rect.unit (s := S8x256x256) ![2 * n.val + j.val, 0, 0] S1x256x256.size (inb_bd n j)) (ix3 0 z k)
      = Q (ix3 (⟨2 * n.val + j.val, by omega⟩ : Fin 8) z k) :=
  View.ld_unit_apply_of Q _ _ _ _ _ fun a => by
    match a with
    | 0 => rfl
    | 1 => exact (Nat.zero_add _).symm
    | 2 => exact (Nat.zero_add _).symm

/-- Row `p` of the rows around the tile: eight before it, its own, eight behind it. -/
def around (p : Fin 272) (z : Fin 1024) : EReal :=
  if h : p.val < 8 then hp (ix2 ⟨p.val, h⟩ z) else if h' : p.val < 264 then hb (ix2 ⟨p.val - 8, by omega⟩ z) else hn (ix2 ⟨p.val - 264, by omega⟩ z)

theorem around_before (p : Fin 272) (a : Fin 8) (e : p.val = a.val) (z : Fin 1024) : around hb hp hn p z = hp (ix2 a z) := by
  have ea : (⟨p.val, by omega⟩ : Fin 8) = a := Fin.ext e
  rw [around, dif_pos (by omega), ea]

theorem around_tile (p : Fin 272) (a : Fin 256) (e : p.val = 8 + a.val) (z : Fin 1024) : around hb hp hn p z = hb (ix2 a z) := by
  have ea : (⟨p.val - 8, by omega⟩ : Fin 256) = a := Fin.ext (by show p.val - 8 = a.val; omega)
  rw [around, dif_neg (by omega), dif_pos (by omega), ea]

theorem around_behind (p : Fin 272) (a : Fin 8) (e : p.val = 264 + a.val) (z : Fin 1024) : around hb hp hn p z = hn (ix2 a z) := by
  have ea : (⟨p.val - 264, by omega⟩ : Fin 8) = a := Fin.ext (by show p.val - 264 = a.val; omega)
  rw [around, dif_neg (by omega), dif_neg (by omega), ea]

/-- The rows around the tile, projected on chunk `n`. -/
def projected (n : Fin 4) (p : Fin 272) (y : Fin 512) : EReal :=
  ∑ z, around hb hp hn p z * W (ix2 z ⟨512 * n.val + y.val, by omega⟩)

theorem stored_pieces (n : Fin 4) : ∀ p ∈ stored (loads W) hb hp hn n, ∀ x : p.1.shape.Idx,
    p.2 x = (fun y : S272x512.Idx => projected W hb hp hn n (y 0) (y 1)) (p.1.emb x) := by
  intro p hq
  simp only [stored, List.mem_cons, List.not_mem_nil, or_false] at hq
  rcases hq with rfl | rfl | rfl
  · intro x
    obtain ⟨a, b, rfl⟩ : ∃ (a : Fin 8) (b : Fin 512), x = ix2 a b := ⟨_, _, eq_ix2 x⟩
    rw [emb2 _ _ rfl rfl a b (⟨264 + a.val, by omega⟩ : Fin 272) b rfl (Nat.zero_add _)]
    refine (upBehind_at _ _ a b).trans (Finset.sum_congr rfl fun z _ => congrArg₂ (· * ·) ?_ (wcols_at W n z b))
    exact (around_behind hb hp hn _ a rfl z).symm
  · intro x
    obtain ⟨a, b, rfl⟩ : ∃ (a : Fin 256) (b : Fin 512), x = ix2 a b := ⟨_, _, eq_ix2 x⟩
    rw [emb2 _ _ rfl rfl a b (⟨8 + a.val, by omega⟩ : Fin 272) b rfl (Nat.zero_add _)]
    refine (upTile_at _ _ a b).trans (Finset.sum_congr rfl fun z _ => congrArg₂ (· * ·) ?_ (wcols_at W n z b))
    exact (around_tile hb hp hn _ a rfl z).symm
  · intro x
    obtain ⟨a, b, rfl⟩ : ∃ (a : Fin 8) (b : Fin 512), x = ix2 a b := ⟨_, _, eq_ix2 x⟩
    rw [emb2 _ _ rfl rfl a b (⟨a.val, by omega⟩ : Fin 272) b (Nat.zero_add _) (Nat.zero_add _)]
    refine (upBefore_at _ _ a b).trans (Finset.sum_congr rfl fun z _ => congrArg₂ (· * ·) ?_ (wcols_at W n z b))
    exact (around_before hb hp hn _ a rfl z).symm

theorem stored_cover (n : Fin 4) (p : Fin 272) (y : Fin 512) : ∃ q ∈ stored (loads W) hb hp hn n, ix2 p y ∈ q.1.set := by
  by_cases h : p.val < 8
  · refine ⟨_, List.mem_cons_of_mem _ (List.mem_cons_of_mem _ (List.mem_cons_self ..)), ?_⟩
    have e := emb2 ![0, 0] inb_S272x512_S8x512_0_0 rfl rfl (⟨p.val, h⟩ : Fin 8) y p y (Nat.zero_add _) (Nat.zero_add _)
    exact e ▸ LoadRect.idx_mem _ _
  · by_cases h' : p.val < 264
    · refine ⟨_, List.mem_cons_of_mem _ (List.mem_cons_self ..), ?_⟩
      have e := emb2 ![8, 0] inb_S272x512_S256x512_8_0 rfl rfl (⟨p.val - 8, by omega⟩ : Fin 256) y p y (by show 8 + (p.val - 8) = p.val; omega) (Nat.zero_add _)
      exact e ▸ LoadRect.idx_mem _ _
    · refine ⟨_, List.mem_cons_self .., ?_⟩
      have e := emb2 ![264, 0] inb_S272x512_S8x512_264_0 rfl rfl (⟨p.val - 264, by omega⟩ : Fin 8) y p y (by show 264 + (p.val - 264) = p.val; omega) (Nat.zero_add _)
      exact e ▸ LoadRect.idx_mem _ _

theorem storedTo_eq (n : Fin 4) : ∃ L, storedTo (loads W) hb hp hn n = stored (loads W) hb hp hn n ++ L := by
  match n with
  | 0 => exact ⟨[], (List.append_nil _).symm⟩
  | 1 => exact ⟨_, rfl⟩
  | 2 => exact ⟨_, rfl⟩
  | 3 => exact ⟨_, rfl⟩

theorem tap_at (n : Fin 4) (d : Fin 5) (i : Fin 256) (y : Fin 512) :
    tap (loads W) hb hp hn n d (ix2 i y) = projected W hb hp hn n ⟨6 + d.val + i.val, by omega⟩ y := by
  obtain ⟨L, hL⟩ := storedTo_eq W hb hp hn n
  rw [tap, View.readCov_eq_canon', hL]
  have e : (Rect.unit (s := S272x512) ![6 + d.val, 0] S256x512.size (inb_tap d)).toLoadRect.idx (ix2 i y) = ix2 (⟨6 + d.val + i.val, by omega⟩ : Fin 272) y :=
    emb2 ![6 + d.val, 0] (inb_tap d) rfl rfl i y _ _ rfl (Nat.zero_add _)
  show View.canon _ ((Rect.unit (s := S272x512) ![6 + d.val, 0] S256x512.size (inb_tap d)).toLoadRect.idx (ix2 i y)) = _
  rw [e]
  exact View.canon_append_of_pieces (fun y : S272x512.Idx => projected W hb hp hn n (y 0) (y 1)) L _ (stored_pieces W hb hp hn n) _
    (stored_cover W hb hp hn n _ y)

/-- The convolved chunk at an element. -/
theorem conv_chunk (n : Fin 4) (i : Fin 256) (y : Fin 512) :
    conv (loads W) (loads CW) (loads CB) hb hp hn n (ix2 i y)
      = silu ((∑ d : Fin 5, projected W hb hp hn n ⟨6 + d.val + i.val, by omega⟩ y * CW (ix2 d ⟨512 * n.val + y.val, by omega⟩))
          + CB (ix2 0 ⟨512 * n.val + y.val, by omega⟩)) := by
  refine (conv_at _ (tap (loads W) hb hp hn n) (tapW (loads CW) n) i y).trans ?_
  exact congrArg silu (congrArg₂ (· + ·) (Finset.sum_congr rfl fun d _ => congrArg₂ (· * ·) (tap_at W hb hp hn n d i y) (tapW_at CW n d y)) (bias_at CB n y))

end Cert.Hand.MlIn

end
-- ==== Proof.MlHost.lean ====
module

public import proofs.«01_k».proof.Proof.MlSpec
public import proofs.«01_k».proof.Proof.Gen.Kernel7Ideal.Frame.Runs
public import Idealize.ShloMosaic.Lib.Pointwise
public import Idealize.ShloMosaic.Lib.Pipeline.ValueKit.Geometry
public import Idealize.ShloMosaic.Lib.Pipeline.ValueKit.Tiles

/-!
# What the projection's windows hold

The arrays the kernel is launched on, in the program's arguments, at an element.
-/

@[expose] public section

set_option maxRecDepth 16896

noncomputable section

namespace Cert.Hand.MlIn

open Cert.Kernel7Ideal Cert.Kernel7Ideal.Gen Cert.Hand.Mlp Cert.Hand.Map
open Idealize.ShloMosaic Idealize.ShloMosaic.TcCoe Idealize.SL.Sem
open Idealize.ShloMosaic.Tactic

/-- A block-diagonal weight as eight tiles of 64 blocks. -/
def tiled {F : FTy → Type} [FloatOps F] (w : FVec F S512x4x4 .f32) : FVec F S8x256x256 .bf16 :=
  truncf .bf16 (shapeCast S8x256x256 (select
    (broadcastInDim S8x64x4x64x4 ![0, 1, 2, 3, 4] bcast_S1x64x1x64x1_S8x64x4x64x4_0_1_2_3_4
      (broadcastInDim S1x64x1x64x1 ![1, 3] bcast_S64x64_S1x64x1x64x1_1_3
        (cmpi .eq (addi (iotaInDim S64x64 32 0) (broadcastInDim S64x64 ![] bcast_S_S64x64 (constantI S_ 32 0#32))) (iotaInDim S64x64 32 1))))
    (broadcastInDim S8x64x4x64x4 ![0, 1, 2, 3, 4] bcast_S8x64x4x1x4_S8x64x4x64x4_0_1_2_3_4
      (broadcastInDim S8x64x4x1x4 ![0, 1, 2, 4] bcast_S8x64x4x4_S8x64x4x1x4_0_1_2_4
        (shapeCast S8x64x4x4 w shapeCasts_S512x4x4_S8x64x4x4)))
    (broadcastInDim S8x64x4x64x4 ![] bcast_S_S8x64x4x64x4 (constant S_ .f32 0x00000000#32) : FVec F S8x64x4x64x4 .f32))
    shapeCasts_S8x64x4x64x4_S8x256x256) bitsLt_bf16_f32

/-- The gates' columns of the projection's weight, widened with zeros. -/
def gateCols (w : FVec Ideal S1024x4112 .f32) : FVec Ideal S1024x128 .bf16 :=
  truncf .bf16 (pad S1024x128 ![0, 0] ![0, 112] ![0, 0] (extractStridedSlice S1024x16 ![0, 4096] w slices_S1024x4112_S1024x16_0_4096)
    (sitofp .f32 (constantI S_ 32 0#32) : FVec Ideal S_ .f32) pads_S1024x16_S1024x128_000_01120 h_S_) bitsLt_bf16_f32

/-- The gates' columns of the projection's weight, transposed. -/
def gateRows (w : FVec Ideal S1024x4112 .f32) : FVec Ideal S16x1024 .bf16 :=
  truncf .bf16 (transpose S16x1024 [1, 0] (extractStridedSlice S1024x16 ![0, 4096] w slices_S1024x4112_S1024x16_0_4096) transposes_S1024x16_S16x1024_1_0)
    bitsLt_bf16_f32

/-- The gates' bias, widened with zeros. -/
def gateBias (b : FVec Ideal S16 .f32) : FVec Ideal S1x128 .f32 :=
  shapeCast S1x128 (pad S128 ![0] ![112] ![0] b (sitofp .f32 (constantI S_ 32 0#32) : FVec Ideal S_ .f32) pads_S16_S128_01120 h_S_) shapeCasts_S128_S1x128

variable (m : (ℓ : Loc nD τ sig) → Buf (Elt Ideal) ℓ) (c : Dev nD)

/-- The kernel's arguments. -/
def args : Args where
  x := m ((c : Thread nD τ).loc main_arg0)
  mods := m ((c : Thread nD τ).loc main_arg1)
  g := m ((c : Thread nD τ).loc main_arg2)
  w := m ((c : Thread nD τ).loc main_arg3)
  gb := m ((c : Thread nD τ).loc main_arg4)
  cw := m ((c : Thread nD τ).loc main_arg5)
  cb := m ((c : Thread nD τ).loc main_arg6)
  wq := m ((c : Thread nD τ).loc main_arg7)
  wk := m ((c : Thread nD τ).loc main_arg8)
  wv := m ((c : Thread nD τ).loc main_arg9)

theorem V_v1 : V m c main_v1 = extractStridedSlice S1024x2048 ![0, 0] (args m c).w slices_S1024x4112_S1024x2048_0_0 := by
  simp only [V, hostOps0, hostOps0_1, hostOps0_2, hostOps0_3, hostOps0_4, hostOps0_5, hostOps0_6, hostOps0_7, hostOps0_8, hostOps0_9, hostOps0_10, List.flatten_cons,
    List.flatten_nil, List.append_nil, List.cons_append, List.nil_append]
  after_results_simp; rfl

theorem V_v3 : V m c main_v3 = extractStridedSlice S1024x2048 ![0, 2048] (args m c).w slices_S1024x4112_S1024x2048_0_2048 := by
  simp only [V, hostOps0, hostOps0_1, hostOps0_2, hostOps0_3, hostOps0_4, hostOps0_5, hostOps0_6, hostOps0_7, hostOps0_8, hostOps0_9, hostOps0_10, List.flatten_cons,
    List.flatten_nil, List.append_nil, List.cons_append, List.nil_append]
  after_results_simp; rfl

theorem V_v6 : V m c main_v6 = gateCols (args m c).w := by
  simp only [V, hostOps0, hostOps0_1, hostOps0_2, hostOps0_3, hostOps0_4, hostOps0_5, hostOps0_6, hostOps0_7, hostOps0_8, hostOps0_9, hostOps0_10, List.flatten_cons,
    List.flatten_nil, List.append_nil, List.cons_append, List.nil_append]
  after_results_simp; rfl

theorem V_v8 : V m c main_v8 = gateRows (args m c).w := by
  simp only [V, hostOps0, hostOps0_1, hostOps0_2, hostOps0_3, hostOps0_4, hostOps0_5, hostOps0_6, hostOps0_7, hostOps0_8, hostOps0_9, hostOps0_10, List.flatten_cons,
    List.flatten_nil, List.append_nil, List.cons_append, List.nil_append]
  after_results_simp; rfl

theorem V_v10 : V m c main_v10 = gateBias (args m c).gb := by
  simp only [V, hostOps0, hostOps0_1, hostOps0_2, hostOps0_3, hostOps0_4, hostOps0_5, hostOps0_6, hostOps0_7, hostOps0_8, hostOps0_9, hostOps0_10, List.flatten_cons,
    List.flatten_nil, List.append_nil, List.cons_append, List.nil_append]
  after_results_simp; rfl

theorem V_v11 : V m c main_v11 = shapeCast S16x1 (args m c).gb shapeCasts_S16_S16x1 := by
  simp only [V, hostOps0, hostOps0_1, hostOps0_2, hostOps0_3, hostOps0_4, hostOps0_5, hostOps0_6, hostOps0_7, hostOps0_8, hostOps0_9, hostOps0_10, List.flatten_cons,
    List.flatten_nil, List.append_nil, List.cons_append, List.nil_append]
  after_results_simp; rfl

theorem V_v45 : V m c main_v45 = shapeCast S1x1024 (args m c).g shapeCasts_S1024_S1x1024 := by
  simp only [V, hostOps0, hostOps0_1, hostOps0_2, hostOps0_3, hostOps0_4, hostOps0_5, hostOps0_6, hostOps0_7, hostOps0_8, hostOps0_9, hostOps0_10, List.flatten_cons,
    List.flatten_nil, List.append_nil, List.cons_append, List.nil_append]
  after_results_simp; rfl

theorem V_v46 : V m c main_v46 = shapeCast S1x2048 (args m c).cb shapeCasts_S2048_S1x2048 := by
  simp only [V, hostOps0, hostOps0_1, hostOps0_2, hostOps0_3, hostOps0_4, hostOps0_5, hostOps0_6, hostOps0_7, hostOps0_8, hostOps0_9, hostOps0_10, List.flatten_cons,
    List.flatten_nil, List.append_nil, List.cons_append, List.nil_append]
  after_results_simp; rfl

theorem V_v22 : V m c main_v22 = tiled (F := Ideal) (args m c).wq := by
  simp only [V, hostOps0, hostOps0_1, hostOps0_2, hostOps0_3, hostOps0_4, hostOps0_5, hostOps0_6, hostOps0_7, hostOps0_8, hostOps0_9, hostOps0_10, List.flatten_cons,
    List.flatten_nil, List.append_nil, List.cons_append, List.nil_append]
  after_results_simp; rfl

theorem V_v33 : V m c main_v33 = tiled (F := Ideal) (args m c).wk := by
  simp only [V, hostOps0, hostOps0_1, hostOps0_2, hostOps0_3, hostOps0_4, hostOps0_5, hostOps0_6, hostOps0_7, hostOps0_8, hostOps0_9, hostOps0_10, List.flatten_cons,
    List.flatten_nil, List.append_nil, List.cons_append, List.nil_append]
  after_results_simp; rfl

theorem V_v44 : V m c main_v44 = tiled (F := Ideal) (args m c).wv := by
  simp only [V, hostOps0, hostOps0_1, hostOps0_2, hostOps0_3, hostOps0_4, hostOps0_5, hostOps0_6, hostOps0_7, hostOps0_8, hostOps0_9, hostOps0_10, List.flatten_cons,
    List.flatten_nil, List.append_nil, List.cons_append, List.nil_append]
  after_results_simp; rfl

section Elements

theorem wx_at (w : FVec Ideal S1024x4112 .f32) (k : Fin 1024) (n : Fin 2048) :
    extractStridedSlice S1024x2048 ![0, 0] w slices_S1024x4112_S1024x2048_0_0 (ix2 k n) = w (ix2 k ⟨n.val, by omega⟩) := by
  pointwise

theorem wo_at (w : FVec Ideal S1024x4112 .f32) (k : Fin 1024) (n : Fin 2048) :
    extractStridedSlice S1024x2048 ![0, 2048] w slices_S1024x4112_S1024x2048_0_2048 (ix2 k n) = w (ix2 k ⟨2048 + n.val, by omega⟩) := by
  pointwise

theorem zero_conv : (FloatOps.sitofp FTy.f32 (0#32) : Ideal .f32) = 0 := by
  show ((((0#32 : BitVec 32).toInt : ℝ)) : EReal) = 0
  simp

theorem gateCols_at (w : FVec Ideal S1024x4112 .f32) (k : Fin 1024) (j : Fin 128) :
    gateCols w (ix2 k j) = if h : j.val < 16 then w (ix2 k ⟨4096 + j.val, by omega⟩) else 0 := by
  pointwise [gateCols]
  rw [zero_conv]

theorem gateRows_at (w : FVec Ideal S1024x4112 .f32) (j : Fin 16) (k : Fin 1024) :
    gateRows w (ix2 j k) = w (ix2 k ⟨4096 + j.val, by omega⟩) := by
  pointwise [gateRows]

theorem gateBias_at (b : FVec Ideal S16 .f32) (j : Fin 128) :
    gateBias b (ix2 0 j) = if h : j.val < 16 then b (ix1 ⟨j.val, h⟩) else 0 := by
  pointwise [gateBias]
  rw [zero_conv]

theorem gb_at (b : FVec Ideal S16 .f32) (j : Fin 16) : (shapeCast S16x1 b shapeCasts_S16_S16x1 : FVec Ideal S16x1 .f32) (ix2 j 0) = b (ix1 j) := by
  pointwise

theorem g_at (g : FVec Ideal S1024 .f32) (k : Fin 1024) : (shapeCast S1x1024 g shapeCasts_S1024_S1x1024 : FVec Ideal S1x1024 .f32) (ix2 0 k) = g (ix1 k) := by
  pointwise

theorem cb_at (b : FVec Ideal S2048 .f32) (k : Fin 2048) : (shapeCast S1x2048 b shapeCasts_S2048_S1x2048 : FVec Ideal S1x2048 .f32) (ix2 0 k) = b (ix1 k) := by
  pointwise

theorem tiled_at (w : FVec Ideal S512x4x4 .f32) (b : Fin 8) (p q : Fin 256) :
    tiled w (ix3 b p q) = if p.val / 4 = q.val / 4 then w (ix3 (⟨64 * b.val + q.val / 4, by omega⟩ : Fin 512) (⟨p.val % 4, by omega⟩ : Fin 4) (⟨q.val % 4, by omega⟩ : Fin 4)) else 0 := by
  have key : ∀ a b : Fin 64, IntOp.cmpi .eq (IntOp.addi (BitVec.ofNat 32 a.val) 0#32) (BitVec.ofNat 32 b.val) = if a.val = b.val then 1 else 0 := by
    decide +kernel
  have hk := key ⟨p.val / 4, by omega⟩ ⟨q.val / 4, by omega⟩
  simp only at hk
  pointwise [tiled]
  rw [hk]
  by_cases h : p.val / 4 = q.val / 4
  · rw [if_pos h, if_pos h]
    refine congrArg w ?_
    simp only [h, mul_comm]
  · rw [if_neg h, if_neg h]
    rfl

end Elements

end Cert.Hand.MlIn

end
-- ==== Proof.MlSum.lean ====
module

public import proofs.«01_k».proof.Proof.MlTap
public import proofs.«01_k».proof.Proof.MlHost

/-!
# The projection's block-diagonal products and chunked sums

A row times a tile of a block-diagonal weight, and the gates' sums over a tile of rows as sums over a chunk.
-/

@[expose] public section

set_option maxRecDepth 16896

noncomputable section

namespace Cert.Hand.MlIn

open Cert.Kernel7Ideal Cert.Kernel7Ideal.Gen Cert.Hand.Mlp Cert.Hand.Map
open Idealize.ShloMosaic Idealize.ShloMosaic.TcCoe Idealize.SL.Sem

/-- Half a chunk times a tile of a block-diagonal weight. -/
theorem prod_block (w : FVec Ideal S512x4x4 .f32) (x : FVec Ideal S256x512 .bf16) (n : Fin 4) (j : Fin 2) (i k : Fin 256) (f : Fin 2048 → EReal)
    (hf : ∀ y : Fin 512, x (ix2 i y) = f ⟨512 * n.val + y.val, by omega⟩) :
    prod (loads (tiled w)) x n j (ix2 i k) = blockDiag f w ⟨512 * n.val + 256 * j.val + k.val, by omega⟩ := by
  have hb : ∀ z : Fin 256, (loads (tiled w) (Rect.unit (s := S8x256x256) ![2 * n.val + j.val, 0, 0] S1x256x256.size (inb_bd n j)) : Vec Ideal S1x256x256 .bf16) (ix3 0 z k)
      = if z.val / 4 = k.val / 4 then w (ix3 (⟨64 * (2 * n.val + j.val) + k.val / 4, by omega⟩ : Fin 512) (⟨z.val % 4, by omega⟩ : Fin 4) (⟨k.val % 4, by omega⟩ : Fin 4)) else 0 :=
    fun z => (block_at (tiled w) n j z k).trans (tiled_at w _ z k)
  refine (prod_at _ x n j i k).trans (Fintype.sum_of_injective (fun a : Fin 4 => (⟨4 * (k.val / 4) + a.val, by omega⟩ : Fin 256)) ?_ _ _ ?_ ?_).symm
  · intro a b h
    have := congrArg Fin.val h
    simp only at this
    exact Fin.ext (by omega)
  · intro z hz
    have hne : z.val / 4 ≠ k.val / 4 := fun h => hz ⟨⟨z.val % 4, by omega⟩, Fin.ext (by show 4 * (k.val / 4) + z.val % 4 = z.val; omega)⟩
    exact (congrArg (x (ix2 i _) * ·) ((hb z).trans (if_neg hne))).trans (mul_zero _)
  · intro a
    refine congrArg₂ (· * ·) ?_ ?_
    · refine (congrArg f (Fin.ext ?_)).trans (hf _).symm
      show 4 * ((512 * n.val + 256 * j.val + k.val) / 4) + a.val = 512 * n.val + (256 * j.val + (4 * (k.val / 4) + a.val))
      omega
    · refine Eq.trans ?_ ((hb _).trans (if_pos (by show (4 * (k.val / 4) + a.val) / 4 = k.val / 4; omega))).symm
      refine congrArg w ?_
      congr 1
      · exact Fin.ext (by show (512 * n.val + 256 * j.val + k.val) / 4 = 64 * (2 * n.val + j.val) + k.val / 4; omega)
      · exact Fin.ext (by show a.val = (4 * (k.val / 4) + a.val) % 4; omega)
      · exact Fin.ext (by show (512 * n.val + 256 * j.val + k.val) % 4 = k.val % 4; omega)

/-- A masked sum over a tile of two chunks, as a sum over the chunk of its place. -/
theorem sum_chunk (f : Fin 256 → EReal) (P : Fin 256 → Prop) (R : Fin 128 → Prop) [DecidablePred P] [DecidablePred R] (b : ℕ) (hb : b < 2)
    (hP : ∀ s : Fin 128, P ⟨128 * b + s.val, by omega⟩ ↔ R s) (hb' : ∀ s : Fin 256, P s → s.val / 128 = b) :
    ∑ s : Fin 256, (if P s then (1 : EReal) else 0) * f s = ∑ s : Fin 128, if R s then f ⟨128 * b + s.val, by omega⟩ else 0 := by
  refine (Fintype.sum_of_injective (fun s : Fin 128 => (⟨128 * b + s.val, by omega⟩ : Fin 256)) ?_ _ _ ?_ ?_).symm
  · intro s u h
    have := congrArg Fin.val h
    simp only at this
    exact Fin.ext (by omega)
  · intro s hs
    have hn : ¬ P s := fun h => hs ⟨⟨s.val % 128, by omega⟩, Fin.ext (by show 128 * b + s.val % 128 = s.val; have := hb' s h; omega)⟩
    rw [if_neg hn, zero_mul]
  · intro s
    by_cases h : R s
    · rw [if_pos h, if_pos ((hP s).2 h), one_mul]
    · rw [if_neg h, if_neg (fun h' => h ((hP s).1 h')), zero_mul]

/-- A gate over a tile, as the gate over the chunk of its place. -/
theorem gateTile_eq (n : ℕ) (g : Fin 256 → EReal) (i : Fin 256) :
    gateTile n g i = chunkGate n (fun s => g ⟨128 * (i.val / 128) + s.val, by omega⟩) ⟨i.val % 128, by omega⟩ := by
  unfold gateTile chunkGate
  rw [sum_chunk (fun s => logSig (g s)) (fun s => i.val / 128 = s.val / 128 ∧ s ≤ i) (fun s => s ≤ (⟨i.val % 128, by omega⟩ : Fin 128)) (i.val / 128) (by omega)
      (fun s => by simp only [Fin.le_def]; omega) (fun s h => h.1.symm),
    sum_chunk (fun s => logSig (g s)) (fun s => i.val / 128 = s.val / 128 ∧ i ≤ s) (fun s => (⟨i.val % 128, by omega⟩ : Fin 128) ≤ s) (i.val / 128) (by omega)
      (fun s => by simp only [Fin.le_def]; omega) (fun s h => h.1.symm)]
  dsimp only
  rw [show (⟨128 * (i.val / 128) + i.val % 128, by omega⟩ : Fin 256) = i from Fin.ext (Nat.div_add_mod _ _)]

end Cert.Hand.MlIn

end
-- ==== Proof.MlBlk.lean ====
module

public import proofs.«01_k».proof.Proof.MlSum

/-!
# The projection's blocks

The rows of the arrays that the windows hold at a grid point.
-/

@[expose] public section

set_option maxRecDepth 16896

noncomputable section

namespace Cert.Hand.MlIn

open Cert.Kernel7Ideal Cert.Kernel7Ideal.Gen Cert.Hand.Mlp Cert.Hand.Map
open Idealize.ShloMosaic Idealize.ShloMosaic.TcCoe Idealize.SL.Sem

/-- Where the windows of rows and modulations stand. -/
theorem index_rows : ∀ t : Fin cfg0.N,
    (win0_0.index t 0 = t.val ∧ win0_0.index t 1 = 0)
    ∧ (win0_1.index t 0 = (if t.val = 0 then 0 else 32 * t.val - 1) ∧ win0_1.index t 1 = 0)
    ∧ (win0_2.index t 0 = (if t.val = 65 then 2111 else 32 * (t.val + 1)) ∧ win0_2.index t 1 = 0)
    ∧ (win0_3.index t 0 = (if t.val < 2 then 2 else (t.val - 2) / 32) ∧ win0_3.index t 1 = 0 ∧ win0_3.index t 2 = 0) :=
  (by decide +kernel : ∀ t : Fin grid0.N,
    (win0_0.index t 0 = t.val ∧ win0_0.index t 1 = 0)
    ∧ (win0_1.index t 0 = (if t.val = 0 then 0 else 32 * t.val - 1) ∧ win0_1.index t 1 = 0)
    ∧ (win0_2.index t 0 = (if t.val = 65 then 2111 else 32 * (t.val + 1)) ∧ win0_2.index t 1 = 0)
    ∧ (win0_3.index t 0 = (if t.val < 2 then 2 else (t.val - 2) / 32) ∧ win0_3.index t 1 = 0 ∧ win0_3.index t 2 = 0))

/-- The windows of whole arrays. -/
theorem index_whole : ∀ t : Fin cfg0.N,
    (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = 0 ∧ win0_11.index t 1 = 0)
    ∧ (win0_12.index t 0 = 0 ∧ win0_12.index t 1 = 0)
    ∧ (win0_13.index t 0 = 0 ∧ win0_13.index t 1 = 0 ∧ win0_13.index t 2 = 0)
    ∧ (win0_14.index t 0 = 0 ∧ win0_14.index t 1 = 0 ∧ win0_14.index t 2 = 0)
    ∧ (win0_15.index t 0 = 0 ∧ win0_15.index t 1 = 0 ∧ win0_15.index t 2 = 0) :=
  (by decide +kernel : ∀ t : Fin grid0.N,
    (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = 0 ∧ win0_11.index t 1 = 0)
    ∧ (win0_12.index t 0 = 0 ∧ win0_12.index t 1 = 0)
    ∧ (win0_13.index t 0 = 0 ∧ win0_13.index t 1 = 0 ∧ win0_13.index t 2 = 0)
    ∧ (win0_14.index t 0 = 0 ∧ win0_14.index t 1 = 0 ∧ win0_14.index t 2 = 0)
    ∧ (win0_15.index t 0 = 0 ∧ win0_15.index t 1 = 0 ∧ win0_15.index t 2 = 0))

/-- Where the results' windows stand. -/
theorem index_out : ∀ t : Fin cfg0.N,
    (win0_16.index t 0 = t.val ∧ win0_16.index t 1 = 0)
    ∧ (win0_17.index t 0 = t.val ∧ win0_17.index t 1 = 0)
    ∧ (win0_18.index t 0 = t.val ∧ win0_18.index t 1 = 0)
    ∧ (win0_19.index t 0 = t.val ∧ win0_19.index t 1 = 0)
    ∧ (win0_20.index t 0 = t.val ∧ win0_20.index t 1 = 0)
    ∧ (win0_21.index t 0 = t.val ∧ win0_21.index t 1 = 0)
    ∧ (win0_22.index t 0 = 0 ∧ win0_22.index t 1 = t.val) :=
  (by decide +kernel : ∀ t : Fin grid0.N,
    (win0_16.index t 0 = t.val ∧ win0_16.index t 1 = 0)
    ∧ (win0_17.index t 0 = t.val ∧ win0_17.index t 1 = 0)
    ∧ (win0_18.index t 0 = t.val ∧ win0_18.index t 1 = 0)
    ∧ (win0_19.index t 0 = t.val ∧ win0_19.index t 1 = 0)
    ∧ (win0_20.index t 0 = t.val ∧ win0_20.index t 1 = 0)
    ∧ (win0_21.index t 0 = t.val ∧ win0_21.index t 1 = 0)
    ∧ (win0_22.index t 0 = 0 ∧ win0_22.index t 1 = t.val))

theorem N_lt (t : Fin cfg0.N) : t.val < 66 := t.isLt.trans_eq N_0

/-- Row `i` of tile `t`. -/
def rowAt (t : Fin cfg0.N) (i : Fin 256) : Fin 16896 := ⟨t.val * 256 + i.val, by have := N_lt t; omega⟩

/-- Row `i` of the block read before tile `t`. -/
def beforeAt (t : Fin cfg0.N) (i : Fin 8) : Fin 16896 := ⟨(if t.val = 0 then 0 else 32 * t.val - 1) * 8 + i.val, by have := N_lt t; split <;> omega⟩

/-- Row `i` of the block read behind tile `t`. -/
def behindAt (t : Fin cfg0.N) (i : Fin 8) : Fin 16896 := ⟨(if t.val = 65 then 2111 else 32 * (t.val + 1)) * 8 + i.val, by have := N_lt t; split <;> omega⟩

/-- The modulations of tile `t`. -/
def modAt (t : Fin cfg0.N) : Fin 8 := ⟨if t.val < 2 then 2 else (t.val - 2) / 32, by have := N_lt t; split <;> omega⟩

variable (m : (ℓ : Loc nD τ sig) → Buf (Elt Ideal) ℓ) (c : Dev nD) (t : Fin cfg0.N)

theorem blk_0 (i : Fin 256) (k : Fin 1024) : (iblk m c 0 t : Vec Ideal S256x1024 .f32) (ix2 i k) = (args m c).x (ix2 (rowAt t i) k) :=
  (congrArg (V m c main_arg0 : FVec Ideal S16896x1024 .f32) (emb2 _ _ (congrArg (· * 256) (index_rows t).1.1) (congrArg (· * 1024) (index_rows t).1.2) i k _ _ rfl (by omega))).trans
    (congrFun (V_main_arg0 m c) _)

theorem blk_1 (i : Fin 8) (k : Fin 1024) : (iblk m c 1 t : Vec Ideal S8x1024 .f32) (ix2 i k) = (args m c).x (ix2 (beforeAt t i) k) :=
  (congrArg (V m c main_arg0 : FVec Ideal S16896x1024 .f32) (emb2 _ _ (congrArg (· * 8) (index_rows t).2.1.1) (congrArg (· * 1024) (index_rows t).2.1.2) i k _ _ rfl (by omega))).trans
    (congrFun (V_main_arg0 m c) _)

theorem blk_2 (i : Fin 8) (k : Fin 1024) : (iblk m c 2 t : Vec Ideal S8x1024 .f32) (ix2 i k) = (args m c).x (ix2 (behindAt t i) k) :=
  (congrArg (V m c main_arg0 : FVec Ideal S16896x1024 .f32) (emb2 _ _ (congrArg (· * 8) (index_rows t).2.2.1.1) (congrArg (· * 1024) (index_rows t).2.2.1.2) i k _ _ rfl (by omega))).trans
    (congrFun (V_main_arg0 m c) _)

theorem blk_3 (a : Fin 6) (k : Fin 1024) : (iblk m c 3 t : Vec Ideal S1x6x1024 .f32) (ix3 0 a k) = (args m c).mods (ix3 (modAt t) a k) :=
  (congrArg (V m c main_arg1 : FVec Ideal S8x6x1024 .f32) (emb3 _ _ (congrArg (· * 1) (index_rows t).2.2.2.1) (congrArg (· * 6) (index_rows t).2.2.2.2.1)
    (congrArg (· * 1024) (index_rows t).2.2.2.2.2) 0 a k _ _ _ (by simp [modAt]) (by omega) (by omega))).trans (congrFun (V_main_arg1 m c) _)

theorem blk_4 : (iblk m c 4 t : Vec Ideal S1x1024 .f32) = V m c main_v45 := by
  funext i
  obtain ⟨p, q, rfl⟩ : ∃ (p : Fin 1) (q : Fin 1024), i = ix2 p q := ⟨_, _, eq_ix2 i⟩
  exact congrArg (V m c main_v45 : Vec Ideal S1x1024 .f32) (emb2 _ _ (congrArg (· * 1) (index_whole t).1.1) (congrArg (· * 1024) (index_whole t).1.2) p q _ _ (by omega) (by omega))

theorem blk_5 : (iblk m c 5 t : Vec Ideal S1024x2048 .bf16) = V m c main_v1 := by
  funext i
  obtain ⟨p, q, rfl⟩ : ∃ (p : Fin 1024) (q : Fin 2048), i = ix2 p q := ⟨_, _, eq_ix2 i⟩
  exact congrArg (V m c main_v1 : Vec Ideal S1024x2048 .bf16) (emb2 _ _ (congrArg (· * 1024) (index_whole t).2.1.1) (congrArg (· * 2048) (index_whole t).2.1.2) p q _ _ (by omega) (by omega))

theorem blk_6 : (iblk m c 6 t : Vec Ideal S1024x2048 .bf16) = V m c main_v3 := by
  funext i
  obtain ⟨p, q, rfl⟩ : ∃ (p : Fin 1024) (q : Fin 2048), i = ix2 p q := ⟨_, _, eq_ix2 i⟩
  exact congrArg (V m c main_v3 : Vec Ideal S1024x2048 .bf16) (emb2 _ _ (congrArg (· * 1024) (index_whole t).2.2.1.1) (congrArg (· * 2048) (index_whole t).2.2.1.2) p q _ _ (by omega) (by omega))

theorem blk_7 : (iblk m c 7 t : Vec Ideal S1024x128 .bf16) = V m c main_v6 := by
  funext i
  obtain ⟨p, q, rfl⟩ : ∃ (p : Fin 1024) (q : Fin 128), i = ix2 p q := ⟨_, _, eq_ix2 i⟩
  exact congrArg (V m c main_v6 : Vec Ideal S1024x128 .bf16) (emb2 _ _ (congrArg (· * 1024) (index_whole t).2.2.2.1.1) (congrArg (· * 128) (index_whole t).2.2.2.1.2) p q _ _ (by omega) (by omega))

theorem blk_8 : (iblk m c 8 t : Vec Ideal S16x1024 .bf16) = V m c main_v8 := by
  funext i
  obtain ⟨p, q, rfl⟩ : ∃ (p : Fin 16) (q : Fin 1024), i = ix2 p q := ⟨_, _, eq_ix2 i⟩
  exact congrArg (V m c main_v8 : Vec Ideal S16x1024 .bf16) (emb2 _ _ (congrArg (· * 16) (index_whole t).2.2.2.2.1.1) (congrArg (· * 1024) (index_whole t).2.2.2.2.1.2) p q _ _ (by omega) (by omega))

theorem blk_9 : (iblk m c 9 t : Vec Ideal S1x128 .f32) = V m c main_v10 := by
  funext i
  obtain ⟨p, q, rfl⟩ : ∃ (p : Fin 1) (q : Fin 128), i = ix2 p q := ⟨_, _, eq_ix2 i⟩
  exact congrArg (V m c main_v10 : Vec Ideal S1x128 .f32) (emb2 _ _ (congrArg (· * 1) (index_whole t).2.2.2.2.2.1.1) (congrArg (· * 128) (index_whole t).2.2.2.2.2.1.2) p q _ _ (by omega) (by omega))

theorem blk_10 : (iblk m c 10 t : Vec Ideal S16x1 .f32) = V m c main_v11 := by
  funext i
  obtain ⟨p, q, rfl⟩ : ∃ (p : Fin 16) (q : Fin 1), i = ix2 p q := ⟨_, _, eq_ix2 i⟩
  exact congrArg (V m c main_v11 : Vec Ideal S16x1 .f32) (emb2 _ _ (congrArg (· * 16) (index_whole t).2.2.2.2.2.2.1.1) (by exact congrArg (· * 1) (index_whole t).2.2.2.2.2.2.1.2) p q _ _ (by omega) (by omega))

theorem blk_11 : (iblk m c 11 t : Vec Ideal S5x2048 .f32) = V m c main_arg5 := by
  funext i
  obtain ⟨p, q, rfl⟩ : ∃ (p : Fin 5) (q : Fin 2048), i = ix2 p q := ⟨_, _, eq_ix2 i⟩
  exact congrArg (V m c main_arg5 : Vec Ideal S5x2048 .f32) (emb2 _ _ (congrArg (· * 5) (index_whole t).2.2.2.2.2.2.2.1.1) (congrArg (· * 2048) (index_whole t).2.2.2.2.2.2.2.1.2) p q _ _ (by omega) (by omega))

theorem blk_12 : (iblk m c 12 t : Vec Ideal S1x2048 .f32) = V m c main_v46 := by
  funext i
  obtain ⟨p, q, rfl⟩ : ∃ (p : Fin 1) (q : Fin 2048), i = ix2 p q := ⟨_, _, eq_ix2 i⟩
  exact congrArg (V m c main_v46 : Vec Ideal S1x2048 .f32) (emb2 _ _ (congrArg (· * 1) (index_whole t).2.2.2.2.2.2.2.2.1.1) (congrArg (· * 2048) (index_whole t).2.2.2.2.2.2.2.2.1.2) p q _ _ (by omega) (by omega))

theorem blk_13 : (iblk m c 13 t : Vec Ideal S8x256x256 .bf16) = V m c main_v22 := by
  funext i
  obtain ⟨p, q, s, rfl⟩ : ∃ (p : Fin 8) (q s : Fin 256), i = ix3 p q s := ⟨_, _, _, eq_ix3 i⟩
  exact congrArg (V m c main_v22 : Vec Ideal S8x256x256 .bf16) (emb3 _ _ (congrArg (· * 8) (index_whole t).2.2.2.2.2.2.2.2.2.1.1) (congrArg (· * 256) (index_whole t).2.2.2.2.2.2.2.2.2.1.2.1) (congrArg (· * 256) (index_whole t).2.2.2.2.2.2.2.2.2.1.2.2)
    p q s _ _ _ (by omega) (by omega) (by omega))

theorem blk_14 : (iblk m c 14 t : Vec Ideal S8x256x256 .bf16) = V m c main_v33 := by
  funext i
  obtain ⟨p, q, s, rfl⟩ : ∃ (p : Fin 8) (q s : Fin 256), i = ix3 p q s := ⟨_, _, _, eq_ix3 i⟩
  exact congrArg (V m c main_v33 : Vec Ideal S8x256x256 .bf16) (emb3 _ _ (congrArg (· * 8) (index_whole t).2.2.2.2.2.2.2.2.2.2.1.1) (congrArg (· * 256) (index_whole t).2.2.2.2.2.2.2.2.2.2.1.2.1) (congrArg (· * 256) (index_whole t).2.2.2.2.2.2.2.2.2.2.1.2.2)
    p q s _ _ _ (by omega) (by omega) (by omega))

theorem blk_15 : (iblk m c 15 t : Vec Ideal S8x256x256 .bf16) = V m c main_v44 := by
  funext i
  obtain ⟨p, q, s, rfl⟩ : ∃ (p : Fin 8) (q s : Fin 256), i = ix3 p q s := ⟨_, _, _, eq_ix3 i⟩
  exact congrArg (V m c main_v44 : Vec Ideal S8x256x256 .bf16) (emb3 _ _ (congrArg (· * 8) (index_whole t).2.2.2.2.2.2.2.2.2.2.2.1) (congrArg (· * 256) (index_whole t).2.2.2.2.2.2.2.2.2.2.2.2.1) (congrArg (· * 256) (index_whole t).2.2.2.2.2.2.2.2.2.2.2.2.2)
    p q s _ _ _ (by omega) (by omega) (by omega))

/-- The loads of a window are of its block. -/
theorem load_0 : l0 m c t = loads (iblk m c 0 t : Vec Ideal S256x1024 .f32) :=
  funext fun B => congrArg (fun X => View.ld X B) ((hs0_0 t).read_unread (iblk m c 0 t))
theorem load_1 : l1 m c t = loads (iblk m c 1 t : Vec Ideal S8x1024 .f32) :=
  funext fun B => congrArg (fun X => View.ld X B) ((hs0_1 t).read_unread (iblk m c 1 t))
theorem load_2 : l2 m c t = loads (iblk m c 2 t : Vec Ideal S8x1024 .f32) :=
  funext fun B => congrArg (fun X => View.ld X B) ((hs0_2 t).read_unread (iblk m c 2 t))
theorem load_3 : l3 m c t = loads (iblk m c 3 t : Vec Ideal S1x6x1024 .f32) :=
  funext fun B => congrArg (fun X => View.ld X B) ((hs0_3 t).read_unread (iblk m c 3 t))
theorem load_4 : l4 m c t = loads (iblk m c 4 t : Vec Ideal S1x1024 .f32) :=
  funext fun B => congrArg (fun X => View.ld X B) ((hs0_4 t).read_unread (iblk m c 4 t))
theorem load_5 : l5 m c t = loads (iblk m c 5 t : Vec Ideal S1024x2048 .bf16) :=
  funext fun B => congrArg (fun X => View.ld X B) ((hs0_5 t).read_unread (iblk m c 5 t))
theorem load_6 : l6 m c t = loads (iblk m c 6 t : Vec Ideal S1024x2048 .bf16) :=
  funext fun B => congrArg (fun X => View.ld X B) ((hs0_6 t).read_unread (iblk m c 6 t))
theorem load_7 : l7 m c t = loads (iblk m c 7 t : Vec Ideal S1024x128 .bf16) :=
  funext fun B => congrArg (fun X => View.ld X B) ((hs0_7 t).read_unread (iblk m c 7 t))
theorem load_8 : l8 m c t = loads (iblk m c 8 t : Vec Ideal S16x1024 .bf16) :=
  funext fun B => congrArg (fun X => View.ld X B) ((hs0_8 t).read_unread (iblk m c 8 t))
theorem load_9 : l9 m c t = loads (iblk m c 9 t : Vec Ideal S1x128 .f32) :=
  funext fun B => congrArg (fun X => View.ld X B) ((hs0_9 t).read_unread (iblk m c 9 t))
theorem load_10 : l10 m c t = loads (iblk m c 10 t : Vec Ideal S16x1 .f32) :=
  funext fun B => congrArg (fun X => View.ld X B) ((hs0_10 t).read_unread (iblk m c 10 t))
theorem load_11 : l11 m c t = loads (iblk m c 11 t : Vec Ideal S5x2048 .f32) :=
  funext fun B => congrArg (fun X => View.ld X B) ((hs0_11 t).read_unread (iblk m c 11 t))
theorem load_12 : l12 m c t = loads (iblk m c 12 t : Vec Ideal S1x2048 .f32) :=
  funext fun B => congrArg (fun X => View.ld X B) ((hs0_12 t).read_unread (iblk m c 12 t))
theorem load_13 : l13 m c t = loads (iblk m c 13 t : Vec Ideal S8x256x256 .bf16) :=
  funext fun B => congrArg (fun X => View.ld X B) ((hs0_13 t).read_unread (iblk m c 13 t))
theorem load_14 : l14 m c t = loads (iblk m c 14 t : Vec Ideal S8x256x256 .bf16) :=
  funext fun B => congrArg (fun X => View.ld X B) ((hs0_14 t).read_unread (iblk m c 14 t))
theorem load_15 : l15 m c t = loads (iblk m c 15 t : Vec Ideal S8x256x256 .bf16) :=
  funext fun B => congrArg (fun X => View.ld X B) ((hs0_15 t).read_unread (iblk m c 15 t))

end Cert.Hand.MlIn

end
-- ==== Proof.MlRows.lean ====
module

public import proofs.«01_k».proof.Proof.MlBlk

/-!
# The projection's rows

The rows of a tile and the rows around it, in the arguments, and the row each weight of the convolution meets.
-/

@[expose] public section

set_option maxRecDepth 16896

noncomputable section

namespace Cert.Hand.MlIn

open Cert.Kernel7Ideal Cert.Kernel7Ideal.Gen Cert.Kernel7Ideal.Run Cert.Hand.Mlp Cert.Hand.Map
open Idealize.ShloMosaic Idealize.ShloMosaic.TcCoe Idealize.SL.Sem

theorem seqOf_spec (r : Fin 16896) : (r.val < 512 ∧ seqOf r = r.val / 256) ∨ (512 ≤ r.val ∧ seqOf r = 2 + (r.val - 512) / 8192) := by
  unfold seqOf
  by_cases h : r.val < 512
  · exact .inl ⟨h, if_pos h⟩
  · exact .inr ⟨by omega, if_neg h⟩

theorem modOf_spec (r : Fin 16896) : (r.val < 512 ∧ (modOf r).val = 2) ∨ (512 ≤ r.val ∧ (modOf r).val = (r.val - 512) / 8192) := by
  unfold modOf
  by_cases h : r.val < 512
  · exact .inl ⟨h, if_pos h⟩
  · exact .inr ⟨by omega, if_neg h⟩

theorem modAt_spec (t : Fin cfg0.N) : (t.val < 2 ∧ (modAt t).val = 2) ∨ (2 ≤ t.val ∧ (modAt t).val = (t.val - 2) / 32) := by
  unfold modAt
  by_cases h : t.val < 2
  · exact .inl ⟨h, if_pos h⟩
  · exact .inr ⟨by omega, if_neg h⟩

theorem rowAt_val (t : Fin cfg0.N) (i : Fin 256) : (rowAt t i).val = t.val * 256 + i.val := rfl

theorem beforeAt_val (t : Fin cfg0.N) (i : Fin 8) (h : t.val ≠ 0) : (beforeAt t i).val = (32 * t.val - 1) * 8 + i.val :=
  congrArg (fun n : ℕ => n * 8 + i.val) (if_neg h)

theorem behindAt_val (t : Fin cfg0.N) (i : Fin 8) (h : t.val ≠ 65) : (behindAt t i).val = 32 * (t.val + 1) * 8 + i.val :=
  congrArg (fun n : ℕ => n * 8 + i.val) (if_neg h)

section Taps

variable (A : Args)

theorem tap_in (r r' : Fin 16896) (d : Fin 5) (n : Fin 2048) (e : r.val + d.val = r'.val + 2) (s : seqOf r' = seqOf r) : A.tap r d n = A.xm r' n := by
  have er : (⟨r.val + d.val - 2, by omega⟩ : Fin 16896) = r' := Fin.ext (by show r.val + d.val - 2 = r'.val; omega)
  rw [Args.tap, dif_pos ⟨by omega, by omega⟩, er, if_pos s]

theorem tap_out (r : Fin 16896) (d : Fin 5) (n : Fin 2048) (h : ∀ r' : Fin 16896, r.val + d.val = r'.val + 2 → seqOf r' ≠ seqOf r) : A.tap r d n = 0 := by
  unfold Args.tap
  split
  · rename_i hr
    exact if_neg (h _ (by show r.val + d.val = r.val + d.val - 2 + 2; omega))
  · rfl

end Taps

theorem zero2 : (![0, 0] : Fin 2 → ℕ) = fun _ => 0 := by funext a; fin_cases a <;> rfl
theorem zero3 : (![0, 0, 0] : Fin 3 → ℕ) = fun _ => 0 := by funext a; fin_cases a <;> rfl

variable (m : (ℓ : Loc nD τ sig) → Buf (Elt Ideal) ℓ) (c : Dev nD) (t : Fin cfg0.N)

/-- Tile `t` opens its sequence. -/
def First : Prop := t.val < 3 ∨ t.val = 34
/-- Tile `t` closes its sequence. -/
def Last : Prop := t.val < 2 ∨ t.val = 33 ∨ t.val = 65

instance : Decidable (First t) := inferInstanceAs (Decidable (_ ∨ _))
instance : Decidable (Last t) := inferInstanceAs (Decidable (_ ∨ _))

theorem flag_first : ∀ t : Fin cfg0.N, body.sl.v27 (grid0.coords t) = if t.val < 3 ∨ t.val = 34 then 1#1 else 0#1 :=
  (by decide +kernel : ∀ t : Fin grid0.N, body.sl.v27 (grid0.coords t) = if t.val < 3 ∨ t.val = 34 then 1#1 else 0#1)

theorem flag_last : ∀ t : Fin cfg0.N, body.sl.v29 (grid0.coords t) = if t.val < 2 ∨ t.val = 33 ∨ t.val = 65 then 1#1 else 0#1 :=
  (by decide +kernel : ∀ t : Fin grid0.N, body.sl.v29 (grid0.coords t) = if t.val < 2 ∨ t.val = 33 ∨ t.val = 65 then 1#1 else 0#1)

theorem load3_whole : l3 m c t (Rect.unit (s := S1x6x1024) ![0, 0, 0] S1x6x1024.size inb_S1x6x1024_S1x6x1024_0_0_0) = iblk m c 3 t := by
  rw [load_3]; exact View.ld_unit_zero (S := S1x6x1024) zero3 _ _

theorem load4_whole : l4 m c t (Rect.unit (s := S1x1024) ![0, 0] S1x1024.size inb_S1x1024_S1x1024_0_0) = iblk m c 4 t := by
  rw [load_4]; exact View.ld_unit_zero (S := S1x1024) zero2 _ _

theorem load0_whole : l0 m c t (Rect.unit (s := S256x1024) ![0, 0] S256x1024.size inb_S256x1024_S256x1024_0_0) = iblk m c 0 t := by
  rw [load_0]; exact View.ld_unit_zero (S := S256x1024) zero2 _ _

theorem load1_whole : l1 m c t (Rect.unit (s := S8x1024) ![0, 0] S8x1024.size inb_S8x1024_S8x1024_0_0) = iblk m c 1 t := by
  rw [load_1]; exact View.ld_unit_zero (S := S8x1024) zero2 _ _

theorem load2_whole : l2 m c t (Rect.unit (s := S8x1024) ![0, 0] S8x1024.size inb_S8x1024_S8x1024_0_0) = iblk m c 2 t := by
  rw [load_2]; exact View.ld_unit_zero (S := S8x1024) zero2 _ _

theorem weight_at (k : Fin 1024) : (iblk m c 4 t : Vec Ideal S1x1024 .f32) (ix2 0 k) = (args m c).g (ix1 k) := by
  rw [blk_4, V_v45]; exact g_at _ k

theorem rows_h (i : Fin 256) (z : Fin 1024) : rows m c t (ix2 i z) = (args m c).h (rowAt t i) z := by
  have e : modOf (rowAt t i) = modAt t := Fin.ext (by
    have := N_lt t; have := modOf_spec (rowAt t i); have := modAt_spec t; have := rowAt_val t i; omega)
  unfold rows
  rw [load3_whole, load4_whole, load0_whole, rows_at]
  simp only [blk_0, blk_3, weight_at, Args.h, e]

theorem before_h (i : Fin 8) (z : Fin 1024) (h : ¬ First t) : before m c t (ix2 i z) = (args m c).h (beforeAt t i) z := by
  have e : modOf (beforeAt t i) = modAt t := Fin.ext (by
    unfold First at h
    have := N_lt t; have := modOf_spec (beforeAt t i); have := modAt_spec t; have := beforeAt_val t i (by omega); omega)
  have f : body.sl.v27 (grid0.coords t) = 0#1 := (flag_first t).trans (if_neg h)
  unfold before
  rw [load3_whole, load4_whole, load1_whole, before_at, f]
  refine (mul_one _).trans ?_
  simp only [blk_1, blk_3, weight_at, Args.h, e]

theorem before_zero (i : Fin 8) (z : Fin 1024) (h : First t) : before m c t (ix2 i z) = 0 := by
  have f : body.sl.v27 (grid0.coords t) = 1#1 := (flag_first t).trans (if_pos h)
  unfold before
  rw [before_at, f]
  exact mul_zero _

theorem behind_h (i : Fin 8) (z : Fin 1024) (h : ¬ Last t) : behind m c t (ix2 i z) = (args m c).h (behindAt t i) z := by
  have e : modOf (behindAt t i) = modAt t := Fin.ext (by
    unfold Last at h
    have := N_lt t; have := modOf_spec (behindAt t i); have := modAt_spec t; have := behindAt_val t i (by omega); omega)
  have f : body.sl.v29 (grid0.coords t) = 0#1 := (flag_last t).trans (if_neg h)
  unfold behind
  rw [load3_whole, load4_whole, load2_whole, behind_at, f]
  refine (mul_one _).trans ?_
  simp only [blk_2, blk_3, weight_at, Args.h, e]

theorem behind_zero (i : Fin 8) (z : Fin 1024) (h : Last t) : behind m c t (ix2 i z) = 0 := by
  have f : body.sl.v29 (grid0.coords t) = 1#1 := (flag_last t).trans (if_pos h)
  unfold behind
  rw [behind_at, f]
  exact mul_zero _

theorem wx_blk (z : Fin 1024) (n : Fin 2048) : (iblk m c 5 t : Vec Ideal S1024x2048 .bf16) (ix2 z n) = (args m c).w (ix2 z ⟨n.val, by omega⟩) := by
  rw [blk_5, V_v1]; exact wx_at _ z n

/-- The scratch buffer's row under weight `d` of the convolution, at row `i` of the tile. -/
theorem projected_tap (n : Fin 4) (d : Fin 5) (i : Fin 256) (y : Fin 512) :
    projected (iblk m c 5 t) (rows m c t) (before m c t) (behind m c t) n ⟨6 + d.val + i.val, by omega⟩ y
      = (args m c).tap (rowAt t i) d ⟨512 * n.val + y.val, by omega⟩ := by
  have hN := N_lt t
  have hs := seqOf_spec (rowAt t i)
  have hr := rowAt_val t i
  unfold projected
  by_cases h : 6 + d.val + i.val < 8
  · by_cases hf : First t
    · rw [tap_out]
      · refine Finset.sum_eq_zero fun z _ => ?_
        rw [around_before _ _ _ _ (⟨6 + d.val + i.val, h⟩ : Fin 8) rfl, before_zero m c t _ _ hf, zero_mul]
      · intro r' e
        have := seqOf_spec r'
        unfold First at hf
        omega
    · have hf' := hf
      unfold First at hf'
      have hb := beforeAt_val t ⟨6 + d.val + i.val, h⟩ (by omega)
      have := seqOf_spec (beforeAt t ⟨6 + d.val + i.val, h⟩)
      simp only at hb
      rw [tap_in _ _ (beforeAt t ⟨6 + d.val + i.val, h⟩) _ _ (by omega) (by omega)]
      unfold Args.xm Args.up
      refine Finset.sum_congr rfl fun z _ => ?_
      rw [around_before _ _ _ _ (⟨6 + d.val + i.val, h⟩ : Fin 8) rfl, before_h m c t _ _ hf, wx_blk]
  · by_cases h' : 6 + d.val + i.val < 264
    · have hb := rowAt_val t ⟨6 + d.val + i.val - 8, by omega⟩
      have := seqOf_spec (rowAt t ⟨6 + d.val + i.val - 8, by omega⟩)
      simp only at hb
      rw [tap_in _ _ (rowAt t ⟨6 + d.val + i.val - 8, by omega⟩) _ _ (by omega) (by omega)]
      unfold Args.xm Args.up
      refine Finset.sum_congr rfl fun z _ => ?_
      rw [around_tile _ _ _ _ (⟨6 + d.val + i.val - 8, by omega⟩ : Fin 256) (by show 6 + d.val + i.val = 8 + (6 + d.val + i.val - 8); omega), rows_h, wx_blk]
    · by_cases hf : Last t
      · rw [tap_out]
        · refine Finset.sum_eq_zero fun z _ => ?_
          rw [around_behind _ _ _ _ (⟨6 + d.val + i.val - 264, by omega⟩ : Fin 8) (by show 6 + d.val + i.val = 264 + (6 + d.val + i.val - 264); omega),
            behind_zero m c t _ _ hf, zero_mul]
        · intro r' e
          have := seqOf_spec r'
          unfold Last at hf
          omega
      · have hf' := hf
        unfold Last at hf'
        have hb := behindAt_val t ⟨6 + d.val + i.val - 264, by omega⟩ (by omega)
        have := seqOf_spec (behindAt t ⟨6 + d.val + i.val - 264, by omega⟩)
        simp only at hb
        rw [tap_in _ _ (behindAt t ⟨6 + d.val + i.val - 264, by omega⟩) _ _ (by omega) (by omega)]
        unfold Args.xm Args.up
        refine Finset.sum_congr rfl fun z _ => ?_
        rw [around_behind _ _ _ _ (⟨6 + d.val + i.val - 264, by omega⟩ : Fin 8) (by show 6 + d.val + i.val = 264 + (6 + d.val + i.val - 264); omega),
          behind_h m c t _ _ hf, wx_blk]

end Cert.Hand.MlIn

end
-- ==== Proof.MlHostLog.lean ====
module

public import proofs.«01_k».proof.Proof.MlSpec
public import Idealize.ShloMosaic.Lib.Pointwise

/-!
# The logarithm of the logistic function

The host's form of it, through the softplus function, is the kernel's.
-/

@[expose] public section

noncomputable section

namespace Cert.Hand.MlIn

open Idealize.ShloMosaic

/-- The logarithm of the logistic function as the host takes it. -/
def hostLog (x : EReal) : EReal := -(max (-x) 0 + Ideal.log1p (Ideal.exp (-(max (-x) (-(-x))))))

/-- The softplus function's second part is a real number. -/
theorem log1p_real (x : EReal) : ∃ l : ℝ, Ideal.log1p (Ideal.exp (-(max x (-x)))) = l := by
  have key : ∀ r : ℝ, 0 ≤ r → ∃ l : ℝ, Ideal.log1p (r : EReal) = l := fun r h => by
    refine ⟨Real.log (1 + r), ?_⟩
    show Ideal.log ((1 : EReal) + (r : EReal)) = _
    rw [show (1 : EReal) + (r : EReal) = ((1 + r : ℝ) : EReal) by norm_cast]
    exact if_neg (by linarith)
  have far : ∃ l : ℝ, Ideal.log1p (Ideal.exp ⊥) = l := key 0 le_rfl
  induction x with
  | bot => simpa using far
  | top => simpa using far
  | coe r =>
    rw [show -(max (r : EReal) (-(r : EReal))) = ((-(max r (-r)) : ℝ) : EReal) by norm_cast]
    exact key _ (Real.exp_pos _).le

theorem hostLog_eq (x : EReal) : hostLog x = logSig x := by
  obtain ⟨l, e⟩ := log1p_real x
  have hm : -max (-x) 0 = min x 0 := by
    rcases le_total x 0 with h | h
    · rw [max_eq_left (by simpa using EReal.neg_le_neg_iff.2 h), neg_neg, min_eq_left h]
    · rw [max_eq_right (by simpa using EReal.neg_le_neg_iff.2 h), neg_zero, min_eq_right h]
  unfold hostLog logSig
  rw [neg_neg, max_comm (-x) x, zero_sub, e, EReal.neg_add (.inr (EReal.coe_ne_top l)) (.inr (EReal.coe_ne_bot l)), hm]

end Cert.Hand.MlIn

end
-- ==== Proof.MlCtx.lean ====
module

public import proofs.«01_k».proof.Proof.RefRows
public import proofs.«01_k».proof.Proof.MlpRef
public import proofs.«01_k».proof.Proof.MlRows
public import proofs.«01_k».proof.Proof.MlHostLog
public import proofs.«01_k».proof.Proof.Gen.Reference7Ideal.Run

/-!
# The context rows of the projection's reference

The reference's lines over the context rows, as terms, and each of them at an element.
-/

@[expose] public section

set_option maxRecDepth 16384

noncomputable section

namespace Cert.Hand.MlIn

open Idealize.ShloMosaic Idealize.ShloMosaic.TcCoe Idealize.SL.Sem Cert.Hand.Mlp Cert.Hand.Map
open Idealize.ShloMosaic.Tactic
open Cert.Reference7Ideal Cert.Reference7Ideal.Gen

/-- The triangular mask of the reference. -/
def hostTri : IVec S128x128 1 :=
  select (cmpi .sge (addi (iotaInDim S128x128 32 0) (broadcastInDim S128x128 ![] bcast_S_S128x128 (constantI S_ 32 0#32)))
    (iotaInDim S128x128 32 1)) (broadcastInDim S128x128 ![] bcast_S_S128x128 (constantI S_ 1 1#1))
    (broadcastInDim S128x128 ![] bcast_S_S128x128 (constantI S_ 1 0#1))

theorem hostTri_at (i j : Fin 128) : hostTri (ix2 i j) = if j ≤ i then 1 else 0 := by
  have key : ∀ i j : Fin 128, (if IntOp.cmpi .sge (BitVec.ofNat 32 i.val + 0#32) (BitVec.ofNat 32 j.val) = 1#1 then (1#1 : BitVec 1) else 0#1)
      = if j ≤ i then 1 else 0 := by
    decide +kernel
  rw [← key]
  pointwise [hostTri]
  rfl

theorem hostTriT_at (i j : Fin 128) : (transpose S128x128 [1, 0] hostTri transposes_S128x128_S128x128_1_0) (ix2 i j) = if i ≤ j then 1 else 0 := by
  rw [← hostTri_at]
  pointwise

/-- A choice between a number and zero, by a mask. -/
theorem keep (p : Prop) [Decidable p] (x : Ideal .f32) : Scalar.select (if p then (1 : BitVec 1) else 0) x 0 = if p then x else 0 := by
  by_cases h : p <;> simp [Scalar.select, h]

/-- The context rows of the reference, normed, modulated and projected. -/
def ctxUp (x : FVec Ideal S2x256x1024 .f32) (mods : FVec Ideal S8x6x1024 .f32) (g : FVec Ideal S1024 .f32) (w : FVec Ideal S1024x4112 .f32) :
    FVec Ideal S2x256x4112 .f32 :=
  Host.dotGeneral dot_S2x256x1024_S1024x4112_S2x256x4112_2_0_01_1_n_n none
    (ctxEnters (ctxNorm x g) (ctxMod mods 0 slices_S8x6x1024_S1x1x1024_2_0_0) (ctxMod mods 1 slices_S8x6x1024_S1x1x1024_2_1_0)) w

/-- The part that is convolved. -/
def ctxXm (u : FVec Ideal S2x256x4112 .f32) : FVec Ideal S2x256x2048 .f32 :=
  extractStridedSlice S2x256x2048 ![0, 0, 0] u slices_S2x256x4112_S2x256x2048_0_0_0

/-- The part that gates the mixer's result. -/
def ctxO (u : FVec Ideal S2x256x4112 .f32) : FVec Ideal S2x256x2048 .f32 :=
  extractStridedSlice S2x256x2048 ![0, 0, 2048] u slices_S2x256x4112_S2x256x2048_0_0_2048

/-- A sequence with two rows of zeros at either end. -/
def ctxPad (y : FVec Ideal S2x256x2048 .f32) : FVec Ideal S2x260x2048 .f32 :=
  pad S2x260x2048 ![0, 2, 0] ![0, 2, 0] ![0, 0, 0] y (sitofp .f32 (constantI S_ 32 0#32)) pads_S2x256x2048_S2x260x2048_000_220_000 h_S_

/-- One weight of the convolution times the rows it meets. -/
def ctxTap (y : FVec Ideal S2x260x2048 .f32) (cw : FVec Ideal S5x2048 .f32) (d : ℕ) (h : S2x260x2048.Slices ![0, d, 0] S2x256x2048)
    (h' : S5x2048.Slices ![d, 0] S1x2048) : FVec Ideal S2x256x2048 .f32 :=
  mulf (extractStridedSlice S2x256x2048 ![0, d, 0] y h) (broadcastInDim S2x256x2048 ![0, 1, 2] bcast_S1x1x2048_S2x256x2048_0_1_2
    (broadcastInDim S1x1x2048 ![2] bcast_S2048_S1x1x2048_2 (shapeCast S2048 (extractStridedSlice S1x2048 ![d, 0] cw h') shapeCasts_S1x2048_S2048)))

/-- The convolution of a padded sequence. -/
def ctxConv (y : FVec Ideal S2x260x2048 .f32) (cw : FVec Ideal S5x2048 .f32) (cb : FVec Ideal S2048 .f32) : FVec Ideal S2x256x2048 .f32 :=
  addf (addf (addf (addf (addf (addf (broadcastInDim S2x256x2048 ![] bcast_S_S2x256x2048 (constant S_ .f32 0x00000000#32))
    (ctxTap y cw 0 slices_S2x260x2048_S2x256x2048_0_0_0 slices_S5x2048_S1x2048_0_0))
    (ctxTap y cw 1 slices_S2x260x2048_S2x256x2048_0_1_0 slices_S5x2048_S1x2048_1_0))
    (ctxTap y cw 2 slices_S2x260x2048_S2x256x2048_0_2_0 slices_S5x2048_S1x2048_2_0))
    (ctxTap y cw 3 slices_S2x260x2048_S2x256x2048_0_3_0 slices_S5x2048_S1x2048_3_0))
    (ctxTap y cw 4 slices_S2x260x2048_S2x256x2048_0_4_0 slices_S5x2048_S1x2048_4_0))
    (broadcastInDim S2x256x2048 ![0, 1, 2] bcast_S1x1x2048_S2x256x2048_0_1_2 (broadcastInDim S1x1x2048 ![2] bcast_S2048_S1x1x2048_2 cb))

/-- The rows times their logistic function. -/
def ctxSilu (y : FVec Ideal S2x256x2048 .f32) : FVec Ideal S2x256x2048 .f32 :=
  mulf y (Host.divf (broadcastInDim S2x256x2048 ![] bcast_S_S2x256x2048 (constant S_ .f32 0x3F800000#32))
    (addf (broadcastInDim S2x256x2048 ![] bcast_S_S2x256x2048 (constant S_ .f32 0x3F800000#32)) (Host.exp (Host.negf y))))

/-- The rows times a block-diagonal weight. -/
def ctxDiag (y : FVec Ideal S2x256x2048 .f32) (w : FVec Ideal S512x4x4 .f32) : FVec Ideal S2x256x2048 .f32 :=
  shapeCast S2x256x2048 (transpose S2x256x512x4 [2, 3, 0, 1] (Host.dotGeneral dot_S512x4x4_S2x256x512x4_S512x4x2x256_1_3_2_01_0_2 none w
    (shapeCast S2x256x512x4 y shapeCasts_S2x256x2048_S2x256x512x4)) transposes_S512x4x2x256_S2x256x512x4_2_3_0_1) shapeCasts_S2x256x512x4_S2x256x2048

/-- The gates as they are projected. -/
def ctxGate (u : FVec Ideal S2x256x4112 .f32) (gb : FVec Ideal S16 .f32) : FVec Ideal S2x256x16 .f32 :=
  addf (extractStridedSlice S2x256x16 ![0, 0, 4096] u slices_S2x256x4112_S2x256x16_0_0_4096)
    (broadcastInDim S2x256x16 ![0, 1, 2] bcast_S1x1x16_S2x256x16_0_1_2 (broadcastInDim S1x1x16 ![2] bcast_S16_S1x1x16_2 gb))

/-- The logarithm of the logistic function of `-z`. -/
def ctxLog (z : FVec Ideal S2x256x4 .f32) : FVec Ideal S2x256x4 .f32 :=
  Host.negf (select (cmpf .une (subf z (broadcastInDim S2x256x4 ![] bcast_S_S2x256x4 (constant S_ .f32 0x00000000#32)))
      (subf z (broadcastInDim S2x256x4 ![] bcast_S_S2x256x4 (constant S_ .f32 0x00000000#32))))
    (addf z (broadcastInDim S2x256x4 ![] bcast_S_S2x256x4 (constant S_ .f32 0x00000000#32)))
    (addf (maximumf z (broadcastInDim S2x256x4 ![] bcast_S_S2x256x4 (constant S_ .f32 0x00000000#32)))
      (Host.log1p (Host.exp (Host.negf (Host.absf (subf z (broadcastInDim S2x256x4 ![] bcast_S_S2x256x4 (constant S_ .f32 0x00000000#32)))))))))

/-- The sums over the places of a chunk that the mask keeps. -/
def ctxChunk (tri : IVec S128x128 1) (f : FVec Ideal S2x256x4 .f32) : FVec Ideal S2x256x4 .f32 :=
  shapeCast S2x256x4 (Host.reduceAdd (select
      (broadcastInDim S2x2x128x128x4 ![2, 3, 4] bcast_S128x128x1_S2x2x128x128x4_2_3_4 (broadcastInDim S128x128x1 ![0, 1] bcast_S128x128_S128x128x1_0_1 tri))
      (broadcastInDim S2x2x128x128x4 ![0, 1, 2, 3, 4] bcast_S2x2x1x128x4_S2x2x128x128x4_0_1_2_3_4 (shapeCast S2x2x1x128x4 f shapeCasts_S2x256x4_S2x2x1x128x4))
      (broadcastInDim S2x2x128x128x4 ![] bcast_S_S2x2x128x128x4 (constant S_ .f32 0x00000000#32)))
    (constant S_ .f32 0x00000000#32) reducesTo_S2x2x128x128x4_S2x2x128x4_d3 h_S_) shapeCasts_S2x2x128x4_S2x256x4

/-- The gates of the rows. -/
def ctxGates (g : FVec Ideal S2x256x16 .f32) : FVec Ideal S2x256x16 .f32 :=
  concatenate S2x256x16 2 [⟨S2x256x4, extractStridedSlice S2x256x4 ![0, 0, 0] g slices_S2x256x16_S2x256x4_0_0_0⟩,
    ⟨S2x256x4, ctxChunk hostTri (ctxLog (Host.negf (extractStridedSlice S2x256x4 ![0, 0, 4] g slices_S2x256x16_S2x256x4_0_0_4)))⟩,
    ⟨S2x256x4, extractStridedSlice S2x256x4 ![0, 0, 8] g slices_S2x256x16_S2x256x4_0_0_8⟩,
    ⟨S2x256x4, ctxChunk (transpose S128x128 [1, 0] hostTri transposes_S128x128_S128x128_1_0)
      (ctxLog (Host.negf (extractStridedSlice S2x256x4 ![0, 0, 12] g slices_S2x256x16_S2x256x4_0_0_12)))⟩]
    concatenates_S2x256x4_S2x256x4_S2x256x4_S2x256x4_S2x256x16_d2

variable (b : Fin 2) (t : Fin 256)

theorem ctxDot_at (h : FVec Ideal S2x256x1024 .f32) (w : FVec Ideal S1024x4112 .f32) (n : Fin 4112) :
    (Host.dotGeneral dot_S2x256x1024_S1024x4112_S2x256x4112_2_0_01_1_n_n none h w : FVec Ideal S2x256x4112 .f32) (ix3 b t n)
      = ∑ z, h (ix3 b t z) * w (ix2 z n) := by
  pointwise

theorem ctxXm_at (u : FVec Ideal S2x256x4112 .f32) (n : Fin 2048) : ctxXm u (ix3 b t n) = u (ix3 b t ⟨n.val, by omega⟩) := by
  pointwise [ctxXm]

theorem ctxO_at (u : FVec Ideal S2x256x4112 .f32) (n : Fin 2048) : ctxO u (ix3 b t n) = u (ix3 b t ⟨2048 + n.val, by omega⟩) := by
  pointwise [ctxO]

theorem ctxPad_at (y : FVec Ideal S2x256x2048 .f32) (s : Fin 260) (n : Fin 2048) :
    ctxPad y (ix3 b s n) = if h : 2 ≤ s.val ∧ s.val - 2 < 256 then y (ix3 b ⟨s.val - 2, h.2⟩ n) else 0 := by
  pointwise [ctxPad]
  rw [zero_conv]

theorem ctxTap_at (y : FVec Ideal S2x260x2048 .f32) (cw : FVec Ideal S5x2048 .f32) (d : Fin 5) (h) (h') (n : Fin 2048) :
    ctxTap y cw d.val h h' (ix3 b t n) = y (ix3 b ⟨d.val + t.val, by omega⟩ n) * cw (ix2 d n) := by
  pointwise [ctxTap]

theorem ctxConv_at (y : FVec Ideal S2x260x2048 .f32) (cw : FVec Ideal S5x2048 .f32) (cb : FVec Ideal S2048 .f32) (n : Fin 2048) :
    ctxConv y cw cb (ix3 b t n) = (∑ d : Fin 5, y (ix3 b ⟨d.val + t.val, by omega⟩ n) * cw (ix2 d n)) + cb (ix1 n) := by
  rw [Fin.sum_univ_five, ← ctxTap_at b t y cw 0 slices_S2x260x2048_S2x256x2048_0_0_0 slices_S5x2048_S1x2048_0_0 n, ← ctxTap_at b t y cw 1 slices_S2x260x2048_S2x256x2048_0_1_0 slices_S5x2048_S1x2048_1_0 n,
    ← ctxTap_at b t y cw 2 slices_S2x260x2048_S2x256x2048_0_2_0 slices_S5x2048_S1x2048_2_0 n, ← ctxTap_at b t y cw 3 slices_S2x260x2048_S2x256x2048_0_3_0 slices_S5x2048_S1x2048_3_0 n,
    ← ctxTap_at b t y cw 4 slices_S2x260x2048_S2x256x2048_0_4_0 slices_S5x2048_S1x2048_4_0 n]
  pointwise [ctxConv]

theorem ctxSilu_at (y : FVec Ideal S2x256x2048 .f32) (n : Fin 2048) : ctxSilu y (ix3 b t n) = silu (y (ix3 b t n)) := by
  pointwise [ctxSilu]
  rfl

theorem ctxDiag_at (y : FVec Ideal S2x256x2048 .f32) (w : FVec Ideal S512x4x4 .f32) (n : Fin 2048) :
    ctxDiag y w (ix3 b t n) = blockDiag (fun k => y (ix3 b t k)) w n := by
  unfold blockDiag
  simp only [mul_comm (y _)]
  pointwise [ctxDiag]
  exact Finset.sum_congr rfl fun a _ => congrArg (fun z => _ * y (ix3 b t z)) (Fin.ext (by simp only; omega))

theorem ctxGate_at (u : FVec Ideal S2x256x4112 .f32) (gb : FVec Ideal S16 .f32) (j : Fin 16) :
    ctxGate u gb (ix3 b t j) = u (ix3 b t ⟨4096 + j.val, by omega⟩) + gb (ix1 j) := by
  pointwise [ctxGate]

theorem ctxLog_at (y : FVec Ideal S2x256x4 .f32) (j : Fin 4) : ctxLog (Host.negf y) (ix3 b t j) = logSig (y (ix3 b t j)) := by
  refine Eq.trans ?_ (hostLog_eq _)
  pointwise [ctxLog]
  rw [if_neg (by simp)]
  rfl

theorem ctxChunk_at (tri : IVec S128x128 1) (f : FVec Ideal S2x256x4 .f32) (j : Fin 4) :
    ctxChunk tri f (ix3 b t j) = ∑ s : Fin 128, Scalar.select (tri (ix2 ⟨t.val % 128, by omega⟩ s)) (f (ix3 b ⟨t.val / 128 * 128 + s.val, by omega⟩ j)) 0 := by
  pointwise [ctxChunk]

theorem ctxGates_cat (g : FVec Ideal S2x256x16 .f32) (j : Fin 16) :
    ctxGates g (ix3 b t j) = if h : j.val < 4 then g (ix3 b t j) else if h : j.val - 4 < 4 then
      ctxChunk hostTri (ctxLog (Host.negf (extractStridedSlice S2x256x4 ![0, 0, 4] g slices_S2x256x16_S2x256x4_0_0_4))) (ix3 b t ⟨j.val - 4, h⟩)
      else if h : j.val - 4 - 4 < 4 then g (ix3 b t ⟨8 + (j.val - 4 - 4), by omega⟩) else
      ctxChunk (transpose S128x128 [1, 0] hostTri transposes_S128x128_S128x128_1_0)
      (ctxLog (Host.negf (extractStridedSlice S2x256x4 ![0, 0, 12] g slices_S2x256x16_S2x256x4_0_0_12))) (ix3 b t ⟨j.val - 4 - 4 - 4, by omega⟩) := by
  pointwise [ctxGates]

theorem ctxGates_at (g : FVec Ideal S2x256x16 .f32) (j : Fin 16) : ctxGates g (ix3 b t j)
    = chunkGate (j.val / 4) (fun s => g (ix3 b ⟨t.val / 128 * 128 + s.val, by omega⟩ j)) ⟨t.val % 128, by omega⟩ := by
  have s4 : ∀ (s : Fin 256) (i : Fin 4), extractStridedSlice S2x256x4 ![0, 0, 4] g slices_S2x256x16_S2x256x4_0_0_4 (ix3 b s i)
      = g (ix3 b s ⟨4 + i.val, by omega⟩) := fun s i => by pointwise
  have s12 : ∀ (s : Fin 256) (i : Fin 4), extractStridedSlice S2x256x4 ![0, 0, 12] g slices_S2x256x16_S2x256x4_0_0_12 (ix3 b s i)
      = g (ix3 b s ⟨12 + i.val, by omega⟩) := fun s i => by pointwise
  have place : (⟨t.val / 128 * 128 + t.val % 128, by omega⟩ : Fin 256) = t := Fin.ext (by simp only; omega)
  rw [ctxGates_cat]
  unfold chunkGate
  rcases (by omega : j.val / 4 = 0 ∨ j.val / 4 = 1 ∨ j.val / 4 = 2 ∨ j.val / 4 = 3) with e | e | e | e <;> rw [e]
  · rw [dif_pos (by omega), if_neg (by decide), if_neg (by decide)]
    exact congrArg (fun z => g (ix3 b z j)) place.symm
  · have ej : (⟨4 + (j.val - 4), by omega⟩ : Fin 16) = j := Fin.ext (by simp only; omega)
    rw [dif_neg (by omega), dif_pos (by omega), if_pos rfl, ctxChunk_at]
    refine Finset.sum_congr rfl fun s _ => ?_
    rw [hostTri_at, ctxLog_at, s4]
    exact (keep _ _).trans (by rw [ej])
  · have ej : (⟨8 + (j.val - 4 - 4), by omega⟩ : Fin 16) = j := Fin.ext (by simp only; omega)
    rw [dif_neg (by omega), dif_neg (by omega), dif_pos (by omega), if_neg (by decide), if_neg (by decide), ej]
    exact congrArg (fun z => g (ix3 b z j)) place.symm
  · have ej : (⟨12 + (j.val - 4 - 4 - 4), by omega⟩ : Fin 16) = j := Fin.ext (by simp only; omega)
    rw [dif_neg (by omega), dif_neg (by omega), dif_neg (by omega), if_neg (by decide), if_pos rfl, ctxChunk_at]
    refine Finset.sum_congr rfl fun s _ => ?_
    rw [hostTriT_at, ctxLog_at, s12]
    exact (keep _ _).trans (by rw [ej])

/-- The row of the call's arguments that row `t` of batch entry `b` is. -/
def ctxRow (b : Fin 2) (t : Fin 256) : Fin 16896 := ⟨b.val * 256 + t.val, by omega⟩

theorem ctxRow_val : (ctxRow b t).val = b.val * 256 + t.val := rfl

theorem ctxRow_mod : modOf (ctxRow b t) = 2 := by
  have h := modOf_spec (ctxRow b t)
  rw [ctxRow_val] at h
  exact Fin.ext (by show (modOf (ctxRow b t)).val = 2; omega)

variable (A : Args)

theorem ctxUp_row (n : Fin 4112) : ctxUp (First.ctxPart A.x) A.mods A.g A.w (ix3 b t n) = A.up (ctxRow b t) n := by
  have m0 : ∀ j, ctxMod A.mods 0 slices_S8x6x1024_S1x1x1024_2_0_0 (ix1 j) = A.mods (ix3 (modOf (ctxRow b t)) 0 j) := fun j => by
    rw [ctxRow_mod]; exact ctxMod_at j A.mods 0 _
  have m1 : ∀ j, ctxMod A.mods 1 slices_S8x6x1024_S1x1x1024_2_1_0 (ix1 j) = A.mods (ix3 (modOf (ctxRow b t)) 1 j) := fun j => by
    rw [ctxRow_mod]; exact ctxMod_at j A.mods 1 _
  rw [ctxUp, ctxDot_at]
  simp only [ctxEnters_at, ctxNorm_at, First.ctxPart_at, m0, m1, Args.up, Args.h, modulated]
  rfl

theorem ctxXm_row (n : Fin 2048) : ctxXm (ctxUp (First.ctxPart A.x) A.mods A.g A.w) (ix3 b t n) = A.xm (ctxRow b t) n :=
  (ctxXm_at b t _ n).trans (ctxUp_row b t A _)

theorem ctxO_row (n : Fin 2048) : ctxO (ctxUp (First.ctxPart A.x) A.mods A.g A.w) (ix3 b t n) = A.o (ctxRow b t) n :=
  (ctxO_at b t _ n).trans (ctxUp_row b t A _)

theorem ctxPad_row (d : Fin 5) (n : Fin 2048) :
    ctxPad (ctxXm (ctxUp (First.ctxPart A.x) A.mods A.g A.w)) (ix3 b ⟨d.val + t.val, by omega⟩ n) = A.tap (ctxRow b t) d n := by
  rw [ctxPad_at]
  have st := seqOf_spec (ctxRow b t)
  have vt := ctxRow_val b t
  by_cases h : 2 ≤ d.val + t.val ∧ d.val + t.val - 2 < 256
  · rw [dif_pos h, ctxXm_row]
    have sr := seqOf_spec (ctxRow b ⟨d.val + t.val - 2, h.2⟩)
    have vr : (ctxRow b ⟨d.val + t.val - 2, h.2⟩).val = b.val * 256 + (d.val + t.val - 2) := rfl
    exact (tap_in A (ctxRow b t) (ctxRow b ⟨d.val + t.val - 2, h.2⟩) d n (by omega) (by omega)).symm
  · rw [dif_neg h]
    refine (tap_out A _ d n fun r' e => ?_).symm
    have sr := seqOf_spec r'
    omega

theorem ctxXc_row (n : Fin 2048) :
    ctxSilu (ctxConv (ctxPad (ctxXm (ctxUp (First.ctxPart A.x) A.mods A.g A.w))) A.cw A.cb) (ix3 b t n) = A.xc (ctxRow b t) n := by
  rw [ctxSilu_at, ctxConv_at]
  simp only [ctxPad_row]
  rfl

theorem ctxGate_row (j : Fin 16) : ctxGate (ctxUp (First.ctxPart A.x) A.mods A.g A.w) A.gb (ix3 b t j) = A.gate (ctxRow b t) j := by
  rw [ctxGate_at, ctxUp_row]
  rfl

theorem ctxGates_row (j : Fin 16) : ctxGates (ctxGate (ctxUp (First.ctxPart A.x) A.mods A.g A.w) A.gb) (ix3 b t j) = A.gates (ctxRow b t) j := by
  have e : (⟨t.val % 128, by omega⟩ : Fin 128) = ⟨(ctxRow b t).val % 128, by omega⟩ := Fin.ext (by show t.val % 128 = (b.val * 256 + t.val) % 128; omega)
  rw [ctxGates_at, e]
  refine congrArg (fun f => chunkGate (j.val / 4) f _) (funext fun s => ?_)
  rw [ctxGate_row]
  refine congrArg (fun r => A.gate r j) (Fin.ext ?_)
  rw [ctxRow_val]
  show b.val * 256 + (t.val / 128 * 128 + s.val) = 128 * ((ctxRow b t).val / 128) + s.val
  rw [ctxRow_val]
  omega

end Cert.Hand.MlIn

end
-- ==== Proof.MlLat.lean ====
module

public import proofs.«01_k».proof.Proof.MlCtx

/-!
# The latent rows of the projection's reference

The reference's lines over the latent rows, as terms, and each of them at an element.
-/

@[expose] public section

set_option maxRecDepth 16384

noncomputable section

namespace Cert.Hand.MlIn

open Idealize.ShloMosaic Idealize.ShloMosaic.TcCoe Idealize.SL.Sem Cert.Hand.Mlp Cert.Hand.Map
open Idealize.ShloMosaic.Tactic
open Cert.Reference7Ideal Cert.Reference7Ideal.Gen

/-- The latent rows of the reference, normed, modulated and projected. -/
def latUp (x : FVec Ideal S2x8192x1024 .f32) (mods : FVec Ideal S8x6x1024 .f32) (g : FVec Ideal S1024 .f32) (w : FVec Ideal S1024x4112 .f32) :
    FVec Ideal S2x8192x4112 .f32 :=
  Host.dotGeneral dot_S2x8192x1024_S1024x4112_S2x8192x4112_2_0_01_1_n_n none
    (latEnters (latNorm x g) (latMod mods 0 slices_S8x6x1024_S2x1x1024_0_0_0) (latMod mods 1 slices_S8x6x1024_S2x1x1024_0_1_0)) w

/-- The part that is convolved. -/
def latXm (u : FVec Ideal S2x8192x4112 .f32) : FVec Ideal S2x8192x2048 .f32 :=
  extractStridedSlice S2x8192x2048 ![0, 0, 0] u slices_S2x8192x4112_S2x8192x2048_0_0_0

/-- The part that gates the mixer's result. -/
def latO (u : FVec Ideal S2x8192x4112 .f32) : FVec Ideal S2x8192x2048 .f32 :=
  extractStridedSlice S2x8192x2048 ![0, 0, 2048] u slices_S2x8192x4112_S2x8192x2048_0_0_2048

/-- A sequence with two rows of zeros at either end. -/
def latPad (y : FVec Ideal S2x8192x2048 .f32) : FVec Ideal S2x8196x2048 .f32 :=
  pad S2x8196x2048 ![0, 2, 0] ![0, 2, 0] ![0, 0, 0] y (sitofp .f32 (constantI S_ 32 0#32)) pads_S2x8192x2048_S2x8196x2048_000_220_000 h_S_

/-- One weight of the convolution times the rows it meets. -/
def latTap (y : FVec Ideal S2x8196x2048 .f32) (cw : FVec Ideal S5x2048 .f32) (d : ℕ) (h : S2x8196x2048.Slices ![0, d, 0] S2x8192x2048)
    (h' : S5x2048.Slices ![d, 0] S1x2048) : FVec Ideal S2x8192x2048 .f32 :=
  mulf (extractStridedSlice S2x8192x2048 ![0, d, 0] y h) (broadcastInDim S2x8192x2048 ![0, 1, 2] bcast_S1x1x2048_S2x8192x2048_0_1_2
    (broadcastInDim S1x1x2048 ![2] bcast_S2048_S1x1x2048_2 (shapeCast S2048 (extractStridedSlice S1x2048 ![d, 0] cw h') shapeCasts_S1x2048_S2048)))

/-- The convolution of a padded sequence. -/
def latConv (y : FVec Ideal S2x8196x2048 .f32) (cw : FVec Ideal S5x2048 .f32) (cb : FVec Ideal S2048 .f32) : FVec Ideal S2x8192x2048 .f32 :=
  addf (addf (addf (addf (addf (addf (broadcastInDim S2x8192x2048 ![] bcast_S_S2x8192x2048 (constant S_ .f32 0x00000000#32))
    (latTap y cw 0 slices_S2x8196x2048_S2x8192x2048_0_0_0 slices_S5x2048_S1x2048_0_0))
    (latTap y cw 1 slices_S2x8196x2048_S2x8192x2048_0_1_0 slices_S5x2048_S1x2048_1_0))
    (latTap y cw 2 slices_S2x8196x2048_S2x8192x2048_0_2_0 slices_S5x2048_S1x2048_2_0))
    (latTap y cw 3 slices_S2x8196x2048_S2x8192x2048_0_3_0 slices_S5x2048_S1x2048_3_0))
    (latTap y cw 4 slices_S2x8196x2048_S2x8192x2048_0_4_0 slices_S5x2048_S1x2048_4_0))
    (broadcastInDim S2x8192x2048 ![0, 1, 2] bcast_S1x1x2048_S2x8192x2048_0_1_2 (broadcastInDim S1x1x2048 ![2] bcast_S2048_S1x1x2048_2 cb))

/-- The rows times their logistic function. -/
def latSilu (y : FVec Ideal S2x8192x2048 .f32) : FVec Ideal S2x8192x2048 .f32 :=
  mulf y (Host.divf (broadcastInDim S2x8192x2048 ![] bcast_S_S2x8192x2048 (constant S_ .f32 0x3F800000#32))
    (addf (broadcastInDim S2x8192x2048 ![] bcast_S_S2x8192x2048 (constant S_ .f32 0x3F800000#32)) (Host.exp (Host.negf y))))

/-- The rows times a block-diagonal weight. -/
def latDiag (y : FVec Ideal S2x8192x2048 .f32) (w : FVec Ideal S512x4x4 .f32) : FVec Ideal S2x8192x2048 .f32 :=
  shapeCast S2x8192x2048 (transpose S2x8192x512x4 [2, 3, 0, 1] (Host.dotGeneral dot_S512x4x4_S2x8192x512x4_S512x4x2x8192_1_3_2_01_0_2 none w
    (shapeCast S2x8192x512x4 y shapeCasts_S2x8192x2048_S2x8192x512x4)) transposes_S512x4x2x8192_S2x8192x512x4_2_3_0_1) shapeCasts_S2x8192x512x4_S2x8192x2048

/-- The gates as they are projected. -/
def latGate (u : FVec Ideal S2x8192x4112 .f32) (gb : FVec Ideal S16 .f32) : FVec Ideal S2x8192x16 .f32 :=
  addf (extractStridedSlice S2x8192x16 ![0, 0, 4096] u slices_S2x8192x4112_S2x8192x16_0_0_4096)
    (broadcastInDim S2x8192x16 ![0, 1, 2] bcast_S1x1x16_S2x8192x16_0_1_2 (broadcastInDim S1x1x16 ![2] bcast_S16_S1x1x16_2 gb))

/-- The logarithm of the logistic function of `-z`. -/
def latLog (z : FVec Ideal S2x8192x4 .f32) : FVec Ideal S2x8192x4 .f32 :=
  Host.negf (select (cmpf .une (subf z (broadcastInDim S2x8192x4 ![] bcast_S_S2x8192x4 (constant S_ .f32 0x00000000#32)))
      (subf z (broadcastInDim S2x8192x4 ![] bcast_S_S2x8192x4 (constant S_ .f32 0x00000000#32))))
    (addf z (broadcastInDim S2x8192x4 ![] bcast_S_S2x8192x4 (constant S_ .f32 0x00000000#32)))
    (addf (maximumf z (broadcastInDim S2x8192x4 ![] bcast_S_S2x8192x4 (constant S_ .f32 0x00000000#32)))
      (Host.log1p (Host.exp (Host.negf (Host.absf (subf z (broadcastInDim S2x8192x4 ![] bcast_S_S2x8192x4 (constant S_ .f32 0x00000000#32)))))))))

/-- The sums over the places of a chunk that the mask keeps. -/
def latChunk (tri : IVec S128x128 1) (f : FVec Ideal S2x8192x4 .f32) : FVec Ideal S2x8192x4 .f32 :=
  shapeCast S2x8192x4 (Host.reduceAdd (select
      (broadcastInDim S2x64x128x128x4 ![2, 3, 4] bcast_S128x128x1_S2x64x128x128x4_2_3_4 (broadcastInDim S128x128x1 ![0, 1] bcast_S128x128_S128x128x1_0_1 tri))
      (broadcastInDim S2x64x128x128x4 ![0, 1, 2, 3, 4] bcast_S2x64x1x128x4_S2x64x128x128x4_0_1_2_3_4 (shapeCast S2x64x1x128x4 f shapeCasts_S2x8192x4_S2x64x1x128x4))
      (broadcastInDim S2x64x128x128x4 ![] bcast_S_S2x64x128x128x4 (constant S_ .f32 0x00000000#32)))
    (constant S_ .f32 0x00000000#32) reducesTo_S2x64x128x128x4_S2x64x128x4_d3 h_S_) shapeCasts_S2x64x128x4_S2x8192x4

/-- The gates of the rows. -/
def latGates (g : FVec Ideal S2x8192x16 .f32) : FVec Ideal S2x8192x16 .f32 :=
  concatenate S2x8192x16 2 [⟨S2x8192x4, extractStridedSlice S2x8192x4 ![0, 0, 0] g slices_S2x8192x16_S2x8192x4_0_0_0⟩,
    ⟨S2x8192x4, latChunk hostTri (latLog (Host.negf (extractStridedSlice S2x8192x4 ![0, 0, 4] g slices_S2x8192x16_S2x8192x4_0_0_4)))⟩,
    ⟨S2x8192x4, extractStridedSlice S2x8192x4 ![0, 0, 8] g slices_S2x8192x16_S2x8192x4_0_0_8⟩,
    ⟨S2x8192x4, latChunk (transpose S128x128 [1, 0] hostTri transposes_S128x128_S128x128_1_0)
      (latLog (Host.negf (extractStridedSlice S2x8192x4 ![0, 0, 12] g slices_S2x8192x16_S2x8192x4_0_0_12)))⟩]
    concatenates_S2x8192x4_S2x8192x4_S2x8192x4_S2x8192x4_S2x8192x16_d2

variable (b : Fin 2) (t : Fin 8192)

theorem latDot_at (h : FVec Ideal S2x8192x1024 .f32) (w : FVec Ideal S1024x4112 .f32) (n : Fin 4112) :
    (Host.dotGeneral dot_S2x8192x1024_S1024x4112_S2x8192x4112_2_0_01_1_n_n none h w : FVec Ideal S2x8192x4112 .f32) (ix3 b t n)
      = ∑ z, h (ix3 b t z) * w (ix2 z n) := by
  pointwise

theorem latXm_at (u : FVec Ideal S2x8192x4112 .f32) (n : Fin 2048) : latXm u (ix3 b t n) = u (ix3 b t ⟨n.val, by omega⟩) := by
  pointwise [latXm]

theorem latO_at (u : FVec Ideal S2x8192x4112 .f32) (n : Fin 2048) : latO u (ix3 b t n) = u (ix3 b t ⟨2048 + n.val, by omega⟩) := by
  pointwise [latO]

theorem latPad_at (y : FVec Ideal S2x8192x2048 .f32) (s : Fin 8196) (n : Fin 2048) :
    latPad y (ix3 b s n) = if h : 2 ≤ s.val ∧ s.val - 2 < 8192 then y (ix3 b ⟨s.val - 2, h.2⟩ n) else 0 := by
  pointwise [latPad]
  rw [zero_conv]

theorem latTap_at (y : FVec Ideal S2x8196x2048 .f32) (cw : FVec Ideal S5x2048 .f32) (d : Fin 5) (h) (h') (n : Fin 2048) :
    latTap y cw d.val h h' (ix3 b t n) = y (ix3 b ⟨d.val + t.val, by omega⟩ n) * cw (ix2 d n) := by
  pointwise [latTap]

theorem latConv_at (y : FVec Ideal S2x8196x2048 .f32) (cw : FVec Ideal S5x2048 .f32) (cb : FVec Ideal S2048 .f32) (n : Fin 2048) :
    latConv y cw cb (ix3 b t n) = (∑ d : Fin 5, y (ix3 b ⟨d.val + t.val, by omega⟩ n) * cw (ix2 d n)) + cb (ix1 n) := by
  rw [Fin.sum_univ_five, ← latTap_at b t y cw 0 slices_S2x8196x2048_S2x8192x2048_0_0_0 slices_S5x2048_S1x2048_0_0 n, ← latTap_at b t y cw 1 slices_S2x8196x2048_S2x8192x2048_0_1_0 slices_S5x2048_S1x2048_1_0 n,
    ← latTap_at b t y cw 2 slices_S2x8196x2048_S2x8192x2048_0_2_0 slices_S5x2048_S1x2048_2_0 n, ← latTap_at b t y cw 3 slices_S2x8196x2048_S2x8192x2048_0_3_0 slices_S5x2048_S1x2048_3_0 n,
    ← latTap_at b t y cw 4 slices_S2x8196x2048_S2x8192x2048_0_4_0 slices_S5x2048_S1x2048_4_0 n]
  pointwise [latConv]

theorem latSilu_at (y : FVec Ideal S2x8192x2048 .f32) (n : Fin 2048) : latSilu y (ix3 b t n) = silu (y (ix3 b t n)) := by
  pointwise [latSilu]
  rfl

theorem latDiag_at (y : FVec Ideal S2x8192x2048 .f32) (w : FVec Ideal S512x4x4 .f32) (n : Fin 2048) :
    latDiag y w (ix3 b t n) = blockDiag (fun k => y (ix3 b t k)) w n := by
  unfold blockDiag
  simp only [mul_comm (y _)]
  pointwise [latDiag]
  exact Finset.sum_congr rfl fun a _ => congrArg (fun z => _ * y (ix3 b t z)) (Fin.ext (by simp only; omega))

theorem latGate_at (u : FVec Ideal S2x8192x4112 .f32) (gb : FVec Ideal S16 .f32) (j : Fin 16) :
    latGate u gb (ix3 b t j) = u (ix3 b t ⟨4096 + j.val, by omega⟩) + gb (ix1 j) := by
  pointwise [latGate]

theorem latLog_at (y : FVec Ideal S2x8192x4 .f32) (j : Fin 4) : latLog (Host.negf y) (ix3 b t j) = logSig (y (ix3 b t j)) := by
  refine Eq.trans ?_ (hostLog_eq _)
  pointwise [latLog]
  rw [if_neg (by simp)]
  rfl

theorem latChunk_at (tri : IVec S128x128 1) (f : FVec Ideal S2x8192x4 .f32) (j : Fin 4) :
    latChunk tri f (ix3 b t j) = ∑ s : Fin 128, Scalar.select (tri (ix2 ⟨t.val % 128, by omega⟩ s)) (f (ix3 b ⟨t.val / 128 * 128 + s.val, by omega⟩ j)) 0 := by
  pointwise [latChunk]

theorem latGates_cat (g : FVec Ideal S2x8192x16 .f32) (j : Fin 16) :
    latGates g (ix3 b t j) = if h : j.val < 4 then g (ix3 b t j) else if h : j.val - 4 < 4 then
      latChunk hostTri (latLog (Host.negf (extractStridedSlice S2x8192x4 ![0, 0, 4] g slices_S2x8192x16_S2x8192x4_0_0_4))) (ix3 b t ⟨j.val - 4, h⟩)
      else if h : j.val - 4 - 4 < 4 then g (ix3 b t ⟨8 + (j.val - 4 - 4), by omega⟩) else
      latChunk (transpose S128x128 [1, 0] hostTri transposes_S128x128_S128x128_1_0)
      (latLog (Host.negf (extractStridedSlice S2x8192x4 ![0, 0, 12] g slices_S2x8192x16_S2x8192x4_0_0_12))) (ix3 b t ⟨j.val - 4 - 4 - 4, by omega⟩) := by
  pointwise [latGates]

theorem latGates_at (g : FVec Ideal S2x8192x16 .f32) (j : Fin 16) : latGates g (ix3 b t j)
    = chunkGate (j.val / 4) (fun s => g (ix3 b ⟨t.val / 128 * 128 + s.val, by omega⟩ j)) ⟨t.val % 128, by omega⟩ := by
  have s4 : ∀ (s : Fin 8192) (i : Fin 4), extractStridedSlice S2x8192x4 ![0, 0, 4] g slices_S2x8192x16_S2x8192x4_0_0_4 (ix3 b s i)
      = g (ix3 b s ⟨4 + i.val, by omega⟩) := fun s i => by pointwise
  have s12 : ∀ (s : Fin 8192) (i : Fin 4), extractStridedSlice S2x8192x4 ![0, 0, 12] g slices_S2x8192x16_S2x8192x4_0_0_12 (ix3 b s i)
      = g (ix3 b s ⟨12 + i.val, by omega⟩) := fun s i => by pointwise
  have place : (⟨t.val / 128 * 128 + t.val % 128, by omega⟩ : Fin 8192) = t := Fin.ext (by simp only; omega)
  rw [latGates_cat]
  unfold chunkGate
  rcases (by omega : j.val / 4 = 0 ∨ j.val / 4 = 1 ∨ j.val / 4 = 2 ∨ j.val / 4 = 3) with e | e | e | e <;> rw [e]
  · rw [dif_pos (by omega), if_neg (by decide), if_neg (by decide)]
    exact congrArg (fun z => g (ix3 b z j)) place.symm
  · have ej : (⟨4 + (j.val - 4), by omega⟩ : Fin 16) = j := Fin.ext (by simp only; omega)
    rw [dif_neg (by omega), dif_pos (by omega), if_pos rfl, latChunk_at]
    refine Finset.sum_congr rfl fun s _ => ?_
    rw [hostTri_at, latLog_at, s4]
    exact (keep _ _).trans (by rw [ej])
  · have ej : (⟨8 + (j.val - 4 - 4), by omega⟩ : Fin 16) = j := Fin.ext (by simp only; omega)
    rw [dif_neg (by omega), dif_neg (by omega), dif_pos (by omega), if_neg (by decide), if_neg (by decide), ej]
    exact congrArg (fun z => g (ix3 b z j)) place.symm
  · have ej : (⟨12 + (j.val - 4 - 4 - 4), by omega⟩ : Fin 16) = j := Fin.ext (by simp only; omega)
    rw [dif_neg (by omega), dif_neg (by omega), dif_neg (by omega), if_neg (by decide), if_pos rfl, latChunk_at]
    refine Finset.sum_congr rfl fun s _ => ?_
    rw [hostTriT_at, latLog_at, s12]
    exact (keep _ _).trans (by rw [ej])

/-- The row of the call's arguments that row `t` of batch entry `b` is. -/
def latRow (b : Fin 2) (t : Fin 8192) : Fin 16896 := ⟨512 + (b.val * 8192 + t.val), by omega⟩

theorem latRow_val : (latRow b t).val = 512 + (b.val * 8192 + t.val) := rfl

theorem latRow_mod : modOf (latRow b t) = ⟨b.val, by omega⟩ := by
  have h := modOf_spec (latRow b t)
  rw [latRow_val] at h
  exact Fin.ext (by show (modOf (latRow b t)).val = b.val; omega)

variable (A : Args)

theorem latUp_row (n : Fin 4112) : latUp (First.latPart A.x) A.mods A.g A.w (ix3 b t n) = A.up (latRow b t) n := by
  have m0 : ∀ j, latMod A.mods 0 slices_S8x6x1024_S2x1x1024_0_0_0 (ix3 b 0 j) = A.mods (ix3 (modOf (latRow b t)) 0 j) := fun j => by
    rw [latRow_mod]; exact latMod_at b j A.mods 0 _
  have m1 : ∀ j, latMod A.mods 1 slices_S8x6x1024_S2x1x1024_0_1_0 (ix3 b 0 j) = A.mods (ix3 (modOf (latRow b t)) 1 j) := fun j => by
    rw [latRow_mod]; exact latMod_at b j A.mods 1 _
  rw [latUp, latDot_at]
  simp only [latEnters_at, latNorm_at, First.latPart_at, m0, m1, Args.up, Args.h, modulated]
  rfl

theorem latXm_row (n : Fin 2048) : latXm (latUp (First.latPart A.x) A.mods A.g A.w) (ix3 b t n) = A.xm (latRow b t) n :=
  (latXm_at b t _ n).trans (latUp_row b t A _)

theorem latO_row (n : Fin 2048) : latO (latUp (First.latPart A.x) A.mods A.g A.w) (ix3 b t n) = A.o (latRow b t) n :=
  (latO_at b t _ n).trans (latUp_row b t A _)

theorem latPad_row (d : Fin 5) (n : Fin 2048) :
    latPad (latXm (latUp (First.latPart A.x) A.mods A.g A.w)) (ix3 b ⟨d.val + t.val, by omega⟩ n) = A.tap (latRow b t) d n := by
  rw [latPad_at]
  have st := seqOf_spec (latRow b t)
  have vt := latRow_val b t
  by_cases h : 2 ≤ d.val + t.val ∧ d.val + t.val - 2 < 8192
  · rw [dif_pos h, latXm_row]
    have sr := seqOf_spec (latRow b ⟨d.val + t.val - 2, h.2⟩)
    have vr : (latRow b ⟨d.val + t.val - 2, h.2⟩).val = 512 + (b.val * 8192 + (d.val + t.val - 2)) := rfl
    exact (tap_in A (latRow b t) (latRow b ⟨d.val + t.val - 2, h.2⟩) d n (by omega) (by omega)).symm
  · rw [dif_neg h]
    refine (tap_out A _ d n fun r' e => ?_).symm
    have sr := seqOf_spec r'
    omega

theorem latXc_row (n : Fin 2048) :
    latSilu (latConv (latPad (latXm (latUp (First.latPart A.x) A.mods A.g A.w))) A.cw A.cb) (ix3 b t n) = A.xc (latRow b t) n := by
  rw [latSilu_at, latConv_at]
  simp only [latPad_row]
  rfl

theorem latGate_row (j : Fin 16) : latGate (latUp (First.latPart A.x) A.mods A.g A.w) A.gb (ix3 b t j) = A.gate (latRow b t) j := by
  rw [latGate_at, latUp_row]
  rfl

theorem latGates_row (j : Fin 16) : latGates (latGate (latUp (First.latPart A.x) A.mods A.g A.w) A.gb) (ix3 b t j) = A.gates (latRow b t) j := by
  have e : (⟨t.val % 128, by omega⟩ : Fin 128) = ⟨(latRow b t).val % 128, by omega⟩ := Fin.ext (by show t.val % 128 = (512 + (b.val * 8192 + t.val)) % 128; omega)
  rw [latGates_at, e]
  refine congrArg (fun f => chunkGate (j.val / 4) f _) (funext fun s => ?_)
  rw [latGate_row]
  refine congrArg (fun r => A.gate r j) (Fin.ext ?_)
  rw [latRow_val]
  show 512 + (b.val * 8192 + (t.val / 128 * 128 + s.val)) = 128 * ((latRow b t).val / 128) + s.val
  rw [latRow_val]
  omega

end Cert.Hand.MlIn

end
-- ==== Proof.MlInRef.lean ====
module

public import proofs.«01_k».proof.Proof.MlLat

/-!
# The projection's reference

The reference's results as terms over the context rows and the latent rows, and each of them at an element.
-/

@[expose] public section

set_option maxRecDepth 16384

noncomputable section

namespace Cert.Hand.MlIn

open Idealize.ShloMosaic Idealize.ShloMosaic.TcCoe Idealize.SL.Sem Cert.Hand.Mlp Cert.Hand.Map
open Idealize.ShloMosaic.Tactic Idealize.ShloMosaic.StableHlo
open Cert.Reference7Ideal Cert.Reference7Ideal.Gen Cert.Reference7Ideal.Value

variable (m : (ℓ : Loc nD τ sig) → Buf (Elt Ideal) ℓ) (c : Dev nD)

/-- The reference's arguments. -/
def refArgs : Args where
  x := m ((c.tc : Thread nD τ).loc main_arg0)
  mods := m ((c.tc : Thread nD τ).loc main_arg1)
  g := m ((c.tc : Thread nD τ).loc main_arg2)
  w := m ((c.tc : Thread nD τ).loc main_arg3)
  gb := m ((c.tc : Thread nD τ).loc main_arg4)
  cw := m ((c.tc : Thread nD τ).loc main_arg5)
  cb := m ((c.tc : Thread nD τ).loc main_arg6)
  wq := m ((c.tc : Thread nD τ).loc main_arg7)
  wk := m ((c.tc : Thread nD τ).loc main_arg8)
  wv := m ((c.tc : Thread nD τ).loc main_arg9)

/-- Context rows followed by latent rows. -/
def both (y : FVec Ideal S2x256x2048 .f32) (z : FVec Ideal S2x8192x2048 .f32) : FVec Ideal S16896x2048 .f32 :=
  concatenate S16896x2048 0 [⟨S512x2048, shapeCast S512x2048 y shapeCasts_S2x256x2048_S512x2048⟩,
    ⟨S16384x2048, shapeCast S16384x2048 z shapeCasts_S2x8192x2048_S16384x2048⟩] concatenates_S512x2048_S16384x2048_S16896x2048_d0

/-- The context rows' gates followed by the latent rows'. -/
def bothGates (y : FVec Ideal S2x256x16 .f32) (z : FVec Ideal S2x8192x16 .f32) : FVec Ideal S16896x16 .f32 :=
  concatenate S16896x16 0 [⟨S512x16, shapeCast S512x16 y shapeCasts_S2x256x16_S512x16⟩,
    ⟨S16384x16, shapeCast S16384x16 z shapeCasts_S2x8192x16_S16384x16⟩] concatenates_S512x16_S16384x16_S16896x16_d0

/-- The key's scale on the context rows. -/
def ctxScale (y : FVec Ideal S2x256x2048 .f32) : FVec Ideal S2x256x2048 .f32 :=
  mulf y (broadcastInDim S2x256x2048 ![] bcast_S_S2x256x2048 (constant S_ .f32 0x3D3504F3#32))

/-- The key's scale on the latent rows. -/
def latScale (y : FVec Ideal S2x8192x2048 .f32) : FVec Ideal S2x8192x2048 .f32 :=
  mulf y (broadcastInDim S2x8192x2048 ![] bcast_S_S2x8192x2048 (constant S_ .f32 0x3D3504F3#32))

variable (A : Args)

/-- The context rows, projected. -/
def ctxU : FVec Ideal S2x256x4112 .f32 := ctxUp (First.ctxPart A.x) A.mods A.g A.w
/-- The latent rows, projected. -/
def latU : FVec Ideal S2x8192x4112 .f32 := latUp (First.latPart A.x) A.mods A.g A.w
/-- The context rows, convolved. -/
def ctxC : FVec Ideal S2x256x2048 .f32 := ctxSilu (ctxConv (ctxPad (ctxXm (ctxU A))) A.cw A.cb)
/-- The latent rows, convolved. -/
def latC : FVec Ideal S2x8192x2048 .f32 := latSilu (latConv (latPad (latXm (latU A))) A.cw A.cb)
/-- The gates of all rows. -/
def allGates : FVec Ideal S16896x16 .f32 := bothGates (ctxGates (ctxGate (ctxU A) A.gb)) (latGates (latGate (latU A) A.gb))

theorem term_ctxU : res_main_v55 (launchContents m c) = ctxU (refArgs m c) := rfl
theorem term_latU : res_main_v156 (launchContents m c) = latU (refArgs m c) := rfl

theorem term_ctxC : res_main_v99 (launchContents m c) = ctxC (refArgs m c) :=
  (rfl : _ = ctxSilu (ctxConv (ctxPad (ctxXm (res_main_v55 (launchContents m c)))) (refArgs m c).cw (refArgs m c).cb)).trans
    (by rw [term_ctxU]; rfl)

theorem term_latC : res_main_v200 (launchContents m c) = latC (refArgs m c) :=
  (rfl : _ = latSilu (latConv (latPad (latXm (res_main_v156 (launchContents m c)))) (refArgs m c).cw (refArgs m c).cb)).trans
    (by rw [term_latU]; rfl)

theorem term_gates : res_main_v253 (launchContents m c) = allGates (refArgs m c) :=
  (rfl : _ = bothGates (ctxGates (ctxGate (res_main_v55 (launchContents m c)) (refArgs m c).gb))
      (latGates (latGate (res_main_v156 (launchContents m c)) (refArgs m c).gb))).trans
    (by rw [term_ctxU, term_latU]; rfl)

/-- The reference leaves its results, as the terms over rows, and its arguments as they were. -/
theorem run_terms (ρ : Dev nD → PrngReg) : θ_run defs (onTc (τ := τ) (main (F := Ideal))) ⟨m, fun _ => 0, ρ⟩ fun r => ∀ c : Dev nD,
      r.2.mem ((c.tc : Thread nD τ).loc main_v254) = truncf .bf16 (both (ctxDiag (ctxC (refArgs m c)) (refArgs m c).wq) (latDiag (latC (refArgs m c)) (refArgs m c).wq)) bitsLt_bf16_f32
      ∧ r.2.mem ((c.tc : Thread nD τ).loc main_v255) = truncf .bf16 (both (ctxScale (ctxDiag (ctxC (refArgs m c)) (refArgs m c).wk)) (latScale (latDiag (latC (refArgs m c)) (refArgs m c).wk))) bitsLt_bf16_f32
      ∧ r.2.mem ((c.tc : Thread nD τ).loc main_v256) = truncf .bf16 (both (ctxDiag (ctxXm (ctxU (refArgs m c))) (refArgs m c).wv) (latDiag (latXm (latU (refArgs m c))) (refArgs m c).wv)) bitsLt_bf16_f32
      ∧ r.2.mem ((c.tc : Thread nD τ).loc main_v247) = both (ctxO (ctxU (refArgs m c))) (latO (latU (refArgs m c)))
      ∧ r.2.mem ((c.tc : Thread nD τ).loc main_v250) = both (ctxC (refArgs m c)) (latC (refArgs m c))
      ∧ r.2.mem ((c.tc : Thread nD τ).loc main_v257) = pad S16896x128 ![0, 0] ![0, 112] ![0, 0] (allGates (refArgs m c)) (sitofp .f32 (constantI S_ 32 0#32)) pads_S16896x16_S16896x128_000_01120 h_S_
      ∧ r.2.mem ((c.tc : Thread nD τ).loc main_v258) = transpose S16x16896 [1, 0] (allGates (refArgs m c)) transposes_S16896x16_S16x16896_1_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ?_) (Cert.Reference7Ideal.Value.run m ρ)
  have h := h c
  have e : res_main_v56 (launchContents m c) = ctxXm (res_main_v55 (launchContents m c)) := rfl
  have e' : res_main_v157 (launchContents m c) = latXm (res_main_v156 (launchContents m c)) := rfl
  rw [e, e', term_ctxC, term_latC, term_gates, term_ctxU, term_latU] at h
  exact h

variable (r : Fin 16896)

theorem both_at (y : FVec Ideal S2x256x2048 .f32) (z : FVec Ideal S2x8192x2048 .f32) (k : Fin 2048) :
    both y z (ix2 r k) = if h : r.val < 512 then y (ix3 ⟨r.val / 256, by omega⟩ ⟨r.val % 256, by omega⟩ k)
      else z (ix3 ⟨(r.val - 512) / 8192, by omega⟩ ⟨(r.val - 512) % 8192, by omega⟩ k) := by
  pointwise [both]

theorem bothGates_at (y : FVec Ideal S2x256x16 .f32) (z : FVec Ideal S2x8192x16 .f32) (k : Fin 16) :
    bothGates y z (ix2 r k) = if h : r.val < 512 then y (ix3 ⟨r.val / 256, by omega⟩ ⟨r.val % 256, by omega⟩ k)
      else z (ix3 ⟨(r.val - 512) / 8192, by omega⟩ ⟨(r.val - 512) % 8192, by omega⟩ k) := by
  pointwise [bothGates]

/-- The context row and the latent row that row `r` is. -/
theorem row_ctx (h : r.val < 512) : ctxRow ⟨r.val / 256, by omega⟩ ⟨r.val % 256, by omega⟩ = r :=
  Fin.ext (by show r.val / 256 * 256 + r.val % 256 = r.val; omega)

theorem row_lat (h : ¬r.val < 512) : latRow ⟨(r.val - 512) / 8192, by omega⟩ ⟨(r.val - 512) % 8192, by omega⟩ = r :=
  Fin.ext (by show 512 + ((r.val - 512) / 8192 * 8192 + (r.val - 512) % 8192) = r.val; omega)

/-- What holds of the context rows and of the latent rows holds of all. -/
theorem both_row (y : FVec Ideal S2x256x2048 .f32) (z : FVec Ideal S2x8192x2048 .f32) (f : Fin 16896 → EReal) (k : Fin 2048)
    (hy : ∀ b t, y (ix3 b t k) = f (ctxRow b t)) (hz : ∀ b t, z (ix3 b t k) = f (latRow b t)) : both y z (ix2 r k) = f r := by
  rw [both_at]
  by_cases h : r.val < 512
  · rw [dif_pos h, hy, row_ctx r h]
  · rw [dif_neg h, hz, row_lat r h]

theorem gates_row (k : Fin 16) : allGates A (ix2 r k) = A.gates r k := by
  rw [allGates, bothGates_at]
  by_cases h : r.val < 512
  · rw [dif_pos h]
    exact (ctxGates_row _ _ A k).trans (by rw [row_ctx r h])
  · rw [dif_neg h]
    exact (latGates_row _ _ A k).trans (by rw [row_lat r h])

theorem ctxScale_at (y : FVec Ideal S2x256x2048 .f32) (b : Fin 2) (t : Fin 256) (k : Fin 2048) :
    ctxScale y (ix3 b t k) = y (ix3 b t k) * Ideal.ofBits .f32 0x3D3504F3#32 := by
  pointwise [ctxScale]

theorem latScale_at (y : FVec Ideal S2x8192x2048 .f32) (b : Fin 2) (t : Fin 8192) (k : Fin 2048) :
    latScale y (ix3 b t k) = y (ix3 b t k) * Ideal.ofBits .f32 0x3D3504F3#32 := by
  pointwise [latScale]

theorem ctxDiag_row (w : FVec Ideal S512x4x4 .f32) (b : Fin 2) (t : Fin 256) (k : Fin 2048) :
    ctxDiag (ctxC A) w (ix3 b t k) = blockDiag (A.xc (ctxRow b t)) w k :=
  (ctxDiag_at b t _ w k).trans (congrArg (fun f => blockDiag f w k) (funext fun n => ctxXc_row b t A n))

theorem latDiag_row (w : FVec Ideal S512x4x4 .f32) (b : Fin 2) (t : Fin 8192) (k : Fin 2048) :
    latDiag (latC A) w (ix3 b t k) = blockDiag (A.xc (latRow b t)) w k :=
  (latDiag_at b t _ w k).trans (congrArg (fun f => blockDiag f w k) (funext fun n => latXc_row b t A n))

theorem ref_q (k : Fin 2048) : both (ctxDiag (ctxC A) A.wq) (latDiag (latC A) A.wq) (ix2 r k) = A.q r k :=
  both_row r _ _ (fun r => A.q r k) k (fun b t => ctxDiag_row A _ b t k) (fun b t => latDiag_row A _ b t k)

theorem ref_k (k : Fin 2048) : both (ctxScale (ctxDiag (ctxC A) A.wk)) (latScale (latDiag (latC A) A.wk)) (ix2 r k) = A.k r k :=
  both_row r _ _ (fun r => A.k r k) k (fun b t => by rw [ctxScale_at, ctxDiag_row]; rfl) (fun b t => by rw [latScale_at, latDiag_row]; rfl)

theorem ref_v (k : Fin 2048) : both (ctxDiag (ctxXm (ctxU A)) A.wv) (latDiag (latXm (latU A)) A.wv) (ix2 r k) = A.v r k :=
  both_row r _ _ (fun r => A.v r k) k
    (fun b t => (ctxDiag_at b t _ _ k).trans (congrArg (fun f => blockDiag f A.wv k) (funext fun n => ctxXm_row b t A n)))
    (fun b t => (latDiag_at b t _ _ k).trans (congrArg (fun f => blockDiag f A.wv k) (funext fun n => latXm_row b t A n)))

theorem ref_o (k : Fin 2048) : both (ctxO (ctxU A)) (latO (latU A)) (ix2 r k) = A.o r k :=
  both_row r _ _ (fun r => A.o r k) k (fun b t => ctxO_row b t A k) (fun b t => latO_row b t A k)

theorem ref_xc (k : Fin 2048) : both (ctxC A) (latC A) (ix2 r k) = A.xc r k :=
  both_row r _ _ (fun r => A.xc r k) k (fun b t => ctxXc_row b t A k) (fun b t => latXc_row b t A k)

theorem ref_gc (j : Fin 128) : (pad S16896x128 ![0, 0] ![0, 112] ![0, 0] (allGates A) (sitofp .f32 (constantI S_ 32 0#32)) pads_S16896x16_S16896x128_000_01120 h_S_ :
    FVec Ideal S16896x128 .f32) (ix2 r j) = if h : j.val < 16 then A.gates r ⟨j.val, h⟩ else 0 := by
  simp only [← gates_row]
  pointwise
  rw [zero_conv]

theorem ref_gr (j : Fin 16) : (transpose S16x16896 [1, 0] (allGates A) transposes_S16896x16_S16x16896_1_0 : FVec Ideal S16x16896 .f32) (ix2 j r) = A.gates r j := by
  rw [← gates_row]
  pointwise

end Cert.Hand.MlIn

end
-- ==== Proof.MlTile.lean ====
module

public import proofs.«01_k».proof.Proof.MlRows

/-!
# What the projection writes at a grid point

Each of the seven blocks at an element, in the arguments.
-/

@[expose] public section

set_option maxRecDepth 16896

noncomputable section

namespace Cert.Hand.MlIn

open Cert.Kernel7Ideal Cert.Kernel7Ideal.Gen Cert.Kernel7Ideal.Run Cert.Hand.Mlp Cert.Hand.Map
open Idealize.ShloMosaic Idealize.ShloMosaic.TcCoe Idealize.SL.Sem

variable (m : (ℓ : Loc nD τ sig) → Buf (Elt Ideal) ℓ) (c : Dev nD) (t : Fin cfg0.N)

/-- The convolved chunk, as the rows of the tile convolved. -/
theorem conv_xc (n : Fin 4) (i : Fin 256) (y : Fin 512) :
    conv (l5 m c t) (l11 m c t) (l12 m c t) (rows m c t) (before m c t) (behind m c t) n (ix2 i y)
      = (args m c).xc (rowAt t i) ⟨512 * n.val + y.val, by omega⟩ := by
  have hcw : (iblk m c 11 t : Vec Ideal S5x2048 .f32) = (args m c).cw := (blk_11 m c t).trans (V_main_arg5 m c)
  have hcb : ∀ k, (iblk m c 12 t : Vec Ideal S1x2048 .f32) (ix2 0 k) = (args m c).cb (ix1 k) := fun k => by rw [blk_12, V_v46]; exact cb_at _ k
  rw [load_5, load_11, load_12, conv_chunk]
  simp only [projected_tap, hcw, hcb]
  rfl

/-- The chunk that is not convolved, as the rows of the tile projected. -/
theorem up_xm (n : Fin 4) (i : Fin 256) (y : Fin 512) :
    k0_pay28 (rows m c t) (wcols (l5 m c t) n) (ix2 i y) = (args m c).xm (rowAt t i) ⟨512 * n.val + y.val, by omega⟩ := by
  rw [load_5, up_at]
  simp only [wcols_at, rows_h, wx_blk]
  rfl

theorem emb_o (n : Fin 4) (j : Fin 2) (a b : Fin 256) :
    (Rect.unit (s := S256x2048) ![0, 512 * n.val + 256 * j.val] S256x256.size (inb_o n j)).emb (ix2 a b) = ix2 a ⟨512 * n.val + 256 * j.val + b.val, by omega⟩ :=
  emb2 _ (inb_o n j) rfl rfl a b _ _ (Nat.zero_add _) rfl

theorem mem_tiles {α : Type} (P : α → Prop) (p : Fin 4 → Fin 2 → α) (h : ∀ n j, P (p n j)) : ∀ x ∈ tiles p, P x := by
  intro x hx
  simp only [tiles, List.mem_cons, List.not_mem_nil, or_false] at hx
  rcases hx with rfl | rfl | rfl | rfl | rfl | rfl | rfl | rfl <;> exact h _ _

theorem out16_at (i : Fin 256) (k : Fin 2048) : out16 m c t (ix2 i k) = (args m c).q (rowAt t i) k := by
  refine (congrFun (View.read_writes_junk_eq_canon VO0_16 (at_ m c t).1) _).trans
    (View.canon_apply_of_pieces (fun y : S256x2048.Idx => (args m c).q (rowAt t (y 0)) (y 1)) _ ?_ _ (cover16 m c t _))
  rw [pieces_q]
  refine mem_tiles _ _ fun n j x => ?_
  obtain ⟨a, b, rfl⟩ : ∃ (a b : Fin 256), x = ix2 a b := ⟨_, _, eq_ix2 x⟩
  rw [show (pieceQ _ _ _ _ _ _ _ n j).1.emb (ix2 a b) = _ from emb_o n j a b]
  show prod (l13 m c t) _ n j (ix2 a b) = (args m c).q (rowAt t a) ⟨512 * n.val + 256 * j.val + b.val, by omega⟩
  rw [load_13, blk_13, V_v22]
  exact prod_block _ _ n j a b _ fun y => conv_xc m c t n a y

theorem out17_at (i : Fin 256) (k : Fin 2048) : out17 m c t (ix2 i k) = (args m c).k (rowAt t i) k := by
  refine (congrFun (View.read_writes_junk_eq_canon VO0_17 (at_ m c t).2.1) _).trans
    (View.canon_apply_of_pieces (fun y : S256x2048.Idx => (args m c).k (rowAt t (y 0)) (y 1)) _ ?_ _ (cover17 m c t _))
  rw [pieces_k]
  refine mem_tiles _ _ fun n j x => ?_
  obtain ⟨a, b, rfl⟩ : ∃ (a b : Fin 256), x = ix2 a b := ⟨_, _, eq_ix2 x⟩
  rw [show (pieceK _ _ _ _ _ _ _ n j).1.emb (ix2 a b) = _ from emb_o n j a b]
  show prod (l14 m c t) _ n j (ix2 a b) * Ideal.ofBits .f32 0x3D3504F3#32 = (args m c).k (rowAt t a) ⟨512 * n.val + 256 * j.val + b.val, by omega⟩
  rw [load_14, blk_14, V_v33]
  exact congrArg (· * _) (prod_block _ _ n j a b _ fun y => conv_xc m c t n a y)

theorem out18_at (i : Fin 256) (k : Fin 2048) : out18 m c t (ix2 i k) = (args m c).v (rowAt t i) k := by
  refine (congrFun (View.read_writes_junk_eq_canon VO0_18 (at_ m c t).2.2.1) _).trans
    (View.canon_apply_of_pieces (fun y : S256x2048.Idx => (args m c).v (rowAt t (y 0)) (y 1)) _ ?_ _ (cover18 m c t _))
  rw [pieces_v]
  refine mem_tiles _ _ fun n j x => ?_
  obtain ⟨a, b, rfl⟩ : ∃ (a b : Fin 256), x = ix2 a b := ⟨_, _, eq_ix2 x⟩
  rw [show (pieceV _ _ _ n j).1.emb (ix2 a b) = _ from emb_o n j a b]
  show prod (l15 m c t) _ n j (ix2 a b) = (args m c).v (rowAt t a) ⟨512 * n.val + 256 * j.val + b.val, by omega⟩
  rw [load_15, blk_15, V_v44]
  exact prod_block _ _ n j a b _ fun y => up_xm m c t n a y

theorem out20_at (i : Fin 256) (k : Fin 2048) : out20 m c t (ix2 i k) = (args m c).xc (rowAt t i) k := by
  refine (congrFun (View.read_writes_junk_eq_canon VO0_20 (at_ m c t).2.2.2.2.1) _).trans
    (View.canon_apply_of_pieces (fun y : S256x2048.Idx => (args m c).xc (rowAt t (y 0)) (y 1)) _ ?_ _ (cover20 m c t _))
  have hp : ∀ n : Fin 4, ∀ x, (pieceXc (l5 m c t) (l11 m c t) (l12 m c t) (rows m c t) (before m c t) (behind m c t) n).2 x
      = (fun y : S256x2048.Idx => (args m c).xc (rowAt t (y 0)) (y 1)) ((pieceXc (l5 m c t) (l11 m c t) (l12 m c t) (rows m c t) (before m c t) (behind m c t) n).1.emb x) := by
    intro n x
    obtain ⟨a, b, rfl⟩ : ∃ (a : Fin 256) (b : Fin 512), x = ix2 a b := ⟨_, _, eq_ix2 x⟩
    rw [show (pieceXc _ _ _ _ _ _ n).1.emb (ix2 a b) = _ from emb2 _ (inb_xc n) rfl rfl a b a (⟨512 * n.val + b.val, by omega⟩ : Fin 2048) (Nat.zero_add _) rfl]
    exact conv_xc m c t n a b
  rw [pieces_xc]
  intro p hq
  simp only [List.mem_cons, List.not_mem_nil, or_false] at hq
  rcases hq with rfl | rfl | rfl | rfl <;> exact hp _

theorem out19_at (i : Fin 256) (k : Fin 2048) : out19 m c t (ix2 i k) = (args m c).o (rowAt t i) k := by
  have hw : l6 m c t (Rect.unit (s := S1024x2048) ![0, 0] S1024x2048.size inb_S1024x2048_S1024x2048_0_0) = V m c main_v3 := by
    rw [load_6, blk_6]; exact View.ld_unit_zero (S := S1024x2048) zero2 _ _
  refine (congrFun (View.read_writes_junk_eq_canon VO0_19 (at_ m c t).2.2.2.1) _).trans ?_
  rw [pieces_o, hw, View.canon_unit_zero (S := S256x2048) zero2, open_at, V_v3]
  simp only [wo_at, rows_h]
  rfl

/-- A gate of the tile as it is projected, a row for each token. -/
theorem gatesRow_gate (s : Fin 256) (j : Fin 128) : gatesRow m c t (ix2 s j) = if h : j.val < 16 then (args m c).gate (rowAt t s) ⟨j.val, h⟩ else 0 := by
  have hw : l7 m c t (Rect.unit (s := S1024x128) ![0, 0] S1024x128.size inb_S1024x128_S1024x128_0_0) = V m c main_v6 := by
    rw [load_7, blk_7]; exact View.ld_unit_zero (S := S1024x128) zero2 _ _
  have hb : l9 m c t (Rect.unit (s := S1x128) ![0, 0] S1x128.size inb_S1x128_S1x128_0_0) = V m c main_v10 := by
    rw [load_9, blk_9]; exact View.ld_unit_zero (S := S1x128) zero2 _ _
  unfold gatesRow
  rw [hw, hb, gateRow_at, V_v6, V_v10]
  simp only [gateCols_at, gateBias_at, rows_h]
  split
  · rfl
  · simp only [mul_zero, Finset.sum_const_zero, add_zero]

/-- A gate of the tile as it is projected, a column for each token. -/
theorem gatesCol_gate (j : Fin 16) (s : Fin 256) : gatesCol m c t (ix2 j s) = (args m c).gate (rowAt t s) j := by
  have hw : l8 m c t (Rect.unit (s := S16x1024) ![0, 0] S16x1024.size inb_S16x1024_S16x1024_0_0) = V m c main_v8 := by
    rw [load_8, blk_8]; exact View.ld_unit_zero (S := S16x1024) zero2 _ _
  have hb : l10 m c t (Rect.unit (s := S16x1) ![0, 0] S16x1.size inb_S16x1_S16x1_0_0) = V m c main_v11 := by
    rw [load_10, blk_10]; exact View.ld_unit_zero (S := S16x1) zero2 _ _
  unfold gatesCol
  rw [hw, hb, gateCol_at, V_v8, V_v11]
  simp only [gateRows_at, gb_at, rows_h, mul_comm ((args m c).w _)]
  rfl

theorem gates_tile (i : Fin 256) (j : Fin 16) :
    gateTile (j.val / 4) (fun s => (args m c).gate (rowAt t s) j) i = (args m c).gates (rowAt t i) j := by
  have hN := N_lt t
  have hr := rowAt_val t i
  rw [gateTile_eq]
  unfold Args.gates
  congr 1
  · funext s
    refine congrArg (fun r => (args m c).gate r j) (Fin.ext ?_)
    show t.val * 256 + (128 * (i.val / 128) + s.val) = 128 * ((rowAt t i).val / 128) + s.val
    omega
  · refine Fin.ext ?_
    show i.val % 128 = (rowAt t i).val % 128
    omega

theorem out21_at (i : Fin 256) (j : Fin 128) : out21 m c t (ix2 i j) = if h : j.val < 16 then (args m c).gates (rowAt t i) ⟨j.val, h⟩ else 0 := by
  refine (congrFun (View.read_writes_junk_eq_canon VO0_21 (at_ m c t).2.2.2.2.2.1) _).trans ?_
  rw [pieces_gc, View.canon_unit_zero (S := S256x128) zero2, gatesRow_at]
  simp only [gatesRow_gate]
  split
  · rename_i h
    exact gates_tile m c t i ⟨j.val, h⟩
  · rename_i h
    unfold gateTile
    rw [if_neg (by omega), if_neg (by omega)]

theorem out22_at (j : Fin 16) (i : Fin 256) : out22 m c t (ix2 j i) = (args m c).gates (rowAt t i) j := by
  refine (congrFun (View.read_writes_junk_eq_canon VO0_22 (at_ m c t).2.2.2.2.2.2.1) _).trans ?_
  rw [pieces_gr, View.canon_unit_zero (S := S16x256) zero2, gatesCol_at]
  simp only [gatesCol_gate]
  exact gates_tile m c t i j

end Cert.Hand.MlIn

end
-- ==== Proof.MlFlow.lean ====
module

public import proofs.«01_k».proof.Proof.MlFrame
public import Idealize.ShloMosaic.Lib.Pipeline.Value

/-!
# The projection's results, block by block

What the kernel leaves in its results' arrays: block by block, what each grid point wrote.
-/

@[expose] public section

set_option maxRecDepth 16896

noncomputable section

namespace Cert.Hand.MlIn

open Cert.Kernel7Ideal Cert.Kernel7Ideal.Gen Cert.Kernel7Ideal.Run
open Idealize.ShloMosaic Idealize.ShloMosaic.TcCoe Idealize.SL.Sem

variable {F : FTy → Type} [FloatOps F]
variable (m : (ℓ : Loc nD τ sig) → Buf (Elt F) ℓ)

/-- Each block of a result is what its grid point left. -/
theorem blocks16 (c : Dev nD) (t : Fin cfg0.N) :
    ((cfg0.win 16).blk t).view.read (Elt F) ((dats m 0 c).arrAt 16 cfg0.N) = (cfg0.win 16).cut (grid0.coords t) (out16 m c t) := by
  have inj : ∀ t t' : Fin cfg0.N, win0_16.index t = win0_16.index t' → t = t' :=
    (by decide +kernel : ∀ t t' : Fin grid0.N, win0_16.index t = win0_16.index t' → t = t')
  refine ((dats m 0 c).read_blk_arrAt_eq_flushed 16 (fun t t' _ _ hne => (cfg0.win 16).disjoint_blk fun h => hne (inj t t' h)) cfg0.N t t.isLt (flush0_16 t)).trans ?_
  show (cfg0.win 16).cut (grid0.coords t) ((dats m 0 c).after 16 t) = _
  rw [after0_16]

theorem blocks17 (c : Dev nD) (t : Fin cfg0.N) :
    ((cfg0.win 17).blk t).view.read (Elt F) ((dats m 0 c).arrAt 17 cfg0.N) = (cfg0.win 17).cut (grid0.coords t) (out17 m c t) := by
  have inj : ∀ t t' : Fin cfg0.N, win0_17.index t = win0_17.index t' → t = t' :=
    (by decide +kernel : ∀ t t' : Fin grid0.N, win0_17.index t = win0_17.index t' → t = t')
  refine ((dats m 0 c).read_blk_arrAt_eq_flushed 17 (fun t t' _ _ hne => (cfg0.win 17).disjoint_blk fun h => hne (inj t t' h)) cfg0.N t t.isLt (flush0_17 t)).trans ?_
  show (cfg0.win 17).cut (grid0.coords t) ((dats m 0 c).after 17 t) = _
  rw [after0_17]

theorem blocks18 (c : Dev nD) (t : Fin cfg0.N) :
    ((cfg0.win 18).blk t).view.read (Elt F) ((dats m 0 c).arrAt 18 cfg0.N) = (cfg0.win 18).cut (grid0.coords t) (out18 m c t) := by
  have inj : ∀ t t' : Fin cfg0.N, win0_18.index t = win0_18.index t' → t = t' :=
    (by decide +kernel : ∀ t t' : Fin grid0.N, win0_18.index t = win0_18.index t' → t = t')
  refine ((dats m 0 c).read_blk_arrAt_eq_flushed 18 (fun t t' _ _ hne => (cfg0.win 18).disjoint_blk fun h => hne (inj t t' h)) cfg0.N t t.isLt (flush0_18 t)).trans ?_
  show (cfg0.win 18).cut (grid0.coords t) ((dats m 0 c).after 18 t) = _
  rw [after0_18]

theorem blocks19 (c : Dev nD) (t : Fin cfg0.N) :
    ((cfg0.win 19).blk t).view.read (Elt F) ((dats m 0 c).arrAt 19 cfg0.N) = (cfg0.win 19).cut (grid0.coords t) (out19 m c t) := by
  have inj : ∀ t t' : Fin cfg0.N, win0_19.index t = win0_19.index t' → t = t' :=
    (by decide +kernel : ∀ t t' : Fin grid0.N, win0_19.index t = win0_19.index t' → t = t')
  refine ((dats m 0 c).read_blk_arrAt_eq_flushed 19 (fun t t' _ _ hne => (cfg0.win 19).disjoint_blk fun h => hne (inj t t' h)) cfg0.N t t.isLt (flush0_19 t)).trans ?_
  show (cfg0.win 19).cut (grid0.coords t) ((dats m 0 c).after 19 t) = _
  rw [after0_19]

theorem blocks20 (c : Dev nD) (t : Fin cfg0.N) :
    ((cfg0.win 20).blk t).view.read (Elt F) ((dats m 0 c).arrAt 20 cfg0.N) = (cfg0.win 20).cut (grid0.coords t) (out20 m c t) := by
  have inj : ∀ t t' : Fin cfg0.N, win0_20.index t = win0_20.index t' → t = t' :=
    (by decide +kernel : ∀ t t' : Fin grid0.N, win0_20.index t = win0_20.index t' → t = t')
  refine ((dats m 0 c).read_blk_arrAt_eq_flushed 20 (fun t t' _ _ hne => (cfg0.win 20).disjoint_blk fun h => hne (inj t t' h)) cfg0.N t t.isLt (flush0_20 t)).trans ?_
  show (cfg0.win 20).cut (grid0.coords t) ((dats m 0 c).after 20 t) = _
  rw [after0_20]

theorem blocks21 (c : Dev nD) (t : Fin cfg0.N) :
    ((cfg0.win 21).blk t).view.read (Elt F) ((dats m 0 c).arrAt 21 cfg0.N) = (cfg0.win 21).cut (grid0.coords t) (out21 m c t) := by
  have inj : ∀ t t' : Fin cfg0.N, win0_21.index t = win0_21.index t' → t = t' :=
    (by decide +kernel : ∀ t t' : Fin grid0.N, win0_21.index t = win0_21.index t' → t = t')
  refine ((dats m 0 c).read_blk_arrAt_eq_flushed 21 (fun t t' _ _ hne => (cfg0.win 21).disjoint_blk fun h => hne (inj t t' h)) cfg0.N t t.isLt (flush0_21 t)).trans ?_
  show (cfg0.win 21).cut (grid0.coords t) ((dats m 0 c).after 21 t) = _
  rw [after0_21]

theorem blocks22 (c : Dev nD) (t : Fin cfg0.N) :
    ((cfg0.win 22).blk t).view.read (Elt F) ((dats m 0 c).arrAt 22 cfg0.N) = (cfg0.win 22).cut (grid0.coords t) (out22 m c t) := by
  have inj : ∀ t t' : Fin cfg0.N, win0_22.index t = win0_22.index t' → t = t' :=
    (by decide +kernel : ∀ t t' : Fin grid0.N, win0_22.index t = win0_22.index t' → t = t')
  refine ((dats m 0 c).read_blk_arrAt_eq_flushed 22 (fun t t' _ _ hne => (cfg0.win 22).disjoint_blk fun h => hne (inj t t' h)) cfg0.N t t.isLt (flush0_22 t)).trans ?_
  show (cfg0.win 22).cut (grid0.coords t) ((dats m 0 c).after 22 t) = _
  rw [after0_22]

/-- After the run each result's array is what the grid points left. -/
theorem post16 (r : PUnit × MemSt nD τ sig (Elt F)) (h : Pipeline.FramePost cfgs (dats m) 0 (V m) r) (c : Dev nD) :
    r.2.mem ((c : Thread nD τ).loc main_v47_0) = (dats m 0 c).arrAt 16 cfg0.N :=
  (h c).1 16

theorem post17 (r : PUnit × MemSt nD τ sig (Elt F)) (h : Pipeline.FramePost cfgs (dats m) 0 (V m) r) (c : Dev nD) :
    r.2.mem ((c : Thread nD τ).loc main_v47_1) = (dats m 0 c).arrAt 17 cfg0.N :=
  (h c).1 17

theorem post18 (r : PUnit × MemSt nD τ sig (Elt F)) (h : Pipeline.FramePost cfgs (dats m) 0 (V m) r) (c : Dev nD) :
    r.2.mem ((c : Thread nD τ).loc main_v47_2) = (dats m 0 c).arrAt 18 cfg0.N :=
  (h c).1 18

theorem post19 (r : PUnit × MemSt nD τ sig (Elt F)) (h : Pipeline.FramePost cfgs (dats m) 0 (V m) r) (c : Dev nD) :
    r.2.mem ((c : Thread nD τ).loc main_v47_3) = (dats m 0 c).arrAt 19 cfg0.N :=
  (h c).1 19

theorem post20 (r : PUnit × MemSt nD τ sig (Elt F)) (h : Pipeline.FramePost cfgs (dats m) 0 (V m) r) (c : Dev nD) :
    r.2.mem ((c : Thread nD τ).loc main_v47_4) = (dats m 0 c).arrAt 20 cfg0.N :=
  (h c).1 20

theorem post21 (r : PUnit × MemSt nD τ sig (Elt F)) (h : Pipeline.FramePost cfgs (dats m) 0 (V m) r) (c : Dev nD) :
    r.2.mem ((c : Thread nD τ).loc main_v47_5) = (dats m 0 c).arrAt 21 cfg0.N :=
  (h c).1 21

theorem post22 (r : PUnit × MemSt nD τ sig (Elt F)) (h : Pipeline.FramePost cfgs (dats m) 0 (V m) r) (c : Dev nD) :
    r.2.mem ((c : Thread nD τ).loc main_v47_6) = (dats m 0 c).arrAt 22 cfg0.N :=
  (h c).1 22

/-- After the run each argument is as it was. -/
theorem kept0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

theorem kept1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 3).trans (((dats m 0 c).arrAt_in 3 rfl _).trans ((A_eq m c 3).trans (V_main_arg1 m c)))

theorem kept2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 11).trans (((dats m 0 c).arrAt_in 11 rfl _).trans ((A_eq m c 11).trans (V_main_arg5 m c)))

theorem kept6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

theorem kept9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- The kernel's run: its results' arrays, and the arguments as they were. -/
theorem run_blocks (ρ : Dev nD → PrngReg) : θ_run defs (onTc (τ := τ) (main (F := F))) ⟨m, fun _ => 0, ρ⟩ fun r => ∀ c : Dev nD,
      r.2.mem ((c : Thread nD τ).loc main_v47_0) = (dats m 0 c).arrAt 16 cfg0.N
      ∧ r.2.mem ((c : Thread nD τ).loc main_v47_1) = (dats m 0 c).arrAt 17 cfg0.N
      ∧ r.2.mem ((c : Thread nD τ).loc main_v47_2) = (dats m 0 c).arrAt 18 cfg0.N
      ∧ r.2.mem ((c : Thread nD τ).loc main_v47_3) = (dats m 0 c).arrAt 19 cfg0.N
      ∧ r.2.mem ((c : Thread nD τ).loc main_v47_4) = (dats m 0 c).arrAt 20 cfg0.N
      ∧ r.2.mem ((c : Thread nD τ).loc main_v47_5) = (dats m 0 c).arrAt 21 cfg0.N
      ∧ r.2.mem ((c : Thread nD τ).loc main_v47_6) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨post16 m r h c, post17 m r h c, post18 m r h c, post19 m r h c, post20 m r h c, post21 m r h c, post22 m r h c,
      kept0 m r h c, kept1 m r h c, kept2 m r h c, kept3 m r h c, kept4 m r h c, kept5 m r h c, kept6 m r h c, kept7 m r h c, kept8 m r h c, kept9 m r h c⟩) (run_main m ρ)

end Cert.Hand.MlIn

end
-- ==== Proof.MlValue.lean ====
module

public import proofs.«01_k».proof.Proof.MlTile
public import proofs.«01_k».proof.Proof.MlFlow

/-!
# The projection's results

The arrays the kernel leaves, at an element, in the arguments.
-/

@[expose] public section

set_option maxRecDepth 16896

noncomputable section

namespace Cert.Hand.MlIn

open Cert.Kernel7Ideal Cert.Kernel7Ideal.Gen Cert.Kernel7Ideal.Run Cert.Hand.Mlp Cert.Hand.Map
open Idealize.ShloMosaic Idealize.ShloMosaic.TcCoe Idealize.SL.Sem

/-- The tile row `r` is of. -/
def tileOf (r : Fin 16896) : Fin cfg0.N := ⟨r.val / 256, by rw [show cfg0.N = 66 from N_0]; omega⟩

/-- The place of row `r` in its tile. -/
def placeOf (r : Fin 16896) : Fin 256 := ⟨r.val % 256, by omega⟩

theorem rowAt_tile (r : Fin 16896) : rowAt (tileOf r) (placeOf r) = r := Fin.ext (by show r.val / 256 * 256 + r.val % 256 = r.val; omega)

variable (m : (ℓ : Loc nD τ sig) → Buf (Elt Ideal) ℓ) (c : Dev nD)

theorem read_16 (A : FVec Ideal S16896x2048 .bf16) (t : Fin cfg0.N) (i : Fin 256) (k : Fin 2048) :
    ((cfg0.win 16).blk t).view.read (Elt Ideal) A (ix2 i k) = A (ix2 (rowAt t i) k) :=
  congrArg A (emb2 _ _ (congrArg (· * 256) (index_out t).1.1) (congrArg (· * 2048) (index_out t).1.2) i k _ _ rfl (by omega))

theorem read_17 (A : FVec Ideal S16896x2048 .bf16) (t : Fin cfg0.N) (i : Fin 256) (k : Fin 2048) :
    ((cfg0.win 17).blk t).view.read (Elt Ideal) A (ix2 i k) = A (ix2 (rowAt t i) k) :=
  congrArg A (emb2 _ _ (congrArg (· * 256) (index_out t).2.1.1) (congrArg (· * 2048) (index_out t).2.1.2) i k _ _ rfl (by omega))

theorem read_18 (A : FVec Ideal S16896x2048 .bf16) (t : Fin cfg0.N) (i : Fin 256) (k : Fin 2048) :
    ((cfg0.win 18).blk t).view.read (Elt Ideal) A (ix2 i k) = A (ix2 (rowAt t i) k) :=
  congrArg A (emb2 _ _ (congrArg (· * 256) (index_out t).2.2.1.1) (congrArg (· * 2048) (index_out t).2.2.1.2) i k _ _ rfl (by omega))

theorem read_19 (A : FVec Ideal S16896x2048 .f32) (t : Fin cfg0.N) (i : Fin 256) (k : Fin 2048) :
    ((cfg0.win 19).blk t).view.read (Elt Ideal) A (ix2 i k) = A (ix2 (rowAt t i) k) :=
  congrArg A (emb2 _ _ (congrArg (· * 256) (index_out t).2.2.2.1.1) (congrArg (· * 2048) (index_out t).2.2.2.1.2) i k _ _ rfl (by omega))

theorem read_20 (A : FVec Ideal S16896x2048 .f32) (t : Fin cfg0.N) (i : Fin 256) (k : Fin 2048) :
    ((cfg0.win 20).blk t).view.read (Elt Ideal) A (ix2 i k) = A (ix2 (rowAt t i) k) :=
  congrArg A (emb2 _ _ (congrArg (· * 256) (index_out t).2.2.2.2.1.1) (congrArg (· * 2048) (index_out t).2.2.2.2.1.2) i k _ _ rfl (by omega))

theorem read_21 (A : FVec Ideal S16896x128 .f32) (t : Fin cfg0.N) (i : Fin 256) (k : Fin 128) :
    ((cfg0.win 21).blk t).view.read (Elt Ideal) A (ix2 i k) = A (ix2 (rowAt t i) k) :=
  congrArg A (emb2 _ _ (congrArg (· * 256) (index_out t).2.2.2.2.2.1.1) (congrArg (· * 128) (index_out t).2.2.2.2.2.1.2) i k _ _ rfl (by omega))

theorem read_22 (A : FVec Ideal S16x16896 .f32) (t : Fin cfg0.N) (j : Fin 16) (i : Fin 256) :
    ((cfg0.win 22).blk t).view.read (Elt Ideal) A (ix2 j i) = A (ix2 j (rowAt t i)) :=
  congrArg A (emb2 _ _ (congrArg (· * 16) (index_out t).2.2.2.2.2.2.1) (congrArg (· * 256) (index_out t).2.2.2.2.2.2.2) j i _ _ (by omega) rfl)

theorem value_q (r : Fin 16896) (k : Fin 2048) : ((dats m 0 c).arrAt 16 cfg0.N : FVec Ideal S16896x2048 .bf16) (ix2 r k) = (args m c).q r k := by
  have h := (read_16 ((dats m 0 c).arrAt 16 cfg0.N) (tileOf r) (placeOf r) k).symm.trans
    ((congrFun (blocks16 m c (tileOf r)) (ix2 (placeOf r) k)).trans (out16_at m c (tileOf r) (placeOf r) k))
  rwa [rowAt_tile] at h

theorem value_k (r : Fin 16896) (k : Fin 2048) : ((dats m 0 c).arrAt 17 cfg0.N : FVec Ideal S16896x2048 .bf16) (ix2 r k) = (args m c).k r k := by
  have h := (read_17 ((dats m 0 c).arrAt 17 cfg0.N) (tileOf r) (placeOf r) k).symm.trans
    ((congrFun (blocks17 m c (tileOf r)) (ix2 (placeOf r) k)).trans (out17_at m c (tileOf r) (placeOf r) k))
  rwa [rowAt_tile] at h

theorem value_v (r : Fin 16896) (k : Fin 2048) : ((dats m 0 c).arrAt 18 cfg0.N : FVec Ideal S16896x2048 .bf16) (ix2 r k) = (args m c).v r k := by
  have h := (read_18 ((dats m 0 c).arrAt 18 cfg0.N) (tileOf r) (placeOf r) k).symm.trans
    ((congrFun (blocks18 m c (tileOf r)) (ix2 (placeOf r) k)).trans (out18_at m c (tileOf r) (placeOf r) k))
  rwa [rowAt_tile] at h

theorem value_o (r : Fin 16896) (k : Fin 2048) : ((dats m 0 c).arrAt 19 cfg0.N : FVec Ideal S16896x2048 .f32) (ix2 r k) = (args m c).o r k := by
  have h := (read_19 ((dats m 0 c).arrAt 19 cfg0.N) (tileOf r) (placeOf r) k).symm.trans
    ((congrFun (blocks19 m c (tileOf r)) (ix2 (placeOf r) k)).trans (out19_at m c (tileOf r) (placeOf r) k))
  rwa [rowAt_tile] at h

theorem value_xc (r : Fin 16896) (k : Fin 2048) : ((dats m 0 c).arrAt 20 cfg0.N : FVec Ideal S16896x2048 .f32) (ix2 r k) = (args m c).xc r k := by
  have h := (read_20 ((dats m 0 c).arrAt 20 cfg0.N) (tileOf r) (placeOf r) k).symm.trans
    ((congrFun (blocks20 m c (tileOf r)) (ix2 (placeOf r) k)).trans (out20_at m c (tileOf r) (placeOf r) k))
  rwa [rowAt_tile] at h

theorem value_gc (r : Fin 16896) (j : Fin 128) : ((dats m 0 c).arrAt 21 cfg0.N : FVec Ideal S16896x128 .f32) (ix2 r j)
    = if h : j.val < 16 then (args m c).gates r ⟨j.val, h⟩ else 0 := by
  have h := (read_21 ((dats m 0 c).arrAt 21 cfg0.N) (tileOf r) (placeOf r) j).symm.trans
    ((congrFun (blocks21 m c (tileOf r)) (ix2 (placeOf r) j)).trans (out21_at m c (tileOf r) (placeOf r) j))
  rwa [rowAt_tile] at h

theorem value_gr (j : Fin 16) (r : Fin 16896) : ((dats m 0 c).arrAt 22 cfg0.N : FVec Ideal S16x16896 .f32) (ix2 j r) = (args m c).gates r j := by
  have h := (read_22 ((dats m 0 c).arrAt 22 cfg0.N) (tileOf r) j (placeOf r)).symm.trans
    ((congrFun (blocks22 m c (tileOf r)) (ix2 j (placeOf r))).trans (out22_at m c (tileOf r) j (placeOf r)))
  rwa [rowAt_tile] at h

end Cert.Hand.MlIn

end
-- ==== Proof.MlIn.lean ====
module

public import proofs.«01_k».proof.Defs
public import proofs.«01_k».proof.Proof.MlInRef
public import proofs.«01_k».proof.Proof.MlValue

/-!
# The value claim of the projection into the mixer's inputs

The kernel's results are the reference's, element by element.
-/

@[expose] public section

set_option maxRecDepth 16384

noncomputable section

namespace Cert.Hand.MlIn

open Idealize.ShloMosaic Idealize.ShloMosaic.TcCoe Idealize.SL.Sem Cert.Hand.Mlp Cert.Hand.Map
open Cert.Kernel7Ideal.Gen

variable (m : (ℓ : Loc Cert.Kernel7Ideal.nD Cert.Kernel7Ideal.τ Cert.Kernel7Ideal.sig) → Buf (Elt Ideal) ℓ)
  (c : Dev Cert.Kernel7Ideal.nD)

open Cert.Kernel7Ideal in
theorem same_q : truncf .bf16 (both (ctxDiag (ctxC (args m c)) (args m c).wq) (latDiag (latC (args m c)) (args m c).wq)) Cert.Reference7Ideal.Gen.bitsLt_bf16_f32
    = ((Run.dats m 0 c).arrAt 16 cfg0.N : FVec Ideal S16896x2048 .bf16) :=
  ext2 fun r k => (ref_q (args m c) r k).trans (value_q m c r k).symm

open Cert.Kernel7Ideal in
theorem same_k : truncf .bf16 (both (ctxScale (ctxDiag (ctxC (args m c)) (args m c).wk)) (latScale (latDiag (latC (args m c)) (args m c).wk)))
    Cert.Reference7Ideal.Gen.bitsLt_bf16_f32 = ((Run.dats m 0 c).arrAt 17 cfg0.N : FVec Ideal S16896x2048 .bf16) :=
  ext2 fun r k => (ref_k (args m c) r k).trans (value_k m c r k).symm

open Cert.Kernel7Ideal in
theorem same_v : truncf .bf16 (both (ctxDiag (ctxXm (ctxU (args m c))) (args m c).wv) (latDiag (latXm (latU (args m c))) (args m c).wv))
    Cert.Reference7Ideal.Gen.bitsLt_bf16_f32 = ((Run.dats m 0 c).arrAt 18 cfg0.N : FVec Ideal S16896x2048 .bf16) :=
  ext2 fun r k => (ref_v (args m c) r k).trans (value_v m c r k).symm

open Cert.Kernel7Ideal in
theorem same_o : both (ctxO (ctxU (args m c))) (latO (latU (args m c))) = ((Run.dats m 0 c).arrAt 19 cfg0.N : FVec Ideal S16896x2048 .f32) :=
  ext2 fun r k => (ref_o (args m c) r k).trans (value_o m c r k).symm

open Cert.Kernel7Ideal in
theorem same_xc : both (ctxC (args m c)) (latC (args m c)) = ((Run.dats m 0 c).arrAt 20 cfg0.N : FVec Ideal S16896x2048 .f32) :=
  ext2 fun r k => (ref_xc (args m c) r k).trans (value_xc m c r k).symm

open Cert.Kernel7Ideal in
theorem same_gc : pad S16896x128 ![0, 0] ![0, 112] ![0, 0] (allGates (args m c)) (sitofp .f32 (constantI Cert.Reference7Ideal.S_ 32 0#32))
      Cert.Reference7Ideal.Gen.pads_S16896x16_S16896x128_000_01120 Cert.Reference7Ideal.Gen.h_S_
    = ((Run.dats m 0 c).arrAt 21 cfg0.N : FVec Ideal S16896x128 .f32) :=
  ext2 fun r j => (ref_gc (args m c) r j).trans (value_gc m c r j).symm

open Cert.Kernel7Ideal in
theorem same_gr : transpose S16x16896 [1, 0] (allGates (args m c)) Cert.Reference7Ideal.Gen.transposes_S16896x16_S16x16896_1_0
    = ((Run.dats m 0 c).arrAt 22 cfg0.N : FVec Ideal S16x16896 .f32) :=
  ext2 fun j r => (ref_gr (args m c) r j).trans (value_gr m c j r).symm

theorem algebraic_ml : @Cert.algebraic_Kernel7Ideal_Reference7Ideal Cert.Kernel7Ideal.Gen.facts Cert.Reference7Ideal.Gen.facts := by
  intro m g m' g' _ hm
  refine ⟨fun c => (Cert.Kernel7Ideal.Run.dats m 0 c).arrAt 16 Cert.Kernel7Ideal.cfg0.N, fun c => (Cert.Kernel7Ideal.Run.dats m 0 c).arrAt 17 Cert.Kernel7Ideal.cfg0.N,
    fun c => (Cert.Kernel7Ideal.Run.dats m 0 c).arrAt 18 Cert.Kernel7Ideal.cfg0.N, fun c => (Cert.Kernel7Ideal.Run.dats m 0 c).arrAt 19 Cert.Kernel7Ideal.cfg0.N,
    fun c => (Cert.Kernel7Ideal.Run.dats m 0 c).arrAt 20 Cert.Kernel7Ideal.cfg0.N, fun c => (Cert.Kernel7Ideal.Run.dats m 0 c).arrAt 21 Cert.Kernel7Ideal.cfg0.N,
    fun c => (Cert.Kernel7Ideal.Run.dats m 0 c).arrAt 22 Cert.Kernel7Ideal.cfg0.N, run_blocks m g, ?_⟩
  refine (θ_run _ _ _).mono (fun r h c => ?_) (run_terms m' g')
  obtain ⟨h0, h1, h2, h3, h4, h5, h6, hk⟩ := h c
  obtain ⟨a0, a1, a2, a3, a4, a5, a6, a7, a8, a9⟩ := hm c
  have e : refArgs m' c = args m c := by unfold refArgs args; congr 1
  rw [e] at h0 h1 h2 h3 h4 h5 h6
  exact ⟨h0.trans (same_q m c), h1.trans (same_k m c), h2.trans (same_v m c), h3.trans (same_o m c), h4.trans (same_xc m c),
    h5.trans (same_gc m c), h6.trans (same_gr m c), hk⟩

end Cert.Hand.MlIn

end
-- ==== Proof.Spec.lean ====
module

public import Idealize.ShloMosaic.Lib.Pointwise

/-!
# The recurrence of one head, over the reals

One chunk of 128 positions of one head: what it gives at each position, and the state it leaves. The positions are in
the order in which the recurrence meets them.
-/

@[expose] public section

noncomputable section

namespace Cert.Hand.Spec

open Idealize.ShloMosaic

/-- The word of minus infinity. -/
abbrev negInf : EReal := Ideal.ofBits .f32 0xFF800000#32

/-- The absolute value of the programs. -/
abbrev absE (x : EReal) : EReal := FloatOps.absf (F := Ideal) (φ := .f32) x

/-- One head's inputs of one chunk. The gates come twice: at the queries (`ic`, `bc`) and at the keys (`ir`, `br`). -/
structure Chunk where
  /-- queries -/
  q : Fin 128 → Fin 512 → EReal
  /-- keys -/
  k : Fin 128 → Fin 512 → EReal
  /-- values -/
  v : Fin 128 → Fin 512 → EReal
  /-- input gate, at the queries -/
  ic : Fin 128 → EReal
  /-- summed forget gate, at the queries -/
  bc : Fin 128 → EReal
  /-- input gate, at the keys -/
  ir : Fin 128 → EReal
  /-- summed forget gate, at the keys -/
  br : Fin 128 → EReal

/-- One head's state: matrix memory, normalizer and stabilizer. -/
@[ext] structure St where
  /-- matrix memory -/
  C : Fin 512 → Fin 512 → EReal
  /-- normalizer -/
  n : Fin 512 → EReal
  /-- stabilizer -/
  m : EReal

/-- The state before the first chunk. -/
def St.zero : St := ⟨fun _ _ => 0, fun _ => 0, 0⟩

variable (X : Chunk) (S : St)

/-- The masked log weight of key `j` for query `i`. -/
def logW (i j : Fin 128) : EReal := if j ≤ i then X.bc i - X.br j + X.ir j else negInf

/-- The log weight of the carried state. -/
def logPrev (i : Fin 128) : EReal := X.bc i + S.m

/-- The running maximum. -/
def mRow (i : Fin 128) : EReal := max (logPrev X S i) (Finset.univ.fold max negInf fun j => logW X i j)

/-- The weight of the carried state. -/
def wPrev (i : Fin 128) : EReal := Ideal.exp (logPrev X S i - mRow X S i)

/-- The weighted score of key `j` for query `i`. -/
def s (i j : Fin 128) : EReal := (∑ d : Fin 512, X.q i d * X.k j d) * Ideal.exp (logW X i j - mRow X S i)

/-- The numerator. -/
def num (i : Fin 128) (a : Fin 512) : EReal :=
  ∑ j : Fin 128, s X S i j * X.v j a + wPrev X S i * ∑ d : Fin 512, X.q i d * S.C d a

/-- The normalizer of a query. -/
def den (i : Fin 128) : EReal := ∑ j : Fin 128, s X S i j + wPrev X S i * ∑ d : Fin 512, X.q i d * S.n d

/-- The head's result. -/
def h (i : Fin 128) (a : Fin 512) : EReal := Ideal.div (num X S i a) (max (absE (den X S i)) (Ideal.exp (-mRow X S i)))

/-- The log weight of a key in the new state. -/
def logK (i : Fin 128) : EReal := X.bc 127 - X.bc i + X.ic i

/-- The new stabilizer. -/
def mNew : EReal := max (X.bc 127 + S.m) (Finset.univ.fold max negInf fun i => logK X i)

/-- The weight of a key in the new state. -/
def wK (i : Fin 128) : EReal := Ideal.exp (logK X i - mNew X S)

/-- The weight of the old state in the new one. -/
def wC : EReal := Ideal.exp (X.bc 127 + S.m - mNew X S)

/-- The state after the chunk. -/
def next : St where
  C a b := wC X S * S.C a b + ∑ j : Fin 128, X.k j a * wK X S j * X.v j b
  n a := wC X S * S.n a + ∑ j : Fin 128, X.k j a * wK X S j
  m := mNew X S

/-- The state after the first `i` chunks of a sequence. -/
def state (X : ℕ → Chunk) : ℕ → St
  | 0 => St.zero
  | i + 1 => next (X i) (state X i)

end Cert.Hand.Spec

end
-- ==== Proof.RefStep.lean ====
module

public import Idealize.ShloMosaic.Lib.Pointwise
public import proofs.«01_k».proof.Proof.Spec
public import proofs.«01_k».proof.Proof.Gen.ReferenceIdeal.Run

/-!
# One step of the reference's scan

The operations of the scan's body over plain vectors (four sequences of four heads), and what each gives at an element:
one step of the recurrence.
-/

@[expose] public section

set_option maxRecDepth 16384

noncomputable section

namespace Cert.Hand

open Cert.ReferenceIdeal Cert.ReferenceIdeal.Gen Idealize.ShloMosaic Idealize.ShloMosaic.TcCoe Idealize.SL.Sem
open Idealize.ShloMosaic.Tactic

/-- What one step of the scan reads: a chunk of each input and the carried state. -/
structure RIn (F : FTy → Type) [FloatOps F] where
  /-- queries -/
  q : FVec F S4x4x128x512 .f32
  /-- keys -/
  k : FVec F S4x4x128x512 .f32
  /-- values -/
  v : FVec F S4x4x128x512 .f32
  /-- input gates at the queries -/
  iq : FVec F S4x4x128 .f32
  /-- summed forget gates at the queries -/
  bq : FVec F S4x4x128 .f32
  /-- input gates at the keys -/
  ik : FVec F S4x4x128 .f32
  /-- summed forget gates at the keys -/
  bk : FVec F S4x4x128 .f32
  /-- the triangular mask -/
  tri : IVec S128x128 1
  /-- matrix memories -/
  C : FVec F S4x4x512x512 .f32
  /-- normalizers -/
  n : FVec F S4x4x512 .f32
  /-- stabilizers -/
  m : FVec F S4x4 .f32

namespace RIn

variable {F : FTy → Type} [FloatOps F]

/-- A value per position, spread over the columns of a 128×128 tile. -/
def rowsOf (x : FVec F S4x4x128 .f32) : FVec F S4x4x128x128 .f32 :=
  broadcastInDim S4x4x128x128 ![0, 1, 2, 3] bcast_S4x4x128x1_S4x4x128x128_0_1_2_3
    (broadcastInDim S4x4x128x1 ![0, 1, 2] bcast_S4x4x128_S4x4x128x1_0_1_2 x)

/-- A value per position, spread over the rows of a 128×128 tile. -/
def colsOf (x : FVec F S4x4x128 .f32) : FVec F S4x4x128x128 .f32 :=
  broadcastInDim S4x4x128x128 ![0, 1, 2, 3] bcast_S4x4x1x128_S4x4x128x128_0_1_2_3
    (broadcastInDim S4x4x1x128 ![0, 1, 3] bcast_S4x4x128_S4x4x1x128_0_1_3 x)

/-- A value per position, spread over its 512 components. -/
def wide (x : FVec F S4x4x128 .f32) : FVec F S4x4x128x512 .f32 :=
  broadcastInDim S4x4x128x512 ![0, 1, 2, 3] bcast_S4x4x128x1_S4x4x128x512_0_1_2_3
    (broadcastInDim S4x4x128x1 ![0, 1, 2] bcast_S4x4x128_S4x4x128x1_0_1_2 x)

/-- A value per head, at each position. -/
def long (x : FVec F S4x4 .f32) : FVec F S4x4x128 .f32 :=
  broadcastInDim S4x4x128 ![0, 1, 2] bcast_S4x4x1_S4x4x128_0_1_2 (broadcastInDim S4x4x1 ![0, 1] bcast_S4x4_S4x4x1_0_1 x)

variable (X : RIn F)

/-- The masked log weights. -/
def logW : FVec F S4x4x128x128 .f32 :=
  select (broadcastInDim S4x4x128x128 ![2, 3] bcast_S128x128_S4x4x128x128_2_3 X.tri)
    (addf (subf (rowsOf X.bq) (colsOf X.bk)) (colsOf X.ik))
    (broadcastInDim S4x4x128x128 ![] bcast_S_S4x4x128x128 (constant S_ .f32 0xFF800000#32))

/-- The log weight of the carried state. -/
def logPrev : FVec F S4x4x128 .f32 := addf X.bq (long X.m)

/-- The running maximum. -/
def mRow : FVec F S4x4x128 .f32 :=
  maximumf X.logPrev (Host.reduce FloatOps.maximumf X.logW (constant S_ .f32 0xFF800000#32) reducesTo_S4x4x128x128_S4x4x128_d3 h_S_)

/-- The weight of the carried state. -/
def wPrev : FVec F S4x4x128 .f32 := Host.exp (subf X.logPrev X.mRow)

/-- The weighted scores. -/
def s : FVec F S4x4x128x128 .f32 :=
  mulf (Host.dotGeneral dot_S4x4x128x512_S4x4x128x512_S4x4x128x128_3_3_2_2_01_01 none X.q X.k) (Host.exp (subf X.logW (rowsOf X.mRow)))

/-- The last summed forget gate. -/
def bLast : FVec F S4x4 .f32 :=
  shapeCast S4x4 (extractStridedSlice S4x4x1 ![0, 0, 127] X.bq slices_S4x4x128_S4x4x1_0_0_127) shapeCasts_S4x4x1_S4x4

/-- The log weight of each key in the new state. -/
def logK : FVec F S4x4x128 .f32 := addf (subf (long X.bLast) X.bq) X.iq

/-- The new stabilizer. -/
def mNew : FVec F S4x4 .f32 :=
  maximumf (addf X.bLast X.m) (Host.reduce FloatOps.maximumf X.logK (constant S_ .f32 0xFF800000#32) reducesTo_S4x4x128_S4x4_d2 h_S_)

/-- The weight of each key in the new state. -/
def wK : FVec F S4x4x128 .f32 := Host.exp (subf X.logK (long X.mNew))

/-- The weight of the old state. -/
def wC : FVec F S4x4 .f32 := Host.exp (subf (addf X.bLast X.m) X.mNew)

/-- The new matrix memory. -/
def cNew : FVec F S4x4x512x512 .f32 :=
  addf (mulf (broadcastInDim S4x4x512x512 ![0, 1, 2, 3] bcast_S4x4x1x1_S4x4x512x512_0_1_2_3
      (broadcastInDim S4x4x1x1 ![0, 1] bcast_S4x4_S4x4x1x1_0_1 X.wC)) X.C)
    (Host.dotGeneral dot_S4x4x128x512_S4x4x128x512_S4x4x512x512_2_2_3_3_01_01 none (mulf X.k (wide X.wK)) X.v)

/-- The new normalizer. -/
def nNew : FVec F S4x4x512 .f32 :=
  addf (mulf (broadcastInDim S4x4x512 ![0, 1, 2] bcast_S4x4x1_S4x4x512_0_1_2 (broadcastInDim S4x4x1 ![0, 1] bcast_S4x4_S4x4x1_0_1 X.wC)) X.n)
    (Host.dotGeneral dot_S4x4x128_S4x4x128x512_S4x4x512_2_2_n_3_01_01 none X.wK X.k)

/-- The numerator. -/
def num : FVec F S4x4x128x512 .f32 :=
  addf (Host.dotGeneral dot_S4x4x128x128_S4x4x128x512_S4x4x128x512_3_2_2_3_01_01 none X.s X.v)
    (mulf (wide X.wPrev) (Host.dotGeneral dot_S4x4x128x512_S4x4x512x512_S4x4x128x512_3_2_2_3_01_01 none X.q X.C))

/-- The normalizer of each query. -/
def den : FVec F S4x4x128 .f32 :=
  addf (Host.reduceAdd X.s (constant S_ .f32 0x00000000#32) reducesTo_S4x4x128x128_S4x4x128_d3 h_S_)
    (mulf X.wPrev (Host.dotGeneral dot_S4x4x128x512_S4x4x512_S4x4x128_3_2_2_n_01_01 none X.q X.n))

/-- The results of the chunk. -/
def h : FVec F S4x4x128x512 .f32 :=
  Host.divf X.num (wide (maximumf (Host.absf X.den) (Host.exp (Host.negf X.mRow))))

end RIn

namespace RIn

variable (X : RIn Ideal)

/-- Head `h` of sequence `p` of the chunk. -/
def chunk (p h : Fin 4) : Spec.Chunk where
  q i d := X.q (ix4 p h i d)
  k i d := X.k (ix4 p h i d)
  v i d := X.v (ix4 p h i d)
  ic i := X.iq (ix3 p h i)
  bc i := X.bq (ix3 p h i)
  ir i := X.ik (ix3 p h i)
  br i := X.bk (ix3 p h i)

/-- The state of that head. -/
def st (p h : Fin 4) : Spec.St where
  C a b := X.C (ix4 p h a b)
  n a := X.n (ix3 p h a)
  m := X.m (ix2 p h)

variable {X} (ht : ∀ i j, X.tri (ix2 i j) = if j ≤ i then 1 else 0) (p h : Fin 4)

theorem logPrev_at (i : Fin 128) : X.logPrev (ix3 p h i) = Spec.logPrev (X.chunk p h) (X.st p h) i := by
  pointwise [logPrev, long]
  rfl

include ht

theorem logW_at (i j : Fin 128) : X.logW (ix4 p h i j) = Spec.logW (X.chunk p h) i j := by
  pointwise [logW, rowsOf, colsOf]
  rw [ht]
  by_cases h : j ≤ i <;> simp [Spec.logW, chunk, h, Scalar.select]

theorem mRow_at (i : Fin 128) : X.mRow (ix3 p h i) = Spec.mRow (X.chunk p h) (X.st p h) i := by
  pointwise [mRow]
  simp only [logW_at ht, logPrev_at]
  rfl

theorem wPrev_at (i : Fin 128) : X.wPrev (ix3 p h i) = Spec.wPrev (X.chunk p h) (X.st p h) i := by
  pointwise [wPrev]
  rw [logPrev_at, mRow_at ht]
  rfl

theorem s_at (i j : Fin 128) : X.s (ix4 p h i j) = Spec.s (X.chunk p h) (X.st p h) i j := by
  pointwise [s, rowsOf]
  rw [logW_at ht, mRow_at ht]
  rfl

theorem den_at (i : Fin 128) : X.den (ix3 p h i) = Spec.den (X.chunk p h) (X.st p h) i := by
  pointwise [den]
  simp only [s_at ht, wPrev_at ht]
  rfl

theorem h_at (i : Fin 128) (a : Fin 512) : X.h (ix4 p h i a) = Spec.h (X.chunk p h) (X.st p h) i a := by
  pointwise [RIn.h, wide, num]
  simp only [s_at ht, wPrev_at ht, den_at ht, mRow_at ht]
  rfl

omit ht

theorem logK_at (i : Fin 128) : X.logK (ix3 p h i) = Spec.logK (X.chunk p h) i := by
  pointwise [logK, long, bLast]
  rfl

theorem mNew_at : X.mNew (ix2 p h) = Spec.mNew (X.chunk p h) (X.st p h) := by
  pointwise [mNew, bLast]
  simp only [logK_at]
  rfl

theorem wK_at (i : Fin 128) : X.wK (ix3 p h i) = Spec.wK (X.chunk p h) (X.st p h) i := by
  pointwise [wK, long]
  rw [logK_at, mNew_at]
  rfl

theorem wC_at : X.wC (ix2 p h) = Spec.wC (X.chunk p h) (X.st p h) := by
  pointwise [wC, bLast]
  rw [mNew_at]
  rfl

theorem cNew_at (a b : Fin 512) : X.cNew (ix4 p h a b) = (Spec.next (X.chunk p h) (X.st p h)).C a b := by
  pointwise [cNew, wide]
  simp only [wK_at, wC_at]
  rfl

theorem nNew_at (a : Fin 512) : X.nNew (ix3 p h a) = (Spec.next (X.chunk p h) (X.st p h)).n a := by
  pointwise [nNew]
  simp only [wK_at, wC_at]
  simp only [mul_comm (Spec.wK _ _ _)]
  rfl

end RIn

end Cert.Hand

end
-- ==== Proof.RefScan.lean ====
module

public import proofs.«01_k».proof.Proof.RefStep
public import Idealize.ShloMosaic.Lib.DynamicIndex
public import Idealize.ShloMosaic.Lib.WordCmp

/-!
# The reference's scan

The scan carries its inputs, a counter, the state of the heads and the results so far. After `k` steps the state of each
head is the recurrence's after `k` chunks, and the first `k` chunks of the results are the recurrence's.
-/

@[expose] public section

set_option maxRecDepth 16384

noncomputable section

namespace Cert.Hand

open Cert.ReferenceIdeal Cert.ReferenceIdeal.Gen Cert.ReferenceIdeal.Value Idealize.ShloMosaic Idealize.ShloMosaic.TcCoe Idealize.SL.Sem
open Idealize.ShloMosaic.Tactic

/-- What the scan carries. -/
structure Carried (F : FTy → Type) [FloatOps F] where
  /-- queries, by chunks -/
  q : FVec F S66x4x4x128x512 .f32
  /-- keys -/
  k : FVec F S66x4x4x128x512 .f32
  /-- values -/
  v : FVec F S66x4x4x128x512 .f32
  /-- input gates at the queries -/
  iq : FVec F S66x4x4x128 .f32
  /-- summed forget gates at the queries -/
  bq : FVec F S66x4x4x128 .f32
  /-- input gates at the keys -/
  ik : FVec F S66x4x4x128 .f32
  /-- summed forget gates at the keys -/
  bk : FVec F S66x4x4x128 .f32
  /-- the triangular mask -/
  tri : IVec S128x128 1
  /-- the counter -/
  ctr : IVec S_ 32
  /-- matrix memories -/
  C : FVec F S4x4x512x512 .f32
  /-- normalizers -/
  n : FVec F S4x4x512 .f32
  /-- stabilizers -/
  m : FVec F S4x4 .f32
  /-- results, by chunks -/
  h : FVec F S66x4x4x128x512 .f32

variable {F : FTy → Type} [FloatOps F]

/-- The start of the counter's chunk in an array of five axes. -/
def start5 (c : IVec S_ 32) : Fin 5 → Int := fun k =>
  ((![c, constantI S_ 32 0#32, constantI S_ 32 0#32, constantI S_ 32 0#32, constantI S_ 32 0#32] : Fin 5 → IVec S_ 32) k
    (Shape.Idx.first h_S_)).toInt

/-- The start of the counter's chunk in an array of four axes. -/
def start4 (c : IVec S_ 32) : Fin 4 → Int := fun k =>
  ((![c, constantI S_ 32 0#32, constantI S_ 32 0#32, constantI S_ 32 0#32] : Fin 4 → IVec S_ 32) k (Shape.Idx.first h_S_)).toInt

/-- The counter's chunk of an array of five axes. -/
def load5 (t : FVec F S66x4x4x128x512 .f32) (c : IVec S_ 32) : FVec F S4x4x128x512 .f32 :=
  shapeCast S4x4x128x512 (Host.dynamicSlice S1x4x4x128x512 t (start5 c) sliceFits_S66x4x4x128x512_S1x4x4x128x512)
    shapeCasts_S1x4x4x128x512_S4x4x128x512

/-- The counter's chunk of an array of four axes. -/
def load4 (t : FVec F S66x4x4x128 .f32) (c : IVec S_ 32) : FVec F S4x4x128 .f32 :=
  shapeCast S4x4x128 (Host.dynamicSlice S1x4x4x128 t (start4 c) sliceFits_S66x4x4x128_S1x4x4x128) shapeCasts_S1x4x4x128_S4x4x128

/-- The results with the counter's chunk replaced. -/
def store5 (t : FVec F S66x4x4x128x512 .f32) (u : FVec F S4x4x128x512 .f32) (c : IVec S_ 32) : FVec F S66x4x4x128x512 .f32 :=
  Host.dynamicUpdateSlice t (broadcastInDim S1x4x4x128x512 ![1, 2, 3, 4] bcast_S4x4x128x512_S1x4x4x128x512_1_2_3_4 u) (start5 c)
    updateFits_S66x4x4x128x512_S1x4x4x128x512

/-- What a step reads. -/
def Carried.inp (X : Carried F) : RIn F where
  q := load5 X.q X.ctr
  k := load5 X.k X.ctr
  v := load5 X.v X.ctr
  iq := load4 X.iq X.ctr
  bq := load4 X.bq X.ctr
  ik := load4 X.ik X.ctr
  bk := load4 X.bk X.ctr
  tri := X.tri
  C := X.C
  n := X.n
  m := X.m

/-- One step. -/
def Carried.step (X : Carried F) : Carried F where
  q := X.q
  k := X.k
  v := X.v
  iq := X.iq
  bq := X.bq
  ik := X.ik
  bk := X.bk
  tri := X.tri
  ctr := addi X.ctr (constantI S_ 32 1#32)
  C := X.inp.cNew
  n := X.inp.nNew
  m := X.inp.mNew
  h := store5 X.h X.inp.h X.ctr

/-- The carried buffers. -/
def carried (V : Valuation τ sig (Elt F)) : Carried F where
  q := V (Proc.devRef .tc main_v108_0)
  k := V (Proc.devRef .tc main_v108_1)
  v := V (Proc.devRef .tc main_v108_2)
  iq := V (Proc.devRef .tc main_v108_3)
  bq := V (Proc.devRef .tc main_v108_4)
  ik := V (Proc.devRef .tc main_v108_5)
  bk := V (Proc.devRef .tc main_v108_6)
  tri := V (Proc.devRef .tc main_v108_7)
  ctr := V (Proc.devRef .tc main_v108_8)
  C := V (Proc.devRef .tc main_v108_9)
  n := V (Proc.devRef .tc main_v108_10)
  m := V (Proc.devRef .tc main_v108_11)
  h := V (Proc.devRef .tc main_v108_12)

/-- A trip of the loop is a step of the carried values. -/
theorem carried_STEP (V : Valuation τ sig (Elt F)) : carried (STEP V) = (carried V).step := by
  unfold carried Carried.step
  congr 1

theorem carried_iterate (V : Valuation τ sig (Elt F)) (k : ℕ) : carried (STEP^[k] V) = Carried.step^[k] (carried V) := by
  induction k with
  | zero => rfl
  | succ k ih => rw [Function.iterate_succ_apply', Function.iterate_succ_apply', carried_STEP, ih]

theorem slices5 (k : Fin 66) : S66x4x4x128x512.Slices ![k.val, 0, 0, 0, 0] S1x4x4x128x512 :=
  ⟨rfl, fun a => by fin_cases a <;> simp [S66x4x4x128x512, S1x4x4x128x512]⟩

theorem slices4 (k : Fin 66) : S66x4x4x128.Slices ![k.val, 0, 0, 0] S1x4x4x128 :=
  ⟨rfl, fun a => by fin_cases a <;> simp [S66x4x4x128, S1x4x4x128]⟩

theorem start5_eq (k : Fin 66) (a : Fin 5) :
    start5 (fun _ => BitVec.ofNat 32 k.val) a = ((![k.val, 0, 0, 0, 0] : Fin 5 → ℕ) a : Int) := by
  fin_cases a
  · exact Idealize.ShloMosaic.toInt_ofNat_of_lt (by omega)
  all_goals rfl

theorem start4_eq (k : Fin 66) (a : Fin 4) :
    start4 (fun _ => BitVec.ofNat 32 k.val) a = ((![k.val, 0, 0, 0] : Fin 4 → ℕ) a : Int) := by
  fin_cases a
  · exact Idealize.ShloMosaic.toInt_ofNat_of_lt (by omega)
  all_goals rfl

theorem load5_at (t : FVec F S66x4x4x128x512 .f32) (k : Fin 66) (p h : Fin 4) (i : Fin 128) (d : Fin 512) :
    load5 t (fun _ => BitVec.ofNat 32 k.val) (ix4 p h i d) = t (ix5 k p h i d) := by
  unfold load5
  rw [Host.dynamicSlice_eq_extractStridedSlice _ _ _ _ _ (slices5 k) (start5_eq k)]
  pointwise []

theorem load4_at (t : FVec F S66x4x4x128 .f32) (k : Fin 66) (p h : Fin 4) (i : Fin 128) :
    load4 t (fun _ => BitVec.ofNat 32 k.val) (ix3 p h i) = t (ix4 k p h i) := by
  unfold load4
  rw [Host.dynamicSlice_eq_extractStridedSlice _ _ _ _ _ (slices4 k) (start4_eq k)]
  pointwise []

theorem store5_at (t : FVec F S66x4x4x128x512 .f32) (u : FVec F S4x4x128x512 .f32) (k j : Fin 66) (p h : Fin 4) (i : Fin 128) (d : Fin 512) :
    store5 t u (fun _ => BitVec.ofNat 32 k.val) (ix5 j p h i d) = if j = k then u (ix4 p h i d) else t (ix5 j p h i d) := by
  unfold store5
  rw [WordCmp.dynamicUpdateSlice_eq_update _ _ _ _ _ (slices5 k) (start5_eq k)]
  rw [updateSlice_apply]
  by_cases hj : j = k
  · subst hj
    rw [if_pos rfl, dif_pos]
    · pointwise []
    · intro a; fin_cases a <;> simp [ix5, S1x4x4x128x512]
  · rw [if_neg hj, dif_neg]
    intro hin
    have := hin 0
    simp [ix5, S1x4x4x128x512] at this
    exact hj (Fin.ext (by omega))

/-- Chunk `j` of head `h` of sequence `p` of the scan's inputs. -/
def Carried.chunk (X : Carried Ideal) (p h : Fin 4) (j : Fin 66) : Spec.Chunk where
  q i d := X.q (ix5 j p h i d)
  k i d := X.k (ix5 j p h i d)
  v i d := X.v (ix5 j p h i d)
  ic i := X.iq (ix4 j p h i)
  bc i := X.bq (ix4 j p h i)
  ir i := X.ik (ix4 j p h i)
  br i := X.bk (ix4 j p h i)

/-- The sequence of chunks; past its end it starts over. -/
def Carried.chunks (X : Carried Ideal) (p h : Fin 4) (j : ℕ) : Spec.Chunk := X.chunk p h ⟨j % 66, Nat.mod_lt _ (by norm_num)⟩

/-- The state of head `h` of sequence `p`. -/
def Carried.st (X : Carried Ideal) (p h : Fin 4) : Spec.St where
  C a b := X.C (ix4 p h a b)
  n a := X.n (ix3 p h a)
  m := X.m (ix2 p h)

/-- What the scan starts from: counter and states are zero, the mask is triangular. -/
structure Carried.Start (X : Carried Ideal) : Prop where
  /-- the counter -/
  ctr : X.ctr = fun _ => BitVec.ofNat 32 0
  /-- the mask -/
  tri : ∀ i j, X.tri (ix2 i j) = if j ≤ i then 1 else 0
  /-- the states -/
  st : ∀ p h, X.st p h = Spec.St.zero

/-- The inputs of the scan stay; the counter counts. -/
theorem Carried.iterate_keeps (X : Carried Ideal) (hX : X.Start) (k : ℕ) :
    (∀ p h, (Carried.step^[k] X).chunk p h = X.chunk p h) ∧ (Carried.step^[k] X).tri = X.tri
      ∧ (Carried.step^[k] X).ctr = fun _ => BitVec.ofNat 32 k := by
  induction k with
  | zero => exact ⟨fun _ _ => rfl, rfl, hX.ctr⟩
  | succ k ih =>
    rw [Function.iterate_succ_apply']
    refine ⟨fun p h => ih.1 p h, ih.2.1, ?_⟩
    change addi (Carried.step^[k] X).ctr _ = _
    rw [ih.2.2]
    funext _
    exact (BitVec.ofNat_add k 1).symm

/-- At the counter's chunk a step reads that chunk. -/
theorem Carried.inp_chunk (X : Carried Ideal) (k : Fin 66) (hc : X.ctr = fun _ => BitVec.ofNat 32 k.val) (p h : Fin 4) :
    X.inp.chunk p h = X.chunk p h k := by
  unfold RIn.chunk Carried.chunk Carried.inp
  simp only [hc, load5_at, load4_at]

/-- After `k` steps: the states, and the results of the first `k` chunks. -/
theorem Carried.iterate_value (X : Carried Ideal) (hX : X.Start) (p h : Fin 4) (k : ℕ) (hk : k ≤ 66) :
    (Carried.step^[k] X).st p h = Spec.state (X.chunks p h) k
      ∧ ∀ j : Fin 66, j.val < k → ∀ i a, (Carried.step^[k] X).h (ix5 j p h i a)
          = Spec.h (X.chunks p h j.val) (Spec.state (X.chunks p h) j.val) i a := by
  induction k with
  | zero => exact ⟨hX.st p h, fun j hj => absurd hj (Nat.not_lt_zero _)⟩
  | succ k ih =>
    have ih := ih (by omega)
    obtain ⟨hch, htri, hctr⟩ := X.iterate_keeps hX k
    rw [Function.iterate_succ_apply']
    generalize Carried.step^[k] X = Y at *
    have hi := Y.inp_chunk ⟨k, by omega⟩ hctr p h
    rw [hch] at hi
    have hcc : X.chunks p h k = X.chunk p h ⟨k, by omega⟩ := congrArg (X.chunk p h) (Fin.ext (Nat.mod_eq_of_lt (by omega)))
    rw [← hcc] at hi
    have hs : Y.inp.st p h = Spec.state (X.chunks p h) k := ih.1
    have ht : ∀ i j, Y.inp.tri (ix2 i j) = if j ≤ i then 1 else 0 := by
      intro i j
      change Y.tri _ = _
      rw [htri, hX.tri]
    refine ⟨?_, fun j hj i a => ?_⟩
    · change _ = Spec.next _ _
      rw [← hi, ← hs]
      ext1
      · funext a b; exact RIn.cNew_at p h a b
      · funext a; exact RIn.nNew_at p h a
      · exact RIn.mNew_at p h
    · change store5 Y.h Y.inp.h Y.ctr _ = _
      rw [hctr, show (fun _ => BitVec.ofNat 32 k : IVec S_ 32) = fun _ => BitVec.ofNat 32 (⟨k, by omega⟩ : Fin 66).val from rfl, store5_at]
      by_cases hjk : j = ⟨k, by omega⟩
      · rw [if_pos hjk, RIn.h_at ht, hi, hs, hjk]
      · rw [if_neg hjk]
        exact ih.2 j (by have : j.val ≠ k := fun e => hjk (Fin.ext e); omega) i a

end Cert.Hand

end
-- ==== Proof.RefEntry.lean ====
module

public import proofs.«01_k».proof.Proof.RefScan

/-! # What the reference's scan starts from

The arrays the reference lays out before its scan, as plain terms of its arguments: the heads of the
two directions one after the other along the batch, cut into chunks; the gates in the same order;
the lower-triangular mask; and the empty state. -/

@[expose] public section

set_option maxRecDepth 16384

noncomputable section

namespace Cert.Hand

open Cert.ReferenceIdeal Cert.ReferenceIdeal.Gen Cert.ReferenceIdeal.Value Idealize.ShloMosaic Idealize.ShloMosaic.TcCoe Idealize.SL.Sem
open Idealize.ShloMosaic.StableHlo

variable {F : FTy → Type} [FloatOps F]
variable (m : (ℓ : Loc nD τ sig) → Buf (Elt F) ℓ) (c : Dev nD)

/-- Two arrays laid one after the other agree when both pieces do. -/
theorem cat_congr {α : Type} {t s1 s2 : Shape} (a : Fin t.rank) {x x' : s1.Idx → α} {y y' : s2.Idx → α}
    (hx : x = x') (hy : y = y') (h : Shape.Concatenates [s1, s2] t a) :
    concatenate t a [⟨s1, x⟩, ⟨s2, y⟩] h = concatenate t a [⟨s1, x'⟩, ⟨s2, y'⟩] h := by
  subst hx hy; rfl

/-- The context part of the rows, per batch entry. -/
def ctxRows (x : FVec F S16896x2048 .f32) : FVec F S2x256x2048 .f32 :=
  shapeCast S2x256x2048 (extractStridedSlice S512x2048 ![0, 0] x slices_S16896x2048_S512x2048_0_0) shapeCasts_S512x2048_S2x256x2048
/-- The latent part of the rows, per batch entry. -/
def latRows (x : FVec F S16896x2048 .f32) : FVec F S2x8192x2048 .f32 :=
  shapeCast S2x8192x2048 (extractStridedSlice S16384x2048 ![512, 0] x slices_S16896x2048_S16384x2048_512_0) shapeCasts_S16384x2048_S2x8192x2048
/-- A context part, then a latent part. -/
def seqRows (x : FVec F S2x256x2048 .f32) (y : FVec F S2x8192x2048 .f32) : FVec F S2x8448x2048 .f32 :=
  concatenate S2x8448x2048 1 [⟨S2x256x2048, x⟩, ⟨S2x8192x2048, y⟩] concatenates_S2x256x2048_S2x8192x2048_S2x8448x2048_d1
/-- The heads of a sequence, brought before the positions. -/
def headsOf (x : FVec F S2x8448x2048 .f32) : FVec F S2x4x8448x512 .f32 :=
  transpose S2x4x8448x512 [0, 2, 1, 3] (shapeCast S2x8448x4x512 x shapeCasts_S2x8448x2048_S2x8448x4x512) transposes_S2x8448x4x512_S2x4x8448x512_0_2_1_3
/-- The two directions, one after the other along the batch. -/
def bothOf (x y : FVec F S2x4x8448x512 .f32) : FVec F S4x4x8448x512 .f32 :=
  concatenate S4x4x8448x512 0 [⟨S2x4x8448x512, x⟩, ⟨S2x4x8448x512, y⟩] concatenates_S2x4x8448x512_S2x4x8448x512_S4x4x8448x512_d0
/-- The positions cut into chunks, the chunks first. -/
def chunksOf (x : FVec F S4x4x8448x512 .f32) : FVec F S66x4x4x128x512 .f32 :=
  transpose S66x4x4x128x512 [2, 0, 1, 3, 4] (shapeCast S4x4x66x128x512 x shapeCasts_S4x4x8448x512_S4x4x66x128x512)
    transposes_S4x4x66x128x512_S66x4x4x128x512_2_0_1_3_4
/-- The rows as the scan reads them: both directions, by head, in chunks. -/
def scanRows (x : FVec F S16896x2048 .f32) : FVec F S66x4x4x128x512 .f32 :=
  chunksOf (bothOf (headsOf (seqRows (ctxRows x) (latRows x)))
    (headsOf (seqRows (Host.reverse [1] (ctxRows x)) (Host.reverse [1] (latRows x)))))

/-- The context part of the gates, per batch entry. -/
def ctxGates (x : FVec F S16896x16 .f32) : FVec F S2x256x16 .f32 :=
  shapeCast S2x256x16 (extractStridedSlice S512x16 ![0, 0] x slices_S16896x16_S512x16_0_0) shapeCasts_S512x16_S2x256x16
/-- The latent part of the gates, per batch entry. -/
def latGates (x : FVec F S16896x16 .f32) : FVec F S2x8192x16 .f32 :=
  shapeCast S2x8192x16 (extractStridedSlice S16384x16 ![512, 0] x slices_S16896x16_S16384x16_512_0) shapeCasts_S16384x16_S2x8192x16
/-- A context part, then a latent part. -/
def seqGates (x : FVec F S2x256x16 .f32) (y : FVec F S2x8192x16 .f32) : FVec F S2x8448x16 .f32 :=
  concatenate S2x8448x16 1 [⟨S2x256x16, x⟩, ⟨S2x8192x16, y⟩] concatenates_S2x256x16_S2x8192x16_S2x8448x16_d1
/-- The four kinds of gate, brought first, the heads before the positions. -/
def kindsOf (x : FVec F S2x8448x16 .f32) : FVec F S4x2x4x8448 .f32 :=
  transpose S4x2x4x8448 [2, 0, 3, 1] (shapeCast S2x8448x4x4 x shapeCasts_S2x8448x16_S2x8448x4x4) transposes_S2x8448x4x4_S4x2x4x8448_2_0_3_1
/-- One kind of gate. -/
def kindOf (g : ℕ) (x : FVec F S2x8448x16 .f32) (h : S4x2x4x8448.Slices ![g, 0, 0, 0] S1x2x4x8448) : FVec F S2x4x8448 .f32 :=
  shapeCast S2x4x8448 (extractStridedSlice S1x2x4x8448 ![g, 0, 0, 0] (kindsOf x) h) shapeCasts_S1x2x4x8448_S2x4x8448
/-- The two directions' gates, one after the other along the batch, cut into chunks. -/
def chunkGates (x y : FVec F S2x4x8448 .f32) : FVec F S66x4x4x128 .f32 :=
  transpose S66x4x4x128 [2, 0, 1, 3] (shapeCast S4x4x66x128 (concatenate S4x4x8448 0 [⟨S2x4x8448, x⟩, ⟨S2x4x8448, y⟩] concatenates_S2x4x8448_S2x4x8448_S4x4x8448_d0) shapeCasts_S4x4x8448_S4x4x66x128) transposes_S4x4x66x128_S66x4x4x128_2_0_1_3

/-- The gates of the queries: the first sixteen columns. -/
def gatesQ (x : FVec F S16896x128 .f32) : FVec F S16896x16 .f32 :=
  extractStridedSlice S16896x16 ![0, 0] x slices_S16896x128_S16896x16_0_0
/-- The gates of the keys, laid out by row as those of the queries are. -/
def gatesK (x : FVec F S16x16896 .f32) : FVec F S16896x16 .f32 :=
  transpose S16896x16 [1, 0] x transposes_S16x16896_S16896x16_1_0
/-- One of the two gates as the scan reads it: kind `g` of the forward sequence, kind `g'` of the backward one. -/
def scanGates (g g' : ℕ) (hg : S4x2x4x8448.Slices ![g, 0, 0, 0] S1x2x4x8448) (hg' : S4x2x4x8448.Slices ![g', 0, 0, 0] S1x2x4x8448)
    (x : FVec F S16896x16 .f32) : FVec F S66x4x4x128 .f32 :=
  chunkGates (kindOf g (seqGates (ctxGates x) (latGates x)) hg)
    (kindOf g' (seqGates (Host.reverse [1] (ctxGates x)) (Host.reverse [1] (latGates x))) hg')

theorem entry_q : entryContents preI m c (Proc.devRef .tc main_v108_0)
    = scanRows (extf .f32 (launchContents m c (Proc.devRef .tc main_arg0) : FVec F S16896x2048 .bf16) bitsLt_bf16_f32) := by
  simp only [entryContents, afterL_cons, afterL_nil]
  after_reads_simp
  refine congrArg chunksOf (cat_congr 0 ?_ ?_ _)
  · after_reads_simp
    refine congrArg headsOf (cat_congr 1 ?_ ?_ _) <;> after_reads_simp <;> rfl
  · after_reads_simp
    refine congrArg headsOf (cat_congr 1 ?_ ?_ _) <;> after_reads_simp <;> rfl

theorem entry_k : entryContents preI m c (Proc.devRef .tc main_v108_1)
    = scanRows (extf .f32 (launchContents m c (Proc.devRef .tc main_arg1) : FVec F S16896x2048 .bf16) bitsLt_bf16_f32) := by
  simp only [entryContents, afterL_cons, afterL_nil]
  after_reads_simp
  refine congrArg chunksOf (cat_congr 0 ?_ ?_ _)
  · after_reads_simp
    refine congrArg headsOf (cat_congr 1 ?_ ?_ _) <;> after_reads_simp <;> rfl
  · after_reads_simp
    refine congrArg headsOf (cat_congr 1 ?_ ?_ _) <;> after_reads_simp <;> rfl

theorem entry_v : entryContents preI m c (Proc.devRef .tc main_v108_2)
    = scanRows (extf .f32 (launchContents m c (Proc.devRef .tc main_arg2) : FVec F S16896x2048 .bf16) bitsLt_bf16_f32) := by
  simp only [entryContents, afterL_cons, afterL_nil]
  after_reads_simp
  refine congrArg chunksOf (cat_congr 0 ?_ ?_ _)
  · after_reads_simp
    refine congrArg headsOf (cat_congr 1 ?_ ?_ _) <;> after_reads_simp <;> rfl
  · after_reads_simp
    refine congrArg headsOf (cat_congr 1 ?_ ?_ _) <;> after_reads_simp <;> rfl

theorem entry_iq : entryContents preI m c (Proc.devRef .tc main_v108_3)
    = scanGates 0 2 slices_S4x2x4x8448_S1x2x4x8448_0_0_0_0 slices_S4x2x4x8448_S1x2x4x8448_2_0_0_0
      (gatesQ (launchContents m c (Proc.devRef .tc main_arg3) : FVec F S16896x128 .f32)) := by
  simp only [entryContents, afterL_cons, afterL_nil]
  after_reads_simp
  refine congrArg₂ chunkGates ?_ ?_
  · after_reads_simp
    refine congrArg (fun z => kindOf 0 z slices_S4x2x4x8448_S1x2x4x8448_0_0_0_0) (cat_congr 1 ?_ ?_ _) <;> after_reads_simp <;> rfl
  · after_reads_simp
    refine congrArg (fun z => kindOf 2 z slices_S4x2x4x8448_S1x2x4x8448_2_0_0_0) (cat_congr 1 ?_ ?_ _) <;> after_reads_simp <;> rfl

theorem entry_bq : entryContents preI m c (Proc.devRef .tc main_v108_4)
    = scanGates 1 3 slices_S4x2x4x8448_S1x2x4x8448_1_0_0_0 slices_S4x2x4x8448_S1x2x4x8448_3_0_0_0
      (gatesQ (launchContents m c (Proc.devRef .tc main_arg3) : FVec F S16896x128 .f32)) := by
  simp only [entryContents, afterL_cons, afterL_nil]
  after_reads_simp
  refine congrArg₂ chunkGates ?_ ?_
  · after_reads_simp
    refine congrArg (fun z => kindOf 1 z slices_S4x2x4x8448_S1x2x4x8448_1_0_0_0) (cat_congr 1 ?_ ?_ _) <;> after_reads_simp <;> rfl
  · after_reads_simp
    refine congrArg (fun z => kindOf 3 z slices_S4x2x4x8448_S1x2x4x8448_3_0_0_0) (cat_congr 1 ?_ ?_ _) <;> after_reads_simp <;> rfl

theorem entry_ik : entryContents preI m c (Proc.devRef .tc main_v108_5)
    = scanGates 0 2 slices_S4x2x4x8448_S1x2x4x8448_0_0_0_0 slices_S4x2x4x8448_S1x2x4x8448_2_0_0_0
      (gatesK (launchContents m c (Proc.devRef .tc main_arg4) : FVec F S16x16896 .f32)) := by
  simp only [entryContents, afterL_cons, afterL_nil]
  after_reads_simp
  refine congrArg₂ chunkGates ?_ ?_
  · after_reads_simp
    refine congrArg (fun z => kindOf 0 z slices_S4x2x4x8448_S1x2x4x8448_0_0_0_0) (cat_congr 1 ?_ ?_ _) <;> after_reads_simp <;> rfl
  · after_reads_simp
    refine congrArg (fun z => kindOf 2 z slices_S4x2x4x8448_S1x2x4x8448_2_0_0_0) (cat_congr 1 ?_ ?_ _) <;> after_reads_simp <;> rfl

theorem entry_bk : entryContents preI m c (Proc.devRef .tc main_v108_6)
    = scanGates 1 3 slices_S4x2x4x8448_S1x2x4x8448_1_0_0_0 slices_S4x2x4x8448_S1x2x4x8448_3_0_0_0
      (gatesK (launchContents m c (Proc.devRef .tc main_arg4) : FVec F S16x16896 .f32)) := by
  simp only [entryContents, afterL_cons, afterL_nil]
  after_reads_simp
  refine congrArg₂ chunkGates ?_ ?_
  · after_reads_simp
    refine congrArg (fun z => kindOf 1 z slices_S4x2x4x8448_S1x2x4x8448_1_0_0_0) (cat_congr 1 ?_ ?_ _) <;> after_reads_simp <;> rfl
  · after_reads_simp
    refine congrArg (fun z => kindOf 3 z slices_S4x2x4x8448_S1x2x4x8448_3_0_0_0) (cat_congr 1 ?_ ?_ _) <;> after_reads_simp <;> rfl

end Cert.Hand
end
-- ==== Proof.Head.lean ====
module

public import proofs.«01_k».proof.Proof.Gen.KernelIdeal.Value

/-!
# One head of one chunk, as the kernel computes it

The kernel works on two directions of four heads each, every one with the same operations on its own slices.
`HeadIn` collects what one head reads; the definitions after it are the head's intermediate and final vectors.
-/

@[expose] public section

noncomputable section

namespace Cert.Hand

open Cert.KernelIdeal Cert.KernelIdeal.Gen Idealize.ShloMosaic Idealize.SL.Sem

variable {F : FTy → Type} [FloatOps F]

/-- What one head reads at one grid point: its columns of the queries, keys and values, the two gates of the head as
columns (for the queries) and as rows (for the keys), the state, the mask and the column gate at the chunk's end. -/
structure HeadIn (F : FTy → Type) [FloatOps F] where
  /-- the queries -/
  q : Vec F S128x512 .bf16
  /-- the keys -/
  k : Vec F S128x512 .bf16
  /-- the values -/
  v : Vec F S128x512 .bf16
  /-- the input gate, as a column -/
  ic : Vec F S128x1 .f32
  /-- the summed forget gate, as a column -/
  bc : Vec F S128x1 .f32
  /-- the input gate, as a row -/
  ir : Vec F S1x128 .f32
  /-- the summed forget gate, as a row -/
  br : Vec F S1x128 .f32
  /-- the matrix memory -/
  C : Vec F S1x1x512x512 .f32
  /-- the normalizer -/
  n : Vec F S1x1x1x512 .f32
  /-- the stabilizer -/
  m : Vec F S1x1x1x1 .f32
  /-- which keys a query sees -/
  msk : IVec S128x128 1
  /-- the row of the chunk's last position -/
  e : ℕ
  /-- that row is one of the chunk -/
  he : S128x1.Slices ![e, 0] S1x1

namespace HeadIn

variable (X : HeadIn F)

/-- The summed forget gate at the last position of the chunk. -/
def bl : FVec F S1x1 .f32 := extractStridedSlice S1x1 ![X.e, 0] X.bc X.he

/-- The stabilizer as a 1×1 vector. -/
def m1 : FVec F S1x1 .f32 := shapeCast S1x1 X.m shapeCasts_S1x1x1x1_S1x1

/-- The masked log weights of the chunk's own keys. -/
def logW : FVec F S128x128 .f32 :=
  select X.msk (addf (subf (broadcastTo S128x128 X.bc broadcasts_S128x1_S128x128)
    (broadcastTo S128x128 X.br broadcasts_S1x128_S128x128)) (broadcastTo S128x128 X.ir broadcasts_S1x128_S128x128))
    (broadcast S128x128 (Scalar.ofBits .f32 0xFF800000#32 : F .f32))

/-- The log weight of the carried state, per query. -/
def logPrev : FVec F S128x1 .f32 := addf X.bc (broadcastTo S128x1 X.m1 broadcasts_S1x1_S128x1)

/-- The running maximum, per query. -/
def mRow : FVec F S128x1 .f32 :=
  maximumf X.logPrev (shapeCast S128x1 (multiReduction .maximumf [1] S128 X.logW 0xFF800000#32 reduces_S128x128_S128 (.inl rfl) rfl)
    shapeCasts_S128_S128x1)

/-- The weight of the carried state. -/
def wPrev : FVec F S128x1 .f32 := exp (subf X.logPrev X.mRow)

/-- The weighted scores of the chunk's own keys. -/
def s : FVec F S128x128 .f32 :=
  mulf (matmul dot_S128x512_S128x512_S128x128_1_1_0_0_n_n none X.q X.k (constant S128x128 .f32 0x00000000#32))
    (exp (subf X.logW (broadcastTo S128x128 X.mRow broadcasts_S128x1_S128x128)))

/-- The numerator. -/
def num : FVec F S128x512 .f32 :=
  addf (matmul dot_S128x128_S128x512_S128x512_1_0_0_1_n_n none (truncf .bf16 X.s bitsLt_bf16_f32) X.v (constant S128x512 .f32 0x00000000#32))
    (mulf (broadcastTo S128x512 X.wPrev broadcasts_S128x1_S128x512)
      (matmul dot_S128x512_S512x512_S128x512_1_0_0_1_n_n none X.q
        (truncf .bf16 (shapeCast S512x512 X.C shapeCasts_S1x1x512x512_S512x512 : FVec F S512x512 .f32) bitsLt_bf16_f32) (constant S128x512 .f32 0x00000000#32)))

/-- The normalizer of each query. -/
def den : FVec F S128x1 .f32 :=
  addf (shapeCast S128x1 (multiReduction .add [1] S128 X.s 0x00000000#32 reduces_S128x128_S128 (.inl rfl) rfl) shapeCasts_S128_S128x1)
    (mulf X.wPrev (shapeCast S128x1 (multiReduction .add [1] S128
      (mulf (extf .f32 (X.q : FVec F S128x512 .bf16) bitsLt_bf16_f32) (broadcastTo S128x512 (shapeCast S1x512 X.n shapeCasts_S1x1x1x512_S1x512 : FVec F S1x512 .f32) broadcasts_S1x512_S128x512))
      0x00000000#32 reduces_S128x512_S128 (.inl rfl) rfl) shapeCasts_S128_S128x1))

/-- The head's result. -/
def h : FVec F S128x512 .f32 :=
  divf X.num (broadcastTo S128x512
    (maximumf (absf X.den) (exp (subf (broadcast S128x1 (Scalar.ofBits .f32 0x00000000#32 : F .f32)) X.mRow))) broadcasts_S128x1_S128x512)

/-- The log weight of each key in the new state. -/
def logK : FVec F S128x1 .f32 := addf (subf (broadcastTo S128x1 X.bl broadcasts_S1x1_S128x1) X.bc) X.ic

/-- The new stabilizer. -/
def mNew : FVec F S1x1 .f32 :=
  maximumf (addf X.bl X.m1) (shapeCast S1x1 (multiReduction .maximumf [0] S1 X.logK 0xFF800000#32 reduces_S128x1_S1 (.inl rfl) rfl) shapeCasts_S1_S1x1)

/-- The weight of each key in the new state. -/
def wK : FVec F S128x1 .f32 := exp (subf X.logK (broadcastTo S128x1 X.mNew broadcasts_S1x1_S128x1))

/-- The weight of the old state in the new one. -/
def wC : FVec F S1x1 .f32 := exp (subf (addf X.bl X.m1) X.mNew)

/-- The weighted keys. -/
def kw : FVec F S128x512 .f32 :=
  mulf (extf .f32 (X.k : FVec F S128x512 .bf16) bitsLt_bf16_f32) (broadcastTo S128x512 X.wK broadcasts_S128x1_S128x512)

/-- The new matrix memory. -/
def cNew : FVec F S1x1x512x512 .f32 :=
  shapeCast S1x1x512x512 (addf (mulf (broadcastTo S512x512 X.wC broadcasts_S1x1_S512x512)
      (shapeCast S512x512 X.C shapeCasts_S1x1x512x512_S512x512))
    (matmul dot_S128x512_S128x512_S512x512_0_0_1_1_n_n none (truncf .bf16 X.kw bitsLt_bf16_f32) X.v (constant S512x512 .f32 0x00000000#32)))
    shapeCasts_S512x512_S1x1x512x512

/-- The new normalizer. -/
def nNew : FVec F S1x1x1x512 .f32 :=
  shapeCast S1x1x1x512 (addf (mulf (broadcastTo S1x512 X.wC broadcasts_S1x1_S1x512) (shapeCast S1x512 X.n shapeCasts_S1x1x1x512_S1x512))
    (shapeCast S1x512 (multiReduction .add [0] S512 X.kw 0x00000000#32 reduces_S128x512_S512 (.inl rfl) rfl) shapeCasts_S512_S1x512))
    shapeCasts_S1x512_S1x1x1x512

/-- The new stabilizer, spread over its tile. -/
def mOut : FVec F S1x1x8x128 .f32 :=
  shapeCast S1x1x8x128 (broadcastTo S8x128 (shapeCast S1x1 X.mNew shapeCasts_S1x1_S1x1) broadcasts_S1x1_S8x128) shapeCasts_S8x128_S1x1x8x128

end HeadIn

/-- The blocks of one direction at one grid point. -/
structure DirIn (F : FTy → Type) [FloatOps F] where
  /-- the queries of the four heads -/
  q : Vec F S128x2048 .bf16
  /-- the keys of the four heads -/
  k : Vec F S128x2048 .bf16
  /-- the values of the four heads -/
  v : Vec F S128x2048 .bf16
  /-- the gates as columns -/
  gc : Vec F S128x128 .f32
  /-- the gates as rows -/
  gr : Vec F S16x128 .f32

/-- The mask of each direction: a forward query sees the keys up to itself, a backward one the keys from itself on. -/
def mask : Fin 2 → IVec S128x128 1 := fun d => if d = 0
  then cmpi .sle (iota .tc S128x128 32 [1] iota_S128x128_d1_w32) (iota .tc S128x128 32 [0] iota_S128x128_d0_w32)
  else cmpi .sge (iota .tc S128x128 32 [1] iota_S128x128_d1_w32) (iota .tc S128x128 32 [0] iota_S128x128_d0_w32)

/-- The row of the chunk's last position in each direction. -/
def endRow : Fin 2 → ℕ := ![127, 0]

theorem slices_end (d : Fin 2) : S128x1.Slices ![endRow d, 0] S1x1 := by
  match d with
  | 0 => exact slices_S128x1_o127_0_S1x1
  | 1 => exact slices_S128x1_o0_0_S1x1

theorem inb_cols (h : Fin 4) (a : Fin 2) : (![0, 512 * h.val] : Fin 2 → ℕ) a + (S128x512.size a) ≤ S128x2048.size a := by
  fin_cases a <;> simp [S128x512, S128x2048] <;> omega

theorem inb_gcol (g : Fin 16) (a : Fin 2) : (![0, g.val] : Fin 2 → ℕ) a + (S128x1.size a) ≤ S128x128.size a := by
  fin_cases a <;> simp [S128x1, S128x128] <;> omega

theorem inb_grow (g : Fin 16) (a : Fin 2) : (![g.val, 0] : Fin 2 → ℕ) a + (S1x128.size a) ≤ S16x128.size a := by
  fin_cases a <;> simp [S1x128, S16x128] <;> omega

theorem inb_C (d : Fin 2) (h : Fin 4) (a : Fin 4) :
    (![d.val, h.val, 0, 0] : Fin 4 → ℕ) a + (S1x1x512x512.size a) ≤ S2x4x512x512.size a := by
  fin_cases a <;> simp [S1x1x512x512, S2x4x512x512] <;> omega

theorem inb_n (d : Fin 2) (h : Fin 4) (a : Fin 4) :
    (![d.val, h.val, 0, 0] : Fin 4 → ℕ) a + (S1x1x1x512.size a) ≤ S2x4x8x512.size a := by
  fin_cases a <;> simp [S1x1x1x512, S2x4x8x512] <;> omega

theorem inb_m (d : Fin 2) (h : Fin 4) (a : Fin 4) :
    (![d.val, h.val, 0, 0] : Fin 4 → ℕ) a + (S1x1x1x1.size a) ≤ S2x4x8x128.size a := by
  fin_cases a <;> simp [S1x1x1x1, S2x4x8x128] <;> omega

theorem inb_mt (d : Fin 2) (h : Fin 4) (a : Fin 4) :
    (![d.val, h.val, 0, 0] : Fin 4 → ℕ) a + (S1x1x8x128.size a) ≤ S2x4x8x128.size a := by
  fin_cases a <;> simp [S1x1x8x128, S2x4x8x128] <;> omega

/-- The gate rows of a head: the input gate, then (four further) the summed forget gate; the backward ones follow. -/
def gateI (d : Fin 2) (h : Fin 4) : Fin 16 := ⟨8 * d.val + h.val, by omega⟩

/-- See `gateI`. -/
def gateB (d : Fin 2) (h : Fin 4) : Fin 16 := ⟨8 * d.val + 4 + h.val, by omega⟩

/-- What head `h` of direction `d` reads, out of the direction's blocks and the state. -/
def headIn (D : Fin 2 → DirIn F) (c : Vec F S2x4x512x512 .f32) (n : Vec F S2x4x8x512 .f32) (m : Vec F S2x4x8x128 .f32)
    (d : Fin 2) (h : Fin 4) : HeadIn F where
  q := View.ld (D d).q (Rect.unit ![0, 512 * h.val] S128x512.size (inb_cols h))
  k := View.ld (D d).k (Rect.unit ![0, 512 * h.val] S128x512.size (inb_cols h))
  v := View.ld (D d).v (Rect.unit ![0, 512 * h.val] S128x512.size (inb_cols h))
  ic := View.ld (D d).gc (Rect.unit ![0, (gateI d h).val] S128x1.size (inb_gcol _))
  bc := View.ld (D d).gc (Rect.unit ![0, (gateB d h).val] S128x1.size (inb_gcol _))
  ir := View.ld (D d).gr (Rect.unit ![(gateI d h).val, 0] S1x128.size (inb_grow _))
  br := View.ld (D d).gr (Rect.unit ![(gateB d h).val, 0] S1x128.size (inb_grow _))
  C := View.ld c (Rect.unit ![d.val, h.val, 0, 0] S1x1x512x512.size (inb_C d h))
  n := View.ld n (Rect.unit ![d.val, h.val, 0, 0] S1x1x1x512.size (inb_n d h))
  m := View.ld m (Rect.unit ![d.val, h.val, 0, 0] S1x1x1x1.size (inb_m d h))
  msk := mask d
  e := endRow d
  he := slices_end d

/-- The store of a head's new matrix memory. -/
def pieceC (X : Fin 2 → Fin 4 → HeadIn F) (d : Fin 2) (h : Fin 4) : View.Piece (Elt F) S2x4x512x512 .f32 :=
  ⟨Rect.unit ![d.val, h.val, 0, 0] S1x1x512x512.size (inb_C d h), (X d h).cNew⟩

/-- The store of a head's new normalizer. -/
def pieceN (X : Fin 2 → Fin 4 → HeadIn F) (d : Fin 2) (h : Fin 4) : View.Piece (Elt F) S2x4x8x512 .f32 :=
  ⟨Rect.unit ![d.val, h.val, 0, 0] S1x1x1x512.size (inb_n d h), (X d h).nNew⟩

/-- The store of a head's new stabilizer. -/
def pieceM (X : Fin 2 → Fin 4 → HeadIn F) (d : Fin 2) (h : Fin 4) : View.Piece (Elt F) S2x4x8x128 .f32 :=
  ⟨Rect.unit ![d.val, h.val, 0, 0] S1x1x8x128.size (inb_mt d h), (X d h).mOut⟩

/-- The store of a head's result. -/
def pieceH (X : Fin 2 → Fin 4 → HeadIn F) (d : Fin 2) (h : Fin 4) : View.Piece (Elt F) S128x2048 .f32 :=
  ⟨Rect.unit ![0, 512 * h.val] S128x512.size (inb_cols h), (X d h).h⟩

/-- The eight heads' stores, the last one first. -/
def heads {α : Type*} (p : Fin 2 → Fin 4 → α) : List α := [p 1 3, p 1 2, p 1 1, p 1 0, p 0 3, p 0 2, p 0 1, p 0 0]

/-- The four stores of one direction, the last one first. -/
def heads4 {α : Type*} (p : Fin 4 → α) : List α := [p 3, p 2, p 1, p 0]

end Cert.Hand

end
-- ==== Proof.Point.lean ====
module

public import proofs.«01_k».proof.Proof.Head
public import Idealize.ShloMosaic.Lib.Pipeline.ReadBack

/-!
# What one grid point leaves, head by head

At every grid point each of the eight heads (two directions of four) stores its new state and its result; the lists of
these stores are the ones of `Head`. The first point of a batch works on a state of zeros, every other one on what the
point before left.
-/

@[expose] public section

set_option maxRecDepth 16384

noncomputable section

namespace Cert.Hand

open Cert.KernelIdeal Cert.KernelIdeal.Gen Idealize.ShloMosaic Idealize.ShloMosaic.TcCoe Idealize.SL.Sem
open Idealize.ShloMosaic.Tactic

variable {F : FTy → Type} [FloatOps F]

/-- The blocks of the two directions, out of the ten input blocks. -/
def dirs (x0 x1 x2 : Vec F S128x2048 .bf16) (x3 : Vec F S128x128 .f32) (x4 : Vec F S16x128 .f32)
    (x5 x6 x7 : Vec F S128x2048 .bf16) (x8 : Vec F S128x128 .f32) (x9 : Vec F S16x128 .f32) : Fin 2 → DirIn F :=
  ![⟨x0, x1, x2, x3, x4⟩, ⟨x5, x6, x7, x8, x9⟩]

/-- At a point that carries the state on, the stores are the eight heads' on the carried state. -/
theorem run_B (c : Dev nD) (i : grid0.Coords) (arg2 : Memref sig .tc .vmem S128x2048 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x128 .f32) (harg5 : arg5.IsWhole) (arg6 : Memref sig .tc .vmem S16x128 .f32) (harg6 : arg6.IsWhole) (arg7 : Memref sig .tc .vmem S128x2048 .bf16) (harg7 : arg7.IsWhole) (arg8 : Memref sig .tc .vmem S128x2048 .bf16) (harg8 : arg8.IsWhole) (arg9 : Memref sig .tc .vmem S128x2048 .bf16) (harg9 : arg9.IsWhole) (arg10 : Memref sig .tc .vmem S128x128 .f32) (harg10 : arg10.IsWhole) (arg11 : Memref sig .tc .vmem S16x128 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S2x4x512x512 .f32) (harg14 : arg14.IsWhole) (arg15 : Memref sig .tc .vmem S2x4x8x512 .f32) (harg15 : arg15.IsWhole) (arg16 : Memref sig .tc .vmem S2x4x8x128 .f32) (harg16 : arg16.IsWhole) (hc0 : ¬cond0_0 i)
    (x0 : Vec F S128x2048 .bf16) (x1 : Vec F S128x2048 .bf16) (x2 : Vec F S128x2048 .bf16) (x3 : Vec F S128x128 .f32) (x4 : Vec F S16x128 .f32) (x5 : Vec F S128x2048 .bf16) (x6 : Vec F S128x2048 .bf16) (x7 : Vec F S128x2048 .bf16) (x8 : Vec F S128x128 .f32) (x9 : Vec F S16x128 .f32) (xs0 : Vec F S2x4x512x512 .f32) (xs1 : Vec F S2x4x8x512 .f32) (xs2 : Vec F S2x4x8x128 .f32) :
    let X := headIn (dirs x0 x1 x2 x3 x4 x5 x6 x7 x8 x9) xs0 xs1 xs2
    let R := kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 xs2
    R.1 = heads4 (pieceH X 0) ∧ R.2.1 = heads4 (pieceH X 1) ∧ R.2.2.1 = heads (pieceC X) ∧ R.2.2.2.1 = heads (pieceN X)
      ∧ R.2.2.2.2.1 = heads (pieceM X) := by
  intro X R
  refine ⟨?_, ?_, ?_, ?_, ?_⟩ <;>
  · simp only [R]
    unfold kernelRun0_B
    dsimp only
    sl_unfold_words
    simp only [View.readAt_eq_ld, harg2.read_unread, harg3.read_unread, harg4.read_unread, harg5.read_unread, harg6.read_unread,
      harg7.read_unread, harg8.read_unread, harg9.read_unread, harg10.read_unread, harg11.read_unread, harg14.read_unread,
      harg15.read_unread, harg16.read_unread]
    rfl

/-- At the first point of a batch the stores are the zero fills, then the eight heads' on a state of zeros. -/
theorem run_A (c : Dev nD) (i : grid0.Coords) (arg2 : Memref sig .tc .vmem S128x2048 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x128 .f32) (harg5 : arg5.IsWhole) (arg6 : Memref sig .tc .vmem S16x128 .f32) (harg6 : arg6.IsWhole) (arg7 : Memref sig .tc .vmem S128x2048 .bf16) (harg7 : arg7.IsWhole) (arg8 : Memref sig .tc .vmem S128x2048 .bf16) (harg8 : arg8.IsWhole) (arg9 : Memref sig .tc .vmem S128x2048 .bf16) (harg9 : arg9.IsWhole) (arg10 : Memref sig .tc .vmem S128x128 .f32) (harg10 : arg10.IsWhole) (arg11 : Memref sig .tc .vmem S16x128 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S2x4x512x512 .f32) (harg14 : arg14.IsWhole) (arg15 : Memref sig .tc .vmem S2x4x8x512 .f32) (harg15 : arg15.IsWhole) (arg16 : Memref sig .tc .vmem S2x4x8x128 .f32) (harg16 : arg16.IsWhole) (hc0 : cond0_0 i)
    (x0 : Vec F S128x2048 .bf16) (x1 : Vec F S128x2048 .bf16) (x2 : Vec F S128x2048 .bf16) (x3 : Vec F S128x128 .f32) (x4 : Vec F S16x128 .f32) (x5 : Vec F S128x2048 .bf16) (x6 : Vec F S128x2048 .bf16) (x7 : Vec F S128x2048 .bf16) (x8 : Vec F S128x128 .f32) (x9 : Vec F S16x128 .f32) :
    let X := headIn (dirs x0 x1 x2 x3 x4 x5 x6 x7 x8 x9) (k0_pay3 (F := F)) k0_pay4 k0_pay5
    let R := kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9
    R.1 = heads4 (pieceH X 0) ∧ R.2.1 = heads4 (pieceH X 1)
      ∧ R.2.2.1 = heads (pieceC X) ++ [⟨Rect.unit ![0, 0, 0, 0] S2x4x512x512.size inb_S2x4x512x512_S2x4x512x512_0_0_0_0, k0_pay3⟩]
      ∧ R.2.2.2.1 = heads (pieceN X) ++ [⟨Rect.unit ![0, 0, 0, 0] S2x4x8x512.size inb_S2x4x8x512_S2x4x8x512_0_0_0_0, k0_pay4⟩]
      ∧ R.2.2.2.2.1 = heads (pieceM X) ++ [⟨Rect.unit ![0, 0, 0, 0] S2x4x8x128.size inb_S2x4x8x128_S2x4x8x128_0_0_0_0, k0_pay5⟩] := by
  intro X R
  refine ⟨?_, ?_, ?_, ?_, ?_⟩ <;>
  · simp only [R]
    unfold kernelRun0_A
    dsimp only
    sl_unfold_words
    simp (disch := decide) only [↓View.readCov_skip, ↓View.readCov_fill]
    simp only [View.readAt_eq_ld, harg2.read_unread, harg3.read_unread, harg4.read_unread,
      harg5.read_unread, harg6.read_unread, harg7.read_unread, harg8.read_unread, harg9.read_unread, harg10.read_unread,
      harg11.read_unread]
    rfl

end Cert.Hand

end
-- ==== Proof.Pieces.lean ====
module

public import proofs.«01_k».proof.Proof.Head
public import Idealize.ShloMosaic.Lib.Pointwise
public import Idealize.ShloMosaic.Lib.Pipeline.ReadBack
public import Idealize.ShloMosaic.Lib.Pipeline.ValueKit.Geometry

/-!
# The stores of the eight heads, read back

Whatever a buffer held before, after the heads' stores every element of a head's part is the element that head stored.
-/

@[expose] public section

noncomputable section

namespace Cert.Hand

open Cert.KernelIdeal Cert.KernelIdeal.Gen Idealize.ShloMosaic Idealize.ShloMosaic.TcCoe Idealize.SL.Sem
open Idealize.ShloMosaic.Tactic

variable {F : FTy → Type} [FloatOps F]

/-- Column `a` of head `h` in a row of all four heads. -/
def col (h : Fin 4) (a : Fin 512) : Fin 2048 := ⟨512 * h.val + a.val, by omega⟩

theorem mem_heads {α : Type*} (p : Fin 2 → Fin 4 → α) : ∀ (d : Fin 2) (h : Fin 4), p d h ∈ heads p
  | 0, 0 => by simp [heads]
  | 0, 1 => by simp [heads]
  | 0, 2 => by simp [heads]
  | 0, 3 => by simp [heads]
  | 1, 0 => by simp [heads]
  | 1, 1 => by simp [heads]
  | 1, 2 => by simp [heads]
  | 1, 3 => by simp [heads]

theorem mem_heads4 {α : Type*} (p : Fin 4 → α) : ∀ h : Fin 4, p h ∈ heads4 p
  | 0 => by simp [heads4]
  | 1 => by simp [heads4]
  | 2 => by simp [heads4]
  | 3 => by simp [heads4]

theorem of_mem_heads {α : Type*} {P : α → Prop} (p : Fin 2 → Fin 4 → α) (hp : ∀ d h, P (p d h)) : ∀ x ∈ heads p, P x := by
  intro x hx
  simp only [heads, List.mem_cons, List.not_mem_nil, or_false] at hx
  rcases hx with rfl | rfl | rfl | rfl | rfl | rfl | rfl | rfl <;> exact hp _ _

theorem of_mem_heads4 {α : Type*} {P : α → Prop} (p : Fin 4 → α) (hp : ∀ h, P (p h)) : ∀ x ∈ heads4 p, P x := by
  intro x hx
  simp only [heads4, List.mem_cons, List.not_mem_nil, or_false] at hx
  rcases hx with rfl | rfl | rfl | rfl <;> exact hp _

/-- Pieces that are blocks of one function, over any earlier ones, read back at an index of one of them. -/
theorem read_pieces {s : Shape} {e : EltTy} {κ : Kind} {sp : Space} (v : View sig κ sp s e) (f : v.ty.Contents (Elt F)) (G : s.Idx → Elt F e)
    (L' L : List (View.Piece (Elt F) s e)) (h : ∀ p ∈ L, ∀ x : p.1.shape.Idx, p.2 x = G (p.1.emb x))
    {p : View.Piece (Elt F) s e} (hp : p ∈ L) (x : p.1.shape.Idx) :
    v.read (Elt F) (v.writes (Elt F) f (L ++ L')) (p.1.emb x) = G (p.1.emb x) := by
  have hx : p.1.emb x ∈ p.1.set := by rw [← Rect.map_emb_univ]; exact Finset.mem_map_of_mem _ (Finset.mem_univ x)
  rw [View.read_writes_apply_eq_canon v f _ (L ++ L') ⟨p, List.mem_append_left _ hp, hx⟩]
  exact View.canon_append_of_pieces G L' L h _ ⟨p, hp, hx⟩

theorem emb_C (d : Fin 2) (h : Fin 4) (x : S1x1x512x512.Idx) :
    (Rect.unit (s := S2x4x512x512) ![d.val, h.val, 0, 0] S1x1x512x512.size (inb_C d h)).emb x = ix4 d h (x 2) (x 3) := by
  have h0 : (x 0).val = 0 := Nat.lt_one_iff.mp (x 0).isLt
  have h1 : (x 1).val = 0 := Nat.lt_one_iff.mp (x 1).isLt
  funext a
  apply Fin.ext
  rw [ValueKit.rect_emb_unit_val]
  fin_cases a
  · exact congrArg (_ + ·) h0
  · exact congrArg (_ + ·) h1
  · exact Nat.zero_add _
  · exact Nat.zero_add _

theorem emb_n (d : Fin 2) (h : Fin 4) (x : S1x1x1x512.Idx) :
    (Rect.unit (s := S2x4x8x512) ![d.val, h.val, 0, 0] S1x1x1x512.size (inb_n d h)).emb x = ix4 d h 0 (x 3) := by
  have h0 : (x 0).val = 0 := Nat.lt_one_iff.mp (x 0).isLt
  have h1 : (x 1).val = 0 := Nat.lt_one_iff.mp (x 1).isLt
  have h2 : (x 2).val = 0 := Nat.lt_one_iff.mp (x 2).isLt
  funext a
  apply Fin.ext
  rw [ValueKit.rect_emb_unit_val]
  fin_cases a
  · exact congrArg (_ + ·) h0
  · exact congrArg (_ + ·) h1
  · exact congrArg (_ + ·) h2
  · exact Nat.zero_add _

theorem emb_mt (d : Fin 2) (h : Fin 4) (x : S1x1x8x128.Idx) :
    (Rect.unit (s := S2x4x8x128) ![d.val, h.val, 0, 0] S1x1x8x128.size (inb_mt d h)).emb x = ix4 d h (x 2) (x 3) := by
  have h0 : (x 0).val = 0 := Nat.lt_one_iff.mp (x 0).isLt
  have h1 : (x 1).val = 0 := Nat.lt_one_iff.mp (x 1).isLt
  funext a
  apply Fin.ext
  rw [ValueKit.rect_emb_unit_val]
  fin_cases a
  · exact congrArg (_ + ·) h0
  · exact congrArg (_ + ·) h1
  · exact Nat.zero_add _
  · exact Nat.zero_add _

theorem emb_m (d : Fin 2) (h : Fin 4) (x : S1x1x1x1.Idx) :
    (Rect.unit (s := S2x4x8x128) ![d.val, h.val, 0, 0] S1x1x1x1.size (inb_m d h)).emb x = ix4 d h 0 0 := by
  have h0 : (x 0).val = 0 := Nat.lt_one_iff.mp (x 0).isLt
  have h1 : (x 1).val = 0 := Nat.lt_one_iff.mp (x 1).isLt
  have h2 : (x 2).val = 0 := Nat.lt_one_iff.mp (x 2).isLt
  have h3 : (x 3).val = 0 := Nat.lt_one_iff.mp (x 3).isLt
  funext a
  apply Fin.ext
  rw [ValueKit.rect_emb_unit_val]
  fin_cases a
  · exact congrArg (_ + ·) h0
  · exact congrArg (_ + ·) h1
  · exact congrArg (_ + ·) h2
  · exact congrArg (_ + ·) h3

theorem emb_cols (h : Fin 4) (x : S128x512.Idx) :
    (Rect.unit (s := S128x2048) ![0, 512 * h.val] S128x512.size (inb_cols h)).emb x = ix2 (x 0) (col h (x 1)) := by
  funext a
  apply Fin.ext
  rw [ValueKit.rect_emb_unit_val]
  fin_cases a
  · exact Nat.zero_add _
  · rfl

theorem emb_gcol (g : Fin 16) (x : S128x1.Idx) :
    (Rect.unit (s := S128x128) ![0, g.val] S128x1.size (inb_gcol g)).emb x = ix2 (x 0) ⟨g.val, by omega⟩ := by
  have h1 : (x 1).val = 0 := Nat.lt_one_iff.mp (x 1).isLt
  funext a
  apply Fin.ext
  rw [ValueKit.rect_emb_unit_val]
  fin_cases a
  · exact Nat.zero_add _
  · exact congrArg (_ + ·) h1

theorem emb_grow (g : Fin 16) (x : S1x128.Idx) :
    (Rect.unit (s := S16x128) ![g.val, 0] S1x128.size (inb_grow g)).emb x = ix2 g (x 1) := by
  have h0 : (x 0).val = 0 := Nat.lt_one_iff.mp (x 0).isLt
  funext a
  apply Fin.ext
  rw [ValueKit.rect_emb_unit_val]
  fin_cases a
  · exact congrArg (_ + ·) h0
  · exact Nat.zero_add _

variable {κ : Kind} {sp : Space} (X : Fin 2 → Fin 4 → HeadIn F)

/-- The matrix memory after a point, at an element. -/
theorem read_C (v : View sig κ sp S2x4x512x512 .f32) (f : v.ty.Contents (Elt F)) (L' : List (View.Piece (Elt F) S2x4x512x512 .f32))
    (d : Fin 2) (h : Fin 4) (a b : Fin 512) :
    v.read (Elt F) (v.writes (Elt F) f (heads (pieceC X) ++ L')) (ix4 d h a b) = (X d h).cNew (ix4 0 0 a b) := by
  have e := emb_C d h (ix4 0 0 a b)
  have := read_pieces v f (fun y => (X (y 0) (y 1)).cNew (ix4 0 0 (y 2) (y 3))) L' (heads (pieceC X))
    (of_mem_heads _ fun d h (x : S1x1x512x512.Idx) => by
      change (X d h).cNew x = _
      rw [show (pieceC X d h).1.emb x = _ from emb_C d h x]
      have h0 : x 0 = (0 : Fin 1) := Fin.ext (Nat.lt_one_iff.mp (x 0).isLt)
      have h1 : x 1 = (0 : Fin 1) := Fin.ext (Nat.lt_one_iff.mp (x 1).isLt)
      exact congrArg _ ((eq_ix4 x).trans (by rw [h0, h1]; rfl))) (mem_heads (pieceC X) d h) (ix4 0 0 a b)
  rw [show (pieceC X d h).1.emb _ = _ from e] at this
  exact this

/-- The normalizer after a point, at an element. -/
theorem read_N (v : View sig κ sp S2x4x8x512 .f32) (f : v.ty.Contents (Elt F)) (L' : List (View.Piece (Elt F) S2x4x8x512 .f32))
    (d : Fin 2) (h : Fin 4) (a : Fin 512) :
    v.read (Elt F) (v.writes (Elt F) f (heads (pieceN X) ++ L')) (ix4 d h 0 a) = (X d h).nNew (ix4 0 0 0 a) := by
  have e := emb_n d h (ix4 0 0 0 a)
  have := read_pieces v f (fun y => (X (y 0) (y 1)).nNew (ix4 0 0 0 (y 3))) L' (heads (pieceN X))
    (of_mem_heads _ fun d h (x : S1x1x1x512.Idx) => by
      change (X d h).nNew x = _
      rw [show (pieceN X d h).1.emb x = _ from emb_n d h x]
      have h0 : x 0 = (0 : Fin 1) := Fin.ext (Nat.lt_one_iff.mp (x 0).isLt)
      have h1 : x 1 = (0 : Fin 1) := Fin.ext (Nat.lt_one_iff.mp (x 1).isLt)
      have h2 : x 2 = (0 : Fin 1) := Fin.ext (Nat.lt_one_iff.mp (x 2).isLt)
      exact congrArg _ ((eq_ix4 x).trans (by rw [h0, h1, h2]; rfl))) (mem_heads (pieceN X) d h) (ix4 0 0 0 a)
  rw [show (pieceN X d h).1.emb _ = _ from e] at this
  exact this

/-- The stabilizer after a point, at an element. -/
theorem read_M (v : View sig κ sp S2x4x8x128 .f32) (f : v.ty.Contents (Elt F)) (L' : List (View.Piece (Elt F) S2x4x8x128 .f32))
    (d : Fin 2) (h : Fin 4) (a : Fin 8) (b : Fin 128) :
    v.read (Elt F) (v.writes (Elt F) f (heads (pieceM X) ++ L')) (ix4 d h a b) = (X d h).mOut (ix4 0 0 a b) := by
  have e := emb_mt d h (ix4 0 0 a b)
  have := read_pieces v f (fun y => (X (y 0) (y 1)).mOut (ix4 0 0 (y 2) (y 3))) L' (heads (pieceM X))
    (of_mem_heads _ fun d h (x : S1x1x8x128.Idx) => by
      change (X d h).mOut x = _
      rw [show (pieceM X d h).1.emb x = _ from emb_mt d h x]
      have h0 : x 0 = (0 : Fin 1) := Fin.ext (Nat.lt_one_iff.mp (x 0).isLt)
      have h1 : x 1 = (0 : Fin 1) := Fin.ext (Nat.lt_one_iff.mp (x 1).isLt)
      exact congrArg _ ((eq_ix4 x).trans (by rw [h0, h1]; rfl))) (mem_heads (pieceM X) d h) (ix4 0 0 a b)
  rw [show (pieceM X d h).1.emb _ = _ from e] at this
  exact this

theorem col_div (h : Fin 4) (a : Fin 512) : (col h a).val / 512 = h.val := by simp only [col]; omega

theorem col_mod (h : Fin 4) (a : Fin 512) : (col h a).val % 512 = a.val := by simp only [col]; omega

/-- A direction's results after a point, at an element. -/
theorem read_H (d : Fin 2) (v : View sig κ sp S128x2048 .f32) (f : v.ty.Contents (Elt F))
    (h : Fin 4) (r : Fin 128) (a : Fin 512) :
    v.read (Elt F) (v.writes (Elt F) f (heads4 (pieceH X d))) (ix2 r (col h a)) = (X d h).h (ix2 r a) := by
  have e := emb_cols h (ix2 r a)
  let G : S128x2048.Idx → F .f32 := fun y =>
    (X d ⟨(y 1).val / 512, by have : (y 1).val < 2048 := (y 1).isLt; omega⟩).h (ix2 (y 0) ⟨(y 1).val % 512, Nat.mod_lt _ (by norm_num)⟩)
  have hG : ∀ (h : Fin 4) (r : Fin 128) (a : Fin 512), G (ix2 r (col h a)) = (X d h).h (ix2 r a) := by
    intro h r a
    have h1 : (⟨(col h a).val / 512, by omega⟩ : Fin 4) = h := Fin.ext (col_div h a)
    have h2 : (⟨(col h a).val % 512, Nat.mod_lt _ (by norm_num)⟩ : Fin 512) = a := Fin.ext (col_mod h a)
    change (X d (⟨(col h a).val / 512, _⟩ : Fin 4)).h (ix2 r (⟨(col h a).val % 512, _⟩ : Fin 512)) = _
    rw [h1, h2]
  have := read_pieces v f G [] (heads4 (pieceH X d))
    (of_mem_heads4 _ fun h (x : S128x512.Idx) => by
      change (X d h).h x = _
      rw [show (pieceH X d h).1.emb x = _ from emb_cols h x]
      exact (congrArg _ (eq_ix2 x)).trans (hG h (x 0) (x 1)).symm) (mem_heads4 (pieceH X d) h) (ix2 r a)
  rw [show (pieceH X d h).1.emb _ = _ from e, List.append_nil] at this
  exact this.trans (hG h r a)

end Cert.Hand

end
-- ==== Proof.HeadAt.lean ====
module

public import proofs.«01_k».proof.Proof.Head
public import proofs.«01_k».proof.Proof.Spec

/-!
# One head of one chunk, element by element

Read over the reals, a head of the kernel is one step of the recurrence; `σ` orders the chunk's rows as the recurrence
meets them, so that both directions are the same statement.
-/

@[expose] public section

set_option maxRecDepth 16384

noncomputable section

namespace Cert.Hand.HeadIn

open Cert.KernelIdeal Cert.KernelIdeal.Gen Idealize.ShloMosaic Idealize.SL.Sem Cert.Hand
open Idealize.ShloMosaic.Tactic

/-- The head's inputs, its rows taken in the order `σ`. -/
def chunk (X : HeadIn Ideal) (σ : Fin 128 ≃ Fin 128) : Spec.Chunk where
  q i d := X.q (ix2 (σ i) d)
  k i d := X.k (ix2 (σ i) d)
  v i d := X.v (ix2 (σ i) d)
  ic i := X.ic (ix2 (σ i) 0)
  bc i := X.bc (ix2 (σ i) 0)
  ir i := X.ir (ix2 0 (σ i))
  br i := X.br (ix2 0 (σ i))

/-- The head's state. -/
def st (X : HeadIn Ideal) : Spec.St where
  C a b := X.C (ix4 0 0 a b)
  n a := X.n (ix4 0 0 0 a)
  m := X.m (ix4 0 0 0 0)

/-- The order `σ` suits the head: a query sees the keys up to itself, and the chunk's last position is the end row. -/
structure Ordered (X : HeadIn Ideal) (σ : Fin 128 ≃ Fin 128) : Prop where
  /-- the mask -/
  msk : ∀ i j, X.msk (ix2 (σ i) (σ j)) = if j ≤ i then 1 else 0
  /-- the end row -/
  e : (σ 127).val = X.e

variable {X : HeadIn Ideal} {σ : Fin 128 ≃ Fin 128} (hσ : X.Ordered σ)

/-- A maximum over the rows, taken in the order `σ`. -/
theorem fold_perm (σ : Fin 128 ≃ Fin 128) (b : EReal) (f : Fin 128 → EReal) :
    Finset.univ.fold max b f = Finset.univ.fold max b fun i => f (σ i) := by
  have h := Finset.fold_map (op := (max : EReal → EReal → EReal)) (g := σ.toEmbedding) (s := Finset.univ) (b := b) (f := f)
  simpa using h

include hσ

theorem logW_at (i j : Fin 128) : X.logW (ix2 (σ i) (σ j)) = Spec.logW (X.chunk σ) i j := by
  pointwise [logW]
  rw [hσ.msk]
  by_cases h : j ≤ i <;> simp [Spec.logW, chunk, h, Scalar.select]

theorem logPrev_at (i : Fin 128) : X.logPrev (ix2 (σ i) 0) = Spec.logPrev (X.chunk σ) X.st i := by
  pointwise [logPrev, m1]
  rfl

theorem mRow_at (i : Fin 128) : X.mRow (ix2 (σ i) 0) = Spec.mRow (X.chunk σ) X.st i := by
  pointwise [mRow]
  rw [fold_perm σ]
  simp only [logW_at hσ, logPrev_at hσ]
  rfl

theorem wPrev_at (i : Fin 128) : X.wPrev (ix2 (σ i) 0) = Spec.wPrev (X.chunk σ) X.st i := by
  pointwise [wPrev]
  rw [logPrev_at hσ, mRow_at hσ]
  rfl

theorem s_at (i j : Fin 128) : X.s (ix2 (σ i) (σ j)) = Spec.s (X.chunk σ) X.st i j := by
  pointwise [s]
  rw [logW_at hσ, mRow_at hσ]
  rfl

theorem num_at (i : Fin 128) (a : Fin 512) : X.num (ix2 (σ i) a) = Spec.num (X.chunk σ) X.st i a := by
  pointwise [num]
  rw [← Equiv.sum_comp σ]
  simp only [s_at hσ, wPrev_at hσ]
  rfl

theorem den_at (i : Fin 128) : X.den (ix2 (σ i) 0) = Spec.den (X.chunk σ) X.st i := by
  pointwise [den]
  rw [← Equiv.sum_comp σ]
  simp only [s_at hσ, wPrev_at hσ]
  rfl

/-- The head's result. -/
theorem h_at (i : Fin 128) (a : Fin 512) : X.h (ix2 (σ i) a) = Spec.h (X.chunk σ) X.st i a := by
  pointwise [h]
  rw [num_at hσ, den_at hσ, mRow_at hσ, zero_sub]
  rfl

theorem bl_at : X.bl (ix2 0 0) = (X.chunk σ).bc 127 := by
  pointwise [bl]
  have h : (⟨X.e, X.he.2 0⟩ : Fin 128) = σ 127 := Fin.ext hσ.e.symm
  exact congrArg (fun r => X.bc (ix2 r 0)) h

theorem logK_at (i : Fin 128) : X.logK (ix2 (σ i) 0) = Spec.logK (X.chunk σ) i := by
  pointwise [logK]
  rw [bl_at hσ]
  rfl

theorem mNew_at : X.mNew (ix2 0 0) = Spec.mNew (X.chunk σ) X.st := by
  pointwise [mNew, m1]
  rw [fold_perm σ, bl_at hσ]
  simp only [logK_at hσ]
  rfl

theorem wK_at (i : Fin 128) : X.wK (ix2 (σ i) 0) = Spec.wK (X.chunk σ) X.st i := by
  pointwise [wK]
  rw [logK_at hσ, mNew_at hσ]
  rfl

theorem wC_at : X.wC (ix2 0 0) = Spec.wC (X.chunk σ) X.st := by
  pointwise [wC, m1]
  rw [bl_at hσ, mNew_at hσ]
  rfl

/-- The head's new matrix memory. -/
theorem cNew_at (a b : Fin 512) : X.cNew (ix4 0 0 a b) = (Spec.next (X.chunk σ) X.st).C a b := by
  pointwise [cNew, kw]
  rw [← Equiv.sum_comp σ]
  simp only [wK_at hσ, wC_at hσ]
  rfl

/-- The head's new normalizer. -/
theorem nNew_at (a : Fin 512) : X.nNew (ix4 0 0 0 a) = (Spec.next (X.chunk σ) X.st).n a := by
  pointwise [nNew, kw]
  rw [← Equiv.sum_comp σ]
  simp only [wK_at hσ, wC_at hσ]
  rfl

/-- The head's new stabilizer. -/
theorem mOut_at (a : Fin 8) (b : Fin 128) : X.mOut (ix4 0 0 a b) = (Spec.next (X.chunk σ) X.st).m := by
  pointwise [mOut]
  exact mNew_at hσ

end Cert.Hand.HeadIn

end
-- ==== Proof.Recur.lean ====
module

public import proofs.«01_k».proof.Proof.Point
public import proofs.«01_k».proof.Proof.Pieces
public import proofs.«01_k».proof.Proof.HeadAt
public import proofs.«01_k».proof.Proof.Gen.KernelIdeal.Frame

/-!
# The kernel's grid points run the recurrence

After the point of chunk `i` of a batch the state of every head is that of the recurrence after `i + 1` chunks, and the
point's results are the recurrence's.
-/

@[expose] public section

set_option maxRecDepth 16384

noncomputable section

namespace Cert.Hand

open Cert.KernelIdeal Cert.KernelIdeal.Gen Idealize.ShloMosaic Idealize.ShloMosaic.TcCoe Idealize.SL.Sem
open Idealize.ShloMosaic.Tactic

variable {F : FTy → Type} [FloatOps F]
variable (m : (ℓ : Loc nD τ sig) → Buf (Elt F) ℓ)

/-- The blocks of the two directions at a grid point. -/
def dirsAt (c : Dev nD) (t : Fin cfg0.N) : Fin 2 → DirIn F :=
  dirs (iblk m c 0 t) (iblk m c 1 t) (iblk m c 2 t) (iblk m c 3 t) (iblk m c 4 t) (iblk m c 5 t) (iblk m c 6 t) (iblk m c 7 t) (iblk m c 8 t) (iblk m c 9 t)

/-- What a grid point leaves is, head by head, what the heads give. -/
structure Leaves (O : Vec F S128x2048 .f32 × Vec F S128x2048 .f32 × Vec F S2x4x512x512 .f32 × Vec F S2x4x8x512 .f32 × Vec F S2x4x8x128 .f32)
    (X : Fin 2 → Fin 4 → HeadIn F) : Prop where
  /-- forward results -/
  f : ∀ (h : Fin 4) (r : Fin 128) (a : Fin 512), O.1 (ix2 r (col h a)) = (X 0 h).h (ix2 r a)
  /-- backward results -/
  b : ∀ (h : Fin 4) (r : Fin 128) (a : Fin 512), O.2.1 (ix2 r (col h a)) = (X 1 h).h (ix2 r a)
  /-- matrix memories -/
  C : ∀ (d : Fin 2) (h : Fin 4) (a b : Fin 512), O.2.2.1 (ix4 d h a b) = (X d h).cNew (ix4 0 0 a b)
  /-- normalizers -/
  n : ∀ (d : Fin 2) (h : Fin 4) (a : Fin 512), O.2.2.2.1 (ix4 d h 0 a) = (X d h).nNew (ix4 0 0 0 a)
  /-- stabilizers -/
  m : ∀ (d : Fin 2) (h : Fin 4) (a : Fin 8) (b : Fin 128), O.2.2.2.2 (ix4 d h a b) = (X d h).mOut (ix4 0 0 a b)

/-- The forward results of a point of case A, as its stores read back. -/
theorem out0_A_10_eq (c : Dev nD) (i : grid0.Coords) (arg2 : Memref sig .tc .vmem S128x2048 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x128 .f32) (harg5 : arg5.IsWhole) (arg6 : Memref sig .tc .vmem S16x128 .f32) (harg6 : arg6.IsWhole) (arg7 : Memref sig .tc .vmem S128x2048 .bf16) (harg7 : arg7.IsWhole) (arg8 : Memref sig .tc .vmem S128x2048 .bf16) (harg8 : arg8.IsWhole) (arg9 : Memref sig .tc .vmem S128x2048 .bf16) (harg9 : arg9.IsWhole) (arg10 : Memref sig .tc .vmem S128x128 .f32) (harg10 : arg10.IsWhole) (arg11 : Memref sig .tc .vmem S16x128 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S2x4x512x512 .f32) (harg14 : arg14.IsWhole) (arg15 : Memref sig .tc .vmem S2x4x8x512 .f32) (harg15 : arg15.IsWhole) (arg16 : Memref sig .tc .vmem S2x4x8x128 .f32) (harg16 : arg16.IsWhole) (hc0 : cond0_0 i)
    (x0 : Vec F S128x2048 .bf16) (x1 : Vec F S128x2048 .bf16) (x2 : Vec F S128x2048 .bf16) (x3 : Vec F S128x128 .f32) (x4 : Vec F S16x128 .f32) (x5 : Vec F S128x2048 .bf16) (x6 : Vec F S128x2048 .bf16) (x7 : Vec F S128x2048 .bf16) (x8 : Vec F S128x128 .f32) (x9 : Vec F S16x128 .f32) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 = VO0_10.read (Elt F) (VO0_10.writes (Elt F) VO0_10.junk (heads4 (pieceH (headIn (dirs x0 x1 x2 x3 x4 x5 x6 x7 x8 x9) (k0_pay3 (F := F)) k0_pay4 k0_pay5) 0))) :=
  congrArg (fun L => VO0_10.read (Elt F) (VO0_10.writes (Elt F) VO0_10.junk L)) (run_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).1

/-- The backward results of a point of case A, as its stores read back. -/
theorem out0_A_11_eq (c : Dev nD) (i : grid0.Coords) (arg2 : Memref sig .tc .vmem S128x2048 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x128 .f32) (harg5 : arg5.IsWhole) (arg6 : Memref sig .tc .vmem S16x128 .f32) (harg6 : arg6.IsWhole) (arg7 : Memref sig .tc .vmem S128x2048 .bf16) (harg7 : arg7.IsWhole) (arg8 : Memref sig .tc .vmem S128x2048 .bf16) (harg8 : arg8.IsWhole) (arg9 : Memref sig .tc .vmem S128x2048 .bf16) (harg9 : arg9.IsWhole) (arg10 : Memref sig .tc .vmem S128x128 .f32) (harg10 : arg10.IsWhole) (arg11 : Memref sig .tc .vmem S16x128 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S2x4x512x512 .f32) (harg14 : arg14.IsWhole) (arg15 : Memref sig .tc .vmem S2x4x8x512 .f32) (harg15 : arg15.IsWhole) (arg16 : Memref sig .tc .vmem S2x4x8x128 .f32) (harg16 : arg16.IsWhole) (hc0 : cond0_0 i)
    (x0 : Vec F S128x2048 .bf16) (x1 : Vec F S128x2048 .bf16) (x2 : Vec F S128x2048 .bf16) (x3 : Vec F S128x128 .f32) (x4 : Vec F S16x128 .f32) (x5 : Vec F S128x2048 .bf16) (x6 : Vec F S128x2048 .bf16) (x7 : Vec F S128x2048 .bf16) (x8 : Vec F S128x128 .f32) (x9 : Vec F S16x128 .f32) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 = VO0_11.read (Elt F) (VO0_11.writes (Elt F) VO0_11.junk (heads4 (pieceH (headIn (dirs x0 x1 x2 x3 x4 x5 x6 x7 x8 x9) (k0_pay3 (F := F)) k0_pay4 k0_pay5) 1))) :=
  congrArg (fun L => VO0_11.read (Elt F) (VO0_11.writes (Elt F) VO0_11.junk L)) (run_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.1

/-- The matrix memories of a point of case A, as its stores read back. -/
theorem sout0_A_0_eq (c : Dev nD) (i : grid0.Coords) (arg2 : Memref sig .tc .vmem S128x2048 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x128 .f32) (harg5 : arg5.IsWhole) (arg6 : Memref sig .tc .vmem S16x128 .f32) (harg6 : arg6.IsWhole) (arg7 : Memref sig .tc .vmem S128x2048 .bf16) (harg7 : arg7.IsWhole) (arg8 : Memref sig .tc .vmem S128x2048 .bf16) (harg8 : arg8.IsWhole) (arg9 : Memref sig .tc .vmem S128x2048 .bf16) (harg9 : arg9.IsWhole) (arg10 : Memref sig .tc .vmem S128x128 .f32) (harg10 : arg10.IsWhole) (arg11 : Memref sig .tc .vmem S16x128 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S2x4x512x512 .f32) (harg14 : arg14.IsWhole) (arg15 : Memref sig .tc .vmem S2x4x8x512 .f32) (harg15 : arg15.IsWhole) (arg16 : Memref sig .tc .vmem S2x4x8x128 .f32) (harg16 : arg16.IsWhole) (hc0 : cond0_0 i)
    (x0 : Vec F S128x2048 .bf16) (x1 : Vec F S128x2048 .bf16) (x2 : Vec F S128x2048 .bf16) (x3 : Vec F S128x128 .f32) (x4 : Vec F S16x128 .f32) (x5 : Vec F S128x2048 .bf16) (x6 : Vec F S128x2048 .bf16) (x7 : Vec F S128x2048 .bf16) (x8 : Vec F S128x128 .f32) (x9 : Vec F S16x128 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 = VS0_0.read (Elt F) (VS0_0.writes (Elt F) VS0_0.junk (heads (pieceC (headIn (dirs x0 x1 x2 x3 x4 x5 x6 x7 x8 x9) (k0_pay3 (F := F)) k0_pay4 k0_pay5)) ++ [⟨Rect.unit ![0, 0, 0, 0] S2x4x512x512.size inb_S2x4x512x512_S2x4x512x512_0_0_0_0, k0_pay3⟩])) :=
  congrArg (fun L => VS0_0.read (Elt F) (VS0_0.writes (Elt F) VS0_0.junk L)) (run_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.1

/-- The normalizers of a point of case A, as its stores read back. -/
theorem sout0_A_1_eq (c : Dev nD) (i : grid0.Coords) (arg2 : Memref sig .tc .vmem S128x2048 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x128 .f32) (harg5 : arg5.IsWhole) (arg6 : Memref sig .tc .vmem S16x128 .f32) (harg6 : arg6.IsWhole) (arg7 : Memref sig .tc .vmem S128x2048 .bf16) (harg7 : arg7.IsWhole) (arg8 : Memref sig .tc .vmem S128x2048 .bf16) (harg8 : arg8.IsWhole) (arg9 : Memref sig .tc .vmem S128x2048 .bf16) (harg9 : arg9.IsWhole) (arg10 : Memref sig .tc .vmem S128x128 .f32) (harg10 : arg10.IsWhole) (arg11 : Memref sig .tc .vmem S16x128 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S2x4x512x512 .f32) (harg14 : arg14.IsWhole) (arg15 : Memref sig .tc .vmem S2x4x8x512 .f32) (harg15 : arg15.IsWhole) (arg16 : Memref sig .tc .vmem S2x4x8x128 .f32) (harg16 : arg16.IsWhole) (hc0 : cond0_0 i)
    (x0 : Vec F S128x2048 .bf16) (x1 : Vec F S128x2048 .bf16) (x2 : Vec F S128x2048 .bf16) (x3 : Vec F S128x128 .f32) (x4 : Vec F S16x128 .f32) (x5 : Vec F S128x2048 .bf16) (x6 : Vec F S128x2048 .bf16) (x7 : Vec F S128x2048 .bf16) (x8 : Vec F S128x128 .f32) (x9 : Vec F S16x128 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 = VS0_1.read (Elt F) (VS0_1.writes (Elt F) VS0_1.junk (heads (pieceN (headIn (dirs x0 x1 x2 x3 x4 x5 x6 x7 x8 x9) (k0_pay3 (F := F)) k0_pay4 k0_pay5)) ++ [⟨Rect.unit ![0, 0, 0, 0] S2x4x8x512.size inb_S2x4x8x512_S2x4x8x512_0_0_0_0, k0_pay4⟩])) :=
  congrArg (fun L => VS0_1.read (Elt F) (VS0_1.writes (Elt F) VS0_1.junk L)) (run_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.1

/-- The stabilizers of a point of case A, as its stores read back. -/
theorem sout0_A_2_eq (c : Dev nD) (i : grid0.Coords) (arg2 : Memref sig .tc .vmem S128x2048 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x128 .f32) (harg5 : arg5.IsWhole) (arg6 : Memref sig .tc .vmem S16x128 .f32) (harg6 : arg6.IsWhole) (arg7 : Memref sig .tc .vmem S128x2048 .bf16) (harg7 : arg7.IsWhole) (arg8 : Memref sig .tc .vmem S128x2048 .bf16) (harg8 : arg8.IsWhole) (arg9 : Memref sig .tc .vmem S128x2048 .bf16) (harg9 : arg9.IsWhole) (arg10 : Memref sig .tc .vmem S128x128 .f32) (harg10 : arg10.IsWhole) (arg11 : Memref sig .tc .vmem S16x128 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S2x4x512x512 .f32) (harg14 : arg14.IsWhole) (arg15 : Memref sig .tc .vmem S2x4x8x512 .f32) (harg15 : arg15.IsWhole) (arg16 : Memref sig .tc .vmem S2x4x8x128 .f32) (harg16 : arg16.IsWhole) (hc0 : cond0_0 i)
    (x0 : Vec F S128x2048 .bf16) (x1 : Vec F S128x2048 .bf16) (x2 : Vec F S128x2048 .bf16) (x3 : Vec F S128x128 .f32) (x4 : Vec F S16x128 .f32) (x5 : Vec F S128x2048 .bf16) (x6 : Vec F S128x2048 .bf16) (x7 : Vec F S128x2048 .bf16) (x8 : Vec F S128x128 .f32) (x9 : Vec F S16x128 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 = VS0_2.read (Elt F) (VS0_2.writes (Elt F) VS0_2.junk (heads (pieceM (headIn (dirs x0 x1 x2 x3 x4 x5 x6 x7 x8 x9) (k0_pay3 (F := F)) k0_pay4 k0_pay5)) ++ [⟨Rect.unit ![0, 0, 0, 0] S2x4x8x128.size inb_S2x4x8x128_S2x4x8x128_0_0_0_0, k0_pay5⟩])) :=
  congrArg (fun L => VS0_2.read (Elt F) (VS0_2.writes (Elt F) VS0_2.junk L)) (run_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.2.2

/-- The contents that a point of case A leaves are what its heads give. -/
theorem leaves_of_A (c : Dev nD) (i : grid0.Coords) (arg2 : Memref sig .tc .vmem S128x2048 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x128 .f32) (harg5 : arg5.IsWhole) (arg6 : Memref sig .tc .vmem S16x128 .f32) (harg6 : arg6.IsWhole) (arg7 : Memref sig .tc .vmem S128x2048 .bf16) (harg7 : arg7.IsWhole) (arg8 : Memref sig .tc .vmem S128x2048 .bf16) (harg8 : arg8.IsWhole) (arg9 : Memref sig .tc .vmem S128x2048 .bf16) (harg9 : arg9.IsWhole) (arg10 : Memref sig .tc .vmem S128x128 .f32) (harg10 : arg10.IsWhole) (arg11 : Memref sig .tc .vmem S16x128 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S2x4x512x512 .f32) (harg14 : arg14.IsWhole) (arg15 : Memref sig .tc .vmem S2x4x8x512 .f32) (harg15 : arg15.IsWhole) (arg16 : Memref sig .tc .vmem S2x4x8x128 .f32) (harg16 : arg16.IsWhole) (hc0 : cond0_0 i)
    (x0 : Vec F S128x2048 .bf16) (x1 : Vec F S128x2048 .bf16) (x2 : Vec F S128x2048 .bf16) (x3 : Vec F S128x128 .f32) (x4 : Vec F S16x128 .f32) (x5 : Vec F S128x2048 .bf16) (x6 : Vec F S128x2048 .bf16) (x7 : Vec F S128x2048 .bf16) (x8 : Vec F S128x128 .f32) (x9 : Vec F S16x128 .f32) :
    Leaves (out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9, out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9, sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9, sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9, sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9) (headIn (dirs x0 x1 x2 x3 x4 x5 x6 x7 x8 x9) (k0_pay3 (F := F)) k0_pay4 k0_pay5) := by
  rw [out0_A_10_eq, out0_A_11_eq, sout0_A_0_eq, sout0_A_1_eq, sout0_A_2_eq]
  generalize (headIn (dirs x0 x1 x2 x3 x4 x5 x6 x7 x8 x9) (k0_pay3 (F := F)) k0_pay4 k0_pay5) = X
  refine ⟨?_, ?_, ?_, ?_, ?_⟩ <;> dsimp only
  · exact fun h r a => read_H X 0 VO0_10 VO0_10.junk h r a
  · exact fun h r a => read_H X 1 VO0_11 VO0_11.junk h r a
  · exact fun d h a b => read_C X VS0_0 VS0_0.junk _ d h a b
  · exact fun d h a => read_N X VS0_1 VS0_1.junk _ d h a
  · exact fun d h a b => read_M X VS0_2 VS0_2.junk _ d h a b

/-- The forward results of a point of case B, as its stores read back. -/
theorem out0_B_10_eq (c : Dev nD) (i : grid0.Coords) (arg2 : Memref sig .tc .vmem S128x2048 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x128 .f32) (harg5 : arg5.IsWhole) (arg6 : Memref sig .tc .vmem S16x128 .f32) (harg6 : arg6.IsWhole) (arg7 : Memref sig .tc .vmem S128x2048 .bf16) (harg7 : arg7.IsWhole) (arg8 : Memref sig .tc .vmem S128x2048 .bf16) (harg8 : arg8.IsWhole) (arg9 : Memref sig .tc .vmem S128x2048 .bf16) (harg9 : arg9.IsWhole) (arg10 : Memref sig .tc .vmem S128x128 .f32) (harg10 : arg10.IsWhole) (arg11 : Memref sig .tc .vmem S16x128 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S2x4x512x512 .f32) (harg14 : arg14.IsWhole) (arg15 : Memref sig .tc .vmem S2x4x8x512 .f32) (harg15 : arg15.IsWhole) (arg16 : Memref sig .tc .vmem S2x4x8x128 .f32) (harg16 : arg16.IsWhole) (hc0 : ¬cond0_0 i)
    (x0 : Vec F S128x2048 .bf16) (x1 : Vec F S128x2048 .bf16) (x2 : Vec F S128x2048 .bf16) (x3 : Vec F S128x128 .f32) (x4 : Vec F S16x128 .f32) (x5 : Vec F S128x2048 .bf16) (x6 : Vec F S128x2048 .bf16) (x7 : Vec F S128x2048 .bf16) (x8 : Vec F S128x128 .f32) (x9 : Vec F S16x128 .f32) (xs0 : Vec F S2x4x512x512 .f32) (xs1 : Vec F S2x4x8x512 .f32) (xs2 : Vec F S2x4x8x128 .f32) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 xs2 = VO0_10.read (Elt F) (VO0_10.writes (Elt F) VO0_10.junk (heads4 (pieceH (headIn (dirs x0 x1 x2 x3 x4 x5 x6 x7 x8 x9) xs0 xs1 xs2) 0))) :=
  congrArg (fun L => VO0_10.read (Elt F) (VO0_10.writes (Elt F) VO0_10.junk L)) (run_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 xs2).1

/-- The backward results of a point of case B, as its stores read back. -/
theorem out0_B_11_eq (c : Dev nD) (i : grid0.Coords) (arg2 : Memref sig .tc .vmem S128x2048 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x128 .f32) (harg5 : arg5.IsWhole) (arg6 : Memref sig .tc .vmem S16x128 .f32) (harg6 : arg6.IsWhole) (arg7 : Memref sig .tc .vmem S128x2048 .bf16) (harg7 : arg7.IsWhole) (arg8 : Memref sig .tc .vmem S128x2048 .bf16) (harg8 : arg8.IsWhole) (arg9 : Memref sig .tc .vmem S128x2048 .bf16) (harg9 : arg9.IsWhole) (arg10 : Memref sig .tc .vmem S128x128 .f32) (harg10 : arg10.IsWhole) (arg11 : Memref sig .tc .vmem S16x128 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S2x4x512x512 .f32) (harg14 : arg14.IsWhole) (arg15 : Memref sig .tc .vmem S2x4x8x512 .f32) (harg15 : arg15.IsWhole) (arg16 : Memref sig .tc .vmem S2x4x8x128 .f32) (harg16 : arg16.IsWhole) (hc0 : ¬cond0_0 i)
    (x0 : Vec F S128x2048 .bf16) (x1 : Vec F S128x2048 .bf16) (x2 : Vec F S128x2048 .bf16) (x3 : Vec F S128x128 .f32) (x4 : Vec F S16x128 .f32) (x5 : Vec F S128x2048 .bf16) (x6 : Vec F S128x2048 .bf16) (x7 : Vec F S128x2048 .bf16) (x8 : Vec F S128x128 .f32) (x9 : Vec F S16x128 .f32) (xs0 : Vec F S2x4x512x512 .f32) (xs1 : Vec F S2x4x8x512 .f32) (xs2 : Vec F S2x4x8x128 .f32) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 xs2 = VO0_11.read (Elt F) (VO0_11.writes (Elt F) VO0_11.junk (heads4 (pieceH (headIn (dirs x0 x1 x2 x3 x4 x5 x6 x7 x8 x9) xs0 xs1 xs2) 1))) :=
  congrArg (fun L => VO0_11.read (Elt F) (VO0_11.writes (Elt F) VO0_11.junk L)) (run_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 xs2).2.1

/-- The matrix memories of a point of case B, as its stores read back. -/
theorem sout0_B_0_eq (c : Dev nD) (i : grid0.Coords) (arg2 : Memref sig .tc .vmem S128x2048 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x128 .f32) (harg5 : arg5.IsWhole) (arg6 : Memref sig .tc .vmem S16x128 .f32) (harg6 : arg6.IsWhole) (arg7 : Memref sig .tc .vmem S128x2048 .bf16) (harg7 : arg7.IsWhole) (arg8 : Memref sig .tc .vmem S128x2048 .bf16) (harg8 : arg8.IsWhole) (arg9 : Memref sig .tc .vmem S128x2048 .bf16) (harg9 : arg9.IsWhole) (arg10 : Memref sig .tc .vmem S128x128 .f32) (harg10 : arg10.IsWhole) (arg11 : Memref sig .tc .vmem S16x128 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S2x4x512x512 .f32) (harg14 : arg14.IsWhole) (arg15 : Memref sig .tc .vmem S2x4x8x512 .f32) (harg15 : arg15.IsWhole) (arg16 : Memref sig .tc .vmem S2x4x8x128 .f32) (harg16 : arg16.IsWhole) (hc0 : ¬cond0_0 i)
    (x0 : Vec F S128x2048 .bf16) (x1 : Vec F S128x2048 .bf16) (x2 : Vec F S128x2048 .bf16) (x3 : Vec F S128x128 .f32) (x4 : Vec F S16x128 .f32) (x5 : Vec F S128x2048 .bf16) (x6 : Vec F S128x2048 .bf16) (x7 : Vec F S128x2048 .bf16) (x8 : Vec F S128x128 .f32) (x9 : Vec F S16x128 .f32) (xs0 : Vec F S2x4x512x512 .f32) (xs1 : Vec F S2x4x8x512 .f32) (xs2 : Vec F S2x4x8x128 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 xs2 = VS0_0.read (Elt F) (VS0_0.writes (Elt F) VS0_0.junk (heads (pieceC (headIn (dirs x0 x1 x2 x3 x4 x5 x6 x7 x8 x9) xs0 xs1 xs2)) ++ [])) :=
  congrArg (fun L => VS0_0.read (Elt F) (VS0_0.writes (Elt F) VS0_0.junk L)) ((run_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 xs2).2.2.1.trans (List.append_nil _).symm)

/-- The normalizers of a point of case B, as its stores read back. -/
theorem sout0_B_1_eq (c : Dev nD) (i : grid0.Coords) (arg2 : Memref sig .tc .vmem S128x2048 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x128 .f32) (harg5 : arg5.IsWhole) (arg6 : Memref sig .tc .vmem S16x128 .f32) (harg6 : arg6.IsWhole) (arg7 : Memref sig .tc .vmem S128x2048 .bf16) (harg7 : arg7.IsWhole) (arg8 : Memref sig .tc .vmem S128x2048 .bf16) (harg8 : arg8.IsWhole) (arg9 : Memref sig .tc .vmem S128x2048 .bf16) (harg9 : arg9.IsWhole) (arg10 : Memref sig .tc .vmem S128x128 .f32) (harg10 : arg10.IsWhole) (arg11 : Memref sig .tc .vmem S16x128 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S2x4x512x512 .f32) (harg14 : arg14.IsWhole) (arg15 : Memref sig .tc .vmem S2x4x8x512 .f32) (harg15 : arg15.IsWhole) (arg16 : Memref sig .tc .vmem S2x4x8x128 .f32) (harg16 : arg16.IsWhole) (hc0 : ¬cond0_0 i)
    (x0 : Vec F S128x2048 .bf16) (x1 : Vec F S128x2048 .bf16) (x2 : Vec F S128x2048 .bf16) (x3 : Vec F S128x128 .f32) (x4 : Vec F S16x128 .f32) (x5 : Vec F S128x2048 .bf16) (x6 : Vec F S128x2048 .bf16) (x7 : Vec F S128x2048 .bf16) (x8 : Vec F S128x128 .f32) (x9 : Vec F S16x128 .f32) (xs0 : Vec F S2x4x512x512 .f32) (xs1 : Vec F S2x4x8x512 .f32) (xs2 : Vec F S2x4x8x128 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 xs2 = arg15.view.read (Elt F) (arg15.view.writes (Elt F) (harg15.unread xs1) (heads (pieceN (headIn (dirs x0 x1 x2 x3 x4 x5 x6 x7 x8 x9) xs0 xs1 xs2)) ++ [])) :=
  congrArg (fun L => arg15.view.read (Elt F) (arg15.view.writes (Elt F) (harg15.unread xs1) L)) ((run_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 xs2).2.2.2.1.trans (List.append_nil _).symm)

/-- The stabilizers of a point of case B, as its stores read back. -/
theorem sout0_B_2_eq (c : Dev nD) (i : grid0.Coords) (arg2 : Memref sig .tc .vmem S128x2048 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x128 .f32) (harg5 : arg5.IsWhole) (arg6 : Memref sig .tc .vmem S16x128 .f32) (harg6 : arg6.IsWhole) (arg7 : Memref sig .tc .vmem S128x2048 .bf16) (harg7 : arg7.IsWhole) (arg8 : Memref sig .tc .vmem S128x2048 .bf16) (harg8 : arg8.IsWhole) (arg9 : Memref sig .tc .vmem S128x2048 .bf16) (harg9 : arg9.IsWhole) (arg10 : Memref sig .tc .vmem S128x128 .f32) (harg10 : arg10.IsWhole) (arg11 : Memref sig .tc .vmem S16x128 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S2x4x512x512 .f32) (harg14 : arg14.IsWhole) (arg15 : Memref sig .tc .vmem S2x4x8x512 .f32) (harg15 : arg15.IsWhole) (arg16 : Memref sig .tc .vmem S2x4x8x128 .f32) (harg16 : arg16.IsWhole) (hc0 : ¬cond0_0 i)
    (x0 : Vec F S128x2048 .bf16) (x1 : Vec F S128x2048 .bf16) (x2 : Vec F S128x2048 .bf16) (x3 : Vec F S128x128 .f32) (x4 : Vec F S16x128 .f32) (x5 : Vec F S128x2048 .bf16) (x6 : Vec F S128x2048 .bf16) (x7 : Vec F S128x2048 .bf16) (x8 : Vec F S128x128 .f32) (x9 : Vec F S16x128 .f32) (xs0 : Vec F S2x4x512x512 .f32) (xs1 : Vec F S2x4x8x512 .f32) (xs2 : Vec F S2x4x8x128 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 xs2 = VS0_2.read (Elt F) (VS0_2.writes (Elt F) VS0_2.junk (heads (pieceM (headIn (dirs x0 x1 x2 x3 x4 x5 x6 x7 x8 x9) xs0 xs1 xs2)) ++ [])) :=
  congrArg (fun L => VS0_2.read (Elt F) (VS0_2.writes (Elt F) VS0_2.junk L)) ((run_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 xs2).2.2.2.2.trans (List.append_nil _).symm)

/-- The contents that a point of case B leaves are what its heads give. -/
theorem leaves_of_B (c : Dev nD) (i : grid0.Coords) (arg2 : Memref sig .tc .vmem S128x2048 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x128 .f32) (harg5 : arg5.IsWhole) (arg6 : Memref sig .tc .vmem S16x128 .f32) (harg6 : arg6.IsWhole) (arg7 : Memref sig .tc .vmem S128x2048 .bf16) (harg7 : arg7.IsWhole) (arg8 : Memref sig .tc .vmem S128x2048 .bf16) (harg8 : arg8.IsWhole) (arg9 : Memref sig .tc .vmem S128x2048 .bf16) (harg9 : arg9.IsWhole) (arg10 : Memref sig .tc .vmem S128x128 .f32) (harg10 : arg10.IsWhole) (arg11 : Memref sig .tc .vmem S16x128 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S2x4x512x512 .f32) (harg14 : arg14.IsWhole) (arg15 : Memref sig .tc .vmem S2x4x8x512 .f32) (harg15 : arg15.IsWhole) (arg16 : Memref sig .tc .vmem S2x4x8x128 .f32) (harg16 : arg16.IsWhole) (hc0 : ¬cond0_0 i)
    (x0 : Vec F S128x2048 .bf16) (x1 : Vec F S128x2048 .bf16) (x2 : Vec F S128x2048 .bf16) (x3 : Vec F S128x128 .f32) (x4 : Vec F S16x128 .f32) (x5 : Vec F S128x2048 .bf16) (x6 : Vec F S128x2048 .bf16) (x7 : Vec F S128x2048 .bf16) (x8 : Vec F S128x128 .f32) (x9 : Vec F S16x128 .f32) (xs0 : Vec F S2x4x512x512 .f32) (xs1 : Vec F S2x4x8x512 .f32) (xs2 : Vec F S2x4x8x128 .f32) :
    Leaves (out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 xs2, out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 xs2, sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 xs2, sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 xs2, sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 xs2) (headIn (dirs x0 x1 x2 x3 x4 x5 x6 x7 x8 x9) xs0 xs1 xs2) := by
  rw [out0_B_10_eq, out0_B_11_eq, sout0_B_0_eq, sout0_B_1_eq, sout0_B_2_eq]
  generalize (headIn (dirs x0 x1 x2 x3 x4 x5 x6 x7 x8 x9) xs0 xs1 xs2) = X
  refine ⟨?_, ?_, ?_, ?_, ?_⟩ <;> dsimp only
  · exact fun h r a => read_H X 0 VO0_10 VO0_10.junk h r a
  · exact fun h r a => read_H X 1 VO0_11 VO0_11.junk h r a
  · exact fun d h a b => read_C X VS0_0 VS0_0.junk _ d h a b
  · exact fun d h a => read_N X arg15.view (harg15.unread xs1) _ d h a
  · exact fun d h a b => read_M X VS0_2 VS0_2.junk _ d h a b

/-- At the first point of a batch the heads start from zeros. -/
theorem leaves_A (c : Dev nD) (t : Fin cfg0.N) (h0 : t.val % 66 = 0) :
    Leaves (outsAt0 m c t.val t.isLt) (headIn (dirsAt m c t) (k0_pay3 (F := F)) k0_pay4 k0_pay5) := by
  rw [outsAt0_A m c t h0]
  exact leaves_of_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)

/-- At any other point they go on from what the point before left. -/
theorem leaves_B (c : Dev nD) (t : Fin cfg0.N) (h0 : ¬t.val % 66 = 0) (hp : t.val - 1 < cfg0.N) :
    Leaves (outsAt0 m c t.val t.isLt) (headIn (dirsAt m c t) (outsAt0 m c (t.val - 1) hp).2.2.1
      (outsAt0 m c (t.val - 1) hp).2.2.2.1 (outsAt0 m c (t.val - 1) hp).2.2.2.2) := by
  rw [outsAt0_B m c t h0]
  exact leaves_of_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) _ _ _

end Cert.Hand

end
-- ==== Proof.States.lean ====
module

public import proofs.«01_k».proof.Proof.Recur

/-!
# The kernel's heads follow the recurrence

The chunks that the two directions meet are read out of the five arguments; after the point of chunk `i` of a batch the
state of each head is the recurrence's after `i + 1` chunks.
-/

@[expose] public section

set_option maxRecDepth 16384

noncomputable section

namespace Cert.Hand

open Cert.KernelIdeal Cert.KernelIdeal.Gen Idealize.ShloMosaic Idealize.ShloMosaic.TcCoe Idealize.SL.Sem
open Idealize.ShloMosaic.Tactic

/-- The order in which a direction meets the rows of a chunk. -/
def order (d : Fin 2) : Fin 128 ≃ Fin 128 := if d = 0 then Equiv.refl _ else Fin.revPerm

/-- The row of the arrays that direction `d` meets at place `p` of batch `b`'s sequence: the 256 context rows of all batches come
first, then the 8192 latent rows; a backward direction meets each of the two parts from its end. -/
def row (d b : Fin 2) (p : Fin 8448) : Fin 16896 :=
  if p.val < 256 then ⟨b.val * 256 + (if d = 0 then p.val else 255 - p.val), by split <;> omega⟩
  else ⟨512 + b.val * 8192 + (if d = 0 then p.val - 256 else 8191 - (p.val - 256)), by split <;> omega⟩

/-- Place `r` of chunk `i`. -/
def place (i : Fin 66) (r : Fin 128) : Fin 8448 := ⟨128 * i.val + r.val, by omega⟩

/-- The five arguments. -/
structure Args where
  /-- queries -/
  q : FVec Ideal S16896x2048 .bf16
  /-- keys -/
  k : FVec Ideal S16896x2048 .bf16
  /-- values -/
  v : FVec Ideal S16896x2048 .bf16
  /-- gates as columns -/
  gc : FVec Ideal S16896x128 .f32
  /-- gates as rows -/
  gr : FVec Ideal S16x16896 .f32

/-- Chunk `i` of the sequence that head `h` of direction `d` meets in batch `b`. -/
def Args.chunk (A : Args) (d b : Fin 2) (h : Fin 4) (i : Fin 66) : Spec.Chunk where
  q r a := A.q (ix2 (row d b (place i r)) (col h a))
  k r a := A.k (ix2 (row d b (place i r)) (col h a))
  v r a := A.v (ix2 (row d b (place i r)) (col h a))
  ic r := A.gc (ix2 (row d b (place i r)) ⟨(gateI d h).val, by omega⟩)
  bc r := A.gc (ix2 (row d b (place i r)) ⟨(gateB d h).val, by omega⟩)
  ir r := A.gr (ix2 (gateI d h) (row d b (place i r)))
  br r := A.gr (ix2 (gateB d h) (row d b (place i r)))

/-- The sequence of chunks; past its end it starts over. -/
def Args.chunks (A : Args) (d b : Fin 2) (h : Fin 4) (i : ℕ) : Spec.Chunk := A.chunk d b h ⟨i % 66, Nat.mod_lt _ (by norm_num)⟩

theorem mask_at (d : Fin 2) (i j : Fin 128) : mask d (ix2 (order d i) (order d j)) = if j ≤ i then 1 else 0 := by
  have key : ∀ d : Fin 2, ∀ i j : Fin 128, IntOp.cmpi (if d = 0 then .sle else .sge) (BitVec.ofNat 32 (order d j).val)
      (BitVec.ofNat 32 (order d i).val) = if j ≤ i then 1 else 0 := by decide +kernel
  rw [← key d]
  match d with
  | 0 => pointwise [mask]
  | 1 => pointwise [mask]

theorem ordered (D : Fin 2 → DirIn Ideal) (c n m) (d : Fin 2) (h : Fin 4) : (headIn D c n m d h).Ordered (order d) where
  msk := mask_at d
  e := by
    match d with
    | 0 => rfl
    | 1 => rfl

/-- The chunk that a head of direction `d` meets in the direction's blocks. -/
def DirIn.chunk (D : DirIn Ideal) (d : Fin 2) (h : Fin 4) : Spec.Chunk where
  q r a := D.q (ix2 (order d r) (col h a))
  k r a := D.k (ix2 (order d r) (col h a))
  v r a := D.v (ix2 (order d r) (col h a))
  ic r := D.gc (ix2 (order d r) ⟨(gateI d h).val, by omega⟩)
  bc r := D.gc (ix2 (order d r) ⟨(gateB d h).val, by omega⟩)
  ir r := D.gr (ix2 (gateI d h) (order d r))
  br r := D.gr (ix2 (gateB d h) (order d r))

theorem chunk_headIn (D : Fin 2 → DirIn Ideal) (c n m) (d : Fin 2) (h : Fin 4) :
    (headIn D c n m d h).chunk (order d) = (D d).chunk d h := by
  unfold HeadIn.chunk DirIn.chunk headIn
  dsimp only
  congr 1
  · funext r a; exact congrArg (D d).q (emb_cols h (ix2 (order d r) a))
  · funext r a; exact congrArg (D d).k (emb_cols h (ix2 (order d r) a))
  · funext r a; exact congrArg (D d).v (emb_cols h (ix2 (order d r) a))
  · funext r; exact congrArg (D d).gc (emb_gcol (gateI d h) (ix2 (order d r) 0))
  · funext r; exact congrArg (D d).gc (emb_gcol (gateB d h) (ix2 (order d r) 0))
  · funext r; exact congrArg (D d).gr (emb_grow (gateI d h) (ix2 0 (order d r)))
  · funext r; exact congrArg (D d).gr (emb_grow (gateB d h) (ix2 0 (order d r)))

/-- The state of head `h` of direction `d` in the three scratch buffers. -/
def stOf (c : FVec Ideal S2x4x512x512 .f32) (n : FVec Ideal S2x4x8x512 .f32) (m : FVec Ideal S2x4x8x128 .f32) (d : Fin 2) (h : Fin 4) : Spec.St where
  C a b := c (ix4 d h a b)
  n a := n (ix4 d h 0 a)
  m := m (ix4 d h 0 0)

theorem st_headIn (D : Fin 2 → DirIn Ideal) (c n m) (d : Fin 2) (h : Fin 4) :
    (headIn D c n m d h).st = stOf c n m d h := by
  unfold HeadIn.st stOf headIn
  dsimp only
  congr 1
  · funext a b; exact congrArg c (emb_C d h (ix4 0 0 a b))
  · funext a; exact congrArg n (emb_n d h (ix4 0 0 0 a))
  · exact congrArg m (emb_m d h (ix4 0 0 0 0))

/-- What a point leaves in the scratch is the recurrence's next state. -/
theorem Leaves.next {O} {D : Fin 2 → DirIn Ideal} {c n m} (L : Leaves O (headIn D c n m)) (d : Fin 2) (h : Fin 4) :
    stOf O.2.2.1 O.2.2.2.1 O.2.2.2.2 d h = Spec.next ((D d).chunk d h) (stOf c n m d h) := by
  rw [← chunk_headIn D c n m, ← st_headIn D c n m]
  have hσ := ordered D c n m d h
  ext1
  · funext a b; exact (L.C d h a b).trans (HeadIn.cNew_at hσ a b)
  · funext a; exact (L.n d h a).trans (HeadIn.nNew_at hσ a)
  · exact (L.m d h 0 0).trans (HeadIn.mOut_at hσ 0 0)

theorem zero_st (d : Fin 2) (h : Fin 4) : stOf (k0_pay3 (F := Ideal)) k0_pay4 k0_pay5 d h = Spec.St.zero := by
  unfold stOf Spec.St.zero
  congr 1
  · funext a b; pointwise [k0_pay3]
  · funext a; pointwise [k0_pay4]
  · pointwise [k0_pay5]

/-- What a point leaves in its two output blocks are the recurrence's results. -/
theorem Leaves.out {O} {D : Fin 2 → DirIn Ideal} {c n m} (L : Leaves O (headIn D c n m)) (h : Fin 4) (r : Fin 128) (a : Fin 512) :
    O.1 (ix2 (order 0 r) (col h a)) = Spec.h ((D 0).chunk 0 h) (stOf c n m 0 h) r a
      ∧ O.2.1 (ix2 (order 1 r) (col h a)) = Spec.h ((D 1).chunk 1 h) (stOf c n m 1 h) r a := by
  rw [← chunk_headIn D c n m, ← st_headIn D c n m, ← chunk_headIn D c n m, ← st_headIn D c n m]
  exact ⟨(L.f h _ a).trans (HeadIn.h_at (ordered D c n m 0 h) r a), (L.b h _ a).trans (HeadIn.h_at (ordered D c n m 1 h) r a)⟩

end Cert.Hand

end
-- ==== Proof.Blocks.lean ====
module

public import proofs.«01_k».proof.Proof.States
public import proofs.«01_k».proof.Proof.Gen.KernelIdeal.Value

/-!
# The blocks of a grid point, in the arguments
-/

@[expose] public section

set_option maxRecDepth 16384

noncomputable section

namespace Cert.Hand

open Cert.KernelIdeal Cert.KernelIdeal.Gen Idealize.ShloMosaic Idealize.ShloMosaic.TcCoe Idealize.SL.Sem
open Idealize.ShloMosaic.Tactic

/-- The number of the block of 128 rows that direction `d` works on at point `t`. -/
def blockNo (d : Fin 2) (t : ℕ) : ℕ :=
  if t % 66 < 2 then 2 * (t / 66) + (if d = 0 then t % 66 else 1 - t % 66)
  else 4 + 64 * (t / 66) + (if d = 0 then t % 66 - 2 else 63 - (t % 66 - 2))

theorem index_f : ∀ t : Fin cfg0.N,
    (win0_0.index t 0 = blockNo 0 t.val ∧ win0_0.index t 1 = 0) ∧ (win0_1.index t 0 = blockNo 0 t.val ∧ win0_1.index t 1 = 0)
    ∧ (win0_2.index t 0 = blockNo 0 t.val ∧ win0_2.index t 1 = 0) ∧ (win0_3.index t 0 = blockNo 0 t.val ∧ win0_3.index t 1 = 0)
    ∧ (win0_4.index t 0 = 0 ∧ win0_4.index t 1 = blockNo 0 t.val) ∧ (win0_10.index t 0 = blockNo 0 t.val ∧ win0_10.index t 1 = 0) :=
  (by decide +kernel : ∀ t : Fin grid0.N,
    (win0_0.index t 0 = blockNo 0 t.val ∧ win0_0.index t 1 = 0) ∧ (win0_1.index t 0 = blockNo 0 t.val ∧ win0_1.index t 1 = 0)
    ∧ (win0_2.index t 0 = blockNo 0 t.val ∧ win0_2.index t 1 = 0) ∧ (win0_3.index t 0 = blockNo 0 t.val ∧ win0_3.index t 1 = 0)
    ∧ (win0_4.index t 0 = 0 ∧ win0_4.index t 1 = blockNo 0 t.val) ∧ (win0_10.index t 0 = blockNo 0 t.val ∧ win0_10.index t 1 = 0))

theorem index_b : ∀ t : Fin cfg0.N,
    (win0_5.index t 0 = blockNo 1 t.val ∧ win0_5.index t 1 = 0) ∧ (win0_6.index t 0 = blockNo 1 t.val ∧ win0_6.index t 1 = 0)
    ∧ (win0_7.index t 0 = blockNo 1 t.val ∧ win0_7.index t 1 = 0) ∧ (win0_8.index t 0 = blockNo 1 t.val ∧ win0_8.index t 1 = 0)
    ∧ (win0_9.index t 0 = 0 ∧ win0_9.index t 1 = blockNo 1 t.val) ∧ (win0_11.index t 0 = blockNo 1 t.val ∧ win0_11.index t 1 = 0) :=
  (by decide +kernel : ∀ t : Fin grid0.N,
    (win0_5.index t 0 = blockNo 1 t.val ∧ win0_5.index t 1 = 0) ∧ (win0_6.index t 0 = blockNo 1 t.val ∧ win0_6.index t 1 = 0)
    ∧ (win0_7.index t 0 = blockNo 1 t.val ∧ win0_7.index t 1 = 0) ∧ (win0_8.index t 0 = blockNo 1 t.val ∧ win0_8.index t 1 = 0)
    ∧ (win0_9.index t 0 = 0 ∧ win0_9.index t 1 = blockNo 1 t.val) ∧ (win0_11.index t 0 = blockNo 1 t.val ∧ win0_11.index t 1 = 0))

/-- The grid point of chunk `i` of batch `b`. -/
def point (b : Fin 2) (i : Fin 66) : Fin cfg0.N := ⟨66 * b.val + i.val, by rw [show cfg0.N = 132 from N_0]; omega⟩

/-- The row that a direction meets at place `r` of a chunk is that row of its block. -/
theorem row_val (d b : Fin 2) (i : Fin 66) (r : Fin 128) :
    blockNo d (point b i).val * 128 + (order d r).val = (row d b (place i r)).val := by
  have h1 : (66 * b.val + i.val) % 66 = i.val := by omega
  have h2 : (66 * b.val + i.val) / 66 = b.val := by omega
  simp only [point, blockNo, row, place, h1, h2]
  match d with
  | 0 => simp only [order, if_true, Equiv.refl_apply]; split <;> split <;> dsimp only <;> omega
  | 1 =>
    have : (order 1 r).val = 127 - r.val := by simp [order, Fin.revPerm, Fin.rev]
    rw [this]
    simp only [one_ne_zero, if_false]; split <;> split <;> simp only [] <;> omega

/-- Block `blockNo` of rows of an array of `W` columns, placed in the array. -/
theorem emb_rows {W : ℕ} (d b : Fin 2) (i : Fin 66) (off) (inb) (h0 : off 0 = blockNo d (point b i).val * 128) (h1 : off 1 = 0 * W)
    (r : Fin 128) (x : Fin W) :
    (Rect.unit (s := ⟨2, ![16896, W]⟩) off (Shape.size ⟨2, ![128, W]⟩) inb).emb (ix2 (order d r) x) = ix2 (row d b (place i r)) x := by
  funext a
  apply Fin.ext
  rw [ValueKit.rect_emb_unit_val]
  match a with
  | 0 => exact (congrArg (· + (order d r).val) h0).trans (row_val d b i r)
  | 1 => exact (congrArg (· + x.val) h1).trans (show 0 * W + x.val = x.val by omega)

/-- The same of the gates as rows. -/
theorem emb_gates (d b : Fin 2) (i : Fin 66) (off) (inb) (h0 : off 0 = 0 * 16) (h1 : off 1 = blockNo d (point b i).val * 128)
    (g : Fin 16) (r : Fin 128) :
    (Rect.unit (s := S16x16896) off S16x128.size inb).emb (ix2 g (order d r)) = ix2 g (row d b (place i r)) := by
  funext a
  apply Fin.ext
  rw [ValueKit.rect_emb_unit_val]
  match a with
  | 0 => exact (congrArg (· + g.val) h0).trans (show 0 * 16 + g.val = g.val by omega)
  | 1 => exact (congrArg (· + (order d r).val) h1).trans (row_val d b i r)

variable (b : Fin 2) (i : Fin 66)

theorem read_0 (A : FVec Ideal S16896x2048 .bf16) (r : Fin 128) (x : Fin 2048) :
    ((cfg0.win 0).blk (point b i)).view.read (Elt Ideal) A (ix2 (order 0 r) x) = A (ix2 (row 0 b (place i r)) x) :=
  congrArg A (emb_rows 0 b i _ _ (congrArg (· * 128) (index_f (point b i)).1.1) (congrArg (· * 2048) (index_f (point b i)).1.2) r x)

theorem read_1 (A : FVec Ideal S16896x2048 .bf16) (r : Fin 128) (x : Fin 2048) :
    ((cfg0.win 1).blk (point b i)).view.read (Elt Ideal) A (ix2 (order 0 r) x) = A (ix2 (row 0 b (place i r)) x) :=
  congrArg A (emb_rows 0 b i _ _ (congrArg (· * 128) (index_f (point b i)).2.1.1) (congrArg (· * 2048) (index_f (point b i)).2.1.2) r x)

theorem read_2 (A : FVec Ideal S16896x2048 .bf16) (r : Fin 128) (x : Fin 2048) :
    ((cfg0.win 2).blk (point b i)).view.read (Elt Ideal) A (ix2 (order 0 r) x) = A (ix2 (row 0 b (place i r)) x) :=
  congrArg A (emb_rows 0 b i _ _ (congrArg (· * 128) (index_f (point b i)).2.2.1.1) (congrArg (· * 2048) (index_f (point b i)).2.2.1.2) r x)

theorem read_3 (A : FVec Ideal S16896x128 .f32) (r : Fin 128) (x : Fin 128) :
    ((cfg0.win 3).blk (point b i)).view.read (Elt Ideal) A (ix2 (order 0 r) x) = A (ix2 (row 0 b (place i r)) x) :=
  congrArg A (emb_rows 0 b i _ _ (congrArg (· * 128) (index_f (point b i)).2.2.2.1.1) (congrArg (· * 128) (index_f (point b i)).2.2.2.1.2) r x)

theorem read_4 (A : FVec Ideal S16x16896 .f32) (g : Fin 16) (r : Fin 128) :
    ((cfg0.win 4).blk (point b i)).view.read (Elt Ideal) A (ix2 g (order 0 r)) = A (ix2 g (row 0 b (place i r))) :=
  congrArg A (emb_gates 0 b i _ _ (congrArg (· * 16) (index_f (point b i)).2.2.2.2.1.1) (congrArg (· * 128) (index_f (point b i)).2.2.2.2.1.2) g r)

theorem read_5 (A : FVec Ideal S16896x2048 .bf16) (r : Fin 128) (x : Fin 2048) :
    ((cfg0.win 5).blk (point b i)).view.read (Elt Ideal) A (ix2 (order 1 r) x) = A (ix2 (row 1 b (place i r)) x) :=
  congrArg A (emb_rows 1 b i _ _ (congrArg (· * 128) (index_b (point b i)).1.1) (congrArg (· * 2048) (index_b (point b i)).1.2) r x)

theorem read_6 (A : FVec Ideal S16896x2048 .bf16) (r : Fin 128) (x : Fin 2048) :
    ((cfg0.win 6).blk (point b i)).view.read (Elt Ideal) A (ix2 (order 1 r) x) = A (ix2 (row 1 b (place i r)) x) :=
  congrArg A (emb_rows 1 b i _ _ (congrArg (· * 128) (index_b (point b i)).2.1.1) (congrArg (· * 2048) (index_b (point b i)).2.1.2) r x)

theorem read_7 (A : FVec Ideal S16896x2048 .bf16) (r : Fin 128) (x : Fin 2048) :
    ((cfg0.win 7).blk (point b i)).view.read (Elt Ideal) A (ix2 (order 1 r) x) = A (ix2 (row 1 b (place i r)) x) :=
  congrArg A (emb_rows 1 b i _ _ (congrArg (· * 128) (index_b (point b i)).2.2.1.1) (congrArg (· * 2048) (index_b (point b i)).2.2.1.2) r x)

theorem read_8 (A : FVec Ideal S16896x128 .f32) (r : Fin 128) (x : Fin 128) :
    ((cfg0.win 8).blk (point b i)).view.read (Elt Ideal) A (ix2 (order 1 r) x) = A (ix2 (row 1 b (place i r)) x) :=
  congrArg A (emb_rows 1 b i _ _ (congrArg (· * 128) (index_b (point b i)).2.2.2.1.1) (congrArg (· * 128) (index_b (point b i)).2.2.2.1.2) r x)

theorem read_9 (A : FVec Ideal S16x16896 .f32) (g : Fin 16) (r : Fin 128) :
    ((cfg0.win 9).blk (point b i)).view.read (Elt Ideal) A (ix2 g (order 1 r)) = A (ix2 g (row 1 b (place i r))) :=
  congrArg A (emb_gates 1 b i _ _ (congrArg (· * 16) (index_b (point b i)).2.2.2.2.1.1) (congrArg (· * 128) (index_b (point b i)).2.2.2.2.1.2) g r)

theorem read_10 (A : FVec Ideal S16896x2048 .f32) (r : Fin 128) (x : Fin 2048) :
    ((cfg0.win 10).blk (point b i)).view.read (Elt Ideal) A (ix2 (order 0 r) x) = A (ix2 (row 0 b (place i r)) x) :=
  congrArg A (emb_rows 0 b i _ _ (congrArg (· * 128) (index_f (point b i)).2.2.2.2.2.1) (congrArg (· * 2048) (index_f (point b i)).2.2.2.2.2.2) r x)

theorem read_11 (A : FVec Ideal S16896x2048 .f32) (r : Fin 128) (x : Fin 2048) :
    ((cfg0.win 11).blk (point b i)).view.read (Elt Ideal) A (ix2 (order 1 r) x) = A (ix2 (row 1 b (place i r)) x) :=
  congrArg A (emb_rows 1 b i _ _ (congrArg (· * 128) (index_b (point b i)).2.2.2.2.2.1) (congrArg (· * 2048) (index_b (point b i)).2.2.2.2.2.2) r x)

end Cert.Hand

end
-- ==== Proof.KernelValue.lean ====
module

public import proofs.«01_k».proof.Proof.Blocks

/-!
# The kernel's results

Each result holds, in the row that a direction meets at place `r` of chunk `i`, the recurrence's result there.
-/

@[expose] public section

set_option maxRecDepth 16384

noncomputable section

namespace Cert.Hand

open Cert.KernelIdeal Cert.KernelIdeal.Gen Idealize.ShloMosaic Idealize.ShloMosaic.TcCoe Idealize.SL.Sem
open Idealize.ShloMosaic.Tactic

variable (m : (ℓ : Loc nD τ sig) → Buf (Elt Ideal) ℓ) (c : Dev nD)

/-- The kernel's arguments. -/
def argsOf : Args where
  q := m ((c : Thread nD τ).loc main_arg0)
  k := m ((c : Thread nD τ).loc main_arg1)
  v := m ((c : Thread nD τ).loc main_arg2)
  gc := m ((c : Thread nD τ).loc main_arg3)
  gr := m ((c : Thread nD τ).loc main_arg4)

/-- A direction's blocks hold its chunk. -/
theorem chunk_dirsAt (d b : Fin 2) (h : Fin 4) (i : Fin 66) :
    (dirsAt m c (point b i) d).chunk d h = (argsOf m c).chunk d b h i := by
  match d with
  | 0 =>
    unfold DirIn.chunk Args.chunk
    congr 1
    · funext r a; exact read_0 b i (argsOf m c).q r (col h a)
    · funext r a; exact read_1 b i (argsOf m c).k r (col h a)
    · funext r a; exact read_2 b i (argsOf m c).v r (col h a)
    · funext r; exact read_3 b i (argsOf m c).gc r _
    · funext r; exact read_3 b i (argsOf m c).gc r _
    · funext r; exact read_4 b i (argsOf m c).gr _ r
    · funext r; exact read_4 b i (argsOf m c).gr _ r
  | 1 =>
    unfold DirIn.chunk Args.chunk
    congr 1
    · funext r a; exact read_5 b i (argsOf m c).q r (col h a)
    · funext r a; exact read_6 b i (argsOf m c).k r (col h a)
    · funext r a; exact read_7 b i (argsOf m c).v r (col h a)
    · funext r; exact read_8 b i (argsOf m c).gc r _
    · funext r; exact read_8 b i (argsOf m c).gc r _
    · funext r; exact read_9 b i (argsOf m c).gr _ r
    · funext r; exact read_9 b i (argsOf m c).gr _ r

theorem chunks_of_lt (A : Args) (d b : Fin 2) (h : Fin 4) (i : Fin 66) : A.chunks d b h i.val = A.chunk d b h i :=
  congrArg (A.chunk d b h) (Fin.ext (Nat.mod_eq_of_lt i.isLt))

/-- The scratch after a grid point, as the states of the heads. -/
def stAfter (t : Fin cfg0.N) (d : Fin 2) (h : Fin 4) : Spec.St :=
  stOf (outsAt0 m c t.val t.isLt).2.2.1 (outsAt0 m c t.val t.isLt).2.2.2.1 (outsAt0 m c t.val t.isLt).2.2.2.2 d h

/-- The state after chunk `i`, and the results of chunk `i`. -/
theorem point_value (b : Fin 2) (h : Fin 4) (i : ℕ) (hi : i < 66) :
    (∀ d, stAfter m c (point b ⟨i, hi⟩) d h = Spec.state ((argsOf m c).chunks d b h) (i + 1))
    ∧ ∀ r a, (outsAt0 m c (point b ⟨i, hi⟩).val (point b ⟨i, hi⟩).isLt).1 (ix2 (order 0 r) (col h a))
          = Spec.h ((argsOf m c).chunks 0 b h i) (Spec.state ((argsOf m c).chunks 0 b h) i) r a
        ∧ (outsAt0 m c (point b ⟨i, hi⟩).val (point b ⟨i, hi⟩).isLt).2.1 (ix2 (order 1 r) (col h a))
          = Spec.h ((argsOf m c).chunks 1 b h i) (Spec.state ((argsOf m c).chunks 1 b h) i) r a := by
  have hc : ∀ d, (dirsAt m c (point b ⟨i, hi⟩) d).chunk d h = (argsOf m c).chunks d b h i := fun d =>
    (chunk_dirsAt m c d b h ⟨i, hi⟩).trans (chunks_of_lt _ d b h ⟨i, hi⟩).symm
  induction i with
  | zero =>
    have L := leaves_A m c (point b ⟨0, hi⟩) (by simp only [point]; omega)
    refine ⟨fun d => ?_, fun r a => ?_⟩
    · refine (L.next d h).trans ?_
      rw [hc, zero_st]
      rfl
    · have := L.out h r a
      rw [hc, hc, zero_st, zero_st] at this
      exact this
  | succ i ih =>
    have hi' : i < 66 := by omega
    have ih := (ih hi' fun d => (chunk_dirsAt m c d b h ⟨i, hi'⟩).trans (chunks_of_lt _ d b h ⟨i, hi'⟩).symm).1
    have L := leaves_B m c (point b ⟨i + 1, hi⟩) (by simp only [point]; omega) (point b ⟨i, hi'⟩).isLt
    have hs : ∀ d, stOf (outsAt0 m c ((point b ⟨i + 1, hi⟩).val - 1) (point b ⟨i, hi'⟩).isLt).2.2.1
        (outsAt0 m c ((point b ⟨i + 1, hi⟩).val - 1) (point b ⟨i, hi'⟩).isLt).2.2.2.1
        (outsAt0 m c ((point b ⟨i + 1, hi⟩).val - 1) (point b ⟨i, hi'⟩).isLt).2.2.2.2 d h
        = Spec.state ((argsOf m c).chunks d b h) (i + 1) := ih
    refine ⟨fun d => ?_, fun r a => ?_⟩
    · refine (L.next d h).trans ?_
      rw [hc, hs]
      rfl
    · have := L.out h r a
      rw [hc, hc, hs, hs] at this
      exact this

/-- The forward result at an element. -/
theorem final_f (b : Fin 2) (h : Fin 4) (i : Fin 66) (r : Fin 128) (a : Fin 512) :
    ((dats m 0 c).arrAt 10 cfg0.N : FVec Ideal S16896x2048 .f32) (ix2 (row 0 b (place i r)) (col h a))
      = Spec.h ((argsOf m c).chunks 0 b h i.val) (Spec.state ((argsOf m c).chunks 0 b h) i.val) r a := by
  rw [← read_10 b i ((dats m 0 c).arrAt 10 cfg0.N) r (col h a), Cert.KernelIdeal.Value.blocks10 m c _ (flush0_10 _),
    Cert.KernelIdeal.Value.flushed10]
  exact ((point_value m c b h i.val i.isLt).2 r a).1

/-- The backward result at an element. -/
theorem final_b (b : Fin 2) (h : Fin 4) (i : Fin 66) (r : Fin 128) (a : Fin 512) :
    ((dats m 0 c).arrAt 11 cfg0.N : FVec Ideal S16896x2048 .f32) (ix2 (row 1 b (place i r)) (col h a))
      = Spec.h ((argsOf m c).chunks 1 b h i.val) (Spec.state ((argsOf m c).chunks 1 b h) i.val) r a := by
  rw [← read_11 b i ((dats m 0 c).arrAt 11 cfg0.N) r (col h a), Cert.KernelIdeal.Value.blocks11 m c _ (flush0_11 _),
    Cert.KernelIdeal.Value.flushed11]
  exact ((point_value m c b h i.val i.isLt).2 r a).2

end Cert.Hand

end
-- ==== Proof.RefRead.lean ====
module

public import proofs.«01_k».proof.Proof.RefEntry
public import proofs.«01_k».proof.Proof.KernelValue

/-! # The reference's arrays at an index

The rows and the gates that the reference's scan reads, at chunk, sequence, head and place, are the arguments at the
row that the direction meets there; its two results at such a row are the scan's results. -/

@[expose] public section

set_option maxRecDepth 16384

noncomputable section

namespace Cert.Hand

open Cert.ReferenceIdeal Cert.ReferenceIdeal.Gen Cert.ReferenceIdeal.Value Idealize.ShloMosaic Idealize.ShloMosaic.TcCoe Idealize.SL.Sem
open Idealize.ShloMosaic.StableHlo Idealize.ShloMosaic.Tactic

variable {F : FTy → Type} [FloatOps F]

theorem ctxRows_at (x : FVec F S16896x2048 .f32) (b : Fin 2) (l : Fin 256) (k : Fin 2048) :
    ctxRows x (ix3 b l k) = x (ix2 ⟨b.val * 256 + l.val, by omega⟩ k) := by
  pointwise [ctxRows]
theorem latRows_at (x : FVec F S16896x2048 .f32) (b : Fin 2) (l : Fin 8192) (k : Fin 2048) :
    latRows x (ix3 b l k) = x (ix2 ⟨512 + (b.val * 8192 + l.val), by omega⟩ k) := by
  pointwise [latRows]
theorem ctxGates_at (x : FVec F S16896x16 .f32) (b : Fin 2) (l : Fin 256) (k : Fin 16) :
    ctxGates x (ix3 b l k) = x (ix2 ⟨b.val * 256 + l.val, by omega⟩ k) := by
  pointwise [ctxGates]
theorem latGates_at (x : FVec F S16896x16 .f32) (b : Fin 2) (l : Fin 8192) (k : Fin 16) :
    latGates x (ix3 b l k) = x (ix2 ⟨512 + (b.val * 8192 + l.val), by omega⟩ k) := by
  pointwise [latGates]
theorem reverse_ctx (x : FVec F S2x256x2048 .f32) (b : Fin 2) (l : Fin 256) (k : Fin 2048) :
    Host.reverse [1] x (ix3 b l k) = x (ix3 b l.rev k) := by
  pointwise []
  rfl
theorem reverse_lat (x : FVec F S2x8192x2048 .f32) (b : Fin 2) (l : Fin 8192) (k : Fin 2048) :
    Host.reverse [1] x (ix3 b l k) = x (ix3 b l.rev k) := by
  pointwise []
  rfl
theorem reverse_ctxGates (x : FVec F S2x256x16 .f32) (b : Fin 2) (l : Fin 256) (k : Fin 16) :
    Host.reverse [1] x (ix3 b l k) = x (ix3 b l.rev k) := by
  pointwise []
  rfl
theorem reverse_latGates (x : FVec F S2x8192x16 .f32) (b : Fin 2) (l : Fin 8192) (k : Fin 16) :
    Host.reverse [1] x (ix3 b l k) = x (ix3 b l.rev k) := by
  pointwise []
  rfl
theorem headsOf_at (x : FVec F S2x8448x2048 .f32) (b : Fin 2) (h : Fin 4) (l : Fin 8448) (a : Fin 512) :
    headsOf x (ix4 b h l a) = x (ix3 b l (col h a)) := by
  pointwise [headsOf]
  exact congrArg (fun z => x (ix3 b l z)) (Fin.ext (by simp only [col]; omega))
theorem chunksOf_at (x : FVec F S4x4x8448x512 .f32) (p h : Fin 4) (j : Fin 66) (i : Fin 128) (a : Fin 512) :
    chunksOf x (ix5 j p h i a) = x (ix4 p h (place j i) a) := by
  pointwise [chunksOf]
  exact congrArg (fun z => x (ix4 p h z a)) (Fin.ext (by simp only [place]; omega))
/-- Two parts along the positions: the first 256 places. -/
theorem parts_ctx {w : ℕ} (x : Shape.Idx ⟨3, ![2, 256, w]⟩ → F .f32) (y : Shape.Idx ⟨3, ![2, 8192, w]⟩ → F .f32) (h) (b : Fin 2) (l : Fin 8448) (k : Fin w)
    (hl : l.val < 256) :
    concatenate ⟨3, ![2, 8448, w]⟩ 1 [⟨_, x⟩, ⟨_, y⟩] h (ix3 b l k) = x (ix3 b ⟨l.val, hl⟩ k) := by
  refine concatenate_pair_apply_left (t := ⟨3, ![2, 8448, w]⟩) 1 x y h (ix3 b l k) rfl (ix3 b ⟨l.val, hl⟩ k) (fun t => ?_)
  match t with
  | 0 => rfl
  | 1 => rfl
  | 2 => rfl
/-- Two parts along the positions: the places from 256 on. -/
theorem parts_lat {w : ℕ} (x : Shape.Idx ⟨3, ![2, 256, w]⟩ → F .f32) (y : Shape.Idx ⟨3, ![2, 8192, w]⟩ → F .f32) (h) (b : Fin 2) (l : Fin 8448) (k : Fin w)
    (hl : ¬ l.val < 256) :
    concatenate ⟨3, ![2, 8448, w]⟩ 1 [⟨_, x⟩, ⟨_, y⟩] h (ix3 b l k) = y (ix3 b ⟨l.val - 256, by omega⟩ k) := by
  have hb : l.val - 256 < 8192 := by omega
  refine concatenate_pair_apply_right (t := ⟨3, ![2, 8448, w]⟩) 1 x y h (ix3 b l k) rfl rfl (ix3 b ⟨l.val - 256, hb⟩ k) (fun t ht => ?_) ?_
  · match t with
    | 0 => rfl
    | 1 => exact absurd rfl ht
    | 2 => rfl
  · exact Nat.sub_add_cancel (Nat.not_lt.1 hl)

/-- A direction's sequence of rows. -/
def dirRows (d : Fin 2) (x : FVec F S16896x2048 .f32) : FVec F S2x8448x2048 .f32 :=
  if d = 0 then seqRows (ctxRows x) (latRows x) else seqRows (Host.reverse [1] (ctxRows x)) (Host.reverse [1] (latRows x))
theorem dirRows_at (d : Fin 2) (x : FVec F S16896x2048 .f32) (b : Fin 2) (l : Fin 8448) (k : Fin 2048) :
    dirRows d x (ix3 b l k) = x (ix2 (row d b l) k) := by
  by_cases hl : l.val < 256
  · match d with
    | 0 =>
      refine (parts_ctx _ _ concatenates_S2x256x2048_S2x8192x2048_S2x8448x2048_d1 b l k hl).trans ((ctxRows_at _ _ _ _).trans (congrArg (fun z => x (ix2 z k)) (Fin.ext ?_)))
      simp only [row, hl, if_true]
    | 1 =>
      refine (parts_ctx _ _ concatenates_S2x256x2048_S2x8192x2048_S2x8448x2048_d1 b l k hl).trans ((reverse_ctx _ _ _ _).trans ((ctxRows_at _ _ _ _).trans (congrArg (fun z => x (ix2 z k)) (Fin.ext ?_))))
      simp only [row, hl, if_true, Fin.val_rev]
      simp
      try omega
  · match d with
    | 0 =>
      refine (parts_lat _ _ concatenates_S2x256x2048_S2x8192x2048_S2x8448x2048_d1 b l k hl).trans ((latRows_at _ _ _ _).trans (congrArg (fun z => x (ix2 z k)) (Fin.ext ?_)))
      simp only [row, hl, if_false, if_true]; omega
    | 1 =>
      refine (parts_lat _ _ concatenates_S2x256x2048_S2x8192x2048_S2x8448x2048_d1 b l k hl).trans ((reverse_lat _ _ _ _).trans ((latRows_at _ _ _ _).trans (congrArg (fun z => x (ix2 z k)) (Fin.ext ?_))))
      simp only [row, hl, if_false, Fin.val_rev]
      simp
      omega
/-- A direction's sequence of gates. -/
def dirGates (d : Fin 2) (x : FVec F S16896x16 .f32) : FVec F S2x8448x16 .f32 :=
  if d = 0 then seqGates (ctxGates x) (latGates x) else seqGates (Host.reverse [1] (ctxGates x)) (Host.reverse [1] (latGates x))
theorem dirGates_at (d : Fin 2) (x : FVec F S16896x16 .f32) (b : Fin 2) (l : Fin 8448) (k : Fin 16) :
    dirGates d x (ix3 b l k) = x (ix2 (row d b l) k) := by
  by_cases hl : l.val < 256
  · match d with
    | 0 =>
      refine (parts_ctx _ _ concatenates_S2x256x16_S2x8192x16_S2x8448x16_d1 b l k hl).trans ((ctxGates_at _ _ _ _).trans (congrArg (fun z => x (ix2 z k)) (Fin.ext ?_)))
      simp only [row, hl, if_true]
    | 1 =>
      refine (parts_ctx _ _ concatenates_S2x256x16_S2x8192x16_S2x8448x16_d1 b l k hl).trans ((reverse_ctxGates _ _ _ _).trans ((ctxGates_at _ _ _ _).trans (congrArg (fun z => x (ix2 z k)) (Fin.ext ?_))))
      simp only [row, hl, if_true, Fin.val_rev]
      simp
      try omega
  · match d with
    | 0 =>
      refine (parts_lat _ _ concatenates_S2x256x16_S2x8192x16_S2x8448x16_d1 b l k hl).trans ((latGates_at _ _ _ _).trans (congrArg (fun z => x (ix2 z k)) (Fin.ext ?_)))
      simp only [row, hl, if_false, if_true]; omega
    | 1 =>
      refine (parts_lat _ _ concatenates_S2x256x16_S2x8192x16_S2x8448x16_d1 b l k hl).trans ((reverse_latGates _ _ _ _).trans ((latGates_at _ _ _ _).trans (congrArg (fun z => x (ix2 z k)) (Fin.ext ?_))))
      simp only [row, hl, if_false, Fin.val_rev]
      simp
      omega

/-- The sequence of direction `d` and batch entry `b`, in the order the scan runs them side by side. -/
def side (d b : Fin 2) : Fin 4 := ⟨2 * d.val + b.val, by omega⟩

theorem bothOf_at (X : Fin 2 → FVec F S2x4x8448x512 .f32) (d b : Fin 2) (h : Fin 4) (l : Fin 8448) (a : Fin 512) :
    bothOf (X 0) (X 1) (ix4 (side d b) h l a) = X d (ix4 b h l a) := by
  unfold bothOf
  match d with
  | 0 =>
    refine concatenate_pair_apply_left (t := S4x4x8448x512) (s₁ := S2x4x8448x512) (s₂ := S2x4x8448x512) 0 (X 0) (X 1) _ (ix4 (side 0 b) h l a) rfl (ix4 b h l a) (fun t => ?_)
    match t with
    | 0 => simp [side]
    | 1 => rfl
    | 2 => rfl
    | 3 => rfl
  | 1 =>
    refine concatenate_pair_apply_right (t := S4x4x8448x512) (s₁ := S2x4x8448x512) (s₂ := S2x4x8448x512) 0 (X 0) (X 1) _ (ix4 (side 1 b) h l a) rfl rfl (ix4 b h l a) (fun t ht => ?_) ?_
    · match t with
      | 0 => exact absurd rfl ht
      | 1 => rfl
      | 2 => rfl
      | 3 => rfl
    · exact Nat.add_comm _ _

/-- The rows of the scan at an index. -/
theorem scanRows_at (x : FVec F S16896x2048 .f32) (d b : Fin 2) (h : Fin 4) (j : Fin 66) (i : Fin 128) (a : Fin 512) :
    scanRows x (ix5 j (side d b) h i a) = x (ix2 (row d b (place j i)) (col h a)) :=
  (chunksOf_at _ _ _ _ _ _).trans ((bothOf_at (fun d => headsOf (dirRows d x)) d b h (place j i) a).trans
    ((headsOf_at _ _ _ _ _).trans (dirRows_at _ _ _ _ _)))

theorem kindOf_at (g : Fin 4) (x : FVec F S2x8448x16 .f32) (hg) (b : Fin 2) (h : Fin 4) (l : Fin 8448) :
    kindOf g.val x hg (ix3 b h l) = x (ix3 b l ⟨g.val * 4 + h.val, by omega⟩) := by
  pointwise [kindOf, kindsOf]
theorem chunkGates_at (X : Fin 2 → FVec F S2x4x8448 .f32) (d b : Fin 2) (h : Fin 4) (j : Fin 66) (i : Fin 128) :
    chunkGates (X 0) (X 1) (ix4 j (side d b) h i) = X d (ix3 b h (place j i)) := by
  have hp : place j i = ⟨j.val * 128 + i.val, by omega⟩ := Fin.ext (by simp only [place]; omega)
  rw [hp]
  unfold chunkGates
  match d with
  | 0 =>
    pointwise []
    rw [dif_pos (by simp only [side]; omega)]
    exact congrArg (fun z => X 0 (ix3 z h _)) (Fin.ext (by simp [side]))
  | 1 =>
    pointwise []
    rw [dif_neg (by simp only [side]; omega)]
    exact congrArg (fun z => X 1 (ix3 z h _)) (Fin.ext (by simp [side]))

theorem scanGates_at (g : Fin 2) (hg hg') (x : FVec F S16896x16 .f32) (d b : Fin 2) (h : Fin 4) (j : Fin 66) (i : Fin 128) :
    scanGates g.val (g.val + 2) hg hg' x (ix4 j (side d b) h i)
      = x (ix2 (row d b (place j i)) ⟨(g.val + 2 * d.val) * 4 + h.val, by omega⟩) := by
  match d with
  | 0 =>
    refine (chunkGates_at ![kindOf g.val (dirGates 0 x) hg, kindOf (g.val + 2) (dirGates 1 x) hg'] 0 b h j i).trans ?_
    exact (kindOf_at ⟨g.val, by omega⟩ (dirGates 0 x) hg b h _).trans (dirGates_at 0 x b _ _)
  | 1 =>
    refine (chunkGates_at ![kindOf g.val (dirGates 0 x) hg, kindOf (g.val + 2) (dirGates 1 x) hg'] 1 b h j i).trans ?_
    exact (kindOf_at ⟨g.val + 2, by omega⟩ (dirGates 1 x) hg' b h _).trans (dirGates_at 1 x b _ _)
theorem gatesQ_at (x : FVec F S16896x128 .f32) (r : Fin 16896) (k : Fin 16) : gatesQ x (ix2 r k) = x (ix2 r ⟨k.val, by omega⟩) := by
  pointwise [gatesQ]
theorem gatesK_at (x : FVec F S16x16896 .f32) (r : Fin 16896) (k : Fin 16) : gatesK x (ix2 r k) = x (ix2 k r) := by
  pointwise [gatesK]

/-- The scan's results by row: the two sequences of a direction, `o` and `o + 1` of the four. -/
def outSeq (o : ℕ) (ho : S4x4x8448x512.Slices ![o, 0, 0, 0] S2x4x8448x512) (x : FVec F S66x4x4x128x512 .f32) : FVec F S2x8448x2048 .f32 :=
  shapeCast S2x8448x2048 (transpose S2x8448x4x512 [0, 2, 1, 3] (extractStridedSlice S2x4x8448x512 ![o, 0, 0, 0]
    (shapeCast S4x4x8448x512 (transpose S4x4x66x128x512 [1, 2, 0, 3, 4] x transposes_S66x4x4x128x512_S4x4x66x128x512_1_2_0_3_4) shapeCasts_S4x4x66x128x512_S4x4x8448x512) ho)
    transposes_S2x4x8448x512_S2x8448x4x512_0_2_1_3) shapeCasts_S2x8448x4x512_S2x8448x2048
theorem outSeq_at (d : Fin 2) (ho) (x : FVec F S66x4x4x128x512 .f32) (b : Fin 2) (h : Fin 4) (j : Fin 66) (i : Fin 128) (a : Fin 512) :
    outSeq (2 * d.val) ho x (ix3 b (place j i) (col h a)) = x (ix5 j (side d b) h i a) := by
  unfold outSeq place col side
  pointwise []
/-- The context rows of all batch entries, then the latent rows. -/
def mergeRows (x : FVec F S2x256x2048 .f32) (y : FVec F S2x8192x2048 .f32) : FVec F S16896x2048 .f32 :=
  concatenate S16896x2048 0 [⟨S512x2048, shapeCast S512x2048 x shapeCasts_S2x256x2048_S512x2048⟩,
    ⟨S16384x2048, shapeCast S16384x2048 y shapeCasts_S2x8192x2048_S16384x2048⟩] concatenates_S512x2048_S16384x2048_S16896x2048_d0
theorem mergeRows_ctx (x : FVec F S2x256x2048 .f32) (y : FVec F S2x8192x2048 .f32) (b : Fin 2) (l : Fin 256) (k : Fin 2048) :
    mergeRows x y (ix2 ⟨b.val * 256 + l.val, by omega⟩ k) = x (ix3 b l k) := by
  pointwise [mergeRows]
  exact dif_pos (by omega)
theorem mergeRows_lat (x : FVec F S2x256x2048 .f32) (y : FVec F S2x8192x2048 .f32) (b : Fin 2) (l : Fin 8192) (k : Fin 2048) :
    mergeRows x y (ix2 ⟨512 + b.val * 8192 + l.val, by omega⟩ k) = y (ix3 b l k) := by
  pointwise [mergeRows]
  rw [dif_neg (by omega)]
  exact congrArg₂ (fun u v => y (ix3 u v k)) (Fin.ext (by simp only []; omega)) (Fin.ext (by simp only []; omega))
/-- The context rows of a sequence. -/
def seqCtx (x : FVec F S2x8448x2048 .f32) : FVec F S2x256x2048 .f32 :=
  extractStridedSlice S2x256x2048 ![0, 0, 0] x slices_S2x8448x2048_S2x256x2048_0_0_0
/-- The latent rows of a sequence. -/
def seqLat (x : FVec F S2x8448x2048 .f32) : FVec F S2x8192x2048 .f32 :=
  extractStridedSlice S2x8192x2048 ![0, 256, 0] x slices_S2x8448x2048_S2x8192x2048_0_256_0
theorem seqCtx_at (x : FVec F S2x8448x2048 .f32) (b : Fin 2) (l : Fin 256) (k : Fin 2048) : seqCtx x (ix3 b l k) = x (ix3 b ⟨l.val, by omega⟩ k) := by
  pointwise [seqCtx]
theorem seqLat_at (x : FVec F S2x8448x2048 .f32) (b : Fin 2) (l : Fin 8192) (k : Fin 2048) : seqLat x (ix3 b l k) = x (ix3 b ⟨256 + l.val, by omega⟩ k) := by
  pointwise [seqLat]
/-- A direction's sequence laid back onto the rows. -/
def backRows (d : Fin 2) (x : FVec F S2x8448x2048 .f32) : FVec F S16896x2048 .f32 :=
  if d = 0 then mergeRows (seqCtx x) (seqLat x) else mergeRows (Host.reverse [1] (seqCtx x)) (Host.reverse [1] (seqLat x))
theorem backRows_at (d : Fin 2) (x : FVec F S2x8448x2048 .f32) (b : Fin 2) (l : Fin 8448) (k : Fin 2048) :
    backRows d x (ix2 (row d b l) k) = x (ix3 b l k) := by
  by_cases hl : l.val < 256
  · match d with
    | 0 =>
      rw [show row 0 b l = ⟨b.val * 256 + (⟨l.val, hl⟩ : Fin 256).val, by omega⟩ from Fin.ext (by simp only [row, hl, if_true])]
      exact (mergeRows_ctx _ _ b ⟨l.val, hl⟩ k).trans (seqCtx_at _ _ _ _)
    | 1 =>
      rw [show row 1 b l = ⟨b.val * 256 + (Fin.rev ⟨l.val, hl⟩ : Fin 256).val, by omega⟩ from Fin.ext (by simp only [row, hl, if_true, Fin.val_rev]; simp)]
      refine (mergeRows_ctx _ _ b (Fin.rev ⟨l.val, hl⟩) k).trans ((reverse_ctx _ _ _ _).trans ?_)
      rw [Fin.rev_rev]
      exact seqCtx_at _ _ _ _
  · have hl' : l.val - 256 < 8192 := by omega
    have e : (⟨256 + (⟨l.val - 256, hl'⟩ : Fin 8192).val, by omega⟩ : Fin 8448) = l := Fin.ext (by simp only []; omega)
    match d with
    | 0 =>
      rw [show row 0 b l = ⟨512 + b.val * 8192 + (⟨l.val - 256, hl'⟩ : Fin 8192).val, by omega⟩ from Fin.ext (by simp only [row, hl, if_false, if_true])]
      refine (mergeRows_lat _ _ b ⟨l.val - 256, hl'⟩ k).trans ((seqLat_at _ _ _ _).trans ?_)
      rw [e]
    | 1 =>
      obtain ⟨l', hl''⟩ : ∃ l' : Fin 8192, l' = Fin.rev ⟨l.val - 256, hl'⟩ := ⟨_, rfl⟩
      have hv : l'.val = 8191 - (l.val - 256) := by rw [hl'', Fin.val_rev]; simp
      have hr : l'.rev = ⟨l.val - 256, hl'⟩ := by rw [hl'', Fin.rev_rev]
      rw [show row 1 b l = ⟨512 + b.val * 8192 + l'.val, by omega⟩ from Fin.ext (by simp only [row, hl, if_false, hv]; simp)]
      refine (mergeRows_lat _ _ b l' k).trans ((reverse_lat _ _ _ _).trans ?_)
      rw [hr, seqLat_at, e]

theorem out_f (V : Valuation τ sig (Elt F)) : out_main_v123 V
    = backRows 0 (outSeq 0 slices_S4x4x8448x512_S2x4x8448x512_0_0_0_0 (V (Proc.devRef .tc main_v108_12))) := rfl
theorem out_b (V : Valuation τ sig (Elt F)) : out_main_v128 V
    = backRows 1 (outSeq 2 slices_S4x4x8448x512_S2x4x8448x512_2_0_0_0 (V (Proc.devRef .tc main_v108_12))) := rfl

end Cert.Hand
end
-- ==== Proof.RefValue.lean ====
module

public import proofs.«01_k».proof.Proof.RefRead

/-! # What the reference computes

The two results of the reference, at the row that a direction meets at a place, are the recurrence's results over the
chunks read out of its arguments. -/

@[expose] public section

set_option maxRecDepth 16384

noncomputable section

namespace Cert.Hand

open Cert.ReferenceIdeal Cert.ReferenceIdeal.Gen Cert.ReferenceIdeal.Value Idealize.ShloMosaic Idealize.ShloMosaic.TcCoe Idealize.SL.Sem
open Idealize.ShloMosaic.StableHlo Idealize.ShloMosaic.Tactic

variable (m : (ℓ : Loc nD τ sig) → Buf (Elt Ideal) ℓ) (c : Dev nD)

/-- The reference's five arguments. -/
def refArgs : Args where
  q := launchContents m c (Proc.devRef .tc main_arg0)
  k := launchContents m c (Proc.devRef .tc main_arg1)
  v := launchContents m c (Proc.devRef .tc main_arg2)
  gc := launchContents m c (Proc.devRef .tc main_arg3)
  gr := launchContents m c (Proc.devRef .tc main_arg4)

/-- What the scan starts from. -/
def enter : Carried Ideal := carried (entryContents preI m c)

/-- The triangular mask as the host makes it. -/
def hostTri : IVec S128x128 1 :=
  select (cmpi .sge (addi (iotaInDim S128x128 32 0) (broadcastInDim S128x128 ![] bcast_S_S128x128 (constantI S_ 32 0#32)))
    (iotaInDim S128x128 32 1)) (broadcastInDim S128x128 ![] bcast_S_S128x128 (constantI S_ 1 1#1))
    (broadcastInDim S128x128 ![] bcast_S_S128x128 (constantI S_ 1 0#1))

theorem hostTri_at (i j : Fin 128) : hostTri (ix2 i j) = if j ≤ i then 1 else 0 := by
  have key : ∀ i j : Fin 128, (if IntOp.cmpi .sge (BitVec.ofNat 32 i.val + 0#32) (BitVec.ofNat 32 j.val) = 1#1 then (1#1 : BitVec 1) else 0#1) = if j ≤ i then 1 else 0 := by
    decide +kernel
  rw [← key]
  pointwise [hostTri]
  rfl

theorem entry_tri : entryContents preI m c (Proc.devRef .tc main_v108_7) = hostTri := by
  simp only [entryContents, afterL_cons, afterL_nil]
  after_reads_simp
  rfl

/-- The empty matrix memories. -/
def zeroC : FVec Ideal S4x4x512x512 .f32 := broadcastInDim S4x4x512x512 ![] bcast_S_S4x4x512x512 (constant S_ .f32 0#32)
/-- The empty normalizers. -/
def zeroN : FVec Ideal S4x4x512 .f32 := broadcastInDim S4x4x512 ![] bcast_S_S4x4x512 (constant S_ .f32 0#32)
/-- The first stabilizers. -/
def zeroM : FVec Ideal S4x4 .f32 := broadcastInDim S4x4 ![] bcast_S_S4x4 (constant S_ .f32 0#32)

theorem zeroC_at (p h : Fin 4) (a b : Fin 512) : zeroC (ix4 p h a b) = 0 := by pointwise [zeroC]
theorem zeroN_at (p h : Fin 4) (a : Fin 512) : zeroN (ix3 p h a) = 0 := by pointwise [zeroN]
theorem zeroM_at (p h : Fin 4) : zeroM (ix2 p h) = 0 := by pointwise [zeroM]

theorem entry_C : entryContents preI m c (Proc.devRef .tc main_v108_9) = zeroC := by
  simp only [entryContents, afterL_cons, afterL_nil]
  after_reads_simp
  rfl

theorem entry_n : entryContents preI m c (Proc.devRef .tc main_v108_10) = zeroN := by
  simp only [entryContents, afterL_cons, afterL_nil]
  after_reads_simp
  rfl

theorem entry_m : entryContents preI m c (Proc.devRef .tc main_v108_11) = zeroM := by
  simp only [entryContents, afterL_cons, afterL_nil]
  after_reads_simp
  rfl

theorem enter_C : (enter m c).C = zeroC := entry_C m c
theorem enter_n : (enter m c).n = zeroN := entry_n m c
theorem enter_m : (enter m c).m = zeroM := entry_m m c
theorem enter_tri : (enter m c).tri = hostTri := entry_tri m c
theorem enter_q : (enter m c).q = scanRows (refArgs m c).q := entry_q m c
theorem enter_k : (enter m c).k = scanRows (refArgs m c).k := entry_k m c
theorem enter_v : (enter m c).v = scanRows (refArgs m c).v := entry_v m c
theorem enter_iq : (enter m c).iq = scanGates 0 2 slices_S4x2x4x8448_S1x2x4x8448_0_0_0_0 slices_S4x2x4x8448_S1x2x4x8448_2_0_0_0 (gatesQ (refArgs m c).gc) := entry_iq m c
theorem enter_bq : (enter m c).bq = scanGates 1 3 slices_S4x2x4x8448_S1x2x4x8448_1_0_0_0 slices_S4x2x4x8448_S1x2x4x8448_3_0_0_0 (gatesQ (refArgs m c).gc) := entry_bq m c
theorem enter_ik : (enter m c).ik = scanGates 0 2 slices_S4x2x4x8448_S1x2x4x8448_0_0_0_0 slices_S4x2x4x8448_S1x2x4x8448_2_0_0_0 (gatesK (refArgs m c).gr) := entry_ik m c
theorem enter_bk : (enter m c).bk = scanGates 1 3 slices_S4x2x4x8448_S1x2x4x8448_1_0_0_0 slices_S4x2x4x8448_S1x2x4x8448_3_0_0_0 (gatesK (refArgs m c).gr) := entry_bk m c

theorem enter_start : (enter m c).Start where
  ctr := ctr_entry m c
  tri i j := by rw [enter_tri]; exact hostTri_at i j
  st p h := by
    unfold Carried.st Spec.St.zero
    rw [enter_C, enter_n, enter_m]
    congr 1
    · funext a b; exact zeroC_at p h a b
    · funext a; exact zeroN_at p h a
    · exact zeroM_at p h

theorem enter_chunk (d b : Fin 2) (h : Fin 4) (j : Fin 66) : (enter m c).chunk (side d b) h j = (refArgs m c).chunk d b h j := by
  unfold Carried.chunk Args.chunk
  rw [enter_q, enter_k, enter_v, enter_iq, enter_bq, enter_ik, enter_bk]
  congr 1
  · funext r a; exact scanRows_at _ d b h j r a
  · funext r a; exact scanRows_at _ d b h j r a
  · funext r a; exact scanRows_at _ d b h j r a
  · funext r; exact (scanGates_at 0 _ _ _ d b h j r).trans ((gatesQ_at _ _ _).trans (congrArg (fun z => (refArgs m c).gc (ix2 _ z)) (Fin.ext (by simp only [gateI]; simp; omega))))
  · funext r; exact (scanGates_at 1 _ _ _ d b h j r).trans ((gatesQ_at _ _ _).trans (congrArg (fun z => (refArgs m c).gc (ix2 _ z)) (Fin.ext (by simp only [gateB]; simp; omega))))
  · funext r; exact (scanGates_at 0 _ _ _ d b h j r).trans ((gatesK_at _ _ _).trans (congrArg (fun z => (refArgs m c).gr (ix2 z _)) (Fin.ext (by simp only [gateI]; simp; omega))))
  · funext r; exact (scanGates_at 1 _ _ _ d b h j r).trans ((gatesK_at _ _ _).trans (congrArg (fun z => (refArgs m c).gr (ix2 z _)) (Fin.ext (by simp only [gateB]; simp; omega))))

theorem enter_chunks (d b : Fin 2) (h : Fin 4) : (enter m c).chunks (side d b) h = (refArgs m c).chunks d b h :=
  funext fun _ => enter_chunk m c d b h _

/-- The scan's results after `k` steps, at a chunk among them. -/
theorem scan_at (V : Valuation τ sig (Elt Ideal)) (hV : (carried V).Start) (d b : Fin 2) (h : Fin 4) (k : ℕ) (hk : k ≤ 66) (j : Fin 66) (hj : j.val < k) (i : Fin 128) (a : Fin 512) :
    (carried (STEP^[k] V)).h (ix5 j (side d b) h i a)
      = Spec.h ((carried V).chunks (side d b) h j.val) (Spec.state ((carried V).chunks (side d b) h) j.val) i a := by
  rw [carried_iterate]
  exact (Carried.iterate_value _ hV (side d b) h k hk).2 j hj i a

theorem out_f_at (V : Valuation τ sig (Elt Ideal)) (b : Fin 2) (h : Fin 4) (j : Fin 66) (i : Fin 128) (a : Fin 512) :
    (out_main_v123 V : FVec Ideal S16896x2048 .f32) (ix2 (row 0 b (place j i)) (col h a)) = (carried V).h (ix5 j (side 0 b) h i a) := by
  rw [out_f]
  exact (backRows_at 0 _ b _ _).trans (outSeq_at 0 _ _ b h j i a)

theorem out_b_at (V : Valuation τ sig (Elt Ideal)) (b : Fin 2) (h : Fin 4) (j : Fin 66) (i : Fin 128) (a : Fin 512) :
    (out_main_v128 V : FVec Ideal S16896x2048 .f32) (ix2 (row 1 b (place j i)) (col h a)) = (carried V).h (ix5 j (side 1 b) h i a) := by
  rw [out_b]
  exact (backRows_at 1 _ b _ _).trans (outSeq_at 1 _ _ b h j i a)

theorem ref_f (k : ℕ) (hk : k = 66) (b : Fin 2) (h : Fin 4) (j : Fin 66) (i : Fin 128) (a : Fin 512) :
    (out_main_v123 (STEP^[k] (entryContents preI m c)) : FVec Ideal S16896x2048 .f32) (ix2 (row 0 b (place j i)) (col h a))
      = Spec.h ((refArgs m c).chunks 0 b h j.val) (Spec.state ((refArgs m c).chunks 0 b h) j.val) i a := by
  rw [← enter_chunks]
  exact (out_f_at _ b h j i a).trans (scan_at _ (enter_start m c) 0 b h k hk.le j (hk ▸ j.isLt) i a)

theorem ref_b (k : ℕ) (hk : k = 66) (b : Fin 2) (h : Fin 4) (j : Fin 66) (i : Fin 128) (a : Fin 512) :
    (out_main_v128 (STEP^[k] (entryContents preI m c)) : FVec Ideal S16896x2048 .f32) (ix2 (row 1 b (place j i)) (col h a))
      = Spec.h ((refArgs m c).chunks 1 b h j.val) (Spec.state ((refArgs m c).chunks 1 b h) j.val) i a := by
  rw [← enter_chunks]
  exact (out_b_at _ b h j i a).trans (scan_at _ (enter_start m c) 1 b h k hk.le j (hk ▸ j.isLt) i a)

/-- Every row is met by a direction in a batch at a place. -/
theorem row_onto (d : Fin 2) (x : Fin 16896) : ∃ b j i, x = row d b (place j i) := by
  have : ∃ b l, x = row d b l := by
    by_cases hx : x.val < 512
    · match d with
      | 0 => exact ⟨⟨x.val / 256, by omega⟩, ⟨x.val % 256, by omega⟩, Fin.ext (by simp only [row, show x.val % 256 < 256 by omega, if_true]; omega)⟩
      | 1 => exact ⟨⟨x.val / 256, by omega⟩, ⟨255 - x.val % 256, by omega⟩, Fin.ext (by simp [row, show 255 - x.val % 256 < 256 by omega]; omega)⟩
    · match d with
      | 0 => exact ⟨⟨(x.val - 512) / 8192, by omega⟩, ⟨256 + (x.val - 512) % 8192, by omega⟩, Fin.ext (by simp [row]; omega)⟩
      | 1 => exact ⟨⟨(x.val - 512) / 8192, by omega⟩, ⟨256 + (8191 - (x.val - 512) % 8192), by omega⟩, Fin.ext (by simp [row]; omega)⟩
  obtain ⟨b, l, e⟩ := this
  exact ⟨b, ⟨l.val / 128, by omega⟩, ⟨l.val % 128, by omega⟩, e.trans (congrArg (row d b) (Fin.ext (by simp only [place]; omega)))⟩

/-- Two arrays of rows agree when they agree wherever a direction meets them. -/
theorem rows_ext (d : Fin 2) {x y : FVec Ideal S16896x2048 .f32}
    (e : ∀ b h j i a, x (ix2 (row d b (place j i)) (col h a)) = y (ix2 (row d b (place j i)) (col h a))) : x = y := by
  funext z
  obtain ⟨b, j, i, hr⟩ := row_onto d (z 0)
  have hc : z 1 = col ⟨(z 1).val / 512, by have := (z 1).isLt; simp at this; omega⟩ ⟨(z 1).val % 512, by omega⟩ := Fin.ext (by simp only [col]; omega)
  have hz : z = ix2 (row d b (place j i)) (col ⟨(z 1).val / 512, by have := (z 1).isLt; simp at this; omega⟩ ⟨(z 1).val % 512, by omega⟩) := by
    rw [← hr, ← hc]
    funext t
    match t with
    | 0 => rfl
    | 1 => rfl
  rw [hz]
  exact e _ _ _ _ _

end Cert.Hand
end
-- ==== Proof.Algebraic.lean ====
module

public import proofs.«01_k».proof.Defs
public import proofs.«01_k».proof.Proof.RefValue

/-! # The scan's value claim

From memories that hold the same arguments, the kernel and the reference end with the same two results. -/

@[expose] public section

noncomputable section

namespace Cert.Hand

open Idealize.ShloMosaic Idealize.ShloMosaic.TcCoe Idealize.SL.Sem

/-- The two programs read the same arguments. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    refArgs m' c = argsOf m c := by
  unfold refArgs argsOf
  congr 1

theorem algebraic : @Cert.algebraic_KernelIdeal_ReferenceIdeal Cert.KernelIdeal.Gen.facts Cert.ReferenceIdeal.Gen.facts := by
  intro m g m' g' _ hm
  have e : ∀ c, refArgs m' c = argsOf m c := fun c => args_agree m m' c (hm c).1 (hm c).2.1 (hm c).2.2.1 (hm c).2.2.2.1 (hm c).2.2.2.2
  refine ⟨fun c => (Cert.KernelIdeal.Gen.dats m 0 c).arrAt 10 Cert.KernelIdeal.cfg0.N,
    fun c => (Cert.KernelIdeal.Gen.dats m 0 c).arrAt 11 Cert.KernelIdeal.cfg0.N, Cert.KernelIdeal.Value.run_blocks m g, ?_⟩
  refine (θ_run _ _ _).mono (fun r h c => ?_) (Cert.ReferenceIdeal.Value.run m' g')
  obtain ⟨h0, h1, hk⟩ := h c
  refine ⟨h0.trans ?_, h1.trans ?_, hk⟩
  · refine rows_ext 0 fun b h j i a => (ref_f m' c 66 rfl b h j i a).trans ?_
    rw [e c]
    exact (final_f m c b h j i a).symm
  · refine rows_ext 1 fun b h j i a => (ref_b m' c 66 rfl b h j i a).trans ?_
    rw [e c]
    exact (final_b m c b h j i a).symm

end Cert.Hand
end
-- ==== Proof.MlOut.lean ====
module

public import proofs.«01_k».proof.Proof.MapSpec
public import proofs.«01_k».proof.Proof.Gen.Kernel4Ideal.Value
public import Idealize.ShloMosaic.Lib.Pointwise
public import Idealize.ShloMosaic.Lib.Pipeline.ValueKit.Geometry
public import Idealize.ShloMosaic.Lib.Pipeline.ValueKit.Tiles

/-!
# The map out of the last layer's mixer

The kernel's result at an element, in its arguments.
-/

@[expose] public section

set_option maxRecDepth 16896

noncomputable section

namespace Cert.Hand.MlOut

open Cert.Kernel4Ideal Cert.Kernel4Ideal.Gen Cert.Hand.Mlp Cert.Hand.Map
open Idealize.ShloMosaic Idealize.ShloMosaic.TcCoe Idealize.SL.Sem
open Idealize.ShloMosaic.Tactic

/-- What the map reads of the program's arguments. -/
structure Args where
  /-- the stream -/
  x : FVec Ideal ⟨2, ![16896, 1024]⟩ .f32
  /-- the modulations -/
  mods : FVec Ideal ⟨3, ![8, 6, 1024]⟩ .f32
  /-- the forward scan -/
  hf : FVec Ideal ⟨2, ![16896, 2048]⟩ .f32
  /-- the backward scan -/
  hb : FVec Ideal ⟨2, ![16896, 2048]⟩ .f32
  /-- the skipped values -/
  xc : FVec Ideal ⟨2, ![16896, 2048]⟩ .f32
  /-- the output gate before its sigmoid -/
  o : FVec Ideal ⟨2, ![16896, 2048]⟩ .f32
  /-- the head norm's weight -/
  gn : FVec Ideal ⟨1, ![2048]⟩ .f32
  /-- the skip's weight -/
  skip : FVec Ideal ⟨1, ![2048]⟩ .f32
  /-- the weight -/
  w : FVec Ideal ⟨2, ![2048, 1024]⟩ .f32

/-- The four heads of 512 values of a row, each normed. -/
abbrev heads4 (f : Fin 2048 → EReal) (k : Fin 2048) : EReal := heads 512 rfl (by decide) (Ideal.ofBits .f32 0x44000000#32) f k

/-- What the weight multiplies in row `r`. -/
def Args.gated (A : Args) (r : Fin 16896) (z : Fin 2048) : EReal :=
  Ideal.logistic (A.o (ix2 r z)) * (heads4 (fun j => A.hf (ix2 r j) + A.hb (ix2 r j)) z * A.gn (ix1 z) + A.skip (ix1 z) * A.xc (ix2 r z))

/-- Row `r` after the mixer, with the modulations `q`. -/
def Args.out (A : Args) (r : Fin 16896) (q : Fin 8) (n : Fin 1024) : EReal :=
  A.x (ix2 r n) + A.mods (ix3 q 2 n) * ∑ z, A.gated r z * A.w (ix2 z n)

section Block

variable {F : FTy → Type} [FloatOps F]

theorem zero2 : (![0, 0] : Fin 2 → ℕ) = fun _ => 0 := by funext a; fin_cases a <;> rfl
theorem zero3 : (![0, 0, 0] : Fin 3 → ℕ) = fun _ => 0 := by funext a; fin_cases a <;> rfl

theorem slices_head : ∀ h : Fin 4, S256x2048.Slices ![0, 512 * h.val] S256x512 := by decide

/-- The values of a head. -/
def headCols (y : FVec F S256x2048 .f32) (h : Fin 4) : FVec F S256x512 .f32 := extractStridedSlice S256x512 ![0, 512 * h.val] y (slices_head h)

/-- A mean over a head. -/
def mean (x : FVec F S256x512 .f32) : FVec F S256x1 .f32 :=
  divf (shapeCast S256x1 (multiReduction .add [1] S256 x 0x00000000#32 reduces_S256x512_S256 (.inl rfl) rfl) shapeCasts_S256_S256x1)
    (broadcast S256x1 (Scalar.ofBits .f32 0x44000000#32))

/-- A head, centred. -/
def centred (x : FVec F S256x512 .f32) : FVec F S256x512 .f32 := subf x (broadcastTo S256x512 (mean x) broadcasts_S256x1_S256x512)

/-- A head, normed. -/
def head (x : FVec F S256x512 .f32) : FVec F S256x512 .f32 :=
  mulf (centred x) (broadcastTo S256x512 (rsqrt (addf (mean (mulf (centred x) (centred x))) (broadcast S256x1 (Scalar.ofBits .f32 0x358637BD#32)))) broadcasts_S256x1_S256x512)

/-- The heads, each normed. -/
def headsOf (y : FVec F S256x2048 .f32) : FVec F S256x2048 .f32 :=
  concatenate S256x2048 1 [⟨S256x512, head (headCols y 0)⟩, ⟨S256x512, head (headCols y 1)⟩, ⟨S256x512, head (headCols y 2)⟩, ⟨S256x512, head (headCols y 3)⟩]
    concatenates_S256x512_S256x512_S256x512_S256x512_S256x2048_d1

/-- What a grid point computes of its blocks. -/
def block (x : FVec F S256x1024 .f32) (m : FVec F S1x6x1024 .f32) (hf hb xc o : FVec F S256x2048 .f32) (gn sk : FVec F S1x2048 .f32)
    (w : FVec F S2048x1024 .bf16) : FVec F S256x1024 .f32 :=
  addf x (mulf (broadcastTo S256x1024 (extractStridedSlice S1x1024 ![2, 0] (shapeCast S6x1024 m shapeCasts_S1x6x1024_S6x1024) slices_S6x1024_o2_0_S1x1024)
      broadcasts_S1x1024_S256x1024)
    (matmul dot_S256x2048_S2048x1024_S256x1024_1_0_0_1_n_n none
      (truncf .bf16 (mulf (logistic o) (addf
        (mulf (headsOf (addf hf hb)) (broadcastTo S256x2048 (shapeCast S1x2048 gn shapeCasts_S1x2048_S1x2048) broadcasts_S1x2048_S256x2048))
        (mulf (broadcastTo S256x2048 (shapeCast S1x2048 sk shapeCasts_S1x2048_S1x2048) broadcasts_S1x2048_S256x2048) xc))) bitsLt_bf16_f32)
      (shapeCast S2048x1024 w shapeCasts_S2048x1024_S2048x1024) (constant S256x1024 .f32 0x00000000#32)))

/-- What a grid point writes. -/
theorem out_block (x : Vec F S256x1024 .f32) (m : Vec F S1x6x1024 .f32) (hf hb xc o : Vec F S256x2048 .f32) (gn sk : Vec F S1x2048 .f32)
    (w : Vec F S2048x1024 .bf16) : out0_9 x m hf hb xc o gn sk w = block x m hf hb xc o gn sk w := by
  have h : out0_9 x m hf hb xc o gn sk w = View.canon [⟨r0_4, block (View.ld x r0_4) (View.ld m r0_0) (View.ld hf r0_1) (View.ld hb r0_1)
      (View.ld xc r0_1) (View.ld o r0_1) (View.ld gn r0_2) (View.ld sk r0_2) (View.ld w r0_3)⟩] := rfl
  rw [h, View.canon_unit_zero zero2]
  simp only [View.ld_unit_zero (S := S256x1024) zero2, View.ld_unit_zero (S := S1x6x1024) zero3, View.ld_unit_zero (S := S256x2048) zero2,
    View.ld_unit_zero (S := S1x2048) zero2, View.ld_unit_zero (S := S2048x1024) zero2]

end Block

theorem headCols_at (y : FVec Ideal S256x2048 .f32) (h : Fin 4) (i : Fin 256) (a : Fin 512) :
    headCols y h (ix2 i a) = headRow 512 rfl (fun j => y (ix2 i j)) h a := by
  pointwise [headCols, headRow]

theorem mean_at (x : FVec Ideal S256x512 .f32) (i : Fin 256) : mean x (ix2 i 0) = meanOf (Ideal.ofBits .f32 0x44000000#32) (fun j => x (ix2 i j)) := by
  pointwise [mean, meanOf]

theorem centred_at (x : FVec Ideal S256x512 .f32) (i : Fin 256) (a : Fin 512) : centred x (ix2 i a) = x (ix2 i a) - mean x (ix2 i 0) := by
  pointwise [centred]

theorem head_at (x : FVec Ideal S256x512 .f32) (i : Fin 256) (a : Fin 512) :
    head x (ix2 i a) = headNorm (Ideal.ofBits .f32 0x44000000#32) (fun j => x (ix2 i j)) a := by
  have h : head x (ix2 i a) = centred x (ix2 i a) * Ideal.rsqrt (mean (mulf (centred x) (centred x)) (ix2 i 0) + Ideal.ofBits .f32 0x358637BD#32) := by
    pointwise [head]
  rw [h, mean_at, centred_at, mean_at, headNorm]
  refine congrArg (fun s => _ * Ideal.rsqrt (meanOf _ s + _)) (funext fun j => ?_)
  show centred x (ix2 i j) * centred x (ix2 i j) = _
  rw [centred_at, mean_at]

theorem headsOf_at (y : FVec Ideal S256x2048 .f32) (i : Fin 256) (k : Fin 2048) : headsOf y (ix2 i k) = heads4 (fun j => y (ix2 i j)) k := by
  have h : headsOf y (ix2 i k) = head (headCols y ⟨k.val / 512, by omega⟩) (ix2 i ⟨k.val % 512, by omega⟩) :=
    concatenate_ofFn_apply 1 (fun n : Fin 4 => head (headCols y n)) concatenates_S256x512_S256x512_S256x512_S256x512_S256x2048_d1 rfl 512 rfl
      (ix2 i k) ⟨k.val / 512, by omega⟩ rfl (ix2 i ⟨k.val % 512, by omega⟩) rfl (fun b hb => by
        match b with
        | 0 => rfl
        | 1 => exact absurd rfl hb)
  rw [h, head_at]
  simp only [headCols_at]
  rfl

theorem block_at (x : FVec Ideal S256x1024 .f32) (m : FVec Ideal S1x6x1024 .f32) (hf hb xc o : FVec Ideal S256x2048 .f32) (gn sk : FVec Ideal S1x2048 .f32)
    (w : FVec Ideal S2048x1024 .bf16) (i : Fin 256) (k : Fin 1024) :
    block x m hf hb xc o gn sk w (ix2 i k) = x (ix2 i k) + m (ix3 0 2 k) * ∑ z, Ideal.logistic (o (ix2 i z))
      * (headsOf (addf hf hb) (ix2 i z) * gn (ix2 0 z) + sk (ix2 0 z) * xc (ix2 i z)) * w (ix2 z k) := by
  pointwise [block]

variable (m : (ℓ : Loc nD τ sig) → Buf (Elt Ideal) ℓ) (c : Dev nD)

/-- The kernel's arguments. -/
def args : Args where
  x := m ((c : Thread nD τ).loc main_arg0)
  mods := m ((c : Thread nD τ).loc main_arg1)
  hf := m ((c : Thread nD τ).loc main_arg2)
  hb := m ((c : Thread nD τ).loc main_arg3)
  xc := m ((c : Thread nD τ).loc main_arg4)
  o := m ((c : Thread nD τ).loc main_arg5)
  gn := m ((c : Thread nD τ).loc main_arg6)
  skip := m ((c : Thread nD τ).loc main_arg7)
  w := m ((c : Thread nD τ).loc main_arg8)

theorem index_rows : ∀ t : Fin cfg0.N,
    (win0_0.index t 0 = t.val + 2 ∧ win0_0.index t 1 = 0) ∧ (win0_1.index t 0 = t.val / 32 ∧ win0_1.index t 1 = 0 ∧ win0_1.index t 2 = 0)
    ∧ (win0_2.index t 0 = t.val + 2 ∧ win0_2.index t 1 = 0) ∧ (win0_3.index t 0 = t.val + 2 ∧ win0_3.index t 1 = 0)
    ∧ (win0_4.index t 0 = t.val + 2 ∧ win0_4.index t 1 = 0) ∧ (win0_5.index t 0 = t.val + 2 ∧ win0_5.index t 1 = 0)
    ∧ (win0_9.index t 0 = t.val ∧ win0_9.index t 1 = 0) :=
  (by decide +kernel : ∀ t : Fin grid0.N,
    (win0_0.index t 0 = t.val + 2 ∧ win0_0.index t 1 = 0) ∧ (win0_1.index t 0 = t.val / 32 ∧ win0_1.index t 1 = 0 ∧ win0_1.index t 2 = 0)
    ∧ (win0_2.index t 0 = t.val + 2 ∧ win0_2.index t 1 = 0) ∧ (win0_3.index t 0 = t.val + 2 ∧ win0_3.index t 1 = 0)
    ∧ (win0_4.index t 0 = t.val + 2 ∧ win0_4.index t 1 = 0) ∧ (win0_5.index t 0 = t.val + 2 ∧ win0_5.index t 1 = 0)
    ∧ (win0_9.index t 0 = t.val ∧ win0_9.index t 1 = 0))

theorem index_whole : ∀ t : Fin cfg0.N,
    (win0_6.index t 0 = 0 ∧ win0_6.index t 1 = 0) ∧ (win0_7.index t 0 = 0 ∧ win0_7.index t 1 = 0) ∧ (win0_8.index t 0 = 0 ∧ win0_8.index t 1 = 0) :=
  (by decide +kernel : ∀ t : Fin grid0.N,
    (win0_6.index t 0 = 0 ∧ win0_6.index t 1 = 0) ∧ (win0_7.index t 0 = 0 ∧ win0_7.index t 1 = 0) ∧ (win0_8.index t 0 = 0 ∧ win0_8.index t 1 = 0))

theorem N_lt (t : Fin cfg0.N) : t.val < 64 := t.isLt.trans_eq N_0

/-- Row `i` of block `t` in the stream. -/
def rowAt (t : Fin cfg0.N) (i : Fin 256) : Fin 16896 := ⟨(t.val + 2) * 256 + i.val, by have := N_lt t; omega⟩

/-- Row `i` of block `t` in the result. -/
def resAt (t : Fin cfg0.N) (i : Fin 256) : Fin 16384 := ⟨t.val * 256 + i.val, by have := N_lt t; omega⟩

/-- The modulations of block `t`. -/
def modAt (t : Fin cfg0.N) : Fin 8 := ⟨t.val / 32, by have := N_lt t; omega⟩

theorem read_0 (A : FVec Ideal S16896x1024 .f32) (t : Fin cfg0.N) (i : Fin 256) (k : Fin 1024) :
    ((cfg0.win 0).blk t).view.read (Elt Ideal) A (ix2 i k) = A (ix2 (rowAt t i) k) :=
  congrArg A (emb2 _ _ (congrArg (· * 256) (index_rows t).1.1) (congrArg (· * 1024) (index_rows t).1.2) i k _ _ rfl (by omega))

theorem read_1 (A : FVec Ideal S8x6x1024 .f32) (t : Fin cfg0.N) (a : Fin 6) (k : Fin 1024) :
    ((cfg0.win 1).blk t).view.read (Elt Ideal) A (ix3 0 a k) = A (ix3 (modAt t) a k) :=
  congrArg A (emb3 _ _ (congrArg (· * 1) (index_rows t).2.1.1) (congrArg (· * 6) (index_rows t).2.1.2.1) (congrArg (· * 1024) (index_rows t).2.1.2.2)
    0 a k _ _ _ (by simp [modAt]) (by omega) (by omega))

theorem read_2 (A : FVec Ideal S16896x2048 .f32) (t : Fin cfg0.N) (i : Fin 256) (k : Fin 2048) :
    ((cfg0.win 2).blk t).view.read (Elt Ideal) A (ix2 i k) = A (ix2 (rowAt t i) k) :=
  congrArg A (emb2 _ _ (congrArg (· * 256) (index_rows t).2.2.1.1) (congrArg (· * 2048) (index_rows t).2.2.1.2) i k _ _ rfl (by omega))

theorem read_3 (A : FVec Ideal S16896x2048 .f32) (t : Fin cfg0.N) (i : Fin 256) (k : Fin 2048) :
    ((cfg0.win 3).blk t).view.read (Elt Ideal) A (ix2 i k) = A (ix2 (rowAt t i) k) :=
  congrArg A (emb2 _ _ (congrArg (· * 256) (index_rows t).2.2.2.1.1) (congrArg (· * 2048) (index_rows t).2.2.2.1.2) i k _ _ rfl (by omega))

theorem read_4 (A : FVec Ideal S16896x2048 .f32) (t : Fin cfg0.N) (i : Fin 256) (k : Fin 2048) :
    ((cfg0.win 4).blk t).view.read (Elt Ideal) A (ix2 i k) = A (ix2 (rowAt t i) k) :=
  congrArg A (emb2 _ _ (congrArg (· * 256) (index_rows t).2.2.2.2.1.1) (congrArg (· * 2048) (index_rows t).2.2.2.2.1.2) i k _ _ rfl (by omega))

theorem read_5 (A : FVec Ideal S16896x2048 .f32) (t : Fin cfg0.N) (i : Fin 256) (k : Fin 2048) :
    ((cfg0.win 5).blk t).view.read (Elt Ideal) A (ix2 i k) = A (ix2 (rowAt t i) k) :=
  congrArg A (emb2 _ _ (congrArg (· * 256) (index_rows t).2.2.2.2.2.1.1) (congrArg (· * 2048) (index_rows t).2.2.2.2.2.1.2) i k _ _ rfl (by omega))

theorem read_6 (A : FVec Ideal S1x2048 .f32) (t : Fin cfg0.N) (k : Fin 2048) :
    ((cfg0.win 6).blk t).view.read (Elt Ideal) A (ix2 0 k) = A (ix2 0 k) :=
  congrArg A (emb2 _ _ (congrArg (· * 1) (index_whole t).1.1) (congrArg (· * 2048) (index_whole t).1.2) 0 k _ _ rfl (by omega))

theorem read_7 (A : FVec Ideal S1x2048 .f32) (t : Fin cfg0.N) (k : Fin 2048) :
    ((cfg0.win 7).blk t).view.read (Elt Ideal) A (ix2 0 k) = A (ix2 0 k) :=
  congrArg A (emb2 _ _ (congrArg (· * 1) (index_whole t).2.1.1) (congrArg (· * 2048) (index_whole t).2.1.2) 0 k _ _ rfl (by omega))

theorem read_8 (A : FVec Ideal S2048x1024 .bf16) (t : Fin cfg0.N) (i : Fin 2048) (k : Fin 1024) :
    ((cfg0.win 8).blk t).view.read (Elt Ideal) A (ix2 i k) = A (ix2 i k) :=
  congrArg A (emb2 _ _ (congrArg (· * 2048) (index_whole t).2.2.1) (congrArg (· * 1024) (index_whole t).2.2.2) i k _ _ (by omega) (by omega))

theorem read_9 (A : FVec Ideal S16384x1024 .f32) (t : Fin cfg0.N) (i : Fin 256) (k : Fin 1024) :
    ((cfg0.win 9).blk t).view.read (Elt Ideal) A (ix2 i k) = A (ix2 (resAt t i) k) :=
  congrArg A (emb2 _ _ (congrArg (· * 256) (index_rows t).2.2.2.2.2.2.1) (congrArg (· * 1024) (index_rows t).2.2.2.2.2.2.2) i k _ _ rfl (by omega))

theorem V_v0 : V m c main_v0 = (args m c).w := by
  simp only [V, hostOps0]; after_results_simp; rfl

theorem V_v1 : V m c main_v1 = shapeCast S1x2048 (args m c).gn shapeCasts_S2048_S1x2048 := by
  simp only [V, hostOps0]; after_results_simp; rfl

theorem V_v2 : V m c main_v2 = shapeCast S1x2048 (args m c).skip shapeCasts_S2048_S1x2048 := by
  simp only [V, hostOps0]; after_results_simp; rfl

theorem row_cast (g : FVec Ideal S2048 .f32) (k : Fin 2048) :
    (shapeCast S1x2048 g shapeCasts_S2048_S1x2048 : FVec Ideal S1x2048 .f32) (ix2 0 k) = g (ix1 k) := by
  pointwise

theorem blk_x (t : Fin cfg0.N) (i : Fin 256) (k : Fin 1024) : (iblk m c 0 t : Vec Ideal S256x1024 .f32) (ix2 i k) = (args m c).x (ix2 (rowAt t i) k) :=
  (read_0 _ t i k).trans (congrFun (V_main_arg0 m c) _)

theorem blk_m (t : Fin cfg0.N) (a : Fin 6) (k : Fin 1024) : (iblk m c 1 t : Vec Ideal S1x6x1024 .f32) (ix3 0 a k) = (args m c).mods (ix3 (modAt t) a k) :=
  (read_1 _ t a k).trans (congrFun (V_main_arg1 m c) _)

theorem blk_hf (t : Fin cfg0.N) (i : Fin 256) (k : Fin 2048) : (iblk m c 2 t : Vec Ideal S256x2048 .f32) (ix2 i k) = (args m c).hf (ix2 (rowAt t i) k) :=
  (read_2 _ t i k).trans (congrFun (V_main_arg2 m c) _)

theorem blk_hb (t : Fin cfg0.N) (i : Fin 256) (k : Fin 2048) : (iblk m c 3 t : Vec Ideal S256x2048 .f32) (ix2 i k) = (args m c).hb (ix2 (rowAt t i) k) :=
  (read_3 _ t i k).trans (congrFun (V_main_arg3 m c) _)

theorem blk_xc (t : Fin cfg0.N) (i : Fin 256) (k : Fin 2048) : (iblk m c 4 t : Vec Ideal S256x2048 .f32) (ix2 i k) = (args m c).xc (ix2 (rowAt t i) k) :=
  (read_4 _ t i k).trans (congrFun (V_main_arg4 m c) _)

theorem blk_o (t : Fin cfg0.N) (i : Fin 256) (k : Fin 2048) : (iblk m c 5 t : Vec Ideal S256x2048 .f32) (ix2 i k) = (args m c).o (ix2 (rowAt t i) k) :=
  (read_5 _ t i k).trans (congrFun (V_main_arg5 m c) _)

theorem blk_gn (t : Fin cfg0.N) (k : Fin 2048) : (iblk m c 6 t : Vec Ideal S1x2048 .f32) (ix2 0 k) = (args m c).gn (ix1 k) :=
  (read_6 _ t k).trans ((congrFun (V_v1 m c) _).trans (row_cast _ k))

theorem blk_skip (t : Fin cfg0.N) (k : Fin 2048) : (iblk m c 7 t : Vec Ideal S1x2048 .f32) (ix2 0 k) = (args m c).skip (ix1 k) :=
  (read_7 _ t k).trans ((congrFun (V_v2 m c) _).trans (row_cast _ k))

theorem blk_w (t : Fin cfg0.N) (i : Fin 2048) (k : Fin 1024) : (iblk m c 8 t : Vec Ideal S2048x1024 .bf16) (ix2 i k) = (args m c).w (ix2 i k) :=
  (read_8 _ t i k).trans (congrFun (V_v0 m c) _)

/-- The kernel's result at an element. -/
theorem value (t : Fin cfg0.N) (i : Fin 256) (k : Fin 1024) :
    ((dats m 0 c).arrAt 9 cfg0.N : FVec Ideal S16384x1024 .f32) (ix2 (resAt t i) k) = (args m c).out (rowAt t i) (modAt t) k := by
  rw [← read_9 ((dats m 0 c).arrAt 9 cfg0.N) t i k, Cert.Kernel4Ideal.Value.blocks9 m c _ (flush0_9 _), Cert.Kernel4Ideal.Value.flushed9]
  refine (congrFun (out_block (iblk m c 0 t) (iblk m c 1 t) (iblk m c 2 t) (iblk m c 3 t) (iblk m c 4 t) (iblk m c 5 t) (iblk m c 6 t)
    (iblk m c 7 t) (iblk m c 8 t)) (ix2 i k)).trans ?_
  refine (block_at _ _ _ _ _ _ _ _ _ i k).trans ?_
  have hs : ∀ z, headsOf (addf (iblk m c 2 t) (iblk m c 3 t) : FVec Ideal S256x2048 .f32) (ix2 i z)
      = heads4 (fun j => (args m c).hf (ix2 (rowAt t i) j) + (args m c).hb (ix2 (rowAt t i) j)) z := by
    intro z
    rw [headsOf_at]
    refine congrArg (fun f => heads4 f z) (funext fun j => ?_)
    exact congrArg₂ (· + ·) (blk_hf m c t i j) (blk_hb m c t i j)
  simp only [hs, blk_x, blk_m, blk_xc, blk_o, blk_gn, blk_skip, blk_w, Args.out, Args.gated]

/-- The row of the stream behind row `r` of the result. -/
def streamRow (r : Fin 16384) : Fin 16896 := ⟨512 + r.val, by omega⟩

/-- The modulations of row `r` of the result. -/
def modRow (r : Fin 16384) : Fin 8 := ⟨r.val / 8192, by omega⟩

/-- The same, by the row. -/
theorem value_row (r : Fin 16384) (k : Fin 1024) :
    ((dats m 0 c).arrAt 9 cfg0.N : FVec Ideal S16384x1024 .f32) (ix2 r k) = (args m c).out (streamRow r) (modRow r) k := by
  have h := value m c ⟨r.val / 256, by rw [show cfg0.N = 64 from N_0]; omega⟩ ⟨r.val % 256, by omega⟩ k
  rw [show resAt ⟨r.val / 256, by rw [show cfg0.N = 64 from N_0]; omega⟩ ⟨r.val % 256, by omega⟩ = r from
      Fin.ext (by simp only [resAt]; omega),
    show rowAt ⟨r.val / 256, by rw [show cfg0.N = 64 from N_0]; omega⟩ ⟨r.val % 256, by omega⟩ = streamRow r from
      Fin.ext (by simp only [rowAt, streamRow]; omega),
    show modAt ⟨r.val / 256, by rw [show cfg0.N = 64 from N_0]; omega⟩ = modRow r from
      Fin.ext (by simp only [modAt, modRow]; omega)] at h
  exact h

end Cert.Hand.MlOut

end
-- ==== Proof.MlOutRef.lean ====
module

public import proofs.«01_k».proof.Defs
public import proofs.«01_k».proof.Proof.RefRows
public import proofs.«01_k».proof.Proof.MlpRef
public import proofs.«01_k».proof.Proof.MlOut
public import proofs.«01_k».proof.Proof.Gen.Reference4Ideal.Run

/-!
# The value claim of the map out of the last mixer

The reference's result at an element, and its equality with the kernel's.
-/

@[expose] public section

set_option maxRecDepth 16384

noncomputable section

namespace Cert.Hand.MlOut

open Idealize.ShloMosaic Idealize.ShloMosaic.TcCoe Idealize.SL.Sem Cert.Hand.Mlp Cert.Hand.Map
open Idealize.ShloMosaic.Tactic
open Cert.Reference4Ideal Cert.Reference4Ideal.Gen Cert.Reference4Ideal.Value

/-- The reference's arguments. -/
def refArgs (m : (ℓ : Loc nD τ sig) → Buf (Elt Ideal) ℓ) (c : Dev nD) : Args where
  x := m ((c.tc : Thread nD τ).loc main_arg0)
  mods := m ((c.tc : Thread nD τ).loc main_arg1)
  hf := m ((c.tc : Thread nD τ).loc main_arg2)
  hb := m ((c.tc : Thread nD τ).loc main_arg3)
  xc := m ((c.tc : Thread nD τ).loc main_arg4)
  o := m ((c.tc : Thread nD τ).loc main_arg5)
  gn := m ((c.tc : Thread nD τ).loc main_arg6)
  skip := m ((c.tc : Thread nD τ).loc main_arg7)
  w := m ((c.tc : Thread nD τ).loc main_arg8)

/-- The latent rows of 2048 values. -/
def latWide (x : FVec Ideal S16896x2048 .f32) : FVec Ideal S2x8192x2048 .f32 :=
  shapeCast S2x8192x2048 (extractStridedSlice S16384x2048 ![512, 0] x slices_S16896x2048_S16384x2048_512_0) shapeCasts_S16384x2048_S2x8192x2048

/-- The means over the heads. -/
def refMean (x : FVec Ideal S2x8192x4x512 .f32) : FVec Ideal S2x8192x4x1 .f32 :=
  Host.divf (broadcastInDim S2x8192x4x1 ![0, 1, 2] bcast_S2x8192x4_S2x8192x4x1_0_1_2
      (Host.reduceAdd x (constant S_ .f32 0x00000000#32) reducesTo_S2x8192x4x512_S2x8192x4_d3 h_S_))
    (broadcastInDim S2x8192x4x1 ![] bcast_S_S2x8192x4x1 (constant S_ .f32 0x44000000#32))

/-- The heads, centred. -/
def refCentred (x : FVec Ideal S2x8192x4x512 .f32) : FVec Ideal S2x8192x4x512 .f32 :=
  subf x (broadcastInDim S2x8192x4x512 ![0, 1, 2, 3] bcast_S2x8192x4x1_S2x8192x4x512_0_1_2_3 (refMean x))

/-- The heads, normed. -/
def refHead (x : FVec Ideal S2x8192x4x512 .f32) : FVec Ideal S2x8192x4x512 .f32 :=
  mulf (refCentred x) (broadcastInDim S2x8192x4x512 ![0, 1, 2, 3] bcast_S2x8192x4x1_S2x8192x4x512_0_1_2_3
    (Host.rsqrt (addf (refMean (mulf (refCentred x) (refCentred x))) (broadcastInDim S2x8192x4x1 ![] bcast_S_S2x8192x4x1 (constant S_ .f32 0x358637BD#32)))))

/-- The rows, normed head by head. -/
def refHeads (y : FVec Ideal S2x8192x2048 .f32) : FVec Ideal S2x8192x2048 .f32 :=
  shapeCast S2x8192x2048 (refHead (shapeCast S2x8192x4x512 y shapeCasts_S2x8192x2048_S2x8192x4x512)) shapeCasts_S2x8192x4x512_S2x8192x2048

/-- A weight over the rows. -/
def over (v : FVec Ideal S2048 .f32) : FVec Ideal S2x8192x2048 .f32 :=
  broadcastInDim S2x8192x2048 ![0, 1, 2] bcast_S1x1x2048_S2x8192x2048_0_1_2 (broadcastInDim S1x1x2048 ![2] bcast_S2048_S1x1x2048_2 v)

/-- What the weight multiplies. -/
def refGated (hf hb xc o : FVec Ideal S2x8192x2048 .f32) (gn skip : FVec Ideal S2048 .f32) : FVec Ideal S2x8192x2048 .f32 :=
  mulf (Host.divf (broadcastInDim S2x8192x2048 ![] bcast_S_S2x8192x2048 (constant S_ .f32 0x3F800000#32))
      (addf (broadcastInDim S2x8192x2048 ![] bcast_S_S2x8192x2048 (constant S_ .f32 0x3F800000#32)) (Host.exp (Host.negf o))))
    (addf (mulf (refHeads (addf hf hb)) (over gn)) (mulf (over skip) xc))

/-- The latent rows after the mixer. -/
def refOut (x : FVec Ideal S2x8192x1024 .f32) (gt : FVec Ideal S2x1x1024 .f32) (y : FVec Ideal S2x8192x2048 .f32) (w : FVec Ideal S2048x1024 .f32) :
    FVec Ideal S2x8192x1024 .f32 :=
  addf x (mulf (broadcastInDim S2x8192x1024 ![0, 1, 2] bcast_S2x1x1024_S2x8192x1024_0_1_2 gt)
    (Host.dotGeneral dot_S2x8192x2048_S2048x1024_S2x8192x1024_2_0_01_1_n_n none y w))

/-- The reference's result, as the terms over rows. -/
theorem ref_term (m : (ℓ : Loc nD τ sig) → Buf (Elt Ideal) ℓ) (c : Dev nD) : res_out0 m c = (shapeCast S16384x1024
    (refOut (First.latPart (refArgs m c).x) (latMod (refArgs m c).mods 2 slices_S8x6x1024_S2x1x1024_0_2_0)
      (refGated (latWide (refArgs m c).hf) (latWide (refArgs m c).hb) (latWide (refArgs m c).xc) (latWide (refArgs m c).o)
        (refArgs m c).gn (refArgs m c).skip) (refArgs m c).w) shapeCasts_S2x8192x1024_S16384x1024 : FVec Ideal S16384x1024 .f32) := rfl

variable (b : Fin 2) (t : Fin 8192)

theorem latWide_at (x : FVec Ideal S16896x2048 .f32) (k : Fin 2048) :
    latWide x (ix3 b t k) = x (ix2 ⟨512 + (b.val * 8192 + t.val), by omega⟩ k) := by
  pointwise [latWide]

theorem refMean_at (x : FVec Ideal S2x8192x4x512 .f32) (h : Fin 4) :
    refMean x (ix4 b t h 0) = meanOf (Ideal.ofBits .f32 0x44000000#32) (fun j => x (ix4 b t h j)) := by
  pointwise [refMean, meanOf]

theorem refCentred_at (x : FVec Ideal S2x8192x4x512 .f32) (h : Fin 4) (a : Fin 512) :
    refCentred x (ix4 b t h a) = x (ix4 b t h a) - refMean x (ix4 b t h 0) := by
  pointwise [refCentred]

theorem refHead_at (x : FVec Ideal S2x8192x4x512 .f32) (h : Fin 4) (a : Fin 512) :
    refHead x (ix4 b t h a) = headNorm (Ideal.ofBits .f32 0x44000000#32) (fun j => x (ix4 b t h j)) a := by
  have e : refHead x (ix4 b t h a) = refCentred x (ix4 b t h a)
      * Ideal.rsqrt (refMean (mulf (refCentred x) (refCentred x)) (ix4 b t h 0) + Ideal.ofBits .f32 0x358637BD#32) := by
    pointwise [refHead]
  rw [e, refMean_at, refCentred_at, refMean_at, headNorm]
  refine congrArg (fun s => _ * Ideal.rsqrt (meanOf _ s + _)) (funext fun j => ?_)
  show refCentred x (ix4 b t h j) * refCentred x (ix4 b t h j) = _
  rw [refCentred_at, refMean_at]

theorem split_at (y : FVec Ideal S2x8192x2048 .f32) (h : Fin 4) (a : Fin 512) :
    (shapeCast S2x8192x4x512 y shapeCasts_S2x8192x2048_S2x8192x4x512 : FVec Ideal S2x8192x4x512 .f32) (ix4 b t h a)
      = headRow 512 rfl (fun j => y (ix3 b t j)) h a := by
  have e : (shapeCast S2x8192x4x512 y shapeCasts_S2x8192x2048_S2x8192x4x512 : FVec Ideal S2x8192x4x512 .f32) (ix4 b t h a)
      = y (ix3 b t ⟨h.val * 512 + a.val, by omega⟩) := by
    pointwise
  exact e.trans (congrArg (fun j => y (ix3 b t j)) (Fin.ext (by show h.val * 512 + a.val = 512 * h.val + a.val; omega)))

theorem joined_at (x : FVec Ideal S2x8192x4x512 .f32) (k : Fin 2048) :
    (shapeCast S2x8192x2048 x shapeCasts_S2x8192x4x512_S2x8192x2048 : FVec Ideal S2x8192x2048 .f32) (ix3 b t k)
      = x (ix4 b t ⟨k.val / 512, by omega⟩ ⟨k.val % 512, by omega⟩) := by
  pointwise

theorem refHeads_at (y : FVec Ideal S2x8192x2048 .f32) (k : Fin 2048) :
    refHeads y (ix3 b t k) = heads4 (fun j => y (ix3 b t j)) k := by
  rw [refHeads, joined_at, refHead_at]
  simp only [split_at]
  rfl

theorem refGated_at (hf hb xc o : FVec Ideal S2x8192x2048 .f32) (gn skip : FVec Ideal S2048 .f32) (k : Fin 2048) :
    refGated hf hb xc o gn skip (ix3 b t k) = Ideal.logistic (o (ix3 b t k))
      * (refHeads (addf hf hb) (ix3 b t k) * gn (ix1 k) + skip (ix1 k) * xc (ix3 b t k)) := by
  pointwise [refGated, over]
  rfl

theorem refOut_at (x : FVec Ideal S2x8192x1024 .f32) (gt : FVec Ideal S2x1x1024 .f32) (y : FVec Ideal S2x8192x2048 .f32) (w : FVec Ideal S2048x1024 .f32)
    (k : Fin 1024) : refOut x gt y w (ix3 b t k) = x (ix3 b t k) + gt (ix3 b 0 k) * ∑ z, y (ix3 b t z) * w (ix2 z k) := by
  pointwise [refOut]

/-- The reference's result at an element. -/
theorem ref_value (m : (ℓ : Loc nD τ sig) → Buf (Elt Ideal) ℓ) (c : Dev nD) (r : Fin 16384) (k : Fin 1024) :
    (res_out0 m c : FVec Ideal S16384x1024 .f32) (ix2 r k) = (refArgs m c).out (streamRow r) (modRow r) k := by
  have hr : (⟨512 + (r.val / 8192 * 8192 + r.val % 8192), by omega⟩ : Fin 16896) = streamRow r := Fin.ext (by simp only [streamRow]; omega)
  have hw : ∀ (x : FVec Ideal S16896x2048 .f32) (j : Fin 2048),
      latWide x (ix3 ⟨r.val / 8192, by omega⟩ ⟨r.val % 8192, by omega⟩ j) = x (ix2 (streamRow r) j) := fun x j =>
    (latWide_at _ _ x j).trans (congrArg (fun z => x (ix2 z j)) hr)
  have hx : ∀ (x : FVec Ideal S16896x1024 .f32) (j : Fin 1024),
      First.latPart x (ix3 ⟨r.val / 8192, by omega⟩ ⟨r.val % 8192, by omega⟩ j) = x (ix2 (streamRow r) j) := fun x j =>
    (First.latPart_at x _ _ j).trans (congrArg (fun z => x (ix2 z j)) hr)
  have m2 : ∀ j, latMod (refArgs m c).mods 2 slices_S8x6x1024_S2x1x1024_0_2_0 (ix3 ⟨r.val / 8192, by omega⟩ 0 j) = (refArgs m c).mods (ix3 (modRow r) 2 j) :=
    fun j => latMod_at _ j (refArgs m c).mods 2 _
  rw [ref_term, Final.row_lat, refOut_at, m2, hx, Args.out]
  refine congrArg (fun s => _ + _ * s) (Finset.sum_congr rfl fun z _ => congrArg (· * _) ?_)
  rw [refGated_at, refHeads_at, hw, hw, Args.gated]
  refine congrArg (fun f => _ * (heads4 f z * _ + _)) (funext fun j => ?_)
  exact congrArg₂ (· + ·) (hw _ j) (hw _ j)

theorem algebraic_out : @Cert.algebraic_Kernel4Ideal_Reference4Ideal Cert.Kernel4Ideal.Gen.facts Cert.Reference4Ideal.Gen.facts := by
  intro m g m' g' _ hm
  refine ⟨fun c => (Cert.Kernel4Ideal.Gen.dats m 0 c).arrAt 9 Cert.Kernel4Ideal.cfg0.N, Cert.Kernel4Ideal.Value.run_blocks m g, ?_⟩
  refine (θ_run _ _ _).mono (fun r h c => ?_) (Cert.Reference4Ideal.Value.run m' g')
  obtain ⟨h0, hk⟩ := h c
  obtain ⟨a0, a1, a2, a3, a4, a5, a6, a7, a8⟩ := hm c
  have e : refArgs m' c = args m c := by unfold refArgs args; congr 1
  refine ⟨h0.trans (ext2 fun r k => ?_), hk⟩
  refine (ref_value m' c r k).trans ?_
  rw [e]
  exact (value_row m c r k).symm

end Cert.Hand.MlOut

end
-- ==== Proof.EvenBlock.lean ====
module

public import proofs.«01_k».proof.Proof.MapSpec
public import proofs.«01_k».proof.Proof.Gen.Kernel5Ideal.Value
public import Idealize.ShloMosaic.Lib.Pointwise
public import Idealize.ShloMosaic.Lib.Pipeline.ValueKit.Geometry
public import Idealize.ShloMosaic.Lib.Pipeline.ValueKit.Tiles

/-!
# One grid point of the map out of the first layer's mixer

What a grid point computes of its blocks, at an element.
-/

@[expose] public section

set_option maxRecDepth 16896

noncomputable section

namespace Cert.Hand.EvenOut

open Cert.Kernel5Ideal Cert.Kernel5Ideal.Gen Cert.Hand.Mlp Cert.Hand.Map
open Idealize.ShloMosaic Idealize.ShloMosaic.TcCoe Idealize.SL.Sem
open Idealize.ShloMosaic.Tactic

/-- The four heads of 128 values of a row, each normed. -/
abbrev heads4 (f : Fin 512 → EReal) (k : Fin 512) : EReal := heads 128 rfl (by decide) (Ideal.ofBits .f32 0x43000000#32) f k

/-- The gated linear unit of a row: half of the product, gated by the other half. -/
def glu (s : Fin 512 → EReal) (w : Fin 512 → Fin 1024 → EReal) (b : Fin 1024 → EReal) (k : Fin 512) : EReal :=
  ((∑ z, gelu (s z) * w z ⟨k.val, by omega⟩) + b ⟨k.val, by omega⟩)
    * Ideal.logistic ((∑ z, gelu (s z) * w z ⟨512 + k.val, by omega⟩) + b ⟨512 + k.val, by omega⟩)

section Block

variable {F : FTy → Type} [FloatOps F]

theorem zero2 : (![0, 0] : Fin 2 → ℕ) = fun _ => 0 := by funext a; fin_cases a <;> rfl
theorem zero3 : (![0, 0, 0] : Fin 3 → ℕ) = fun _ => 0 := by funext a; fin_cases a <;> rfl

theorem slices_head : ∀ h : Fin 4, S512x512.Slices ![0, 128 * h.val] S512x128 := by decide

/-- The values of a head. -/
def headCols (y : FVec F S512x512 .f32) (h : Fin 4) : FVec F S512x128 .f32 := extractStridedSlice S512x128 ![0, 128 * h.val] y (slices_head h)

/-- A mean over a head. -/
def mean (x : FVec F S512x128 .f32) : FVec F S512x1 .f32 :=
  divf (shapeCast S512x1 (multiReduction .add [1] S512 x 0x00000000#32 reduces_S512x128_S512 (.inl rfl) rfl) shapeCasts_S512_S512x1)
    (broadcast S512x1 (Scalar.ofBits .f32 0x43000000#32))

/-- A head, centred. -/
def centred (x : FVec F S512x128 .f32) : FVec F S512x128 .f32 := subf x (broadcastTo S512x128 (mean x) broadcasts_S512x1_S512x128)

/-- A head, normed. -/
def head (x : FVec F S512x128 .f32) : FVec F S512x128 .f32 :=
  mulf (centred x) (broadcastTo S512x128 (rsqrt (addf (mean (mulf (centred x) (centred x))) (broadcast S512x1 (Scalar.ofBits .f32 0x358637BD#32)))) broadcasts_S512x1_S512x128)

/-- The heads, each normed. -/
def headsOf (y : FVec F S512x512 .f32) : FVec F S512x512 .f32 :=
  concatenate S512x512 1 [⟨S512x128, head (headCols y 0)⟩, ⟨S512x128, head (headCols y 1)⟩, ⟨S512x128, head (headCols y 2)⟩, ⟨S512x128, head (headCols y 3)⟩]
    concatenates_S512x128_S512x128_S512x128_S512x128_S512x512_d1

/-- A row of weights over the rows of a block. -/
def over (v : FVec F S1x512 .f32) : FVec F S512x512 .f32 := broadcastTo S512x512 (shapeCast S1x512 v shapeCasts_S1x512_S1x512) broadcasts_S1x512_S512x512

/-- What enters the gated linear unit. -/
def s5In (u yf yb : FVec F S512x512 .f32) (d : FVec F S1x512 .f32) : FVec F S512x512 .f32 := addf (addf (mulf u (over d)) yf) yb

/-- The smooth gate over a block. -/
def smooth (s : FVec F S512x512 .f32) : FVec F S512x512 .f32 :=
  mulf s (mulf (broadcast S512x512 (Scalar.ofBits .f32 0x3F000000#32)) (addf (broadcast S512x512 (Scalar.ofBits .f32 0x3F800000#32))
    (tanh (mulf (broadcast S512x512 (Scalar.ofBits .f32 0x3F4C422A#32))
      (addf s (mulf (broadcast S512x512 (Scalar.ofBits .f32 0x3D372713#32)) (mulf s (mulf s s))))))))

/-- The product of the gated linear unit. -/
def units (s : FVec F S512x512 .f32) (w : FVec F S512x1024 .bf16) (b : FVec F S1x1024 .f32) : FVec F S512x1024 .f32 :=
  addf (matmul dot_S512x512_S512x1024_S512x1024_1_0_0_1_n_n none (truncf .bf16 (smooth s) bitsLt_bf16_f32)
      (shapeCast S512x1024 w shapeCasts_S512x1024_S512x1024) (constant S512x1024 .f32 0x00000000#32))
    (broadcastTo S512x1024 (shapeCast S1x1024 b shapeCasts_S1x1024_S1x1024) broadcasts_S1x1024_S512x1024)

/-- One half of the product, gated by the other. -/
def gated (a : FVec F S512x1024 .f32) : FVec F S512x512 .f32 :=
  mulf (extractStridedSlice S512x512 ![0, 0] a slices_S512x1024_o0_0_S512x512) (logistic (extractStridedSlice S512x512 ![0, 512] a slices_S512x1024_o0_512_S512x512))

/-- The retention half. -/
def ret (rf rb gate : FVec F S512x512 .f32) (gn : FVec F S1x512 .f32) : FVec F S512x512 .f32 :=
  mulf (mulf (headsOf (addf rf rb)) (over gn)) (mulf gate (logistic gate))

/-- A product with half of the weight. -/
def half (a : FVec F S512x512 .f32) (w : FVec F S512x1024 .bf16) : FVec F S512x1024 .f32 :=
  matmul dot_S512x512_S512x1024_S512x1024_1_0_0_1_n_n none (truncf .bf16 a bitsLt_bf16_f32)
    (shapeCast S512x1024 w shapeCasts_S512x1024_S512x1024) (constant S512x1024 .f32 0x00000000#32)

/-- What a grid point computes of its blocks. -/
def block (x : FVec F S512x1024 .f32) (m : FVec F S1x6x1024 .f32) (s r : FVec F S512x512 .f32) (w₁ w₂ : FVec F S512x1024 .bf16) : FVec F S512x1024 .f32 :=
  addf x (mulf (broadcastTo S512x1024 (extractStridedSlice S1x1024 ![2, 0] (shapeCast S6x1024 m shapeCasts_S1x6x1024_S6x1024) slices_S6x1024_o2_0_S1x1024)
      broadcasts_S1x1024_S512x1024) (addf (half s w₁) (half r w₂)))

/-- What a grid point writes. -/
theorem out_block (x : Vec F S512x1024 .f32) (m : Vec F S1x6x1024 .f32) (u yf yb rf rb gate : Vec F S512x512 .f32) (d : Vec F S1x512 .f32)
    (wg : Vec F S512x1024 .bf16) (bg : Vec F S1x1024 .f32) (gn : Vec F S1x512 .f32) (w : Vec F S1024x1024 .bf16) :
    out0_13 x m u yf yb rf rb gate d wg bg gn w
      = block x m (gated (units (s5In u yf yb d) wg bg)) (ret rf rb gate gn) (View.ld w r0_5) (View.ld w r0_6) := by
  have h : out0_13 x m u yf yb rf rb gate d wg bg gn w = View.canon [⟨r0_3, block (View.ld x r0_3) (View.ld m r0_0)
      (gated (units (s5In (View.ld u r0_1) (View.ld yf r0_1) (View.ld yb r0_1) (View.ld d r0_2)) (View.ld wg r0_3) (View.ld bg r0_4)))
      (ret (View.ld rf r0_1) (View.ld rb r0_1) (View.ld gate r0_1) (View.ld gn r0_2)) (View.ld w r0_5) (View.ld w r0_6)⟩] := rfl
  rw [h, View.canon_unit_zero zero2]
  rw [View.ld_unit_zero (S := S512x1024) (X := x) zero2, View.ld_unit_zero (S := S1x6x1024) zero3,
    View.ld_unit_zero (S := S512x512) (X := u) zero2, View.ld_unit_zero (S := S512x512) (X := yf) zero2, View.ld_unit_zero (S := S512x512) (X := yb) zero2,
    View.ld_unit_zero (S := S1x512) (X := d) zero2, View.ld_unit_zero (S := S512x1024) (X := wg) zero2, View.ld_unit_zero (S := S1x1024) zero2,
    View.ld_unit_zero (S := S512x512) (X := rf) zero2, View.ld_unit_zero (S := S512x512) (X := rb) zero2, View.ld_unit_zero (S := S512x512) (X := gate) zero2,
    View.ld_unit_zero (S := S1x512) (X := gn) zero2]

end Block

theorem headCols_at (y : FVec Ideal S512x512 .f32) (h : Fin 4) (i : Fin 512) (a : Fin 128) :
    headCols y h (ix2 i a) = headRow 128 rfl (fun j => y (ix2 i j)) h a := by
  pointwise [headCols, headRow]

theorem mean_at (x : FVec Ideal S512x128 .f32) (i : Fin 512) : mean x (ix2 i 0) = meanOf (Ideal.ofBits .f32 0x43000000#32) (fun j => x (ix2 i j)) := by
  pointwise [mean, meanOf]

theorem centred_at (x : FVec Ideal S512x128 .f32) (i : Fin 512) (a : Fin 128) : centred x (ix2 i a) = x (ix2 i a) - mean x (ix2 i 0) := by
  pointwise [centred]

theorem head_at (x : FVec Ideal S512x128 .f32) (i : Fin 512) (a : Fin 128) :
    head x (ix2 i a) = headNorm (Ideal.ofBits .f32 0x43000000#32) (fun j => x (ix2 i j)) a := by
  have h : head x (ix2 i a) = centred x (ix2 i a) * Ideal.rsqrt (mean (mulf (centred x) (centred x)) (ix2 i 0) + Ideal.ofBits .f32 0x358637BD#32) := by
    pointwise [head]
  rw [h, mean_at, centred_at, mean_at, headNorm]
  refine congrArg (fun s => _ * Ideal.rsqrt (meanOf _ s + _)) (funext fun j => ?_)
  show centred x (ix2 i j) * centred x (ix2 i j) = _
  rw [centred_at, mean_at]

theorem headsOf_at (y : FVec Ideal S512x512 .f32) (i : Fin 512) (k : Fin 512) : headsOf y (ix2 i k) = heads4 (fun j => y (ix2 i j)) k := by
  have h : headsOf y (ix2 i k) = head (headCols y ⟨k.val / 128, by omega⟩) (ix2 i ⟨k.val % 128, by omega⟩) :=
    concatenate_ofFn_apply 1 (fun n : Fin 4 => head (headCols y n)) concatenates_S512x128_S512x128_S512x128_S512x128_S512x512_d1 rfl 128 rfl
      (ix2 i k) ⟨k.val / 128, by omega⟩ rfl (ix2 i ⟨k.val % 128, by omega⟩) rfl (fun b hb => by
        match b with
        | 0 => rfl
        | 1 => exact absurd rfl hb)
  rw [h, head_at]
  simp only [headCols_at]
  rfl

theorem s5In_at (u yf yb : FVec Ideal S512x512 .f32) (d : FVec Ideal S1x512 .f32) (i k : Fin 512) :
    s5In u yf yb d (ix2 i k) = u (ix2 i k) * d (ix2 0 k) + yf (ix2 i k) + yb (ix2 i k) := by
  pointwise [s5In, over]

theorem smooth_at (s : FVec Ideal S512x512 .f32) (i k : Fin 512) : smooth s (ix2 i k) = gelu (s (ix2 i k)) := by
  rw [gelu, mul_comm (s (ix2 i k) * s (ix2 i k)) (s (ix2 i k))]
  pointwise [smooth]

theorem units_at (s : FVec Ideal S512x512 .f32) (w : FVec Ideal S512x1024 .bf16) (b : FVec Ideal S1x1024 .f32) (i : Fin 512) (n : Fin 1024) :
    units s w b (ix2 i n) = (∑ z, smooth s (ix2 i z) * w (ix2 z n)) + b (ix2 0 n) := by
  pointwise [units]

theorem gated_at (a : FVec Ideal S512x1024 .f32) (i k : Fin 512) :
    gated a (ix2 i k) = a (ix2 i ⟨k.val, by omega⟩) * Ideal.logistic (a (ix2 i ⟨512 + k.val, by omega⟩)) := by
  pointwise [gated]

theorem ret_at (rf rb gate : FVec Ideal S512x512 .f32) (gn : FVec Ideal S1x512 .f32) (i k : Fin 512) :
    ret rf rb gate gn (ix2 i k) = headsOf (addf rf rb) (ix2 i k) * gn (ix2 0 k) * (gate (ix2 i k) * Ideal.logistic (gate (ix2 i k))) := by
  pointwise [ret, over]

theorem half_at (a : FVec Ideal S512x512 .f32) (w : FVec Ideal S512x1024 .bf16) (i : Fin 512) (n : Fin 1024) :
    half a w (ix2 i n) = ∑ z, a (ix2 i z) * w (ix2 z n) := by
  pointwise [half]

theorem block_at (x : FVec Ideal S512x1024 .f32) (m : FVec Ideal S1x6x1024 .f32) (s r : FVec Ideal S512x512 .f32) (w₁ w₂ : FVec Ideal S512x1024 .bf16)
    (i : Fin 512) (n : Fin 1024) :
    block x m s r w₁ w₂ (ix2 i n) = x (ix2 i n) + m (ix3 0 2 n) * (half s w₁ (ix2 i n) + half r w₂ (ix2 i n)) := by
  pointwise [block]

theorem ld_upper (w : Vec Ideal S1024x1024 .bf16) (k : Fin 512) (n : Fin 1024) : View.ld w r0_5 (ix2 k n) = w (ix2 ⟨k.val, by omega⟩ n) :=
  View.ld_unit_apply_of w _ _ _ _ _ fun a => by
    match a with
    | 0 => exact (Nat.zero_add _).symm
    | 1 => exact (Nat.zero_add _).symm

theorem ld_lower (w : Vec Ideal S1024x1024 .bf16) (k : Fin 512) (n : Fin 1024) : View.ld w r0_6 (ix2 k n) = w (ix2 ⟨512 + k.val, by omega⟩ n) :=
  View.ld_unit_apply_of w _ _ _ _ _ fun a => by
    match a with
    | 0 => rfl
    | 1 => exact (Nat.zero_add _).symm

/-- What a grid point writes, at an element. -/
theorem out_at (x : Vec Ideal S512x1024 .f32) (m : Vec Ideal S1x6x1024 .f32) (u yf yb rf rb gate : Vec Ideal S512x512 .f32) (d : Vec Ideal S1x512 .f32)
    (wg : Vec Ideal S512x1024 .bf16) (bg : Vec Ideal S1x1024 .f32) (gn : Vec Ideal S1x512 .f32) (w : Vec Ideal S1024x1024 .bf16) (i : Fin 512) (n : Fin 1024) :
    out0_13 x m u yf yb rf rb gate d wg bg gn w (ix2 i n) = x (ix2 i n) + m (ix3 0 2 n)
      * ((∑ z : Fin 512, glu (fun j => u (ix2 i j) * d (ix2 0 j) + yf (ix2 i j) + yb (ix2 i j)) (fun j l => wg (ix2 j l)) (fun l => bg (ix2 0 l)) z
            * w (ix2 ⟨z.val, by omega⟩ n))
        + ∑ z : Fin 512, heads4 (fun j => rf (ix2 i j) + rb (ix2 i j)) z * gn (ix2 0 z) * (gate (ix2 i z) * Ideal.logistic (gate (ix2 i z)))
            * w (ix2 ⟨512 + z.val, by omega⟩ n)) := by
  rw [out_block, block_at, half_at, half_at]
  have e : ∀ z, headsOf (addf rf rb : FVec Ideal S512x512 .f32) (ix2 i z) = heads4 (fun j => rf (ix2 i j) + rb (ix2 i j)) z := fun z => headsOf_at _ i z
  refine congrArg₂ (fun a b => _ + _ * (a + b)) (Finset.sum_congr rfl fun z _ => ?_) (Finset.sum_congr rfl fun z _ => ?_)
  · rw [ld_upper, gated_at, units_at, units_at]
    simp only [smooth_at, s5In_at, glu]
  · rw [ld_lower, ret_at, e]

end Cert.Hand.EvenOut

end
-- ==== Proof.EvenOut.lean ====
module

public import proofs.«01_k».proof.Proof.EvenBlock

/-!
# The map out of the first layer's mixer

The kernel's result at an element, in its arguments.
-/

@[expose] public section

set_option maxRecDepth 16896

noncomputable section

namespace Cert.Hand.EvenOut

open Cert.Kernel5Ideal Cert.Kernel5Ideal.Gen Cert.Hand.Mlp Cert.Hand.Map
open Idealize.ShloMosaic Idealize.ShloMosaic.TcCoe Idealize.SL.Sem
open Idealize.ShloMosaic.Tactic

/-- What the map reads of the program's arguments. -/
structure Args where
  /-- the stream -/
  x : FVec Ideal ⟨2, ![16896, 1024]⟩ .f32
  /-- the modulations -/
  mods : FVec Ideal ⟨3, ![8, 6, 1024]⟩ .f32
  /-- the rows of the map into the mixer: the S5 input first, the retention's gate last -/
  p : FVec Ideal ⟨2, ![16896, 2560]⟩ .f32
  /-- the forward S5 scan -/
  yf : FVec Ideal ⟨2, ![16896, 512]⟩ .f32
  /-- the backward S5 scan -/
  yb : FVec Ideal ⟨2, ![16896, 512]⟩ .f32
  /-- the forward retention -/
  rf : FVec Ideal ⟨2, ![16896, 512]⟩ .f32
  /-- the backward retention -/
  rb : FVec Ideal ⟨2, ![16896, 512]⟩ .f32
  /-- the S5 skip -/
  d : FVec Ideal ⟨1, ![512]⟩ .f32
  /-- the gated linear unit's weight -/
  wg : FVec Ideal ⟨2, ![512, 1024]⟩ .f32
  /-- the gated linear unit's bias -/
  bg : FVec Ideal ⟨1, ![1024]⟩ .f32
  /-- the head norm's weight -/
  gn : FVec Ideal ⟨1, ![512]⟩ .f32
  /-- the weight -/
  w : FVec Ideal ⟨2, ![1024, 1024]⟩ .f32

/-- The S5 half of row `r`. -/
def Args.s5 (A : Args) (r : Fin 16896) (z : Fin 512) : EReal :=
  glu (fun j => A.p (ix2 r ⟨j.val, by omega⟩) * A.d (ix1 j) + A.yf (ix2 r j) + A.yb (ix2 r j)) (fun j l => A.wg (ix2 j l)) (fun l => A.bg (ix1 l)) z

/-- The retention half of row `r`. -/
def Args.ret (A : Args) (r : Fin 16896) (z : Fin 512) : EReal :=
  heads4 (fun j => A.rf (ix2 r j) + A.rb (ix2 r j)) z * A.gn (ix1 z)
    * (A.p (ix2 r ⟨2048 + z.val, by omega⟩) * Ideal.logistic (A.p (ix2 r ⟨2048 + z.val, by omega⟩)))

/-- Row `r` after the mixer, with the modulations `q`. -/
def Args.out (A : Args) (r : Fin 16896) (q : Fin 8) (n : Fin 1024) : EReal :=
  A.x (ix2 r n) + A.mods (ix3 q 2 n)
    * ((∑ z : Fin 512, A.s5 r z * A.w (ix2 ⟨z.val, by omega⟩ n)) + ∑ z : Fin 512, A.ret r z * A.w (ix2 ⟨512 + z.val, by omega⟩ n))

variable (m : (ℓ : Loc nD τ sig) → Buf (Elt Ideal) ℓ) (c : Dev nD)

/-- The kernel's arguments. -/
def args : Args where
  x := m ((c : Thread nD τ).loc main_arg0)
  mods := m ((c : Thread nD τ).loc main_arg1)
  p := m ((c : Thread nD τ).loc main_arg2)
  yf := m ((c : Thread nD τ).loc main_arg3)
  yb := m ((c : Thread nD τ).loc main_arg4)
  rf := m ((c : Thread nD τ).loc main_arg5)
  rb := m ((c : Thread nD τ).loc main_arg6)
  d := m ((c : Thread nD τ).loc main_arg7)
  wg := m ((c : Thread nD τ).loc main_arg8)
  bg := m ((c : Thread nD τ).loc main_arg9)
  gn := m ((c : Thread nD τ).loc main_arg10)
  w := m ((c : Thread nD τ).loc main_arg11)

theorem index_rows : ∀ t : Fin cfg0.N,
    (win0_0.index t 0 = t.val ∧ win0_0.index t 1 = 0) ∧ (win0_1.index t 0 = (if t.val = 0 then 2 else (t.val - 1) / 16) ∧ win0_1.index t 1 = 0 ∧ win0_1.index t 2 = 0)
    ∧ (win0_13.index t 0 = t.val ∧ win0_13.index t 1 = 0) :=
  (by decide +kernel : ∀ t : Fin grid0.N,
    (win0_0.index t 0 = t.val ∧ win0_0.index t 1 = 0) ∧ (win0_1.index t 0 = (if t.val = 0 then 2 else (t.val - 1) / 16) ∧ win0_1.index t 1 = 0 ∧ win0_1.index t 2 = 0)
    ∧ (win0_13.index t 0 = t.val ∧ win0_13.index t 1 = 0))

theorem index_half : ∀ t : Fin cfg0.N,
    (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 4) :=
  (by decide +kernel : ∀ t : Fin grid0.N,
    (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 4))

theorem index_whole : ∀ t : Fin cfg0.N,
    (win0_8.index t 0 = 0 ∧ win0_8.index t 1 = 0) ∧ (win0_9.index t 0 = 0 ∧ win0_9.index t 1 = 0) ∧ (win0_10.index t 0 = 0 ∧ win0_10.index t 1 = 0)
    ∧ (win0_11.index t 0 = 0 ∧ win0_11.index t 1 = 0) ∧ (win0_12.index t 0 = 0 ∧ win0_12.index t 1 = 0) :=
  (by decide +kernel : ∀ t : Fin grid0.N,
    (win0_8.index t 0 = 0 ∧ win0_8.index t 1 = 0) ∧ (win0_9.index t 0 = 0 ∧ win0_9.index t 1 = 0) ∧ (win0_10.index t 0 = 0 ∧ win0_10.index t 1 = 0)
    ∧ (win0_11.index t 0 = 0 ∧ win0_11.index t 1 = 0) ∧ (win0_12.index t 0 = 0 ∧ win0_12.index t 1 = 0))

theorem N_lt (t : Fin cfg0.N) : t.val < 33 := t.isLt.trans_eq N_0

/-- Row `i` of block `t`. -/
def rowAt (t : Fin cfg0.N) (i : Fin 512) : Fin 16896 := ⟨t.val * 512 + i.val, by have := N_lt t; omega⟩

/-- The modulations of block `t`. -/
def modAt (t : Fin cfg0.N) : Fin 8 := ⟨if t.val = 0 then 2 else (t.val - 1) / 16, by have := N_lt t; split <;> omega⟩

section Reads

variable (t : Fin cfg0.N) (i : Fin 512)

theorem read_0 (A : FVec Ideal S16896x1024 .f32) (k : Fin 1024) :
    ((cfg0.win 0).blk t).view.read (Elt Ideal) A (ix2 i k) = A (ix2 (rowAt t i) k) :=
  congrArg A (emb2 _ _ (congrArg (· * 512) (index_rows t).1.1) (congrArg (· * 1024) (index_rows t).1.2) i k _ _ rfl (by omega))

theorem read_1 (A : FVec Ideal S8x6x1024 .f32) (a : Fin 6) (k : Fin 1024) :
    ((cfg0.win 1).blk t).view.read (Elt Ideal) A (ix3 0 a k) = A (ix3 (modAt t) a k) :=
  congrArg A (emb3 _ _ (congrArg (· * 1) (index_rows t).2.1.1) (congrArg (· * 6) (index_rows t).2.1.2.1) (congrArg (· * 1024) (index_rows t).2.1.2.2)
    0 a k _ _ _ (by simp [modAt]) (by omega) (by omega))

theorem read_2 (A : FVec Ideal S16896x2560 .f32) (k : Fin 512) :
    ((cfg0.win 2).blk t).view.read (Elt Ideal) A (ix2 i k) = A (ix2 (rowAt t i) ⟨k.val, by omega⟩) :=
  congrArg A (emb2 _ _ (congrArg (· * 512) (index_half t).1.1) (congrArg (· * 512) (index_half t).1.2) i k _ _ rfl (by simp))

theorem read_3 (A : FVec Ideal S16896x512 .f32) (k : Fin 512) :
    ((cfg0.win 3).blk t).view.read (Elt Ideal) A (ix2 i k) = A (ix2 (rowAt t i) k) :=
  congrArg A (emb2 _ _ (congrArg (· * 512) (index_half t).2.1.1) (congrArg (· * 512) (index_half t).2.1.2) i k _ _ rfl (by omega))

theorem read_4 (A : FVec Ideal S16896x512 .f32) (k : Fin 512) :
    ((cfg0.win 4).blk t).view.read (Elt Ideal) A (ix2 i k) = A (ix2 (rowAt t i) k) :=
  congrArg A (emb2 _ _ (congrArg (· * 512) (index_half t).2.2.1.1) (congrArg (· * 512) (index_half t).2.2.1.2) i k _ _ rfl (by omega))

theorem read_5 (A : FVec Ideal S16896x512 .f32) (k : Fin 512) :
    ((cfg0.win 5).blk t).view.read (Elt Ideal) A (ix2 i k) = A (ix2 (rowAt t i) k) :=
  congrArg A (emb2 _ _ (congrArg (· * 512) (index_half t).2.2.2.1.1) (congrArg (· * 512) (index_half t).2.2.2.1.2) i k _ _ rfl (by omega))

theorem read_6 (A : FVec Ideal S16896x512 .f32) (k : Fin 512) :
    ((cfg0.win 6).blk t).view.read (Elt Ideal) A (ix2 i k) = A (ix2 (rowAt t i) k) :=
  congrArg A (emb2 _ _ (congrArg (· * 512) (index_half t).2.2.2.2.1.1) (congrArg (· * 512) (index_half t).2.2.2.2.1.2) i k _ _ rfl (by omega))

theorem read_7 (A : FVec Ideal S16896x2560 .f32) (k : Fin 512) :
    ((cfg0.win 7).blk t).view.read (Elt Ideal) A (ix2 i k) = A (ix2 (rowAt t i) ⟨2048 + k.val, by omega⟩) :=
  congrArg A (emb2 _ _ (congrArg (· * 512) (index_half t).2.2.2.2.2.1) (congrArg (· * 512) (index_half t).2.2.2.2.2.2) i k _ _ rfl rfl)

theorem read_8 (A : FVec Ideal S1x512 .f32) (k : Fin 512) :
    ((cfg0.win 8).blk t).view.read (Elt Ideal) A (ix2 0 k) = A (ix2 0 k) :=
  congrArg A (emb2 _ _ (congrArg (· * 1) (index_whole t).1.1) (congrArg (· * 512) (index_whole t).1.2) 0 k _ _ rfl (by omega))

theorem read_9 (A : FVec Ideal S512x1024 .bf16) (k : Fin 1024) :
    ((cfg0.win 9).blk t).view.read (Elt Ideal) A (ix2 i k) = A (ix2 i k) :=
  congrArg A (emb2 _ _ (congrArg (· * 512) (index_whole t).2.1.1) (congrArg (· * 1024) (index_whole t).2.1.2) i k _ _ (by omega) (by omega))

theorem read_10 (A : FVec Ideal S1x1024 .f32) (k : Fin 1024) :
    ((cfg0.win 10).blk t).view.read (Elt Ideal) A (ix2 0 k) = A (ix2 0 k) :=
  congrArg A (emb2 _ _ (congrArg (· * 1) (index_whole t).2.2.1.1) (congrArg (· * 1024) (index_whole t).2.2.1.2) 0 k _ _ rfl (by omega))

theorem read_11 (A : FVec Ideal S1x512 .f32) (k : Fin 512) :
    ((cfg0.win 11).blk t).view.read (Elt Ideal) A (ix2 0 k) = A (ix2 0 k) :=
  congrArg A (emb2 _ _ (congrArg (· * 1) (index_whole t).2.2.2.1.1) (congrArg (· * 512) (index_whole t).2.2.2.1.2) 0 k _ _ rfl (by omega))

theorem read_12 (A : FVec Ideal S1024x1024 .bf16) (j k : Fin 1024) :
    ((cfg0.win 12).blk t).view.read (Elt Ideal) A (ix2 j k) = A (ix2 j k) :=
  congrArg A (emb2 _ _ (congrArg (· * 1024) (index_whole t).2.2.2.2.1) (congrArg (· * 1024) (index_whole t).2.2.2.2.2) j k _ _ (by omega) (by omega))

theorem read_13 (A : FVec Ideal S16896x1024 .f32) (k : Fin 1024) :
    ((cfg0.win 13).blk t).view.read (Elt Ideal) A (ix2 i k) = A (ix2 (rowAt t i) k) :=
  congrArg A (emb2 _ _ (congrArg (· * 512) (index_rows t).2.2.1) (congrArg (· * 1024) (index_rows t).2.2.2) i k _ _ rfl (by omega))

end Reads

theorem V_v0 : V m c main_v0 = (args m c).wg := by
  simp only [V, hostOps0]; after_results_simp; rfl

theorem V_v1 : V m c main_v1 = (args m c).w := by
  simp only [V, hostOps0]; after_results_simp; rfl

theorem V_v2 : V m c main_v2 = shapeCast S1x512 (args m c).d shapeCasts_S512_S1x512 := by
  simp only [V, hostOps0]; after_results_simp; rfl

theorem V_v3 : V m c main_v3 = shapeCast S1x1024 (args m c).bg shapeCasts_S1024_S1x1024 := by
  simp only [V, hostOps0]; after_results_simp; rfl

theorem V_v4 : V m c main_v4 = shapeCast S1x512 (args m c).gn shapeCasts_S512_S1x512 := by
  simp only [V, hostOps0]; after_results_simp; rfl

theorem row_cast (g : FVec Ideal S512 .f32) (k : Fin 512) :
    (shapeCast S1x512 g shapeCasts_S512_S1x512 : FVec Ideal S1x512 .f32) (ix2 0 k) = g (ix1 k) := by
  pointwise

theorem row_cast' (g : FVec Ideal S1024 .f32) (k : Fin 1024) :
    (shapeCast S1x1024 g shapeCasts_S1024_S1x1024 : FVec Ideal S1x1024 .f32) (ix2 0 k) = g (ix1 k) := by
  pointwise

section Blocks

variable (t : Fin cfg0.N) (i : Fin 512)

theorem blk_x (k : Fin 1024) : (iblk m c 0 t : Vec Ideal S512x1024 .f32) (ix2 i k) = (args m c).x (ix2 (rowAt t i) k) :=
  (read_0 t i _ k).trans (congrFun (V_main_arg0 m c) _)

theorem blk_m (a : Fin 6) (k : Fin 1024) : (iblk m c 1 t : Vec Ideal S1x6x1024 .f32) (ix3 0 a k) = (args m c).mods (ix3 (modAt t) a k) :=
  (read_1 t _ a k).trans (congrFun (V_main_arg1 m c) _)

theorem blk_u (k : Fin 512) : (iblk m c 2 t : Vec Ideal S512x512 .f32) (ix2 i k) = (args m c).p (ix2 (rowAt t i) ⟨k.val, by omega⟩) :=
  (read_2 t i _ k).trans (congrFun (V_main_arg2 m c) _)

theorem blk_yf (k : Fin 512) : (iblk m c 3 t : Vec Ideal S512x512 .f32) (ix2 i k) = (args m c).yf (ix2 (rowAt t i) k) :=
  (read_3 t i _ k).trans (congrFun (V_main_arg3 m c) _)

theorem blk_yb (k : Fin 512) : (iblk m c 4 t : Vec Ideal S512x512 .f32) (ix2 i k) = (args m c).yb (ix2 (rowAt t i) k) :=
  (read_4 t i _ k).trans (congrFun (V_main_arg4 m c) _)

theorem blk_rf (k : Fin 512) : (iblk m c 5 t : Vec Ideal S512x512 .f32) (ix2 i k) = (args m c).rf (ix2 (rowAt t i) k) :=
  (read_5 t i _ k).trans (congrFun (V_main_arg5 m c) _)

theorem blk_rb (k : Fin 512) : (iblk m c 6 t : Vec Ideal S512x512 .f32) (ix2 i k) = (args m c).rb (ix2 (rowAt t i) k) :=
  (read_6 t i _ k).trans (congrFun (V_main_arg6 m c) _)

theorem blk_gate (k : Fin 512) : (iblk m c 7 t : Vec Ideal S512x512 .f32) (ix2 i k) = (args m c).p (ix2 (rowAt t i) ⟨2048 + k.val, by omega⟩) :=
  (read_7 t i _ k).trans (congrFun (V_main_arg2 m c) _)

theorem blk_d (k : Fin 512) : (iblk m c 8 t : Vec Ideal S1x512 .f32) (ix2 0 k) = (args m c).d (ix1 k) :=
  (read_8 t _ k).trans ((congrFun (V_v2 m c) _).trans (row_cast _ k))

theorem blk_wg (k : Fin 1024) : (iblk m c 9 t : Vec Ideal S512x1024 .bf16) (ix2 i k) = (args m c).wg (ix2 i k) :=
  (read_9 t i _ k).trans (congrFun (V_v0 m c) _)

theorem blk_bg (k : Fin 1024) : (iblk m c 10 t : Vec Ideal S1x1024 .f32) (ix2 0 k) = (args m c).bg (ix1 k) :=
  (read_10 t _ k).trans ((congrFun (V_v3 m c) _).trans (row_cast' _ k))

theorem blk_gn (k : Fin 512) : (iblk m c 11 t : Vec Ideal S1x512 .f32) (ix2 0 k) = (args m c).gn (ix1 k) :=
  (read_11 t _ k).trans ((congrFun (V_v4 m c) _).trans (row_cast _ k))

theorem blk_w (j k : Fin 1024) : (iblk m c 12 t : Vec Ideal S1024x1024 .bf16) (ix2 j k) = (args m c).w (ix2 j k) :=
  (read_12 t _ j k).trans (congrFun (V_v1 m c) _)

/-- The kernel's result at an element. -/
theorem value (k : Fin 1024) :
    ((dats m 0 c).arrAt 13 cfg0.N : FVec Ideal S16896x1024 .f32) (ix2 (rowAt t i) k) = (args m c).out (rowAt t i) (modAt t) k := by
  rw [← read_13 t i ((dats m 0 c).arrAt 13 cfg0.N) k, Cert.Kernel5Ideal.Value.blocks13 m c _ (flush0_13 _), Cert.Kernel5Ideal.Value.flushed13]
  refine (out_at (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) i k).trans ?_
  simp only [blk_x, blk_m, blk_u, blk_yf, blk_yb, blk_rf, blk_rb, blk_gate, blk_d, blk_wg, blk_bg, blk_gn, blk_w, Args.out, Args.s5, Args.ret]

end Blocks

/-- The same, by the row. -/
theorem value_row (r : Fin 16896) (k : Fin 1024) :
    ((dats m 0 c).arrAt 13 cfg0.N : FVec Ideal S16896x1024 .f32) (ix2 r k) = (args m c).out r (modOf r) k := by
  have h := value m c ⟨r.val / 512, by rw [show cfg0.N = 33 from N_0]; omega⟩ ⟨r.val % 512, by omega⟩ k
  rw [show rowAt ⟨r.val / 512, by rw [show cfg0.N = 33 from N_0]; omega⟩ ⟨r.val % 512, by omega⟩ = r from
      Fin.ext (by simp only [rowAt]; omega),
    show modAt ⟨r.val / 512, by rw [show cfg0.N = 33 from N_0]; omega⟩ = modOf r from
      Fin.ext (by simp only [modAt, modOf]; split <;> split <;> omega)] at h
  exact h

end Cert.Hand.EvenOut

end
-- ==== Proof.EvenLat.lean ====
module

public import proofs.«01_k».proof.Proof.RefRows
public import proofs.«01_k».proof.Proof.EvenOut
public import proofs.«01_k».proof.Proof.Gen.Reference5Ideal.Run

/-!
# The reference of the map out of the first mixer, over latent rows

The reference's lines as terms over the latent rows, read at an element.
-/

@[expose] public section

set_option maxRecDepth 16384

noncomputable section

namespace Cert.Hand.EvenOut.Lat

open Idealize.ShloMosaic Idealize.ShloMosaic.TcCoe Idealize.SL.Sem Cert.Hand.Mlp Cert.Hand.Map
open Idealize.ShloMosaic.Tactic
open Cert.Reference5Ideal Cert.Reference5Ideal.Gen Cert.Reference5Ideal.Value

/-- The latent rows of 512 values. -/
def part (x : FVec Ideal S16896x512 .f32) : FVec Ideal S2x8192x512 .f32 :=
  shapeCast S2x8192x512 (extractStridedSlice S16384x512 ![512, 0] x slices_S16896x512_S16384x512_512_0) shapeCasts_S16384x512_S2x8192x512

/-- The means over the heads. -/
def mean (x : FVec Ideal S2x8192x4x128 .f32) : FVec Ideal S2x8192x4x1 .f32 :=
  Host.divf (broadcastInDim S2x8192x4x1 ![0, 1, 2] bcast_S2x8192x4_S2x8192x4x1_0_1_2
      (Host.reduceAdd x (constant S_ .f32 0x00000000#32) reducesTo_S2x8192x4x128_S2x8192x4_d3 h_S_))
    (broadcastInDim S2x8192x4x1 ![] bcast_S_S2x8192x4x1 (constant S_ .f32 0x43000000#32))

/-- The heads, centred. -/
def centred (x : FVec Ideal S2x8192x4x128 .f32) : FVec Ideal S2x8192x4x128 .f32 :=
  subf x (broadcastInDim S2x8192x4x128 ![0, 1, 2, 3] bcast_S2x8192x4x1_S2x8192x4x128_0_1_2_3 (mean x))

/-- The heads, normed. -/
def head (x : FVec Ideal S2x8192x4x128 .f32) : FVec Ideal S2x8192x4x128 .f32 :=
  mulf (centred x) (broadcastInDim S2x8192x4x128 ![0, 1, 2, 3] bcast_S2x8192x4x1_S2x8192x4x128_0_1_2_3
    (Host.rsqrt (addf (mean (mulf (centred x) (centred x))) (broadcastInDim S2x8192x4x1 ![] bcast_S_S2x8192x4x1 (constant S_ .f32 0x358637BD#32)))))

/-- The rows, normed head by head. -/
def headsOf (y : FVec Ideal S2x8192x512 .f32) : FVec Ideal S2x8192x512 .f32 :=
  shapeCast S2x8192x512 (head (shapeCast S2x8192x4x128 y shapeCasts_S2x8192x512_S2x8192x4x128)) shapeCasts_S2x8192x4x128_S2x8192x512

/-- A weight over the rows. -/
def over (v : FVec Ideal S512 .f32) : FVec Ideal S2x8192x512 .f32 :=
  broadcastInDim S2x8192x512 ![0, 1, 2] bcast_S1x1x512_S2x8192x512_0_1_2 (broadcastInDim S1x1x512 ![2] bcast_S512_S1x1x512_2 v)

/-- What enters the gated linear unit. -/
def s5In (u yf yb : FVec Ideal S2x8192x512 .f32) (d : FVec Ideal S512 .f32) : FVec Ideal S2x8192x512 .f32 := addf (addf (mulf u (over d)) yf) yb

/-- The smooth gate over the rows. -/
def smooth (s : FVec Ideal S2x8192x512 .f32) : FVec Ideal S2x8192x512 .f32 :=
  mulf s (mulf (broadcastInDim S2x8192x512 ![] bcast_S_S2x8192x512 (constant S_ .f32 0x3F000000#32))
    (addf (broadcastInDim S2x8192x512 ![] bcast_S_S2x8192x512 (constant S_ .f32 0x3F800000#32))
      (Host.tanh (mulf (broadcastInDim S2x8192x512 ![] bcast_S_S2x8192x512 (constant S_ .f32 0x3F4C422A#32))
        (addf s (mulf (broadcastInDim S2x8192x512 ![] bcast_S_S2x8192x512 (constant S_ .f32 0x3D372713#32)) (mulf (mulf s s) s)))))))

/-- The product of the gated linear unit. -/
def units (s : FVec Ideal S2x8192x512 .f32) (w : FVec Ideal S512x1024 .f32) (b : FVec Ideal S1024 .f32) : FVec Ideal S2x8192x1024 .f32 :=
  addf (Host.dotGeneral dot_S2x8192x512_S512x1024_S2x8192x1024_2_0_01_1_n_n none (smooth s) w)
    (broadcastInDim S2x8192x1024 ![0, 1, 2] bcast_S1x1x1024_S2x8192x1024_0_1_2 (broadcastInDim S1x1x1024 ![2] bcast_S1024_S1x1x1024_2 b))

/-- The sigmoid over the rows. -/
def sigm (s : FVec Ideal S2x8192x512 .f32) : FVec Ideal S2x8192x512 .f32 :=
  Host.divf (broadcastInDim S2x8192x512 ![] bcast_S_S2x8192x512 (constant S_ .f32 0x3F800000#32))
    (addf (broadcastInDim S2x8192x512 ![] bcast_S_S2x8192x512 (constant S_ .f32 0x3F800000#32)) (Host.exp (Host.negf s)))

/-- One half of the product, gated by the other. -/
def gated (a : FVec Ideal S2x8192x1024 .f32) : FVec Ideal S2x8192x512 .f32 :=
  mulf (extractStridedSlice S2x8192x512 ![0, 0, 0] a slices_S2x8192x1024_S2x8192x512_0_0_0)
    (sigm (extractStridedSlice S2x8192x512 ![0, 0, 512] a slices_S2x8192x1024_S2x8192x512_0_0_512))

/-- The retention half. -/
def ret (rf rb gate : FVec Ideal S2x8192x512 .f32) (gn : FVec Ideal S512 .f32) : FVec Ideal S2x8192x512 .f32 :=
  mulf (mulf (headsOf (addf rf rb)) (over gn)) (mulf gate (sigm gate))

/-- The two halves, side by side. -/
def halves (s r : FVec Ideal S2x8192x512 .f32) : FVec Ideal S2x8192x1024 .f32 :=
  concatenate S2x8192x1024 2 [⟨S2x8192x512, s⟩, ⟨S2x8192x512, r⟩] concatenates_S2x8192x512_S2x8192x512_S2x8192x1024_d2

/-- The latent rows after the mixer. -/
def outOf (x : FVec Ideal S2x8192x1024 .f32) (gt : FVec Ideal S2x1x1024 .f32) (y : FVec Ideal S2x8192x1024 .f32) (w : FVec Ideal S1024x1024 .f32) : FVec Ideal S2x8192x1024 .f32 :=
  addf x (mulf (broadcastInDim S2x8192x1024 ![0, 1, 2] bcast_S2x1x1024_S2x8192x1024_0_1_2 gt) (Host.dotGeneral dot_S2x8192x1024_S1024x1024_S2x8192x1024_2_0_01_1_n_n none y w))

/-- The latent rows of the reference after the mixer, from the arguments. -/
def rows (A : Args) (x : FVec Ideal S2x8192x1024 .f32) : FVec Ideal S2x8192x1024 .f32 :=
  outOf x (latMod A.mods 2 slices_S8x6x1024_S2x1x1024_0_2_0)
    (halves
      (gated (units (s5In (part (extractStridedSlice S16896x512 ![0, 0] A.p slices_S16896x2560_S16896x512_0_0)) (part A.yf) (part A.yb) A.d) A.wg A.bg))
      (ret (part A.rf) (part A.rb) (part (extractStridedSlice S16896x512 ![0, 2048] A.p slices_S16896x2560_S16896x512_0_2048)) A.gn)) A.w

variable (b : Fin 2) (t : Fin 8192)

theorem part_at (x : FVec Ideal S16896x512 .f32) (k : Fin 512) : part x (ix3 b t k) = x (ix2 ⟨512 + (b.val * 8192 + t.val), by omega⟩ k) := by
  pointwise [part]

theorem mean_at (x : FVec Ideal S2x8192x4x128 .f32) (h : Fin 4) :
    mean x (ix4 b t h 0) = meanOf (Ideal.ofBits .f32 0x43000000#32) (fun j => x (ix4 b t h j)) := by
  pointwise [mean, meanOf]

theorem centred_at (x : FVec Ideal S2x8192x4x128 .f32) (h : Fin 4) (a : Fin 128) :
    centred x (ix4 b t h a) = x (ix4 b t h a) - mean x (ix4 b t h 0) := by
  pointwise [centred]

theorem head_at (x : FVec Ideal S2x8192x4x128 .f32) (h : Fin 4) (a : Fin 128) :
    head x (ix4 b t h a) = headNorm (Ideal.ofBits .f32 0x43000000#32) (fun j => x (ix4 b t h j)) a := by
  have e : head x (ix4 b t h a) = centred x (ix4 b t h a)
      * Ideal.rsqrt (mean (mulf (centred x) (centred x)) (ix4 b t h 0) + Ideal.ofBits .f32 0x358637BD#32) := by
    pointwise [head]
  rw [e, mean_at, centred_at, mean_at, headNorm]
  refine congrArg (fun s => _ * Ideal.rsqrt (meanOf _ s + _)) (funext fun j => ?_)
  show centred x (ix4 b t h j) * centred x (ix4 b t h j) = _
  rw [centred_at, mean_at]

theorem split_at (y : FVec Ideal S2x8192x512 .f32) (h : Fin 4) (a : Fin 128) :
    (shapeCast S2x8192x4x128 y shapeCasts_S2x8192x512_S2x8192x4x128 : FVec Ideal S2x8192x4x128 .f32) (ix4 b t h a)
      = headRow 128 rfl (fun j => y (ix3 b t j)) h a := by
  have e : (shapeCast S2x8192x4x128 y shapeCasts_S2x8192x512_S2x8192x4x128 : FVec Ideal S2x8192x4x128 .f32) (ix4 b t h a)
      = y (ix3 b t ⟨h.val * 128 + a.val, by omega⟩) := by
    pointwise
  exact e.trans (congrArg (fun j => y (ix3 b t j)) (Fin.ext (by show h.val * 128 + a.val = 128 * h.val + a.val; omega)))

theorem joined_at (x : FVec Ideal S2x8192x4x128 .f32) (k : Fin 512) :
    (shapeCast S2x8192x512 x shapeCasts_S2x8192x4x128_S2x8192x512 : FVec Ideal S2x8192x512 .f32) (ix3 b t k)
      = x (ix4 b t ⟨k.val / 128, by omega⟩ ⟨k.val % 128, by omega⟩) := by
  pointwise

theorem headsOf_at (y : FVec Ideal S2x8192x512 .f32) (k : Fin 512) : headsOf y (ix3 b t k) = heads4 (fun j => y (ix3 b t j)) k := by
  rw [headsOf, joined_at, head_at]
  simp only [split_at]
  rfl

theorem s5In_at (u yf yb : FVec Ideal S2x8192x512 .f32) (d : FVec Ideal S512 .f32) (k : Fin 512) :
    s5In u yf yb d (ix3 b t k) = u (ix3 b t k) * d (ix1 k) + yf (ix3 b t k) + yb (ix3 b t k) := by
  pointwise [s5In, over]

theorem smooth_at (s : FVec Ideal S2x8192x512 .f32) (k : Fin 512) : smooth s (ix3 b t k) = gelu (s (ix3 b t k)) := by
  pointwise [smooth, gelu]

theorem units_at (s : FVec Ideal S2x8192x512 .f32) (w : FVec Ideal S512x1024 .f32) (v : FVec Ideal S1024 .f32) (n : Fin 1024) :
    units s w v (ix3 b t n) = (∑ z, smooth s (ix3 b t z) * w (ix2 z n)) + v (ix1 n) := by
  pointwise [units]

theorem sigm_at (s : FVec Ideal S2x8192x512 .f32) (k : Fin 512) : sigm s (ix3 b t k) = Ideal.logistic (s (ix3 b t k)) := by
  pointwise [sigm]
  rfl

theorem gated_at (a : FVec Ideal S2x8192x1024 .f32) (k : Fin 512) :
    gated a (ix3 b t k) = a (ix3 b t ⟨k.val, by omega⟩) * Ideal.logistic (a (ix3 b t ⟨512 + k.val, by omega⟩)) := by
  have e : gated a (ix3 b t k) = a (ix3 b t ⟨k.val, by omega⟩)
      * sigm (extractStridedSlice S2x8192x512 ![0, 0, 512] a slices_S2x8192x1024_S2x8192x512_0_0_512) (ix3 b t k) := by
    pointwise [gated]
  have e' : (extractStridedSlice S2x8192x512 ![0, 0, 512] a slices_S2x8192x1024_S2x8192x512_0_0_512 : FVec Ideal S2x8192x512 .f32) (ix3 b t k)
      = a (ix3 b t ⟨512 + k.val, by omega⟩) := by
    pointwise
  rw [e, sigm_at, e']

theorem ret_at (rf rb gate : FVec Ideal S2x8192x512 .f32) (gn : FVec Ideal S512 .f32) (k : Fin 512) :
    ret rf rb gate gn (ix3 b t k) = headsOf (addf rf rb) (ix3 b t k) * gn (ix1 k) * (gate (ix3 b t k) * Ideal.logistic (gate (ix3 b t k))) := by
  have e : ret rf rb gate gn (ix3 b t k) = headsOf (addf rf rb) (ix3 b t k) * gn (ix1 k) * (gate (ix3 b t k) * sigm gate (ix3 b t k)) := by
    pointwise [ret, over]
  rw [e, sigm_at]

theorem halves_left (s r : FVec Ideal S2x8192x512 .f32) (k : Fin 512) : halves s r (ix3 b t ⟨k.val, by omega⟩) = s (ix3 b t k) := by
  have e : halves s r (ix3 b t ⟨k.val, by omega⟩) = if h : k.val < 512 then s (ix3 b t ⟨k.val, h⟩) else r (ix3 b t ⟨k.val - 512, by omega⟩) := by
    pointwise [halves]
  rw [e, dif_pos k.isLt]

theorem halves_right (s r : FVec Ideal S2x8192x512 .f32) (k : Fin 512) : halves s r (ix3 b t ⟨512 + k.val, by omega⟩) = r (ix3 b t k) := by
  have e : halves s r (ix3 b t ⟨512 + k.val, by omega⟩)
      = if h : 512 + k.val < 512 then s (ix3 b t ⟨512 + k.val, h⟩) else r (ix3 b t ⟨512 + k.val - 512, by omega⟩) := by
    pointwise [halves]
  rw [e, dif_neg (by omega)]
  exact congrArg (fun j => r (ix3 b t j)) (Fin.ext (by show 512 + k.val - 512 = k.val; omega))

theorem outOf_at (x : FVec Ideal S2x8192x1024 .f32) (gt : FVec Ideal S2x1x1024 .f32) (y : FVec Ideal S2x8192x1024 .f32) (w : FVec Ideal S1024x1024 .f32) (n : Fin 1024) :
    outOf x gt y w (ix3 b t n) = x (ix3 b t n) + gt (ix3 b 0 n) * ∑ z, y (ix3 b t z) * w (ix2 z n) := by
  pointwise [outOf]

/-- A latent row of the reference. -/
theorem rows_at (A : Args) (r : Fin 16896) (hr : r.val = 512 + (b.val * 8192 + t.val)) (n : Fin 1024)
    (x : FVec Ideal S2x8192x1024 .f32) (hx : ∀ j, x (ix3 b t j) = A.x (ix2 r j)) :
    rows A x (ix3 b t n) = A.out r ⟨b.val, by omega⟩ n := by
  have hp : ∀ (v : FVec Ideal S16896x512 .f32) (j : Fin 512), part v (ix3 b t j) = v (ix2 r j) := fun v j =>
    (part_at b t v j).trans (congrArg (fun q => v (ix2 q j)) (Fin.ext hr.symm))
  have hu : ∀ j : Fin 512, (extractStridedSlice S16896x512 ![0, 0] A.p slices_S16896x2560_S16896x512_0_0 : FVec Ideal S16896x512 .f32) (ix2 r j)
      = A.p (ix2 r ⟨j.val, by omega⟩) := by
    intro j; pointwise
  have hg : ∀ j : Fin 512, (extractStridedSlice S16896x512 ![0, 2048] A.p slices_S16896x2560_S16896x512_0_2048 : FVec Ideal S16896x512 .f32) (ix2 r j)
      = A.p (ix2 r ⟨2048 + j.val, by omega⟩) := by
    intro j; pointwise
  have m2 : ∀ j, latMod A.mods 2 slices_S8x6x1024_S2x1x1024_0_2_0 (ix3 b 0 j) = A.mods (ix3 ⟨b.val, by omega⟩ 2 j) := fun j => latMod_at b j A.mods 2 _
  have hs : ∀ z : Fin 512, gated (units (s5In (part (extractStridedSlice S16896x512 ![0, 0] A.p slices_S16896x2560_S16896x512_0_0)) (part A.yf) (part A.yb) A.d)
      A.wg A.bg) (ix3 b t z) = A.s5 r z := by
    intro z
    rw [gated_at, units_at, units_at]
    simp only [smooth_at, s5In_at, hp, hu, Args.s5, glu]
  have hh : ∀ z : Fin 512, ret (part A.rf) (part A.rb) (part (extractStridedSlice S16896x512 ![0, 2048] A.p slices_S16896x2560_S16896x512_0_2048)) A.gn
      (ix3 b t z) = A.ret r z := by
    intro z
    rw [ret_at, headsOf_at, hp, hg, Args.ret]
    refine congrArg (fun f => heads4 f z * _ * _) (funext fun j => ?_)
    exact congrArg₂ (· + ·) (hp _ j) (hp _ j)
  rw [rows, outOf_at, hx, m2, sum_halves, Args.out]
  refine congrArg₂ (fun a b => _ + _ * (a + b)) (Finset.sum_congr rfl fun z _ => ?_) (Finset.sum_congr rfl fun z _ => ?_)
  · rw [halves_left, hs]
  · rw [halves_right, hh]

end Cert.Hand.EvenOut.Lat

end
-- ==== Proof.EvenCtx.lean ====
module

public import proofs.«01_k».proof.Proof.RefRows
public import proofs.«01_k».proof.Proof.EvenOut
public import proofs.«01_k».proof.Proof.Gen.Reference5Ideal.Run

/-!
# The reference of the map out of the first mixer, over context rows

The reference's lines as terms over the context rows, read at an element.
-/

@[expose] public section

set_option maxRecDepth 16384

noncomputable section

namespace Cert.Hand.EvenOut.Ctx

open Idealize.ShloMosaic Idealize.ShloMosaic.TcCoe Idealize.SL.Sem Cert.Hand.Mlp Cert.Hand.Map
open Idealize.ShloMosaic.Tactic
open Cert.Reference5Ideal Cert.Reference5Ideal.Gen Cert.Reference5Ideal.Value

/-- The context rows of 512 values. -/
def part (x : FVec Ideal S16896x512 .f32) : FVec Ideal S2x256x512 .f32 :=
  shapeCast S2x256x512 (extractStridedSlice S512x512 ![0, 0] x slices_S16896x512_S512x512_0_0) shapeCasts_S512x512_S2x256x512

/-- The means over the heads. -/
def mean (x : FVec Ideal S2x256x4x128 .f32) : FVec Ideal S2x256x4x1 .f32 :=
  Host.divf (broadcastInDim S2x256x4x1 ![0, 1, 2] bcast_S2x256x4_S2x256x4x1_0_1_2
      (Host.reduceAdd x (constant S_ .f32 0x00000000#32) reducesTo_S2x256x4x128_S2x256x4_d3 h_S_))
    (broadcastInDim S2x256x4x1 ![] bcast_S_S2x256x4x1 (constant S_ .f32 0x43000000#32))

/-- The heads, centred. -/
def centred (x : FVec Ideal S2x256x4x128 .f32) : FVec Ideal S2x256x4x128 .f32 :=
  subf x (broadcastInDim S2x256x4x128 ![0, 1, 2, 3] bcast_S2x256x4x1_S2x256x4x128_0_1_2_3 (mean x))

/-- The heads, normed. -/
def head (x : FVec Ideal S2x256x4x128 .f32) : FVec Ideal S2x256x4x128 .f32 :=
  mulf (centred x) (broadcastInDim S2x256x4x128 ![0, 1, 2, 3] bcast_S2x256x4x1_S2x256x4x128_0_1_2_3
    (Host.rsqrt (addf (mean (mulf (centred x) (centred x))) (broadcastInDim S2x256x4x1 ![] bcast_S_S2x256x4x1 (constant S_ .f32 0x358637BD#32)))))

/-- The rows, normed head by head. -/
def headsOf (y : FVec Ideal S2x256x512 .f32) : FVec Ideal S2x256x512 .f32 :=
  shapeCast S2x256x512 (head (shapeCast S2x256x4x128 y shapeCasts_S2x256x512_S2x256x4x128)) shapeCasts_S2x256x4x128_S2x256x512

/-- A weight over the rows. -/
def over (v : FVec Ideal S512 .f32) : FVec Ideal S2x256x512 .f32 :=
  broadcastInDim S2x256x512 ![0, 1, 2] bcast_S1x1x512_S2x256x512_0_1_2 (broadcastInDim S1x1x512 ![2] bcast_S512_S1x1x512_2 v)

/-- What enters the gated linear unit. -/
def s5In (u yf yb : FVec Ideal S2x256x512 .f32) (d : FVec Ideal S512 .f32) : FVec Ideal S2x256x512 .f32 := addf (addf (mulf u (over d)) yf) yb

/-- The smooth gate over the rows. -/
def smooth (s : FVec Ideal S2x256x512 .f32) : FVec Ideal S2x256x512 .f32 :=
  mulf s (mulf (broadcastInDim S2x256x512 ![] bcast_S_S2x256x512 (constant S_ .f32 0x3F000000#32))
    (addf (broadcastInDim S2x256x512 ![] bcast_S_S2x256x512 (constant S_ .f32 0x3F800000#32))
      (Host.tanh (mulf (broadcastInDim S2x256x512 ![] bcast_S_S2x256x512 (constant S_ .f32 0x3F4C422A#32))
        (addf s (mulf (broadcastInDim S2x256x512 ![] bcast_S_S2x256x512 (constant S_ .f32 0x3D372713#32)) (mulf (mulf s s) s)))))))

/-- The product of the gated linear unit. -/
def units (s : FVec Ideal S2x256x512 .f32) (w : FVec Ideal S512x1024 .f32) (b : FVec Ideal S1024 .f32) : FVec Ideal S2x256x1024 .f32 :=
  addf (Host.dotGeneral dot_S2x256x512_S512x1024_S2x256x1024_2_0_01_1_n_n none (smooth s) w)
    (broadcastInDim S2x256x1024 ![0, 1, 2] bcast_S1x1x1024_S2x256x1024_0_1_2 (broadcastInDim S1x1x1024 ![2] bcast_S1024_S1x1x1024_2 b))

/-- The sigmoid over the rows. -/
def sigm (s : FVec Ideal S2x256x512 .f32) : FVec Ideal S2x256x512 .f32 :=
  Host.divf (broadcastInDim S2x256x512 ![] bcast_S_S2x256x512 (constant S_ .f32 0x3F800000#32))
    (addf (broadcastInDim S2x256x512 ![] bcast_S_S2x256x512 (constant S_ .f32 0x3F800000#32)) (Host.exp (Host.negf s)))

/-- One half of the product, gated by the other. -/
def gated (a : FVec Ideal S2x256x1024 .f32) : FVec Ideal S2x256x512 .f32 :=
  mulf (extractStridedSlice S2x256x512 ![0, 0, 0] a slices_S2x256x1024_S2x256x512_0_0_0)
    (sigm (extractStridedSlice S2x256x512 ![0, 0, 512] a slices_S2x256x1024_S2x256x512_0_0_512))

/-- The retention half. -/
def ret (rf rb gate : FVec Ideal S2x256x512 .f32) (gn : FVec Ideal S512 .f32) : FVec Ideal S2x256x512 .f32 :=
  mulf (mulf (headsOf (addf rf rb)) (over gn)) (mulf gate (sigm gate))

/-- The two halves, side by side. -/
def halves (s r : FVec Ideal S2x256x512 .f32) : FVec Ideal S2x256x1024 .f32 :=
  concatenate S2x256x1024 2 [⟨S2x256x512, s⟩, ⟨S2x256x512, r⟩] concatenates_S2x256x512_S2x256x512_S2x256x1024_d2

/-- The context rows after the mixer. -/
def outOf (x : FVec Ideal S2x256x1024 .f32) (gt : FVec Ideal S1024 .f32) (y : FVec Ideal S2x256x1024 .f32) (w : FVec Ideal S1024x1024 .f32) : FVec Ideal S2x256x1024 .f32 :=
  addf x (mulf (ctxOver gt) (Host.dotGeneral dot_S2x256x1024_S1024x1024_S2x256x1024_2_0_01_1_n_n none y w))

/-- The context rows of the reference after the mixer, from the arguments. -/
def rows (A : Args) (x : FVec Ideal S2x256x1024 .f32) : FVec Ideal S2x256x1024 .f32 :=
  outOf x (ctxMod A.mods 2 slices_S8x6x1024_S1x1x1024_2_2_0)
    (halves
      (gated (units (s5In (part (extractStridedSlice S16896x512 ![0, 0] A.p slices_S16896x2560_S16896x512_0_0)) (part A.yf) (part A.yb) A.d) A.wg A.bg))
      (ret (part A.rf) (part A.rb) (part (extractStridedSlice S16896x512 ![0, 2048] A.p slices_S16896x2560_S16896x512_0_2048)) A.gn)) A.w

variable (b : Fin 2) (t : Fin 256)

theorem part_at (x : FVec Ideal S16896x512 .f32) (k : Fin 512) : part x (ix3 b t k) = x (ix2 ⟨b.val * 256 + t.val, by omega⟩ k) := by
  pointwise [part]

theorem mean_at (x : FVec Ideal S2x256x4x128 .f32) (h : Fin 4) :
    mean x (ix4 b t h 0) = meanOf (Ideal.ofBits .f32 0x43000000#32) (fun j => x (ix4 b t h j)) := by
  pointwise [mean, meanOf]

theorem centred_at (x : FVec Ideal S2x256x4x128 .f32) (h : Fin 4) (a : Fin 128) :
    centred x (ix4 b t h a) = x (ix4 b t h a) - mean x (ix4 b t h 0) := by
  pointwise [centred]

theorem head_at (x : FVec Ideal S2x256x4x128 .f32) (h : Fin 4) (a : Fin 128) :
    head x (ix4 b t h a) = headNorm (Ideal.ofBits .f32 0x43000000#32) (fun j => x (ix4 b t h j)) a := by
  have e : head x (ix4 b t h a) = centred x (ix4 b t h a)
      * Ideal.rsqrt (mean (mulf (centred x) (centred x)) (ix4 b t h 0) + Ideal.ofBits .f32 0x358637BD#32) := by
    pointwise [head]
  rw [e, mean_at, centred_at, mean_at, headNorm]
  refine congrArg (fun s => _ * Ideal.rsqrt (meanOf _ s + _)) (funext fun j => ?_)
  show centred x (ix4 b t h j) * centred x (ix4 b t h j) = _
  rw [centred_at, mean_at]

theorem split_at (y : FVec Ideal S2x256x512 .f32) (h : Fin 4) (a : Fin 128) :
    (shapeCast S2x256x4x128 y shapeCasts_S2x256x512_S2x256x4x128 : FVec Ideal S2x256x4x128 .f32) (ix4 b t h a)
      = headRow 128 rfl (fun j => y (ix3 b t j)) h a := by
  have e : (shapeCast S2x256x4x128 y shapeCasts_S2x256x512_S2x256x4x128 : FVec Ideal S2x256x4x128 .f32) (ix4 b t h a)
      = y (ix3 b t ⟨h.val * 128 + a.val, by omega⟩) := by
    pointwise
  exact e.trans (congrArg (fun j => y (ix3 b t j)) (Fin.ext (by show h.val * 128 + a.val = 128 * h.val + a.val; omega)))

theorem joined_at (x : FVec Ideal S2x256x4x128 .f32) (k : Fin 512) :
    (shapeCast S2x256x512 x shapeCasts_S2x256x4x128_S2x256x512 : FVec Ideal S2x256x512 .f32) (ix3 b t k)
      = x (ix4 b t ⟨k.val / 128, by omega⟩ ⟨k.val % 128, by omega⟩) := by
  pointwise

theorem headsOf_at (y : FVec Ideal S2x256x512 .f32) (k : Fin 512) : headsOf y (ix3 b t k) = heads4 (fun j => y (ix3 b t j)) k := by
  rw [headsOf, joined_at, head_at]
  simp only [split_at]
  rfl

theorem s5In_at (u yf yb : FVec Ideal S2x256x512 .f32) (d : FVec Ideal S512 .f32) (k : Fin 512) :
    s5In u yf yb d (ix3 b t k) = u (ix3 b t k) * d (ix1 k) + yf (ix3 b t k) + yb (ix3 b t k) := by
  pointwise [s5In, over]

theorem smooth_at (s : FVec Ideal S2x256x512 .f32) (k : Fin 512) : smooth s (ix3 b t k) = gelu (s (ix3 b t k)) := by
  pointwise [smooth, gelu]

theorem units_at (s : FVec Ideal S2x256x512 .f32) (w : FVec Ideal S512x1024 .f32) (v : FVec Ideal S1024 .f32) (n : Fin 1024) :
    units s w v (ix3 b t n) = (∑ z, smooth s (ix3 b t z) * w (ix2 z n)) + v (ix1 n) := by
  pointwise [units]

theorem sigm_at (s : FVec Ideal S2x256x512 .f32) (k : Fin 512) : sigm s (ix3 b t k) = Ideal.logistic (s (ix3 b t k)) := by
  pointwise [sigm]
  rfl

theorem gated_at (a : FVec Ideal S2x256x1024 .f32) (k : Fin 512) :
    gated a (ix3 b t k) = a (ix3 b t ⟨k.val, by omega⟩) * Ideal.logistic (a (ix3 b t ⟨512 + k.val, by omega⟩)) := by
  have e : gated a (ix3 b t k) = a (ix3 b t ⟨k.val, by omega⟩)
      * sigm (extractStridedSlice S2x256x512 ![0, 0, 512] a slices_S2x256x1024_S2x256x512_0_0_512) (ix3 b t k) := by
    pointwise [gated]
  have e' : (extractStridedSlice S2x256x512 ![0, 0, 512] a slices_S2x256x1024_S2x256x512_0_0_512 : FVec Ideal S2x256x512 .f32) (ix3 b t k)
      = a (ix3 b t ⟨512 + k.val, by omega⟩) := by
    pointwise
  rw [e, sigm_at, e']

theorem ret_at (rf rb gate : FVec Ideal S2x256x512 .f32) (gn : FVec Ideal S512 .f32) (k : Fin 512) :
    ret rf rb gate gn (ix3 b t k) = headsOf (addf rf rb) (ix3 b t k) * gn (ix1 k) * (gate (ix3 b t k) * Ideal.logistic (gate (ix3 b t k))) := by
  have e : ret rf rb gate gn (ix3 b t k) = headsOf (addf rf rb) (ix3 b t k) * gn (ix1 k) * (gate (ix3 b t k) * sigm gate (ix3 b t k)) := by
    pointwise [ret, over]
  rw [e, sigm_at]

theorem halves_left (s r : FVec Ideal S2x256x512 .f32) (k : Fin 512) : halves s r (ix3 b t ⟨k.val, by omega⟩) = s (ix3 b t k) := by
  have e : halves s r (ix3 b t ⟨k.val, by omega⟩) = if h : k.val < 512 then s (ix3 b t ⟨k.val, h⟩) else r (ix3 b t ⟨k.val - 512, by omega⟩) := by
    pointwise [halves]
  rw [e, dif_pos k.isLt]

theorem halves_right (s r : FVec Ideal S2x256x512 .f32) (k : Fin 512) : halves s r (ix3 b t ⟨512 + k.val, by omega⟩) = r (ix3 b t k) := by
  have e : halves s r (ix3 b t ⟨512 + k.val, by omega⟩)
      = if h : 512 + k.val < 512 then s (ix3 b t ⟨512 + k.val, h⟩) else r (ix3 b t ⟨512 + k.val - 512, by omega⟩) := by
    pointwise [halves]
  rw [e, dif_neg (by omega)]
  exact congrArg (fun j => r (ix3 b t j)) (Fin.ext (by show 512 + k.val - 512 = k.val; omega))

theorem outOf_at (x : FVec Ideal S2x256x1024 .f32) (gt : FVec Ideal S1024 .f32) (y : FVec Ideal S2x256x1024 .f32) (w : FVec Ideal S1024x1024 .f32) (n : Fin 1024) :
    outOf x gt y w (ix3 b t n) = x (ix3 b t n) + gt (ix1 n) * ∑ z, y (ix3 b t z) * w (ix2 z n) := by
  pointwise [outOf, ctxOver]

/-- A context row of the reference. -/
theorem rows_at (A : Args) (r : Fin 16896) (hr : r.val = b.val * 256 + t.val) (n : Fin 1024)
    (x : FVec Ideal S2x256x1024 .f32) (hx : ∀ j, x (ix3 b t j) = A.x (ix2 r j)) :
    rows A x (ix3 b t n) = A.out r 2 n := by
  have hp : ∀ (v : FVec Ideal S16896x512 .f32) (j : Fin 512), part v (ix3 b t j) = v (ix2 r j) := fun v j =>
    (part_at b t v j).trans (congrArg (fun q => v (ix2 q j)) (Fin.ext hr.symm))
  have hu : ∀ j : Fin 512, (extractStridedSlice S16896x512 ![0, 0] A.p slices_S16896x2560_S16896x512_0_0 : FVec Ideal S16896x512 .f32) (ix2 r j)
      = A.p (ix2 r ⟨j.val, by omega⟩) := by
    intro j; pointwise
  have hg : ∀ j : Fin 512, (extractStridedSlice S16896x512 ![0, 2048] A.p slices_S16896x2560_S16896x512_0_2048 : FVec Ideal S16896x512 .f32) (ix2 r j)
      = A.p (ix2 r ⟨2048 + j.val, by omega⟩) := by
    intro j; pointwise
  have m2 : ∀ j, ctxMod A.mods 2 slices_S8x6x1024_S1x1x1024_2_2_0 (ix1 j) = A.mods (ix3 2 2 j) := fun j => ctxMod_at j A.mods 2 _
  have hs : ∀ z : Fin 512, gated (units (s5In (part (extractStridedSlice S16896x512 ![0, 0] A.p slices_S16896x2560_S16896x512_0_0)) (part A.yf) (part A.yb) A.d)
      A.wg A.bg) (ix3 b t z) = A.s5 r z := by
    intro z
    rw [gated_at, units_at, units_at]
    simp only [smooth_at, s5In_at, hp, hu, Args.s5, glu]
  have hh : ∀ z : Fin 512, ret (part A.rf) (part A.rb) (part (extractStridedSlice S16896x512 ![0, 2048] A.p slices_S16896x2560_S16896x512_0_2048)) A.gn
      (ix3 b t z) = A.ret r z := by
    intro z
    rw [ret_at, headsOf_at, hp, hg, Args.ret]
    refine congrArg (fun f => heads4 f z * _ * _) (funext fun j => ?_)
    exact congrArg₂ (· + ·) (hp _ j) (hp _ j)
  rw [rows, outOf_at, hx, m2, sum_halves, Args.out]
  refine congrArg₂ (fun a b => _ + _ * (a + b)) (Finset.sum_congr rfl fun z _ => ?_) (Finset.sum_congr rfl fun z _ => ?_)
  · rw [halves_left, hs]
  · rw [halves_right, hh]

end Cert.Hand.EvenOut.Ctx

end
-- ==== Proof.EvenRef.lean ====
module

public import proofs.«01_k».proof.Defs
public import proofs.«01_k».proof.Proof.MlpRef
public import proofs.«01_k».proof.Proof.EvenLat
public import proofs.«01_k».proof.Proof.EvenCtx

/-!
# The value claim of the map out of the first mixer

The reference's result at an element, and its equality with the kernel's.
-/

@[expose] public section

set_option maxRecDepth 16384

noncomputable section

namespace Cert.Hand.EvenOut

open Idealize.ShloMosaic Idealize.ShloMosaic.TcCoe Idealize.SL.Sem Cert.Hand.Mlp Cert.Hand.Map
open Idealize.ShloMosaic.Tactic
open Cert.Reference5Ideal Cert.Reference5Ideal.Gen Cert.Reference5Ideal.Value
open Idealize.ShloMosaic.StableHlo

/-- The reference's arguments. -/
def refArgs (m : (ℓ : Loc nD τ sig) → Buf (Elt Ideal) ℓ) (c : Dev nD) : Args where
  x := m ((c.tc : Thread nD τ).loc main_arg0)
  mods := m ((c.tc : Thread nD τ).loc main_arg1)
  p := m ((c.tc : Thread nD τ).loc main_arg2)
  yf := m ((c.tc : Thread nD τ).loc main_arg3)
  yb := m ((c.tc : Thread nD τ).loc main_arg4)
  rf := m ((c.tc : Thread nD τ).loc main_arg5)
  rb := m ((c.tc : Thread nD τ).loc main_arg6)
  d := m ((c.tc : Thread nD τ).loc main_arg7)
  wg := m ((c.tc : Thread nD τ).loc main_arg8)
  bg := m ((c.tc : Thread nD τ).loc main_arg9)
  gn := m ((c.tc : Thread nD τ).loc main_arg10)
  w := m ((c.tc : Thread nD τ).loc main_arg11)

/-- The reference's result, as the terms over rows. -/
theorem ref_term (m : (ℓ : Loc nD τ sig) → Buf (Elt Ideal) ℓ) (c : Dev nD) :
    (res_out0 (launchContents m c) : FVec Ideal S16896x1024 .f32)
      = First.both (Ctx.rows (refArgs m c) (First.ctxPart (refArgs m c).x)) (Lat.rows (refArgs m c) (First.latPart (refArgs m c).x)) := rfl

/-- The reference's result at an element. -/
theorem ref_value (m : (ℓ : Loc nD τ sig) → Buf (Elt Ideal) ℓ) (c : Dev nD) (r : Fin 16896) (k : Fin 1024) :
    (res_out0 (launchContents m c) : FVec Ideal S16896x1024 .f32) (ix2 r k) = (refArgs m c).out r (modOf r) k := by
  rw [ref_term, First.both_at]
  by_cases h : r.val < 512
  · rw [dif_pos h, show modOf r = 2 from Fin.ext (by simp [modOf, h])]
    refine Ctx.rows_at _ _ (refArgs m c) r (by show r.val = r.val / 256 * 256 + r.val % 256; omega) k _ fun i => (First.ctxPart_at _ _ _ i).trans ?_
    exact congrArg (fun z => (refArgs m c).x (ix2 z i)) (Fin.ext (by show r.val / 256 * 256 + r.val % 256 = r.val; omega))
  · rw [dif_neg h, show modOf r = ⟨(r.val - 512) / 8192, by omega⟩ from Fin.ext (by simp [modOf, h])]
    refine Lat.rows_at _ _ (refArgs m c) r (by show r.val = 512 + ((r.val - 512) / 8192 * 8192 + (r.val - 512) % 8192); omega) k _
      fun i => (First.latPart_at _ _ _ i).trans ?_
    exact congrArg (fun z => (refArgs m c).x (ix2 z i))
      (Fin.ext (by show 512 + ((r.val - 512) / 8192 * 8192 + (r.val - 512) % 8192) = r.val; omega))

theorem algebraic_out : @Cert.algebraic_Kernel5Ideal_Reference5Ideal Cert.Kernel5Ideal.Gen.facts Cert.Reference5Ideal.Gen.facts := by
  intro m g m' g' _ hm
  refine ⟨fun c => (Cert.Kernel5Ideal.Gen.dats m 0 c).arrAt 13 Cert.Kernel5Ideal.cfg0.N, Cert.Kernel5Ideal.Value.run_blocks m g, ?_⟩
  refine (θ_run _ _ _).mono (fun r h c => ?_) (Cert.Reference5Ideal.Value.run m' g')
  obtain ⟨h0, hk⟩ := h c
  obtain ⟨a0, a1, a2, a3, a4, a5, a6, a7, a8, a9, a10, a11⟩ := hm c
  have e : refArgs m' c = args m c := by unfold refArgs args; congr 1
  refine ⟨h0.trans (ext2 fun r k => ?_), hk⟩
  refine (ref_value m' c r k).trans ?_
  rw [e]
  exact (value_row m c r k).symm

end Cert.Hand.EvenOut

end
-- ==== Proof.InProj.lean ====
module

public import proofs.«01_k».proof.Proof.MapSpec
public import proofs.«01_k».proof.Proof.Gen.Kernel6Ideal.Value
public import Idealize.ShloMosaic.Lib.Pointwise
public import Idealize.ShloMosaic.Lib.Pipeline.ValueKit.Geometry
public import Idealize.ShloMosaic.Lib.Pipeline.ValueKit.Tiles

/-!
# The map into the first layer's mixer

The kernel's result at an element, in its arguments.
-/

@[expose] public section

set_option maxRecDepth 16896

noncomputable section

namespace Cert.Hand.InProj

open Cert.Kernel6Ideal Cert.Kernel6Ideal.Gen Cert.Hand.Mlp Cert.Hand.Map
open Idealize.ShloMosaic Idealize.ShloMosaic.TcCoe Idealize.SL.Sem
open Idealize.ShloMosaic.Tactic

/-- What the map reads of the program's arguments. -/
structure Args where
  /-- the stream -/
  x : FVec Ideal ⟨2, ![16896, 1024]⟩ .f32
  /-- the modulations -/
  mods : FVec Ideal ⟨3, ![8, 6, 1024]⟩ .f32
  /-- the norm's weight -/
  g : FVec Ideal ⟨1, ![1024]⟩ .f32
  /-- the weight -/
  w : FVec Ideal ⟨2, ![1024, 2560]⟩ .f32

/-- Row `r` under the map, with the modulations `q`. -/
def Args.out (A : Args) (r : Fin 16896) (q : Fin 8) (n : Fin 2560) : EReal :=
  ∑ k, modulated (fun j => A.x (ix2 r j)) (fun j => A.g (ix1 j)) (fun j => A.mods (ix3 q 0 j)) (fun j => A.mods (ix3 q 1 j)) k * A.w (ix2 k n)

section Block

variable {F : FTy → Type} [FloatOps F]

theorem inb_w (n : Fin 5) : ∀ a, (![0, 512 * n.val] : Fin 2 → ℕ) a + S1024x512.size a ≤ S1024x2560.size a := by
  intro a; fin_cases a
  · show 0 + 1024 ≤ 1024; omega
  · show 512 * n.val + 512 ≤ 2560; omega

theorem inb_o (n : Fin 5) : ∀ a, (![0, 512 * n.val] : Fin 2 → ℕ) a + S512x512.size a ≤ S512x2560.size a := by
  intro a; fin_cases a
  · show 0 + 512 ≤ 512; omega
  · show 512 * n.val + 512 ≤ 2560; omega

/-- The product with one block of 512 columns, and where it is stored. -/
def piece (h : FVec F S512x1024 .bf16) (w : Vec F S1024x2560 .bf16) (n : Fin 5) : View.Piece (Elt F) S512x2560 .f32 :=
  ⟨Rect.unit (s := S512x2560) ![0, 512 * n.val] S512x512.size (inb_o n),
    k0_pay1 h (View.ld w (Rect.unit (s := S1024x2560) ![0, 512 * n.val] S1024x512.size (inb_w n)))⟩

theorem zero2 : (![0, 0] : Fin 2 → ℕ) = fun _ => 0 := by funext a; fin_cases a <;> rfl
theorem zero3 : (![0, 0, 0] : Fin 3 → ℕ) = fun _ => 0 := by funext a; fin_cases a <;> rfl

/-- What a grid point writes, as its five stores. -/
theorem out_pieces (x : Vec F S512x1024 .f32) (m : Vec F S1x6x1024 .f32) (g : Vec F S1x1024 .f32) (w : Vec F S1024x2560 .bf16) :
    out0_4 x m g w = View.canon [piece (k0_pay4 m x g) w 4, piece (k0_pay4 m x g) w 3, piece (k0_pay4 m x g) w 2,
      piece (k0_pay4 m x g) w 1, piece (k0_pay4 m x g) w 0] := by
  have h : out0_4 x m g w = (fun h : FVec F S512x1024 .bf16 => View.canon [piece h w 4, piece h w 3, piece h w 2, piece h w 1, piece h w 0])
      (k0_pay4 (View.ld m r0_0) (View.ld x r0_1) (View.ld g r0_2)) := rfl
  rw [h, View.ld_unit_zero (S := S512x1024) zero2, View.ld_unit_zero (S := S1x6x1024) zero3, View.ld_unit_zero (S := S1x1024) zero2]

end Block

theorem ld_w (w : Vec Ideal S1024x2560 .bf16) (n : Fin 5) (k : Fin 1024) (y : Fin 512) :
    View.ld w (Rect.unit (s := S1024x2560) ![0, 512 * n.val] S1024x512.size (inb_w n)) (ix2 k y) = w (ix2 k ⟨512 * n.val + y.val, by omega⟩) :=
  View.ld_unit_apply_of w _ _ _ _ _ fun a => by
    match a with
    | 0 => exact (Nat.zero_add _).symm
    | 1 => rfl

theorem pay1_at (h : FVec Ideal S512x1024 .bf16) (w : Vec Ideal S1024x512 .bf16) (i : Fin 512) (k : Fin 512) :
    k0_pay1 h w (ix2 i k) = ∑ z, h (ix2 i z) * w (ix2 z k) := by
  pointwise [k0_pay1]

theorem pay4_at (x : Vec Ideal S512x1024 .f32) (m : Vec Ideal S1x6x1024 .f32) (g : Vec Ideal S1x1024 .f32) (i : Fin 512) (k : Fin 1024) :
    k0_pay4 m x g (ix2 i k)
      = modulated (fun j => x (ix2 i j)) (fun j => g (ix2 0 j)) (fun j => m (ix3 0 0 j)) (fun j => m (ix3 0 1 j)) k := by
  pointwise [k0_pay4]
  rfl

/-- What a grid point writes, at an element. -/
theorem out_at (x : Vec Ideal S512x1024 .f32) (m : Vec Ideal S1x6x1024 .f32) (g : Vec Ideal S1x1024 .f32) (w : Vec Ideal S1024x2560 .bf16)
    (i : Fin 512) (k : Fin 2560) : out0_4 x m g w (ix2 i k) = ∑ z, k0_pay4 m x g (ix2 i z) * w (ix2 z k) := by
  have hp : ∀ n : Fin 5, ∀ y : (piece (k0_pay4 m x g) w n).1.shape.Idx, (piece (k0_pay4 m x g) w n).2 y
      = (fun y : S512x2560.Idx => ∑ z, k0_pay4 m x g (ix2 (y 0) z) * w (ix2 z (y 1))) ((piece (k0_pay4 m x g) w n).1.emb y) := by
    intro n y
    obtain ⟨a, b, rfl⟩ : ∃ (a b : Fin 512), y = ix2 a b := ⟨_, _, eq_ix2 y⟩
    rw [show (piece (k0_pay4 m x g) w n).1.emb (ix2 a b) = ix2 a ⟨512 * n.val + b.val, by omega⟩ from
      emb2 _ (inb_o n) rfl rfl a b _ _ (Nat.zero_add _) rfl]
    show k0_pay1 _ _ (ix2 a b) = _
    rw [pay1_at]
    exact Finset.sum_congr rfl fun z _ => congrArg (k0_pay4 m x g (ix2 a z) * ·) (ld_w w n z b)
  rw [out_pieces]
  refine (View.canon_apply_of_pieces (fun y : S512x2560.Idx => ∑ z, k0_pay4 m x g (ix2 (y 0) z) * w (ix2 z (y 1))) _ ?_ (ix2 i k) ?_).trans rfl
  · intro p hq
    simp only [List.mem_cons, List.not_mem_nil, or_false] at hq
    rcases hq with rfl | rfl | rfl | rfl | rfl <;> exact hp _
  · exact cover0_4 _ _ _ _ _ _

variable (m : (ℓ : Loc nD τ sig) → Buf (Elt Ideal) ℓ) (c : Dev nD)

/-- The kernel's arguments. -/
def args : Args where
  x := m ((c : Thread nD τ).loc main_arg0)
  mods := m ((c : Thread nD τ).loc main_arg1)
  g := m ((c : Thread nD τ).loc main_arg2)
  w := m ((c : Thread nD τ).loc main_arg3)

theorem index_all : ∀ t : Fin cfg0.N,
    (win0_0.index t 0 = t.val ∧ win0_0.index t 1 = 0) ∧ (win0_1.index t 0 = (if t.val = 0 then 2 else (t.val - 1) / 16) ∧ win0_1.index t 1 = 0 ∧ win0_1.index t 2 = 0)
    ∧ (win0_2.index t 0 = 0 ∧ win0_2.index t 1 = 0) ∧ (win0_3.index t 0 = 0 ∧ win0_3.index t 1 = 0)
    ∧ (win0_4.index t 0 = t.val ∧ win0_4.index t 1 = 0) :=
  (by decide +kernel : ∀ t : Fin grid0.N,
    (win0_0.index t 0 = t.val ∧ win0_0.index t 1 = 0) ∧ (win0_1.index t 0 = (if t.val = 0 then 2 else (t.val - 1) / 16) ∧ win0_1.index t 1 = 0 ∧ win0_1.index t 2 = 0)
    ∧ (win0_2.index t 0 = 0 ∧ win0_2.index t 1 = 0) ∧ (win0_3.index t 0 = 0 ∧ win0_3.index t 1 = 0)
    ∧ (win0_4.index t 0 = t.val ∧ win0_4.index t 1 = 0))

theorem N_lt (t : Fin cfg0.N) : t.val < 33 := t.isLt.trans_eq N_0

/-- Row `i` of block `t`. -/
def rowAt (t : Fin cfg0.N) (i : Fin 512) : Fin 16896 := ⟨t.val * 512 + i.val, by have := N_lt t; omega⟩

/-- The modulations of block `t`. -/
def modAt (t : Fin cfg0.N) : Fin 8 := ⟨if t.val = 0 then 2 else (t.val - 1) / 16, by have := N_lt t; split <;> omega⟩

theorem read_0 (A : FVec Ideal S16896x1024 .f32) (t : Fin cfg0.N) (i : Fin 512) (k : Fin 1024) :
    ((cfg0.win 0).blk t).view.read (Elt Ideal) A (ix2 i k) = A (ix2 (rowAt t i) k) :=
  congrArg A (emb2 _ _ (congrArg (· * 512) (index_all t).1.1) (congrArg (· * 1024) (index_all t).1.2) i k _ _ rfl (by omega))

theorem read_1 (A : FVec Ideal S8x6x1024 .f32) (t : Fin cfg0.N) (a : Fin 6) (k : Fin 1024) :
    ((cfg0.win 1).blk t).view.read (Elt Ideal) A (ix3 0 a k) = A (ix3 (modAt t) a k) :=
  congrArg A (emb3 _ _ (congrArg (· * 1) (index_all t).2.1.1) (congrArg (· * 6) (index_all t).2.1.2.1) (congrArg (· * 1024) (index_all t).2.1.2.2)
    0 a k _ _ _ (by simp [modAt]) (by omega) (by omega))

theorem read_2 (A : FVec Ideal S1x1024 .f32) (t : Fin cfg0.N) (k : Fin 1024) :
    ((cfg0.win 2).blk t).view.read (Elt Ideal) A (ix2 0 k) = A (ix2 0 k) :=
  congrArg A (emb2 _ _ (congrArg (· * 1) (index_all t).2.2.1.1) (congrArg (· * 1024) (index_all t).2.2.1.2) 0 k _ _ rfl (by omega))

theorem read_3 (A : FVec Ideal S1024x2560 .bf16) (t : Fin cfg0.N) (i : Fin 1024) (k : Fin 2560) :
    ((cfg0.win 3).blk t).view.read (Elt Ideal) A (ix2 i k) = A (ix2 i k) :=
  congrArg A (emb2 _ _ (congrArg (· * 1024) (index_all t).2.2.2.1.1) (congrArg (· * 2560) (index_all t).2.2.2.1.2) i k _ _ (by omega) (by omega))

theorem read_4 (A : FVec Ideal S16896x2560 .f32) (t : Fin cfg0.N) (i : Fin 512) (k : Fin 2560) :
    ((cfg0.win 4).blk t).view.read (Elt Ideal) A (ix2 i k) = A (ix2 (rowAt t i) k) :=
  congrArg A (emb2 _ _ (congrArg (· * 512) (index_all t).2.2.2.2.1) (congrArg (· * 2560) (index_all t).2.2.2.2.2) i k _ _ rfl (by omega))

theorem V_v0 : V m c main_v0 = (args m c).w := by
  simp only [V, hostOps0]; after_results_simp; rfl

theorem V_v1 : V m c main_v1 = shapeCast S1x1024 (args m c).g shapeCasts_S1024_S1x1024 := by
  simp only [V, hostOps0]; after_results_simp; rfl

theorem row_cast (g : FVec Ideal S1024 .f32) (k : Fin 1024) :
    (shapeCast S1x1024 g shapeCasts_S1024_S1x1024 : FVec Ideal S1x1024 .f32) (ix2 0 k) = g (ix1 k) := by
  pointwise

theorem blk_x (t : Fin cfg0.N) (i : Fin 512) (k : Fin 1024) : (iblk m c 0 t : Vec Ideal S512x1024 .f32) (ix2 i k) = (args m c).x (ix2 (rowAt t i) k) :=
  (read_0 _ t i k).trans (congrFun (V_main_arg0 m c) _)

theorem blk_m (t : Fin cfg0.N) (a : Fin 6) (k : Fin 1024) : (iblk m c 1 t : Vec Ideal S1x6x1024 .f32) (ix3 0 a k) = (args m c).mods (ix3 (modAt t) a k) :=
  (read_1 _ t a k).trans (congrFun (V_main_arg1 m c) _)

theorem blk_g (t : Fin cfg0.N) (k : Fin 1024) : (iblk m c 2 t : Vec Ideal S1x1024 .f32) (ix2 0 k) = (args m c).g (ix1 k) :=
  (read_2 _ t k).trans ((congrFun (V_v1 m c) _).trans (row_cast _ k))

theorem blk_w (t : Fin cfg0.N) (i : Fin 1024) (k : Fin 2560) : (iblk m c 3 t : Vec Ideal S1024x2560 .bf16) (ix2 i k) = (args m c).w (ix2 i k) :=
  (read_3 _ t i k).trans (congrFun (V_v0 m c) _)

/-- The kernel's result at an element. -/
theorem value (t : Fin cfg0.N) (i : Fin 512) (k : Fin 2560) :
    ((dats m 0 c).arrAt 4 cfg0.N : FVec Ideal S16896x2560 .f32) (ix2 (rowAt t i) k) = (args m c).out (rowAt t i) (modAt t) k := by
  rw [← read_4 ((dats m 0 c).arrAt 4 cfg0.N) t i k, Cert.Kernel6Ideal.Value.blocks4 m c _ (flush0_4 _), Cert.Kernel6Ideal.Value.flushed4]
  refine (out_at (iblk m c 0 t) (iblk m c 1 t) (iblk m c 2 t) (iblk m c 3 t) i k).trans ?_
  simp only [pay4_at, blk_x, blk_m, blk_g, blk_w, Args.out]

/-- The same, by the row. -/
theorem value_row (r : Fin 16896) (k : Fin 2560) :
    ((dats m 0 c).arrAt 4 cfg0.N : FVec Ideal S16896x2560 .f32) (ix2 r k) = (args m c).out r (modOf r) k := by
  have h := value m c ⟨r.val / 512, by rw [show cfg0.N = 33 from N_0]; omega⟩ ⟨r.val % 512, by omega⟩ k
  rw [show rowAt ⟨r.val / 512, by rw [show cfg0.N = 33 from N_0]; omega⟩ ⟨r.val % 512, by omega⟩ = r from
      Fin.ext (by simp only [rowAt]; omega),
    show modAt ⟨r.val / 512, by rw [show cfg0.N = 33 from N_0]; omega⟩ = modOf r from
      Fin.ext (by simp only [modAt, modOf]; split <;> split <;> omega)] at h
  exact h

end Cert.Hand.InProj

end
-- ==== Proof.InRef.lean ====
module

public import proofs.«01_k».proof.Defs
public import proofs.«01_k».proof.Proof.RefRows
public import proofs.«01_k».proof.Proof.MlpRef
public import proofs.«01_k».proof.Proof.InProj
public import proofs.«01_k».proof.Proof.Gen.Reference6Ideal.Run

/-!
# The value claim of the map into the mixer

The reference's result at an element, and its equality with the kernel's.
-/

@[expose] public section

set_option maxRecDepth 16384

noncomputable section

namespace Cert.Hand.InProj

open Idealize.ShloMosaic Idealize.ShloMosaic.TcCoe Idealize.SL.Sem Cert.Hand.Mlp Cert.Hand.Map
open Idealize.ShloMosaic.Tactic
open Cert.Reference6Ideal Cert.Reference6Ideal.Gen Cert.Reference6Ideal.Value

/-- The reference's arguments. -/
def refArgs (m : (ℓ : Loc nD τ sig) → Buf (Elt Ideal) ℓ) (c : Dev nD) : Args where
  x := m ((c.tc : Thread nD τ).loc main_arg0)
  mods := m ((c.tc : Thread nD τ).loc main_arg1)
  g := m ((c.tc : Thread nD τ).loc main_arg2)
  w := m ((c.tc : Thread nD τ).loc main_arg3)

/-- The latent rows of the reference. -/
def latIn (x : FVec Ideal S2x8192x1024 .f32) (mods : FVec Ideal S8x6x1024 .f32) (g : FVec Ideal S1024 .f32) (w : FVec Ideal S1024x2560 .f32) :
    FVec Ideal S2x8192x2560 .f32 :=
  Host.dotGeneral dot_S2x8192x1024_S1024x2560_S2x8192x2560_2_0_01_1_n_n none
    (latEnters (latNorm x g) (latMod mods 0 slices_S8x6x1024_S2x1x1024_0_0_0) (latMod mods 1 slices_S8x6x1024_S2x1x1024_0_1_0)) w

/-- The context rows of the reference. -/
def ctxIn (x : FVec Ideal S2x256x1024 .f32) (mods : FVec Ideal S8x6x1024 .f32) (g : FVec Ideal S1024 .f32) (w : FVec Ideal S1024x2560 .f32) :
    FVec Ideal S2x256x2560 .f32 :=
  Host.dotGeneral dot_S2x256x1024_S1024x2560_S2x256x2560_2_0_01_1_n_n none
    (ctxEnters (ctxNorm x g) (ctxMod mods 0 slices_S8x6x1024_S1x1x1024_2_0_0) (ctxMod mods 1 slices_S8x6x1024_S1x1x1024_2_1_0)) w

/-- Context rows followed by latent rows. -/
def both (y : FVec Ideal S2x256x2560 .f32) (z : FVec Ideal S2x8192x2560 .f32) : FVec Ideal S16896x2560 .f32 :=
  concatenate S16896x2560 0 [⟨S512x2560, shapeCast S512x2560 y shapeCasts_S2x256x2560_S512x2560⟩,
    ⟨S16384x2560, shapeCast S16384x2560 z shapeCasts_S2x8192x2560_S16384x2560⟩] concatenates_S512x2560_S16384x2560_S16896x2560_d0

/-- The reference's result, as the terms over rows. -/
theorem ref_term (m : (ℓ : Loc nD τ sig) → Buf (Elt Ideal) ℓ) (c : Dev nD) : res_out0 m c = both
    (ctxIn (First.ctxPart (refArgs m c).x) (refArgs m c).mods (refArgs m c).g (refArgs m c).w)
    (latIn (First.latPart (refArgs m c).x) (refArgs m c).mods (refArgs m c).g (refArgs m c).w) := rfl

theorem both_at (y : FVec Ideal S2x256x2560 .f32) (z : FVec Ideal S2x8192x2560 .f32) (r : Fin 16896) (k : Fin 2560) :
    both y z (ix2 r k) = if h : r.val < 512 then y (ix3 ⟨r.val / 256, by omega⟩ ⟨r.val % 256, by omega⟩ k)
      else z (ix3 ⟨(r.val - 512) / 8192, by omega⟩ ⟨(r.val - 512) % 8192, by omega⟩ k) := by
  pointwise [both]

theorem latDot_at (h : FVec Ideal S2x8192x1024 .f32) (w : FVec Ideal S1024x2560 .f32) (b : Fin 2) (t : Fin 8192) (n : Fin 2560) :
    (Host.dotGeneral dot_S2x8192x1024_S1024x2560_S2x8192x2560_2_0_01_1_n_n none h w : FVec Ideal S2x8192x2560 .f32) (ix3 b t n)
      = ∑ z, h (ix3 b t z) * w (ix2 z n) := by
  pointwise

theorem ctxDot_at (h : FVec Ideal S2x256x1024 .f32) (w : FVec Ideal S1024x2560 .f32) (b : Fin 2) (t : Fin 256) (n : Fin 2560) :
    (Host.dotGeneral dot_S2x256x1024_S1024x2560_S2x256x2560_2_0_01_1_n_n none h w : FVec Ideal S2x256x2560 .f32) (ix3 b t n)
      = ∑ z, h (ix3 b t z) * w (ix2 z n) := by
  pointwise

/-- A latent row of the reference. -/
theorem latIn_at (A : Args) (r : Fin 16896) (b : Fin 2) (t : Fin 8192) (n : Fin 2560)
    (x : FVec Ideal S2x8192x1024 .f32) (hx : ∀ j, x (ix3 b t j) = A.x (ix2 r j)) :
    latIn x A.mods A.g A.w (ix3 b t n) = A.out r ⟨b.val, by omega⟩ n := by
  have m0 : ∀ j, latMod A.mods 0 slices_S8x6x1024_S2x1x1024_0_0_0 (ix3 b 0 j) = A.mods (ix3 ⟨b.val, by omega⟩ 0 j) := fun j => latMod_at b j A.mods 0 _
  have m1 : ∀ j, latMod A.mods 1 slices_S8x6x1024_S2x1x1024_0_1_0 (ix3 b 0 j) = A.mods (ix3 ⟨b.val, by omega⟩ 1 j) := fun j => latMod_at b j A.mods 1 _
  rw [latIn, latDot_at]
  simp only [latEnters_at, latNorm_at, hx, m0, m1, Args.out, modulated]

/-- A context row of the reference. -/
theorem ctxIn_at (A : Args) (r : Fin 16896) (b : Fin 2) (t : Fin 256) (n : Fin 2560)
    (x : FVec Ideal S2x256x1024 .f32) (hx : ∀ j, x (ix3 b t j) = A.x (ix2 r j)) :
    ctxIn x A.mods A.g A.w (ix3 b t n) = A.out r 2 n := by
  have m0 : ∀ j, ctxMod A.mods 0 slices_S8x6x1024_S1x1x1024_2_0_0 (ix1 j) = A.mods (ix3 2 0 j) := fun j => ctxMod_at j A.mods 0 _
  have m1 : ∀ j, ctxMod A.mods 1 slices_S8x6x1024_S1x1x1024_2_1_0 (ix1 j) = A.mods (ix3 2 1 j) := fun j => ctxMod_at j A.mods 1 _
  rw [ctxIn, ctxDot_at]
  simp only [ctxEnters_at, ctxNorm_at, hx, m0, m1, Args.out, modulated]

/-- The reference's result at an element. -/
theorem ref_value (m : (ℓ : Loc nD τ sig) → Buf (Elt Ideal) ℓ) (c : Dev nD) (r : Fin 16896) (k : Fin 2560) :
    (res_out0 m c : FVec Ideal S16896x2560 .f32) (ix2 r k) = (refArgs m c).out r (modOf r) k := by
  rw [ref_term, both_at]
  by_cases h : r.val < 512
  · rw [dif_pos h, show modOf r = 2 from Fin.ext (by simp [modOf, h])]
    refine ctxIn_at (refArgs m c) r _ _ k _ fun i => (First.ctxPart_at _ _ _ i).trans ?_
    exact congrArg (fun z => (refArgs m c).x (ix2 z i)) (Fin.ext (by show r.val / 256 * 256 + r.val % 256 = r.val; omega))
  · rw [dif_neg h, show modOf r = ⟨(r.val - 512) / 8192, by omega⟩ from Fin.ext (by simp [modOf, h])]
    refine latIn_at (refArgs m c) r _ _ k _ fun i => (First.latPart_at _ _ _ i).trans ?_
    exact congrArg (fun z => (refArgs m c).x (ix2 z i))
      (Fin.ext (by show 512 + ((r.val - 512) / 8192 * 8192 + (r.val - 512) % 8192) = r.val; omega))

theorem algebraic_in : @Cert.algebraic_Kernel6Ideal_Reference6Ideal Cert.Kernel6Ideal.Gen.facts Cert.Reference6Ideal.Gen.facts := by
  intro m g m' g' _ hm
  refine ⟨fun c => (Cert.Kernel6Ideal.Gen.dats m 0 c).arrAt 4 Cert.Kernel6Ideal.cfg0.N, Cert.Kernel6Ideal.Value.run_blocks m g, ?_⟩
  refine (θ_run _ _ _).mono (fun r h c => ?_) (Cert.Reference6Ideal.Value.run m' g')
  obtain ⟨h0, hk⟩ := h c
  obtain ⟨a0, a1, a2, a3⟩ := hm c
  have e : refArgs m' c = args m c := by unfold refArgs args; congr 1
  refine ⟨h0.trans (ext2 fun r k => ?_), hk⟩
  refine (ref_value m' c r k).trans ?_
  rw [e]
  exact (value_row m c r k).symm

end Cert.Hand.InProj

end
-- ==== Proof.lean ====
/- The proof of the certificate's claim: frames, idealizations and values of the mLSTM scan, the two MLPs, the mixers' maps and the mLSTM mixer's inputs. -/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame.Runs
public import proofs.«01_k».proof.Proof.Gen.Kernel7Ideal.Frame.Runs
public import proofs.«01_k».proof.Proof.Gen.Reference7Ideal.Run
public import proofs.«01_k».proof.Proof.MlFrameBits
public import proofs.«01_k».proof.Proof.MlFrame
public import proofs.«01_k».proof.Proof.MlIn
public import proofs.«01_k».proof.Proof.Algebraic
public import proofs.«01_k».proof.Proof.MlpRef
public import proofs.«01_k».proof.Proof.MlOutRef
public import proofs.«01_k».proof.Proof.EvenRef
public import proofs.«01_k».proof.Proof.InRef
public import Idealize.ShloMosaic.Lib.Quiescent

@[expose] public section

noncomputable section

namespace Cert.Proof

open Idealize.ShloMosaic Idealize.SL.Sem

/-- The frames, the idealizations' meaning, and the equality of the results. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    fun m ρ _ => Cert.Kernel.Gen.frame m ρ, fun m ρ _ => Cert.KernelIdeal.Gen.frame m ρ, fun m ρ _ =>
      (θ_run _ _ _).mono (fun r h => ⟨fun c => (h c).2.2, sem_eq_zero_of_no_sems (by decide) r.2⟩) (Cert.ReferenceIdeal.Value.run m ρ),
    fun m ρ _ => Cert.Kernel2.Gen.frame m ρ, fun m ρ _ => Cert.Kernel2Ideal.Gen.frame m ρ, fun m ρ _ =>
      (θ_run _ _ _).mono (fun r h => ⟨fun c => (h c).2, sem_eq_zero_of_no_sems (by decide) r.2⟩) (Cert.Reference2Ideal.Value.run m ρ),
    fun m ρ _ => Cert.Kernel3.Gen.frame m ρ, fun m ρ _ => Cert.Kernel3Ideal.Gen.frame m ρ, fun m ρ _ =>
      (θ_run _ _ _).mono (fun r h => ⟨fun c => (h c).2, sem_eq_zero_of_no_sems (by decide) r.2⟩) (Cert.Reference3Ideal.Value.run m ρ),
    fun m ρ _ => Cert.Kernel4.Gen.frame m ρ, fun m ρ _ => Cert.Kernel4Ideal.Gen.frame m ρ, fun m ρ _ =>
      (θ_run _ _ _).mono (fun r h => ⟨fun c => (h c).2, sem_eq_zero_of_no_sems (by decide) r.2⟩) (Cert.Reference4Ideal.Value.run m ρ),
    fun m ρ _ => Cert.Kernel5.Gen.frame m ρ, fun m ρ _ => Cert.Kernel5Ideal.Gen.frame m ρ, fun m ρ _ =>
      (θ_run _ _ _).mono (fun r h => ⟨fun c => (h c).2, sem_eq_zero_of_no_sems (by decide) r.2⟩) (Cert.Reference5Ideal.Value.run m ρ),
    fun m ρ _ => Cert.Kernel6.Gen.frame m ρ, fun m ρ _ => Cert.Kernel6Ideal.Gen.frame m ρ, fun m ρ _ =>
      (θ_run _ _ _).mono (fun r h => ⟨fun c => (h c).2, sem_eq_zero_of_no_sems (by decide) r.2⟩) (Cert.Reference6Ideal.Value.run m ρ),
    fun m ρ _ => Cert.Kernel7.Run.frame m ρ, fun m ρ _ => Cert.Kernel7Ideal.Run.frame m ρ, fun m ρ _ =>
      (θ_run _ _ _).mono (fun r h => ⟨fun c => (h c).2.2.2.2.2.2.2, sem_eq_zero_of_no_sems (by decide) r.2⟩) (Cert.Reference7Ideal.Value.run m ρ),
    trivial, Cert.Hand.algebraic, trivial, Cert.Hand.Mlp.algebraic_final, trivial, Cert.Hand.Mlp.algebraic_first,
    trivial, Cert.Hand.MlOut.algebraic_out, trivial, Cert.Hand.EvenOut.algebraic_out, trivial, Cert.Hand.InProj.algebraic_in,
    trivial, Cert.Hand.MlIn.algebraic_ml⟩

end Cert.Proof

end
